-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Sibling (m : (ℓ : Loc Cert.Sibling.nD Cert.Sibling.τ Cert.Sibling.sig) → Buf (Elt Bits) ℓ) : Prop :=
  True

def Pre_SiblingIdeal (m : (ℓ : Loc Cert.SiblingIdeal.nD Cert.SiblingIdeal.τ Cert.SiblingIdeal.sig) → Buf (Elt Ideal) ℓ) : Prop :=
  True

def Pre_SiblingRefIdeal (m : (ℓ : Loc Cert.SiblingRefIdeal.nD Cert.SiblingRefIdeal.τ Cert.SiblingRefIdeal.sig) → Buf (Elt Ideal) ℓ) : Prop :=
  True

def Pre_SiblingRef (m : (ℓ : Loc Cert.SiblingRef.nD Cert.SiblingRef.τ Cert.SiblingRef.sig) → Buf (Elt Bits) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_ChipsRef (m : (ℓ : Loc Cert.ChipsRef.nD Cert.ChipsRef.τ Cert.ChipsRef.sig) → Buf (Elt Bits) ℓ) : Prop :=
  True

def Pre_SmallGather (m : (ℓ : Loc Cert.SmallGather.nD Cert.SmallGather.τ Cert.SmallGather.sig) → Buf (Elt Bits) ℓ) : Prop :=
  True

def Pre_SmallGatherIdeal (m : (ℓ : Loc Cert.SmallGatherIdeal.nD Cert.SmallGatherIdeal.τ Cert.SmallGatherIdeal.sig) → Buf (Elt Ideal) ℓ) : Prop :=
  True

def Pre_SmallGatherRefIdeal (m : (ℓ : Loc Cert.SmallGatherRefIdeal.nD Cert.SmallGatherRefIdeal.τ Cert.SmallGatherRefIdeal.sig) → Buf (Elt Ideal) ℓ) : Prop :=
  True

def Pre_SmallGatherRef (m : (ℓ : Loc Cert.SmallGatherRef.nD Cert.SmallGatherRef.τ Cert.SmallGatherRef.sig) → Buf (Elt Bits) ℓ) : Prop :=
  True

def Pre_TapsGather (m : (ℓ : Loc Cert.TapsGather.nD Cert.TapsGather.τ Cert.TapsGather.sig) → Buf (Elt Bits) ℓ) : Prop :=
  True

def Pre_TapsGatherIdeal (m : (ℓ : Loc Cert.TapsGatherIdeal.nD Cert.TapsGatherIdeal.τ Cert.TapsGatherIdeal.sig) → Buf (Elt Ideal) ℓ) : Prop :=
  True

def Pre_TapsGatherRefIdeal (m : (ℓ : Loc Cert.TapsGatherRefIdeal.nD Cert.TapsGatherRefIdeal.τ Cert.TapsGatherRefIdeal.sig) → Buf (Elt Ideal) ℓ) : Prop :=
  True

def Pre_TapsGatherRef (m : (ℓ : Loc Cert.TapsGatherRef.nD Cert.TapsGatherRef.τ Cert.TapsGatherRef.sig) → Buf (Elt Bits) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_ChipSumRef (m : (ℓ : Loc Cert.ChipSumRef.nD Cert.ChipSumRef.τ Cert.ChipSumRef.sig) → Buf (Elt Bits) ℓ) : Prop :=
  True

def Pre_AdamBig (m : (ℓ : Loc Cert.AdamBig.nD Cert.AdamBig.τ Cert.AdamBig.sig) → Buf (Elt Bits) ℓ) : Prop :=
  True

def Pre_AdamBigIdeal (m : (ℓ : Loc Cert.AdamBigIdeal.nD Cert.AdamBigIdeal.τ Cert.AdamBigIdeal.sig) → Buf (Elt Ideal) ℓ) : Prop :=
  True

def Pre_AdamBigRefIdeal (m : (ℓ : Loc Cert.AdamBigRefIdeal.nD Cert.AdamBigRefIdeal.τ Cert.AdamBigRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_PreBwd (m : (ℓ : Loc Cert.PreBwd.nD Cert.PreBwd.τ Cert.PreBwd.sig) → Buf (Elt Bits) ℓ) : Prop :=
  True

def Pre_PreBwdIdeal (m : (ℓ : Loc Cert.PreBwdIdeal.nD Cert.PreBwdIdeal.τ Cert.PreBwdIdeal.sig) → Buf (Elt Ideal) ℓ) : Prop :=
  True

def Pre_PreBwdRefIdeal (m : (ℓ : Loc Cert.PreBwdRefIdeal.nD Cert.PreBwdRefIdeal.τ Cert.PreBwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PostPre (m : (ℓ : Loc Cert.PostPre.nD Cert.PostPre.τ Cert.PostPre.sig) → Buf (Elt Bits) ℓ) : Prop :=
  True

def Pre_PostPreIdeal (m : (ℓ : Loc Cert.PostPreIdeal.nD Cert.PostPreIdeal.τ Cert.PostPreIdeal.sig) → Buf (Elt Ideal) ℓ) : Prop :=
  True

def Pre_PostPreRefIdeal (m : (ℓ : Loc Cert.PostPreRefIdeal.nD Cert.PostPreRefIdeal.τ Cert.PostPreRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_GateArgs (m : (ℓ : Loc Cert.GateArgs.nD Cert.GateArgs.τ Cert.GateArgs.sig) → Buf (Elt Bits) ℓ) : Prop :=
  True

def Pre_GateArgsIdeal (m : (ℓ : Loc Cert.GateArgsIdeal.nD Cert.GateArgsIdeal.τ Cert.GateArgsIdeal.sig) → Buf (Elt Ideal) ℓ) : Prop :=
  True

def Pre_GateArgsRefIdeal (m : (ℓ : Loc Cert.GateArgsRefIdeal.nD Cert.GateArgsRefIdeal.τ Cert.GateArgsRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dh1Gates (m : (ℓ : Loc Cert.Dh1Gates.nD Cert.Dh1Gates.τ Cert.Dh1Gates.sig) → Buf (Elt Bits) ℓ) : Prop :=
  True

def Pre_Dh1GatesIdeal (m : (ℓ : Loc Cert.Dh1GatesIdeal.nD Cert.Dh1GatesIdeal.τ Cert.Dh1GatesIdeal.sig) → Buf (Elt Ideal) ℓ) : Prop :=
  True

def Pre_Dh1GatesRefIdeal (m : (ℓ : Loc Cert.Dh1GatesRefIdeal.nD Cert.Dh1GatesRefIdeal.τ Cert.Dh1GatesRefIdeal.sig) → Buf (Elt Ideal) ℓ) : Prop :=
  True

def Pre_PreMlpBwd (m : (ℓ : Loc Cert.PreMlpBwd.nD Cert.PreMlpBwd.τ Cert.PreMlpBwd.sig) → Buf (Elt Bits) ℓ) : Prop :=
  True

def Pre_PreMlpBwdIdeal (m : (ℓ : Loc Cert.PreMlpBwdIdeal.nD Cert.PreMlpBwdIdeal.τ Cert.PreMlpBwdIdeal.sig) → Buf (Elt Ideal) ℓ) : Prop :=
  True

def Pre_PreMlpBwdRefIdeal (m : (ℓ : Loc Cert.PreMlpBwdRefIdeal.nD Cert.PreMlpBwdRefIdeal.τ Cert.PreMlpBwdRefIdeal.sig) → Buf (Elt Ideal) ℓ) : Prop :=
  True

def Pre_DwLora (m : (ℓ : Loc Cert.DwLora.nD Cert.DwLora.τ Cert.DwLora.sig) → Buf (Elt Bits) ℓ) : Prop :=
  True

def Pre_DwLoraIdeal (m : (ℓ : Loc Cert.DwLoraIdeal.nD Cert.DwLoraIdeal.τ Cert.DwLoraIdeal.sig) → Buf (Elt Ideal) ℓ) : Prop :=
  True

def Pre_DwLoraRefIdeal (m : (ℓ : Loc Cert.DwLoraRefIdeal.nD Cert.DwLoraRefIdeal.τ Cert.DwLoraRefIdeal.sig) → Buf (Elt Ideal) ℓ) : Prop :=
  True

def Pre_DLora (m : (ℓ : Loc Cert.DLora.nD Cert.DLora.τ Cert.DLora.sig) → Buf (Elt Bits) ℓ) : Prop :=
  True

def Pre_DLoraIdeal (m : (ℓ : Loc Cert.DLoraIdeal.nD Cert.DLoraIdeal.τ Cert.DLoraIdeal.sig) → Buf (Elt Ideal) ℓ) : Prop :=
  True

def Pre_DLoraRefIdeal (m : (ℓ : Loc Cert.DLoraRefIdeal.nD Cert.DLoraRefIdeal.τ Cert.DLoraRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_Dh1Branches (m : (ℓ : Loc Cert.Dh1Branches.nD Cert.Dh1Branches.τ Cert.Dh1Branches.sig) → Buf (Elt Bits) ℓ) : Prop :=
  True

def Pre_Dh1BranchesIdeal (m : (ℓ : Loc Cert.Dh1BranchesIdeal.nD Cert.Dh1BranchesIdeal.τ Cert.Dh1BranchesIdeal.sig) → Buf (Elt Ideal) ℓ) : Prop :=
  True

def Pre_Dh1BranchesRefIdeal (m : (ℓ : Loc Cert.Dh1BranchesRefIdeal.nD Cert.Dh1BranchesRefIdeal.τ Cert.Dh1BranchesRefIdeal.sig) → Buf (Elt Ideal) ℓ) : Prop :=
  True

def Pre_ProjBwdAct (m : (ℓ : Loc Cert.ProjBwdAct.nD Cert.ProjBwdAct.τ Cert.ProjBwdAct.sig) → Buf (Elt Bits) ℓ) : Prop :=
  True

def Pre_ProjBwdActIdeal (m : (ℓ : Loc Cert.ProjBwdActIdeal.nD Cert.ProjBwdActIdeal.τ Cert.ProjBwdActIdeal.sig) → Buf (Elt Ideal) ℓ) : Prop :=
  True

def Pre_ProjBwdActRefIdeal (m : (ℓ : Loc Cert.ProjBwdActRefIdeal.nD Cert.ProjBwdActRefIdeal.τ Cert.ProjBwdActRefIdeal.sig) → Buf (Elt Ideal) ℓ) : Prop :=
  True

def Pre_ProjBwdW (m : (ℓ : Loc Cert.ProjBwdW.nD Cert.ProjBwdW.τ Cert.ProjBwdW.sig) → Buf (Elt Bits) ℓ) : Prop :=
  True

def Pre_ProjBwdWIdeal (m : (ℓ : Loc Cert.ProjBwdWIdeal.nD Cert.ProjBwdWIdeal.τ Cert.ProjBwdWIdeal.sig) → Buf (Elt Ideal) ℓ) : Prop :=
  True

def Pre_ProjBwdWRefIdeal (m : (ℓ : Loc Cert.ProjBwdWRefIdeal.nD Cert.ProjBwdWRefIdeal.τ Cert.ProjBwdWRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_ConvBwdNorm (m : (ℓ : Loc Cert.ConvBwdNorm.nD Cert.ConvBwdNorm.τ Cert.ConvBwdNorm.sig) → Buf (Elt Bits) ℓ) : Prop :=
  True

def Pre_ConvBwdNormIdeal (m : (ℓ : Loc Cert.ConvBwdNormIdeal.nD Cert.ConvBwdNormIdeal.τ Cert.ConvBwdNormIdeal.sig) → Buf (Elt Ideal) ℓ) : Prop :=
  True

def Pre_ConvBwdNormRefIdeal (m : (ℓ : Loc Cert.ConvBwdNormRefIdeal.nD Cert.ConvBwdNormRefIdeal.τ Cert.ConvBwdNormRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Sibling [hSibling : Cert.Sibling.Facts] : Prop :=
  ∀ (m : (ℓ : Loc Cert.Sibling.nD Cert.Sibling.τ Cert.Sibling.sig) → Buf (Elt Bits) ℓ) (g : Dev Cert.Sibling.nD → PrngReg), Pre_Sibling m →
    θ_run (Cert.Sibling.defs (F := Bits)) (onTc (τ := Cert.Sibling.τ) (Cert.Sibling.main (F := Bits))) ⟨m, fun _ => 0, g⟩ (fun r => (∀ c : Dev Cert.Sibling.nD,
      r.2.mem ((c.tc : Thread Cert.Sibling.nD Cert.Sibling.τ).loc Cert.Sibling.main_arg0) = m ((c.tc : Thread Cert.Sibling.nD Cert.Sibling.τ).loc Cert.Sibling.main_arg0))
      ∧ r.2.sem = fun _ => 0)

def quiescent_SiblingIdeal [hSiblingIdeal : Cert.SiblingIdeal.Facts] : Prop :=
  ∀ (m : (ℓ : Loc Cert.SiblingIdeal.nD Cert.SiblingIdeal.τ Cert.SiblingIdeal.sig) → Buf (Elt Ideal) ℓ) (g : Dev Cert.SiblingIdeal.nD → PrngReg), Pre_SiblingIdeal m →
    θ_run (Cert.SiblingIdeal.defs (F := Ideal)) (onTc (τ := Cert.SiblingIdeal.τ) (Cert.SiblingIdeal.main (F := Ideal))) ⟨m, fun _ => 0, g⟩ (fun r => (∀ c : Dev Cert.SiblingIdeal.nD,
      r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ r.2.sem = fun _ => 0)

def quiescent_SiblingRefIdeal [hSiblingRefIdeal : Cert.SiblingRefIdeal.Facts] : Prop :=
  ∀ (m : (ℓ : Loc Cert.SiblingRefIdeal.nD Cert.SiblingRefIdeal.τ Cert.SiblingRefIdeal.sig) → Buf (Elt Ideal) ℓ) (g : Dev Cert.SiblingRefIdeal.nD → PrngReg), Pre_SiblingRefIdeal m →
    θ_run (Cert.SiblingRefIdeal.defs (F := Ideal)) (onTc (τ := Cert.SiblingRefIdeal.τ) (Cert.SiblingRefIdeal.main (F := Ideal))) ⟨m, fun _ => 0, g⟩ (fun r => (∀ c : Dev Cert.SiblingRefIdeal.nD,
      r.2.mem ((c.tc : Thread Cert.SiblingRefIdeal.nD Cert.SiblingRefIdeal.τ).loc Cert.SiblingRefIdeal.main_arg0) = m ((c.tc : Thread Cert.SiblingRefIdeal.nD Cert.SiblingRefIdeal.τ).loc Cert.SiblingRefIdeal.main_arg0))
      ∧ r.2.sem = fun _ => 0)

def quiescent_SiblingRef [hSiblingRef : Cert.SiblingRef.Facts] : Prop :=
  ∀ (m : (ℓ : Loc Cert.SiblingRef.nD Cert.SiblingRef.τ Cert.SiblingRef.sig) → Buf (Elt Bits) ℓ) (g : Dev Cert.SiblingRef.nD → PrngReg), Pre_SiblingRef m →
    θ_run (Cert.SiblingRef.defs (F := Bits)) (onTc (τ := Cert.SiblingRef.τ) (Cert.SiblingRef.main (F := Bits))) ⟨m, fun _ => 0, g⟩ (fun r => (∀ c : Dev Cert.SiblingRef.nD,
      r.2.mem ((c.tc : Thread Cert.SiblingRef.nD Cert.SiblingRef.τ).loc Cert.SiblingRef.main_arg0) = m ((c.tc : Thread Cert.SiblingRef.nD Cert.SiblingRef.τ).loc Cert.SiblingRef.main_arg0))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0))
      ∧ r.2.sem = fun _ => 0)

def quiescent_ChipsRef [hChipsRef : Cert.ChipsRef.Facts] : Prop :=
  ∀ (m : (ℓ : Loc Cert.ChipsRef.nD Cert.ChipsRef.τ Cert.ChipsRef.sig) → Buf (Elt Bits) ℓ) (g : Dev Cert.ChipsRef.nD → PrngReg), Pre_ChipsRef m →
    θ_run (Cert.ChipsRef.defs (F := Bits)) (onTc (τ := Cert.ChipsRef.τ) (Cert.ChipsRef.main (F := Bits))) ⟨m, fun _ => 0, g⟩ (fun r => (∀ c : Dev Cert.ChipsRef.nD,
      r.2.mem ((c.tc : Thread Cert.ChipsRef.nD Cert.ChipsRef.τ).loc Cert.ChipsRef.main_arg0) = m ((c.tc : Thread Cert.ChipsRef.nD Cert.ChipsRef.τ).loc Cert.ChipsRef.main_arg0))
      ∧ r.2.sem = fun _ => 0)

def quiescent_SmallGather [hSmallGather : Cert.SmallGather.Facts] : Prop :=
  ∀ (m : (ℓ : Loc Cert.SmallGather.nD Cert.SmallGather.τ Cert.SmallGather.sig) → Buf (Elt Bits) ℓ) (g : Dev Cert.SmallGather.nD → PrngReg), Pre_SmallGather m →
    θ_run (Cert.SmallGather.defs (F := Bits)) (onTc (τ := Cert.SmallGather.τ) (Cert.SmallGather.main (F := Bits))) ⟨m, fun _ => 0, g⟩ (fun r => (∀ c : Dev Cert.SmallGather.nD,
      r.2.mem ((c.tc : Thread Cert.SmallGather.nD Cert.SmallGather.τ).loc Cert.SmallGather.main_arg0) = m ((c.tc : Thread Cert.SmallGather.nD Cert.SmallGather.τ).loc Cert.SmallGather.main_arg0))
      ∧ r.2.sem = fun _ => 0)

def quiescent_SmallGatherIdeal [hSmallGatherIdeal : Cert.SmallGatherIdeal.Facts] : Prop :=
  ∀ (m : (ℓ : Loc Cert.SmallGatherIdeal.nD Cert.SmallGatherIdeal.τ Cert.SmallGatherIdeal.sig) → Buf (Elt Ideal) ℓ) (g : Dev Cert.SmallGatherIdeal.nD → PrngReg), Pre_SmallGatherIdeal m →
    θ_run (Cert.SmallGatherIdeal.defs (F := Ideal)) (onTc (τ := Cert.SmallGatherIdeal.τ) (Cert.SmallGatherIdeal.main (F := Ideal))) ⟨m, fun _ => 0, g⟩ (fun r => (∀ c : Dev Cert.SmallGatherIdeal.nD,
      r.2.mem ((c.tc : Thread Cert.SmallGatherIdeal.nD Cert.SmallGatherIdeal.τ).loc Cert.SmallGatherIdeal.main_arg0) = m ((c.tc : Thread Cert.SmallGatherIdeal.nD Cert.SmallGatherIdeal.τ).loc Cert.SmallGatherIdeal.main_arg0))
      ∧ r.2.sem = fun _ => 0)

def quiescent_SmallGatherRefIdeal [hSmallGatherRefIdeal : Cert.SmallGatherRefIdeal.Facts] : Prop :=
  ∀ (m : (ℓ : Loc Cert.SmallGatherRefIdeal.nD Cert.SmallGatherRefIdeal.τ Cert.SmallGatherRefIdeal.sig) → Buf (Elt Ideal) ℓ) (g : Dev Cert.SmallGatherRefIdeal.nD → PrngReg), Pre_SmallGatherRefIdeal m →
    θ_run (Cert.SmallGatherRefIdeal.defs (F := Ideal)) (onTc (τ := Cert.SmallGatherRefIdeal.τ) (Cert.SmallGatherRefIdeal.main (F := Ideal))) ⟨m, fun _ => 0, g⟩ (fun r => (∀ c : Dev Cert.SmallGatherRefIdeal.nD,
      r.2.mem ((c.tc : Thread Cert.SmallGatherRefIdeal.nD Cert.SmallGatherRefIdeal.τ).loc Cert.SmallGatherRefIdeal.main_arg0) = m ((c.tc : Thread Cert.SmallGatherRefIdeal.nD Cert.SmallGatherRefIdeal.τ).loc Cert.SmallGatherRefIdeal.main_arg0))
      ∧ r.2.sem = fun _ => 0)

def quiescent_SmallGatherRef [hSmallGatherRef : Cert.SmallGatherRef.Facts] : Prop :=
  ∀ (m : (ℓ : Loc Cert.SmallGatherRef.nD Cert.SmallGatherRef.τ Cert.SmallGatherRef.sig) → Buf (Elt Bits) ℓ) (g : Dev Cert.SmallGatherRef.nD → PrngReg), Pre_SmallGatherRef m →
    θ_run (Cert.SmallGatherRef.defs (F := Bits)) (onTc (τ := Cert.SmallGatherRef.τ) (Cert.SmallGatherRef.main (F := Bits))) ⟨m, fun _ => 0, g⟩ (fun r => (∀ c : Dev Cert.SmallGatherRef.nD,
      r.2.mem ((c.tc : Thread Cert.SmallGatherRef.nD Cert.SmallGatherRef.τ).loc Cert.SmallGatherRef.main_arg0) = m ((c.tc : Thread Cert.SmallGatherRef.nD Cert.SmallGatherRef.τ).loc Cert.SmallGatherRef.main_arg0))
      ∧ r.2.sem = fun _ => 0)

def quiescent_TapsGather [hTapsGather : Cert.TapsGather.Facts] : Prop :=
  ∀ (m : (ℓ : Loc Cert.TapsGather.nD Cert.TapsGather.τ Cert.TapsGather.sig) → Buf (Elt Bits) ℓ) (g : Dev Cert.TapsGather.nD → PrngReg), Pre_TapsGather m →
    θ_run (Cert.TapsGather.defs (F := Bits)) (onTc (τ := Cert.TapsGather.τ) (Cert.TapsGather.main (F := Bits))) ⟨m, fun _ => 0, g⟩ (fun r => (∀ c : Dev Cert.TapsGather.nD,
      r.2.mem ((c.tc : Thread Cert.TapsGather.nD Cert.TapsGather.τ).loc Cert.TapsGather.main_arg0) = m ((c.tc : Thread Cert.TapsGather.nD Cert.TapsGather.τ).loc Cert.TapsGather.main_arg0))
      ∧ r.2.sem = fun _ => 0)

def quiescent_TapsGatherIdeal [hTapsGatherIdeal : Cert.TapsGatherIdeal.Facts] : Prop :=
  ∀ (m : (ℓ : Loc Cert.TapsGatherIdeal.nD Cert.TapsGatherIdeal.τ Cert.TapsGatherIdeal.sig) → Buf (Elt Ideal) ℓ) (g : Dev Cert.TapsGatherIdeal.nD → PrngReg), Pre_TapsGatherIdeal m →
    θ_run (Cert.TapsGatherIdeal.defs (F := Ideal)) (onTc (τ := Cert.TapsGatherIdeal.τ) (Cert.TapsGatherIdeal.main (F := Ideal))) ⟨m, fun _ => 0, g⟩ (fun r => (∀ c : Dev Cert.TapsGatherIdeal.nD,
      r.2.mem ((c.tc : Thread Cert.TapsGatherIdeal.nD Cert.TapsGatherIdeal.τ).loc Cert.TapsGatherIdeal.main_arg0) = m ((c.tc : Thread Cert.TapsGatherIdeal.nD Cert.TapsGatherIdeal.τ).loc Cert.TapsGatherIdeal.main_arg0))
      ∧ r.2.sem = fun _ => 0)

def quiescent_TapsGatherRefIdeal [hTapsGatherRefIdeal : Cert.TapsGatherRefIdeal.Facts] : Prop :=
  ∀ (m : (ℓ : Loc Cert.TapsGatherRefIdeal.nD Cert.TapsGatherRefIdeal.τ Cert.TapsGatherRefIdeal.sig) → Buf (Elt Ideal) ℓ) (g : Dev Cert.TapsGatherRefIdeal.nD → PrngReg), Pre_TapsGatherRefIdeal m →
    θ_run (Cert.TapsGatherRefIdeal.defs (F := Ideal)) (onTc (τ := Cert.TapsGatherRefIdeal.τ) (Cert.TapsGatherRefIdeal.main (F := Ideal))) ⟨m, fun _ => 0, g⟩ (fun r => (∀ c : Dev Cert.TapsGatherRefIdeal.nD,
      r.2.mem ((c.tc : Thread Cert.TapsGatherRefIdeal.nD Cert.TapsGatherRefIdeal.τ).loc Cert.TapsGatherRefIdeal.main_arg0) = m ((c.tc : Thread Cert.TapsGatherRefIdeal.nD Cert.TapsGatherRefIdeal.τ).loc Cert.TapsGatherRefIdeal.main_arg0))
      ∧ r.2.sem = fun _ => 0)

def quiescent_TapsGatherRef [hTapsGatherRef : Cert.TapsGatherRef.Facts] : Prop :=
  ∀ (m : (ℓ : Loc Cert.TapsGatherRef.nD Cert.TapsGatherRef.τ Cert.TapsGatherRef.sig) → Buf (Elt Bits) ℓ) (g : Dev Cert.TapsGatherRef.nD → PrngReg), Pre_TapsGatherRef m →
    θ_run (Cert.TapsGatherRef.defs (F := Bits)) (onTc (τ := Cert.TapsGatherRef.τ) (Cert.TapsGatherRef.main (F := Bits))) ⟨m, fun _ => 0, g⟩ (fun r => (∀ c : Dev Cert.TapsGatherRef.nD,
      r.2.mem ((c.tc : Thread Cert.TapsGatherRef.nD Cert.TapsGatherRef.τ).loc Cert.TapsGatherRef.main_arg0) = m ((c.tc : Thread Cert.TapsGatherRef.nD Cert.TapsGatherRef.τ).loc Cert.TapsGatherRef.main_arg0))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0)
      ∧ r.2.mem ((c.tc : Thread Cert.ChipSumRefIdeal.nD Cert.ChipSumRefIdeal.τ).loc Cert.ChipSumRefIdeal.main_arg1) = m ((c.tc : Thread Cert.ChipSumRefIdeal.nD Cert.ChipSumRefIdeal.τ).loc Cert.ChipSumRefIdeal.main_arg1))
      ∧ r.2.sem = fun _ => 0)

def quiescent_ChipSumRef [hChipSumRef : Cert.ChipSumRef.Facts] : Prop :=
  ∀ (m : (ℓ : Loc Cert.ChipSumRef.nD Cert.ChipSumRef.τ Cert.ChipSumRef.sig) → Buf (Elt Bits) ℓ) (g : Dev Cert.ChipSumRef.nD → PrngReg), Pre_ChipSumRef m →
    θ_run (Cert.ChipSumRef.defs (F := Bits)) (onTc (τ := Cert.ChipSumRef.τ) (Cert.ChipSumRef.main (F := Bits))) ⟨m, fun _ => 0, g⟩ (fun r => (∀ c : Dev Cert.ChipSumRef.nD,
      r.2.mem ((c.tc : Thread Cert.ChipSumRef.nD Cert.ChipSumRef.τ).loc Cert.ChipSumRef.main_arg0) = m ((c.tc : Thread Cert.ChipSumRef.nD Cert.ChipSumRef.τ).loc Cert.ChipSumRef.main_arg0)
      ∧ r.2.mem ((c.tc : Thread Cert.ChipSumRef.nD Cert.ChipSumRef.τ).loc Cert.ChipSumRef.main_arg1) = m ((c.tc : Thread Cert.ChipSumRef.nD Cert.ChipSumRef.τ).loc Cert.ChipSumRef.main_arg1))
      ∧ r.2.sem = fun _ => 0)

def quiescent_AdamBig [hAdamBig : Cert.AdamBig.Facts] : Prop :=
  ∀ (m : (ℓ : Loc Cert.AdamBig.nD Cert.AdamBig.τ Cert.AdamBig.sig) → Buf (Elt Bits) ℓ) (g : Dev Cert.AdamBig.nD → PrngReg), Pre_AdamBig m →
    θ_run (Cert.AdamBig.defs (F := Bits)) (onTc (τ := Cert.AdamBig.τ) (Cert.AdamBig.main (F := Bits))) ⟨m, fun _ => 0, g⟩ (fun r => (∀ c : Dev Cert.AdamBig.nD,
      r.2.mem ((c.tc : Thread Cert.AdamBig.nD Cert.AdamBig.τ).loc Cert.AdamBig.main_arg0) = m ((c.tc : Thread Cert.AdamBig.nD Cert.AdamBig.τ).loc Cert.AdamBig.main_arg0)
      ∧ r.2.mem ((c.tc : Thread Cert.AdamBig.nD Cert.AdamBig.τ).loc Cert.AdamBig.main_arg1) = m ((c.tc : Thread Cert.AdamBig.nD Cert.AdamBig.τ).loc Cert.AdamBig.main_arg1)
      ∧ r.2.mem ((c.tc : Thread Cert.AdamBig.nD Cert.AdamBig.τ).loc Cert.AdamBig.main_arg2) = m ((c.tc : Thread Cert.AdamBig.nD Cert.AdamBig.τ).loc Cert.AdamBig.main_arg2)
      ∧ r.2.mem ((c.tc : Thread Cert.AdamBig.nD Cert.AdamBig.τ).loc Cert.AdamBig.main_arg3) = m ((c.tc : Thread Cert.AdamBig.nD Cert.AdamBig.τ).loc Cert.AdamBig.main_arg3)
      ∧ r.2.mem ((c.tc : Thread Cert.AdamBig.nD Cert.AdamBig.τ).loc Cert.AdamBig.main_arg4) = m ((c.tc : Thread Cert.AdamBig.nD Cert.AdamBig.τ).loc Cert.AdamBig.main_arg4))
      ∧ r.2.sem = fun _ => 0)

def quiescent_AdamBigIdeal [hAdamBigIdeal : Cert.AdamBigIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg), Pre_AdamBigIdeal m →
    θ_run (Cert.AdamBigIdeal.defs (F := Ideal)) (onTc (τ := Cert.AdamBigIdeal.τ) (Cert.AdamBigIdeal.main (F := Ideal))) ⟨m, fun _ => 0, g⟩ (fun r => (∀ c : Dev Cert.AdamBigIdeal.nD,
      r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
      ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
      ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
      ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
      ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4))
      ∧ r.2.sem = fun _ => 0)

def quiescent_AdamBigRefIdeal [hAdamBigRefIdeal : Cert.AdamBigRefIdeal.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3)
      ∧ r.2.mem ((c.tc : Thread Cert.AdamBigRefIdeal.nD Cert.AdamBigRefIdeal.τ).loc Cert.AdamBigRefIdeal.main_arg4) = m ((c.tc : Thread Cert.AdamBigRefIdeal.nD Cert.AdamBigRefIdeal.τ).loc Cert.AdamBigRefIdeal.main_arg4))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_PreBwd [hPreBwd : Cert.PreBwd.Facts] : Prop :=
  ∀ (m : (ℓ : Loc Cert.PreBwd.nD Cert.PreBwd.τ Cert.PreBwd.sig) → Buf (Elt Bits) ℓ) (g : Dev Cert.PreBwd.nD → PrngReg), Pre_PreBwd m →
    θ_run (Cert.PreBwd.defs (F := Bits)) (onTc (τ := Cert.PreBwd.τ) (Cert.PreBwd.main (F := Bits))) ⟨m, fun _ => 0, g⟩ (fun r => (∀ c : Dev Cert.PreBwd.nD,
      r.2.mem ((c.tc : Thread Cert.PreBwd.nD Cert.PreBwd.τ).loc Cert.PreBwd.main_arg0) = m ((c.tc : Thread Cert.PreBwd.nD Cert.PreBwd.τ).loc Cert.PreBwd.main_arg0)
      ∧ r.2.mem ((c.tc : Thread Cert.PreBwd.nD Cert.PreBwd.τ).loc Cert.PreBwd.main_arg1) = m ((c.tc : Thread Cert.PreBwd.nD Cert.PreBwd.τ).loc Cert.PreBwd.main_arg1)
      ∧ r.2.mem ((c.tc : Thread Cert.PreBwd.nD Cert.PreBwd.τ).loc Cert.PreBwd.main_arg2) = m ((c.tc : Thread Cert.PreBwd.nD Cert.PreBwd.τ).loc Cert.PreBwd.main_arg2)
      ∧ r.2.mem ((c.tc : Thread Cert.PreBwd.nD Cert.PreBwd.τ).loc Cert.PreBwd.main_arg3) = m ((c.tc : Thread Cert.PreBwd.nD Cert.PreBwd.τ).loc Cert.PreBwd.main_arg3))
      ∧ r.2.sem = fun _ => 0)

def quiescent_PreBwdIdeal [hPreBwdIdeal : Cert.PreBwdIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg), Pre_PreBwdIdeal m →
    θ_run (Cert.PreBwdIdeal.defs (F := Ideal)) (onTc (τ := Cert.PreBwdIdeal.τ) (Cert.PreBwdIdeal.main (F := Ideal))) ⟨m, fun _ => 0, g⟩ (fun r => (∀ c : Dev Cert.PreBwdIdeal.nD,
      r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
      ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
      ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
      ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ r.2.sem = fun _ => 0)

def quiescent_PreBwdRefIdeal [hPreBwdRefIdeal : Cert.PreBwdRefIdeal.Facts] : Prop :=
  ∀ (m : (ℓ : Loc Cert.PreBwdRefIdeal.nD Cert.PreBwdRefIdeal.τ Cert.PreBwdRefIdeal.sig) → Buf (Elt Ideal) ℓ) (g : Dev Cert.PreBwdRefIdeal.nD → PrngReg), Pre_PreBwdRefIdeal m →
    θ_run (Cert.PreBwdRefIdeal.defs (F := Ideal)) (onTc (τ := Cert.PreBwdRefIdeal.τ) (Cert.PreBwdRefIdeal.main (F := Ideal))) ⟨m, fun _ => 0, g⟩ (fun r => (∀ c : Dev Cert.PreBwdRefIdeal.nD,
      r.2.mem ((c.tc : Thread Cert.PreBwdRefIdeal.nD Cert.PreBwdRefIdeal.τ).loc Cert.PreBwdRefIdeal.main_arg0) = m ((c.tc : Thread Cert.PreBwdRefIdeal.nD Cert.PreBwdRefIdeal.τ).loc Cert.PreBwdRefIdeal.main_arg0)
      ∧ r.2.mem ((c.tc : Thread Cert.PreBwdRefIdeal.nD Cert.PreBwdRefIdeal.τ).loc Cert.PreBwdRefIdeal.main_arg1) = m ((c.tc : Thread Cert.PreBwdRefIdeal.nD Cert.PreBwdRefIdeal.τ).loc Cert.PreBwdRefIdeal.main_arg1)
      ∧ r.2.mem ((c.tc : Thread Cert.PreBwdRefIdeal.nD Cert.PreBwdRefIdeal.τ).loc Cert.PreBwdRefIdeal.main_arg2) = m ((c.tc : Thread Cert.PreBwdRefIdeal.nD Cert.PreBwdRefIdeal.τ).loc Cert.PreBwdRefIdeal.main_arg2)
      ∧ r.2.mem ((c.tc : Thread Cert.PreBwdRefIdeal.nD Cert.PreBwdRefIdeal.τ).loc Cert.PreBwdRefIdeal.main_arg3) = m ((c.tc : Thread Cert.PreBwdRefIdeal.nD Cert.PreBwdRefIdeal.τ).loc Cert.PreBwdRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_PostPre [hPostPre : Cert.PostPre.Facts] : Prop :=
  ∀ (m : (ℓ : Loc Cert.PostPre.nD Cert.PostPre.τ Cert.PostPre.sig) → Buf (Elt Bits) ℓ) (g : Dev Cert.PostPre.nD → PrngReg), Pre_PostPre m →
    θ_run (Cert.PostPre.defs (F := Bits)) (onTc (τ := Cert.PostPre.τ) (Cert.PostPre.main (F := Bits))) ⟨m, fun _ => 0, g⟩ (fun r => (∀ c : Dev Cert.PostPre.nD,
      r.2.mem ((c.tc : Thread Cert.PostPre.nD Cert.PostPre.τ).loc Cert.PostPre.main_arg0) = m ((c.tc : Thread Cert.PostPre.nD Cert.PostPre.τ).loc Cert.PostPre.main_arg0)
      ∧ r.2.mem ((c.tc : Thread Cert.PostPre.nD Cert.PostPre.τ).loc Cert.PostPre.main_arg1) = m ((c.tc : Thread Cert.PostPre.nD Cert.PostPre.τ).loc Cert.PostPre.main_arg1)
      ∧ r.2.mem ((c.tc : Thread Cert.PostPre.nD Cert.PostPre.τ).loc Cert.PostPre.main_arg2) = m ((c.tc : Thread Cert.PostPre.nD Cert.PostPre.τ).loc Cert.PostPre.main_arg2)
      ∧ r.2.mem ((c.tc : Thread Cert.PostPre.nD Cert.PostPre.τ).loc Cert.PostPre.main_arg3) = m ((c.tc : Thread Cert.PostPre.nD Cert.PostPre.τ).loc Cert.PostPre.main_arg3))
      ∧ r.2.sem = fun _ => 0)

def quiescent_PostPreIdeal [hPostPreIdeal : Cert.PostPreIdeal.Facts] : Prop :=
  ∀ (m : (ℓ : Loc Cert.PostPreIdeal.nD Cert.PostPreIdeal.τ Cert.PostPreIdeal.sig) → Buf (Elt Ideal) ℓ) (g : Dev Cert.PostPreIdeal.nD → PrngReg), Pre_PostPreIdeal m →
    θ_run (Cert.PostPreIdeal.defs (F := Ideal)) (onTc (τ := Cert.PostPreIdeal.τ) (Cert.PostPreIdeal.main (F := Ideal))) ⟨m, fun _ => 0, g⟩ (fun r => (∀ c : Dev Cert.PostPreIdeal.nD,
      r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
      ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
      ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
      ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ r.2.sem = fun _ => 0)

def quiescent_PostPreRefIdeal [hPostPreRefIdeal : Cert.PostPreRefIdeal.Facts] : Prop :=
  ∀ (m : (ℓ : Loc Cert.PostPreRefIdeal.nD Cert.PostPreRefIdeal.τ Cert.PostPreRefIdeal.sig) → Buf (Elt Ideal) ℓ) (g : Dev Cert.PostPreRefIdeal.nD → PrngReg), Pre_PostPreRefIdeal m →
    θ_run (Cert.PostPreRefIdeal.defs (F := Ideal)) (onTc (τ := Cert.PostPreRefIdeal.τ) (Cert.PostPreRefIdeal.main (F := Ideal))) ⟨m, fun _ => 0, g⟩ (fun r => (∀ c : Dev Cert.PostPreRefIdeal.nD,
      r.2.mem ((c.tc : Thread Cert.PostPreRefIdeal.nD Cert.PostPreRefIdeal.τ).loc Cert.PostPreRefIdeal.main_arg0) = m ((c.tc : Thread Cert.PostPreRefIdeal.nD Cert.PostPreRefIdeal.τ).loc Cert.PostPreRefIdeal.main_arg0)
      ∧ r.2.mem ((c.tc : Thread Cert.PostPreRefIdeal.nD Cert.PostPreRefIdeal.τ).loc Cert.PostPreRefIdeal.main_arg1) = m ((c.tc : Thread Cert.PostPreRefIdeal.nD Cert.PostPreRefIdeal.τ).loc Cert.PostPreRefIdeal.main_arg1)
      ∧ r.2.mem ((c.tc : Thread Cert.PostPreRefIdeal.nD Cert.PostPreRefIdeal.τ).loc Cert.PostPreRefIdeal.main_arg2) = m ((c.tc : Thread Cert.PostPreRefIdeal.nD Cert.PostPreRefIdeal.τ).loc Cert.PostPreRefIdeal.main_arg2)
      ∧ r.2.mem ((c.tc : Thread Cert.PostPreRefIdeal.nD Cert.PostPreRefIdeal.τ).loc Cert.PostPreRefIdeal.main_arg3) = m ((c.tc : Thread Cert.PostPreRefIdeal.nD Cert.PostPreRefIdeal.τ).loc Cert.PostPreRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1))
      ∧ r.2.sem = fun _ => 0)

def quiescent_GateArgs [hGateArgs : Cert.GateArgs.Facts] : Prop :=
  ∀ (m : (ℓ : Loc Cert.GateArgs.nD Cert.GateArgs.τ Cert.GateArgs.sig) → Buf (Elt Bits) ℓ) (g : Dev Cert.GateArgs.nD → PrngReg), Pre_GateArgs m →
    θ_run (Cert.GateArgs.defs (F := Bits)) (onTc (τ := Cert.GateArgs.τ) (Cert.GateArgs.main (F := Bits))) ⟨m, fun _ => 0, g⟩ (fun r => (∀ c : Dev Cert.GateArgs.nD,
      r.2.mem ((c.tc : Thread Cert.GateArgs.nD Cert.GateArgs.τ).loc Cert.GateArgs.main_arg0) = m ((c.tc : Thread Cert.GateArgs.nD Cert.GateArgs.τ).loc Cert.GateArgs.main_arg0)
      ∧ r.2.mem ((c.tc : Thread Cert.GateArgs.nD Cert.GateArgs.τ).loc Cert.GateArgs.main_arg1) = m ((c.tc : Thread Cert.GateArgs.nD Cert.GateArgs.τ).loc Cert.GateArgs.main_arg1))
      ∧ r.2.sem = fun _ => 0)

def quiescent_GateArgsIdeal [hGateArgsIdeal : Cert.GateArgsIdeal.Facts] : Prop :=
  ∀ (m : (ℓ : Loc Cert.GateArgsIdeal.nD Cert.GateArgsIdeal.τ Cert.GateArgsIdeal.sig) → Buf (Elt Ideal) ℓ) (g : Dev Cert.GateArgsIdeal.nD → PrngReg), Pre_GateArgsIdeal m →
    θ_run (Cert.GateArgsIdeal.defs (F := Ideal)) (onTc (τ := Cert.GateArgsIdeal.τ) (Cert.GateArgsIdeal.main (F := Ideal))) ⟨m, fun _ => 0, g⟩ (fun r => (∀ c : Dev Cert.GateArgsIdeal.nD,
      r.2.mem ((c.tc : Thread Cert.GateArgsIdeal.nD Cert.GateArgsIdeal.τ).loc Cert.GateArgsIdeal.main_arg0) = m ((c.tc : Thread Cert.GateArgsIdeal.nD Cert.GateArgsIdeal.τ).loc Cert.GateArgsIdeal.main_arg0)
      ∧ r.2.mem ((c.tc : Thread Cert.GateArgsIdeal.nD Cert.GateArgsIdeal.τ).loc Cert.GateArgsIdeal.main_arg1) = m ((c.tc : Thread Cert.GateArgsIdeal.nD Cert.GateArgsIdeal.τ).loc Cert.GateArgsIdeal.main_arg1))
      ∧ r.2.sem = fun _ => 0)

def quiescent_GateArgsRefIdeal [hGateArgsRefIdeal : Cert.GateArgsRefIdeal.Facts] : Prop :=
  ∀ (m : (ℓ : Loc Cert.GateArgsRefIdeal.nD Cert.GateArgsRefIdeal.τ Cert.GateArgsRefIdeal.sig) → Buf (Elt Ideal) ℓ) (g : Dev Cert.GateArgsRefIdeal.nD → PrngReg), Pre_GateArgsRefIdeal m →
    θ_run (Cert.GateArgsRefIdeal.defs (F := Ideal)) (onTc (τ := Cert.GateArgsRefIdeal.τ) (Cert.GateArgsRefIdeal.main (F := Ideal))) ⟨m, fun _ => 0, g⟩ (fun r => (∀ c : Dev Cert.GateArgsRefIdeal.nD,
      r.2.mem ((c.tc : Thread Cert.GateArgsRefIdeal.nD Cert.GateArgsRefIdeal.τ).loc Cert.GateArgsRefIdeal.main_arg0) = m ((c.tc : Thread Cert.GateArgsRefIdeal.nD Cert.GateArgsRefIdeal.τ).loc Cert.GateArgsRefIdeal.main_arg0)
      ∧ r.2.mem ((c.tc : Thread Cert.GateArgsRefIdeal.nD Cert.GateArgsRefIdeal.τ).loc Cert.GateArgsRefIdeal.main_arg1) = m ((c.tc : Thread Cert.GateArgsRefIdeal.nD Cert.GateArgsRefIdeal.τ).loc Cert.GateArgsRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Dh1Gates [hDh1Gates : Cert.Dh1Gates.Facts] : Prop :=
  ∀ (m : (ℓ : Loc Cert.Dh1Gates.nD Cert.Dh1Gates.τ Cert.Dh1Gates.sig) → Buf (Elt Bits) ℓ) (g : Dev Cert.Dh1Gates.nD → PrngReg), Pre_Dh1Gates m →
    θ_run (Cert.Dh1Gates.defs (F := Bits)) (onTc (τ := Cert.Dh1Gates.τ) (Cert.Dh1Gates.main (F := Bits))) ⟨m, fun _ => 0, g⟩ (fun r => (∀ c : Dev Cert.Dh1Gates.nD,
      r.2.mem ((c.tc : Thread Cert.Dh1Gates.nD Cert.Dh1Gates.τ).loc Cert.Dh1Gates.main_arg0) = m ((c.tc : Thread Cert.Dh1Gates.nD Cert.Dh1Gates.τ).loc Cert.Dh1Gates.main_arg0)
      ∧ r.2.mem ((c.tc : Thread Cert.Dh1Gates.nD Cert.Dh1Gates.τ).loc Cert.Dh1Gates.main_arg1) = m ((c.tc : Thread Cert.Dh1Gates.nD Cert.Dh1Gates.τ).loc Cert.Dh1Gates.main_arg1)
      ∧ r.2.mem ((c.tc : Thread Cert.Dh1Gates.nD Cert.Dh1Gates.τ).loc Cert.Dh1Gates.main_arg2) = m ((c.tc : Thread Cert.Dh1Gates.nD Cert.Dh1Gates.τ).loc Cert.Dh1Gates.main_arg2))
      ∧ r.2.sem = fun _ => 0)

def quiescent_Dh1GatesIdeal [hDh1GatesIdeal : Cert.Dh1GatesIdeal.Facts] : Prop :=
  ∀ (m : (ℓ : Loc Cert.Dh1GatesIdeal.nD Cert.Dh1GatesIdeal.τ Cert.Dh1GatesIdeal.sig) → Buf (Elt Ideal) ℓ) (g : Dev Cert.Dh1GatesIdeal.nD → PrngReg), Pre_Dh1GatesIdeal m →
    θ_run (Cert.Dh1GatesIdeal.defs (F := Ideal)) (onTc (τ := Cert.Dh1GatesIdeal.τ) (Cert.Dh1GatesIdeal.main (F := Ideal))) ⟨m, fun _ => 0, g⟩ (fun r => (∀ c : Dev Cert.Dh1GatesIdeal.nD,
      r.2.mem ((c.tc : Thread Cert.Dh1GatesIdeal.nD Cert.Dh1GatesIdeal.τ).loc Cert.Dh1GatesIdeal.main_arg0) = m ((c.tc : Thread Cert.Dh1GatesIdeal.nD Cert.Dh1GatesIdeal.τ).loc Cert.Dh1GatesIdeal.main_arg0)
      ∧ r.2.mem ((c.tc : Thread Cert.Dh1GatesIdeal.nD Cert.Dh1GatesIdeal.τ).loc Cert.Dh1GatesIdeal.main_arg1) = m ((c.tc : Thread Cert.Dh1GatesIdeal.nD Cert.Dh1GatesIdeal.τ).loc Cert.Dh1GatesIdeal.main_arg1)
      ∧ r.2.mem ((c.tc : Thread Cert.Dh1GatesIdeal.nD Cert.Dh1GatesIdeal.τ).loc Cert.Dh1GatesIdeal.main_arg2) = m ((c.tc : Thread Cert.Dh1GatesIdeal.nD Cert.Dh1GatesIdeal.τ).loc Cert.Dh1GatesIdeal.main_arg2))
      ∧ r.2.sem = fun _ => 0)

def quiescent_Dh1GatesRefIdeal [hDh1GatesRefIdeal : Cert.Dh1GatesRefIdeal.Facts] : Prop :=
  ∀ (m : (ℓ : Loc Cert.Dh1GatesRefIdeal.nD Cert.Dh1GatesRefIdeal.τ Cert.Dh1GatesRefIdeal.sig) → Buf (Elt Ideal) ℓ) (g : Dev Cert.Dh1GatesRefIdeal.nD → PrngReg), Pre_Dh1GatesRefIdeal m →
    θ_run (Cert.Dh1GatesRefIdeal.defs (F := Ideal)) (onTc (τ := Cert.Dh1GatesRefIdeal.τ) (Cert.Dh1GatesRefIdeal.main (F := Ideal))) ⟨m, fun _ => 0, g⟩ (fun r => (∀ c : Dev Cert.Dh1GatesRefIdeal.nD,
      r.2.mem ((c.tc : Thread Cert.Dh1GatesRefIdeal.nD Cert.Dh1GatesRefIdeal.τ).loc Cert.Dh1GatesRefIdeal.main_arg0) = m ((c.tc : Thread Cert.Dh1GatesRefIdeal.nD Cert.Dh1GatesRefIdeal.τ).loc Cert.Dh1GatesRefIdeal.main_arg0)
      ∧ r.2.mem ((c.tc : Thread Cert.Dh1GatesRefIdeal.nD Cert.Dh1GatesRefIdeal.τ).loc Cert.Dh1GatesRefIdeal.main_arg1) = m ((c.tc : Thread Cert.Dh1GatesRefIdeal.nD Cert.Dh1GatesRefIdeal.τ).loc Cert.Dh1GatesRefIdeal.main_arg1)
      ∧ r.2.mem ((c.tc : Thread Cert.Dh1GatesRefIdeal.nD Cert.Dh1GatesRefIdeal.τ).loc Cert.Dh1GatesRefIdeal.main_arg2) = m ((c.tc : Thread Cert.Dh1GatesRefIdeal.nD Cert.Dh1GatesRefIdeal.τ).loc Cert.Dh1GatesRefIdeal.main_arg2))
      ∧ r.2.sem = fun _ => 0)

def quiescent_PreMlpBwd [hPreMlpBwd : Cert.PreMlpBwd.Facts] : Prop :=
  ∀ (m : (ℓ : Loc Cert.PreMlpBwd.nD Cert.PreMlpBwd.τ Cert.PreMlpBwd.sig) → Buf (Elt Bits) ℓ) (g : Dev Cert.PreMlpBwd.nD → PrngReg), Pre_PreMlpBwd m →
    θ_run (Cert.PreMlpBwd.defs (F := Bits)) (onTc (τ := Cert.PreMlpBwd.τ) (Cert.PreMlpBwd.main (F := Bits))) ⟨m, fun _ => 0, g⟩ (fun r => (∀ c : Dev Cert.PreMlpBwd.nD,
      r.2.mem ((c.tc : Thread Cert.PreMlpBwd.nD Cert.PreMlpBwd.τ).loc Cert.PreMlpBwd.main_arg0) = m ((c.tc : Thread Cert.PreMlpBwd.nD Cert.PreMlpBwd.τ).loc Cert.PreMlpBwd.main_arg0)
      ∧ r.2.mem ((c.tc : Thread Cert.PreMlpBwd.nD Cert.PreMlpBwd.τ).loc Cert.PreMlpBwd.main_arg1) = m ((c.tc : Thread Cert.PreMlpBwd.nD Cert.PreMlpBwd.τ).loc Cert.PreMlpBwd.main_arg1)
      ∧ r.2.mem ((c.tc : Thread Cert.PreMlpBwd.nD Cert.PreMlpBwd.τ).loc Cert.PreMlpBwd.main_arg2) = m ((c.tc : Thread Cert.PreMlpBwd.nD Cert.PreMlpBwd.τ).loc Cert.PreMlpBwd.main_arg2)
      ∧ r.2.mem ((c.tc : Thread Cert.PreMlpBwd.nD Cert.PreMlpBwd.τ).loc Cert.PreMlpBwd.main_arg3) = m ((c.tc : Thread Cert.PreMlpBwd.nD Cert.PreMlpBwd.τ).loc Cert.PreMlpBwd.main_arg3)
      ∧ r.2.mem ((c.tc : Thread Cert.PreMlpBwd.nD Cert.PreMlpBwd.τ).loc Cert.PreMlpBwd.main_arg4) = m ((c.tc : Thread Cert.PreMlpBwd.nD Cert.PreMlpBwd.τ).loc Cert.PreMlpBwd.main_arg4)
      ∧ r.2.mem ((c.tc : Thread Cert.PreMlpBwd.nD Cert.PreMlpBwd.τ).loc Cert.PreMlpBwd.main_arg5) = m ((c.tc : Thread Cert.PreMlpBwd.nD Cert.PreMlpBwd.τ).loc Cert.PreMlpBwd.main_arg5))
      ∧ r.2.sem = fun _ => 0)

def quiescent_PreMlpBwdIdeal [hPreMlpBwdIdeal : Cert.PreMlpBwdIdeal.Facts] : Prop :=
  ∀ (m : (ℓ : Loc Cert.PreMlpBwdIdeal.nD Cert.PreMlpBwdIdeal.τ Cert.PreMlpBwdIdeal.sig) → Buf (Elt Ideal) ℓ) (g : Dev Cert.PreMlpBwdIdeal.nD → PrngReg), Pre_PreMlpBwdIdeal m →
    θ_run (Cert.PreMlpBwdIdeal.defs (F := Ideal)) (onTc (τ := Cert.PreMlpBwdIdeal.τ) (Cert.PreMlpBwdIdeal.main (F := Ideal))) ⟨m, fun _ => 0, g⟩ (fun r => (∀ c : Dev Cert.PreMlpBwdIdeal.nD,
      r.2.mem ((c.tc : Thread Cert.PreMlpBwdIdeal.nD Cert.PreMlpBwdIdeal.τ).loc Cert.PreMlpBwdIdeal.main_arg0) = m ((c.tc : Thread Cert.PreMlpBwdIdeal.nD Cert.PreMlpBwdIdeal.τ).loc Cert.PreMlpBwdIdeal.main_arg0)
      ∧ r.2.mem ((c.tc : Thread Cert.PreMlpBwdIdeal.nD Cert.PreMlpBwdIdeal.τ).loc Cert.PreMlpBwdIdeal.main_arg1) = m ((c.tc : Thread Cert.PreMlpBwdIdeal.nD Cert.PreMlpBwdIdeal.τ).loc Cert.PreMlpBwdIdeal.main_arg1)
      ∧ r.2.mem ((c.tc : Thread Cert.PreMlpBwdIdeal.nD Cert.PreMlpBwdIdeal.τ).loc Cert.PreMlpBwdIdeal.main_arg2) = m ((c.tc : Thread Cert.PreMlpBwdIdeal.nD Cert.PreMlpBwdIdeal.τ).loc Cert.PreMlpBwdIdeal.main_arg2)
      ∧ r.2.mem ((c.tc : Thread Cert.PreMlpBwdIdeal.nD Cert.PreMlpBwdIdeal.τ).loc Cert.PreMlpBwdIdeal.main_arg3) = m ((c.tc : Thread Cert.PreMlpBwdIdeal.nD Cert.PreMlpBwdIdeal.τ).loc Cert.PreMlpBwdIdeal.main_arg3)
      ∧ r.2.mem ((c.tc : Thread Cert.PreMlpBwdIdeal.nD Cert.PreMlpBwdIdeal.τ).loc Cert.PreMlpBwdIdeal.main_arg4) = m ((c.tc : Thread Cert.PreMlpBwdIdeal.nD Cert.PreMlpBwdIdeal.τ).loc Cert.PreMlpBwdIdeal.main_arg4)
      ∧ r.2.mem ((c.tc : Thread Cert.PreMlpBwdIdeal.nD Cert.PreMlpBwdIdeal.τ).loc Cert.PreMlpBwdIdeal.main_arg5) = m ((c.tc : Thread Cert.PreMlpBwdIdeal.nD Cert.PreMlpBwdIdeal.τ).loc Cert.PreMlpBwdIdeal.main_arg5))
      ∧ r.2.sem = fun _ => 0)

def quiescent_PreMlpBwdRefIdeal [hPreMlpBwdRefIdeal : Cert.PreMlpBwdRefIdeal.Facts] : Prop :=
  ∀ (m : (ℓ : Loc Cert.PreMlpBwdRefIdeal.nD Cert.PreMlpBwdRefIdeal.τ Cert.PreMlpBwdRefIdeal.sig) → Buf (Elt Ideal) ℓ) (g : Dev Cert.PreMlpBwdRefIdeal.nD → PrngReg), Pre_PreMlpBwdRefIdeal m →
    θ_run (Cert.PreMlpBwdRefIdeal.defs (F := Ideal)) (onTc (τ := Cert.PreMlpBwdRefIdeal.τ) (Cert.PreMlpBwdRefIdeal.main (F := Ideal))) ⟨m, fun _ => 0, g⟩ (fun r => (∀ c : Dev Cert.PreMlpBwdRefIdeal.nD,
      r.2.mem ((c.tc : Thread Cert.PreMlpBwdRefIdeal.nD Cert.PreMlpBwdRefIdeal.τ).loc Cert.PreMlpBwdRefIdeal.main_arg0) = m ((c.tc : Thread Cert.PreMlpBwdRefIdeal.nD Cert.PreMlpBwdRefIdeal.τ).loc Cert.PreMlpBwdRefIdeal.main_arg0)
      ∧ r.2.mem ((c.tc : Thread Cert.PreMlpBwdRefIdeal.nD Cert.PreMlpBwdRefIdeal.τ).loc Cert.PreMlpBwdRefIdeal.main_arg1) = m ((c.tc : Thread Cert.PreMlpBwdRefIdeal.nD Cert.PreMlpBwdRefIdeal.τ).loc Cert.PreMlpBwdRefIdeal.main_arg1)
      ∧ r.2.mem ((c.tc : Thread Cert.PreMlpBwdRefIdeal.nD Cert.PreMlpBwdRefIdeal.τ).loc Cert.PreMlpBwdRefIdeal.main_arg2) = m ((c.tc : Thread Cert.PreMlpBwdRefIdeal.nD Cert.PreMlpBwdRefIdeal.τ).loc Cert.PreMlpBwdRefIdeal.main_arg2)
      ∧ r.2.mem ((c.tc : Thread Cert.PreMlpBwdRefIdeal.nD Cert.PreMlpBwdRefIdeal.τ).loc Cert.PreMlpBwdRefIdeal.main_arg3) = m ((c.tc : Thread Cert.PreMlpBwdRefIdeal.nD Cert.PreMlpBwdRefIdeal.τ).loc Cert.PreMlpBwdRefIdeal.main_arg3)
      ∧ r.2.mem ((c.tc : Thread Cert.PreMlpBwdRefIdeal.nD Cert.PreMlpBwdRefIdeal.τ).loc Cert.PreMlpBwdRefIdeal.main_arg4) = m ((c.tc : Thread Cert.PreMlpBwdRefIdeal.nD Cert.PreMlpBwdRefIdeal.τ).loc Cert.PreMlpBwdRefIdeal.main_arg4)
      ∧ r.2.mem ((c.tc : Thread Cert.PreMlpBwdRefIdeal.nD Cert.PreMlpBwdRefIdeal.τ).loc Cert.PreMlpBwdRefIdeal.main_arg5) = m ((c.tc : Thread Cert.PreMlpBwdRefIdeal.nD Cert.PreMlpBwdRefIdeal.τ).loc Cert.PreMlpBwdRefIdeal.main_arg5))
      ∧ r.2.sem = fun _ => 0)

def quiescent_DwLora [hDwLora : Cert.DwLora.Facts] : Prop :=
  ∀ (m : (ℓ : Loc Cert.DwLora.nD Cert.DwLora.τ Cert.DwLora.sig) → Buf (Elt Bits) ℓ) (g : Dev Cert.DwLora.nD → PrngReg), Pre_DwLora m →
    θ_run (Cert.DwLora.defs (F := Bits)) (onTc (τ := Cert.DwLora.τ) (Cert.DwLora.main (F := Bits))) ⟨m, fun _ => 0, g⟩ (fun r => (∀ c : Dev Cert.DwLora.nD,
      r.2.mem ((c.tc : Thread Cert.DwLora.nD Cert.DwLora.τ).loc Cert.DwLora.main_arg0) = m ((c.tc : Thread Cert.DwLora.nD Cert.DwLora.τ).loc Cert.DwLora.main_arg0)
      ∧ r.2.mem ((c.tc : Thread Cert.DwLora.nD Cert.DwLora.τ).loc Cert.DwLora.main_arg1) = m ((c.tc : Thread Cert.DwLora.nD Cert.DwLora.τ).loc Cert.DwLora.main_arg1))
      ∧ r.2.sem = fun _ => 0)

def quiescent_DwLoraIdeal [hDwLoraIdeal : Cert.DwLoraIdeal.Facts] : Prop :=
  ∀ (m : (ℓ : Loc Cert.DwLoraIdeal.nD Cert.DwLoraIdeal.τ Cert.DwLoraIdeal.sig) → Buf (Elt Ideal) ℓ) (g : Dev Cert.DwLoraIdeal.nD → PrngReg), Pre_DwLoraIdeal m →
    θ_run (Cert.DwLoraIdeal.defs (F := Ideal)) (onTc (τ := Cert.DwLoraIdeal.τ) (Cert.DwLoraIdeal.main (F := Ideal))) ⟨m, fun _ => 0, g⟩ (fun r => (∀ c : Dev Cert.DwLoraIdeal.nD,
      r.2.mem ((c.tc : Thread Cert.DwLoraIdeal.nD Cert.DwLoraIdeal.τ).loc Cert.DwLoraIdeal.main_arg0) = m ((c.tc : Thread Cert.DwLoraIdeal.nD Cert.DwLoraIdeal.τ).loc Cert.DwLoraIdeal.main_arg0)
      ∧ r.2.mem ((c.tc : Thread Cert.DwLoraIdeal.nD Cert.DwLoraIdeal.τ).loc Cert.DwLoraIdeal.main_arg1) = m ((c.tc : Thread Cert.DwLoraIdeal.nD Cert.DwLoraIdeal.τ).loc Cert.DwLoraIdeal.main_arg1))
      ∧ r.2.sem = fun _ => 0)

def quiescent_DwLoraRefIdeal [hDwLoraRefIdeal : Cert.DwLoraRefIdeal.Facts] : Prop :=
  ∀ (m : (ℓ : Loc Cert.DwLoraRefIdeal.nD Cert.DwLoraRefIdeal.τ Cert.DwLoraRefIdeal.sig) → Buf (Elt Ideal) ℓ) (g : Dev Cert.DwLoraRefIdeal.nD → PrngReg), Pre_DwLoraRefIdeal m →
    θ_run (Cert.DwLoraRefIdeal.defs (F := Ideal)) (onTc (τ := Cert.DwLoraRefIdeal.τ) (Cert.DwLoraRefIdeal.main (F := Ideal))) ⟨m, fun _ => 0, g⟩ (fun r => (∀ c : Dev Cert.DwLoraRefIdeal.nD,
      r.2.mem ((c.tc : Thread Cert.DwLoraRefIdeal.nD Cert.DwLoraRefIdeal.τ).loc Cert.DwLoraRefIdeal.main_arg0) = m ((c.tc : Thread Cert.DwLoraRefIdeal.nD Cert.DwLoraRefIdeal.τ).loc Cert.DwLoraRefIdeal.main_arg0)
      ∧ r.2.mem ((c.tc : Thread Cert.DwLoraRefIdeal.nD Cert.DwLoraRefIdeal.τ).loc Cert.DwLoraRefIdeal.main_arg1) = m ((c.tc : Thread Cert.DwLoraRefIdeal.nD Cert.DwLoraRefIdeal.τ).loc Cert.DwLoraRefIdeal.main_arg1))
      ∧ r.2.sem = fun _ => 0)

def quiescent_DLora [hDLora : Cert.DLora.Facts] : Prop :=
  ∀ (m : (ℓ : Loc Cert.DLora.nD Cert.DLora.τ Cert.DLora.sig) → Buf (Elt Bits) ℓ) (g : Dev Cert.DLora.nD → PrngReg), Pre_DLora m →
    θ_run (Cert.DLora.defs (F := Bits)) (onTc (τ := Cert.DLora.τ) (Cert.DLora.main (F := Bits))) ⟨m, fun _ => 0, g⟩ (fun r => (∀ c : Dev Cert.DLora.nD,
      r.2.mem ((c.tc : Thread Cert.DLora.nD Cert.DLora.τ).loc Cert.DLora.main_arg0) = m ((c.tc : Thread Cert.DLora.nD Cert.DLora.τ).loc Cert.DLora.main_arg0)
      ∧ r.2.mem ((c.tc : Thread Cert.DLora.nD Cert.DLora.τ).loc Cert.DLora.main_arg1) = m ((c.tc : Thread Cert.DLora.nD Cert.DLora.τ).loc Cert.DLora.main_arg1))
      ∧ r.2.sem = fun _ => 0)

def quiescent_DLoraIdeal [hDLoraIdeal : Cert.DLoraIdeal.Facts] : Prop :=
  ∀ (m : (ℓ : Loc Cert.DLoraIdeal.nD Cert.DLoraIdeal.τ Cert.DLoraIdeal.sig) → Buf (Elt Ideal) ℓ) (g : Dev Cert.DLoraIdeal.nD → PrngReg), Pre_DLoraIdeal m →
    θ_run (Cert.DLoraIdeal.defs (F := Ideal)) (onTc (τ := Cert.DLoraIdeal.τ) (Cert.DLoraIdeal.main (F := Ideal))) ⟨m, fun _ => 0, g⟩ (fun r => (∀ c : Dev Cert.DLoraIdeal.nD,
      r.2.mem ((c.tc : Thread Cert.DLoraIdeal.nD Cert.DLoraIdeal.τ).loc Cert.DLoraIdeal.main_arg0) = m ((c.tc : Thread Cert.DLoraIdeal.nD Cert.DLoraIdeal.τ).loc Cert.DLoraIdeal.main_arg0)
      ∧ r.2.mem ((c.tc : Thread Cert.DLoraIdeal.nD Cert.DLoraIdeal.τ).loc Cert.DLoraIdeal.main_arg1) = m ((c.tc : Thread Cert.DLoraIdeal.nD Cert.DLoraIdeal.τ).loc Cert.DLoraIdeal.main_arg1))
      ∧ r.2.sem = fun _ => 0)

def quiescent_DLoraRefIdeal [hDLoraRefIdeal : Cert.DLoraRefIdeal.Facts] : Prop :=
  ∀ (m : (ℓ : Loc Cert.DLoraRefIdeal.nD Cert.DLoraRefIdeal.τ Cert.DLoraRefIdeal.sig) → Buf (Elt Ideal) ℓ) (g : Dev Cert.DLoraRefIdeal.nD → PrngReg), Pre_DLoraRefIdeal m →
    θ_run (Cert.DLoraRefIdeal.defs (F := Ideal)) (onTc (τ := Cert.DLoraRefIdeal.τ) (Cert.DLoraRefIdeal.main (F := Ideal))) ⟨m, fun _ => 0, g⟩ (fun r => (∀ c : Dev Cert.DLoraRefIdeal.nD,
      r.2.mem ((c.tc : Thread Cert.DLoraRefIdeal.nD Cert.DLoraRefIdeal.τ).loc Cert.DLoraRefIdeal.main_arg0) = m ((c.tc : Thread Cert.DLoraRefIdeal.nD Cert.DLoraRefIdeal.τ).loc Cert.DLoraRefIdeal.main_arg0)
      ∧ r.2.mem ((c.tc : Thread Cert.DLoraRefIdeal.nD Cert.DLoraRefIdeal.τ).loc Cert.DLoraRefIdeal.main_arg1) = m ((c.tc : Thread Cert.DLoraRefIdeal.nD Cert.DLoraRefIdeal.τ).loc Cert.DLoraRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_Dh1Branches [hDh1Branches : Cert.Dh1Branches.Facts] : Prop :=
  ∀ (m : (ℓ : Loc Cert.Dh1Branches.nD Cert.Dh1Branches.τ Cert.Dh1Branches.sig) → Buf (Elt Bits) ℓ) (g : Dev Cert.Dh1Branches.nD → PrngReg), Pre_Dh1Branches m →
    θ_run (Cert.Dh1Branches.defs (F := Bits)) (onTc (τ := Cert.Dh1Branches.τ) (Cert.Dh1Branches.main (F := Bits))) ⟨m, fun _ => 0, g⟩ (fun r => (∀ c : Dev Cert.Dh1Branches.nD,
      r.2.mem ((c.tc : Thread Cert.Dh1Branches.nD Cert.Dh1Branches.τ).loc Cert.Dh1Branches.main_arg0) = m ((c.tc : Thread Cert.Dh1Branches.nD Cert.Dh1Branches.τ).loc Cert.Dh1Branches.main_arg0)
      ∧ r.2.mem ((c.tc : Thread Cert.Dh1Branches.nD Cert.Dh1Branches.τ).loc Cert.Dh1Branches.main_arg1) = m ((c.tc : Thread Cert.Dh1Branches.nD Cert.Dh1Branches.τ).loc Cert.Dh1Branches.main_arg1))
      ∧ r.2.sem = fun _ => 0)

def quiescent_Dh1BranchesIdeal [hDh1BranchesIdeal : Cert.Dh1BranchesIdeal.Facts] : Prop :=
  ∀ (m : (ℓ : Loc Cert.Dh1BranchesIdeal.nD Cert.Dh1BranchesIdeal.τ Cert.Dh1BranchesIdeal.sig) → Buf (Elt Ideal) ℓ) (g : Dev Cert.Dh1BranchesIdeal.nD → PrngReg), Pre_Dh1BranchesIdeal m →
    θ_run (Cert.Dh1BranchesIdeal.defs (F := Ideal)) (onTc (τ := Cert.Dh1BranchesIdeal.τ) (Cert.Dh1BranchesIdeal.main (F := Ideal))) ⟨m, fun _ => 0, g⟩ (fun r => (∀ c : Dev Cert.Dh1BranchesIdeal.nD,
      r.2.mem ((c.tc : Thread Cert.Dh1BranchesIdeal.nD Cert.Dh1BranchesIdeal.τ).loc Cert.Dh1BranchesIdeal.main_arg0) = m ((c.tc : Thread Cert.Dh1BranchesIdeal.nD Cert.Dh1BranchesIdeal.τ).loc Cert.Dh1BranchesIdeal.main_arg0)
      ∧ r.2.mem ((c.tc : Thread Cert.Dh1BranchesIdeal.nD Cert.Dh1BranchesIdeal.τ).loc Cert.Dh1BranchesIdeal.main_arg1) = m ((c.tc : Thread Cert.Dh1BranchesIdeal.nD Cert.Dh1BranchesIdeal.τ).loc Cert.Dh1BranchesIdeal.main_arg1))
      ∧ r.2.sem = fun _ => 0)

def quiescent_Dh1BranchesRefIdeal [hDh1BranchesRefIdeal : Cert.Dh1BranchesRefIdeal.Facts] : Prop :=
  ∀ (m : (ℓ : Loc Cert.Dh1BranchesRefIdeal.nD Cert.Dh1BranchesRefIdeal.τ Cert.Dh1BranchesRefIdeal.sig) → Buf (Elt Ideal) ℓ) (g : Dev Cert.Dh1BranchesRefIdeal.nD → PrngReg), Pre_Dh1BranchesRefIdeal m →
    θ_run (Cert.Dh1BranchesRefIdeal.defs (F := Ideal)) (onTc (τ := Cert.Dh1BranchesRefIdeal.τ) (Cert.Dh1BranchesRefIdeal.main (F := Ideal))) ⟨m, fun _ => 0, g⟩ (fun r => (∀ c : Dev Cert.Dh1BranchesRefIdeal.nD,
      r.2.mem ((c.tc : Thread Cert.Dh1BranchesRefIdeal.nD Cert.Dh1BranchesRefIdeal.τ).loc Cert.Dh1BranchesRefIdeal.main_arg0) = m ((c.tc : Thread Cert.Dh1BranchesRefIdeal.nD Cert.Dh1BranchesRefIdeal.τ).loc Cert.Dh1BranchesRefIdeal.main_arg0)
      ∧ r.2.mem ((c.tc : Thread Cert.Dh1BranchesRefIdeal.nD Cert.Dh1BranchesRefIdeal.τ).loc Cert.Dh1BranchesRefIdeal.main_arg1) = m ((c.tc : Thread Cert.Dh1BranchesRefIdeal.nD Cert.Dh1BranchesRefIdeal.τ).loc Cert.Dh1BranchesRefIdeal.main_arg1))
      ∧ r.2.sem = fun _ => 0)

def quiescent_ProjBwdAct [hProjBwdAct : Cert.ProjBwdAct.Facts] : Prop :=
  ∀ (m : (ℓ : Loc Cert.ProjBwdAct.nD Cert.ProjBwdAct.τ Cert.ProjBwdAct.sig) → Buf (Elt Bits) ℓ) (g : Dev Cert.ProjBwdAct.nD → PrngReg), Pre_ProjBwdAct m →
    θ_run (Cert.ProjBwdAct.defs (F := Bits)) (onTc (τ := Cert.ProjBwdAct.τ) (Cert.ProjBwdAct.main (F := Bits))) ⟨m, fun _ => 0, g⟩ (fun r => (∀ c : Dev Cert.ProjBwdAct.nD,
      r.2.mem ((c.tc : Thread Cert.ProjBwdAct.nD Cert.ProjBwdAct.τ).loc Cert.ProjBwdAct.main_arg0) = m ((c.tc : Thread Cert.ProjBwdAct.nD Cert.ProjBwdAct.τ).loc Cert.ProjBwdAct.main_arg0)
      ∧ r.2.mem ((c.tc : Thread Cert.ProjBwdAct.nD Cert.ProjBwdAct.τ).loc Cert.ProjBwdAct.main_arg1) = m ((c.tc : Thread Cert.ProjBwdAct.nD Cert.ProjBwdAct.τ).loc Cert.ProjBwdAct.main_arg1))
      ∧ r.2.sem = fun _ => 0)

def quiescent_ProjBwdActIdeal [hProjBwdActIdeal : Cert.ProjBwdActIdeal.Facts] : Prop :=
  ∀ (m : (ℓ : Loc Cert.ProjBwdActIdeal.nD Cert.ProjBwdActIdeal.τ Cert.ProjBwdActIdeal.sig) → Buf (Elt Ideal) ℓ) (g : Dev Cert.ProjBwdActIdeal.nD → PrngReg), Pre_ProjBwdActIdeal m →
    θ_run (Cert.ProjBwdActIdeal.defs (F := Ideal)) (onTc (τ := Cert.ProjBwdActIdeal.τ) (Cert.ProjBwdActIdeal.main (F := Ideal))) ⟨m, fun _ => 0, g⟩ (fun r => (∀ c : Dev Cert.ProjBwdActIdeal.nD,
      r.2.mem ((c.tc : Thread Cert.ProjBwdActIdeal.nD Cert.ProjBwdActIdeal.τ).loc Cert.ProjBwdActIdeal.main_arg0) = m ((c.tc : Thread Cert.ProjBwdActIdeal.nD Cert.ProjBwdActIdeal.τ).loc Cert.ProjBwdActIdeal.main_arg0)
      ∧ r.2.mem ((c.tc : Thread Cert.ProjBwdActIdeal.nD Cert.ProjBwdActIdeal.τ).loc Cert.ProjBwdActIdeal.main_arg1) = m ((c.tc : Thread Cert.ProjBwdActIdeal.nD Cert.ProjBwdActIdeal.τ).loc Cert.ProjBwdActIdeal.main_arg1))
      ∧ r.2.sem = fun _ => 0)

def quiescent_ProjBwdActRefIdeal [hProjBwdActRefIdeal : Cert.ProjBwdActRefIdeal.Facts] : Prop :=
  ∀ (m : (ℓ : Loc Cert.ProjBwdActRefIdeal.nD Cert.ProjBwdActRefIdeal.τ Cert.ProjBwdActRefIdeal.sig) → Buf (Elt Ideal) ℓ) (g : Dev Cert.ProjBwdActRefIdeal.nD → PrngReg), Pre_ProjBwdActRefIdeal m →
    θ_run (Cert.ProjBwdActRefIdeal.defs (F := Ideal)) (onTc (τ := Cert.ProjBwdActRefIdeal.τ) (Cert.ProjBwdActRefIdeal.main (F := Ideal))) ⟨m, fun _ => 0, g⟩ (fun r => (∀ c : Dev Cert.ProjBwdActRefIdeal.nD,
      r.2.mem ((c.tc : Thread Cert.ProjBwdActRefIdeal.nD Cert.ProjBwdActRefIdeal.τ).loc Cert.ProjBwdActRefIdeal.main_arg0) = m ((c.tc : Thread Cert.ProjBwdActRefIdeal.nD Cert.ProjBwdActRefIdeal.τ).loc Cert.ProjBwdActRefIdeal.main_arg0)
      ∧ r.2.mem ((c.tc : Thread Cert.ProjBwdActRefIdeal.nD Cert.ProjBwdActRefIdeal.τ).loc Cert.ProjBwdActRefIdeal.main_arg1) = m ((c.tc : Thread Cert.ProjBwdActRefIdeal.nD Cert.ProjBwdActRefIdeal.τ).loc Cert.ProjBwdActRefIdeal.main_arg1))
      ∧ r.2.sem = fun _ => 0)

def quiescent_ProjBwdW [hProjBwdW : Cert.ProjBwdW.Facts] : Prop :=
  ∀ (m : (ℓ : Loc Cert.ProjBwdW.nD Cert.ProjBwdW.τ Cert.ProjBwdW.sig) → Buf (Elt Bits) ℓ) (g : Dev Cert.ProjBwdW.nD → PrngReg), Pre_ProjBwdW m →
    θ_run (Cert.ProjBwdW.defs (F := Bits)) (onTc (τ := Cert.ProjBwdW.τ) (Cert.ProjBwdW.main (F := Bits))) ⟨m, fun _ => 0, g⟩ (fun r => (∀ c : Dev Cert.ProjBwdW.nD,
      r.2.mem ((c.tc : Thread Cert.ProjBwdW.nD Cert.ProjBwdW.τ).loc Cert.ProjBwdW.main_arg0) = m ((c.tc : Thread Cert.ProjBwdW.nD Cert.ProjBwdW.τ).loc Cert.ProjBwdW.main_arg0)
      ∧ r.2.mem ((c.tc : Thread Cert.ProjBwdW.nD Cert.ProjBwdW.τ).loc Cert.ProjBwdW.main_arg1) = m ((c.tc : Thread Cert.ProjBwdW.nD Cert.ProjBwdW.τ).loc Cert.ProjBwdW.main_arg1))
      ∧ r.2.sem = fun _ => 0)

def quiescent_ProjBwdWIdeal [hProjBwdWIdeal : Cert.ProjBwdWIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg), Pre_ProjBwdWIdeal m →
    θ_run (Cert.ProjBwdWIdeal.defs (F := Ideal)) (onTc (τ := Cert.ProjBwdWIdeal.τ) (Cert.ProjBwdWIdeal.main (F := Ideal))) ⟨m, fun _ => 0, g⟩ (fun r => (∀ c : Dev Cert.ProjBwdWIdeal.nD,
      r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
      ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1))
      ∧ r.2.sem = fun _ => 0)

def quiescent_ProjBwdWRefIdeal [hProjBwdWRefIdeal : Cert.ProjBwdWRefIdeal.Facts] : Prop :=
  ∀ (m : (ℓ : Loc Cert.ProjBwdWRefIdeal.nD Cert.ProjBwdWRefIdeal.τ Cert.ProjBwdWRefIdeal.sig) → Buf (Elt Ideal) ℓ) (g : Dev Cert.ProjBwdWRefIdeal.nD → PrngReg), Pre_ProjBwdWRefIdeal m →
    θ_run (Cert.ProjBwdWRefIdeal.defs (F := Ideal)) (onTc (τ := Cert.ProjBwdWRefIdeal.τ) (Cert.ProjBwdWRefIdeal.main (F := Ideal))) ⟨m, fun _ => 0, g⟩ (fun r => (∀ c : Dev Cert.ProjBwdWRefIdeal.nD,
      r.2.mem ((c.tc : Thread Cert.ProjBwdWRefIdeal.nD Cert.ProjBwdWRefIdeal.τ).loc Cert.ProjBwdWRefIdeal.main_arg0) = m ((c.tc : Thread Cert.ProjBwdWRefIdeal.nD Cert.ProjBwdWRefIdeal.τ).loc Cert.ProjBwdWRefIdeal.main_arg0)
      ∧ r.2.mem ((c.tc : Thread Cert.ProjBwdWRefIdeal.nD Cert.ProjBwdWRefIdeal.τ).loc Cert.ProjBwdWRefIdeal.main_arg1) = m ((c.tc : Thread Cert.ProjBwdWRefIdeal.nD Cert.ProjBwdWRefIdeal.τ).loc Cert.ProjBwdWRefIdeal.main_arg1))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2)
      ∧ r.2.mem ((c.tc : Thread Cert.QUp.nD Cert.QUp.τ).loc Cert.QUp.main_arg3) = m ((c.tc : Thread Cert.QUp.nD Cert.QUp.τ).loc Cert.QUp.main_arg3))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
      ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2)
      ∧ r.2.mem ((c.tc : Thread Cert.QUpRefIdeal.nD Cert.QUpRefIdeal.τ).loc Cert.QUpRefIdeal.main_arg3) = m ((c.tc : Thread Cert.QUpRefIdeal.nD Cert.QUpRefIdeal.τ).loc Cert.QUpRefIdeal.main_arg3))
      ∧ r.2.sem = fun _ => 0)

def quiescent_ConvBwdNorm [hConvBwdNorm : Cert.ConvBwdNorm.Facts] : Prop :=
  ∀ (m : (ℓ : Loc Cert.ConvBwdNorm.nD Cert.ConvBwdNorm.τ Cert.ConvBwdNorm.sig) → Buf (Elt Bits) ℓ) (g : Dev Cert.ConvBwdNorm.nD → PrngReg), Pre_ConvBwdNorm m →
    θ_run (Cert.ConvBwdNorm.defs (F := Bits)) (onTc (τ := Cert.ConvBwdNorm.τ) (Cert.ConvBwdNorm.main (F := Bits))) ⟨m, fun _ => 0, g⟩ (fun r => (∀ c : Dev Cert.ConvBwdNorm.nD,
      r.2.mem ((c.tc : Thread Cert.ConvBwdNorm.nD Cert.ConvBwdNorm.τ).loc Cert.ConvBwdNorm.main_arg0) = m ((c.tc : Thread Cert.ConvBwdNorm.nD Cert.ConvBwdNorm.τ).loc Cert.ConvBwdNorm.main_arg0)
      ∧ r.2.mem ((c.tc : Thread Cert.ConvBwdNorm.nD Cert.ConvBwdNorm.τ).loc Cert.ConvBwdNorm.main_arg1) = m ((c.tc : Thread Cert.ConvBwdNorm.nD Cert.ConvBwdNorm.τ).loc Cert.ConvBwdNorm.main_arg1)
      ∧ r.2.mem ((c.tc : Thread Cert.ConvBwdNorm.nD Cert.ConvBwdNorm.τ).loc Cert.ConvBwdNorm.main_arg2) = m ((c.tc : Thread Cert.ConvBwdNorm.nD Cert.ConvBwdNorm.τ).loc Cert.ConvBwdNorm.main_arg2)
      ∧ r.2.mem ((c.tc : Thread Cert.ConvBwdNorm.nD Cert.ConvBwdNorm.τ).loc Cert.ConvBwdNorm.main_arg3) = m ((c.tc : Thread Cert.ConvBwdNorm.nD Cert.ConvBwdNorm.τ).loc Cert.ConvBwdNorm.main_arg3))
      ∧ r.2.sem = fun _ => 0)

def quiescent_ConvBwdNormIdeal [hConvBwdNormIdeal : Cert.ConvBwdNormIdeal.Facts] : Prop :=
  ∀ (m : (ℓ : Loc Cert.ConvBwdNormIdeal.nD Cert.ConvBwdNormIdeal.τ Cert.ConvBwdNormIdeal.sig) → Buf (Elt Ideal) ℓ) (g : Dev Cert.ConvBwdNormIdeal.nD → PrngReg), Pre_ConvBwdNormIdeal m →
    θ_run (Cert.ConvBwdNormIdeal.defs (F := Ideal)) (onTc (τ := Cert.ConvBwdNormIdeal.τ) (Cert.ConvBwdNormIdeal.main (F := Ideal))) ⟨m, fun _ => 0, g⟩ (fun r => (∀ c : Dev Cert.ConvBwdNormIdeal.nD,
      r.2.mem ((c.tc : Thread Cert.ConvBwdNormIdeal.nD Cert.ConvBwdNormIdeal.τ).loc Cert.ConvBwdNormIdeal.main_arg0) = m ((c.tc : Thread Cert.ConvBwdNormIdeal.nD Cert.ConvBwdNormIdeal.τ).loc Cert.ConvBwdNormIdeal.main_arg0)
      ∧ r.2.mem ((c.tc : Thread Cert.ConvBwdNormIdeal.nD Cert.ConvBwdNormIdeal.τ).loc Cert.ConvBwdNormIdeal.main_arg1) = m ((c.tc : Thread Cert.ConvBwdNormIdeal.nD Cert.ConvBwdNormIdeal.τ).loc Cert.ConvBwdNormIdeal.main_arg1)
      ∧ r.2.mem ((c.tc : Thread Cert.ConvBwdNormIdeal.nD Cert.ConvBwdNormIdeal.τ).loc Cert.ConvBwdNormIdeal.main_arg2) = m ((c.tc : Thread Cert.ConvBwdNormIdeal.nD Cert.ConvBwdNormIdeal.τ).loc Cert.ConvBwdNormIdeal.main_arg2)
      ∧ r.2.mem ((c.tc : Thread Cert.ConvBwdNormIdeal.nD Cert.ConvBwdNormIdeal.τ).loc Cert.ConvBwdNormIdeal.main_arg3) = m ((c.tc : Thread Cert.ConvBwdNormIdeal.nD Cert.ConvBwdNormIdeal.τ).loc Cert.ConvBwdNormIdeal.main_arg3))
      ∧ r.2.sem = fun _ => 0)

def quiescent_ConvBwdNormRefIdeal [hConvBwdNormRefIdeal : Cert.ConvBwdNormRefIdeal.Facts] : Prop :=
  ∀ (m : (ℓ : Loc Cert.ConvBwdNormRefIdeal.nD Cert.ConvBwdNormRefIdeal.τ Cert.ConvBwdNormRefIdeal.sig) → Buf (Elt Ideal) ℓ) (g : Dev Cert.ConvBwdNormRefIdeal.nD → PrngReg), Pre_ConvBwdNormRefIdeal m →
    θ_run (Cert.ConvBwdNormRefIdeal.defs (F := Ideal)) (onTc (τ := Cert.ConvBwdNormRefIdeal.τ) (Cert.ConvBwdNormRefIdeal.main (F := Ideal))) ⟨m, fun _ => 0, g⟩ (fun r => (∀ c : Dev Cert.ConvBwdNormRefIdeal.nD,
      r.2.mem ((c.tc : Thread Cert.ConvBwdNormRefIdeal.nD Cert.ConvBwdNormRefIdeal.τ).loc Cert.ConvBwdNormRefIdeal.main_arg0) = m ((c.tc : Thread Cert.ConvBwdNormRefIdeal.nD Cert.ConvBwdNormRefIdeal.τ).loc Cert.ConvBwdNormRefIdeal.main_arg0)
      ∧ r.2.mem ((c.tc : Thread Cert.ConvBwdNormRefIdeal.nD Cert.ConvBwdNormRefIdeal.τ).loc Cert.ConvBwdNormRefIdeal.main_arg1) = m ((c.tc : Thread Cert.ConvBwdNormRefIdeal.nD Cert.ConvBwdNormRefIdeal.τ).loc Cert.ConvBwdNormRefIdeal.main_arg1)
      ∧ r.2.mem ((c.tc : Thread Cert.ConvBwdNormRefIdeal.nD Cert.ConvBwdNormRefIdeal.τ).loc Cert.ConvBwdNormRefIdeal.main_arg2) = m ((c.tc : Thread Cert.ConvBwdNormRefIdeal.nD Cert.ConvBwdNormRefIdeal.τ).loc Cert.ConvBwdNormRefIdeal.main_arg2)
      ∧ r.2.mem ((c.tc : Thread Cert.ConvBwdNormRefIdeal.nD Cert.ConvBwdNormRefIdeal.τ).loc Cert.ConvBwdNormRefIdeal.main_arg3) = m ((c.tc : Thread Cert.ConvBwdNormRefIdeal.nD Cert.ConvBwdNormRefIdeal.τ).loc Cert.ConvBwdNormRefIdeal.main_arg3))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![16864, 1024]⟩ ⟨2, ![134912, 1024]⟩ 0 8 c (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.block ⟨2, ![16864, 1024]⟩ ⟨2, ![134912, 1024]⟩ 0 8 c (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Sibling_SiblingIdeal : Prop :=
  True

def algebraic_SiblingIdeal_SiblingRefIdeal [hSiblingIdeal : Cert.SiblingIdeal.Facts] [hSiblingRefIdeal : Cert.SiblingRefIdeal.Facts] : Prop :=
  ∀ (m : (ℓ : Loc Cert.SiblingIdeal.nD Cert.SiblingIdeal.τ Cert.SiblingIdeal.sig) → Buf (Elt Ideal) ℓ) (g : Dev Cert.SiblingIdeal.nD → PrngReg)
    (m' : (ℓ : Loc Cert.SiblingRefIdeal.nD Cert.SiblingRefIdeal.τ Cert.SiblingRefIdeal.sig) → Buf (Elt Ideal) ℓ) (g' : Dev Cert.SiblingRefIdeal.nD → PrngReg), Pre_SiblingIdeal m →
    (∀ c : Dev Cert.SiblingIdeal.nD,
      m ((c.tc : Thread Cert.SiblingIdeal.nD Cert.SiblingIdeal.τ).loc Cert.SiblingIdeal.main_arg0) = Layout.block ⟨3, ![8, 16864, 1024]⟩ ⟨3, ![64, 16864, 1024]⟩ 0 8 c (m' (((0 : Dev Cert.SiblingRefIdeal.nD).tc : Thread Cert.SiblingRefIdeal.nD Cert.SiblingRefIdeal.τ).loc Cert.SiblingRefIdeal.main_arg0))) →
    ∃ (v0 : Buf (Elt Ideal) (((0 : Dev Cert.SiblingRefIdeal.nD).tc : Thread Cert.SiblingRefIdeal.nD Cert.SiblingRefIdeal.τ).loc Cert.SiblingRefIdeal.main_v8)),
      θ_run (Cert.SiblingIdeal.defs (F := Ideal)) (onTc (τ := Cert.SiblingIdeal.τ) (Cert.SiblingIdeal.main (F := Ideal))) ⟨m, fun _ => 0, g⟩ (fun r => ∀ c : Dev Cert.SiblingIdeal.nD,
          r.2.mem ((c.tc : Thread Cert.SiblingIdeal.nD Cert.SiblingIdeal.τ).loc Cert.SiblingIdeal.main_v1) = Layout.block ⟨3, ![4, 16864, 1024]⟩ ⟨3, ![32, 16864, 1024]⟩ 0 8 c v0
          ∧ r.2.mem ((c.tc : Thread Cert.SiblingIdeal.nD Cert.SiblingIdeal.τ).loc Cert.SiblingIdeal.main_arg0) = m ((c.tc : Thread Cert.SiblingIdeal.nD Cert.SiblingIdeal.τ).loc Cert.SiblingIdeal.main_arg0))
      ∧ θ_run (Cert.SiblingRefIdeal.defs (F := Ideal)) (onTc (τ := Cert.SiblingRefIdeal.τ) (Cert.SiblingRefIdeal.main (F := Ideal))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_arg0) = m' (((0 : Dev Cert.SiblingRefIdeal.nD).tc : Thread Cert.SiblingRefIdeal.nD Cert.SiblingRefIdeal.τ).loc Cert.SiblingRefIdeal.main_arg0))

def bitexact_Sibling_SiblingRef [hSibling : Cert.Sibling.Facts] [hSiblingRef : Cert.SiblingRef.Facts] : Prop :=
  ∀ (m : (ℓ : Loc Cert.Sibling.nD Cert.Sibling.τ Cert.Sibling.sig) → Buf (Elt Bits) ℓ) (g : Dev Cert.Sibling.nD → PrngReg)
    (m' : (ℓ : Loc Cert.SiblingRef.nD Cert.SiblingRef.τ Cert.SiblingRef.sig) → Buf (Elt Bits) ℓ) (g' : Dev Cert.SiblingRef.nD → PrngReg), Pre_Sibling m →
    (∀ c : Dev Cert.Sibling.nD,
      m ((c.tc : Thread Cert.Sibling.nD Cert.Sibling.τ).loc Cert.Sibling.main_arg0) = Layout.block ⟨3, ![8, 16864, 1024]⟩ ⟨3, ![64, 16864, 1024]⟩ 0 8 c (m' (((0 : Dev Cert.SiblingRef.nD).tc : Thread Cert.SiblingRef.nD Cert.SiblingRef.τ).loc Cert.SiblingRef.main_arg0))) →
    ∃ (v0 : Buf (Elt Bits) (((0 : Dev Cert.SiblingRef.nD).tc : Thread Cert.SiblingRef.nD Cert.SiblingRef.τ).loc Cert.SiblingRef.main_v8)),
      θ_run (Cert.Sibling.defs (F := Bits)) (onTc (τ := Cert.Sibling.τ) (Cert.Sibling.main (F := Bits))) ⟨m, fun _ => 0, g⟩ (fun r => ∀ c : Dev Cert.Sibling.nD,
          r.2.mem ((c.tc : Thread Cert.Sibling.nD Cert.Sibling.τ).loc Cert.Sibling.main_v1) = Layout.block ⟨3, ![4, 16864, 1024]⟩ ⟨3, ![32, 16864, 1024]⟩ 0 8 c v0
          ∧ r.2.mem ((c.tc : Thread Cert.Sibling.nD Cert.Sibling.τ).loc Cert.Sibling.main_arg0) = m ((c.tc : Thread Cert.Sibling.nD Cert.Sibling.τ).loc Cert.Sibling.main_arg0))
      ∧ θ_run (Cert.SiblingRef.defs (F := Bits)) (onTc (τ := Cert.SiblingRef.τ) (Cert.SiblingRef.main (F := Bits))) ⟨m', fun _ => 0, g'⟩ (fun r =>
          r.2.mem (((0 : Dev Cert.SiblingRef.nD).tc : Thread Cert.SiblingRef.nD Cert.SiblingRef.τ).loc Cert.SiblingRef.main_v8) = v0
          ∧ r.2.mem (((0 : Dev Cert.SiblingRef.nD).tc : Thread Cert.SiblingRef.nD Cert.SiblingRef.τ).loc Cert.SiblingRef.main_arg0) = m' (((0 : Dev Cert.SiblingRef.nD).tc : Thread Cert.SiblingRef.nD Cert.SiblingRef.τ).loc Cert.SiblingRef.main_arg0))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.block ⟨3, ![4, 16864, 1024]⟩ ⟨3, ![32, 16864, 1024]⟩ 0 8 c (m' (((0 : Dev Cert.ChipsRefIdeal.nD).tc : Thread Cert.ChipsRefIdeal.nD Cert.ChipsRefIdeal.τ).loc Cert.ChipsRefIdeal.main_arg0))) →
    ∃ (v0 : Buf (Elt Ideal) (((0 : Dev Cert.ChipsRefIdeal.nD).tc : Thread Cert.ChipsRefIdeal.nD Cert.ChipsRefIdeal.τ).loc Cert.ChipsRefIdeal.main_v46)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v1) = Layout.block ⟨3, ![3, 16864, 1024]⟩ ⟨3, ![24, 16864, 1024]⟩ 0 8 c v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsRefIdeal.defs (F := Ideal)) (onTc (τ := Cert.ChipsRefIdeal.τ) (Cert.ChipsRefIdeal.main (F := Ideal))) ⟨m', fun _ => 0, g'⟩ (fun r =>
          r.2.mem (((0 : Dev Cert.ChipsRefIdeal.nD).tc : Thread Cert.ChipsRefIdeal.nD Cert.ChipsRefIdeal.τ).loc Cert.ChipsRefIdeal.main_v46) = v0
          ∧ r.2.mem (((0 : Dev Cert.ChipsRefIdeal.nD).tc : Thread Cert.ChipsRefIdeal.nD Cert.ChipsRefIdeal.τ).loc Cert.ChipsRefIdeal.main_arg0) = m' (((0 : Dev Cert.ChipsRefIdeal.nD).tc : Thread Cert.ChipsRefIdeal.nD Cert.ChipsRefIdeal.τ).loc Cert.ChipsRefIdeal.main_arg0))

def bitexact_Chips_ChipsRef [hChips : Cert.Chips.Facts] [hChipsRef : Cert.ChipsRef.Facts] : Prop :=
  ∀ (m : (ℓ : Loc Cert.Chips.nD Cert.Chips.τ Cert.Chips.sig) → Buf (Elt Bits) ℓ) (g : Dev Cert.Chips.nD → PrngReg)
    (m' : (ℓ : Loc Cert.ChipsRef.nD Cert.ChipsRef.τ Cert.ChipsRef.sig) → Buf (Elt Bits) ℓ) (g' : Dev Cert.ChipsRef.nD → PrngReg), Pre_Chips m →
    (∀ c : Dev Cert.Chips.nD,
      m ((c.tc : Thread Cert.Chips.nD Cert.Chips.τ).loc Cert.Chips.main_arg0) = Layout.block ⟨3, ![4, 16864, 1024]⟩ ⟨3, ![32, 16864, 1024]⟩ 0 8 c (m' (((0 : Dev Cert.ChipsRef.nD).tc : Thread Cert.ChipsRef.nD Cert.ChipsRef.τ).loc Cert.ChipsRef.main_arg0))) →
    ∃ (v0 : Buf (Elt Bits) (((0 : Dev Cert.ChipsRef.nD).tc : Thread Cert.ChipsRef.nD Cert.ChipsRef.τ).loc Cert.ChipsRef.main_v46)),
      θ_run (Cert.Chips.defs (F := Bits)) (onTc (τ := Cert.Chips.τ) (Cert.Chips.main (F := Bits))) ⟨m, fun _ => 0, g⟩ (fun r => ∀ c : Dev Cert.Chips.nD,
          r.2.mem ((c.tc : Thread Cert.Chips.nD Cert.Chips.τ).loc Cert.Chips.main_v1) = Layout.block ⟨3, ![3, 16864, 1024]⟩ ⟨3, ![24, 16864, 1024]⟩ 0 8 c v0
          ∧ r.2.mem ((c.tc : Thread Cert.Chips.nD Cert.Chips.τ).loc Cert.Chips.main_arg0) = m ((c.tc : Thread Cert.Chips.nD Cert.Chips.τ).loc Cert.Chips.main_arg0))
      ∧ θ_run (Cert.ChipsRef.defs (F := Bits)) (onTc (τ := Cert.ChipsRef.τ) (Cert.ChipsRef.main (F := Bits))) ⟨m', fun _ => 0, g'⟩ (fun r =>
          r.2.mem (((0 : Dev Cert.ChipsRef.nD).tc : Thread Cert.ChipsRef.nD Cert.ChipsRef.τ).loc Cert.ChipsRef.main_v46) = v0
          ∧ r.2.mem (((0 : Dev Cert.ChipsRef.nD).tc : Thread Cert.ChipsRef.nD Cert.ChipsRef.τ).loc Cert.ChipsRef.main_arg0) = m' (((0 : Dev Cert.ChipsRef.nD).tc : Thread Cert.ChipsRef.nD Cert.ChipsRef.τ).loc Cert.ChipsRef.main_arg0))

def preserves_SmallGather_SmallGatherIdeal : Prop :=
  True

def algebraic_SmallGatherIdeal_SmallGatherRefIdeal [hSmallGatherIdeal : Cert.SmallGatherIdeal.Facts] [hSmallGatherRefIdeal : Cert.SmallGatherRefIdeal.Facts] : Prop :=
  ∀ (m : (ℓ : Loc Cert.SmallGatherIdeal.nD Cert.SmallGatherIdeal.τ Cert.SmallGatherIdeal.sig) → Buf (Elt Ideal) ℓ) (g : Dev Cert.SmallGatherIdeal.nD → PrngReg)
    (m' : (ℓ : Loc Cert.SmallGatherRefIdeal.nD Cert.SmallGatherRefIdeal.τ Cert.SmallGatherRefIdeal.sig) → Buf (Elt Ideal) ℓ) (g' : Dev Cert.SmallGatherRefIdeal.nD → PrngReg), Pre_SmallGatherIdeal m →
    (∀ c : Dev Cert.SmallGatherIdeal.nD,
      m ((c.tc : Thread Cert.SmallGatherIdeal.nD Cert.SmallGatherIdeal.τ).loc Cert.SmallGatherIdeal.main_arg0) = Layout.block ⟨2, ![2496, 128]⟩ ⟨2, ![19968, 128]⟩ 0 8 c (m' (((0 : Dev Cert.SmallGatherRefIdeal.nD).tc : Thread Cert.SmallGatherRefIdeal.nD Cert.SmallGatherRefIdeal.τ).loc Cert.SmallGatherRefIdeal.main_arg0))) →
    ∃ (v0 : Buf (Elt Ideal) (((0 : Dev Cert.SmallGatherRefIdeal.nD).tc : Thread Cert.SmallGatherRefIdeal.nD Cert.SmallGatherRefIdeal.τ).loc Cert.SmallGatherRefIdeal.main_v0)),
      θ_run (Cert.SmallGatherIdeal.defs (F := Ideal)) (onTc (τ := Cert.SmallGatherIdeal.τ) (Cert.SmallGatherIdeal.main (F := Ideal))) ⟨m, fun _ => 0, g⟩ (fun r => ∀ c : Dev Cert.SmallGatherIdeal.nD,
          r.2.mem ((c.tc : Thread Cert.SmallGatherIdeal.nD Cert.SmallGatherIdeal.τ).loc Cert.SmallGatherIdeal.main_v1) = v0
          ∧ r.2.mem ((c.tc : Thread Cert.SmallGatherIdeal.nD Cert.SmallGatherIdeal.τ).loc Cert.SmallGatherIdeal.main_arg0) = m ((c.tc : Thread Cert.SmallGatherIdeal.nD Cert.SmallGatherIdeal.τ).loc Cert.SmallGatherIdeal.main_arg0))
      ∧ θ_run (Cert.SmallGatherRefIdeal.defs (F := Ideal)) (onTc (τ := Cert.SmallGatherRefIdeal.τ) (Cert.SmallGatherRefIdeal.main (F := Ideal))) ⟨m', fun _ => 0, g'⟩ (fun r =>
          r.2.mem (((0 : Dev Cert.SmallGatherRefIdeal.nD).tc : Thread Cert.SmallGatherRefIdeal.nD Cert.SmallGatherRefIdeal.τ).loc Cert.SmallGatherRefIdeal.main_v0) = v0
          ∧ r.2.mem (((0 : Dev Cert.SmallGatherRefIdeal.nD).tc : Thread Cert.SmallGatherRefIdeal.nD Cert.SmallGatherRefIdeal.τ).loc Cert.SmallGatherRefIdeal.main_arg0) = m' (((0 : Dev Cert.SmallGatherRefIdeal.nD).tc : Thread Cert.SmallGatherRefIdeal.nD Cert.SmallGatherRefIdeal.τ).loc Cert.SmallGatherRefIdeal.main_arg0))

def bitexact_SmallGather_SmallGatherRef [hSmallGather : Cert.SmallGather.Facts] [hSmallGatherRef : Cert.SmallGatherRef.Facts] : Prop :=
  ∀ (m : (ℓ : Loc Cert.SmallGather.nD Cert.SmallGather.τ Cert.SmallGather.sig) → Buf (Elt Bits) ℓ) (g : Dev Cert.SmallGather.nD → PrngReg)
    (m' : (ℓ : Loc Cert.SmallGatherRef.nD Cert.SmallGatherRef.τ Cert.SmallGatherRef.sig) → Buf (Elt Bits) ℓ) (g' : Dev Cert.SmallGatherRef.nD → PrngReg), Pre_SmallGather m →
    (∀ c : Dev Cert.SmallGather.nD,
      m ((c.tc : Thread Cert.SmallGather.nD Cert.SmallGather.τ).loc Cert.SmallGather.main_arg0) = Layout.block ⟨2, ![2496, 128]⟩ ⟨2, ![19968, 128]⟩ 0 8 c (m' (((0 : Dev Cert.SmallGatherRef.nD).tc : Thread Cert.SmallGatherRef.nD Cert.SmallGatherRef.τ).loc Cert.SmallGatherRef.main_arg0))) →
    ∃ (v0 : Buf (Elt Bits) (((0 : Dev Cert.SmallGatherRef.nD).tc : Thread Cert.SmallGatherRef.nD Cert.SmallGatherRef.τ).loc Cert.SmallGatherRef.main_v0)),
      θ_run (Cert.SmallGather.defs (F := Bits)) (onTc (τ := Cert.SmallGather.τ) (Cert.SmallGather.main (F := Bits))) ⟨m, fun _ => 0, g⟩ (fun r => ∀ c : Dev Cert.SmallGather.nD,
          r.2.mem ((c.tc : Thread Cert.SmallGather.nD Cert.SmallGather.τ).loc Cert.SmallGather.main_v1) = v0
          ∧ r.2.mem ((c.tc : Thread Cert.SmallGather.nD Cert.SmallGather.τ).loc Cert.SmallGather.main_arg0) = m ((c.tc : Thread Cert.SmallGather.nD Cert.SmallGather.τ).loc Cert.SmallGather.main_arg0))
      ∧ θ_run (Cert.SmallGatherRef.defs (F := Bits)) (onTc (τ := Cert.SmallGatherRef.τ) (Cert.SmallGatherRef.main (F := Bits))) ⟨m', fun _ => 0, g'⟩ (fun r =>
          r.2.mem (((0 : Dev Cert.SmallGatherRef.nD).tc : Thread Cert.SmallGatherRef.nD Cert.SmallGatherRef.τ).loc Cert.SmallGatherRef.main_v0) = v0
          ∧ r.2.mem (((0 : Dev Cert.SmallGatherRef.nD).tc : Thread Cert.SmallGatherRef.nD Cert.SmallGatherRef.τ).loc Cert.SmallGatherRef.main_arg0) = m' (((0 : Dev Cert.SmallGatherRef.nD).tc : Thread Cert.SmallGatherRef.nD Cert.SmallGatherRef.τ).loc Cert.SmallGatherRef.main_arg0))

def preserves_TapsGather_TapsGatherIdeal : Prop :=
  True

def algebraic_TapsGatherIdeal_TapsGatherRefIdeal [hTapsGatherIdeal : Cert.TapsGatherIdeal.Facts] [hTapsGatherRefIdeal : Cert.TapsGatherRefIdeal.Facts] : Prop :=
  ∀ (m : (ℓ : Loc Cert.TapsGatherIdeal.nD Cert.TapsGatherIdeal.τ Cert.TapsGatherIdeal.sig) → Buf (Elt Ideal) ℓ) (g : Dev Cert.TapsGatherIdeal.nD → PrngReg)
    (m' : (ℓ : Loc Cert.TapsGatherRefIdeal.nD Cert.TapsGatherRefIdeal.τ Cert.TapsGatherRefIdeal.sig) → Buf (Elt Ideal) ℓ) (g' : Dev Cert.TapsGatherRefIdeal.nD → PrngReg), Pre_TapsGatherIdeal m →
    (∀ c : Dev Cert.TapsGatherIdeal.nD,
      m ((c.tc : Thread Cert.TapsGatherIdeal.nD Cert.TapsGatherIdeal.τ).loc Cert.TapsGatherIdeal.main_arg0) = Layout.block ⟨2, ![32, 128]⟩ ⟨2, ![256, 128]⟩ 0 8 c (m' (((0 : Dev Cert.TapsGatherRefIdeal.nD).tc : Thread Cert.TapsGatherRefIdeal.nD Cert.TapsGatherRefIdeal.τ).loc Cert.TapsGatherRefIdeal.main_arg0))) →
    ∃ (v0 : Buf (Elt Ideal) (((0 : Dev Cert.TapsGatherRefIdeal.nD).tc : Thread Cert.TapsGatherRefIdeal.nD Cert.TapsGatherRefIdeal.τ).loc Cert.TapsGatherRefIdeal.main_v0)),
      θ_run (Cert.TapsGatherIdeal.defs (F := Ideal)) (onTc (τ := Cert.TapsGatherIdeal.τ) (Cert.TapsGatherIdeal.main (F := Ideal))) ⟨m, fun _ => 0, g⟩ (fun r => ∀ c : Dev Cert.TapsGatherIdeal.nD,
          r.2.mem ((c.tc : Thread Cert.TapsGatherIdeal.nD Cert.TapsGatherIdeal.τ).loc Cert.TapsGatherIdeal.main_v1) = v0
          ∧ r.2.mem ((c.tc : Thread Cert.TapsGatherIdeal.nD Cert.TapsGatherIdeal.τ).loc Cert.TapsGatherIdeal.main_arg0) = m ((c.tc : Thread Cert.TapsGatherIdeal.nD Cert.TapsGatherIdeal.τ).loc Cert.TapsGatherIdeal.main_arg0))
      ∧ θ_run (Cert.TapsGatherRefIdeal.defs (F := Ideal)) (onTc (τ := Cert.TapsGatherRefIdeal.τ) (Cert.TapsGatherRefIdeal.main (F := Ideal))) ⟨m', fun _ => 0, g'⟩ (fun r =>
          r.2.mem (((0 : Dev Cert.TapsGatherRefIdeal.nD).tc : Thread Cert.TapsGatherRefIdeal.nD Cert.TapsGatherRefIdeal.τ).loc Cert.TapsGatherRefIdeal.main_v0) = v0
          ∧ r.2.mem (((0 : Dev Cert.TapsGatherRefIdeal.nD).tc : Thread Cert.TapsGatherRefIdeal.nD Cert.TapsGatherRefIdeal.τ).loc Cert.TapsGatherRefIdeal.main_arg0) = m' (((0 : Dev Cert.TapsGatherRefIdeal.nD).tc : Thread Cert.TapsGatherRefIdeal.nD Cert.TapsGatherRefIdeal.τ).loc Cert.TapsGatherRefIdeal.main_arg0))

def bitexact_TapsGather_TapsGatherRef [hTapsGather : Cert.TapsGather.Facts] [hTapsGatherRef : Cert.TapsGatherRef.Facts] : Prop :=
  ∀ (m : (ℓ : Loc Cert.TapsGather.nD Cert.TapsGather.τ Cert.TapsGather.sig) → Buf (Elt Bits) ℓ) (g : Dev Cert.TapsGather.nD → PrngReg)
    (m' : (ℓ : Loc Cert.TapsGatherRef.nD Cert.TapsGatherRef.τ Cert.TapsGatherRef.sig) → Buf (Elt Bits) ℓ) (g' : Dev Cert.TapsGatherRef.nD → PrngReg), Pre_TapsGather m →
    (∀ c : Dev Cert.TapsGather.nD,
      m ((c.tc : Thread Cert.TapsGather.nD Cert.TapsGather.τ).loc Cert.TapsGather.main_arg0) = Layout.block ⟨2, ![32, 128]⟩ ⟨2, ![256, 128]⟩ 0 8 c (m' (((0 : Dev Cert.TapsGatherRef.nD).tc : Thread Cert.TapsGatherRef.nD Cert.TapsGatherRef.τ).loc Cert.TapsGatherRef.main_arg0))) →
    ∃ (v0 : Buf (Elt Bits) (((0 : Dev Cert.TapsGatherRef.nD).tc : Thread Cert.TapsGatherRef.nD Cert.TapsGatherRef.τ).loc Cert.TapsGatherRef.main_v0)),
      θ_run (Cert.TapsGather.defs (F := Bits)) (onTc (τ := Cert.TapsGather.τ) (Cert.TapsGather.main (F := Bits))) ⟨m, fun _ => 0, g⟩ (fun r => ∀ c : Dev Cert.TapsGather.nD,
          r.2.mem ((c.tc : Thread Cert.TapsGather.nD Cert.TapsGather.τ).loc Cert.TapsGather.main_v1) = v0
          ∧ r.2.mem ((c.tc : Thread Cert.TapsGather.nD Cert.TapsGather.τ).loc Cert.TapsGather.main_arg0) = m ((c.tc : Thread Cert.TapsGather.nD Cert.TapsGather.τ).loc Cert.TapsGather.main_arg0))
      ∧ θ_run (Cert.TapsGatherRef.defs (F := Bits)) (onTc (τ := Cert.TapsGatherRef.τ) (Cert.TapsGatherRef.main (F := Bits))) ⟨m', fun _ => 0, g'⟩ (fun r =>
          r.2.mem (((0 : Dev Cert.TapsGatherRef.nD).tc : Thread Cert.TapsGatherRef.nD Cert.TapsGatherRef.τ).loc Cert.TapsGatherRef.main_v0) = v0
          ∧ r.2.mem (((0 : Dev Cert.TapsGatherRef.nD).tc : Thread Cert.TapsGatherRef.nD Cert.TapsGatherRef.τ).loc Cert.TapsGatherRef.main_arg0) = m' (((0 : Dev Cert.TapsGatherRef.nD).tc : Thread Cert.TapsGatherRef.nD Cert.TapsGatherRef.τ).loc Cert.TapsGatherRef.main_arg0))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)
      ∧ m' ((c.tc : Thread Cert.ChipSumRefIdeal.nD Cert.ChipSumRefIdeal.τ).loc Cert.ChipSumRefIdeal.main_arg1) = m ((c.tc : Thread Cert.ChipSumIdeal.nD Cert.ChipSumIdeal.τ).loc Cert.ChipSumIdeal.main_arg1)) →
    ∃ (v0 : (c : Dev Cert.ChipSumIdeal.nD) → Buf (Elt Ideal) ((c.tc : Thread Cert.ChipSumIdeal.nD Cert.ChipSumIdeal.τ).loc Cert.ChipSumIdeal.main_v1)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v1) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v6) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0)
          ∧ r.2.mem ((c.tc : Thread Cert.ChipSumRefIdeal.nD Cert.ChipSumRefIdeal.τ).loc Cert.ChipSumRefIdeal.main_arg1) = m' ((c.tc : Thread Cert.ChipSumRefIdeal.nD Cert.ChipSumRefIdeal.τ).loc Cert.ChipSumRefIdeal.main_arg1))

def bitexact_ChipSum_ChipSumRef [hChipSum : Cert.ChipSum.Facts] [hChipSumRef : Cert.ChipSumRef.Facts] : Prop :=
  ∀ (m : (ℓ : Loc Cert.ChipSum.nD Cert.ChipSum.τ Cert.ChipSum.sig) → Buf (Elt Bits) ℓ) (g : Dev Cert.ChipSum.nD → PrngReg)
    (m' : (ℓ : Loc Cert.ChipSumRef.nD Cert.ChipSumRef.τ Cert.ChipSumRef.sig) → Buf (Elt Bits) ℓ) (g' : Dev Cert.ChipSumRef.nD → PrngReg), Pre_ChipSum m →
    (∀ c : Dev Cert.ChipSum.nD,
      m' ((c.tc : Thread Cert.ChipSumRef.nD Cert.ChipSumRef.τ).loc Cert.ChipSumRef.main_arg0) = m ((c.tc : Thread Cert.ChipSum.nD Cert.ChipSum.τ).loc Cert.ChipSum.main_arg0)
      ∧ m' ((c.tc : Thread Cert.ChipSumRef.nD Cert.ChipSumRef.τ).loc Cert.ChipSumRef.main_arg1) = m ((c.tc : Thread Cert.ChipSum.nD Cert.ChipSum.τ).loc Cert.ChipSum.main_arg1)) →
    ∃ (v0 : (c : Dev Cert.ChipSum.nD) → Buf (Elt Bits) ((c.tc : Thread Cert.ChipSum.nD Cert.ChipSum.τ).loc Cert.ChipSum.main_v1)),
      θ_run (Cert.ChipSum.defs (F := Bits)) (onTc (τ := Cert.ChipSum.τ) (Cert.ChipSum.main (F := Bits))) ⟨m, fun _ => 0, g⟩ (fun r => ∀ c : Dev Cert.ChipSum.nD,
          r.2.mem ((c.tc : Thread Cert.ChipSum.nD Cert.ChipSum.τ).loc Cert.ChipSum.main_v1) = v0 c
          ∧ r.2.mem ((c.tc : Thread Cert.ChipSum.nD Cert.ChipSum.τ).loc Cert.ChipSum.main_arg0) = m ((c.tc : Thread Cert.ChipSum.nD Cert.ChipSum.τ).loc Cert.ChipSum.main_arg0)
          ∧ r.2.mem ((c.tc : Thread Cert.ChipSum.nD Cert.ChipSum.τ).loc Cert.ChipSum.main_arg1) = m ((c.tc : Thread Cert.ChipSum.nD Cert.ChipSum.τ).loc Cert.ChipSum.main_arg1))
      ∧ θ_run (Cert.ChipSumRef.defs (F := Bits)) (onTc (τ := Cert.ChipSumRef.τ) (Cert.ChipSumRef.main (F := Bits))) ⟨m', fun _ => 0, g'⟩ (fun r => ∀ c : Dev Cert.ChipSumRef.nD,
          r.2.mem ((c.tc : Thread Cert.ChipSumRef.nD Cert.ChipSumRef.τ).loc Cert.ChipSumRef.main_v6) = v0 c
          ∧ r.2.mem ((c.tc : Thread Cert.ChipSumRef.nD Cert.ChipSumRef.τ).loc Cert.ChipSumRef.main_arg0) = m' ((c.tc : Thread Cert.ChipSumRef.nD Cert.ChipSumRef.τ).loc Cert.ChipSumRef.main_arg0)
          ∧ r.2.mem ((c.tc : Thread Cert.ChipSumRef.nD Cert.ChipSumRef.τ).loc Cert.ChipSumRef.main_arg1) = m' ((c.tc : Thread Cert.ChipSumRef.nD Cert.ChipSumRef.τ).loc Cert.ChipSumRef.main_arg1))

def preserves_AdamBig_AdamBigIdeal : Prop :=
  True

def algebraic_AdamBigIdeal_AdamBigRefIdeal [hAdamBigIdeal : Cert.AdamBigIdeal.Facts] [hAdamBigRefIdeal : Cert.AdamBigRefIdeal.Facts] : Prop :=
  ∀ (m : (ℓ : Loc Cert.AdamBigIdeal.nD Cert.AdamBigIdeal.τ Cert.AdamBigIdeal.sig) → Buf (Elt Ideal) ℓ) (g : Dev Cert.AdamBigIdeal.nD → PrngReg)
    (m' : (ℓ : Loc Cert.AdamBigRefIdeal.nD Cert.AdamBigRefIdeal.τ Cert.AdamBigRefIdeal.sig) → Buf (Elt Ideal) ℓ) (g' : Dev Cert.AdamBigRefIdeal.nD → PrngReg), Pre_AdamBigIdeal m →
    (∀ c : Dev Cert.AdamBigIdeal.nD,
      m' ((c.tc : Thread Cert.AdamBigRefIdeal.nD Cert.AdamBigRefIdeal.τ).loc Cert.AdamBigRefIdeal.main_arg0) = m ((c.tc : Thread Cert.AdamBigIdeal.nD Cert.AdamBigIdeal.τ).loc Cert.AdamBigIdeal.main_arg0)
      ∧ m' ((c.tc : Thread Cert.AdamBigRefIdeal.nD Cert.AdamBigRefIdeal.τ).loc Cert.AdamBigRefIdeal.main_arg1) = m ((c.tc : Thread Cert.AdamBigIdeal.nD Cert.AdamBigIdeal.τ).loc Cert.AdamBigIdeal.main_arg1)
      ∧ m' ((c.tc : Thread Cert.AdamBigRefIdeal.nD Cert.AdamBigRefIdeal.τ).loc Cert.AdamBigRefIdeal.main_arg2) = m ((c.tc : Thread Cert.AdamBigIdeal.nD Cert.AdamBigIdeal.τ).loc Cert.AdamBigIdeal.main_arg2)
      ∧ m' ((c.tc : Thread Cert.AdamBigRefIdeal.nD Cert.AdamBigRefIdeal.τ).loc Cert.AdamBigRefIdeal.main_arg3) = m ((c.tc : Thread Cert.AdamBigIdeal.nD Cert.AdamBigIdeal.τ).loc Cert.AdamBigIdeal.main_arg3)
      ∧ m' ((c.tc : Thread Cert.AdamBigRefIdeal.nD Cert.AdamBigRefIdeal.τ).loc Cert.AdamBigRefIdeal.main_arg4) = m ((c.tc : Thread Cert.AdamBigIdeal.nD Cert.AdamBigIdeal.τ).loc Cert.AdamBigIdeal.main_arg4)) →
    ∃ (v0 : (c : Dev Cert.AdamBigIdeal.nD) → Buf (Elt Ideal) ((c.tc : Thread Cert.AdamBigIdeal.nD Cert.AdamBigIdeal.τ).loc Cert.AdamBigIdeal.main_v3_0)) (v1 : (c : Dev Cert.AdamBigIdeal.nD) → Buf (Elt Ideal) ((c.tc : Thread Cert.AdamBigIdeal.nD Cert.AdamBigIdeal.τ).loc Cert.AdamBigIdeal.main_v3_1)) (v2 : (c : Dev Cert.AdamBigIdeal.nD) → Buf (Elt Ideal) ((c.tc : Thread Cert.AdamBigIdeal.nD Cert.AdamBigIdeal.τ).loc Cert.AdamBigIdeal.main_v3_2)) (v3 : (c : Dev Cert.AdamBigIdeal.nD) → Buf (Elt Ideal) ((c.tc : Thread Cert.AdamBigIdeal.nD Cert.AdamBigIdeal.τ).loc Cert.AdamBigIdeal.main_v3_3)),
      θ_run (Cert.AdamBigIdeal.defs (F := Ideal)) (onTc (τ := Cert.AdamBigIdeal.τ) (Cert.AdamBigIdeal.main (F := Ideal))) ⟨m, fun _ => 0, g⟩ (fun r => ∀ c : Dev Cert.AdamBigIdeal.nD,
          r.2.mem ((c.tc : Thread Cert.AdamBigIdeal.nD Cert.AdamBigIdeal.τ).loc Cert.AdamBigIdeal.main_v3_0) = v0 c
          ∧ r.2.mem ((c.tc : Thread Cert.AdamBigIdeal.nD Cert.AdamBigIdeal.τ).loc Cert.AdamBigIdeal.main_v3_1) = v1 c
          ∧ r.2.mem ((c.tc : Thread Cert.AdamBigIdeal.nD Cert.AdamBigIdeal.τ).loc Cert.AdamBigIdeal.main_v3_2) = v2 c
          ∧ r.2.mem ((c.tc : Thread Cert.AdamBigIdeal.nD Cert.AdamBigIdeal.τ).loc Cert.AdamBigIdeal.main_v3_3) = v3 c
          ∧ r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
          ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
          ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
          ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
          ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4))
      ∧ θ_run (Cert.AdamBigRefIdeal.defs (F := Ideal)) (onTc (τ := Cert.AdamBigRefIdeal.τ) (Cert.AdamBigRefIdeal.main (F := Ideal))) ⟨m', fun _ => 0, g'⟩ (fun r => ∀ c : Dev Cert.AdamBigRefIdeal.nD,
          r.2.mem ((c.tc : Thread Cert.AdamBigRefIdeal.nD Cert.AdamBigRefIdeal.τ).loc Cert.AdamBigRefIdeal.main_v5) = v0 c
          ∧ r.2.mem ((c.tc : Thread Cert.AdamBigRefIdeal.nD Cert.AdamBigRefIdeal.τ).loc Cert.AdamBigRefIdeal.main_v29) = v1 c
          ∧ r.2.mem ((c.tc : Thread Cert.AdamBigRefIdeal.nD Cert.AdamBigRefIdeal.τ).loc Cert.AdamBigRefIdeal.main_v10) = v2 c
          ∧ r.2.mem ((c.tc : Thread Cert.AdamBigRefIdeal.nD Cert.AdamBigRefIdeal.τ).loc Cert.AdamBigRefIdeal.main_v16) = v3 c
          ∧ r.2.mem ((c.tc : Thread Cert.AdamBigRefIdeal.nD Cert.AdamBigRefIdeal.τ).loc Cert.AdamBigRefIdeal.main_arg0) = m' ((c.tc : Thread Cert.AdamBigRefIdeal.nD Cert.AdamBigRefIdeal.τ).loc Cert.AdamBigRefIdeal.main_arg0)
          ∧ r.2.mem ((c.tc : Thread Cert.AdamBigRefIdeal.nD Cert.AdamBigRefIdeal.τ).loc Cert.AdamBigRefIdeal.main_arg1) = m' ((c.tc : Thread Cert.AdamBigRefIdeal.nD Cert.AdamBigRefIdeal.τ).loc Cert.AdamBigRefIdeal.main_arg1)
          ∧ r.2.mem ((c.tc : Thread Cert.AdamBigRefIdeal.nD Cert.AdamBigRefIdeal.τ).loc Cert.AdamBigRefIdeal.main_arg2) = m' ((c.tc : Thread Cert.AdamBigRefIdeal.nD Cert.AdamBigRefIdeal.τ).loc Cert.AdamBigRefIdeal.main_arg2)
          ∧ r.2.mem ((c.tc : Thread Cert.AdamBigRefIdeal.nD Cert.AdamBigRefIdeal.τ).loc Cert.AdamBigRefIdeal.main_arg3) = m' ((c.tc : Thread Cert.AdamBigRefIdeal.nD Cert.AdamBigRefIdeal.τ).loc Cert.AdamBigRefIdeal.main_arg3)
          ∧ r.2.mem ((c.tc : Thread Cert.AdamBigRefIdeal.nD Cert.AdamBigRefIdeal.τ).loc Cert.AdamBigRefIdeal.main_arg4) = m' ((c.tc : Thread Cert.AdamBigRefIdeal.nD Cert.AdamBigRefIdeal.τ).loc Cert.AdamBigRefIdeal.main_arg4))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_v23) = v0 c
          ∧ r.2.mem ((c.tc : Thread Cert.AdamTapsRefIdeal.nD Cert.AdamTapsRefIdeal.τ).loc Cert.AdamTapsRefIdeal.main_v4) = v1 c
          ∧ r.2.mem ((c.tc : Thread Cert.AdamTapsRefIdeal.nD Cert.AdamTapsRefIdeal.τ).loc Cert.AdamTapsRefIdeal.main_v10) = v2 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_PreBwd_PreBwdIdeal : Prop :=
  True

def algebraic_PreBwdIdeal_PreBwdRefIdeal [hPreBwdIdeal : Cert.PreBwdIdeal.Facts] [hPreBwdRefIdeal : Cert.PreBwdRefIdeal.Facts] : Prop :=
  ∀ (m : (ℓ : Loc Cert.PreBwdIdeal.nD Cert.PreBwdIdeal.τ Cert.PreBwdIdeal.sig) → Buf (Elt Ideal) ℓ) (g : Dev Cert.PreBwdIdeal.nD → PrngReg)
    (m' : (ℓ : Loc Cert.PreBwdRefIdeal.nD Cert.PreBwdRefIdeal.τ Cert.PreBwdRefIdeal.sig) → Buf (Elt Ideal) ℓ) (g' : Dev Cert.PreBwdRefIdeal.nD → PrngReg), Pre_PreBwdIdeal m →
    (∀ c : Dev Cert.PreBwdIdeal.nD,
      m' ((c.tc : Thread Cert.PreBwdRefIdeal.nD Cert.PreBwdRefIdeal.τ).loc Cert.PreBwdRefIdeal.main_arg0) = m ((c.tc : Thread Cert.PreBwdIdeal.nD Cert.PreBwdIdeal.τ).loc Cert.PreBwdIdeal.main_arg0)
      ∧ m' ((c.tc : Thread Cert.PreBwdRefIdeal.nD Cert.PreBwdRefIdeal.τ).loc Cert.PreBwdRefIdeal.main_arg1) = m ((c.tc : Thread Cert.PreBwdIdeal.nD Cert.PreBwdIdeal.τ).loc Cert.PreBwdIdeal.main_arg1)
      ∧ m' ((c.tc : Thread Cert.PreBwdRefIdeal.nD Cert.PreBwdRefIdeal.τ).loc Cert.PreBwdRefIdeal.main_arg2) = m ((c.tc : Thread Cert.PreBwdIdeal.nD Cert.PreBwdIdeal.τ).loc Cert.PreBwdIdeal.main_arg2)
      ∧ m' ((c.tc : Thread Cert.PreBwdRefIdeal.nD Cert.PreBwdRefIdeal.τ).loc Cert.PreBwdRefIdeal.main_arg3) = m ((c.tc : Thread Cert.PreBwdIdeal.nD Cert.PreBwdIdeal.τ).loc Cert.PreBwdIdeal.main_arg3)) →
    ∃ (v0 : (c : Dev Cert.PreBwdIdeal.nD) → Buf (Elt Ideal) ((c.tc : Thread Cert.PreBwdIdeal.nD Cert.PreBwdIdeal.τ).loc Cert.PreBwdIdeal.main_v0_0)) (v1 : (c : Dev Cert.PreBwdIdeal.nD) → Buf (Elt Ideal) ((c.tc : Thread Cert.PreBwdIdeal.nD Cert.PreBwdIdeal.τ).loc Cert.PreBwdIdeal.main_v0_1)),
      θ_run (Cert.PreBwdIdeal.defs (F := Ideal)) (onTc (τ := Cert.PreBwdIdeal.τ) (Cert.PreBwdIdeal.main (F := Ideal))) ⟨m, fun _ => 0, g⟩ (fun r => ∀ c : Dev Cert.PreBwdIdeal.nD,
          r.2.mem ((c.tc : Thread Cert.PreBwdIdeal.nD Cert.PreBwdIdeal.τ).loc Cert.PreBwdIdeal.main_v0_0) = v0 c
          ∧ r.2.mem ((c.tc : Thread Cert.PreBwdIdeal.nD Cert.PreBwdIdeal.τ).loc Cert.PreBwdIdeal.main_v0_1) = v1 c
          ∧ r.2.mem ((c.tc : Thread Cert.PreBwdIdeal.nD Cert.PreBwdIdeal.τ).loc Cert.PreBwdIdeal.main_arg0) = m ((c.tc : Thread Cert.PreBwdIdeal.nD Cert.PreBwdIdeal.τ).loc Cert.PreBwdIdeal.main_arg0)
          ∧ r.2.mem ((c.tc : Thread Cert.PreBwdIdeal.nD Cert.PreBwdIdeal.τ).loc Cert.PreBwdIdeal.main_arg1) = m ((c.tc : Thread Cert.PreBwdIdeal.nD Cert.PreBwdIdeal.τ).loc Cert.PreBwdIdeal.main_arg1)
          ∧ r.2.mem ((c.tc : Thread Cert.PreBwdIdeal.nD Cert.PreBwdIdeal.τ).loc Cert.PreBwdIdeal.main_arg2) = m ((c.tc : Thread Cert.PreBwdIdeal.nD Cert.PreBwdIdeal.τ).loc Cert.PreBwdIdeal.main_arg2)
          ∧ r.2.mem ((c.tc : Thread Cert.PreBwdIdeal.nD Cert.PreBwdIdeal.τ).loc Cert.PreBwdIdeal.main_arg3) = m ((c.tc : Thread Cert.PreBwdIdeal.nD Cert.PreBwdIdeal.τ).loc Cert.PreBwdIdeal.main_arg3))
      ∧ θ_run (Cert.PreBwdRefIdeal.defs (F := Ideal)) (onTc (τ := Cert.PreBwdRefIdeal.τ) (Cert.PreBwdRefIdeal.main (F := Ideal))) ⟨m', fun _ => 0, g'⟩ (fun r => ∀ c : Dev Cert.PreBwdRefIdeal.nD,
          r.2.mem ((c.tc : Thread Cert.PreBwdRefIdeal.nD Cert.PreBwdRefIdeal.τ).loc Cert.PreBwdRefIdeal.main_v31) = v0 c
          ∧ r.2.mem ((c.tc : Thread Cert.PreBwdRefIdeal.nD Cert.PreBwdRefIdeal.τ).loc Cert.PreBwdRefIdeal.main_v30) = v1 c
          ∧ r.2.mem ((c.tc : Thread Cert.PreBwdRefIdeal.nD Cert.PreBwdRefIdeal.τ).loc Cert.PreBwdRefIdeal.main_arg0) = m' ((c.tc : Thread Cert.PreBwdRefIdeal.nD Cert.PreBwdRefIdeal.τ).loc Cert.PreBwdRefIdeal.main_arg0)
          ∧ r.2.mem ((c.tc : Thread Cert.PreBwdRefIdeal.nD Cert.PreBwdRefIdeal.τ).loc Cert.PreBwdRefIdeal.main_arg1) = m' ((c.tc : Thread Cert.PreBwdRefIdeal.nD Cert.PreBwdRefIdeal.τ).loc Cert.PreBwdRefIdeal.main_arg1)
          ∧ r.2.mem ((c.tc : Thread Cert.PreBwdRefIdeal.nD Cert.PreBwdRefIdeal.τ).loc Cert.PreBwdRefIdeal.main_arg2) = m' ((c.tc : Thread Cert.PreBwdRefIdeal.nD Cert.PreBwdRefIdeal.τ).loc Cert.PreBwdRefIdeal.main_arg2)
          ∧ r.2.mem ((c.tc : Thread Cert.PreBwdRefIdeal.nD Cert.PreBwdRefIdeal.τ).loc Cert.PreBwdRefIdeal.main_arg3) = m' ((c.tc : Thread Cert.PreBwdRefIdeal.nD Cert.PreBwdRefIdeal.τ).loc Cert.PreBwdRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v21) = v0 c
          ∧ r.2.mem ((c.tc : Thread Cert.FinalLossRefIdeal.nD Cert.FinalLossRefIdeal.τ).loc Cert.FinalLossRefIdeal.main_v53) = v1 c
          ∧ r.2.mem ((c.tc : Thread Cert.FinalLossRefIdeal.nD Cert.FinalLossRefIdeal.τ).loc Cert.FinalLossRefIdeal.main_v52) = v2 c
          ∧ r.2.mem ((c.tc : Thread Cert.FinalLossRefIdeal.nD Cert.FinalLossRefIdeal.τ).loc Cert.FinalLossRefIdeal.main_v54) = v3 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v0)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v0) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v12) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_PostPre_PostPreIdeal : Prop :=
  True

def algebraic_PostPreIdeal_PostPreRefIdeal [hPostPreIdeal : Cert.PostPreIdeal.Facts] [hPostPreRefIdeal : Cert.PostPreRefIdeal.Facts] : Prop :=
  ∀ (m : (ℓ : Loc Cert.PostPreIdeal.nD Cert.PostPreIdeal.τ Cert.PostPreIdeal.sig) → Buf (Elt Ideal) ℓ) (g : Dev Cert.PostPreIdeal.nD → PrngReg)
    (m' : (ℓ : Loc Cert.PostPreRefIdeal.nD Cert.PostPreRefIdeal.τ Cert.PostPreRefIdeal.sig) → Buf (Elt Ideal) ℓ) (g' : Dev Cert.PostPreRefIdeal.nD → PrngReg), Pre_PostPreIdeal m →
    (∀ c : Dev Cert.PostPreIdeal.nD,
      m' ((c.tc : Thread Cert.PostPreRefIdeal.nD Cert.PostPreRefIdeal.τ).loc Cert.PostPreRefIdeal.main_arg0) = m ((c.tc : Thread Cert.PostPreIdeal.nD Cert.PostPreIdeal.τ).loc Cert.PostPreIdeal.main_arg0)
      ∧ m' ((c.tc : Thread Cert.PostPreRefIdeal.nD Cert.PostPreRefIdeal.τ).loc Cert.PostPreRefIdeal.main_arg1) = m ((c.tc : Thread Cert.PostPreIdeal.nD Cert.PostPreIdeal.τ).loc Cert.PostPreIdeal.main_arg1)
      ∧ m' ((c.tc : Thread Cert.PostPreRefIdeal.nD Cert.PostPreRefIdeal.τ).loc Cert.PostPreRefIdeal.main_arg2) = m ((c.tc : Thread Cert.PostPreIdeal.nD Cert.PostPreIdeal.τ).loc Cert.PostPreIdeal.main_arg2)
      ∧ m' ((c.tc : Thread Cert.PostPreRefIdeal.nD Cert.PostPreRefIdeal.τ).loc Cert.PostPreRefIdeal.main_arg3) = m ((c.tc : Thread Cert.PostPreIdeal.nD Cert.PostPreIdeal.τ).loc Cert.PostPreIdeal.main_arg3)) →
    ∃ (v0 : (c : Dev Cert.PostPreIdeal.nD) → Buf (Elt Ideal) ((c.tc : Thread Cert.PostPreIdeal.nD Cert.PostPreIdeal.τ).loc Cert.PostPreIdeal.main_v0_0)) (v1 : (c : Dev Cert.PostPreIdeal.nD) → Buf (Elt Ideal) ((c.tc : Thread Cert.PostPreIdeal.nD Cert.PostPreIdeal.τ).loc Cert.PostPreIdeal.main_v0_1)),
      θ_run (Cert.PostPreIdeal.defs (F := Ideal)) (onTc (τ := Cert.PostPreIdeal.τ) (Cert.PostPreIdeal.main (F := Ideal))) ⟨m, fun _ => 0, g⟩ (fun r => ∀ c : Dev Cert.PostPreIdeal.nD,
          r.2.mem ((c.tc : Thread Cert.PostPreIdeal.nD Cert.PostPreIdeal.τ).loc Cert.PostPreIdeal.main_v0_0) = v0 c
          ∧ r.2.mem ((c.tc : Thread Cert.PostPreIdeal.nD Cert.PostPreIdeal.τ).loc Cert.PostPreIdeal.main_v0_1) = v1 c
          ∧ r.2.mem ((c.tc : Thread Cert.PostPreIdeal.nD Cert.PostPreIdeal.τ).loc Cert.PostPreIdeal.main_arg0) = m ((c.tc : Thread Cert.PostPreIdeal.nD Cert.PostPreIdeal.τ).loc Cert.PostPreIdeal.main_arg0)
          ∧ r.2.mem ((c.tc : Thread Cert.PostPreIdeal.nD Cert.PostPreIdeal.τ).loc Cert.PostPreIdeal.main_arg1) = m ((c.tc : Thread Cert.PostPreIdeal.nD Cert.PostPreIdeal.τ).loc Cert.PostPreIdeal.main_arg1)
          ∧ r.2.mem ((c.tc : Thread Cert.PostPreIdeal.nD Cert.PostPreIdeal.τ).loc Cert.PostPreIdeal.main_arg2) = m ((c.tc : Thread Cert.PostPreIdeal.nD Cert.PostPreIdeal.τ).loc Cert.PostPreIdeal.main_arg2)
          ∧ r.2.mem ((c.tc : Thread Cert.PostPreIdeal.nD Cert.PostPreIdeal.τ).loc Cert.PostPreIdeal.main_arg3) = m ((c.tc : Thread Cert.PostPreIdeal.nD Cert.PostPreIdeal.τ).loc Cert.PostPreIdeal.main_arg3))
      ∧ θ_run (Cert.PostPreRefIdeal.defs (F := Ideal)) (onTc (τ := Cert.PostPreRefIdeal.τ) (Cert.PostPreRefIdeal.main (F := Ideal))) ⟨m', fun _ => 0, g'⟩ (fun r => ∀ c : Dev Cert.PostPreRefIdeal.nD,
          r.2.mem ((c.tc : Thread Cert.PostPreRefIdeal.nD Cert.PostPreRefIdeal.τ).loc Cert.PostPreRefIdeal.main_v12) = v0 c
          ∧ r.2.mem ((c.tc : Thread Cert.PostPreRefIdeal.nD Cert.PostPreRefIdeal.τ).loc Cert.PostPreRefIdeal.main_v25) = v1 c
          ∧ r.2.mem ((c.tc : Thread Cert.PostPreRefIdeal.nD Cert.PostPreRefIdeal.τ).loc Cert.PostPreRefIdeal.main_arg0) = m' ((c.tc : Thread Cert.PostPreRefIdeal.nD Cert.PostPreRefIdeal.τ).loc Cert.PostPreRefIdeal.main_arg0)
          ∧ r.2.mem ((c.tc : Thread Cert.PostPreRefIdeal.nD Cert.PostPreRefIdeal.τ).loc Cert.PostPreRefIdeal.main_arg1) = m' ((c.tc : Thread Cert.PostPreRefIdeal.nD Cert.PostPreRefIdeal.τ).loc Cert.PostPreRefIdeal.main_arg1)
          ∧ r.2.mem ((c.tc : Thread Cert.PostPreRefIdeal.nD Cert.PostPreRefIdeal.τ).loc Cert.PostPreRefIdeal.main_arg2) = m' ((c.tc : Thread Cert.PostPreRefIdeal.nD Cert.PostPreRefIdeal.τ).loc Cert.PostPreRefIdeal.main_arg2)
          ∧ r.2.mem ((c.tc : Thread Cert.PostPreRefIdeal.nD Cert.PostPreRefIdeal.τ).loc Cert.PostPreRefIdeal.main_arg3) = m' ((c.tc : Thread Cert.PostPreRefIdeal.nD Cert.PostPreRefIdeal.τ).loc Cert.PostPreRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v10) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v10) = v0 c
          ∧ r.2.mem ((c.tc : Thread Cert.MergeBwdRefIdeal.nD Cert.MergeBwdRefIdeal.τ).loc Cert.MergeBwdRefIdeal.main_v16) = v1 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v0) = v0 c
          ∧ r.2.mem ((c.tc : Thread Cert.MlpUpRefIdeal.nD Cert.MlpUpRefIdeal.τ).loc Cert.MlpUpRefIdeal.main_v3) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v0) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1))

def preserves_GateArgs_GateArgsIdeal : Prop :=
  True

def algebraic_GateArgsIdeal_GateArgsRefIdeal [hGateArgsIdeal : Cert.GateArgsIdeal.Facts] [hGateArgsRefIdeal : Cert.GateArgsRefIdeal.Facts] : Prop :=
  ∀ (m : (ℓ : Loc Cert.GateArgsIdeal.nD Cert.GateArgsIdeal.τ Cert.GateArgsIdeal.sig) → Buf (Elt Ideal) ℓ) (g : Dev Cert.GateArgsIdeal.nD → PrngReg)
    (m' : (ℓ : Loc Cert.GateArgsRefIdeal.nD Cert.GateArgsRefIdeal.τ Cert.GateArgsRefIdeal.sig) → Buf (Elt Ideal) ℓ) (g' : Dev Cert.GateArgsRefIdeal.nD → PrngReg), Pre_GateArgsIdeal m →
    (∀ c : Dev Cert.GateArgsIdeal.nD,
      m' ((c.tc : Thread Cert.GateArgsRefIdeal.nD Cert.GateArgsRefIdeal.τ).loc Cert.GateArgsRefIdeal.main_arg0) = m ((c.tc : Thread Cert.GateArgsIdeal.nD Cert.GateArgsIdeal.τ).loc Cert.GateArgsIdeal.main_arg0)
      ∧ m' ((c.tc : Thread Cert.GateArgsRefIdeal.nD Cert.GateArgsRefIdeal.τ).loc Cert.GateArgsRefIdeal.main_arg1) = m ((c.tc : Thread Cert.GateArgsIdeal.nD Cert.GateArgsIdeal.τ).loc Cert.GateArgsIdeal.main_arg1)) →
    ∃ (v0 : (c : Dev Cert.GateArgsIdeal.nD) → Buf (Elt Ideal) ((c.tc : Thread Cert.GateArgsIdeal.nD Cert.GateArgsIdeal.τ).loc Cert.GateArgsIdeal.main_v0)),
      θ_run (Cert.GateArgsIdeal.defs (F := Ideal)) (onTc (τ := Cert.GateArgsIdeal.τ) (Cert.GateArgsIdeal.main (F := Ideal))) ⟨m, fun _ => 0, g⟩ (fun r => ∀ c : Dev Cert.GateArgsIdeal.nD,
          r.2.mem ((c.tc : Thread Cert.GateArgsIdeal.nD Cert.GateArgsIdeal.τ).loc Cert.GateArgsIdeal.main_v0) = v0 c
          ∧ r.2.mem ((c.tc : Thread Cert.GateArgsIdeal.nD Cert.GateArgsIdeal.τ).loc Cert.GateArgsIdeal.main_arg0) = m ((c.tc : Thread Cert.GateArgsIdeal.nD Cert.GateArgsIdeal.τ).loc Cert.GateArgsIdeal.main_arg0)
          ∧ r.2.mem ((c.tc : Thread Cert.GateArgsIdeal.nD Cert.GateArgsIdeal.τ).loc Cert.GateArgsIdeal.main_arg1) = m ((c.tc : Thread Cert.GateArgsIdeal.nD Cert.GateArgsIdeal.τ).loc Cert.GateArgsIdeal.main_arg1))
      ∧ θ_run (Cert.GateArgsRefIdeal.defs (F := Ideal)) (onTc (τ := Cert.GateArgsRefIdeal.τ) (Cert.GateArgsRefIdeal.main (F := Ideal))) ⟨m', fun _ => 0, g'⟩ (fun r => ∀ c : Dev Cert.GateArgsRefIdeal.nD,
          r.2.mem ((c.tc : Thread Cert.GateArgsRefIdeal.nD Cert.GateArgsRefIdeal.τ).loc Cert.GateArgsRefIdeal.main_v0) = v0 c
          ∧ r.2.mem ((c.tc : Thread Cert.GateArgsRefIdeal.nD Cert.GateArgsRefIdeal.τ).loc Cert.GateArgsRefIdeal.main_arg0) = m' ((c.tc : Thread Cert.GateArgsRefIdeal.nD Cert.GateArgsRefIdeal.τ).loc Cert.GateArgsRefIdeal.main_arg0)
          ∧ r.2.mem ((c.tc : Thread Cert.GateArgsRefIdeal.nD Cert.GateArgsRefIdeal.τ).loc Cert.GateArgsRefIdeal.main_arg1) = m' ((c.tc : Thread Cert.GateArgsRefIdeal.nD Cert.GateArgsRefIdeal.τ).loc Cert.GateArgsRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v0) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v0) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v1) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v2) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v2) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_MlpBwd_MlpBwdIdeal : Prop :=
  True

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)) →
    ∃ (v0 : (c : Dev Cert.MlpBwdIdeal.nD) → Buf (Elt Ideal) ((c.tc : Thread Cert.MlpBwdIdeal.nD Cert.MlpBwdIdeal.τ).loc Cert.MlpBwdIdeal.main_v0)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v0) = v0 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v6) = v0 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v2) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v1) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Dh1Gates_Dh1GatesIdeal : Prop :=
  True

def algebraic_Dh1GatesIdeal_Dh1GatesRefIdeal [hDh1GatesIdeal : Cert.Dh1GatesIdeal.Facts] [hDh1GatesRefIdeal : Cert.Dh1GatesRefIdeal.Facts] : Prop :=
  ∀ (m : (ℓ : Loc Cert.Dh1GatesIdeal.nD Cert.Dh1GatesIdeal.τ Cert.Dh1GatesIdeal.sig) → Buf (Elt Ideal) ℓ) (g : Dev Cert.Dh1GatesIdeal.nD → PrngReg)
    (m' : (ℓ : Loc Cert.Dh1GatesRefIdeal.nD Cert.Dh1GatesRefIdeal.τ Cert.Dh1GatesRefIdeal.sig) → Buf (Elt Ideal) ℓ) (g' : Dev Cert.Dh1GatesRefIdeal.nD → PrngReg), Pre_Dh1GatesIdeal m →
    (∀ c : Dev Cert.Dh1GatesIdeal.nD,
      m' ((c.tc : Thread Cert.Dh1GatesRefIdeal.nD Cert.Dh1GatesRefIdeal.τ).loc Cert.Dh1GatesRefIdeal.main_arg0) = m ((c.tc : Thread Cert.Dh1GatesIdeal.nD Cert.Dh1GatesIdeal.τ).loc Cert.Dh1GatesIdeal.main_arg0)
      ∧ m' ((c.tc : Thread Cert.Dh1GatesRefIdeal.nD Cert.Dh1GatesRefIdeal.τ).loc Cert.Dh1GatesRefIdeal.main_arg1) = m ((c.tc : Thread Cert.Dh1GatesIdeal.nD Cert.Dh1GatesIdeal.τ).loc Cert.Dh1GatesIdeal.main_arg1)
      ∧ m' ((c.tc : Thread Cert.Dh1GatesRefIdeal.nD Cert.Dh1GatesRefIdeal.τ).loc Cert.Dh1GatesRefIdeal.main_arg2) = m ((c.tc : Thread Cert.Dh1GatesIdeal.nD Cert.Dh1GatesIdeal.τ).loc Cert.Dh1GatesIdeal.main_arg2)) →
    ∃ (v0 : (c : Dev Cert.Dh1GatesIdeal.nD) → Buf (Elt Ideal) ((c.tc : Thread Cert.Dh1GatesIdeal.nD Cert.Dh1GatesIdeal.τ).loc Cert.Dh1GatesIdeal.main_v0)),
      θ_run (Cert.Dh1GatesIdeal.defs (F := Ideal)) (onTc (τ := Cert.Dh1GatesIdeal.τ) (Cert.Dh1GatesIdeal.main (F := Ideal))) ⟨m, fun _ => 0, g⟩ (fun r => ∀ c : Dev Cert.Dh1GatesIdeal.nD,
          r.2.mem ((c.tc : Thread Cert.Dh1GatesIdeal.nD Cert.Dh1GatesIdeal.τ).loc Cert.Dh1GatesIdeal.main_v0) = v0 c
          ∧ r.2.mem ((c.tc : Thread Cert.Dh1GatesIdeal.nD Cert.Dh1GatesIdeal.τ).loc Cert.Dh1GatesIdeal.main_arg0) = m ((c.tc : Thread Cert.Dh1GatesIdeal.nD Cert.Dh1GatesIdeal.τ).loc Cert.Dh1GatesIdeal.main_arg0)
          ∧ r.2.mem ((c.tc : Thread Cert.Dh1GatesIdeal.nD Cert.Dh1GatesIdeal.τ).loc Cert.Dh1GatesIdeal.main_arg1) = m ((c.tc : Thread Cert.Dh1GatesIdeal.nD Cert.Dh1GatesIdeal.τ).loc Cert.Dh1GatesIdeal.main_arg1)
          ∧ r.2.mem ((c.tc : Thread Cert.Dh1GatesIdeal.nD Cert.Dh1GatesIdeal.τ).loc Cert.Dh1GatesIdeal.main_arg2) = m ((c.tc : Thread Cert.Dh1GatesIdeal.nD Cert.Dh1GatesIdeal.τ).loc Cert.Dh1GatesIdeal.main_arg2))
      ∧ θ_run (Cert.Dh1GatesRefIdeal.defs (F := Ideal)) (onTc (τ := Cert.Dh1GatesRefIdeal.τ) (Cert.Dh1GatesRefIdeal.main (F := Ideal))) ⟨m', fun _ => 0, g'⟩ (fun r => ∀ c : Dev Cert.Dh1GatesRefIdeal.nD,
          r.2.mem ((c.tc : Thread Cert.Dh1GatesRefIdeal.nD Cert.Dh1GatesRefIdeal.τ).loc Cert.Dh1GatesRefIdeal.main_v2) = v0 c
          ∧ r.2.mem ((c.tc : Thread Cert.Dh1GatesRefIdeal.nD Cert.Dh1GatesRefIdeal.τ).loc Cert.Dh1GatesRefIdeal.main_arg0) = m' ((c.tc : Thread Cert.Dh1GatesRefIdeal.nD Cert.Dh1GatesRefIdeal.τ).loc Cert.Dh1GatesRefIdeal.main_arg0)
          ∧ r.2.mem ((c.tc : Thread Cert.Dh1GatesRefIdeal.nD Cert.Dh1GatesRefIdeal.τ).loc Cert.Dh1GatesRefIdeal.main_arg1) = m' ((c.tc : Thread Cert.Dh1GatesRefIdeal.nD Cert.Dh1GatesRefIdeal.τ).loc Cert.Dh1GatesRefIdeal.main_arg1)
          ∧ r.2.mem ((c.tc : Thread Cert.Dh1GatesRefIdeal.nD Cert.Dh1GatesRefIdeal.τ).loc Cert.Dh1GatesRefIdeal.main_arg2) = m' ((c.tc : Thread Cert.Dh1GatesRefIdeal.nD Cert.Dh1GatesRefIdeal.τ).loc Cert.Dh1GatesRefIdeal.main_arg2))

def preserves_PreMlpBwd_PreMlpBwdIdeal : Prop :=
  True

def algebraic_PreMlpBwdIdeal_PreMlpBwdRefIdeal [hPreMlpBwdIdeal : Cert.PreMlpBwdIdeal.Facts] [hPreMlpBwdRefIdeal : Cert.PreMlpBwdRefIdeal.Facts] : Prop :=
  ∀ (m : (ℓ : Loc Cert.PreMlpBwdIdeal.nD Cert.PreMlpBwdIdeal.τ Cert.PreMlpBwdIdeal.sig) → Buf (Elt Ideal) ℓ) (g : Dev Cert.PreMlpBwdIdeal.nD → PrngReg)
    (m' : (ℓ : Loc Cert.PreMlpBwdRefIdeal.nD Cert.PreMlpBwdRefIdeal.τ Cert.PreMlpBwdRefIdeal.sig) → Buf (Elt Ideal) ℓ) (g' : Dev Cert.PreMlpBwdRefIdeal.nD → PrngReg), Pre_PreMlpBwdIdeal m →
    (∀ c : Dev Cert.PreMlpBwdIdeal.nD,
      m' ((c.tc : Thread Cert.PreMlpBwdRefIdeal.nD Cert.PreMlpBwdRefIdeal.τ).loc Cert.PreMlpBwdRefIdeal.main_arg0) = m ((c.tc : Thread Cert.PreMlpBwdIdeal.nD Cert.PreMlpBwdIdeal.τ).loc Cert.PreMlpBwdIdeal.main_arg0)
      ∧ m' ((c.tc : Thread Cert.PreMlpBwdRefIdeal.nD Cert.PreMlpBwdRefIdeal.τ).loc Cert.PreMlpBwdRefIdeal.main_arg1) = m ((c.tc : Thread Cert.PreMlpBwdIdeal.nD Cert.PreMlpBwdIdeal.τ).loc Cert.PreMlpBwdIdeal.main_arg1)
      ∧ m' ((c.tc : Thread Cert.PreMlpBwdRefIdeal.nD Cert.PreMlpBwdRefIdeal.τ).loc Cert.PreMlpBwdRefIdeal.main_arg2) = m ((c.tc : Thread Cert.PreMlpBwdIdeal.nD Cert.PreMlpBwdIdeal.τ).loc Cert.PreMlpBwdIdeal.main_arg2)
      ∧ m' ((c.tc : Thread Cert.PreMlpBwdRefIdeal.nD Cert.PreMlpBwdRefIdeal.τ).loc Cert.PreMlpBwdRefIdeal.main_arg3) = m ((c.tc : Thread Cert.PreMlpBwdIdeal.nD Cert.PreMlpBwdIdeal.τ).loc Cert.PreMlpBwdIdeal.main_arg3)
      ∧ m' ((c.tc : Thread Cert.PreMlpBwdRefIdeal.nD Cert.PreMlpBwdRefIdeal.τ).loc Cert.PreMlpBwdRefIdeal.main_arg4) = m ((c.tc : Thread Cert.PreMlpBwdIdeal.nD Cert.PreMlpBwdIdeal.τ).loc Cert.PreMlpBwdIdeal.main_arg4)
      ∧ m' ((c.tc : Thread Cert.PreMlpBwdRefIdeal.nD Cert.PreMlpBwdRefIdeal.τ).loc Cert.PreMlpBwdRefIdeal.main_arg5) = m ((c.tc : Thread Cert.PreMlpBwdIdeal.nD Cert.PreMlpBwdIdeal.τ).loc Cert.PreMlpBwdIdeal.main_arg5)) →
    ∃ (v0 : (c : Dev Cert.PreMlpBwdIdeal.nD) → Buf (Elt Ideal) ((c.tc : Thread Cert.PreMlpBwdIdeal.nD Cert.PreMlpBwdIdeal.τ).loc Cert.PreMlpBwdIdeal.main_v0_0)) (v1 : (c : Dev Cert.PreMlpBwdIdeal.nD) → Buf (Elt Ideal) ((c.tc : Thread Cert.PreMlpBwdIdeal.nD Cert.PreMlpBwdIdeal.τ).loc Cert.PreMlpBwdIdeal.main_v0_1)) (v2 : (c : Dev Cert.PreMlpBwdIdeal.nD) → Buf (Elt Ideal) ((c.tc : Thread Cert.PreMlpBwdIdeal.nD Cert.PreMlpBwdIdeal.τ).loc Cert.PreMlpBwdIdeal.main_v0_2)) (v3 : (c : Dev Cert.PreMlpBwdIdeal.nD) → Buf (Elt Ideal) ((c.tc : Thread Cert.PreMlpBwdIdeal.nD Cert.PreMlpBwdIdeal.τ).loc Cert.PreMlpBwdIdeal.main_v0_3)),
      θ_run (Cert.PreMlpBwdIdeal.defs (F := Ideal)) (onTc (τ := Cert.PreMlpBwdIdeal.τ) (Cert.PreMlpBwdIdeal.main (F := Ideal))) ⟨m, fun _ => 0, g⟩ (fun r => ∀ c : Dev Cert.PreMlpBwdIdeal.nD,
          r.2.mem ((c.tc : Thread Cert.PreMlpBwdIdeal.nD Cert.PreMlpBwdIdeal.τ).loc Cert.PreMlpBwdIdeal.main_v0_0) = v0 c
          ∧ r.2.mem ((c.tc : Thread Cert.PreMlpBwdIdeal.nD Cert.PreMlpBwdIdeal.τ).loc Cert.PreMlpBwdIdeal.main_v0_1) = v1 c
          ∧ r.2.mem ((c.tc : Thread Cert.PreMlpBwdIdeal.nD Cert.PreMlpBwdIdeal.τ).loc Cert.PreMlpBwdIdeal.main_v0_2) = v2 c
          ∧ r.2.mem ((c.tc : Thread Cert.PreMlpBwdIdeal.nD Cert.PreMlpBwdIdeal.τ).loc Cert.PreMlpBwdIdeal.main_v0_3) = v3 c
          ∧ r.2.mem ((c.tc : Thread Cert.PreMlpBwdIdeal.nD Cert.PreMlpBwdIdeal.τ).loc Cert.PreMlpBwdIdeal.main_arg0) = m ((c.tc : Thread Cert.PreMlpBwdIdeal.nD Cert.PreMlpBwdIdeal.τ).loc Cert.PreMlpBwdIdeal.main_arg0)
          ∧ r.2.mem ((c.tc : Thread Cert.PreMlpBwdIdeal.nD Cert.PreMlpBwdIdeal.τ).loc Cert.PreMlpBwdIdeal.main_arg1) = m ((c.tc : Thread Cert.PreMlpBwdIdeal.nD Cert.PreMlpBwdIdeal.τ).loc Cert.PreMlpBwdIdeal.main_arg1)
          ∧ r.2.mem ((c.tc : Thread Cert.PreMlpBwdIdeal.nD Cert.PreMlpBwdIdeal.τ).loc Cert.PreMlpBwdIdeal.main_arg2) = m ((c.tc : Thread Cert.PreMlpBwdIdeal.nD Cert.PreMlpBwdIdeal.τ).loc Cert.PreMlpBwdIdeal.main_arg2)
          ∧ r.2.mem ((c.tc : Thread Cert.PreMlpBwdIdeal.nD Cert.PreMlpBwdIdeal.τ).loc Cert.PreMlpBwdIdeal.main_arg3) = m ((c.tc : Thread Cert.PreMlpBwdIdeal.nD Cert.PreMlpBwdIdeal.τ).loc Cert.PreMlpBwdIdeal.main_arg3)
          ∧ r.2.mem ((c.tc : Thread Cert.PreMlpBwdIdeal.nD Cert.PreMlpBwdIdeal.τ).loc Cert.PreMlpBwdIdeal.main_arg4) = m ((c.tc : Thread Cert.PreMlpBwdIdeal.nD Cert.PreMlpBwdIdeal.τ).loc Cert.PreMlpBwdIdeal.main_arg4)
          ∧ r.2.mem ((c.tc : Thread Cert.PreMlpBwdIdeal.nD Cert.PreMlpBwdIdeal.τ).loc Cert.PreMlpBwdIdeal.main_arg5) = m ((c.tc : Thread Cert.PreMlpBwdIdeal.nD Cert.PreMlpBwdIdeal.τ).loc Cert.PreMlpBwdIdeal.main_arg5))
      ∧ θ_run (Cert.PreMlpBwdRefIdeal.defs (F := Ideal)) (onTc (τ := Cert.PreMlpBwdRefIdeal.τ) (Cert.PreMlpBwdRefIdeal.main (F := Ideal))) ⟨m', fun _ => 0, g'⟩ (fun r => ∀ c : Dev Cert.PreMlpBwdRefIdeal.nD,
          r.2.mem ((c.tc : Thread Cert.PreMlpBwdRefIdeal.nD Cert.PreMlpBwdRefIdeal.τ).loc Cert.PreMlpBwdRefIdeal.main_v31) = v0 c
          ∧ r.2.mem ((c.tc : Thread Cert.PreMlpBwdRefIdeal.nD Cert.PreMlpBwdRefIdeal.τ).loc Cert.PreMlpBwdRefIdeal.main_v63) = v1 c
          ∧ r.2.mem ((c.tc : Thread Cert.PreMlpBwdRefIdeal.nD Cert.PreMlpBwdRefIdeal.τ).loc Cert.PreMlpBwdRefIdeal.main_v30) = v2 c
          ∧ r.2.mem ((c.tc : Thread Cert.PreMlpBwdRefIdeal.nD Cert.PreMlpBwdRefIdeal.τ).loc Cert.PreMlpBwdRefIdeal.main_v62) = v3 c
          ∧ r.2.mem ((c.tc : Thread Cert.PreMlpBwdRefIdeal.nD Cert.PreMlpBwdRefIdeal.τ).loc Cert.PreMlpBwdRefIdeal.main_arg0) = m' ((c.tc : Thread Cert.PreMlpBwdRefIdeal.nD Cert.PreMlpBwdRefIdeal.τ).loc Cert.PreMlpBwdRefIdeal.main_arg0)
          ∧ r.2.mem ((c.tc : Thread Cert.PreMlpBwdRefIdeal.nD Cert.PreMlpBwdRefIdeal.τ).loc Cert.PreMlpBwdRefIdeal.main_arg1) = m' ((c.tc : Thread Cert.PreMlpBwdRefIdeal.nD Cert.PreMlpBwdRefIdeal.τ).loc Cert.PreMlpBwdRefIdeal.main_arg1)
          ∧ r.2.mem ((c.tc : Thread Cert.PreMlpBwdRefIdeal.nD Cert.PreMlpBwdRefIdeal.τ).loc Cert.PreMlpBwdRefIdeal.main_arg2) = m' ((c.tc : Thread Cert.PreMlpBwdRefIdeal.nD Cert.PreMlpBwdRefIdeal.τ).loc Cert.PreMlpBwdRefIdeal.main_arg2)
          ∧ r.2.mem ((c.tc : Thread Cert.PreMlpBwdRefIdeal.nD Cert.PreMlpBwdRefIdeal.τ).loc Cert.PreMlpBwdRefIdeal.main_arg3) = m' ((c.tc : Thread Cert.PreMlpBwdRefIdeal.nD Cert.PreMlpBwdRefIdeal.τ).loc Cert.PreMlpBwdRefIdeal.main_arg3)
          ∧ r.2.mem ((c.tc : Thread Cert.PreMlpBwdRefIdeal.nD Cert.PreMlpBwdRefIdeal.τ).loc Cert.PreMlpBwdRefIdeal.main_arg4) = m' ((c.tc : Thread Cert.PreMlpBwdRefIdeal.nD Cert.PreMlpBwdRefIdeal.τ).loc Cert.PreMlpBwdRefIdeal.main_arg4)
          ∧ r.2.mem ((c.tc : Thread Cert.PreMlpBwdRefIdeal.nD Cert.PreMlpBwdRefIdeal.τ).loc Cert.PreMlpBwdRefIdeal.main_arg5) = m' ((c.tc : Thread Cert.PreMlpBwdRefIdeal.nD Cert.PreMlpBwdRefIdeal.τ).loc Cert.PreMlpBwdRefIdeal.main_arg5))

def preserves_DwLora_DwLoraIdeal : Prop :=
  True

def algebraic_DwLoraIdeal_DwLoraRefIdeal [hDwLoraIdeal : Cert.DwLoraIdeal.Facts] [hDwLoraRefIdeal : Cert.DwLoraRefIdeal.Facts] : Prop :=
  ∀ (m : (ℓ : Loc Cert.DwLoraIdeal.nD Cert.DwLoraIdeal.τ Cert.DwLoraIdeal.sig) → Buf (Elt Ideal) ℓ) (g : Dev Cert.DwLoraIdeal.nD → PrngReg)
    (m' : (ℓ : Loc Cert.DwLoraRefIdeal.nD Cert.DwLoraRefIdeal.τ Cert.DwLoraRefIdeal.sig) → Buf (Elt Ideal) ℓ) (g' : Dev Cert.DwLoraRefIdeal.nD → PrngReg), Pre_DwLoraIdeal m →
    (∀ c : Dev Cert.DwLoraIdeal.nD,
      m' ((c.tc : Thread Cert.DwLoraRefIdeal.nD Cert.DwLoraRefIdeal.τ).loc Cert.DwLoraRefIdeal.main_arg0) = m ((c.tc : Thread Cert.DwLoraIdeal.nD Cert.DwLoraIdeal.τ).loc Cert.DwLoraIdeal.main_arg0)
      ∧ m' ((c.tc : Thread Cert.DwLoraRefIdeal.nD Cert.DwLoraRefIdeal.τ).loc Cert.DwLoraRefIdeal.main_arg1) = m ((c.tc : Thread Cert.DwLoraIdeal.nD Cert.DwLoraIdeal.τ).loc Cert.DwLoraIdeal.main_arg1)) →
    ∃ (v0 : (c : Dev Cert.DwLoraIdeal.nD) → Buf (Elt Ideal) ((c.tc : Thread Cert.DwLoraIdeal.nD Cert.DwLoraIdeal.τ).loc Cert.DwLoraIdeal.main_v0)),
      θ_run (Cert.DwLoraIdeal.defs (F := Ideal)) (onTc (τ := Cert.DwLoraIdeal.τ) (Cert.DwLoraIdeal.main (F := Ideal))) ⟨m, fun _ => 0, g⟩ (fun r => ∀ c : Dev Cert.DwLoraIdeal.nD,
          r.2.mem ((c.tc : Thread Cert.DwLoraIdeal.nD Cert.DwLoraIdeal.τ).loc Cert.DwLoraIdeal.main_v0) = v0 c
          ∧ r.2.mem ((c.tc : Thread Cert.DwLoraIdeal.nD Cert.DwLoraIdeal.τ).loc Cert.DwLoraIdeal.main_arg0) = m ((c.tc : Thread Cert.DwLoraIdeal.nD Cert.DwLoraIdeal.τ).loc Cert.DwLoraIdeal.main_arg0)
          ∧ r.2.mem ((c.tc : Thread Cert.DwLoraIdeal.nD Cert.DwLoraIdeal.τ).loc Cert.DwLoraIdeal.main_arg1) = m ((c.tc : Thread Cert.DwLoraIdeal.nD Cert.DwLoraIdeal.τ).loc Cert.DwLoraIdeal.main_arg1))
      ∧ θ_run (Cert.DwLoraRefIdeal.defs (F := Ideal)) (onTc (τ := Cert.DwLoraRefIdeal.τ) (Cert.DwLoraRefIdeal.main (F := Ideal))) ⟨m', fun _ => 0, g'⟩ (fun r => ∀ c : Dev Cert.DwLoraRefIdeal.nD,
          r.2.mem ((c.tc : Thread Cert.DwLoraRefIdeal.nD Cert.DwLoraRefIdeal.τ).loc Cert.DwLoraRefIdeal.main_v2) = v0 c
          ∧ r.2.mem ((c.tc : Thread Cert.DwLoraRefIdeal.nD Cert.DwLoraRefIdeal.τ).loc Cert.DwLoraRefIdeal.main_arg0) = m' ((c.tc : Thread Cert.DwLoraRefIdeal.nD Cert.DwLoraRefIdeal.τ).loc Cert.DwLoraRefIdeal.main_arg0)
          ∧ r.2.mem ((c.tc : Thread Cert.DwLoraRefIdeal.nD Cert.DwLoraRefIdeal.τ).loc Cert.DwLoraRefIdeal.main_arg1) = m' ((c.tc : Thread Cert.DwLoraRefIdeal.nD Cert.DwLoraRefIdeal.τ).loc Cert.DwLoraRefIdeal.main_arg1))

def preserves_DLora_DLoraIdeal : Prop :=
  True

def algebraic_DLoraIdeal_DLoraRefIdeal [hDLoraIdeal : Cert.DLoraIdeal.Facts] [hDLoraRefIdeal : Cert.DLoraRefIdeal.Facts] : Prop :=
  ∀ (m : (ℓ : Loc Cert.DLoraIdeal.nD Cert.DLoraIdeal.τ Cert.DLoraIdeal.sig) → Buf (Elt Ideal) ℓ) (g : Dev Cert.DLoraIdeal.nD → PrngReg)
    (m' : (ℓ : Loc Cert.DLoraRefIdeal.nD Cert.DLoraRefIdeal.τ Cert.DLoraRefIdeal.sig) → Buf (Elt Ideal) ℓ) (g' : Dev Cert.DLoraRefIdeal.nD → PrngReg), Pre_DLoraIdeal m →
    (∀ c : Dev Cert.DLoraIdeal.nD,
      m' ((c.tc : Thread Cert.DLoraRefIdeal.nD Cert.DLoraRefIdeal.τ).loc Cert.DLoraRefIdeal.main_arg0) = m ((c.tc : Thread Cert.DLoraIdeal.nD Cert.DLoraIdeal.τ).loc Cert.DLoraIdeal.main_arg0)
      ∧ m' ((c.tc : Thread Cert.DLoraRefIdeal.nD Cert.DLoraRefIdeal.τ).loc Cert.DLoraRefIdeal.main_arg1) = m ((c.tc : Thread Cert.DLoraIdeal.nD Cert.DLoraIdeal.τ).loc Cert.DLoraIdeal.main_arg1)) →
    ∃ (v0 : (c : Dev Cert.DLoraIdeal.nD) → Buf (Elt Ideal) ((c.tc : Thread Cert.DLoraIdeal.nD Cert.DLoraIdeal.τ).loc Cert.DLoraIdeal.main_v0)),
      θ_run (Cert.DLoraIdeal.defs (F := Ideal)) (onTc (τ := Cert.DLoraIdeal.τ) (Cert.DLoraIdeal.main (F := Ideal))) ⟨m, fun _ => 0, g⟩ (fun r => ∀ c : Dev Cert.DLoraIdeal.nD,
          r.2.mem ((c.tc : Thread Cert.DLoraIdeal.nD Cert.DLoraIdeal.τ).loc Cert.DLoraIdeal.main_v0) = v0 c
          ∧ r.2.mem ((c.tc : Thread Cert.DLoraIdeal.nD Cert.DLoraIdeal.τ).loc Cert.DLoraIdeal.main_arg0) = m ((c.tc : Thread Cert.DLoraIdeal.nD Cert.DLoraIdeal.τ).loc Cert.DLoraIdeal.main_arg0)
          ∧ r.2.mem ((c.tc : Thread Cert.DLoraIdeal.nD Cert.DLoraIdeal.τ).loc Cert.DLoraIdeal.main_arg1) = m ((c.tc : Thread Cert.DLoraIdeal.nD Cert.DLoraIdeal.τ).loc Cert.DLoraIdeal.main_arg1))
      ∧ θ_run (Cert.DLoraRefIdeal.defs (F := Ideal)) (onTc (τ := Cert.DLoraRefIdeal.τ) (Cert.DLoraRefIdeal.main (F := Ideal))) ⟨m', fun _ => 0, g'⟩ (fun r => ∀ c : Dev Cert.DLoraRefIdeal.nD,
          r.2.mem ((c.tc : Thread Cert.DLoraRefIdeal.nD Cert.DLoraRefIdeal.τ).loc Cert.DLoraRefIdeal.main_v1) = v0 c
          ∧ r.2.mem ((c.tc : Thread Cert.DLoraRefIdeal.nD Cert.DLoraRefIdeal.τ).loc Cert.DLoraRefIdeal.main_arg0) = m' ((c.tc : Thread Cert.DLoraRefIdeal.nD Cert.DLoraRefIdeal.τ).loc Cert.DLoraRefIdeal.main_arg0)
          ∧ r.2.mem ((c.tc : Thread Cert.DLoraRefIdeal.nD Cert.DLoraRefIdeal.τ).loc Cert.DLoraRefIdeal.main_arg1) = m' ((c.tc : Thread Cert.DLoraRefIdeal.nD Cert.DLoraRefIdeal.τ).loc Cert.DLoraRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v2) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v1) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_Dh1Branches_Dh1BranchesIdeal : Prop :=
  True

def algebraic_Dh1BranchesIdeal_Dh1BranchesRefIdeal [hDh1BranchesIdeal : Cert.Dh1BranchesIdeal.Facts] [hDh1BranchesRefIdeal : Cert.Dh1BranchesRefIdeal.Facts] : Prop :=
  ∀ (m : (ℓ : Loc Cert.Dh1BranchesIdeal.nD Cert.Dh1BranchesIdeal.τ Cert.Dh1BranchesIdeal.sig) → Buf (Elt Ideal) ℓ) (g : Dev Cert.Dh1BranchesIdeal.nD → PrngReg)
    (m' : (ℓ : Loc Cert.Dh1BranchesRefIdeal.nD Cert.Dh1BranchesRefIdeal.τ Cert.Dh1BranchesRefIdeal.sig) → Buf (Elt Ideal) ℓ) (g' : Dev Cert.Dh1BranchesRefIdeal.nD → PrngReg), Pre_Dh1BranchesIdeal m →
    (∀ c : Dev Cert.Dh1BranchesIdeal.nD,
      m' ((c.tc : Thread Cert.Dh1BranchesRefIdeal.nD Cert.Dh1BranchesRefIdeal.τ).loc Cert.Dh1BranchesRefIdeal.main_arg0) = m ((c.tc : Thread Cert.Dh1BranchesIdeal.nD Cert.Dh1BranchesIdeal.τ).loc Cert.Dh1BranchesIdeal.main_arg0)
      ∧ m' ((c.tc : Thread Cert.Dh1BranchesRefIdeal.nD Cert.Dh1BranchesRefIdeal.τ).loc Cert.Dh1BranchesRefIdeal.main_arg1) = m ((c.tc : Thread Cert.Dh1BranchesIdeal.nD Cert.Dh1BranchesIdeal.τ).loc Cert.Dh1BranchesIdeal.main_arg1)) →
    ∃ (v0 : (c : Dev Cert.Dh1BranchesIdeal.nD) → Buf (Elt Ideal) ((c.tc : Thread Cert.Dh1BranchesIdeal.nD Cert.Dh1BranchesIdeal.τ).loc Cert.Dh1BranchesIdeal.main_v0)),
      θ_run (Cert.Dh1BranchesIdeal.defs (F := Ideal)) (onTc (τ := Cert.Dh1BranchesIdeal.τ) (Cert.Dh1BranchesIdeal.main (F := Ideal))) ⟨m, fun _ => 0, g⟩ (fun r => ∀ c : Dev Cert.Dh1BranchesIdeal.nD,
          r.2.mem ((c.tc : Thread Cert.Dh1BranchesIdeal.nD Cert.Dh1BranchesIdeal.τ).loc Cert.Dh1BranchesIdeal.main_v0) = v0 c
          ∧ r.2.mem ((c.tc : Thread Cert.Dh1BranchesIdeal.nD Cert.Dh1BranchesIdeal.τ).loc Cert.Dh1BranchesIdeal.main_arg0) = m ((c.tc : Thread Cert.Dh1BranchesIdeal.nD Cert.Dh1BranchesIdeal.τ).loc Cert.Dh1BranchesIdeal.main_arg0)
          ∧ r.2.mem ((c.tc : Thread Cert.Dh1BranchesIdeal.nD Cert.Dh1BranchesIdeal.τ).loc Cert.Dh1BranchesIdeal.main_arg1) = m ((c.tc : Thread Cert.Dh1BranchesIdeal.nD Cert.Dh1BranchesIdeal.τ).loc Cert.Dh1BranchesIdeal.main_arg1))
      ∧ θ_run (Cert.Dh1BranchesRefIdeal.defs (F := Ideal)) (onTc (τ := Cert.Dh1BranchesRefIdeal.τ) (Cert.Dh1BranchesRefIdeal.main (F := Ideal))) ⟨m', fun _ => 0, g'⟩ (fun r => ∀ c : Dev Cert.Dh1BranchesRefIdeal.nD,
          r.2.mem ((c.tc : Thread Cert.Dh1BranchesRefIdeal.nD Cert.Dh1BranchesRefIdeal.τ).loc Cert.Dh1BranchesRefIdeal.main_v1) = v0 c
          ∧ r.2.mem ((c.tc : Thread Cert.Dh1BranchesRefIdeal.nD Cert.Dh1BranchesRefIdeal.τ).loc Cert.Dh1BranchesRefIdeal.main_arg0) = m' ((c.tc : Thread Cert.Dh1BranchesRefIdeal.nD Cert.Dh1BranchesRefIdeal.τ).loc Cert.Dh1BranchesRefIdeal.main_arg0)
          ∧ r.2.mem ((c.tc : Thread Cert.Dh1BranchesRefIdeal.nD Cert.Dh1BranchesRefIdeal.τ).loc Cert.Dh1BranchesRefIdeal.main_arg1) = m' ((c.tc : Thread Cert.Dh1BranchesRefIdeal.nD Cert.Dh1BranchesRefIdeal.τ).loc Cert.Dh1BranchesRefIdeal.main_arg1))

def preserves_ProjBwdAct_ProjBwdActIdeal : Prop :=
  True

def algebraic_ProjBwdActIdeal_ProjBwdActRefIdeal [hProjBwdActIdeal : Cert.ProjBwdActIdeal.Facts] [hProjBwdActRefIdeal : Cert.ProjBwdActRefIdeal.Facts] : Prop :=
  ∀ (m : (ℓ : Loc Cert.ProjBwdActIdeal.nD Cert.ProjBwdActIdeal.τ Cert.ProjBwdActIdeal.sig) → Buf (Elt Ideal) ℓ) (g : Dev Cert.ProjBwdActIdeal.nD → PrngReg)
    (m' : (ℓ : Loc Cert.ProjBwdActRefIdeal.nD Cert.ProjBwdActRefIdeal.τ Cert.ProjBwdActRefIdeal.sig) → Buf (Elt Ideal) ℓ) (g' : Dev Cert.ProjBwdActRefIdeal.nD → PrngReg), Pre_ProjBwdActIdeal m →
    (∀ c : Dev Cert.ProjBwdActIdeal.nD,
      m' ((c.tc : Thread Cert.ProjBwdActRefIdeal.nD Cert.ProjBwdActRefIdeal.τ).loc Cert.ProjBwdActRefIdeal.main_arg0) = m ((c.tc : Thread Cert.ProjBwdActIdeal.nD Cert.ProjBwdActIdeal.τ).loc Cert.ProjBwdActIdeal.main_arg0)
      ∧ m' ((c.tc : Thread Cert.ProjBwdActRefIdeal.nD Cert.ProjBwdActRefIdeal.τ).loc Cert.ProjBwdActRefIdeal.main_arg1) = m ((c.tc : Thread Cert.ProjBwdActIdeal.nD Cert.ProjBwdActIdeal.τ).loc Cert.ProjBwdActIdeal.main_arg1)) →
    ∃ (v0 : (c : Dev Cert.ProjBwdActIdeal.nD) → Buf (Elt Ideal) ((c.tc : Thread Cert.ProjBwdActIdeal.nD Cert.ProjBwdActIdeal.τ).loc Cert.ProjBwdActIdeal.main_v0)),
      θ_run (Cert.ProjBwdActIdeal.defs (F := Ideal)) (onTc (τ := Cert.ProjBwdActIdeal.τ) (Cert.ProjBwdActIdeal.main (F := Ideal))) ⟨m, fun _ => 0, g⟩ (fun r => ∀ c : Dev Cert.ProjBwdActIdeal.nD,
          r.2.mem ((c.tc : Thread Cert.ProjBwdActIdeal.nD Cert.ProjBwdActIdeal.τ).loc Cert.ProjBwdActIdeal.main_v0) = v0 c
          ∧ r.2.mem ((c.tc : Thread Cert.ProjBwdActIdeal.nD Cert.ProjBwdActIdeal.τ).loc Cert.ProjBwdActIdeal.main_arg0) = m ((c.tc : Thread Cert.ProjBwdActIdeal.nD Cert.ProjBwdActIdeal.τ).loc Cert.ProjBwdActIdeal.main_arg0)
          ∧ r.2.mem ((c.tc : Thread Cert.ProjBwdActIdeal.nD Cert.ProjBwdActIdeal.τ).loc Cert.ProjBwdActIdeal.main_arg1) = m ((c.tc : Thread Cert.ProjBwdActIdeal.nD Cert.ProjBwdActIdeal.τ).loc Cert.ProjBwdActIdeal.main_arg1))
      ∧ θ_run (Cert.ProjBwdActRefIdeal.defs (F := Ideal)) (onTc (τ := Cert.ProjBwdActRefIdeal.τ) (Cert.ProjBwdActRefIdeal.main (F := Ideal))) ⟨m', fun _ => 0, g'⟩ (fun r => ∀ c : Dev Cert.ProjBwdActRefIdeal.nD,
          r.2.mem ((c.tc : Thread Cert.ProjBwdActRefIdeal.nD Cert.ProjBwdActRefIdeal.τ).loc Cert.ProjBwdActRefIdeal.main_v16) = v0 c
          ∧ r.2.mem ((c.tc : Thread Cert.ProjBwdActRefIdeal.nD Cert.ProjBwdActRefIdeal.τ).loc Cert.ProjBwdActRefIdeal.main_arg0) = m' ((c.tc : Thread Cert.ProjBwdActRefIdeal.nD Cert.ProjBwdActRefIdeal.τ).loc Cert.ProjBwdActRefIdeal.main_arg0)
          ∧ r.2.mem ((c.tc : Thread Cert.ProjBwdActRefIdeal.nD Cert.ProjBwdActRefIdeal.τ).loc Cert.ProjBwdActRefIdeal.main_arg1) = m' ((c.tc : Thread Cert.ProjBwdActRefIdeal.nD Cert.ProjBwdActRefIdeal.τ).loc Cert.ProjBwdActRefIdeal.main_arg1))

def preserves_ProjBwdW_ProjBwdWIdeal : Prop :=
  True

def algebraic_ProjBwdWIdeal_ProjBwdWRefIdeal [hProjBwdWIdeal : Cert.ProjBwdWIdeal.Facts] [hProjBwdWRefIdeal : Cert.ProjBwdWRefIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg)
    (m' : (ℓ : Loc Cert.ProjBwdWRefIdeal.nD Cert.ProjBwdWRefIdeal.τ Cert.ProjBwdWRefIdeal.sig) → Buf (Elt Ideal) ℓ) (g' : Dev Cert.ProjBwdWRefIdeal.nD → PrngReg), Pre_ProjBwdWIdeal m →
    (∀ c : Dev Cert.ProjBwdWIdeal.nD,
      m' ((c.tc : Thread Cert.ProjBwdWRefIdeal.nD Cert.ProjBwdWRefIdeal.τ).loc Cert.ProjBwdWRefIdeal.main_arg0) = m ((c.tc : Thread Cert.ProjBwdWIdeal.nD Cert.ProjBwdWIdeal.τ).loc Cert.ProjBwdWIdeal.main_arg0)
      ∧ m' ((c.tc : Thread Cert.ProjBwdWRefIdeal.nD Cert.ProjBwdWRefIdeal.τ).loc Cert.ProjBwdWRefIdeal.main_arg1) = m ((c.tc : Thread Cert.ProjBwdWIdeal.nD Cert.ProjBwdWIdeal.τ).loc Cert.ProjBwdWIdeal.main_arg1)) →
    ∃ (v0 : (c : Dev Cert.ProjBwdWIdeal.nD) → Buf (Elt Ideal) ((c.tc : Thread Cert.ProjBwdWIdeal.nD Cert.ProjBwdWIdeal.τ).loc Cert.ProjBwdWIdeal.main_v0)),
      θ_run (Cert.ProjBwdWIdeal.defs (F := Ideal)) (onTc (τ := Cert.ProjBwdWIdeal.τ) (Cert.ProjBwdWIdeal.main (F := Ideal))) ⟨m, fun _ => 0, g⟩ (fun r => ∀ c : Dev Cert.ProjBwdWIdeal.nD,
          r.2.mem ((c.tc : Thread Cert.ProjBwdWIdeal.nD Cert.ProjBwdWIdeal.τ).loc Cert.ProjBwdWIdeal.main_v0) = v0 c
          ∧ r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
          ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1))
      ∧ θ_run (Cert.ProjBwdWRefIdeal.defs (F := Ideal)) (onTc (τ := Cert.ProjBwdWRefIdeal.τ) (Cert.ProjBwdWRefIdeal.main (F := Ideal))) ⟨m', fun _ => 0, g'⟩ (fun r => ∀ c : Dev Cert.ProjBwdWRefIdeal.nD,
          r.2.mem ((c.tc : Thread Cert.ProjBwdWRefIdeal.nD Cert.ProjBwdWRefIdeal.τ).loc Cert.ProjBwdWRefIdeal.main_v17) = v0 c
          ∧ r.2.mem ((c.tc : Thread Cert.ProjBwdWRefIdeal.nD Cert.ProjBwdWRefIdeal.τ).loc Cert.ProjBwdWRefIdeal.main_arg0) = m' ((c.tc : Thread Cert.ProjBwdWRefIdeal.nD Cert.ProjBwdWRefIdeal.τ).loc Cert.ProjBwdWRefIdeal.main_arg0)
          ∧ r.2.mem ((c.tc : Thread Cert.ProjBwdWRefIdeal.nD Cert.ProjBwdWRefIdeal.τ).loc Cert.ProjBwdWRefIdeal.main_arg1) = m' ((c.tc : Thread Cert.ProjBwdWRefIdeal.nD Cert.ProjBwdWRefIdeal.τ).loc Cert.ProjBwdWRefIdeal.main_arg1))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v0)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v0) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v12) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_MlaPrep_MlaPrepIdeal : Prop :=
  True

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)) →
    ∃ (v0 : (c : Dev Cert.MlaPrepIdeal.nD) → Buf (Elt Ideal) ((c.tc : Thread Cert.MlaPrepIdeal.nD Cert.MlaPrepIdeal.τ).loc Cert.MlaPrepIdeal.main_v0_0)) (v1 : (c : Dev Cert.MlaPrepIdeal.nD) → Buf (Elt Ideal) ((c.tc : Thread Cert.MlaPrepIdeal.nD Cert.MlaPrepIdeal.τ).loc Cert.MlaPrepIdeal.main_v0_1)) (v2 : (c : Dev Cert.MlaPrepIdeal.nD) → Buf (Elt Ideal) ((c.tc : Thread Cert.MlaPrepIdeal.nD Cert.MlaPrepIdeal.τ).loc Cert.MlaPrepIdeal.main_v0_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v0_0) = v0 c
          ∧ r.2.mem ((c.tc : Thread Cert.MlaPrepIdeal.nD Cert.MlaPrepIdeal.τ).loc Cert.MlaPrepIdeal.main_v0_1) = v1 c
          ∧ r.2.mem ((c.tc : Thread Cert.MlaPrepIdeal.nD Cert.MlaPrepIdeal.τ).loc Cert.MlaPrepIdeal.main_v0_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v18) = v0 c
          ∧ r.2.mem ((c.tc : Thread Cert.MlaPrepRefIdeal.nD Cert.MlaPrepRefIdeal.τ).loc Cert.MlaPrepRefIdeal.main_v32) = v1 c
          ∧ r.2.mem ((c.tc : Thread Cert.MlaPrepRefIdeal.nD Cert.MlaPrepRefIdeal.τ).loc Cert.MlaPrepRefIdeal.main_v36) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v0)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v0) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v51) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)
      ∧ m' ((c.tc : Thread Cert.QUpRefIdeal.nD Cert.QUpRefIdeal.τ).loc Cert.QUpRefIdeal.main_arg3) = m ((c.tc : Thread Cert.QUpIdeal.nD Cert.QUpIdeal.τ).loc Cert.QUpIdeal.main_arg3)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
          ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v14) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2)
          ∧ r.2.mem ((c.tc : Thread Cert.QUpRefIdeal.nD Cert.QUpRefIdeal.τ).loc Cert.QUpRefIdeal.main_arg3) = m' ((c.tc : Thread Cert.QUpRefIdeal.nD Cert.QUpRefIdeal.τ).loc Cert.QUpRefIdeal.main_arg3))

def preserves_ConvBwdNorm_ConvBwdNormIdeal : Prop :=
  True

def algebraic_ConvBwdNormIdeal_ConvBwdNormRefIdeal [hConvBwdNormIdeal : Cert.ConvBwdNormIdeal.Facts] [hConvBwdNormRefIdeal : Cert.ConvBwdNormRefIdeal.Facts] : Prop :=
  ∀ (m : (ℓ : Loc Cert.ConvBwdNormIdeal.nD Cert.ConvBwdNormIdeal.τ Cert.ConvBwdNormIdeal.sig) → Buf (Elt Ideal) ℓ) (g : Dev Cert.ConvBwdNormIdeal.nD → PrngReg)
    (m' : (ℓ : Loc Cert.ConvBwdNormRefIdeal.nD Cert.ConvBwdNormRefIdeal.τ Cert.ConvBwdNormRefIdeal.sig) → Buf (Elt Ideal) ℓ) (g' : Dev Cert.ConvBwdNormRefIdeal.nD → PrngReg), Pre_ConvBwdNormIdeal m →
    (∀ c : Dev Cert.ConvBwdNormIdeal.nD,
      m' ((c.tc : Thread Cert.ConvBwdNormRefIdeal.nD Cert.ConvBwdNormRefIdeal.τ).loc Cert.ConvBwdNormRefIdeal.main_arg0) = m ((c.tc : Thread Cert.ConvBwdNormIdeal.nD Cert.ConvBwdNormIdeal.τ).loc Cert.ConvBwdNormIdeal.main_arg0)
      ∧ m' ((c.tc : Thread Cert.ConvBwdNormRefIdeal.nD Cert.ConvBwdNormRefIdeal.τ).loc Cert.ConvBwdNormRefIdeal.main_arg1) = m ((c.tc : Thread Cert.ConvBwdNormIdeal.nD Cert.ConvBwdNormIdeal.τ).loc Cert.ConvBwdNormIdeal.main_arg1)
      ∧ m' ((c.tc : Thread Cert.ConvBwdNormRefIdeal.nD Cert.ConvBwdNormRefIdeal.τ).loc Cert.ConvBwdNormRefIdeal.main_arg2) = m ((c.tc : Thread Cert.ConvBwdNormIdeal.nD Cert.ConvBwdNormIdeal.τ).loc Cert.ConvBwdNormIdeal.main_arg2)
      ∧ m' ((c.tc : Thread Cert.ConvBwdNormRefIdeal.nD Cert.ConvBwdNormRefIdeal.τ).loc Cert.ConvBwdNormRefIdeal.main_arg3) = m ((c.tc : Thread Cert.ConvBwdNormIdeal.nD Cert.ConvBwdNormIdeal.τ).loc Cert.ConvBwdNormIdeal.main_arg3)) →
    ∃ (v0 : (c : Dev Cert.ConvBwdNormIdeal.nD) → Buf (Elt Ideal) ((c.tc : Thread Cert.ConvBwdNormIdeal.nD Cert.ConvBwdNormIdeal.τ).loc Cert.ConvBwdNormIdeal.main_v0_0)) (v1 : (c : Dev Cert.ConvBwdNormIdeal.nD) → Buf (Elt Ideal) ((c.tc : Thread Cert.ConvBwdNormIdeal.nD Cert.ConvBwdNormIdeal.τ).loc Cert.ConvBwdNormIdeal.main_v0_1)) (v2 : (c : Dev Cert.ConvBwdNormIdeal.nD) → Buf (Elt Ideal) ((c.tc : Thread Cert.ConvBwdNormIdeal.nD Cert.ConvBwdNormIdeal.τ).loc Cert.ConvBwdNormIdeal.main_v0_2)) (v3 : (c : Dev Cert.ConvBwdNormIdeal.nD) → Buf (Elt Ideal) ((c.tc : Thread Cert.ConvBwdNormIdeal.nD Cert.ConvBwdNormIdeal.τ).loc Cert.ConvBwdNormIdeal.main_v0_3)),
      θ_run (Cert.ConvBwdNormIdeal.defs (F := Ideal)) (onTc (τ := Cert.ConvBwdNormIdeal.τ) (Cert.ConvBwdNormIdeal.main (F := Ideal))) ⟨m, fun _ => 0, g⟩ (fun r => ∀ c : Dev Cert.ConvBwdNormIdeal.nD,
          r.2.mem ((c.tc : Thread Cert.ConvBwdNormIdeal.nD Cert.ConvBwdNormIdeal.τ).loc Cert.ConvBwdNormIdeal.main_v0_0) = v0 c
          ∧ r.2.mem ((c.tc : Thread Cert.ConvBwdNormIdeal.nD Cert.ConvBwdNormIdeal.τ).loc Cert.ConvBwdNormIdeal.main_v0_1) = v1 c
          ∧ r.2.mem ((c.tc : Thread Cert.ConvBwdNormIdeal.nD Cert.ConvBwdNormIdeal.τ).loc Cert.ConvBwdNormIdeal.main_v0_2) = v2 c
          ∧ r.2.mem ((c.tc : Thread Cert.ConvBwdNormIdeal.nD Cert.ConvBwdNormIdeal.τ).loc Cert.ConvBwdNormIdeal.main_v0_3) = v3 c
          ∧ r.2.mem ((c.tc : Thread Cert.ConvBwdNormIdeal.nD Cert.ConvBwdNormIdeal.τ).loc Cert.ConvBwdNormIdeal.main_arg0) = m ((c.tc : Thread Cert.ConvBwdNormIdeal.nD Cert.ConvBwdNormIdeal.τ).loc Cert.ConvBwdNormIdeal.main_arg0)
          ∧ r.2.mem ((c.tc : Thread Cert.ConvBwdNormIdeal.nD Cert.ConvBwdNormIdeal.τ).loc Cert.ConvBwdNormIdeal.main_arg1) = m ((c.tc : Thread Cert.ConvBwdNormIdeal.nD Cert.ConvBwdNormIdeal.τ).loc Cert.ConvBwdNormIdeal.main_arg1)
          ∧ r.2.mem ((c.tc : Thread Cert.ConvBwdNormIdeal.nD Cert.ConvBwdNormIdeal.τ).loc Cert.ConvBwdNormIdeal.main_arg2) = m ((c.tc : Thread Cert.ConvBwdNormIdeal.nD Cert.ConvBwdNormIdeal.τ).loc Cert.ConvBwdNormIdeal.main_arg2)
          ∧ r.2.mem ((c.tc : Thread Cert.ConvBwdNormIdeal.nD Cert.ConvBwdNormIdeal.τ).loc Cert.ConvBwdNormIdeal.main_arg3) = m ((c.tc : Thread Cert.ConvBwdNormIdeal.nD Cert.ConvBwdNormIdeal.τ).loc Cert.ConvBwdNormIdeal.main_arg3))
      ∧ θ_run (Cert.ConvBwdNormRefIdeal.defs (F := Ideal)) (onTc (τ := Cert.ConvBwdNormRefIdeal.τ) (Cert.ConvBwdNormRefIdeal.main (F := Ideal))) ⟨m', fun _ => 0, g'⟩ (fun r => ∀ c : Dev Cert.ConvBwdNormRefIdeal.nD,
          r.2.mem ((c.tc : Thread Cert.ConvBwdNormRefIdeal.nD Cert.ConvBwdNormRefIdeal.τ).loc Cert.ConvBwdNormRefIdeal.main_v53) = v0 c
          ∧ r.2.mem ((c.tc : Thread Cert.ConvBwdNormRefIdeal.nD Cert.ConvBwdNormRefIdeal.τ).loc Cert.ConvBwdNormRefIdeal.main_v55) = v1 c
          ∧ r.2.mem ((c.tc : Thread Cert.ConvBwdNormRefIdeal.nD Cert.ConvBwdNormRefIdeal.τ).loc Cert.ConvBwdNormRefIdeal.main_v58) = v2 c
          ∧ r.2.mem ((c.tc : Thread Cert.ConvBwdNormRefIdeal.nD Cert.ConvBwdNormRefIdeal.τ).loc Cert.ConvBwdNormRefIdeal.main_v60) = v3 c
          ∧ r.2.mem ((c.tc : Thread Cert.ConvBwdNormRefIdeal.nD Cert.ConvBwdNormRefIdeal.τ).loc Cert.ConvBwdNormRefIdeal.main_arg0) = m' ((c.tc : Thread Cert.ConvBwdNormRefIdeal.nD Cert.ConvBwdNormRefIdeal.τ).loc Cert.ConvBwdNormRefIdeal.main_arg0)
          ∧ r.2.mem ((c.tc : Thread Cert.ConvBwdNormRefIdeal.nD Cert.ConvBwdNormRefIdeal.τ).loc Cert.ConvBwdNormRefIdeal.main_arg1) = m' ((c.tc : Thread Cert.ConvBwdNormRefIdeal.nD Cert.ConvBwdNormRefIdeal.τ).loc Cert.ConvBwdNormRefIdeal.main_arg1)
          ∧ r.2.mem ((c.tc : Thread Cert.ConvBwdNormRefIdeal.nD Cert.ConvBwdNormRefIdeal.τ).loc Cert.ConvBwdNormRefIdeal.main_arg2) = m' ((c.tc : Thread Cert.ConvBwdNormRefIdeal.nD Cert.ConvBwdNormRefIdeal.τ).loc Cert.ConvBwdNormRefIdeal.main_arg2)
          ∧ r.2.mem ((c.tc : Thread Cert.ConvBwdNormRefIdeal.nD Cert.ConvBwdNormRefIdeal.τ).loc Cert.ConvBwdNormRefIdeal.main_arg3) = m' ((c.tc : Thread Cert.ConvBwdNormRefIdeal.nD Cert.ConvBwdNormRefIdeal.τ).loc Cert.ConvBwdNormRefIdeal.main_arg3))

def Claim : Prop :=
  ∃ (hGather : Cert.Gather.Facts) (hGatherIdeal : Cert.GatherIdeal.Facts) (hGatherRefIdeal : Cert.GatherRefIdeal.Facts) (hGatherRef : Cert.GatherRef.Facts) (hSibling : Cert.Sibling.Facts) (hSiblingIdeal : Cert.SiblingIdeal.Facts) (hSiblingRefIdeal : Cert.SiblingRefIdeal.Facts) (hSiblingRef : Cert.SiblingRef.Facts) (hChips : Cert.Chips.Facts) (hChipsIdeal : Cert.ChipsIdeal.Facts) (hChipsRefIdeal : Cert.ChipsRefIdeal.Facts) (hChipsRef : Cert.ChipsRef.Facts) (hSmallGather : Cert.SmallGather.Facts) (hSmallGatherIdeal : Cert.SmallGatherIdeal.Facts) (hSmallGatherRefIdeal : Cert.SmallGatherRefIdeal.Facts) (hSmallGatherRef : Cert.SmallGatherRef.Facts) (hTapsGather : Cert.TapsGather.Facts) (hTapsGatherIdeal : Cert.TapsGatherIdeal.Facts) (hTapsGatherRefIdeal : Cert.TapsGatherRefIdeal.Facts) (hTapsGatherRef : Cert.TapsGatherRef.Facts) (hChipSum : Cert.ChipSum.Facts) (hChipSumIdeal : Cert.ChipSumIdeal.Facts) (hChipSumRefIdeal : Cert.ChipSumRefIdeal.Facts) (hChipSumRef : Cert.ChipSumRef.Facts) (hAdamBig : Cert.AdamBig.Facts) (hAdamBigIdeal : Cert.AdamBigIdeal.Facts) (hAdamBigRefIdeal : Cert.AdamBigRefIdeal.Facts) (hSumSmall : Cert.SumSmall.Facts) (hSumSmallIdeal : Cert.SumSmallIdeal.Facts) (hSumSmallRefIdeal : Cert.SumSmallRefIdeal.Facts) (hAdamSmall : Cert.AdamSmall.Facts) (hAdamSmallIdeal : Cert.AdamSmallIdeal.Facts) (hAdamSmallRefIdeal : Cert.AdamSmallRefIdeal.Facts) (hAdamTaps : Cert.AdamTaps.Facts) (hAdamTapsIdeal : Cert.AdamTapsIdeal.Facts) (hAdamTapsRefIdeal : Cert.AdamTapsRefIdeal.Facts) (hPreBwd : Cert.PreBwd.Facts) (hPreBwdIdeal : Cert.PreBwdIdeal.Facts) (hPreBwdRefIdeal : Cert.PreBwdRefIdeal.Facts) (hFinalLoss : Cert.FinalLoss.Facts) (hFinalLossIdeal : Cert.FinalLossIdeal.Facts) (hFinalLossRefIdeal : Cert.FinalLossRefIdeal.Facts) (hPreNorm : Cert.PreNorm.Facts) (hPreNormIdeal : Cert.PreNormIdeal.Facts) (hPreNormRefIdeal : Cert.PreNormRefIdeal.Facts) (hPostPre : Cert.PostPre.Facts) (hPostPreIdeal : Cert.PostPreIdeal.Facts) (hPostPreRefIdeal : Cert.PostPreRefIdeal.Facts) (hMergeFwd : Cert.MergeFwd.Facts) (hMergeFwdIdeal : Cert.MergeFwdIdeal.Facts) (hMergeFwdRefIdeal : Cert.MergeFwdRefIdeal.Facts) (hMergeBwd : Cert.MergeBwd.Facts) (hMergeBwdIdeal : Cert.MergeBwdIdeal.Facts) (hMergeBwdRefIdeal : Cert.MergeBwdRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hGateArgs : Cert.GateArgs.Facts) (hGateArgsIdeal : Cert.GateArgsIdeal.Facts) (hGateArgsRefIdeal : Cert.GateArgsRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hDMerged : Cert.DMerged.Facts) (hDMergedIdeal : Cert.DMergedIdeal.Facts) (hDMergedRefIdeal : Cert.DMergedRefIdeal.Facts) (hDwOut : Cert.DwOut.Facts) (hDwOutIdeal : Cert.DwOutIdeal.Facts) (hDwOutRefIdeal : Cert.DwOutRefIdeal.Facts) (hDwDown : Cert.DwDown.Facts) (hDwDownIdeal : Cert.DwDownIdeal.Facts) (hDwDownRefIdeal : Cert.DwDownRefIdeal.Facts) (hMlpBwd : Cert.MlpBwd.Facts) (hMlpBwdIdeal : Cert.MlpBwdIdeal.Facts) (hMlpBwdRefIdeal : Cert.MlpBwdRefIdeal.Facts) (hDwUp : Cert.DwUp.Facts) (hDwUpIdeal : Cert.DwUpIdeal.Facts) (hDwUpRefIdeal : Cert.DwUpRefIdeal.Facts) (hDh2 : Cert.Dh2.Facts) (hDh2Ideal : Cert.Dh2Ideal.Facts) (hDh2RefIdeal : Cert.Dh2RefIdeal.Facts) (hDh1Gates : Cert.Dh1Gates.Facts) (hDh1GatesIdeal : Cert.Dh1GatesIdeal.Facts) (hDh1GatesRefIdeal : Cert.Dh1GatesRefIdeal.Facts) (hPreMlpBwd : Cert.PreMlpBwd.Facts) (hPreMlpBwdIdeal : Cert.PreMlpBwdIdeal.Facts) (hPreMlpBwdRefIdeal : Cert.PreMlpBwdRefIdeal.Facts) (hDwLora : Cert.DwLora.Facts) (hDwLoraIdeal : Cert.DwLoraIdeal.Facts) (hDwLoraRefIdeal : Cert.DwLoraRefIdeal.Facts) (hDLora : Cert.DLora.Facts) (hDLoraIdeal : Cert.DLoraIdeal.Facts) (hDLoraRefIdeal : Cert.DLoraRefIdeal.Facts) (hDwIn : Cert.DwIn.Facts) (hDwInIdeal : Cert.DwInIdeal.Facts) (hDwInRefIdeal : Cert.DwInRefIdeal.Facts) (hKvUp : Cert.KvUp.Facts) (hKvUpIdeal : Cert.KvUpIdeal.Facts) (hKvUpRefIdeal : Cert.KvUpRefIdeal.Facts) (hDh1Branches : Cert.Dh1Branches.Facts) (hDh1BranchesIdeal : Cert.Dh1BranchesIdeal.Facts) (hDh1BranchesRefIdeal : Cert.Dh1BranchesRefIdeal.Facts) (hProjBwdAct : Cert.ProjBwdAct.Facts) (hProjBwdActIdeal : Cert.ProjBwdActIdeal.Facts) (hProjBwdActRefIdeal : Cert.ProjBwdActRefIdeal.Facts) (hProjBwdW : Cert.ProjBwdW.Facts) (hProjBwdWIdeal : Cert.ProjBwdWIdeal.Facts) (hProjBwdWRefIdeal : Cert.ProjBwdWRefIdeal.Facts) (hProjFwd : Cert.ProjFwd.Facts) (hProjFwdIdeal : Cert.ProjFwdIdeal.Facts) (hProjFwdRefIdeal : Cert.ProjFwdRefIdeal.Facts) (hMlaPrep : Cert.MlaPrep.Facts) (hMlaPrepIdeal : Cert.MlaPrepIdeal.Facts) (hMlaPrepRefIdeal : Cert.MlaPrepRefIdeal.Facts) (hSguFwd : Cert.SguFwd.Facts) (hSguFwdIdeal : Cert.SguFwdIdeal.Facts) (hSguFwdRefIdeal : Cert.SguFwdRefIdeal.Facts) (hQUp : Cert.QUp.Facts) (hQUpIdeal : Cert.QUpIdeal.Facts) (hQUpRefIdeal : Cert.QUpRefIdeal.Facts) (hConvBwdNorm : Cert.ConvBwdNorm.Facts) (hConvBwdNormIdeal : Cert.ConvBwdNormIdeal.Facts) (hConvBwdNormRefIdeal : Cert.ConvBwdNormRefIdeal.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Sibling (hSibling := hSibling)
    ∧ quiescent_SiblingIdeal (hSiblingIdeal := hSiblingIdeal)
    ∧ quiescent_SiblingRefIdeal (hSiblingRefIdeal := hSiblingRefIdeal)
    ∧ quiescent_SiblingRef (hSiblingRef := hSiblingRef)
    ∧ quiescent_Chips (hChips := hChips)
    ∧ quiescent_ChipsIdeal (hChipsIdeal := hChipsIdeal)
    ∧ quiescent_ChipsRefIdeal (hChipsRefIdeal := hChipsRefIdeal)
    ∧ quiescent_ChipsRef (hChipsRef := hChipsRef)
    ∧ quiescent_SmallGather (hSmallGather := hSmallGather)
    ∧ quiescent_SmallGatherIdeal (hSmallGatherIdeal := hSmallGatherIdeal)
    ∧ quiescent_SmallGatherRefIdeal (hSmallGatherRefIdeal := hSmallGatherRefIdeal)
    ∧ quiescent_SmallGatherRef (hSmallGatherRef := hSmallGatherRef)
    ∧ quiescent_TapsGather (hTapsGather := hTapsGather)
    ∧ quiescent_TapsGatherIdeal (hTapsGatherIdeal := hTapsGatherIdeal)
    ∧ quiescent_TapsGatherRefIdeal (hTapsGatherRefIdeal := hTapsGatherRefIdeal)
    ∧ quiescent_TapsGatherRef (hTapsGatherRef := hTapsGatherRef)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_ChipSumRef (hChipSumRef := hChipSumRef)
    ∧ quiescent_AdamBig (hAdamBig := hAdamBig)
    ∧ quiescent_AdamBigIdeal (hAdamBigIdeal := hAdamBigIdeal)
    ∧ quiescent_AdamBigRefIdeal (hAdamBigRefIdeal := hAdamBigRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_PreBwd (hPreBwd := hPreBwd)
    ∧ quiescent_PreBwdIdeal (hPreBwdIdeal := hPreBwdIdeal)
    ∧ quiescent_PreBwdRefIdeal (hPreBwdRefIdeal := hPreBwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PostPre (hPostPre := hPostPre)
    ∧ quiescent_PostPreIdeal (hPostPreIdeal := hPostPreIdeal)
    ∧ quiescent_PostPreRefIdeal (hPostPreRefIdeal := hPostPreRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_GateArgs (hGateArgs := hGateArgs)
    ∧ quiescent_GateArgsIdeal (hGateArgsIdeal := hGateArgsIdeal)
    ∧ quiescent_GateArgsRefIdeal (hGateArgsRefIdeal := hGateArgsRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_MlpBwd (hMlpBwd := hMlpBwd)
    ∧ quiescent_MlpBwdIdeal (hMlpBwdIdeal := hMlpBwdIdeal)
    ∧ quiescent_MlpBwdRefIdeal (hMlpBwdRefIdeal := hMlpBwdRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dh1Gates (hDh1Gates := hDh1Gates)
    ∧ quiescent_Dh1GatesIdeal (hDh1GatesIdeal := hDh1GatesIdeal)
    ∧ quiescent_Dh1GatesRefIdeal (hDh1GatesRefIdeal := hDh1GatesRefIdeal)
    ∧ quiescent_PreMlpBwd (hPreMlpBwd := hPreMlpBwd)
    ∧ quiescent_PreMlpBwdIdeal (hPreMlpBwdIdeal := hPreMlpBwdIdeal)
    ∧ quiescent_PreMlpBwdRefIdeal (hPreMlpBwdRefIdeal := hPreMlpBwdRefIdeal)
    ∧ quiescent_DwLora (hDwLora := hDwLora)
    ∧ quiescent_DwLoraIdeal (hDwLoraIdeal := hDwLoraIdeal)
    ∧ quiescent_DwLoraRefIdeal (hDwLoraRefIdeal := hDwLoraRefIdeal)
    ∧ quiescent_DLora (hDLora := hDLora)
    ∧ quiescent_DLoraIdeal (hDLoraIdeal := hDLoraIdeal)
    ∧ quiescent_DLoraRefIdeal (hDLoraRefIdeal := hDLoraRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_Dh1Branches (hDh1Branches := hDh1Branches)
    ∧ quiescent_Dh1BranchesIdeal (hDh1BranchesIdeal := hDh1BranchesIdeal)
    ∧ quiescent_Dh1BranchesRefIdeal (hDh1BranchesRefIdeal := hDh1BranchesRefIdeal)
    ∧ quiescent_ProjBwdAct (hProjBwdAct := hProjBwdAct)
    ∧ quiescent_ProjBwdActIdeal (hProjBwdActIdeal := hProjBwdActIdeal)
    ∧ quiescent_ProjBwdActRefIdeal (hProjBwdActRefIdeal := hProjBwdActRefIdeal)
    ∧ quiescent_ProjBwdW (hProjBwdW := hProjBwdW)
    ∧ quiescent_ProjBwdWIdeal (hProjBwdWIdeal := hProjBwdWIdeal)
    ∧ quiescent_ProjBwdWRefIdeal (hProjBwdWRefIdeal := hProjBwdWRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_QUp (hQUp := hQUp)
    ∧ quiescent_QUpIdeal (hQUpIdeal := hQUpIdeal)
    ∧ quiescent_QUpRefIdeal (hQUpRefIdeal := hQUpRefIdeal)
    ∧ quiescent_ConvBwdNorm (hConvBwdNorm := hConvBwdNorm)
    ∧ quiescent_ConvBwdNormIdeal (hConvBwdNormIdeal := hConvBwdNormIdeal)
    ∧ quiescent_ConvBwdNormRefIdeal (hConvBwdNormRefIdeal := hConvBwdNormRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Sibling_SiblingIdeal
    ∧ algebraic_SiblingIdeal_SiblingRefIdeal (hSiblingIdeal := hSiblingIdeal) (hSiblingRefIdeal := hSiblingRefIdeal)
    ∧ bitexact_Sibling_SiblingRef (hSibling := hSibling) (hSiblingRef := hSiblingRef)
    ∧ preserves_Chips_ChipsIdeal
    ∧ algebraic_ChipsIdeal_ChipsRefIdeal (hChipsIdeal := hChipsIdeal) (hChipsRefIdeal := hChipsRefIdeal)
    ∧ bitexact_Chips_ChipsRef (hChips := hChips) (hChipsRef := hChipsRef)
    ∧ preserves_SmallGather_SmallGatherIdeal
    ∧ algebraic_SmallGatherIdeal_SmallGatherRefIdeal (hSmallGatherIdeal := hSmallGatherIdeal) (hSmallGatherRefIdeal := hSmallGatherRefIdeal)
    ∧ bitexact_SmallGather_SmallGatherRef (hSmallGather := hSmallGather) (hSmallGatherRef := hSmallGatherRef)
    ∧ preserves_TapsGather_TapsGatherIdeal
    ∧ algebraic_TapsGatherIdeal_TapsGatherRefIdeal (hTapsGatherIdeal := hTapsGatherIdeal) (hTapsGatherRefIdeal := hTapsGatherRefIdeal)
    ∧ bitexact_TapsGather_TapsGatherRef (hTapsGather := hTapsGather) (hTapsGatherRef := hTapsGatherRef)
    ∧ preserves_ChipSum_ChipSumIdeal
    ∧ algebraic_ChipSumIdeal_ChipSumRefIdeal (hChipSumIdeal := hChipSumIdeal) (hChipSumRefIdeal := hChipSumRefIdeal)
    ∧ bitexact_ChipSum_ChipSumRef (hChipSum := hChipSum) (hChipSumRef := hChipSumRef)
    ∧ preserves_AdamBig_AdamBigIdeal
    ∧ algebraic_AdamBigIdeal_AdamBigRefIdeal (hAdamBigIdeal := hAdamBigIdeal) (hAdamBigRefIdeal := hAdamBigRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_PreBwd_PreBwdIdeal
    ∧ algebraic_PreBwdIdeal_PreBwdRefIdeal (hPreBwdIdeal := hPreBwdIdeal) (hPreBwdRefIdeal := hPreBwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_PreNorm_PreNormIdeal
    ∧ algebraic_PreNormIdeal_PreNormRefIdeal (hPreNormIdeal := hPreNormIdeal) (hPreNormRefIdeal := hPreNormRefIdeal)
    ∧ preserves_PostPre_PostPreIdeal
    ∧ algebraic_PostPreIdeal_PostPreRefIdeal (hPostPreIdeal := hPostPreIdeal) (hPostPreRefIdeal := hPostPreRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_GateArgs_GateArgsIdeal
    ∧ algebraic_GateArgsIdeal_GateArgsRefIdeal (hGateArgsIdeal := hGateArgsIdeal) (hGateArgsRefIdeal := hGateArgsRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_DMerged_DMergedIdeal
    ∧ algebraic_DMergedIdeal_DMergedRefIdeal (hDMergedIdeal := hDMergedIdeal) (hDMergedRefIdeal := hDMergedRefIdeal)
    ∧ preserves_DwOut_DwOutIdeal
    ∧ algebraic_DwOutIdeal_DwOutRefIdeal (hDwOutIdeal := hDwOutIdeal) (hDwOutRefIdeal := hDwOutRefIdeal)
    ∧ preserves_DwDown_DwDownIdeal
    ∧ algebraic_DwDownIdeal_DwDownRefIdeal (hDwDownIdeal := hDwDownIdeal) (hDwDownRefIdeal := hDwDownRefIdeal)
    ∧ preserves_MlpBwd_MlpBwdIdeal
    ∧ algebraic_MlpBwdIdeal_MlpBwdRefIdeal (hMlpBwdIdeal := hMlpBwdIdeal) (hMlpBwdRefIdeal := hMlpBwdRefIdeal)
    ∧ preserves_DwUp_DwUpIdeal
    ∧ algebraic_DwUpIdeal_DwUpRefIdeal (hDwUpIdeal := hDwUpIdeal) (hDwUpRefIdeal := hDwUpRefIdeal)
    ∧ preserves_Dh2_Dh2Ideal
    ∧ algebraic_Dh2Ideal_Dh2RefIdeal (hDh2Ideal := hDh2Ideal) (hDh2RefIdeal := hDh2RefIdeal)
    ∧ preserves_Dh1Gates_Dh1GatesIdeal
    ∧ algebraic_Dh1GatesIdeal_Dh1GatesRefIdeal (hDh1GatesIdeal := hDh1GatesIdeal) (hDh1GatesRefIdeal := hDh1GatesRefIdeal)
    ∧ preserves_PreMlpBwd_PreMlpBwdIdeal
    ∧ algebraic_PreMlpBwdIdeal_PreMlpBwdRefIdeal (hPreMlpBwdIdeal := hPreMlpBwdIdeal) (hPreMlpBwdRefIdeal := hPreMlpBwdRefIdeal)
    ∧ preserves_DwLora_DwLoraIdeal
    ∧ algebraic_DwLoraIdeal_DwLoraRefIdeal (hDwLoraIdeal := hDwLoraIdeal) (hDwLoraRefIdeal := hDwLoraRefIdeal)
    ∧ preserves_DLora_DLoraIdeal
    ∧ algebraic_DLoraIdeal_DLoraRefIdeal (hDLoraIdeal := hDLoraIdeal) (hDLoraRefIdeal := hDLoraRefIdeal)
    ∧ preserves_DwIn_DwInIdeal
    ∧ algebraic_DwInIdeal_DwInRefIdeal (hDwInIdeal := hDwInIdeal) (hDwInRefIdeal := hDwInRefIdeal)
    ∧ preserves_KvUp_KvUpIdeal
    ∧ algebraic_KvUpIdeal_KvUpRefIdeal (hKvUpIdeal := hKvUpIdeal) (hKvUpRefIdeal := hKvUpRefIdeal)
    ∧ preserves_Dh1Branches_Dh1BranchesIdeal
    ∧ algebraic_Dh1BranchesIdeal_Dh1BranchesRefIdeal (hDh1BranchesIdeal := hDh1BranchesIdeal) (hDh1BranchesRefIdeal := hDh1BranchesRefIdeal)
    ∧ preserves_ProjBwdAct_ProjBwdActIdeal
    ∧ algebraic_ProjBwdActIdeal_ProjBwdActRefIdeal (hProjBwdActIdeal := hProjBwdActIdeal) (hProjBwdActRefIdeal := hProjBwdActRefIdeal)
    ∧ preserves_ProjBwdW_ProjBwdWIdeal
    ∧ algebraic_ProjBwdWIdeal_ProjBwdWRefIdeal (hProjBwdWIdeal := hProjBwdWIdeal) (hProjBwdWRefIdeal := hProjBwdWRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_MlaPrep_MlaPrepIdeal
    ∧ algebraic_MlaPrepIdeal_MlaPrepRefIdeal (hMlaPrepIdeal := hMlaPrepIdeal) (hMlaPrepRefIdeal := hMlaPrepRefIdeal)
    ∧ preserves_SguFwd_SguFwdIdeal
    ∧ algebraic_SguFwdIdeal_SguFwdRefIdeal (hSguFwdIdeal := hSguFwdIdeal) (hSguFwdRefIdeal := hSguFwdRefIdeal)
    ∧ preserves_QUp_QUpIdeal
    ∧ algebraic_QUpIdeal_QUpRefIdeal (hQUpIdeal := hQUpIdeal) (hQUpRefIdeal := hQUpRefIdeal)
    ∧ preserves_ConvBwdNorm_ConvBwdNormIdeal
    ∧ algebraic_ConvBwdNormIdeal_ConvBwdNormRefIdeal (hConvBwdNormIdeal := hConvBwdNormIdeal) (hConvBwdNormRefIdeal := hConvBwdNormRefIdeal)
-- ==== Gather.lean ====
abbrev S16864x1024 : Shape := ⟨2, ![16864, 1024]⟩
abbrev S8x16864x1024 : Shape := ⟨3, ![8, 16864, 1024]⟩
abbrev S7 : Shape := ⟨1, ![7]⟩
abbrev S_ : Shape := ⟨0, ![]⟩
abbrev S1x16864x1024 : Shape := ⟨3, ![1, 16864, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16864x1024, .bf16⟩
  | .hbm, ⟨1, _⟩ => ⟨S8x16864x1024, .bf16⟩
  | _, _ => ⟨S16864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherRef.lean ====
abbrev S134912x1024 : Shape := ⟨2, ![134912, 1024]⟩
abbrev S8x16864x1024 : Shape := ⟨3, ![8, 16864, 1024]⟩

abbrev nBuf : Space → Nat
  | .hbm => 2
  | .vmem => 0
  | .smem => 0
  | _ => 0

abbrev bufTy : (tb : Table) → Fin (tcTables nBuf tb) → BufTy
  | .hbm, ⟨0, _⟩ => ⟨S134912x1024, .bf16⟩
  | .hbm, ⟨1, _⟩ => ⟨S8x16864x1024, .bf16⟩
  | _, _ => ⟨S134912x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Sibling.lean ====
abbrev S8x16864x1024 : Shape := ⟨3, ![8, 16864, 1024]⟩
abbrev S4x16864x1024 : Shape := ⟨3, ![4, 16864, 1024]⟩
abbrev S4 : Shape := ⟨1, ![4]⟩
abbrev S1 : Shape := ⟨1, ![1]⟩
abbrev S_ : Shape := ⟨0, ![]⟩
abbrev S1x16864x1024 : Shape := ⟨3, ![1, 16864, 1024]⟩
abbrev S16864x1024 : Shape := ⟨2, ![16864, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x16864x1024, .bf16⟩
  | .hbm, ⟨1, _⟩ => ⟨S4x16864x1024, .bf16⟩
  | _, _ => ⟨S8x16864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) (c1_i32_3 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_16 : BitVec 32 := 0#32
  let c0_i32_17 : BitVec 32 := 0#32
  ![v9.toNat, 0, 0]
def k0_dev1 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v17 : BitVec 32 := Scalar.muli v2 c4_i32_10
  let v18 : BitVec 32 := Scalar.addi c0_i32_11 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v19 : BitVec 32 := Scalar.muli v5 c2_i32_12
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v21 : BitVec 32 := Scalar.muli v10 c1_i32_13
  let v22 : BitVec 32 := Scalar.addi v20 v21
  v22.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v31 : BitVec 32 := Scalar.muli v2 c4_i32_21
  let v32 : BitVec 32 := Scalar.addi c0_i32_22 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v33 : BitVec 32 := Scalar.muli v5 c2_i32_23
  let v34 : BitVec 32 := Scalar.addi v32 v33
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c1_i32_24 : BitVec 32 := 1#32
  let v35 : BitVec 32 := Scalar.muli v12 c1_i32_24
  let v36 : BitVec 32 := Scalar.addi v34 v35
  v36.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v45 : BitVec 32 := Scalar.muli v2 c4_i32_32
  let v46 : BitVec 32 := Scalar.addi c0_i32_33 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v47 : BitVec 32 := Scalar.muli v5 c2_i32_34
  let v48 : BitVec 32 := Scalar.addi v46 v47
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_35 : BitVec 32 := 1#32
  let v49 : BitVec 32 := Scalar.muli v14 c1_i32_35
  let v50 : BitVec 32 := Scalar.addi v48 v49
  v50.toNat
def k0_dev4 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v59 : BitVec 32 := Scalar.muli v2 c4_i32_43
  let v60 : BitVec 32 := Scalar.addi c0_i32_44 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v61 : BitVec 32 := Scalar.muli v5 c2_i32_45
  let v62 : BitVec 32 := Scalar.addi v60 v61
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_7 v8
  let c1_i32_46 : BitVec 32 := 1#32
  let v63 : BitVec 32 := Scalar.muli v16 c1_i32_46
  let v64 : BitVec 32 := Scalar.addi v62 v63
  v64.toNat
-- ==== SiblingRef.lean ====
abbrev S64x16864x1024 : Shape := ⟨3, ![64, 16864, 1024]⟩
abbrev S4x2x4x2x17268736 : Shape := ⟨5, ![4, 2, 4, 2, 17268736]⟩
abbrev S4x1x4x1x17268736 : Shape := ⟨5, ![4, 1, 4, 1, 17268736]⟩
abbrev S4x4x17268736 : Shape := ⟨3, ![4, 4, 17268736]⟩
abbrev S4x1x4x17268736 : Shape := ⟨4, ![4, 1, 4, 17268736]⟩
abbrev S4x2x4x17268736 : Shape := ⟨4, ![4, 2, 4, 17268736]⟩
abbrev S32x16864x1024 : Shape := ⟨3, ![32, 16864, 1024]⟩

abbrev nBuf : Space → Nat
  | .hbm => 10
  | .vmem => 0
  | .smem => 0
  | _ => 0

abbrev bufTy : (tb : Table) → Fin (tcTables nBuf tb) → BufTy
  | .hbm, ⟨0, _⟩ => ⟨S64x16864x1024, .bf16⟩
  | .hbm, ⟨1, _⟩ => ⟨S4x2x4x2x17268736, .bf16⟩
  | .hbm, ⟨2, _⟩ => ⟨S4x1x4x1x17268736, .bf16⟩
  | .hbm, ⟨3, _⟩ => ⟨S4x4x17268736, .bf16⟩
  | .hbm, ⟨4, _⟩ => ⟨S4x1x4x1x17268736, .bf16⟩
  | .hbm, ⟨5, _⟩ => ⟨S4x4x17268736, .bf16⟩
  | .hbm, ⟨6, _⟩ => ⟨S4x1x4x17268736, .bf16⟩
  | .hbm, ⟨7, _⟩ => ⟨S4x1x4x17268736, .bf16⟩
  | .hbm, ⟨8, _⟩ => ⟨S4x2x4x17268736, .bf16⟩
  | .hbm, ⟨9, _⟩ => ⟨S32x16864x1024, .bf16⟩
  | _, _ => ⟨S64x16864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Chips.lean ====
abbrev S4x16864x1024 : Shape := ⟨3, ![4, 16864, 1024]⟩
abbrev S3x16864x1024 : Shape := ⟨3, ![3, 16864, 1024]⟩
abbrev S3 : Shape := ⟨1, ![3]⟩
abbrev S1 : Shape := ⟨1, ![1]⟩
abbrev S_ : Shape := ⟨0, ![]⟩
abbrev S1x16864x1024 : Shape := ⟨3, ![1, 16864, 1024]⟩
abbrev S16864x1024 : Shape := ⟨2, ![16864, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x16864x1024, .bf16⟩
  | .hbm, ⟨1, _⟩ => ⟨S3x16864x1024, .bf16⟩
  | _, _ => ⟨S4x16864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== ChipsRef.lean ====
abbrev S32x16864x1024 : Shape := ⟨3, ![32, 16864, 1024]⟩
abbrev S4x2x4x17268736 : Shape := ⟨4, ![4, 2, 4, 17268736]⟩
abbrev S1x2x1x17268736 : Shape := ⟨4, ![1, 2, 1, 17268736]⟩
abbrev S2x17268736 : Shape := ⟨2, ![2, 17268736]⟩
abbrev S2x1x17268736 : Shape := ⟨3, ![2, 1, 17268736]⟩
abbrev S2x3x17268736 : Shape := ⟨3, ![2, 3, 17268736]⟩
abbrev S1x2x3x17268736 : Shape := ⟨4, ![1, 2, 3, 17268736]⟩
abbrev S4x2x3x17268736 : Shape := ⟨4, ![4, 2, 3, 17268736]⟩
abbrev S24x16864x1024 : Shape := ⟨3, ![24, 16864, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x16864x1024, .bf16⟩
  | .hbm, ⟨1, _⟩ => ⟨S4x2x4x17268736, .bf16⟩
  | .hbm, ⟨2, _⟩ => ⟨S1x2x1x17268736, .bf16⟩
  | .hbm, ⟨3, _⟩ => ⟨S2x17268736, .bf16⟩
  | .hbm, ⟨4, _⟩ => ⟨S1x2x1x17268736, .bf16⟩
  | .hbm, ⟨5, _⟩ => ⟨S2x17268736, .bf16⟩
  | .hbm, ⟨6, _⟩ => ⟨S1x2x1x17268736, .bf16⟩
  | .hbm, ⟨7, _⟩ => ⟨S2x17268736, .bf16⟩
  | .hbm, ⟨8, _⟩ => ⟨S2x1x17268736, .bf16⟩
  | .hbm, ⟨9, _⟩ => ⟨S2x1x17268736, .bf16⟩
  | .hbm, ⟨10, _⟩ => ⟨S2x1x17268736, .bf16⟩
  | .hbm, ⟨11, _⟩ => ⟨S2x3x17268736, .bf16⟩
  | .hbm, ⟨12, _⟩ => ⟨S1x2x1x17268736, .bf16⟩
  | .hbm, ⟨13, _⟩ => ⟨S2x17268736, .bf16⟩
  | .hbm, ⟨14, _⟩ => ⟨S1x2x1x17268736, .bf16⟩
  | .hbm, ⟨15, _⟩ => ⟨S2x17268736, .bf16⟩
  | .hbm, ⟨16, _⟩ => ⟨S1x2x1x17268736, .bf16⟩
  | .hbm, ⟨17, _⟩ => ⟨S2x17268736, .bf16⟩
  | .hbm, ⟨18, _⟩ => ⟨S2x1x17268736, .bf16⟩
  | .hbm, ⟨19, _⟩ => ⟨S2x1x17268736, .bf16⟩
  | .hbm, ⟨20, _⟩ => ⟨S2x1x17268736, .bf16⟩
  | .hbm, ⟨21, _⟩ => ⟨S2x3x17268736, .bf16⟩
  | .hbm, ⟨22, _⟩ => ⟨S1x2x1x17268736, .bf16⟩
  | .hbm, ⟨23, _⟩ => ⟨S2x17268736, .bf16⟩
  | .hbm, ⟨24, _⟩ => ⟨S1x2x1x17268736, .bf16⟩
  | .hbm, ⟨25, _⟩ => ⟨S2x17268736, .bf16⟩
  | .hbm, ⟨26, _⟩ => ⟨S1x2x1x17268736, .bf16⟩
  | .hbm, ⟨27, _⟩ => ⟨S2x17268736, .bf16⟩
  | .hbm, ⟨28, _⟩ => ⟨S2x1x17268736, .bf16⟩
  | .hbm, ⟨29, _⟩ => ⟨S2x1x17268736, .bf16⟩
  | .hbm, ⟨30, _⟩ => ⟨S2x1x17268736, .bf16⟩
  | .hbm, ⟨31, _⟩ => ⟨S2x3x17268736, .bf16⟩
  | .hbm, ⟨32, _⟩ => ⟨S1x2x1x17268736, .bf16⟩
  | .hbm, ⟨33, _⟩ => ⟨S2x17268736, .bf16⟩
  | .hbm, ⟨34, _⟩ => ⟨S1x2x1x17268736, .bf16⟩
  | .hbm, ⟨35, _⟩ => ⟨S2x17268736, .bf16⟩
  | .hbm, ⟨36, _⟩ => ⟨S1x2x1x17268736, .bf16⟩
  | .hbm, ⟨37, _⟩ => ⟨S2x17268736, .bf16⟩
  | .hbm, ⟨38, _⟩ => ⟨S2x1x17268736, .bf16⟩
  | .hbm, ⟨39, _⟩ => ⟨S2x1x17268736, .bf16⟩
  | .hbm, ⟨40, _⟩ => ⟨S2x1x17268736, .bf16⟩
  | .hbm, ⟨41, _⟩ => ⟨S2x3x17268736, .bf16⟩
  | .hbm, ⟨42, _⟩ => ⟨S1x2x3x17268736, .bf16⟩
  | .hbm, ⟨43, _⟩ => ⟨S1x2x3x17268736, .bf16⟩
  | .hbm, ⟨44, _⟩ => ⟨S1x2x3x17268736, .bf16⟩
  | .hbm, ⟨45, _⟩ => ⟨S1x2x3x17268736, .bf16⟩
  | .hbm, ⟨46, _⟩ => ⟨S4x2x3x17268736, .bf16⟩
  | .hbm, ⟨47, _⟩ => ⟨S24x16864x1024, .bf16⟩
  | _, _ => ⟨S32x16864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩

abbrev nD : Nat := 1
abbrev τ : Topo := Topo.v7x

variable {F : FTy → Type} [FloatOps F]
-- ==== SmallGather.lean ====
abbrev S2496x128 : Shape := ⟨2, ![2496, 128]⟩
abbrev S8x2496x128 : Shape := ⟨3, ![8, 2496, 128]⟩
abbrev S7 : Shape := ⟨1, ![7]⟩
abbrev S_ : Shape := ⟨0, ![]⟩
abbrev S1x2496x128 : Shape := ⟨3, ![1, 2496, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S2496x128, .f32⟩
  | .hbm, ⟨1, _⟩ => ⟨S8x2496x128, .f32⟩
  | _, _ => ⟨S2496x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== SmallGatherRef.lean ====
abbrev S19968x128 : Shape := ⟨2, ![19968, 128]⟩
abbrev S8x2496x128 : Shape := ⟨3, ![8, 2496, 128]⟩

abbrev nBuf : Space → Nat
  | .hbm => 2
  | .vmem => 0
  | .smem => 0
  | _ => 0

abbrev bufTy : (tb : Table) → Fin (tcTables nBuf tb) → BufTy
  | .hbm, ⟨0, _⟩ => ⟨S19968x128, .f32⟩
  | .hbm, ⟨1, _⟩ => ⟨S8x2496x128, .f32⟩
  | _, _ => ⟨S19968x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== TapsGather.lean ====
abbrev S32x128 : Shape := ⟨2, ![32, 128]⟩
abbrev S8x32x128 : Shape := ⟨3, ![8, 32, 128]⟩
abbrev S7 : Shape := ⟨1, ![7]⟩
abbrev S_ : Shape := ⟨0, ![]⟩
abbrev S1x32x128 : Shape := ⟨3, ![1, 32, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S8x32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== TapsGatherRef.lean ====
abbrev S256x128 : Shape := ⟨2, ![256, 128]⟩
abbrev S8x32x128 : Shape := ⟨3, ![8, 32, 128]⟩

abbrev nBuf : Space → Nat
  | .hbm => 2
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S8x32x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== ChipSum.lean ====
abbrev S8x16864x1024 : Shape := ⟨3, ![8, 16864, 1024]⟩
abbrev S4x16864x1024 : Shape := ⟨3, ![4, 16864, 1024]⟩
abbrev S_ : Shape := ⟨0, ![]⟩
abbrev S1 : Shape := ⟨1, ![1]⟩
abbrev S1x272x1024 : Shape := ⟨3, ![1, 272, 1024]⟩

abbrev nBuf : Space → Nat
  | .hbm => 4
  | .vmem => 6
  | .smem => 1
  | _ => 0

abbrev bufTy : (tb : Table) → Fin (tcTables nBuf tb) → BufTy
  | .hbm, ⟨0, _⟩ => ⟨S8x16864x1024, .bf16⟩
  | .hbm, ⟨1, _⟩ => ⟨S4x16864x1024, .bf16⟩
  | .hbm, ⟨2, _⟩ => ⟨S_, .i32⟩
  | .hbm, ⟨3, _⟩ => ⟨S4x16864x1024, .bf16⟩
  | .local _ .vmem, ⟨0, _⟩ => ⟨S1x272x1024, .bf16⟩
  | .local _ .vmem, ⟨1, _⟩ => ⟨S1x272x1024, .bf16⟩
  | .local _ .vmem, ⟨2, _⟩ => ⟨S1x272x1024, .bf16⟩
  | .local _ .vmem, ⟨3, _⟩ => ⟨S1x272x1024, .bf16⟩
  | .local _ .vmem, ⟨4, _⟩ => ⟨S1x272x1024, .bf16⟩
  | .local _ .vmem, ⟨5, _⟩ => ⟨S1x272x1024, .bf16⟩
  | .local _ .smem, ⟨0, _⟩ => ⟨S1, .i32⟩
  | _, _ => ⟨S8x16864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 62], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x272x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipSumRef.lean ====
abbrev S8x16864x1024 : Shape := ⟨3, ![8, 16864, 1024]⟩
abbrev S4x16864x1024 : Shape := ⟨3, ![4, 16864, 1024]⟩
abbrev S4x2x16864x1024 : Shape := ⟨4, ![4, 2, 16864, 1024]⟩
abbrev S4x1x16864x1024 : Shape := ⟨4, ![4, 1, 16864, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x16864x1024, .bf16⟩
  | .hbm, ⟨1, _⟩ => ⟨S4x16864x1024, .bf16⟩
  | .hbm, ⟨2, _⟩ => ⟨S4x2x16864x1024, .bf16⟩
  | .hbm, ⟨3, _⟩ => ⟨S4x1x16864x1024, .bf16⟩
  | .hbm, ⟨4, _⟩ => ⟨S4x16864x1024, .bf16⟩
  | .hbm, ⟨5, _⟩ => ⟨S4x16864x1024, .f32⟩
  | .hbm, ⟨6, _⟩ => ⟨S4x16864x1024, .f32⟩
  | .hbm, ⟨7, _⟩ => ⟨S4x16864x1024, .f32⟩
  | .hbm, ⟨8, _⟩ => ⟨S4x16864x1024, .bf16⟩
  | _, _ => ⟨S8x16864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AdamBig.lean ====
abbrev S4x16864x1024 : Shape := ⟨3, ![4, 16864, 1024]⟩
abbrev S3x16864x1024 : Shape := ⟨3, ![3, 16864, 1024]⟩
abbrev S16864x1024 : Shape := ⟨2, ![16864, 1024]⟩
abbrev S_ : Shape := ⟨0, ![]⟩
abbrev S1 : Shape := ⟨1, ![1]⟩
abbrev S1x272x1024 : Shape := ⟨3, ![1, 272, 1024]⟩
abbrev S3x272x1024 : Shape := ⟨3, ![3, 272, 1024]⟩
abbrev S272x1024 : Shape := ⟨2, ![272, 1024]⟩

abbrev nBuf : Space → Nat
  | .hbm => 14
  | .vmem => 18
  | .smem => 1
  | _ => 0

abbrev bufTy : (tb : Table) → Fin (tcTables nBuf tb) → BufTy
  | .hbm, ⟨0, _⟩ => ⟨S4x16864x1024, .bf16⟩
  | .hbm, ⟨1, _⟩ => ⟨S3x16864x1024, .bf16⟩
  | .hbm, ⟨2, _⟩ => ⟨S16864x1024, .f32⟩
  | .hbm, ⟨3, _⟩ => ⟨S16864x1024, .f32⟩
  | .hbm, ⟨4, _⟩ => ⟨S16864x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16864x1024, .f32⟩
  | .hbm, ⟨11, _⟩ => ⟨S16864x1024, .f32⟩
  | .hbm, ⟨12, _⟩ => ⟨S16864x1024, .f32⟩
  | .hbm, ⟨13, _⟩ => ⟨S16864x1024, .f32⟩
  | .local _ .vmem, ⟨0, _⟩ => ⟨S1x272x1024, .bf16⟩
  | .local _ .vmem, ⟨1, _⟩ => ⟨S1x272x1024, .bf16⟩
  | .local _ .vmem, ⟨2, _⟩ => ⟨S3x272x1024, .bf16⟩
  | .local _ .vmem, ⟨3, _⟩ => ⟨S3x272x1024, .bf16⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | .local _ .vmem, ⟨17, _⟩ => ⟨S272x1024, .f32⟩
  | .local _ .smem, ⟨0, _⟩ => ⟨S1, .i32⟩
  | _, _ => ⟨S4x16864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_v1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![62], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x272x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBigRefIdeal.lean ====
abbrev S4x16864x1024 : Shape := ⟨3, ![4, 16864, 1024]⟩
abbrev S3x16864x1024 : Shape := ⟨3, ![3, 16864, 1024]⟩
abbrev S16864x1024 : Shape := ⟨2, ![16864, 1024]⟩
abbrev S1x16864x1024 : Shape := ⟨3, ![1, 16864, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x16864x1024, .bf16⟩
  | .hbm, ⟨1, _⟩ => ⟨S3x16864x1024, .bf16⟩
  | .hbm, ⟨2, _⟩ => ⟨S16864x1024, .f32⟩
  | .hbm, ⟨3, _⟩ => ⟨S16864x1024, .f32⟩
  | .hbm, ⟨4, _⟩ => ⟨S16864x1024, .f32⟩
  | .hbm, ⟨5, _⟩ => ⟨S1x16864x1024, .bf16⟩
  | .hbm, ⟨6, _⟩ => ⟨S16864x1024, .bf16⟩
  | .hbm, ⟨7, _⟩ => ⟨S16864x1024, .f32⟩
  | .hbm, ⟨8, _⟩ => ⟨S3x16864x1024, .f32⟩
  | .hbm, ⟨9, _⟩ => ⟨S_, .f32⟩
  | .hbm, ⟨10, _⟩ => ⟨S16864x1024, .f32⟩
  | .hbm, ⟨11, _⟩ => ⟨S16864x1024, .f32⟩
  | .hbm, ⟨12, _⟩ => ⟨S_, .f32⟩
  | .hbm, ⟨13, _⟩ => ⟨S16864x1024, .f32⟩
  | .hbm, ⟨14, _⟩ => ⟨S16864x1024, .f32⟩
  | .hbm, ⟨15, _⟩ => ⟨S_, .f32⟩
  | .hbm, ⟨16, _⟩ => ⟨S16864x1024, .f32⟩
  | .hbm, ⟨17, _⟩ => ⟨S16864x1024, .f32⟩
  | .hbm, ⟨18, _⟩ => ⟨S16864x1024, .f32⟩
  | .hbm, ⟨19, _⟩ => ⟨S_, .f32⟩
  | .hbm, ⟨20, _⟩ => ⟨S16864x1024, .f32⟩
  | .hbm, ⟨21, _⟩ => ⟨S16864x1024, .f32⟩
  | .hbm, ⟨22, _⟩ => ⟨S16864x1024, .f32⟩
  | .hbm, ⟨23, _⟩ => ⟨S_, .f32⟩
  | .hbm, ⟨24, _⟩ => ⟨S16864x1024, .f32⟩
  | .hbm, ⟨25, _⟩ => ⟨S16864x1024, .f32⟩
  | .hbm, ⟨26, _⟩ => ⟨S16864x1024, .f32⟩
  | .hbm, ⟨27, _⟩ => ⟨S_, .f32⟩
  | .hbm, ⟨28, _⟩ => ⟨S16864x1024, .f32⟩
  | .hbm, ⟨29, _⟩ => ⟨S16864x1024, .f32⟩
  | .hbm, ⟨30, _⟩ => ⟨S_, .f32⟩
  | .hbm, ⟨31, _⟩ => ⟨S16864x1024, .f32⟩
  | .hbm, ⟨32, _⟩ => ⟨S16864x1024, .f32⟩
  | .hbm, ⟨33, _⟩ => ⟨S16864x1024, .f32⟩
  | .hbm, ⟨34, _⟩ => ⟨S_, .f32⟩
  | .hbm, ⟨35, _⟩ => ⟨S16864x1024, .f32⟩
  | .hbm, ⟨36, _⟩ => ⟨S16864x1024, .f32⟩
  | .hbm, ⟨37, _⟩ => ⟨S16864x1024, .f32⟩
  | .hbm, ⟨38, _⟩ => ⟨S_, .f32⟩
  | .hbm, ⟨39, _⟩ => ⟨S16864x1024, .f32⟩
  | .hbm, ⟨40, _⟩ => ⟨S16864x1024, .f32⟩
  | .hbm, ⟨41, _⟩ => ⟨S16864x1024, .f32⟩
  | .hbm, ⟨42, _⟩ => ⟨S_, .f32⟩
  | .hbm, ⟨43, _⟩ => ⟨S16864x1024, .f32⟩
  | .hbm, ⟨44, _⟩ => ⟨S16864x1024, .f32⟩
  | _, _ => ⟨S4x16864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== SumSmall.lean ====
abbrev S8x2496x128 : Shape := ⟨3, ![8, 2496, 128]⟩
abbrev S2496x128 : Shape := ⟨2, ![2496, 128]⟩
abbrev S1x2496x128 : Shape := ⟨3, ![1, 2496, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2496x128, .f32⟩
  | .hbm, ⟨1, _⟩ => ⟨S2496x128, .f32⟩
  | .local _ .vmem, ⟨0, _⟩ => ⟨S8x2496x128, .f32⟩
  | .local _ .vmem, ⟨1, _⟩ => ⟨S2496x128, .f32⟩
  | _, _ => ⟨S8x2496x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2496x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x2496x128 : Shape := ⟨3, ![8, 2496, 128]⟩
abbrev S_ : Shape := ⟨0, ![]⟩
abbrev S2496x128 : Shape := ⟨2, ![2496, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2496x128, .f32⟩
  | .hbm, ⟨1, _⟩ => ⟨S_, .f32⟩
  | .hbm, ⟨2, _⟩ => ⟨S2496x128, .f32⟩
  | _, _ => ⟨S8x2496x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamSmall.lean ====
abbrev S2248x128 : Shape := ⟨2, ![2248, 128]⟩

abbrev nBuf : Space → Nat
  | .hbm => 7
  | .vmem => 7
  | .smem => 0
  | _ => 0

abbrev bufTy : (tb : Table) → Fin (tcTables nBuf tb) → BufTy
  | .hbm, ⟨0, _⟩ => ⟨S2248x128, .f32⟩
  | .hbm, ⟨1, _⟩ => ⟨S2248x128, .f32⟩
  | .hbm, ⟨2, _⟩ => ⟨S2248x128, .f32⟩
  | .hbm, ⟨3, _⟩ => ⟨S2248x128, .f32⟩
  | .hbm, ⟨4, _⟩ => ⟨S2248x128, .f32⟩
  | .hbm, ⟨5, _⟩ => ⟨S2248x128, .f32⟩
  | .hbm, ⟨6, _⟩ => ⟨S2248x128, .f32⟩
  | .local _ .vmem, ⟨0, _⟩ => ⟨S2248x128, .f32⟩
  | .local _ .vmem, ⟨1, _⟩ => ⟨S2248x128, .f32⟩
  | .local _ .vmem, ⟨2, _⟩ => ⟨S2248x128, .f32⟩
  | .local _ .vmem, ⟨3, _⟩ => ⟨S2248x128, .f32⟩
  | .local _ .vmem, ⟨4, _⟩ => ⟨S2248x128, .f32⟩
  | .local _ .vmem, ⟨5, _⟩ => ⟨S2248x128, .f32⟩
  | .local _ .vmem, ⟨6, _⟩ => ⟨S2248x128, .f32⟩
  | _, _ => ⟨S2248x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2248x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2248x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2248x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2248x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2248x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S2248x128 : Shape := ⟨2, ![2248, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2248x128, .f32⟩
  | .hbm, ⟨1, _⟩ => ⟨S2248x128, .f32⟩
  | .hbm, ⟨2, _⟩ => ⟨S2248x128, .f32⟩
  | .hbm, ⟨3, _⟩ => ⟨S2248x128, .f32⟩
  | .hbm, ⟨4, _⟩ => ⟨S_, .f32⟩
  | .hbm, ⟨5, _⟩ => ⟨S2248x128, .f32⟩
  | .hbm, ⟨6, _⟩ => ⟨S2248x128, .f32⟩
  | .hbm, ⟨7, _⟩ => ⟨S_, .f32⟩
  | .hbm, ⟨8, _⟩ => ⟨S2248x128, .f32⟩
  | .hbm, ⟨9, _⟩ => ⟨S2248x128, .f32⟩
  | .hbm, ⟨10, _⟩ => ⟨S2248x128, .f32⟩
  | .hbm, ⟨11, _⟩ => ⟨S_, .f32⟩
  | .hbm, ⟨12, _⟩ => ⟨S2248x128, .f32⟩
  | .hbm, ⟨13, _⟩ => ⟨S2248x128, .f32⟩
  | .hbm, ⟨14, _⟩ => ⟨S2248x128, .f32⟩
  | .hbm, ⟨15, _⟩ => ⟨S_, .f32⟩
  | .hbm, ⟨16, _⟩ => ⟨S2248x128, .f32⟩
  | .hbm, ⟨17, _⟩ => ⟨S2248x128, .f32⟩
  | .hbm, ⟨18, _⟩ => ⟨S2248x128, .f32⟩
  | .hbm, ⟨19, _⟩ => ⟨S_, .f32⟩
  | .hbm, ⟨20, _⟩ => ⟨S2248x128, .f32⟩
  | .hbm, ⟨21, _⟩ => ⟨S2248x128, .f32⟩
  | .hbm, ⟨22, _⟩ => ⟨S_, .f32⟩
  | .hbm, ⟨23, _⟩ => ⟨S2248x128, .f32⟩
  | .hbm, ⟨24, _⟩ => ⟨S2248x128, .f32⟩
  | .hbm, ⟨25, _⟩ => ⟨S2248x128, .f32⟩
  | .hbm, ⟨26, _⟩ => ⟨S_, .f32⟩
  | .hbm, ⟨27, _⟩ => ⟨S2248x128, .f32⟩
  | .hbm, ⟨28, _⟩ => ⟨S2248x128, .f32⟩
  | .hbm, ⟨29, _⟩ => ⟨S2248x128, .f32⟩
  | .hbm, ⟨30, _⟩ => ⟨S_, .f32⟩
  | .hbm, ⟨31, _⟩ => ⟨S2248x128, .f32⟩
  | .hbm, ⟨32, _⟩ => ⟨S2248x128, .f32⟩
  | .hbm, ⟨33, _⟩ => ⟨S2248x128, .f32⟩
  | .hbm, ⟨34, _⟩ => ⟨S_, .f32⟩
  | .hbm, ⟨35, _⟩ => ⟨S2248x128, .f32⟩
  | .hbm, ⟨36, _⟩ => ⟨S2248x128, .f32⟩
  | _, _ => ⟨S2248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamTapsRefIdeal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PreBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v38 : BitVec 1 := Scalar.xori v0 v_true
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== FinalLoss.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩
abbrev S128 : Shape := ⟨1, ![128]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v62 : BitVec 32 := Scalar.extui v0
  let c0_i32_24 : BitVec 32 := 0#32
  let v63 : BitVec 1 := Scalar.cmpi .ne v62 c0_i32_24
  v63

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v64 : BitVec 1 := Scalar.xori v0 v_true
  let v65 : BitVec 32 := Scalar.extui v64
  let c0_i32_25 : BitVec 32 := 0#32
  let v66 : BitVec 1 := Scalar.cmpi .ne v65 c0_i32_25
  v66

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v71 : BitVec 32 := Scalar.extui v0
  let c0_i32_27 : BitVec 32 := 0#32
  let v72 : BitVec 1 := Scalar.cmpi .ne v71 c0_i32_27
  v72

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_28 : BitVec 1 := 1#1
  let v73 : BitVec 1 := Scalar.xori v0 true_28
  let v74 : BitVec 32 := Scalar.extui v73
  let c0_i32_29 : BitVec 32 := 0#32
  let v75 : BitVec 1 := Scalar.cmpi .ne v74 c0_i32_29
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FinalLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x1, .f32⟩
  | .hbm, ⟨50, _⟩ => ⟨S4096x1, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S4096x2048, .bf16⟩
  | .hbm, ⟨72, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== PreNorm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PostPre.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostPreRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== MergeFwd.lean ====
abbrev S4096x8192 : Shape := ⟨2, ![4096, 8192]⟩
abbrev S4096x2048 : Shape := ⟨2, ![4096, 2048]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeFwdRefIdeal.lean ====
abbrev S4096x8192 : Shape := ⟨2, ![4096, 8192]⟩
abbrev S4096x4x2048 : Shape := ⟨3, ![4096, 4, 2048]⟩
abbrev S_ : Shape := ⟨0, ![]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x4x2048, .f32⟩
  | .hbm, ⟨3, _⟩ => ⟨S4096x4x2048, .f32⟩
  | .hbm, ⟨4, _⟩ => ⟨S4096x4x2048, .f32⟩
  | .hbm, ⟨5, _⟩ => ⟨S_, .f32⟩
  | .hbm, ⟨6, _⟩ => ⟨S4096x4x2048, .f32⟩
  | .hbm, ⟨7, _⟩ => ⟨S4096x4x2048, .f32⟩
  | .hbm, ⟨8, _⟩ => ⟨S_, .f32⟩
  | .hbm, ⟨9, _⟩ => ⟨S4096x4x2048, .f32⟩
  | .hbm, ⟨10, _⟩ => ⟨S4096x4x2048, .f32⟩
  | .hbm, ⟨11, _⟩ => ⟨S4096x4x2048, .f32⟩
  | .hbm, ⟨12, _⟩ => ⟨S4096x4x2048, .f32⟩
  | .hbm, ⟨13, _⟩ => ⟨S_, .f32⟩
  | .hbm, ⟨14, _⟩ => ⟨S4096x2048, .f32⟩
  | .hbm, ⟨15, _⟩ => ⟨S4096x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== MergeBwd.lean ====
abbrev S4096x2048 : Shape := ⟨2, ![4096, 2048]⟩
abbrev S4096x8192 : Shape := ⟨2, ![4096, 8192]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x8192, .f32⟩
  | .hbm, ⟨3, _⟩ => ⟨S4096x8192, .bf16⟩
  | .hbm, ⟨4, _⟩ => ⟨S4096x8192, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![arg0.toNat, v1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MergeBwdRefIdeal.lean ====
abbrev S4096x2048 : Shape := ⟨2, ![4096, 2048]⟩
abbrev S4096x8192 : Shape := ⟨2, ![4096, 8192]⟩
abbrev S_ : Shape := ⟨0, ![]⟩
abbrev S1x4096x1x2048 : Shape := ⟨4, ![1, 4096, 1, 2048]⟩
abbrev S1x4096x4x2048 : Shape := ⟨4, ![1, 4096, 4, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S1x4096x1x2048, .f32⟩
  | .hbm, ⟨12, _⟩ => ⟨S1x4096x4x2048, .f32⟩
  | .hbm, ⟨13, _⟩ => ⟨S4096x8192, .f32⟩
  | .hbm, ⟨14, _⟩ => ⟨S4096x8192, .f32⟩
  | .hbm, ⟨15, _⟩ => ⟨S4096x8192, .bf16⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MlpUp.lean ====
abbrev S4096x2048 : Shape := ⟨2, ![4096, 2048]⟩
abbrev S2048x8192 : Shape := ⟨2, ![2048, 8192]⟩
abbrev S4096x8192 : Shape := ⟨2, ![4096, 8192]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .hbm, ⟨3, _⟩ => ⟨S4096x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MlpDown.lean ====
abbrev S4096x8192 : Shape := ⟨2, ![4096, 8192]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateArgs.lean ====
abbrev S4096x2048 : Shape := ⟨2, ![4096, 2048]⟩
abbrev S2048x8192 : Shape := ⟨2, ![2048, 8192]⟩
abbrev S4096x8192 : Shape := ⟨2, ![4096, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateArgsRefIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixIn.lean ====
abbrev S4096x2048 : Shape := ⟨2, ![4096, 2048]⟩
abbrev S2048x3712 : Shape := ⟨2, ![2048, 3712]⟩
abbrev S4096x3712 : Shape := ⟨2, ![4096, 3712]⟩
abbrev S512x512 : Shape := ⟨2, ![512, 512]⟩
abbrev S512x3712 : Shape := ⟨2, ![512, 3712]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x3712, .bf16⟩
  | .hbm, ⟨2, _⟩ => ⟨S4096x3712, .f32⟩
  | .local _ .vmem, ⟨0, _⟩ => ⟨S512x512, .bf16⟩
  | .local _ .vmem, ⟨1, _⟩ => ⟨S512x512, .bf16⟩
  | .local _ .vmem, ⟨2, _⟩ => ⟨S512x3712, .bf16⟩
  | .local _ .vmem, ⟨3, _⟩ => ⟨S512x3712, .bf16⟩
  | .local _ .vmem, ⟨4, _⟩ => ⟨S512x3712, .f32⟩
  | .local _ .vmem, ⟨5, _⟩ => ⟨S512x3712, .f32⟩
  | .local _ .vmem, ⟨6, _⟩ => ⟨S512x3712, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3712 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x2048 : Shape := ⟨2, ![4096, 2048]⟩
abbrev S2048x3712 : Shape := ⟨2, ![2048, 3712]⟩
abbrev S4096x3712 : Shape := ⟨2, ![4096, 3712]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3712, .bf16⟩
  | .hbm, ⟨2, _⟩ => ⟨S4096x3712, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DMerged.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .bf16⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S2048x4096 : Shape := ⟨2, ![2048, 4096]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .bf16⟩
  | .hbm, ⟨3, _⟩ => ⟨S2048x2048, .f32⟩
  | .hbm, ⟨4, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwDown.lean ====
abbrev S4096x8192 : Shape := ⟨2, ![4096, 8192]⟩
abbrev S4096x2048 : Shape := ⟨2, ![4096, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x8192 : Shape := ⟨2, ![4096, 8192]⟩
abbrev S4096x2048 : Shape := ⟨2, ![4096, 2048]⟩
abbrev S8192x4096 : Shape := ⟨2, ![8192, 4096]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x4096, .bf16⟩
  | .hbm, ⟨3, _⟩ => ⟨S8192x2048, .f32⟩
  | .hbm, ⟨4, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpBwd.lean ====
abbrev S4096x2048 : Shape := ⟨2, ![4096, 2048]⟩
abbrev S8192x2048 : Shape := ⟨2, ![8192, 2048]⟩
abbrev S4096x8192 : Shape := ⟨2, ![4096, 8192]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S4096x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpBwdRefIdeal.lean ====
abbrev S4096x2048 : Shape := ⟨2, ![4096, 2048]⟩
abbrev S8192x2048 : Shape := ⟨2, ![8192, 2048]⟩
abbrev S4096x8192 : Shape := ⟨2, ![4096, 8192]⟩
abbrev S2048x8192 : Shape := ⟨2, ![2048, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S2048x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== DwUp.lean ====
abbrev S4096x2048 : Shape := ⟨2, ![4096, 2048]⟩
abbrev S4096x8192 : Shape := ⟨2, ![4096, 8192]⟩
abbrev S2048x8192 : Shape := ⟨2, ![2048, 8192]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x4096, .bf16⟩
  | .hbm, ⟨3, _⟩ => ⟨S2048x8192, .f32⟩
  | .hbm, ⟨4, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dh2.lean ====
abbrev S4096x8192 : Shape := ⟨2, ![4096, 8192]⟩
abbrev S2048x8192 : Shape := ⟨2, ![2048, 8192]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S4096x8192 : Shape := ⟨2, ![4096, 8192]⟩
abbrev S2048x8192 : Shape := ⟨2, ![2048, 8192]⟩
abbrev S8192x2048 : Shape := ⟨2, ![8192, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S8192x2048, .bf16⟩
  | .hbm, ⟨3, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dh1Gates.lean ====
abbrev S4096x8192 : Shape := ⟨2, ![4096, 8192]⟩
abbrev S2048x8192 : Shape := ⟨2, ![2048, 8192]⟩
abbrev S4096x2048 : Shape := ⟨2, ![4096, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh1GatesRefIdeal.lean ====
abbrev S4096x8192 : Shape := ⟨2, ![4096, 8192]⟩
abbrev S2048x8192 : Shape := ⟨2, ![2048, 8192]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S8192x2048, .bf16⟩
  | .hbm, ⟨4, _⟩ => ⟨S4096x2048, .f32⟩
  | .hbm, ⟨5, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PreMlpBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v36 : BitVec 32 := Scalar.extui v0
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v38 : BitVec 1 := Scalar.xori v0 v_true
  let v39 : BitVec 32 := Scalar.extui v38
  let c0_i32_15 : BitVec 32 := 0#32
  let v40 : BitVec 1 := Scalar.cmpi .ne v39 c0_i32_15
  v40

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v74 : BitVec 32 := Scalar.extui v0
  let c0_i32_28 : BitVec 32 := 0#32
  let v75 : BitVec 1 := Scalar.cmpi .ne v74 c0_i32_28
  v75

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v76 : BitVec 1 := Scalar.xori v0 true_29
  let v77 : BitVec 32 := Scalar.extui v76
  let c0_i32_30 : BitVec 32 := 0#32
  let v78 : BitVec 1 := Scalar.cmpi .ne v77 c0_i32_30
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PreMlpBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 82
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== DwLora.lean ====
abbrev S4096x512 : Shape := ⟨2, ![4096, 512]⟩
abbrev S4096x2048 : Shape := ⟨2, ![4096, 2048]⟩
abbrev S512x2048 : Shape := ⟨2, ![512, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwLoraRefIdeal.lean ====
abbrev S4096x512 : Shape := ⟨2, ![4096, 512]⟩
abbrev S4096x2048 : Shape := ⟨2, ![4096, 2048]⟩
abbrev S512x4096 : Shape := ⟨2, ![512, 4096]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x4096, .bf16⟩
  | .hbm, ⟨3, _⟩ => ⟨S512x2048, .f32⟩
  | .hbm, ⟨4, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DLora.lean ====
abbrev S4096x2048 : Shape := ⟨2, ![4096, 2048]⟩
abbrev S512x2048 : Shape := ⟨2, ![512, 2048]⟩
abbrev S4096x512 : Shape := ⟨2, ![4096, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DLoraRefIdeal.lean ====
abbrev S4096x2048 : Shape := ⟨2, ![4096, 2048]⟩
abbrev S512x2048 : Shape := ⟨2, ![512, 2048]⟩
abbrev S2048x512 : Shape := ⟨2, ![2048, 512]⟩
abbrev S4096x512 : Shape := ⟨2, ![4096, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S2048x512, .bf16⟩
  | .hbm, ⟨3, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DwIn.lean ====
abbrev S4096x2048 : Shape := ⟨2, ![4096, 2048]⟩
abbrev S4096x3712 : Shape := ⟨2, ![4096, 3712]⟩
abbrev S2048x3712 : Shape := ⟨2, ![2048, 3712]⟩
abbrev S512x512 : Shape := ⟨2, ![512, 512]⟩
abbrev S512x3712 : Shape := ⟨2, ![512, 3712]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3712, .bf16⟩
  | .hbm, ⟨2, _⟩ => ⟨S2048x3712, .bf16⟩
  | .local _ .vmem, ⟨0, _⟩ => ⟨S512x512, .bf16⟩
  | .local _ .vmem, ⟨1, _⟩ => ⟨S512x512, .bf16⟩
  | .local _ .vmem, ⟨2, _⟩ => ⟨S512x3712, .bf16⟩
  | .local _ .vmem, ⟨3, _⟩ => ⟨S512x3712, .bf16⟩
  | .local _ .vmem, ⟨4, _⟩ => ⟨S512x3712, .bf16⟩
  | .local _ .vmem, ⟨5, _⟩ => ⟨S512x3712, .bf16⟩
  | .local _ .vmem, ⟨6, _⟩ => ⟨S512x3712, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3712 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x2048 : Shape := ⟨2, ![4096, 2048]⟩
abbrev S4096x3712 : Shape := ⟨2, ![4096, 3712]⟩
abbrev S2048x4096 : Shape := ⟨2, ![2048, 4096]⟩
abbrev S2048x3712 : Shape := ⟨2, ![2048, 3712]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3712, .bf16⟩
  | .hbm, ⟨2, _⟩ => ⟨S2048x4096, .bf16⟩
  | .hbm, ⟨3, _⟩ => ⟨S2048x3712, .f32⟩
  | .hbm, ⟨4, _⟩ => ⟨S2048x3712, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvUp.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvUpRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .f32⟩
  | .hbm, ⟨3, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dh1Branches.lean ====
abbrev S4096x3712 : Shape := ⟨2, ![4096, 3712]⟩
abbrev S2048x3712 : Shape := ⟨2, ![2048, 3712]⟩
abbrev S4096x2048 : Shape := ⟨2, ![4096, 2048]⟩
abbrev S512x3712 : Shape := ⟨2, ![512, 3712]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3712, .bf16⟩
  | .hbm, ⟨1, _⟩ => ⟨S2048x3712, .bf16⟩
  | .hbm, ⟨2, _⟩ => ⟨S4096x2048, .f32⟩
  | .local _ .vmem, ⟨0, _⟩ => ⟨S512x3712, .bf16⟩
  | .local _ .vmem, ⟨1, _⟩ => ⟨S512x3712, .bf16⟩
  | .local _ .vmem, ⟨2, _⟩ => ⟨S512x3712, .bf16⟩
  | .local _ .vmem, ⟨3, _⟩ => ⟨S512x3712, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1BranchesRefIdeal.lean ====
abbrev S4096x3712 : Shape := ⟨2, ![4096, 3712]⟩
abbrev S2048x3712 : Shape := ⟨2, ![2048, 3712]⟩
abbrev S3712x2048 : Shape := ⟨2, ![3712, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x3712, .bf16⟩
  | .hbm, ⟨1, _⟩ => ⟨S2048x3712, .bf16⟩
  | .hbm, ⟨2, _⟩ => ⟨S3712x2048, .bf16⟩
  | .hbm, ⟨3, _⟩ => ⟨S4096x2048, .f32⟩
  | _, _ => ⟨S4096x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjBwdAct.lean ====
abbrev S4096x8192 : Shape := ⟨2, ![4096, 8192]⟩
abbrev S2560x2048 : Shape := ⟨2, ![2560, 2048]⟩
abbrev S4096x2560 : Shape := ⟨2, ![4096, 2560]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2560x2048, .bf16⟩
  | .hbm, ⟨2, _⟩ => ⟨S4096x2560, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c2_i32 : BitVec 32 := 2#32
  let v1 : BitVec 32 := Scalar.muli v0 c2_i32
  let v2 : BitVec 32 := Scalar.addi v1 arg2
  let c0_i32 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdActRefIdeal.lean ====
abbrev S4096x8192 : Shape := ⟨2, ![4096, 8192]⟩
abbrev S2560x2048 : Shape := ⟨2, ![2560, 2048]⟩
abbrev S4096x2048 : Shape := ⟨2, ![4096, 2048]⟩
abbrev S512x2048 : Shape := ⟨2, ![512, 2048]⟩
abbrev S1024x2048 : Shape := ⟨2, ![1024, 2048]⟩
abbrev S2048x512 : Shape := ⟨2, ![2048, 512]⟩
abbrev S4096x512 : Shape := ⟨2, ![4096, 512]⟩
abbrev S2048x1024 : Shape := ⟨2, ![2048, 1024]⟩
abbrev S4096x1024 : Shape := ⟨2, ![4096, 1024]⟩
abbrev S4096x2560 : Shape := ⟨2, ![4096, 2560]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2560x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S512x2048, .bf16⟩
  | .hbm, ⟨7, _⟩ => ⟨S512x2048, .bf16⟩
  | .hbm, ⟨8, _⟩ => ⟨S512x2048, .bf16⟩
  | .hbm, ⟨9, _⟩ => ⟨S1024x2048, .bf16⟩
  | .hbm, ⟨10, _⟩ => ⟨S2048x512, .bf16⟩
  | .hbm, ⟨11, _⟩ => ⟨S4096x512, .f32⟩
  | .hbm, ⟨12, _⟩ => ⟨S2048x512, .bf16⟩
  | .hbm, ⟨13, _⟩ => ⟨S4096x512, .f32⟩
  | .hbm, ⟨14, _⟩ => ⟨S2048x512, .bf16⟩
  | .hbm, ⟨15, _⟩ => ⟨S4096x512, .f32⟩
  | .hbm, ⟨16, _⟩ => ⟨S2048x1024, .bf16⟩
  | .hbm, ⟨17, _⟩ => ⟨S4096x1024, .f32⟩
  | .hbm, ⟨18, _⟩ => ⟨S4096x2560, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== ProjBwdW.lean ====
abbrev S4096x2560 : Shape := ⟨2, ![4096, 2560]⟩
abbrev S4096x8192 : Shape := ⟨2, ![4096, 8192]⟩
abbrev S2560x2048 : Shape := ⟨2, ![2560, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S4096x8192, .bf16⟩
  | .hbm, ⟨2, _⟩ => ⟨S2560x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg0 c3_i32
  let c2_i32 : BitVec 32 := 2#32
  let v1 : BitVec 32 := Scalar.muli v0 c2_i32
  let v2 : BitVec 32 := Scalar.addi v1 arg1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdWRefIdeal.lean ====
abbrev S4096x2560 : Shape := ⟨2, ![4096, 2560]⟩
abbrev S4096x8192 : Shape := ⟨2, ![4096, 8192]⟩
abbrev S4096x512 : Shape := ⟨2, ![4096, 512]⟩
abbrev S4096x1024 : Shape := ⟨2, ![4096, 1024]⟩
abbrev S4096x2048 : Shape := ⟨2, ![4096, 2048]⟩
abbrev S512x4096 : Shape := ⟨2, ![512, 4096]⟩
abbrev S512x2048 : Shape := ⟨2, ![512, 2048]⟩
abbrev S1024x4096 : Shape := ⟨2, ![1024, 4096]⟩
abbrev S1024x2048 : Shape := ⟨2, ![1024, 2048]⟩
abbrev S2560x2048 : Shape := ⟨2, ![2560, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x8192, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S512x4096, .bf16⟩
  | .hbm, ⟨11, _⟩ => ⟨S512x2048, .f32⟩
  | .hbm, ⟨12, _⟩ => ⟨S512x4096, .bf16⟩
  | .hbm, ⟨13, _⟩ => ⟨S512x2048, .f32⟩
  | .hbm, ⟨14, _⟩ => ⟨S512x4096, .bf16⟩
  | .hbm, ⟨15, _⟩ => ⟨S512x2048, .f32⟩
  | .hbm, ⟨16, _⟩ => ⟨S1024x4096, .bf16⟩
  | .hbm, ⟨17, _⟩ => ⟨S1024x2048, .f32⟩
  | .hbm, ⟨18, _⟩ => ⟨S2560x2048, .f32⟩
  | .hbm, ⟨19, _⟩ => ⟨S2560x2048, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== ProjFwd.lean ====
abbrev S4096x2560 : Shape := ⟨2, ![4096, 2560]⟩
abbrev S2560x2048 : Shape := ⟨2, ![2560, 2048]⟩
abbrev S4096x8192 : Shape := ⟨2, ![4096, 8192]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S2560x2048, .bf16⟩
  | .hbm, ⟨2, _⟩ => ⟨S4096x8192, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 4, 2], ![false, false, false, false]⟩

def k0_cond4 (i : grid0.Coords) : BitVec 1 :=
  let arg3 : BitVec 32 := BitVec.ofNat 32 (i 3).val
  let c1_i32 : BitVec 32 := 1#32
  let v5 : BitVec 1 := Scalar.cmpi .eq arg3 c1_i32
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 1 := Scalar.cmpi .slt arg2 c3_i32
  let c3_i32_0 : BitVec 32 := 3#32
  let v1 : BitVec 32 := Scalar.addi c3_i32_0 arg3
  let v2 : BitVec 32 := Scalar.select v0 arg2 v1
  let c0_i32 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c3_i32 : BitVec 32 := 3#32
  let v0 : BitVec 1 := Scalar.cmpi .slt arg2 c3_i32
  let c3_i32_0 : BitVec 32 := 3#32
  let v1 : BitVec 32 := Scalar.addi c3_i32_0 arg3
  let v2 : BitVec 32 := Scalar.select v0 arg2 v1
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg2 c2_i32
  let v1 : BitVec 32 := Scalar.addi v0 arg1
  let c0_i32 : BitVec 32 := 0#32
  ![arg0.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjFwdRefIdeal.lean ====
abbrev S4096x2560 : Shape := ⟨2, ![4096, 2560]⟩
abbrev S2560x2048 : Shape := ⟨2, ![2560, 2048]⟩
abbrev S4096x512 : Shape := ⟨2, ![4096, 512]⟩
abbrev S512x2048 : Shape := ⟨2, ![512, 2048]⟩
abbrev S4096x1024 : Shape := ⟨2, ![4096, 1024]⟩
abbrev S1024x2048 : Shape := ⟨2, ![1024, 2048]⟩
abbrev S4096x2048 : Shape := ⟨2, ![4096, 2048]⟩
abbrev S4096x8192 : Shape := ⟨2, ![4096, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S2560x2048, .bf16⟩
  | .hbm, ⟨2, _⟩ => ⟨S4096x512, .bf16⟩
  | .hbm, ⟨3, _⟩ => ⟨S512x2048, .bf16⟩
  | .hbm, ⟨4, _⟩ => ⟨S4096x512, .bf16⟩
  | .hbm, ⟨5, _⟩ => ⟨S512x2048, .bf16⟩
  | .hbm, ⟨6, _⟩ => ⟨S4096x512, .bf16⟩
  | .hbm, ⟨7, _⟩ => ⟨S512x2048, .bf16⟩
  | .hbm, ⟨8, _⟩ => ⟨S4096x1024, .bf16⟩
  | .hbm, ⟨9, _⟩ => ⟨S1024x2048, .bf16⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x8192, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== MlaPrep.lean ====
abbrev S4096x3712 : Shape := ⟨2, ![4096, 3712]⟩
abbrev S1x512 : Shape := ⟨2, ![1, 512]⟩
abbrev S4096x128 : Shape := ⟨2, ![4096, 128]⟩
abbrev S4096x512 : Shape := ⟨2, ![4096, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 18
  | .smem => 0
  | _ => 0

abbrev bufTy : (tb : Table) → Fin (tcTables nBuf tb) → BufTy
  | .hbm, ⟨0, _⟩ => ⟨S4096x3712, .f32⟩
  | .hbm, ⟨1, _⟩ => ⟨S1x512, .f32⟩
  | .hbm, ⟨2, _⟩ => ⟨S1x512, .f32⟩
  | .hbm, ⟨3, _⟩ => ⟨S4096x128, .f32⟩
  | .hbm, ⟨4, _⟩ => ⟨S4096x128, .f32⟩
  | .hbm, ⟨5, _⟩ => ⟨S4096x512, .bf16⟩
  | .hbm, ⟨6, _⟩ => ⟨S4096x512, .bf16⟩
  | .hbm, ⟨7, _⟩ => ⟨S4096x128, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | _, _ => ⟨S4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlaPrepRefIdeal.lean ====
abbrev S4096x3712 : Shape := ⟨2, ![4096, 3712]⟩
abbrev S1x512 : Shape := ⟨2, ![1, 512]⟩
abbrev S4096x128 : Shape := ⟨2, ![4096, 128]⟩
abbrev S4096x32 : Shape := ⟨2, ![4096, 32]⟩
abbrev S4096x96 : Shape := ⟨2, ![4096, 96]⟩
abbrev S4096x512 : Shape := ⟨2, ![4096, 512]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x3712, .f32⟩
  | .hbm, ⟨1, _⟩ => ⟨S1x512, .f32⟩
  | .hbm, ⟨2, _⟩ => ⟨S1x512, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x32, .f32⟩
  | .hbm, ⟨7, _⟩ => ⟨S4096x32, .f32⟩
  | .hbm, ⟨8, _⟩ => ⟨S4096x96, .f32⟩
  | .hbm, ⟨9, _⟩ => ⟨S4096x128, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .bf16⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .bf16⟩
  | .hbm, ⟨44, _⟩ => ⟨S4096x128, .f32⟩
  | .hbm, ⟨45, _⟩ => ⟨S4096x128, .f32⟩
  | .hbm, ⟨46, _⟩ => ⟨S4096x128, .f32⟩
  | .hbm, ⟨47, _⟩ => ⟨S4096x128, .bf16⟩
  | _, _ => ⟨S4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== SguFwd.lean ====
abbrev S4096x3712 : Shape := ⟨2, ![4096, 3712]⟩
abbrev S1x512 : Shape := ⟨2, ![1, 512]⟩
abbrev S4x128x128 : Shape := ⟨3, ![4, 128, 128]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x3712, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128x128, .f32⟩
  | .hbm, ⟨5, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x128, .f32⟩
  | .local _ .vmem, ⟨8, _⟩ => ⟨S512x512, .bf16⟩
  | .local _ .vmem, ⟨9, _⟩ => ⟨S512x512, .bf16⟩
  | _, _ => ⟨S4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdRefIdeal.lean ====
abbrev S4096x3712 : Shape := ⟨2, ![4096, 3712]⟩
abbrev S1x512 : Shape := ⟨2, ![1, 512]⟩
abbrev S4x128x128 : Shape := ⟨3, ![4, 128, 128]⟩
abbrev S4096x1024 : Shape := ⟨2, ![4096, 1024]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4x128 : Shape := ⟨3, ![128, 4, 128]⟩
abbrev S1x128x4x128 : Shape := ⟨4, ![1, 128, 4, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x3712, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128x128, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S32x128x4x128, .f32⟩
  | .hbm, ⟨53, _⟩ => ⟨S_, .i1⟩
  | .hbm, ⟨54, _⟩ => ⟨S128x128, .i1⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i1⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S_, .i32⟩
  | .hbm, ⟨66, _⟩ => ⟨S_, .f32⟩
  | .hbm, ⟨67, _⟩ => ⟨S4x128x128, .i1⟩
  | .hbm, ⟨68, _⟩ => ⟨S4x128x128, .f32⟩
  | .hbm, ⟨69, _⟩ => ⟨S4x128x128, .f32⟩
  | .hbm, ⟨70, _⟩ => ⟨S4x32x128x128, .f32⟩
  | .hbm, ⟨71, _⟩ => ⟨S32x128x4x128, .f32⟩
  | .hbm, ⟨72, _⟩ => ⟨S128x4x128, .f32⟩
  | .hbm, ⟨73, _⟩ => ⟨S1x128x4x128, .f32⟩
  | .hbm, ⟨74, _⟩ => ⟨S32x128x4x128, .f32⟩
  | .hbm, ⟨75, _⟩ => ⟨S32x128x4x128, .f32⟩
  | .hbm, ⟨76, _⟩ => ⟨S4096x512, .f32⟩
  | .hbm, ⟨77, _⟩ => ⟨S4096x512, .f32⟩
  | .hbm, ⟨78, _⟩ => ⟨S4096x512, .bf16⟩
  | _, _ => ⟨S4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_c_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]
-- ==== QUp.lean ====
abbrev S4096x512 : Shape := ⟨2, ![4096, 512]⟩
abbrev S512x2048 : Shape := ⟨2, ![512, 2048]⟩
abbrev S4096x256 : Shape := ⟨2, ![4096, 256]⟩
abbrev S4096x2048 : Shape := ⟨2, ![4096, 2048]⟩
abbrev S1024x512 : Shape := ⟨2, ![1024, 512]⟩
abbrev S512x256 : Shape := ⟨2, ![512, 256]⟩
abbrev S1024x256 : Shape := ⟨2, ![1024, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x256, .f32⟩
  | .hbm, ⟨3, _⟩ => ⟨S4096x256, .f32⟩
  | .hbm, ⟨4, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x256, .bf16⟩
  | .local _ .vmem, ⟨3, _⟩ => ⟨S512x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== QUpRefIdeal.lean ====
abbrev S4096x512 : Shape := ⟨2, ![4096, 512]⟩
abbrev S512x2048 : Shape := ⟨2, ![512, 2048]⟩
abbrev S4096x256 : Shape := ⟨2, ![4096, 256]⟩
abbrev S4096x2048 : Shape := ⟨2, ![4096, 2048]⟩
abbrev S4096x8x256 : Shape := ⟨3, ![4096, 8, 256]⟩
abbrev S4096x8x160 : Shape := ⟨3, ![4096, 8, 160]⟩
abbrev S4096x8x96 : Shape := ⟨3, ![4096, 8, 96]⟩
abbrev S4096x1x256 : Shape := ⟨3, ![4096, 1, 256]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x256, .f32⟩
  | .hbm, ⟨3, _⟩ => ⟨S4096x256, .f32⟩
  | .hbm, ⟨4, _⟩ => ⟨S4096x2048, .f32⟩
  | .hbm, ⟨5, _⟩ => ⟨S4096x8x256, .f32⟩
  | .hbm, ⟨6, _⟩ => ⟨S4096x8x160, .f32⟩
  | .hbm, ⟨7, _⟩ => ⟨S4096x8x160, .f32⟩
  | .hbm, ⟨8, _⟩ => ⟨S4096x8x96, .f32⟩
  | .hbm, ⟨9, _⟩ => ⟨S4096x8x256, .f32⟩
  | .hbm, ⟨10, _⟩ => ⟨S4096x1x256, .f32⟩
  | .hbm, ⟨11, _⟩ => ⟨S4096x8x256, .f32⟩
  | .hbm, ⟨12, _⟩ => ⟨S4096x8x256, .f32⟩
  | .hbm, ⟨13, _⟩ => ⟨S4096x1x256, .f32⟩
  | .hbm, ⟨14, _⟩ => ⟨S4096x8x256, .f32⟩
  | .hbm, ⟨15, _⟩ => ⟨S4096x8x256, .f32⟩
  | .hbm, ⟨16, _⟩ => ⟨S4096x8x256, .f32⟩
  | .hbm, ⟨17, _⟩ => ⟨S4096x2048, .f32⟩
  | .hbm, ⟨18, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== ConvBwdNorm.lean ====
abbrev S4096x2560 : Shape := ⟨2, ![4096, 2560]⟩
abbrev S4096x512 : Shape := ⟨2, ![4096, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2560, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S4096x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v60 : BitVec 32 := Scalar.extui v0
  let c0_i32_23 : BitVec 32 := 0#32
  let v61 : BitVec 1 := Scalar.cmpi .ne v60 c0_i32_23
  v61

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v62 : BitVec 1 := Scalar.xori v0 v_true
  let v63 : BitVec 32 := Scalar.extui v62
  let c0_i32_24 : BitVec 32 := 0#32
  let v64 : BitVec 1 := Scalar.cmpi .ne v63 c0_i32_24
  v64

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v68 : BitVec 32 := Scalar.extui v0
  let c0_i32_26 : BitVec 32 := 0#32
  let v69 : BitVec 1 := Scalar.cmpi .ne v68 c0_i32_26
  v69

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_27 : BitVec 1 := 1#1
  let v70 : BitVec 1 := Scalar.xori v0 true_27
  let v71 : BitVec 32 := Scalar.extui v70
  let c0_i32_28 : BitVec 32 := 0#32
  let v72 : BitVec 1 := Scalar.cmpi .ne v71 c0_i32_28
  v72

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v75 : BitVec 32 := Scalar.extui v0
  let c0_i32_30 : BitVec 32 := 0#32
  let v76 : BitVec 1 := Scalar.cmpi .ne v75 c0_i32_30
  v76

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_31 : BitVec 1 := 1#1
  let v77 : BitVec 1 := Scalar.xori v0 true_31
  let v78 : BitVec 32 := Scalar.extui v77
  let c0_i32_32 : BitVec 32 := 0#32
  let v79 : BitVec 1 := Scalar.cmpi .ne v78 c0_i32_32
  v79

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvBwdNormRefIdeal.lean ====
abbrev S4096x2560 : Shape := ⟨2, ![4096, 2560]⟩
abbrev S4096x512 : Shape := ⟨2, ![4096, 512]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 81
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S4096x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S_, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x512, .f32⟩
  | .hbm, ⟨67, _⟩ => ⟨S4096x512, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S_, .f32⟩
  | .hbm, ⟨72, _⟩ => ⟨S512, .f32⟩
  | .hbm, ⟨73, _⟩ => ⟨S1x512, .f32⟩
  | .hbm, ⟨74, _⟩ => ⟨S4096x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S_, .f32⟩
  | .hbm, ⟨79, _⟩ => ⟨S512, .f32⟩
  | .hbm, ⟨80, _⟩ => ⟨S1x512, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_13 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proof.Launch.lean ====
/-
The launch of a program whose @main is one kernel with no window and no prefetched table, where the cores hand each
other parts of their buffers before any of them runs: the step before the run gets every core's own counters AND every
core's buffers at once, and deals both.
-/
module

public import Idealize.ShloMosaic.Lib.Pipeline.Launch
public import Idealize.ShloMosaic.Lib.Pipeline.Kit
public import Idealize.ShloMosaic.Lib.Pipeline.RegionArrays
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- The rights to assign levels, of every core's cells, become the level facts of one assignment that gives the cells
    of the other threads no index. -/
theorem levels_assign (L : GSem nD τ sig → Finset Ix) (lv : GSem nD τ sig → Ix → Lvl) (hL : ∀ g : GSem nD τ sig, g.1.2 ≠ .tc → L g = ∅) :
    (bigSep Finset.univ fun c : Dev nD => (levels0 (τ := τ) (sig := sig) c : sProp 𝕄)) ⊢ (|==> levAts L lv : sProp 𝕄) := by
  have none : ∀ d : Dev nD, (bigSep (Finset.univ.erase Proc.tc) fun p => (coreLevAts ((d, p) : Thread nD τ) L lv : sProp 𝕄)) = BI.emp := fun d => by
    refine (bigSep_congr (Ψ := fun _ => (BI.emp : sProp 𝕄)) fun p hp => ?_).trans (BI.bigSep_emp_const _)
    unfold coreLevAts
    refine (bigSep_congr (Ψ := fun _ => (BI.emp : sProp 𝕄)) fun sm _ => ?_).trans (BI.bigSep_emp_const _)
    rw [hL (((d, p) : Thread nD τ), sm) (Finset.ne_of_mem_erase hp), BI.bigSep_empty]
  have all : (levAts L lv : sProp 𝕄) = bigSep Finset.univ fun d : Dev nD => coreLevAts (d.tc : Thread nD τ) L lv := by
    rw [show (levAts L lv : sProp 𝕄) = bigSep Finset.univ fun c : Thread nD τ => coreLevAts c L lv
        from (bigSep_univ_prod fun g : GSem nD τ sig => bigSep (L g) fun ι => levAt g ι (lv g ι)),
      bigSep_threads (fun c : Thread nD τ => coreLevAts c L lv), bigSep_congr fun d _ => none d, BI.bigSep_emp_const]
    exact Entails.antisymm sep_emp.1 sep_emp.2
  rw [all]
  refine (bigSep_mono fun c _ => (lev_assign_cells (c.tc : Thread nD τ) L lv).trans (bupd_mono sep_elim_right)).trans (BI.bigSep_bupd _ _)

section Run

variable {Λ₀ : Labels} {P : Type} [Fintype P] [DecidableEq P]
variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a))) (p : P)

variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

include phinj hw ho in
/-- The run of an @main that is the one kernel region of pipeline `p`, which has no window and no prefetched table. -/
theorem run_dealt [∀ e, Nonempty (Val e)] [Infinite Name] [EP.LandsIn (upEmb : UEmb _ 𝕄)]
    (hW : IsEmpty (Fin (pin pcs a p).W)) (hK : (pcs p).pre.K = 0)
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (pdats p c) defs₀ 𝒱₀ ι Set.univ)
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (G X Y : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (hdeal : iprop(levAts L lv ∗ (bigSep Finset.univ fun c : Dev nD => ownSems0 osem c)
        ∗ (bigSep Finset.univ fun c : Dev nD => unscopedBufs c fun b => m ((c.tc : Thread nD τ).loc b))
        ∗ (bigSep Finset.univ fun c : Dev nD => launchCred O₀ c) ∗ bigSep Finset.univ G)
      ⊢ |={Set.univ}=> (bigSep Finset.univ X : sProp 𝕄))
    (hin : ∀ c, iprop(X c ∗ scopedRest (pin pcs a p).spec c) ⊢ (pdats p c).Φ 0)
    (hout : ∀ c, (pdats p c).Φ (Fin.last (pin pcs a p).N) ⊢ iprop(Y c ∗ ownSems0 osem c ∗ scopedRest (pin pcs a p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  have sems (c : Dev nD) := scopedSems0_split (pin pcs a) phinj p hw ho (Ix := Ix) (Val := Val) (Name := Name) (U := U) (Lvl := Lvl) (τ := τ) c
  have bufs (c : Dev nD) := scopedBufs_split (pin pcs a) p hw.stage_scoped hw.stage_inj (fun w => hW.elim w) (nD := nD) (τ := τ) (Ix := Ix) (Val := Val) (Name := Name) (U := U) (Lvl := Lvl) c
  have arr (c : Dev nD) (F) : ((pdats p c).arrays F : sProp 𝕄) = BI.emp := by
    unfold Dat.arrays
    rw [Finset.univ_eq_empty, BI.bigSep_empty]
  have wts (c : Dev nD) : (cellsWaits (pin pcs a) pdats ι p c : sProp 𝕄) = BI.emp := by
    unfold cellsWaits PerCore.cellsWaits PerCore.RDat.cellsWaits
    rw [Finset.univ_eq_empty, BI.bigSep_empty]
  -- what a core holds before its run and after it
  let keep : Dev nD → sProp 𝕄 := fun c => iprop(scopedBufs (c.tc : Thread nD τ) ∗ cellsSems0 (pin pcs a) p c ∗ idleSems0 (pin pcs a) phinj p ho c
    ∗ owes (c.tc : Thread nD τ) (O₀ c) ∅)
  let fin : Dev nD → sProp 𝕄 := fun c => iprop(Y c ∗ scopedSems0 (c.tc : Thread nD τ))
  have core (c : Dev nD) : coreInit (Ix := Ix) (Name := Name) (U := U) (Lvl := Lvl) (owing O₀) 0 (⟨m, fun _ => 0, g⟩ : MemSt nD τ sig Val) (c.tc : Thread nD τ)
      ⊢ iprop(keep c ∗ levels0 c ∗ ownSems0 osem c ∗ unscopedBufs c (fun b => m ((c.tc : Thread nD τ).loc b)) ∗ launchCred O₀ c) := by
    refine (coreInit_boundary_owing O₀ m g c).trans ?_
    unfold boundary
    rw [sems c]
    simp only [keep]
    iintro ⟨⟨Hsc, ⟨⟨Hcells, Hown⟩, Hidle⟩, -⟩, Hbuf, -, Howe, Hlev, -, Hcred⟩
    isplitl [Hsc Hcells Hidle Howe]
    · isplitl [Hsc]; · iexact Hsc
      isplitl [Hcells]; · iexact Hcells
      isplitl [Hidle] <;> iassumption
    isplitl [Hlev]; · iexact Hlev
    isplitl [Hown]; · iexact Hown
    isplitl [Hbuf] <;> iassumption
  have cores : (bigSep Finset.univ fun c : Dev nD => coreInit (Ix := Ix) (Name := Name) (U := U) (Lvl := Lvl) (owing O₀) 0 (⟨m, fun _ => 0, g⟩ : MemSt nD τ sig Val) (c.tc : Thread nD τ))
      ⊢ iprop(bigSep Finset.univ keep ∗ (bigSep Finset.univ fun c : Dev nD => levels0 c) ∗ (bigSep Finset.univ fun c : Dev nD => ownSems0 osem c)
        ∗ (bigSep Finset.univ fun c : Dev nD => unscopedBufs c fun b => m ((c.tc : Thread nD τ).loc b)) ∗ bigSep Finset.univ fun c : Dev nD => launchCred O₀ c) := by
    rw [← BI.bigSep_sep', ← BI.bigSep_sep', ← BI.bigSep_sep', ← BI.bigSep_sep']
    exact bigSep_mono fun c _ => core c
  have pick (Ψ : P → Dev nD → sProp 𝕄) :
      (bigSep Finset.univ fun c : Dev nD => bigSep Finset.univ fun p' => Ψ p' c) ⊢ bigSep Finset.univ fun c : Dev nD => Ψ p c :=
    bigSep_mono fun c _ => BI.bigSep_elim (Finset.mem_univ p)
  let pre : Dev nD → sProp 𝕄 := fun c => iprop(keep c ∗ cellsGhost (pin pcs a) EP p c ∗ toksInit (pin pcs a) EP p c ∗ X c)
  refine (θ_run (Pipeline.defs pcs defs₀) _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs pcs defs₀) _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · -- the launch
    iintro ⟨Hcores, Hu⟩
    ihave H := cores $$ Hcores
    icases H with ⟨Hkeep, Hlev, Hown, Hbuf, Hcred⟩
    imod (levels_assign L lv hL) $$ Hlev with Hla
    imod hu₀ $$ Hu with ⟨HP, HG⟩
    imod (fund_ghost (pin pcs a) EP phinj) $$ HP with ⟨Hg, Ht⟩
    imod hdeal $$ [Hla Hown Hbuf Hcred HG] with HX
    · isplitl [Hla]; · iexact Hla
      isplitl [Hown]; · iexact Hown
      isplitl [Hbuf]; · iexact Hbuf
      isplitl [Hcred] <;> iassumption
    imodintro
    iexists ()
    isplitr []
    · simp only [pre, BI.bigSep_sep']
      isplitl [Hkeep]; · iexact Hkeep
      isplitl [Hg]; · iapply (pick fun p' c => cellsGhost (pin pcs a) EP p' c); iexact Hg
      isplitl [Ht]; · iapply (pick fun p' c => toksInit (pin pcs a) EP p' c); iexact Ht
      iexact HX
    · iempintro
  · -- the run of one core
    have left : iprop((pdats p c).Φ (Fin.last (pin pcs a p).N) ∗ cellsSems0 (pin pcs a) p c ∗ Dat.staging (pin pcs a p) c ∗ idleSems0 (pin pcs a) phinj p ho c)
        ⊢ iprop(Y c ∗ scopedSems0 (c.tc : Thread nD τ) ∗ scopedBufs (c.tc : Thread nD τ)) := by
      rw [sems c, bufs c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    simp only [pre, keep]
    rw [hmain c]
    iintro ⟨⟨Hsc, Hcells, Hidle, Howe⟩, Hg, Ht, HX⟩
    iapply (fupd_wp frame (wpE (Pipeline.defs pcs defs₀) (Variants.lift 𝒱₀) (c.tc : Thread nD τ) none) Set.univ _ _)
    imod (cellsInit_alloc (pin pcs a) pdats EP phinj p c) $$ [Hcells Hg] with ⟨%κ, -, Hinit⟩
    · isplitl [Hcells] <;> iassumption
    imodintro
    iapply (wp_customCall_entry_frame pcs a pdats ι EP κ phinj p defs₀ 𝒱₀ (fun _ => fullShare.right) c Set.univ (fun _ _ => Set.mem_univ _)
        (hbody c) (fun w => hW.elim w) none (fun u h => nomatch h) (X := X c) (Y := Y c) (R := scopedRest (pin pcs a p).spec c) (I := idleSems0 (pin pcs a) phinj p ho c)
        (Entails.of_eq (bufs c))
        (by
          rw [prefHeld_of_none _ hK]
          iintro ⟨HX, -, HR⟩
          iapply (hin c)
          isplitl [HX] <;> iassumption) left
        (k := fun _ => .ret ⟨⟩) (Q := fun _ => post (liftTc fin BI.emp) (c.tc : Thread nD τ))) $$ [Howe Hinit Ht HX Hidle Hsc]
    · isplitl [Howe Hinit Ht]
      · unfold EntryPre PerCore.EntryPre
        rw [arr, show PerCore.cellsWaits (fun _ : Dev nD => pin pcs a) pdats ι p c = (BI.emp : sProp 𝕄) from wts c]
        unfold Dat.owesAt owesWithin
        rw [howed₀ c]
        isplitr; · iempintro
        isplitl [Howe]
        · iexists ∅; isplitr; · ipureintro; rw [Finset.coe_empty]; exact Set.empty_subset _
          iexact Howe
        isplitr; · iempintro
        isplitl [Hinit] <;> iassumption
      isplitr; · rw [prefHeld_of_none _ hK]; iempintro
      isplitl [HX]; · iexact HX
      isplitl [Hidle] <;> iassumption
    iintro ⟨Hpost, HY, Hss, -⟩
    rw [wp_ret]; imodintro
    unfold post; simp only [liftTc_tc, fin]
    unfold EntryPost PerCore.EntryPost Dat.owesAt owesWithin
    rw [howedN c]
    icases Hpost with ⟨-, ⟨%W, -, HW⟩⟩
    isplitr [HW]
    · isplitl [HY] <;> iassumption
    · iexists W; iexact HW
  · -- the final state read
    have read (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ read s') $$ [H HSI] with %h
    · isplitl [H] <;> iassumption
    imodintro
    ipureintro
    exact ⟨fun c => h c (Finset.mem_univ c), hsc⟩

end Run

end Cert.Exchange

end
-- ==== Proof.Net.lean ====
/-
One-shot exchanges. Every core has the same finite list of counters; each counter is waited for exactly once, for
exactly one transfer, and when its wait returns it hands its core one stated assertion. For each counter of the list
a permutation of the devices says whose counter the core's own transfer pays: the core's own (a counter of departures
or of a local copy), or another core's (a counter of arrivals). The rules for starting a transfer and for waiting, and
the run of a program that is one kernel exchanging data this way.
-/
module

public import proofs.«01_k».proof.Proof.Launch
public import Idealize.ShloMosaic.Lib.Rounds

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

/-- The ghost state of a program: the pipeline's rounds and the exchange's. -/
abbrev UU (nD : Nat) (τ : Topo) (sig : RefSig) : Type := URounds (GSem nD τ sig) Unit × URounds (GSem nD τ sig) Unit

variable {nD : Nat} {τ : Topo} {sig : RefSig} {Val : EltTy → Type}

local notation "𝕄" => MT nD τ sig Unit Val ℕ (UU nD τ sig) ℕ

abbrev EP : Emb (URounds (GSem nD τ sig) Unit) 𝕄 := embL
abbrev ER : Emb (URounds (GSem nD τ sig) Unit) 𝕄 := embR

theorem sep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Two whole buffers say what the memory holds there. -/
theorem both_read (ℓ ℓ' : Loc nD τ sig) (f : Buf Val ℓ) (f' : Buf Val ℓ') (s : Phys nD τ sig Val) : iprop(((ℓ ↦{fullShare} f) ∗ (ℓ' ↦{fullShare} f')) ∗ SI s)
    ⊢ |={Set.univ}=> iprop(⌜s.mem.mem ℓ' = f' ∧ s.mem.mem ℓ = f⌝ ∗ (SI s : sProp 𝕄)) := by
  refine pure_elim (s.mem.mem ℓ = f) ?_ fun h1 => pure_elim (s.mem.mem ℓ' = f') ?_ fun h2 => ?_
  · iintro ⟨⟨HA, -⟩, HS⟩
    ihave H := SI_pointsTo_agree $$ [HS HA]
    · isplitl [HS] <;> iassumption
    icases H with %h
    ipureintro
    exact funext fun i => h i (Finset.mem_univ i)
  · iintro ⟨⟨-, HB⟩, HS⟩
    ihave H := SI_pointsTo_agree $$ [HS HB]
    · isplitl [HS] <;> iassumption
    icases H with %h
    ipureintro
    exact funext fun i => h i (Finset.mem_univ i)
  · iintro ⟨-, HS⟩
    imodintro
    isplitr
    · ipureintro; exact ⟨h2, h1⟩
    iexact HS

theorem bigSep_univ_swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun ab : α × β => Φ ab.1 ab.2), ← bigSep_univ_prod (fun ba : β × α => Φ ba.2 ba.1),
    bigSep_univ_equiv (Equiv.prodComm β α) (fun ab : α × β => Φ ab.1 ab.2)]
  rfl

theorem bigSep_storable {I : Type} [DecidableEq I] (S : Finset I) (Φ : I → sProp 𝕄) (h : ∀ i, BI.Storable (upEmb : UEmb _ 𝕄) (Φ i)) :
    BI.Storable (upEmb : UEmb _ 𝕄) (bigSep S Φ) := by
  haveI := h
  infer_instance

/-- An exchange: the counters of a core, whose counter a core pays for each of them, which of them are paid from
    elsewhere (so owed at launch), the units of one transfer, an order on the counters, and what each hands over. -/
structure Net (nD : Nat) (τ : Topo) (sig : RefSig) (Val : EltTy → Type) where
  n : ℕ
  osem : Fin n → SemLoc sig
  inj : Function.Injective osem
  tgt : Fin n → Equiv.Perm (Dev nD)
  owed : Finset (Fin n)
  N : ℕ
  N_pos : 0 < N
  lev : Fin n → ℕ
  P : Dev nD → Fin n → sProp (MT nD τ sig Unit Val ℕ (UU nD τ sig) ℕ)
  storable : ∀ c k, BI.Storable (upEmb : UEmb _ (MT nD τ sig Unit Val ℕ (UU nD τ sig) ℕ)) (P c k)

namespace Net

variable (X : Net nD τ sig Val)

/-- Counter `k` of device `c`. -/
abbrev cell (c : Dev nD) (k : Fin X.n) : GSem nD τ sig := ((c.tc : Thread nD τ), X.osem k)

theorem cell_injective : Function.Injective fun ck : Dev nD × Fin X.n => X.cell ck.1 ck.2 := by
  rintro ⟨c, k⟩ ⟨c', k'⟩ h
  have h1 : c = c' := congrArg (fun g : GSem nD τ sig => g.1.1) h
  have h2 : k = k' := X.inj (congrArg Prod.snd h)
  rw [h1, h2]

def keyed (sm : SemLoc sig) : Finset (Fin X.n) := Finset.univ.filter fun k => X.osem k = sm

theorem keyed_osem (k : Fin X.n) : X.keyed (X.osem k) = {k} := by
  ext k'
  simp only [keyed, Finset.mem_filter, Finset.mem_univ, true_and, Finset.mem_singleton]
  exact ⟨fun h => X.inj h, fun h => h ▸ rfl⟩

/-- One round, one transfer, one payload. -/
def sched : Rounds.Schedule (GSem nD τ sig) Unit 𝕄 where
  duties _ r := if r = 0 then {()} else ∅
  amount _ _ _ := X.N
  payload g _ _ := bigSep (X.keyed g.2) fun k => X.P g.1.1 k
  amount_pos _ _ _ _ := X.N_pos

instance sched_storable (g : GSem nD τ sig) (r : ℕ) (d : Unit) : BI.Storable (upEmb : UEmb _ 𝕄) (X.sched.payload g r d) :=
  show BI.Storable (upEmb : UEmb _ 𝕄) (bigSep (X.keyed g.2) fun k => X.P g.1.1 k) from bigSep_storable _ _ fun k => X.storable g.1.1 k

theorem mem_duties (g : GSem nD τ sig) : () ∈ X.sched.duties g 0 := by
  show () ∈ (if (0 : ℕ) = 0 then {()} else (∅ : Finset Unit))
  rw [if_pos rfl]; exact Finset.mem_singleton_self _

theorem duties_zero (g : GSem nD τ sig) : X.sched.duties g 0 = {()} := by
  show (if (0 : ℕ) = 0 then {()} else (∅ : Finset Unit)) = {()}
  rw [if_pos rfl]

theorem duties_later (g : GSem nD τ sig) (r : ℕ) (h : 0 + 1 ≤ r) : X.sched.duties g r = ∅ := if_neg (by omega)

theorem expect_zero (g : GSem nD τ sig) : X.sched.expect g 0 = X.N := by
  unfold Schedule.expect Schedule.amountOf
  show ∑ d ∈ (if (0 : ℕ) = 0 then {()} else (∅ : Finset Unit)), X.N = X.N
  rw [if_pos rfl, Finset.sum_singleton]

theorem payload_cell (c : Dev nD) (k : Fin X.n) (r : ℕ) (d : Unit) : X.sched.payload (X.cell c k) r d = X.P c k := by
  show bigSep (X.keyed (X.osem k)) (fun k => X.P c k) = X.P c k
  rw [keyed_osem, bigSep_singleton]

theorem rest_cell (c : Dev nD) (k : Fin X.n) :
    (bigSep (X.sched.duties (X.cell c k) 0 \ ∅) fun d => X.sched.payload (X.cell c k) 0 d) = X.P c k := by
  rw [Finset.sdiff_empty, duties_zero, bigSep_singleton, payload_cell]

/-! ### What a core owes, and the order -/

/-- What device `c` still owes when the counters `S` are still to be paid. -/
def due (c : Dev nD) (S : Finset (Fin X.n)) : CellTallies nD τ sig Unit := ∑ k ∈ S, tallyAt (X.cell (X.tgt k c) k) () X.N

theorem due_erase (c : Dev nD) (S : Finset (Fin X.n)) {k : Fin X.n} (hk : k ∈ S) :
    X.due c S = X.due c (S.erase k) + tallyAt (X.cell (X.tgt k c) k) () X.N := (Finset.sum_erase_add _ _ hk).symm

theorem due_empty (c : Dev nD) : X.due c ∅ = 0 := Finset.sum_empty

theorem due_pos {c : Dev nD} {S : Finset (Fin X.n)} {g : GSem nD τ sig} {u : Unit} (h : 0 < X.due c S g u) :
    ∃ k ∈ S, g = X.cell (X.tgt k c) k := by
  induction S using Finset.induction_on with
  | empty => rw [due_empty] at h; exact absurd h (Nat.lt_irrefl 0)
  | insert k S hk ih =>
    rw [show X.due c (insert k S) = tallyAt (X.cell (X.tgt k c) k) () X.N + X.due c S from Finset.sum_insert hk, Pi.add_apply, Finsupp.add_apply, tallyAt_apply] at h
    by_cases hg : g = X.cell (X.tgt k c) k ∧ u = ()
    · exact ⟨k, Finset.mem_insert_self _ _, hg.1⟩
    · rw [if_neg hg, Nat.zero_add] at h
      obtain ⟨k', hk', e⟩ := ih h
      exact ⟨k', Finset.mem_insert_of_mem hk', e⟩

def L (g : GSem nD τ sig) : Finset Unit := if g.1.2 = .tc then {()} else ∅
theorem L_of_ne (g : GSem nD τ sig) (h : g.1.2 ≠ .tc) : L g = ∅ := if_neg h
theorem mem_L (c : Dev nD) (sm : SemLoc sig) (u : Unit) : u ∈ L (((c.tc : Thread nD τ), sm) : GSem nD τ sig) := by
  rw [show L (((c.tc : Thread nD τ), sm) : GSem nD τ sig) = {()} from if_pos rfl]; exact Finset.mem_singleton_self _

def lv (g : GSem nD τ sig) (_ : Unit) : ℕ := ∑ k ∈ X.keyed g.2, X.lev k
theorem lv_cell (c : Dev nD) (k : Fin X.n) (u : Unit) : X.lv (X.cell c k) u = X.lev k := by
  show ∑ k ∈ X.keyed (X.osem k), X.lev k = X.lev k
  rw [keyed_osem, Finset.sum_singleton]

theorem mayWait (c : Dev nD) (k : Fin X.n) (S : Finset (Fin X.n)) (h : ∀ k' ∈ S, X.lev k < X.lev k') :
    (levAts L X.lv : sProp 𝕄) ⊢ MayWait (c.tc : Thread nD τ) (X.osem k) () (X.due c S) :=
  MayOwe.of_cut (L := L) (lev := X.lv) (X.lev k) (fun p hp => by rw [Finset.mem_singleton.mp hp]; exact mem_L _ _ _)
    (fun g u hg => by obtain ⟨k', _, rfl⟩ := X.due_pos hg; exact mem_L _ _ _)
    (fun p hp => by rw [Finset.mem_singleton.mp hp]; exact le_of_eq (X.lv_cell c k ()))
    (fun g u hg => by obtain ⟨k', hk', rfl⟩ := X.due_pos hg; rw [X.lv_cell]; exact h k' hk')

/-! ### The record every core reads, and what a core holds -/

/-- Every counter's invariant, that its one round is reached, and the order. -/
def records (K : Dev nD × Fin X.n → ℕ) : sProp 𝕄 :=
  iprop((bigSep Finset.univ fun ck : Dev nD × Fin X.n => cellInv ER X.sched (K ck) (X.cell ck.1 ck.2))
    ∗ (bigSep Finset.univ fun ck : Dev nD × Fin X.n => reached ER (X.cell ck.1 ck.2) 0) ∗ levAts L X.lv)

instance records_persistent (K : Dev nD × Fin X.n → ℕ) : BI.Persistent (X.records K) := by unfold records; infer_instance

theorem records_at (K : Dev nD × Fin X.n → ℕ) (c : Dev nD) (k : Fin X.n) :
    X.records K ⊢ iprop(cellInv ER X.sched (K (c, k)) (X.cell c k) ∗ reached ER (X.cell c k) 0) := by
  unfold records
  iintro ⟨HI, HR, -⟩
  isplitl [HI]
  · iapply (show (bigSep Finset.univ fun ck : Dev nD × Fin X.n => (cellInv ER X.sched (K ck) (X.cell ck.1 ck.2) : sProp 𝕄))
      ⊢ cellInv ER X.sched (K (c, k)) (X.cell c k) from BI.bigSep_elim (Finset.mem_univ (c, k)))
    iexact HI
  · iapply (show (bigSep Finset.univ fun ck : Dev nD × Fin X.n => (reached ER (X.cell ck.1 ck.2) 0 : sProp 𝕄))
      ⊢ reached ER (X.cell c k) 0 from BI.bigSep_elim (Finset.mem_univ (c, k)))
    iexact HR

theorem records_levels (K : Dev nD × Fin X.n → ℕ) : X.records K ⊢ levAts L X.lv := by
  unfold records
  iintro ⟨-, -, H⟩
  iexact H

/-- What device `c` owes, whatever its waits have recorded. -/
def debt (c : Dev nD) (S : Finset (Fin X.n)) : sProp 𝕄 := iprop(∃ W, owes (c.tc : Thread nD τ) (X.due c S) W)

/-- The rights of device `c` for counter `k`: to wait for its own, to pay the one its transfer pays, and, for a counter
    paid from elsewhere, the units promised to it. -/
def rights (c : Dev nD) (k : Fin X.n) : sProp 𝕄 :=
  iprop(atPos ER (X.cell c k) 0 ∅ 0 ∗ dutyTok ER (X.cell (X.tgt k c) k) 0 () ∗ (if k ∈ X.owed then cred (tallyAt (X.cell c k) () X.N) else iprop(emp)))

section Rules

variable {Λ : Labels} (defs : Defs nD τ sig Val Λ) (𝒱 : Variants) (K : Dev nD × Fin X.n → ℕ) (c : Dev nD)

/-- Wait for counter `k`, which is below every counter still owed: its payload, and the counter closed. -/
theorem wait_shot (k : Fin X.n) {sm : SemLoc sig} (hsm : sm = X.osem k) {w : TpuEff nD τ sig Val Λ .tc PUnit}
    (S : Finset (Fin X.n)) (hS : ∀ k' ∈ S, X.lev k < X.lev k') {N : ℕ}
    (hw : ∀ Kt : PUnit → sProp 𝕄, wpE defs 𝒱 (c.tc : Thread nD τ) none Set.univ w Kt = waitSpec (c.tc : Thread nD τ) Set.univ sm N Kt) (hN : N = X.N)
    {α : Type} {Q : α → sProp 𝕄} {kont : PUnit → Prog (TpuEff nD τ sig Val Λ .tc) α} :
    iprop(X.records K ∗ cred (tallyAt (X.cell c k) () X.N) ∗ X.debt c S ∗ atPos ER (X.cell c k) 0 ∅ 0)
      ⊢ iprop(((X.P c k ∗ semVal (X.cell c k) 0 ∗ X.debt c S) -∗ wp frame (wpE defs 𝒱 (c.tc : Thread nD τ) none) Set.univ (kont ⟨⟩) Q)
          -∗ wp frame (wpE defs 𝒱 (c.tc : Thread nD τ) none) Set.univ (.op w kont) Q) := by
  subst hsm hN
  unfold debt
  iintro ⟨#HR, Hc, ⟨%W, HO⟩, Hat⟩ Hk
  ihave #HI := (X.records_at K c k) $$ HR
  icases HI with ⟨#HI, -⟩
  iapply (Rounds.wp_wait_rest_token 𝒱 ER X.sched (c.tc : Thread nD τ) none (κ := K (c, k)) hw (Set.mem_univ _) () (O := X.due c S) (W := W) (R := 0) (m := 0) (T := ∅)
    (by rw [Nat.zero_add, expect_zero])) $$ [Hc HO Hat]
  · isplitr; · iexact HI
    isplitl [Hc]; · iexact Hc
    isplitl [HO]; · iexact HO
    isplitr
    · iapply (X.mayWait c k S hS); iapply (X.records_levels K); iexact HR
    iexact Hat
  iintro ⟨HO, Hat, -, Hpay⟩
  imod (Rounds.cell_close ER X.sched (Set.mem_univ (K (c, k))) (fun h => h) (R := 0 + 1) (X.duties_later (X.cell c k))) $$ [Hat] with Hz
  · isplitr; · iexact HI
    iexact Hat
  iapply Hk
  isplitl [Hpay]
  · ihave H := (Entails.of_eq (X.rest_cell c k)) $$ Hpay
    iexact H
  isplitl [Hz]; · iexact Hz
  iexists _; iexact HO

/-- A copy on the device itself, onto counter `k`. -/
theorem copy_shot (k : Fin X.n) {sp sp' : Space} {s : Shape} {e : EltTy} {src : Memref sig .tc sp s e} {dst : Memref sig .tc sp' s e} {sem : SemLoc sig} (hsem' : sem = X.osem k)
    (ht : X.tgt k = Equiv.refl _)
    {hsrc : src.view.WordExact} {hdst : dst.view.WordExact} {hsem : DmaTarget.Typed sp sem (DmaTarget.here dst : DmaTarget nD τ sig (.tc : Proc τ) sp' s e)}
    {q : PosShare TreeShare} {fs : Buf Val (src.view.loc (c.tc : Thread nD τ))} {fd : Buf Val (dst.view.loc (c.tc : Thread nD τ))}
    (hN : dst.view.amount sem = X.N)
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ (X.P c k : sProp 𝕄))
    {α : Type} {Q : α → sProp 𝕄} {kont : PUnit → Prog (TpuEff nD τ sig Val Λ .tc) α} :
    iprop(X.records K ∗ (src.view.loc (c.tc : Thread nD τ) ↦[src.view.set]{q} fs) ∗ (dst.view.loc (c.tc : Thread nD τ) ↦[dst.view.set]{fullShare} fd)
        ∗ dutyTok ER (X.cell (X.tgt k c) k) 0 ())
      ⊢ iprop((cred (tallyAt (X.cell c k) () X.N) -∗ wp frame (wpE defs 𝒱 (c.tc : Thread nD τ) none) Set.univ (kont ⟨⟩) Q)
          -∗ wp frame (wpE defs 𝒱 (c.tc : Thread nD τ) none) Set.univ (.op (.enqueueDma src (.here dst) sem hsrc hdst hsem) kont) Q) := by
  subst hsem'
  iintro ⟨#HR, Hs, Hd, Ht⟩ Hk
  ihave #HI := (X.records_at K c k) $$ HR
  icases HI with ⟨#HI, #Hr⟩
  rw [ht, Equiv.refl_apply]
  iapply (Rounds.wp_copy_pointsTo 𝒱 ER X.sched (c.tc : Thread nD τ) none (κ := K (c, k)) (r := 0) (d := ()) (X.mem_duties _) () X.N hN rfl
    (hpay.trans (Entails.of_eq (X.payload_cell c k 0 ()).symm))) $$ [Hs Hd Ht]
  · isplitr; · iexact HI
    isplitl [Hs]; · iexact Hs
    isplitl [Hd]; · iexact Hd
    isplitl [Ht]; · iexact Ht
    iexact Hr
  iexact Hk

/-- A copy into device `d`: departure on the own counter `ks`, arrival on the counter `kr` of `d`. -/
theorem send_shot (ks kr : Fin X.n) (d : Dev nD) (hd : d = X.tgt kr c) (ht : X.tgt ks = Equiv.refl _)
    {sp sp' : Space} {s : Shape} {e : EltTy} {src : Memref sig .tc sp s e} {dst : Memref sig .tc sp' s e} {sS sem : SemLoc sig} (hsS : sS = X.osem ks) (hsR : sem = X.osem kr)
    {hsc : dst.view.ref.isScScratch = false}
    {hsrc : src.view.WordExact} {hdst : dst.view.WordExact} {hsem : DmaTarget.Typed sp sem (.remote (Dev.tc d : Thread nD τ) dst sS hsc)}
    {q : PosShare TreeShare} {fs : Buf Val (src.view.loc (c.tc : Thread nD τ))} {fd : Buf Val (dst.view.loc (d.tc : Thread nD τ))}
    (hN : dst.view.amount sem = X.N) (S S' : Finset (Fin X.n)) (hS : kr ∈ S) (hS' : S.erase kr = S')
    (hpay₁ : (src.view.loc (c.tc : Thread nD τ) ↦[src.view.set]{q} fs) ⊢ (X.P c ks : sProp 𝕄))
    (hpay₂ : (dst.view.loc (d.tc : Thread nD τ) ↦[dst.view.set]{fullShare} (dst.view.write Val fd (src.view.read Val fs) Finset.univ)) ⊢ (X.P d kr : sProp 𝕄))
    (hr : τ.routes (c.tc : Thread nD τ) (Dev.tc d : Thread nD τ) = true)
    {α : Type} {Q : α → sProp 𝕄} {kont : PUnit → Prog (TpuEff nD τ sig Val Λ .tc) α} :
    iprop(X.records K ∗ (src.view.loc (c.tc : Thread nD τ) ↦[src.view.set]{q} fs) ∗ (dst.view.loc (d.tc : Thread nD τ) ↦[dst.view.set]{fullShare} fd)
        ∗ X.debt c S ∗ dutyTok ER (X.cell (X.tgt ks c) ks) 0 () ∗ dutyTok ER (X.cell (X.tgt kr c) kr) 0 ())
      ⊢ iprop(((cred (tallyAt (X.cell c ks) () X.N) ∗ X.debt c S') -∗ wp frame (wpE defs 𝒱 (c.tc : Thread nD τ) none) Set.univ (kont ⟨⟩) Q)
          -∗ wp frame (wpE defs 𝒱 (c.tc : Thread nD τ) none) Set.univ
            (.op (.enqueueDma src (.remote (Dev.tc d : Thread nD τ) dst sS hsc) sem hsrc hdst hsem) kont) Q) := by
  subst hsS hsR hd hS'
  unfold debt
  iintro ⟨#HR, Hs, Hd, ⟨%W, HO⟩, Hts, Htr⟩ Hk
  ihave #HI := (X.records_at K c ks) $$ HR
  icases HI with ⟨#HIs, #Hrs⟩
  ihave #HI := (X.records_at K (X.tgt kr c) kr) $$ HR
  icases HI with ⟨#HIr, #Hrr⟩
  rw [ht, Equiv.refl_apply]
  iapply (Rounds.wp_send_pointsTo 𝒱 ER X.sched (c.tc : Thread nD τ) none (κ₁ := K (c, ks)) (κ₂ := K (X.tgt kr c, kr)) (r₁ := 0) (r₂ := 0) (d₁ := ()) (d₂ := ()) (fd := fd)
    (X.mem_duties _) (X.mem_duties _) () () X.N hN rfl rfl (X.due c (S.erase kr)) (X.due_erase c S hS) (W := W)
    (hpay₁.trans (Entails.of_eq (X.payload_cell c ks 0 ()).symm)) (hpay₂.trans (Entails.of_eq (X.payload_cell _ kr 0 ()).symm)) (hr := hr)) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

end Rules

/-! ### The launch -/

def cells : Finset (GSem nD τ sig) := Finset.univ.map ⟨fun ck : Dev nD × Fin X.n => X.cell ck.1 ck.2, X.cell_injective⟩
def toks : Finset (GSem nD τ sig × ℕ × Unit) :=
  Finset.univ.map ⟨fun ck : Dev nD × Fin X.n => (X.cell ck.1 ck.2, 0, ()), fun a b h => X.cell_injective (congrArg Prod.fst h)⟩

/-- What the exchange's ghost state gives device `c` at launch. -/
def seed (c : Dev nD) : sProp 𝕄 := bigSep Finset.univ fun k : Fin X.n =>
  iprop(roundState ER X.sched (X.cell c k) 0 ∗ reached ER (X.cell c k) 0 ∗ atPos ER (X.cell c k) 0 ∅ 0 ∗ dutyTok ER (X.cell c k) 0 ())

theorem fund : BI.own (ER (initOf X.cells X.toks)) ⊢ (|==> bigSep Finset.univ X.seed : sProp 𝕄) := by
  have hX (Φ : GSem nD τ sig → sProp 𝕄) : bigSep X.cells Φ = bigSep Finset.univ fun c : Dev nD => bigSep Finset.univ fun k : Fin X.n => Φ (X.cell c k) := by
    unfold cells; rw [bigSep_map, bigSep_univ_prod]; rfl
  have hT : bigSep X.toks (fun x => (dutyTok ER x.1 x.2.1 x.2.2 : sProp 𝕄)) = bigSep Finset.univ fun c : Dev nD => bigSep Finset.univ fun k : Fin X.n => dutyTok ER (X.cell c k) 0 () := by
    unfold toks; rw [bigSep_map, bigSep_univ_prod]; rfl
  unfold seed
  simp only [bigSep_sep']
  rw [← hX fun g => roundState ER X.sched g 0, ← hX fun g => reached ER g 0, ← hX fun g => atPos ER g 0 ∅ 0, ← hT]
  exact Rounds.fund ER X.sched X.cells X.toks

/-- A core's own launch credit: the units promised to each counter paid from elsewhere. -/
theorem credits (S : Finset (Fin X.n)) (c : Dev nD) :
    (Pipeline.launchCred (fun d => X.due d S) c : sProp 𝕄) ⊢ bigSep S fun k => cred (tallyAt (X.cell c k) () X.N) := by
  induction S using Finset.induction_on with
  | empty =>
    rw [bigSep_empty, show (fun d => X.due d ∅) = (fun _ : Dev nD => (0 : CellTallies nD τ sig Unit)) from funext fun d => X.due_empty d, Pipeline.launchCred_zero]
    exact BIBase.Entails.rfl
  | insert k S hk ih =>
    rw [bigSep_insert hk, show (fun d => X.due d (insert k S)) = fun d => tallyAt (X.cell (X.tgt k d) k) () X.N + X.due d S from funext fun d => Finset.sum_insert hk,
      Pipeline.launchCred_add]
    exact BI.sep_mono (Pipeline.launchCred_tallyAt (X.osem k) (X.tgt k) (X.tgt k).symm (X.tgt k).apply_symm_apply (X.tgt k).symm_apply_apply () X.N c) ih

/-- One counter's invariant made from its counter at 0. -/
theorem alloc : iprop((bigSep Finset.univ fun c : Dev nD => bigSep Finset.univ fun k : Fin X.n => semVal (X.cell c k) 0)
      ∗ bigSep Finset.univ fun c : Dev nD => bigSep Finset.univ fun k : Fin X.n => roundState ER X.sched (X.cell c k) 0)
    ⊢ (|={Set.univ}=> iprop(∃ K : Dev nD × Fin X.n → ℕ, bigSep Finset.univ fun ck => cellInv ER X.sched (K ck) (X.cell ck.1 ck.2)) : sProp 𝕄) := by
  rw [← bigSep_univ_prod (fun ck : Dev nD × Fin X.n => (semVal (X.cell ck.1 ck.2) 0 : sProp 𝕄)),
    ← bigSep_univ_prod (fun ck : Dev nD × Fin X.n => (roundState ER X.sched (X.cell ck.1 ck.2) 0 : sProp 𝕄)), ← bigSep_sep']
  exact ((bigSep_mono fun ck _ => (Rounds.body_intro ER X.sched (X.cell ck.1 ck.2)).trans inv_alloc).trans (bigSep_fupd _ _)).trans
    (BI.fupd_mono (BI.bigSep_exists_pi Finset.univ (fun (ck : Dev nD × Fin X.n) (κ : ℕ) => (cellInv ER X.sched κ (X.cell ck.1 ck.2) : sProp 𝕄))))

/-- What device `c` enters its body with: the record, what stays with it, the parts of others' buffers it writes, its rights. -/
def start (stay : Dev nD → sProp 𝕄) (land : Dev nD → Fin X.n → sProp 𝕄) (c : Dev nD) : sProp 𝕄 :=
  iprop((∃ K, X.records K) ∗ stay c ∗ bigSep Finset.univ fun k : Fin X.n => iprop(land (X.tgt k c) k ∗ X.rights c k))

/-- The step before the run: counters and buffers of all devices dealt. -/
theorem deal (stay : Dev nD → sProp 𝕄) (land : Dev nD → Fin X.n → sProp 𝕄) (bufs : Dev nD → sProp 𝕄)
    (hbufs : ∀ c, bufs c ⊢ iprop(stay c ∗ bigSep Finset.univ fun k => land c k)) :
    iprop(levAts L X.lv ∗ (bigSep Finset.univ fun c : Dev nD => Pipeline.ownSems0 X.osem c) ∗ (bigSep Finset.univ bufs)
        ∗ (bigSep Finset.univ fun c : Dev nD => Pipeline.launchCred (fun d => X.due d X.owed) c) ∗ bigSep Finset.univ X.seed)
      ⊢ (|={Set.univ}=> bigSep Finset.univ (X.start stay land) : sProp 𝕄) := by
  have around (Φ : Dev nD → Fin X.n → sProp 𝕄) : (bigSep Finset.univ fun c : Dev nD => bigSep Finset.univ fun k => Φ c k)
      = bigSep Finset.univ fun c : Dev nD => bigSep Finset.univ fun k => Φ (X.tgt k c) k := by
    rw [bigSep_univ_swap, bigSep_univ_swap (fun (c : Dev nD) (k : Fin X.n) => Φ (X.tgt k c) k)]
    exact bigSep_congr fun k _ => bigSep_univ_equiv (X.tgt k) fun c => Φ c k
  have hcred (c : Dev nD) : (Pipeline.launchCred (fun d => X.due d X.owed) c : sProp 𝕄)
      ⊢ bigSep Finset.univ fun k : Fin X.n => (if k ∈ X.owed then cred (tallyAt (X.cell c k) () X.N) else iprop(emp)) := by
    refine (X.credits X.owed c).trans (Entails.of_eq ?_)
    have hin : (bigSep (Finset.univ.filter fun k => k ∈ X.owed) fun k => (if k ∈ X.owed then cred (tallyAt (X.cell c k) () X.N) else iprop(emp) : sProp 𝕄))
        = bigSep X.owed fun k => cred (tallyAt (X.cell c k) () X.N) := by
      rw [Finset.filter_univ_mem]
      exact bigSep_congr fun k hk => if_pos hk
    have hout : (bigSep (Finset.univ.filter fun k => k ∉ X.owed) fun k => (if k ∈ X.owed then cred (tallyAt (X.cell c k) () X.N) else iprop(emp) : sProp 𝕄)) = BI.emp :=
      (bigSep_congr (Ψ := fun _ => (BI.emp : sProp 𝕄)) fun k hk => if_neg (Finset.mem_filter.mp hk).2).trans (BI.bigSep_emp_const _)
    rw [bigSep_filter_split Finset.univ (fun k => k ∈ X.owed), hin, hout]
    exact Entails.antisymm sep_emp.2 sep_emp.1
  unfold seed
  simp only [bigSep_sep']
  iintro ⟨#Hlev, Hsems, Hbufs, Hcred, Hst, Hr, Hat, Htok⟩
  imod X.alloc $$ [Hsems Hst] with ⟨%K, #HI⟩
  · isplitl [Hsems]; · iexact Hsems
    iexact Hst
  imodintro
  ihave Hb := (show bigSep Finset.univ bufs ⊢ iprop(bigSep Finset.univ stay ∗ bigSep Finset.univ fun c => bigSep Finset.univ fun k => land c k) from by
    rw [← bigSep_sep']; exact bigSep_mono fun c _ => hbufs c) $$ Hbufs
  icases Hb with ⟨Hstay, Hland⟩
  ihave Hland := (Entails.of_eq (around land)) $$ Hland
  ihave Htok := (Entails.of_eq (around fun c k => (dutyTok ER (X.cell c k) 0 () : sProp 𝕄))) $$ Htok
  ihave Hcred := (show (bigSep Finset.univ fun c : Dev nD => (Pipeline.launchCred (fun d => X.due d X.owed) c : sProp 𝕄))
      ⊢ bigSep Finset.univ fun c : Dev nD => bigSep Finset.univ fun k : Fin X.n => (if k ∈ X.owed then cred (tallyAt (X.cell c k) () X.N) else iprop(emp))
    from bigSep_mono fun c _ => hcred c) $$ Hcred
  ihave #Hr' := (Entails.of_eq (bigSep_univ_prod (fun ck : Dev nD × Fin X.n => (reached ER (X.cell ck.1 ck.2) 0 : sProp 𝕄))).symm) $$ Hr
  iapply (sep_with_persistent (R := X.records K) (S := Finset.univ)
    (Φ := fun c => iprop(stay c ∗ bigSep Finset.univ fun k : Fin X.n => iprop(land (X.tgt k c) k ∗ X.rights c k))) (Ψ := X.start stay land) fun c _ => by
      unfold start
      iintro ⟨#HR, H⟩
      isplitr; · iexists K; iexact HR
      iexact H)
  isplitr
  · unfold records
    isplitr; · iexact HI
    isplitr; · iexact Hr'
    iexact Hlev
  unfold rights
  simp only [bigSep_sep']
  isplitl [Hstay]; · iexact Hstay
  isplitl [Hland]; · iexact Hland
  isplitl [Hat]; · iexact Hat
  isplitl [Htok]; · iexact Htok
  iexact Hcred

/-! ### The run -/

section Run

variable {Λ₀ : Labels} (cfgs : Fin 1 → Cfg sig Λ₀)

/-- The proof data of the one kernel: no window; what the body enters and leaves with. -/
def dats (hW : IsEmpty (Fin (cfgs 0).W)) (pre post : Dev nD → sProp 𝕄) (p : Fin 1) (c : Dev nD) : Dat τ Val Unit ℕ (UU nD τ sig) ℕ (cfgs p) c where
  A w := (show IsEmpty (Fin (cfgs p).W) by rw [Subsingleton.elim p 0]; exact hW).elim w
  after w := (show IsEmpty (Fin (cfgs p).W) by rw [Subsingleton.elim p 0]; exact hW).elim w
  Φ t := if t.val = 0 then pre c else post c
  q _ := fullShare
  owed t := if t.val = 0 then X.due c X.owed else 0

variable (phinj : Function.Injective (Pipeline.cellOf (nD := nD) (τ := τ) cfgs))
variable (hw : Pipeline.WinFacts₀ (cfgs 0).spec) (ho : Pipeline.OwnSemFacts (cfgs 0).spec X.osem)
variable (defs₀ : Defs nD τ sig Val Λ₀) (𝒱₀ : Variants)

/-- The one pipeline, with no prefetched table. -/
abbrev pcs (p : Fin 1) : Pipeline.PCfg sig Λ₀ Val := (cfgs p).toPCfg
abbrev adm (p : Fin 1) : (pcs (Val := Val) cfgs p).Adm := (cfgs p).toPCfg_adm

include phinj hw ho in
theorem run [∀ e, Nonempty (Val e)]
    (hW : IsEmpty (Fin (cfgs 0).W)) (hN1 : (cfgs 0).N = 1)
    (hrest : ∀ c : Dev nD, (Pipeline.scopedRest (Ix := Unit) (Val := Val) (Name := ℕ) (U := UU nD τ sig) (Lvl := ℕ) (τ := τ) (cfgs 0).spec c : sProp 𝕄) = BI.emp)
    (m : (ℓ : Loc nD τ sig) → Buf Val ℓ) (g : Dev nD → PrngReg)
    (main : Dev nD → Prog (TpuEff nD τ sig Val (Pipeline.Sig Λ₀ (Fin 1) fun p => (pcs (Val := Val) cfgs p).Adm) .tc) PUnit)
    (hmain : ∀ c, main c = .op (.customCall (Pipeline.entry 0) ()) fun _ => .ret ⟨⟩)
    (stay : Dev nD → sProp 𝕄) (land : Dev nD → Fin X.n → sProp 𝕄) (done : Dev nD → sProp 𝕄)
    (hbufs : ∀ c, unscopedBufs c (fun b => m ((c.tc : Thread nD τ).loc b)) ⊢ iprop(stay c ∗ bigSep Finset.univ fun k => land c k))
    (hbody : ∀ (c : Dev nD) (t : Fin (cfgs 0).N), iprop(X.start stay land c ∗ X.debt c X.owed)
      ⊢ wp frame (wpE defs₀ 𝒱₀ (c.tc : Thread nD τ) none) Set.univ (defs₀ .tc (cfgs 0).body ((cfgs 0).bodyArgs t ((cfgs 0).slots t)))
          fun _ => iprop(done c ∗ (bigSep Finset.univ fun k => semVal (X.cell c k) 0) ∗ X.debt c ∅))
    (QY : Dev nD → MemSt nD τ sig Val → Prop)
    (hY : ∀ c (s' : Phys nD τ sig Val), iprop(done c ∗ SI s') ⊢ |={Set.univ}=> iprop(⌜QY c s'.mem⌝ ∗ SI s'))
    (hscoped : ∀ (s : MemSt nD τ sig Val), (∀ g' : GSem nD τ sig, (g'.1.2 ≠ .tc ∨ g'.2.isScoped .tc = true) → s.sem g' = 0) → s.sem = fun _ => 0) :
    θ_run (Pipeline.defs (pcs cfgs) defs₀) (onTc main) ⟨m, fun _ => 0, g⟩ (fun r => (∀ c, QY c r.2) ∧ r.2.sem = fun _ => 0) := by
  have last : (Fin.last (cfgs 0).N).val ≠ 0 := by rw [Fin.val_last, hN1]; decide
  have zero : (0 : Fin ((cfgs 0).N + 1)).val = 0 := rfl
  have start0 (c : Dev nD) : (X.dats cfgs hW (X.start stay land) (fun c => iprop(done c ∗ bigSep Finset.univ fun k => semVal (X.cell c k) 0)) 0 c).owed 0 = X.due c X.owed := by
    unfold dats; exact (if_pos zero : (if (0 : Fin ((cfgs 0).N + 1)).val = 0 then X.due c X.owed else 0) = X.due c X.owed)
  have startΦ (c : Dev nD) : (X.dats cfgs hW (X.start stay land) (fun c => iprop(done c ∗ bigSep Finset.univ fun k => semVal (X.cell c k) 0)) 0 c).Φ 0 = X.start stay land c := by
    unfold dats; exact (if_pos zero : (if (0 : Fin ((cfgs 0).N + 1)).val = 0 then X.start stay land c else iprop(done c ∗ bigSep Finset.univ fun k => semVal (X.cell c k) 0)) = X.start stay land c)
  refine run_dealt (pcs cfgs) (adm cfgs) (X.dats cfgs hW (X.start stay land) fun c => iprop(done c ∗ bigSep Finset.univ fun k => semVal (X.cell c k) 0)) () phinj 0 hw ho EP defs₀ 𝒱₀
    hW rfl m g main hmain (fun c t => ?_) (fun c => X.due c X.owed) start0 (fun c => if_neg last) L X.lv L_of_ne
    X.seed (X.start stay land) done (initOf (Pipeline.cells cfgs phinj) (Pipeline.launchToks cfgs phinj), initOf X.cells X.toks) ?_
    (X.deal stay land _ hbufs) (fun c => ?_) (fun c => ?_) QY hY (fun s h hs => ⟨h, hscoped s hs⟩)
  · -- the body
    have h0 : t.castSucc.val = 0 := by have := t.isLt; have h1 : (cfgs 0).N = 1 := hN1; show t.val = 0; change t.val < (cfgs 0).N at this; omega
    have h1 : ¬ t.succ.val = 0 := by rw [Fin.val_succ]; omega
    have e (Φ : Fin (cfgs 0).W → sProp 𝕄) : bigSep Finset.univ Φ = BI.emp := by rw [Finset.univ_eq_empty, BI.bigSep_empty]
    unfold Dat.owesAt Pipeline.owesWithin
    refine BIBase.Entails.trans (Q := iprop(X.start stay land c ∗ X.debt c X.owed)) ?_ (BIBase.Entails.trans (hbody c t) (wp_mono _ _ _ fun _ => ?_))
    · simp only [dats, if_pos h0]
      unfold debt
      iintro ⟨H, ⟨%W, -, HO⟩, -⟩
      isplitl [H]; · iexact H
      iexists W; iexact HO
    · simp only [dats, if_neg h1]
      unfold debt
      rw [due_empty, e]
      iintro ⟨Hd, Hz, ⟨%W, HO⟩⟩
      isplitl [Hd Hz]; · isplitl [Hd] <;> iassumption
      isplitl [HO]
      · iexists W; isplitr; · ipureintro; exact fun _ _ => Or.inl trivial
        iexact HO
      iempintro
  · iintro Hu
    ihave H := (ownU_pair _ _) $$ Hu
    icases H with ⟨HP, HX⟩
    imod X.fund $$ HX with HG
    imodintro
    isplitl [HP] <;> iassumption
  · rw [show ((X.dats cfgs hW (X.start stay land) fun c => iprop(done c ∗ bigSep Finset.univ fun k => semVal (X.cell c k) 0)) 0 c).Φ 0 = X.start stay land c from startΦ c]
    iintro ⟨H, -⟩
    iexact H
  · rw [show ((X.dats cfgs hW (X.start stay land) fun c => iprop(done c ∗ bigSep Finset.univ fun k => semVal (X.cell c k) 0)) 0 c).Φ (Fin.last _)
        = iprop(done c ∗ bigSep Finset.univ fun k => semVal (X.cell c k) 0) from if_neg last,
      show Pipeline.scopedRest ((Pipeline.pin (pcs cfgs) (adm cfgs) 0)).spec c = (BI.emp : sProp 𝕄) from hrest c]
    iintro ⟨H, Hz⟩
    isplitl [H]; · iexact H
    isplitl [Hz]
    · unfold Pipeline.ownSems0
      iexact Hz
    iempintro

end Run

end Net

end Cert.Exchange

end
-- ==== Proof.Rows.lean ====
/-
Rows of a stacked buffer. A buffer of `n` blocks of `r × w` elements, one block viewed through the slice of its leading
coordinate with that axis dropped: which elements that is, what it reads, what it holds after a copy, and the buffer cut
into its blocks.
-/
module

public import Idealize.ShloMosaic.Lib.Rounds
public import Idealize.ShloMosaic.Lib.ViewIndex
public import Idealize.ShloMosaic.Lib.Pipeline.Value
public import Idealize.ShloMosaic.Lib.QrPanel.StackRows
public import Idealize.ShloMosaic.Lib.Layout

@[expose] public section

noncomputable section

namespace Cert.Exchange

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {κ : Kind} {sp : Space} {e : EltTy} {n r w : ℕ}

/-- The shapes: the stack, one block with its unit axis, one block. -/
abbrev Stk (n r w : ℕ) : Shape := ⟨3, ![n, r, w]⟩
abbrev Blk (r w : ℕ) : Shape := ⟨2, ![r, w]⟩

/-- The stack's index of block `k` at the block's index `x`. -/
def at3 (k : Fin n) (x : (Blk r w).Idx) : (Stk n r w).Idx := fun
  | ⟨0, _⟩ => k
  | ⟨1, _⟩ => x 0
  | ⟨2, _⟩ => x 1

/-- The block viewed from offset `off`. -/
abbrev rowAt (M : Memref sig κ sp (Stk n r w) e) (off : Fin 3 → ℕ) (inb : ∀ a, off a + (Stk 1 r w).size a ≤ (Stk n r w).size a)
    (hr : ∀ a, (Rect.unit (s := Stk n r w) off (Stk 1 r w).size inb).stride a = 1) (hq : (Stk 1 r w).Squeezes (Blk r w)) : Memref sig κ sp (Blk r w) e :=
  (M.slice (Rect.unit (s := Stk n r w) off (Stk 1 r w).size inb) hr).squeeze (Blk r w) hq

/-- The elements of block `k`. -/
def rowsOf (M : Memref sig κ sp (Stk n r w) e) (k : Fin n) : Finset M.view.ty.Idx :=
  (Finset.univ.filter fun i : (Stk n r w).Idx => (i 0).val = k.val).map M.view.emb

section Row

variable (M : Memref sig κ sp (Stk n r w) e) (k : Fin n) {off : Fin 3 → ℕ} (h : off = ![k.val, 0, 0])
  (inb : ∀ a, off a + (Stk 1 r w).size a ≤ (Stk n r w).size a) (hr) (hq : (Stk 1 r w).Squeezes (Blk r w))

include h

theorem row_set : (rowAt M off inb hr hq).view.set = rowsOf M k := by
  subst h
  show (((M.view.slice (Rect.unit (s := Stk n r w) ![k.val, 0, 0] (Stk 1 r w).size inb))).reshape (Blk r w) hq.numel_eq).set = _
  rw [View.set_reshape, View.set_slice]
  unfold rowsOf
  congr 1
  ext i
  rw [Finset.mem_filter, Rect.mem_set_unit]
  constructor
  · intro hi
    refine ⟨Finset.mem_univ _, ?_⟩
    have := hi 0
    change k.val ≤ (i 0).val ∧ (i 0).val < k.val + 1 at this
    omega
  · rintro ⟨-, hi⟩ a
    match a with
    | ⟨0, _⟩ => show k.val ≤ (i 0).val ∧ (i 0).val < k.val + 1; rw [hi]; omega
    | ⟨1, _⟩ => show 0 ≤ (i 1).val ∧ (i 1).val < 0 + r; have := (i 1).isLt; change (i 1).val < r at this; omega
    | ⟨2, _⟩ => show 0 ≤ (i 2).val ∧ (i 2).val < 0 + w; have := (i 2).isLt; change (i 2).val < w at this; omega

theorem row_read (f : M.view.ty.Contents Val) (x : (Blk r w).Idx) :
    (rowAt M off inb hr hq).view.read Val f x = M.view.read Val f (at3 k x) := by
  subst h
  have h1 : (rowAt M ![k.val, 0, 0] inb hr hq).view.read Val f x
      = M.view.read Val f ((Rect.unit (s := Stk n r w) ![k.val, 0, 0] (Stk 1 r w).size inb).emb (Shape.reshapeEquiv hq.numel_eq x)) := rfl
  rw [h1, Shape.reshapeEquiv_cons_one]
  congr 1
  funext a
  apply Fin.ext
  rw [Rect.emb_apply]
  match a with
  | ⟨0, _⟩ => show k.val + 1 * 0 = k.val; omega
  | ⟨1, _⟩ => show 0 + 1 * (x 0).val = (x 0).val; omega
  | ⟨2, _⟩ => show 0 + 1 * (x 1).val = (x 1).val; omega

end Row

section Pts

variable {Ix : Type} [DecidableEq Ix] {Name : Type} [DecidableEq Name] {U : Type} [URA U] {Lvl : Type} [Preorder Lvl]

local notation "𝕄" => MT nD τ sig Ix Val Name U Lvl

variable {c : Thread nD τ} (M : Memref sig c.2.kind sp (Stk n r w) e)

/-- Block `k` of the buffer on thread `c`. -/
abbrev rowPts (k : Fin n) (q : PosShare TreeShare) (f : Buf Val (M.view.loc c)) : sProp 𝕄 := M.view.loc c ↦[rowsOf M k]{q} f

theorem row_pts (k : Fin n) {off : Fin 3 → ℕ} (h : off = ![k.val, 0, 0]) (inb : ∀ a, off a + (Stk 1 r w).size a ≤ (Stk n r w).size a) (hr)
    (hq : (Stk 1 r w).Squeezes (Blk r w)) (q : PosShare TreeShare) (f : Buf Val (M.view.loc c)) :
    ((rowAt M off inb hr hq).view.loc c ↦[(rowAt M off inb hr hq).view.set]{q} f : sProp 𝕄) = M.view.loc c ↦[rowsOf M k]{q} f := by
  rw [row_set M k h inb hr hq]

/-- After a copy of `val` onto block `k`, the block holds what any contents reading `val` there hold. -/
theorem row_landed (k : Fin n) {off : Fin 3 → ℕ} (h : off = ![k.val, 0, 0]) (inb : ∀ a, off a + (Stk 1 r w).size a ≤ (Stk n r w).size a) (hr)
    (hq : (Stk 1 r w).Squeezes (Blk r w)) (q : PosShare TreeShare) (fd g : Buf Val (M.view.loc c)) (val : (Blk r w).Idx → Val e)
    (hg : ∀ x, M.view.read Val g (at3 k x) = val x) :
    ((rowAt M off inb hr hq).view.loc c ↦[(rowAt M off inb hr hq).view.set]{q} ((rowAt M off inb hr hq).view.write Val fd val Finset.univ) : sProp 𝕄)
      = M.view.loc c ↦[rowsOf M k]{q} g := by
  have e1 : (rowAt M off inb hr hq).view.read Val g = val := funext fun x => (row_read M k h inb hr hq g x).trans (hg x)
  rw [← e1, View.write_read_eq_piecewise, ← row_pts (c := c) M k h inb hr hq q g]
  exact pointsTo_congr fun i hi => Finset.piecewise_eq_of_mem _ _ _ hi

theorem rows_disjoint (k k' : Fin n) (h : k ≠ k') : Disjoint (rowsOf M k) (rowsOf M k') :=
  (Finset.disjoint_map M.view.emb).mpr (Finset.disjoint_filter.mpr fun i _ e e' => h (Fin.ext (e.symm.trans e')))

theorem rows_cover (hM : M.IsWhole) : (Finset.univ.biUnion fun k : Fin n => rowsOf M k) = Finset.univ := by
  ext j
  simp only [Finset.mem_biUnion, Finset.mem_univ, true_and, iff_true]
  have : j ∈ M.view.set := by rw [hM.set_eq_univ]; exact Finset.mem_univ j
  obtain ⟨i, -, rfl⟩ := Finset.mem_map.mp this
  exact ⟨i 0, Finset.mem_map.mpr ⟨i, Finset.mem_filter.mpr ⟨Finset.mem_univ _, rfl⟩, rfl⟩⟩

/-- A whole buffer is its blocks. -/
theorem rows_split (hM : M.IsWhole) (q : PosShare TreeShare) (f : Buf Val (M.view.loc c)) :
    (M.view.loc c ↦{q} f : sProp 𝕄) = bigSep Finset.univ fun k : Fin n => M.view.loc c ↦[rowsOf M k]{q} f := by
  rw [← pointsTo_biUnion (ℓ := M.view.loc c) (q := q) (f := f) Finset.univ (fun k : Fin n => rowsOf M k) (fun k _ k' _ h => rows_disjoint M k k' h)]
  congr 1
  exact (rows_cover M hM).symm

end Pts

section Values

variable {α : Type}

/-- The index within the block of a stack's index. -/
def under (i : (Stk n r w).Idx) : (Blk r w).Idx := fun
  | ⟨0, _⟩ => i 1
  | ⟨1, _⟩ => i 2

theorem under_at3 (k : Fin n) (x : (Blk r w).Idx) : under (at3 k x) = x := by
  funext a
  match a with
  | ⟨0, _⟩ => rfl
  | ⟨1, _⟩ => rfl

/-- Every index of a stack is a place with an index of its block. -/
theorem exists_at3 (i : (Stk n r w).Idx) : ∃ (k : Fin n) (x : (Blk r w).Idx), i = at3 k x := by
  refine ⟨i 0, under i, ?_⟩
  funext a
  match a with
  | ⟨0, _⟩ => rfl
  | ⟨1, _⟩ => rfl
  | ⟨2, _⟩ => rfl

/-- A matrix of `n · r` rows reshaped to a stack of `n` blocks: place `k` holds block `k` of the rows. -/
theorem stack_of_blocks {R : ℕ} (W : (Blk R w).Idx → α) (hT : Layout.Tiles (Blk r w) (Blk R w) 0 n) (h : (Blk R w).ShapeCasts (Stk n r w)) (k : Fin n) (x : (Blk r w).Idx) :
    shapeCast (Stk n r w) W h (at3 k x) = Layout.block (Blk r w) (Blk R w) 0 n k W hT x := by
  rw [Layout.block_apply]
  refine shapeCast_apply W h _ _ ?_
  have h2 := Layout.idx_rows_val hT k x
  rw [Shape.rowMajor_val_two, Shape.rowMajor_val_three, h2.1, h2.2]
  rfl

end Values

end Cert.Exchange

end
-- ==== Proof.GatherNet.lean ====
/-
The gathering exchange of eight devices, device `4x + 2y + c` the core `c` of the chip `(x, y)`: each device puts its
block on its own place in its stack, sends it to its sibling core and to the same core of the three other chips, and
passes on to its sibling what those three send it. Fifteen counters: seven departures, seven arrivals, the own copy.
-/
module

public import proofs.«01_k».proof.Proof.Net
public import proofs.«01_k».proof.Proof.Rows
public import Idealize.ShloMosaic.Lib.SparseCore.Stream

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Rounds

/-- The device across: bit 0 of `i` the sibling core, bit 1 the chip's second coordinate, bit 2 its first. -/
def across (i : Fin 8) : Equiv.Perm (Fin 8) where
  toFun c := c ^^^ i
  invFun c := c ^^^ i
  left_inv := by revert i; decide
  right_inv := by revert i; decide

theorem across_zero (c : Fin 8) : across 0 c = c := by revert c; decide
theorem across_across (i c : Fin 8) : across i (across i c) = c := by revert i c; decide

/-- What the gathering exchange is given: block and stack, counters, the blocks' contents, the gathered contents and what
    the stacks hold before. -/
structure Gathering (τ : Topo) (sig : RefSig) (Val : EltTy → Type) where
  r : ℕ
  w : ℕ
  e : EltTy
  A : Memref sig .tc .hbm (Blk r w) e
  B : Memref sig .tc .hbm (Stk 8 r w) e
  hA : A.IsWhole
  hB : B.IsWhole
  sem : Fin 15 → SemLoc sig
  inj : Function.Injective sem
  a : (c : Dev 8) → Buf Val (A.view.loc (c.tc : Thread 8 τ))
  b : (c : Dev 8) → Buf Val (B.view.loc (c.tc : Thread 8 τ))
  G : (c : Dev 8) → Buf Val (B.view.loc (c.tc : Thread 8 τ))
  gathered : ∀ (c k : Dev 8) (x : (Blk r w).Idx), B.view.read Val (G c) (at3 k x) = A.view.read Val (a k) x
  pos : 0 < (Blk r w).numel
  credit : A.view.dmaCredit = sig.dmaCredit .tc (Kind.table .tc .hbm) B.view.buf (Blk r w) e
  routes : ∀ c d : Dev 8, τ.routes (c.tc : Thread 8 τ) (d.tc : Thread 8 τ) = true

namespace Gathering

/-- The arrivals still to be sent after the first `n`, and the order of the counters. -/
abbrev owe (n : ℕ) : Finset (Fin 15) := Finset.univ.filter fun k => 7 + n ≤ k.val ∧ k.val < 14
abbrev lvl : Fin 15 → ℕ := ![0, 0, 0, 0, 0, 0, 0, 1, 1, 1, 1, 2, 2, 2, 0]

variable {τ : Topo} {sig : RefSig} {Val : EltTy → Type} (Y : Gathering τ sig Val)

local notation "𝕄" => MT 8 τ sig Unit Val ℕ (UU 8 τ sig) ℕ

/-- A share of the own block; a gathered place of the stack; the same place before. -/
def own (q : PosShare TreeShare) (c : Dev 8) : sProp 𝕄 := Y.A.view.loc (c.tc : Thread 8 τ) ↦[Y.A.view.set]{q} Y.a c
def got (i : Fin 8) (c : Dev 8) : sProp 𝕄 := Y.B.view.loc (c.tc : Thread 8 τ) ↦[rowsOf Y.B (across i c)]{fullShare} Y.G c
def free (i : Fin 8) (c : Dev 8) : sProp 𝕄 := Y.B.view.loc (c.tc : Thread 8 τ) ↦[rowsOf Y.B (across i c)]{fullShare} Y.b c

instance own_storable (q : PosShare TreeShare) (c : Dev 8) : BI.Storable (upEmb : UEmb _ 𝕄) (Y.own q c) := by unfold own; infer_instance
instance got_storable (i : Fin 8) (c : Dev 8) : BI.Storable (upEmb : UEmb _ 𝕄) (Y.got i c) := by unfold got; infer_instance

/-- The five shares of the own block: four sent from, one copied from. -/
abbrev cut (i : Fin 5) : PosShare TreeShare := piece fullShare 4 i

/-- What each counter hands over. -/
def pay (c : Dev 8) : Fin 15 → sProp 𝕄 :=
  ![Y.own (cut 0) c, Y.own (cut 1) c, Y.own (cut 2) c, Y.own (cut 3) c, Y.got 4 c, Y.got 2 c, Y.got 6 c,
    Y.got 1 c, Y.got 4 c, Y.got 2 c, Y.got 6 c, Y.got 5 c, Y.got 3 c, Y.got 7 c, iprop(Y.own (cut 4) c ∗ Y.got 0 c)]

theorem pay_storable (c : Dev 8) (k : Fin 15) : BI.Storable (upEmb : UEmb _ 𝕄) (Y.pay c k) := by
  unfold pay
  fin_cases k <;> dsimp <;> infer_instance

def net : Net 8 τ sig Val where
  n := 15
  osem := Y.sem
  inj := Y.inj
  tgt := ![.refl _, .refl _, .refl _, .refl _, .refl _, .refl _, .refl _, across 1, across 4, across 2, across 6, across 1, across 1, across 1, .refl _]
  owed := owe 0
  N := sig.dmaCredit .tc (Kind.table .tc .hbm) Y.B.view.buf (Blk Y.r Y.w) Y.e
  N_pos := sig.dmaCredit_pos _ _ _ _ _ Y.pos
  lev := lvl
  P := Y.pay
  storable := Y.pay_storable

/-- What stays with a device, and what it lets the sender of each counter write. -/
def stay (c : Dev 8) : sProp 𝕄 :=
  iprop(Y.own (cut 0) c ∗ Y.own (cut 1) c ∗ Y.own (cut 2) c ∗ Y.own (cut 3) c ∗ Y.own (cut 4) c ∗ Y.free 0 c)
def land (c : Dev 8) : Fin 15 → sProp 𝕄 :=
  ![iprop(emp), iprop(emp), iprop(emp), iprop(emp), iprop(emp), iprop(emp), iprop(emp), Y.free 1 c, Y.free 4 c, Y.free 2 c, Y.free 6 c, Y.free 5 c, Y.free 3 c, Y.free 7 c, iprop(emp)]
def done (c : Dev 8) : sProp 𝕄 :=
  iprop((Y.A.view.loc (c.tc : Thread 8 τ) ↦{fullShare} Y.a c) ∗ (Y.B.view.loc (c.tc : Thread 8 τ) ↦{fullShare} Y.G c))

/-- The eight places, as seen from device `c`. -/
theorem places (c : Dev 8) (f : Buf Val (Y.B.view.loc (c.tc : Thread 8 τ))) :
    (Y.B.view.loc (c.tc : Thread 8 τ) ↦{fullShare} f : sProp 𝕄)
      = bigSep Finset.univ fun i : Fin 8 => Y.B.view.loc (c.tc : Thread 8 τ) ↦[rowsOf Y.B (across i c)]{fullShare} f := by
  refine (rows_split (c := (c.tc : Thread 8 τ)) Y.B Y.hB fullShare f).trans ?_
  let p : Equiv.Perm (Fin 8) := ⟨fun i => across i c, fun i => across i c, fun i => by clear f; revert c i; decide, fun i => by clear f; revert c i; decide⟩
  exact bigSep_univ_equiv p fun k => (Y.B.view.loc (c.tc : Thread 8 τ) ↦[rowsOf Y.B k]{fullShare} f : sProp 𝕄)

theorem shares (c : Dev 8) : (Y.A.view.loc (c.tc : Thread 8 τ) ↦{fullShare} Y.a c : sProp 𝕄) = bigSep Finset.univ fun i : Fin 5 => Y.own (cut i) c := by
  unfold own
  rw [Y.hA.set_eq_univ]
  exact pointsTo_pieces Finset.univ (Y.a c) 4 fullShare

theorem all8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem all5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem all15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The two buffers, cut. -/
theorem cut_up (c : Dev 8) : iprop((Y.A.view.loc (c.tc : Thread 8 τ) ↦{fullShare} Y.a c) ∗ (Y.B.view.loc (c.tc : Thread 8 τ) ↦{fullShare} Y.b c))
    ⊢ iprop(Y.stay c ∗ bigSep Finset.univ fun k => Y.land c k : sProp 𝕄) := by
  rw [Y.shares, Y.places, all5, all8, show (bigSep Finset.univ fun k => Y.land c k : sProp 𝕄)
    = iprop(emp ∗ emp ∗ emp ∗ emp ∗ emp ∗ emp ∗ emp ∗ Y.free 1 c ∗ Y.free 4 c ∗ Y.free 2 c ∗ Y.free 6 c ∗ Y.free 5 c ∗ Y.free 3 c ∗ Y.free 7 c ∗ emp) from all15 _]
  unfold stay free
  iintro ⟨⟨A0, A1, A2, A3, A4⟩, B0, B1, B2, B3, B4, B5, B6, B7⟩
  isplitl [A0 A1 A2 A3 A4 B0]
  · isplitl [A0]; · iexact A0
    isplitl [A1]; · iexact A1
    isplitl [A2]; · iexact A2
    isplitl [A3]; · iexact A3
    isplitl [A4]; · iexact A4
    iexact B0
  isplitr; · iempintro
  isplitr; · iempintro
  isplitr; · iempintro
  isplitr; · iempintro
  isplitr; · iempintro
  isplitr; · iempintro
  isplitr; · iempintro
  isplitl [B1]; · iexact B1
  isplitl [B4]; · iexact B4
  isplitl [B2]; · iexact B2
  isplitl [B6]; · iexact B6
  isplitl [B5]; · iexact B5
  isplitl [B3]; · iexact B3
  isplitl [B7]; · iexact B7
  iempintro

/-- All places gathered. -/
theorem gather_up (c : Dev 8) : iprop((Y.own (cut 0) c ∗ Y.own (cut 1) c ∗ Y.own (cut 2) c ∗ Y.own (cut 3) c ∗ Y.own (cut 4) c)
      ∗ Y.got 0 c ∗ Y.got 1 c ∗ Y.got 2 c ∗ Y.got 3 c ∗ Y.got 4 c ∗ Y.got 5 c ∗ Y.got 6 c ∗ Y.got 7 c) ⊢ (Y.done c : sProp 𝕄) := by
  unfold done
  rw [Y.shares, Y.places, all5, all8]
  exact BIBase.Entails.rfl

/-! ### The rights of a device, the steps of its body -/

def tok (k : Fin 15) (c : Dev 8) : sProp 𝕄 := dutyTok ER (Y.net.cell (Y.net.tgt k c) k) 0 ()
def turn (k : Fin 15) (c : Dev 8) : sProp 𝕄 := atPos ER (Y.net.cell c k) 0 ∅ 0
def cr (k : Fin 15) (c : Dev 8) : sProp 𝕄 := cred (tallyAt (Y.net.cell c k) () Y.net.N)
def shut (k : Fin 15) (c : Dev 8) : sProp 𝕄 := semVal (Y.net.cell c k) 0
def debt (c : Dev 8) (n : ℕ) : sProp 𝕄 := Y.net.debt c (owe n)
/-- What a device holds of a counter of its own, and of an arrival. -/
def leaving (k : Fin 15) (c : Dev 8) : sProp 𝕄 := iprop(Y.turn k c ∗ Y.tok k c)
def coming (i j : Fin 8) (k : Fin 15) (c : Dev 8) : sProp 𝕄 := iprop(Y.free i (across j c) ∗ Y.turn k c ∗ Y.tok k c ∗ Y.cr k c)

theorem rights_leaving (k : Fin 15) (h : k ∉ owe 0) (c : Dev 8) (R : sProp 𝕄) (hR : Y.land (Y.net.tgt k c) k = R) :
    iprop(Y.land (Y.net.tgt k c) k ∗ Y.net.rights c k) ⊢ iprop(Y.leaving k c ∗ R) := by
  rw [hR, show Y.net.rights c k = iprop(Y.turn k c ∗ Y.tok k c ∗ (if k ∈ owe 0 then Y.cr k c else iprop(emp))) from rfl, if_neg h]
  unfold leaving
  iintro ⟨HR, H1, H2, -⟩
  isplitl [H1 H2]; · isplitl [H1] <;> iassumption
  iexact HR

theorem rights_coming (k : Fin 15) (h : k ∈ owe 0) (i j : Fin 8) (c : Dev 8) (hR : Y.land (Y.net.tgt k c) k = Y.free i (across j c)) :
    iprop(Y.land (Y.net.tgt k c) k ∗ Y.net.rights c k) ⊢ Y.coming i j k c := by
  rw [hR, show Y.net.rights c k = iprop(Y.turn k c ∗ Y.tok k c ∗ (if k ∈ owe 0 then Y.cr k c else iprop(emp))) from rfl, if_pos h]
  exact BIBase.Entails.rfl

theorem open_start (c : Dev 8) : Y.net.start Y.stay Y.land c ⊢ iprop(∃ K, Y.net.records K ∗ Y.stay c
    ∗ Y.leaving 0 c ∗ Y.leaving 1 c ∗ Y.leaving 2 c ∗ Y.leaving 3 c ∗ Y.leaving 4 c ∗ Y.leaving 5 c ∗ Y.leaving 6 c
    ∗ Y.coming 1 1 7 c ∗ Y.coming 4 4 8 c ∗ Y.coming 2 2 9 c ∗ Y.coming 6 6 10 c ∗ Y.coming 5 1 11 c ∗ Y.coming 3 1 12 c ∗ Y.coming 7 1 13 c ∗ Y.leaving 14 c) := by
  have out (k : Fin 15) (h : k ∉ owe 0) (hR : Y.land (Y.net.tgt k c) k = iprop(emp)) : iprop(Y.land (Y.net.tgt k c) k ∗ Y.net.rights c k) ⊢ Y.leaving k c :=
    (Y.rights_leaving k h c _ hR).trans sep_elim_left
  have inn (k : Fin 15) (h : k ∈ owe 0) (i j : Fin 8) (hR : Y.land (Y.net.tgt k c) k = Y.free i (across j c)) := Y.rights_coming k h i j c hR
  unfold Net.start
  iintro ⟨⟨%K, HR⟩, Hs, H⟩
  iexists K
  isplitl [HR]; · iexact HR
  isplitl [Hs]; · iexact Hs
  ihave H := (show (bigSep Finset.univ fun k : Fin Y.net.n => iprop(Y.land (Y.net.tgt k c) k ∗ Y.net.rights c k)) ⊢ _ from
    (Entails.of_eq (all15 _)).trans (BI.sep_mono (out 0 (by decide) rfl) <| BI.sep_mono (out 1 (by decide) rfl) <| BI.sep_mono (out 2 (by decide) rfl)
      <| BI.sep_mono (out 3 (by decide) rfl) <| BI.sep_mono (out 4 (by decide) rfl) <| BI.sep_mono (out 5 (by decide) rfl) <| BI.sep_mono (out 6 (by decide) rfl)
      <| BI.sep_mono (inn 7 (by decide) 1 1 rfl) <| BI.sep_mono (inn 8 (by decide) 4 4 rfl) <| BI.sep_mono (inn 9 (by decide) 2 2 rfl) <| BI.sep_mono (inn 10 (by decide) 6 6 rfl)
      <| BI.sep_mono (inn 11 (by decide) 5 1 rfl) <| BI.sep_mono (inn 12 (by decide) 3 1 rfl) <| BI.sep_mono (inn 13 (by decide) 7 1 rfl) <| out 14 (by decide) rfl)) $$ H
  iexact H

section Steps

variable {Λ : Labels} (defs : Defs 8 τ sig Val Λ) (𝒱 : Variants) (K : Dev 8 × Fin 15 → ℕ) (c : Dev 8)

/-- A wait. -/
theorem wait_step (k : Fin 15) (n : ℕ) (R : sProp 𝕄) (hR : Y.pay c k = R) (hS : ∀ k' ∈ owe n, lvl k < lvl k') {sm : SemLoc sig} (hsm : sm = Y.sem k)
    {w : TpuEff 8 τ sig Val Λ .tc PUnit} {N : ℕ}
    (hw : ∀ Kt : PUnit → sProp 𝕄, wpE defs 𝒱 (c.tc : Thread 8 τ) none Set.univ w Kt = waitSpec (c.tc : Thread 8 τ) Set.univ sm N Kt) (hN : N = Y.net.N)
    {α : Type} {Q : α → sProp 𝕄} {kont : PUnit → Prog (TpuEff 8 τ sig Val Λ .tc) α} :
    iprop(Y.net.records K ∗ Y.cr k c ∗ Y.debt c n ∗ Y.turn k c)
      ⊢ iprop(((R ∗ Y.shut k c ∗ Y.debt c n) -∗ wp frame (wpE defs 𝒱 (c.tc : Thread 8 τ) none) Set.univ (kont ⟨⟩) Q)
          -∗ wp frame (wpE defs 𝒱 (c.tc : Thread 8 τ) none) Set.univ (.op w kont) Q) := by
  subst hR
  exact Y.net.wait_shot defs 𝒱 K c k hsm (owe n) hS hw hN

variable {off : Fin 3 → ℕ} {inb : ∀ a, off a + (Stk 1 Y.r Y.w).size a ≤ (Stk 8 Y.r Y.w).size a} {hr} {hq : (Stk 1 Y.r Y.w).Squeezes (Blk Y.r Y.w)}

/-- The own block onto its own place. -/
theorem own_step (h : off = ![(across 0 c).val, 0, 0]) {sem : SemLoc sig} (hsem' : sem = Y.sem 14) (hN : (rowAt Y.B off inb hr hq).view.amount sem = Y.net.N)
    {hsrc : Y.A.view.WordExact} {hdst : (rowAt Y.B off inb hr hq).view.WordExact}
    {hsem : DmaTarget.Typed .hbm sem (DmaTarget.here (rowAt Y.B off inb hr hq) : DmaTarget 8 τ sig (.tc : Proc τ) .hbm (Blk Y.r Y.w) Y.e)}
    {α : Type} {Q : α → sProp 𝕄} {kont : PUnit → Prog (TpuEff 8 τ sig Val Λ .tc) α} :
    iprop(Y.net.records K ∗ Y.own (cut 4) c ∗ Y.free 0 c ∗ Y.tok 14 c)
      ⊢ iprop((Y.cr 14 c -∗ wp frame (wpE defs 𝒱 (c.tc : Thread 8 τ) none) Set.univ (kont ⟨⟩) Q)
          -∗ wp frame (wpE defs 𝒱 (c.tc : Thread 8 τ) none) Set.univ (.op (.enqueueDma Y.A (.here (rowAt Y.B off inb hr hq)) sem hsrc hdst hsem) kont) Q) := by
  have hp := row_pts (Val := Val) (c := (c.tc : Thread 8 τ)) (Ix := Unit) (Name := ℕ) (U := UU 8 τ sig) (Lvl := ℕ) Y.B (across 0 c) h inb hr hq fullShare (Y.b c)
  have hl := row_landed (c := (c.tc : Thread 8 τ)) (Ix := Unit) (Name := ℕ) (U := UU 8 τ sig) (Lvl := ℕ) Y.B (across 0 c) h inb hr hq fullShare (Y.b c) (Y.G c) (Y.A.view.read Val (Y.a c))
    (fun x => by rw [Y.gathered c (across 0 c) x, across_zero c])
  have key := Y.net.copy_shot defs 𝒱 K c (14 : Fin 15) (src := Y.A) (dst := rowAt Y.B off inb hr hq) hsem' rfl (hsrc := hsrc) (hdst := hdst) (hsem := hsem)
    (q := cut 4) (fs := Y.a c) (fd := Y.b c) hN (by
      rw [show Y.net.P c (14 : Fin 15) = iprop(Y.own (cut 4) c ∗ Y.got 0 c) from rfl]
      unfold own got
      iintro ⟨H1, H2⟩
      isplitl [H2]; · iexact H2
      iapply (Entails.of_eq hl); iexact H1) (Q := Q) (kont := kont)
  rw [hp] at key
  exact key

/-- The own block sent across. -/
theorem near_step (i : Fin 8) (ks kr : Fin 15) (q : PosShare TreeShare) (n : ℕ) (h : off = ![(across 0 c).val, 0, 0])
    (d : Dev 8) (hd : d = across i c)
    (hks : Y.pay c ks = Y.own q c) (hkr : Y.pay d kr = Y.got i d) (ts : Y.net.tgt ks = Equiv.refl _) (tr : Y.net.tgt kr = across i) (hS : kr ∈ owe n) (hS' : (owe n).erase kr = owe (n + 1))
    {sS sem : SemLoc sig} (hsS : sS = Y.sem ks) (hsR : sem = Y.sem kr) (hN : (rowAt Y.B off inb hr hq).view.amount sem = Y.net.N)
    {hsc : (rowAt Y.B off inb hr hq).view.ref.isScScratch = false}
    {hsrc : Y.A.view.WordExact} {hdst : (rowAt Y.B off inb hr hq).view.WordExact}
    {hsem : DmaTarget.Typed .hbm sem (.remote (Dev.tc d : Thread 8 τ) (rowAt Y.B off inb hr hq) sS hsc)}
    {α : Type} {Q : α → sProp 𝕄} {kont : PUnit → Prog (TpuEff 8 τ sig Val Λ .tc) α} :
    iprop(Y.net.records K ∗ Y.own q c ∗ Y.free i (across i c) ∗ Y.debt c n ∗ Y.tok ks c ∗ Y.tok kr c)
      ⊢ iprop(((Y.cr ks c ∗ Y.debt c (n + 1)) -∗ wp frame (wpE defs 𝒱 (c.tc : Thread 8 τ) none) Set.univ (kont ⟨⟩) Q)
          -∗ wp frame (wpE defs 𝒱 (c.tc : Thread 8 τ) none) Set.univ
            (.op (.enqueueDma Y.A (.remote (Dev.tc d : Thread 8 τ) (rowAt Y.B off inb hr hq) sS hsc) sem hsrc hdst hsem) kont) Q) := by
  subst hd
  have hrow : across i (across i c) = across 0 c := (across_across i c).trans (across_zero c).symm
  have h' : off = ![(across i (across i c)).val, 0, 0] := by rw [hrow]; exact h
  have hp := row_pts (Val := Val) (c := (Dev.tc (across i c) : Thread 8 τ)) (Ix := Unit) (Name := ℕ) (U := UU 8 τ sig) (Lvl := ℕ) Y.B (across i (across i c)) h' inb hr hq fullShare (Y.b (across i c))
  have hl := row_landed (c := (Dev.tc (across i c) : Thread 8 τ)) (Ix := Unit) (Name := ℕ) (U := UU 8 τ sig) (Lvl := ℕ) Y.B (across i (across i c)) h' inb hr hq fullShare (Y.b (across i c))
    (Y.G (across i c)) (Y.A.view.read Val (Y.a c)) (fun x => by rw [Y.gathered, across_across])
  have key := Y.net.send_shot defs 𝒱 K c ks kr (across i c) (by rw [tr]) ts (src := Y.A) (dst := rowAt Y.B off inb hr hq) hsS hsR (hsc := hsc) (hsrc := hsrc) (hdst := hdst) (hsem := hsem)
    (q := q) (fs := Y.a c) (fd := Y.b (across i c)) hN (owe n) (owe (n + 1)) hS hS'
    (Entails.of_eq hks.symm) ((Entails.of_eq hl).trans (Entails.of_eq hkr.symm)) (Y.routes _ _) (Q := Q) (kont := kont)
  rw [hp] at key
  exact key

variable {off' : Fin 3 → ℕ} {inb' : ∀ a, off' a + (Stk 1 Y.r Y.w).size a ≤ (Stk 8 Y.r Y.w).size a} {hr'} {hq' : (Stk 1 Y.r Y.w).Squeezes (Blk Y.r Y.w)}

/-- A gathered place passed on to the sibling. -/
theorem pass_step (i i' : Fin 8) (hi : ∀ c, across i' (across 1 c) = across i c) (ks kr : Fin 15) (n : ℕ) (h : off = ![(across i c).val, 0, 0]) (h' : off' = ![(across i c).val, 0, 0])
    (d : Dev 8) (hd : d = across 1 c)
    (hks : Y.pay c ks = Y.got i c) (hkr : Y.pay d kr = Y.got i' d) (ts : Y.net.tgt ks = Equiv.refl _) (tr : Y.net.tgt kr = across 1) (hS : kr ∈ owe n) (hS' : (owe n).erase kr = owe (n + 1))
    {sS sem : SemLoc sig} (hsS : sS = Y.sem ks) (hsR : sem = Y.sem kr) (hN : (rowAt Y.B off inb hr hq).view.amount sem = Y.net.N)
    {hsc : (rowAt Y.B off inb hr hq).view.ref.isScScratch = false}
    {hsrc : (rowAt Y.B off' inb' hr' hq').view.WordExact} {hdst : (rowAt Y.B off inb hr hq).view.WordExact}
    {hsem : DmaTarget.Typed .hbm sem (.remote (Dev.tc d : Thread 8 τ) (rowAt Y.B off inb hr hq) sS hsc)}
    {α : Type} {Q : α → sProp 𝕄} {kont : PUnit → Prog (TpuEff 8 τ sig Val Λ .tc) α} :
    iprop(Y.net.records K ∗ Y.got i c ∗ Y.free i' (across 1 c) ∗ Y.debt c n ∗ Y.tok ks c ∗ Y.tok kr c)
      ⊢ iprop(((Y.cr ks c ∗ Y.debt c (n + 1)) -∗ wp frame (wpE defs 𝒱 (c.tc : Thread 8 τ) none) Set.univ (kont ⟨⟩) Q)
          -∗ wp frame (wpE defs 𝒱 (c.tc : Thread 8 τ) none) Set.univ
            (.op (.enqueueDma (rowAt Y.B off' inb' hr' hq') (.remote (Dev.tc d : Thread 8 τ) (rowAt Y.B off inb hr hq) sS hsc) sem hsrc hdst hsem) kont) Q) := by
  subst hd
  have h2 : off = ![(across i' (across 1 c)).val, 0, 0] := by rw [hi]; exact h
  have hs := row_pts (Val := Val) (c := (c.tc : Thread 8 τ)) (Ix := Unit) (Name := ℕ) (U := UU 8 τ sig) (Lvl := ℕ) Y.B (across i c) h' inb' hr' hq' fullShare (Y.G c)
  have hp := row_pts (Val := Val) (c := (Dev.tc (across 1 c) : Thread 8 τ)) (Ix := Unit) (Name := ℕ) (U := UU 8 τ sig) (Lvl := ℕ) Y.B (across i' (across 1 c)) h2 inb hr hq fullShare (Y.b (across 1 c))
  have hl := row_landed (c := (Dev.tc (across 1 c) : Thread 8 τ)) (Ix := Unit) (Name := ℕ) (U := UU 8 τ sig) (Lvl := ℕ) Y.B (across i' (across 1 c)) h2 inb hr hq fullShare (Y.b (across 1 c))
    (Y.G (across 1 c)) ((rowAt Y.B off' inb' hr' hq').view.read Val (Y.G c)) (fun x => by rw [Y.gathered, hi, row_read Y.B (across i c) h', Y.gathered])
  have key := Y.net.send_shot defs 𝒱 K c ks kr (across 1 c) (by rw [tr]) ts (src := rowAt Y.B off' inb' hr' hq') (dst := rowAt Y.B off inb hr hq) hsS hsR
    (hsc := hsc) (hsrc := hsrc) (hdst := hdst) (hsem := hsem) (q := fullShare) (fs := Y.G c) (fd := Y.b (across 1 c)) hN (owe n) (owe (n + 1)) hS hS'
    ((Entails.of_eq hs).trans (Entails.of_eq hks.symm)) ((Entails.of_eq hl).trans (Entails.of_eq hkr.symm)) (Y.routes _ _) (Q := Q) (kont := kont)
  rw [hs, hp] at key
  exact key

end Steps

/-- Every counter shut, every place gathered: what a device leaves with. -/
theorem close_up (c : Dev 8) (n : ℕ) (hn : owe n = ∅) :
    iprop((Y.own (cut 0) c ∗ Y.own (cut 1) c ∗ Y.own (cut 2) c ∗ Y.own (cut 3) c ∗ Y.own (cut 4) c)
      ∗ (Y.got 0 c ∗ Y.got 1 c ∗ Y.got 2 c ∗ Y.got 3 c ∗ Y.got 4 c ∗ Y.got 5 c ∗ Y.got 6 c ∗ Y.got 7 c)
      ∗ (Y.shut 0 c ∗ Y.shut 1 c ∗ Y.shut 2 c ∗ Y.shut 3 c ∗ Y.shut 4 c ∗ Y.shut 5 c ∗ Y.shut 6 c ∗ Y.shut 7 c ∗ Y.shut 8 c ∗ Y.shut 9 c ∗ Y.shut 10 c ∗ Y.shut 11 c
        ∗ Y.shut 12 c ∗ Y.shut 13 c ∗ Y.shut 14 c) ∗ Y.debt c n)
    ⊢ iprop(Y.done c ∗ (bigSep Finset.univ fun k => semVal (Y.net.cell c k) 0) ∗ Y.net.debt c ∅) := by
  have hz : (bigSep Finset.univ fun k : Fin Y.net.n => (semVal (Y.net.cell c k) 0 : sProp 𝕄)) = _ := all15 _
  rw [hz]
  unfold debt
  rw [hn]
  iintro ⟨HA, HB, HZ, HD⟩
  isplitl [HA HB]
  · iapply (Y.gather_up c); isplitl [HA]; · iexact HA
    iexact HB
  isplitl [HZ]; · iexact HZ
  iexact HD

/-- What a device leaves with says what its two buffers hold. -/
theorem done_read (c : Dev 8) (s : Phys 8 τ sig Val) : iprop(Y.done c ∗ SI s)
    ⊢ |={Set.univ}=> iprop(⌜s.mem.mem (Y.B.view.loc (c.tc : Thread 8 τ)) = Y.G c ∧ s.mem.mem (Y.A.view.loc (c.tc : Thread 8 τ)) = Y.a c⌝ ∗ (SI s : sProp 𝕄)) := by
  unfold done
  exact both_read _ _ _ _ s

end Gathering

end Cert.Exchange

end
-- ==== Proof.GatherBody.lean ====
/-
The body of one device in the gathering exchange, as twenty-three operations in their order: which operations they are,
and that any such body takes a device from its block and the places it may write to all eight places gathered.
-/
module

public import proofs.«01_k».proof.Proof.GatherNet

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Rounds

namespace Gathering

variable {τ : Topo} {sig : RefSig} {Val : EltTy → Type} (Y : Gathering τ sig Val) {Λ : Labels} (defs : Defs 8 τ sig Val Λ) (𝒱 : Variants) (c : Dev 8)

local notation "𝕄" => MT 8 τ sig Unit Val ℕ (UU 8 τ sig) ℕ

/-- The operation copies the own block onto the own place. -/
def Keeps (o : TpuEff 8 τ sig Val Λ .tc PUnit) : Prop :=
  ∃ (off : Fin 3 → ℕ) (inb : ∀ a, off a + (Stk 1 Y.r Y.w).size a ≤ (Stk 8 Y.r Y.w).size a) (hr : _) (hq : (Stk 1 Y.r Y.w).Squeezes (Blk Y.r Y.w)) (sem : SemLoc sig)
    (hsrc : Y.A.view.WordExact) (hdst : (rowAt Y.B off inb hr hq).view.WordExact)
    (hsem : DmaTarget.Typed .hbm sem (DmaTarget.here (rowAt Y.B off inb hr hq) : DmaTarget 8 τ sig (.tc : Proc τ) .hbm (Blk Y.r Y.w) Y.e)),
    off = ![(across 0 c).val, 0, 0] ∧ sem = Y.sem 14 ∧ (rowAt Y.B off inb hr hq).view.amount sem = Y.net.N
      ∧ o = .enqueueDma Y.A (.here (rowAt Y.B off inb hr hq)) sem hsrc hdst hsem

/-- The operation sends the own block to the device across `i`, departing on counter `ks`, arriving on counter `kr`. -/
def Sends (i : Fin 8) (ks kr : Fin 15) (o : TpuEff 8 τ sig Val Λ .tc PUnit) : Prop :=
  ∃ (off : Fin 3 → ℕ) (inb : ∀ a, off a + (Stk 1 Y.r Y.w).size a ≤ (Stk 8 Y.r Y.w).size a) (hr : _) (hq : (Stk 1 Y.r Y.w).Squeezes (Blk Y.r Y.w)) (d : Dev 8) (sS sem : SemLoc sig)
    (hsc : (rowAt Y.B off inb hr hq).view.ref.isScScratch = false) (hsrc : Y.A.view.WordExact) (hdst : (rowAt Y.B off inb hr hq).view.WordExact)
    (hsem : DmaTarget.Typed .hbm sem (.remote (Dev.tc d : Thread 8 τ) (rowAt Y.B off inb hr hq) sS hsc)),
    off = ![(across 0 c).val, 0, 0] ∧ d = across i c ∧ sS = Y.sem ks ∧ sem = Y.sem kr ∧ (rowAt Y.B off inb hr hq).view.amount sem = Y.net.N
      ∧ o = .enqueueDma Y.A (.remote (Dev.tc d : Thread 8 τ) (rowAt Y.B off inb hr hq) sS hsc) sem hsrc hdst hsem

/-- The operation passes the block of the device across `i` on to the sibling. -/
def Passes (i : Fin 8) (ks kr : Fin 15) (o : TpuEff 8 τ sig Val Λ .tc PUnit) : Prop :=
  ∃ (off : Fin 3 → ℕ) (inb : ∀ a, off a + (Stk 1 Y.r Y.w).size a ≤ (Stk 8 Y.r Y.w).size a) (hr : _) (hq : (Stk 1 Y.r Y.w).Squeezes (Blk Y.r Y.w)) (d : Dev 8) (sS sem : SemLoc sig)
    (hsc : (rowAt Y.B off inb hr hq).view.ref.isScScratch = false) (hsrc hdst : (rowAt Y.B off inb hr hq).view.WordExact)
    (hsem : DmaTarget.Typed .hbm sem (.remote (Dev.tc d : Thread 8 τ) (rowAt Y.B off inb hr hq) sS hsc)),
    off = ![(across i c).val, 0, 0] ∧ d = across 1 c ∧ sS = Y.sem ks ∧ sem = Y.sem kr ∧ (rowAt Y.B off inb hr hq).view.amount sem = Y.net.N
      ∧ o = .enqueueDma (rowAt Y.B off inb hr hq) (.remote (Dev.tc d : Thread 8 τ) (rowAt Y.B off inb hr hq) sS hsc) sem hsrc hdst hsem

/-- The operation waits for counter `k`. -/
def Waits (k : Fin 15) (o : TpuEff 8 τ sig Val Λ .tc PUnit) : Prop :=
  ∀ Kt : PUnit → sProp 𝕄, wpE defs 𝒱 (c.tc : Thread 8 τ) none Set.univ o Kt = waitSpec (c.tc : Thread 8 τ) Set.univ (Y.sem k) Y.net.N Kt

/-- The operation takes a device from `Pre` to `Post`. -/
def Does (o : TpuEff 8 τ sig Val Λ .tc PUnit) (Pre Post : sProp 𝕄) : Prop :=
  ∀ (α : Type) (Q : α → sProp 𝕄) (kont : PUnit → Prog (TpuEff 8 τ sig Val Λ .tc) α),
    Pre ⊢ iprop((Post -∗ wp frame (wpE defs 𝒱 (c.tc : Thread 8 τ) none) Set.univ (kont ⟨⟩) Q) -∗ wp frame (wpE defs 𝒱 (c.tc : Thread 8 τ) none) Set.univ (.op o kont) Q)

variable {Y defs 𝒱 c} {o : TpuEff 8 τ sig Val Λ .tc PUnit}

theorem Keeps.does (h : Y.Keeps c o) (K : Dev 8 × Fin 15 → ℕ) :
    Does defs 𝒱 c o iprop(Y.net.records K ∗ Y.own (cut 4) c ∗ Y.free 0 c ∗ Y.tok 14 c) (Y.cr 14 c) := by
  obtain ⟨off, inb, hr, hq, sem, hsrc, hdst, hsem, h1, h2, h3, rfl⟩ := h
  exact fun α Q kont => Y.own_step defs 𝒱 K c h1 h2 h3

theorem Sends.does {i : Fin 8} {ks kr : Fin 15} (h : Y.Sends c i ks kr o) (q : PosShare TreeShare) (n : ℕ)
    (hks : Y.pay c ks = Y.own q c) (hkr : ∀ d, Y.pay d kr = Y.got i d) (ts : Y.net.tgt ks = Equiv.refl _) (tr : Y.net.tgt kr = across i) (hS : kr ∈ owe n) (hS' : (owe n).erase kr = owe (n + 1))
    (K : Dev 8 × Fin 15 → ℕ) :
    Does defs 𝒱 c o iprop(Y.net.records K ∗ Y.own q c ∗ Y.free i (across i c) ∗ Y.debt c n ∗ Y.tok ks c ∗ Y.tok kr c) iprop(Y.cr ks c ∗ Y.debt c (n + 1)) := by
  obtain ⟨off, inb, hr, hq, d, sS, sem, hsc, hsrc, hdst, hsem, h1, h2, h3, h4, h5, rfl⟩ := h
  exact fun α Q kont => Y.near_step defs 𝒱 K c i ks kr q n h1 d h2 hks (hkr d) ts tr hS hS' h3 h4 h5

theorem Passes.does {i : Fin 8} {ks kr : Fin 15} (h : Y.Passes c i ks kr o) (i' : Fin 8) (hi : ∀ c, across i' (across 1 c) = across i c) (n : ℕ)
    (hks : Y.pay c ks = Y.got i c) (hkr : ∀ d, Y.pay d kr = Y.got i' d) (ts : Y.net.tgt ks = Equiv.refl _) (tr : Y.net.tgt kr = across 1) (hS : kr ∈ owe n) (hS' : (owe n).erase kr = owe (n + 1))
    (K : Dev 8 × Fin 15 → ℕ) :
    Does defs 𝒱 c o iprop(Y.net.records K ∗ Y.got i c ∗ Y.free i' (across 1 c) ∗ Y.debt c n ∗ Y.tok ks c ∗ Y.tok kr c) iprop(Y.cr ks c ∗ Y.debt c (n + 1)) := by
  obtain ⟨off, inb, hr, hq, d, sS, sem, hsc, hsrc, hdst, hsem, h1, h2, h3, h4, h5, rfl⟩ := h
  exact fun α Q kont => Y.pass_step defs 𝒱 K c i i' hi ks kr n h1 h1 d h2 hks (hkr d) ts tr hS hS' h3 h4 h5

theorem Waits.does {k : Fin 15} (h : Y.Waits defs 𝒱 c k o) (n : ℕ) (R : sProp 𝕄) (hR : Y.pay c k = R) (hS : ∀ k' ∈ owe n, lvl k < lvl k') (K : Dev 8 × Fin 15 → ℕ) :
    Does defs 𝒱 c o iprop(Y.net.records K ∗ Y.cr k c ∗ Y.debt c n ∗ Y.turn k c) iprop(R ∗ Y.shut k c ∗ Y.debt c n) :=
  fun α Q kont => Y.wait_step defs 𝒱 K c k n R hR hS rfl h rfl

variable (Y defs 𝒱 c)

/-- A body of these operations, in this order, gathers all eight places. -/
theorem through {o0 o1 o2 o3 o4 o5 o6 o7 o8 o9 o10 o11 o12 o13 o14 o15 o16 o17 o18 o19 o20 o21 o22 : TpuEff 8 τ sig Val Λ .tc PUnit}
    (h0 : Y.Keeps c o0) (h1 : Y.Sends c 1 0 7 o1) (h2 : Y.Sends c 4 1 8 o2) (h3 : Y.Sends c 2 2 9 o3) (h4 : Y.Sends c 6 3 10 o4)
    (h5 : Y.Waits defs 𝒱 c 8 o5) (h6 : Y.Passes c 4 4 11 o6) (h7 : Y.Waits defs 𝒱 c 9 o7) (h8 : Y.Passes c 2 5 12 o8) (h9 : Y.Waits defs 𝒱 c 10 o9)
    (h10 : Y.Passes c 6 6 13 o10) (h11 : Y.Waits defs 𝒱 c 7 o11) (h12 : Y.Waits defs 𝒱 c 11 o12) (h13 : Y.Waits defs 𝒱 c 12 o13) (h14 : Y.Waits defs 𝒱 c 13 o14)
    (h15 : Y.Waits defs 𝒱 c 0 o15) (h16 : Y.Waits defs 𝒱 c 1 o16) (h17 : Y.Waits defs 𝒱 c 2 o17) (h18 : Y.Waits defs 𝒱 c 3 o18) (h19 : Y.Waits defs 𝒱 c 4 o19)
    (h20 : Y.Waits defs 𝒱 c 5 o20) (h21 : Y.Waits defs 𝒱 c 6 o21) (h22 : Y.Waits defs 𝒱 c 14 o22) :
    iprop(Y.net.start Y.stay Y.land c ∗ Y.net.debt c Y.net.owed)
      ⊢ wp frame (wpE defs 𝒱 (c.tc : Thread 8 τ) none) Set.univ (.op o0 fun _ => .op o1 fun _ => .op o2 fun _ => .op o3 fun _ => .op o4 fun _ => .op o5 fun _ => .op o6 fun _ => .op o7 fun _ => .op o8 fun _ => .op o9 fun _ => .op o10 fun _ => .op o11 fun _ => .op o12 fun _ => .op o13 fun _ => .op o14 fun _ => .op o15 fun _ => .op o16 fun _ => .op o17 fun _ => .op o18 fun _ => .op o19 fun _ => .op o20 fun _ => .op o21 fun _ => .op o22 fun _ => Prog.ret PUnit.unit : Prog (TpuEff 8 τ sig Val Λ .tc) PUnit)
        fun _ => iprop(Y.done c ∗ (bigSep Finset.univ fun k => semVal (Y.net.cell c k) 0) ∗ Y.net.debt c ∅) := by
  have t0 := h0.does (defs := defs) (𝒱 := 𝒱)
  have t1 := h1.does (defs := defs) (𝒱 := 𝒱) (cut 0) 0 rfl (fun _ => rfl) rfl rfl (by decide) (by decide)
  have t2 := h2.does (defs := defs) (𝒱 := 𝒱) (cut 1) 1 rfl (fun _ => rfl) rfl rfl (by decide) (by decide)
  have t3 := h3.does (defs := defs) (𝒱 := 𝒱) (cut 2) 2 rfl (fun _ => rfl) rfl rfl (by decide) (by decide)
  have t4 := h4.does (defs := defs) (𝒱 := 𝒱) (cut 3) 3 rfl (fun _ => rfl) rfl rfl (by decide) (by decide)
  have t5 := h5.does 4 (Y.got 4 c) rfl (by decide)
  have t6 := h6.does (defs := defs) (𝒱 := 𝒱) 5 (by decide) 4 rfl (fun _ => rfl) rfl rfl (by decide) (by decide)
  have t7 := h7.does 5 (Y.got 2 c) rfl (by decide)
  have t8 := h8.does (defs := defs) (𝒱 := 𝒱) 3 (by decide) 5 rfl (fun _ => rfl) rfl rfl (by decide) (by decide)
  have t9 := h9.does 6 (Y.got 6 c) rfl (by decide)
  have t10 := h10.does (defs := defs) (𝒱 := 𝒱) 7 (by decide) 6 rfl (fun _ => rfl) rfl rfl (by decide) (by decide)
  have t11 := h11.does 7 (Y.got 1 c) rfl (by decide)
  have t12 := h12.does 7 (Y.got 5 c) rfl (by decide)
  have t13 := h13.does 7 (Y.got 3 c) rfl (by decide)
  have t14 := h14.does 7 (Y.got 7 c) rfl (by decide)
  have t15 := h15.does 7 (Y.own (cut 0) c) rfl (by decide)
  have t16 := h16.does 7 (Y.own (cut 1) c) rfl (by decide)
  have t17 := h17.does 7 (Y.own (cut 2) c) rfl (by decide)
  have t18 := h18.does 7 (Y.own (cut 3) c) rfl (by decide)
  have t19 := h19.does 7 (Y.got 4 c) rfl (by decide)
  have t20 := h20.does 7 (Y.got 2 c) rfl (by decide)
  have t21 := h21.does 7 (Y.got 6 c) rfl (by decide)
  have t22 := h22.does 7 iprop(Y.own (cut 4) c ∗ Y.got 0 c) rfl (by decide)
  iintro ⟨H, HD⟩
  ihave H := (Y.open_start c) $$ H
  unfold leaving coming stay
  icases H with ⟨%K, #HR, ⟨A0, A1, A2, A3, A4, F0⟩, ⟨T0, K0⟩, ⟨T1, K1⟩, ⟨T2, K2⟩, ⟨T3, K3⟩, ⟨T4, K4⟩, ⟨T5, K5⟩, ⟨T6, K6⟩, ⟨L7, T7, K7, C7⟩, ⟨L8, T8, K8, C8⟩, ⟨L9, T9, K9, C9⟩, ⟨L10, T10, K10, C10⟩, ⟨L11, T11, K11, C11⟩, ⟨L12, T12, K12, C12⟩, ⟨L13, T13, K13, C13⟩, ⟨T14, K14⟩⟩
  ihave HD := (show Y.net.debt c Y.net.owed ⊢ Y.debt c 0 from BIBase.Entails.rfl) $$ HD
  iapply (t0 K _ _ _) $$ [A4 F0 K14]
  · isplitr; · iexact HR
    isplitl [A4]; · iexact A4
    isplitl [F0] <;> iassumption
  iintro C14
  iapply (t1 K _ _ _) $$ [A0 L7 HD K0 K7]
  · isplitr; · iexact HR
    isplitl [A0]; · iexact A0
    isplitl [L7]; · iexact L7
    isplitl [HD]; · iexact HD
    isplitl [K0] <;> iassumption
  iintro ⟨C0, HD⟩
  iapply (t2 K _ _ _) $$ [A1 L8 HD K1 K8]
  · isplitr; · iexact HR
    isplitl [A1]; · iexact A1
    isplitl [L8]; · iexact L8
    isplitl [HD]; · iexact HD
    isplitl [K1] <;> iassumption
  iintro ⟨C1, HD⟩
  iapply (t3 K _ _ _) $$ [A2 L9 HD K2 K9]
  · isplitr; · iexact HR
    isplitl [A2]; · iexact A2
    isplitl [L9]; · iexact L9
    isplitl [HD]; · iexact HD
    isplitl [K2] <;> iassumption
  iintro ⟨C2, HD⟩
  iapply (t4 K _ _ _) $$ [A3 L10 HD K3 K10]
  · isplitr; · iexact HR
    isplitl [A3]; · iexact A3
    isplitl [L10]; · iexact L10
    isplitl [HD]; · iexact HD
    isplitl [K3] <;> iassumption
  iintro ⟨C3, HD⟩
  iapply (t5 K _ _ _) $$ [C8 HD T8]
  · isplitr; · iexact HR
    isplitl [C8]; · iexact C8
    isplitl [HD] <;> iassumption
  iintro ⟨G4, Z8, HD⟩
  iapply (t6 K _ _ _) $$ [G4 L11 HD K4 K11]
  · isplitr; · iexact HR
    isplitl [G4]; · iexact G4
    isplitl [L11]; · iexact L11
    isplitl [HD]; · iexact HD
    isplitl [K4] <;> iassumption
  iintro ⟨C4, HD⟩
  iapply (t7 K _ _ _) $$ [C9 HD T9]
  · isplitr; · iexact HR
    isplitl [C9]; · iexact C9
    isplitl [HD] <;> iassumption
  iintro ⟨G2, Z9, HD⟩
  iapply (t8 K _ _ _) $$ [G2 L12 HD K5 K12]
  · isplitr; · iexact HR
    isplitl [G2]; · iexact G2
    isplitl [L12]; · iexact L12
    isplitl [HD]; · iexact HD
    isplitl [K5] <;> iassumption
  iintro ⟨C5, HD⟩
  iapply (t9 K _ _ _) $$ [C10 HD T10]
  · isplitr; · iexact HR
    isplitl [C10]; · iexact C10
    isplitl [HD] <;> iassumption
  iintro ⟨G6, Z10, HD⟩
  iapply (t10 K _ _ _) $$ [G6 L13 HD K6 K13]
  · isplitr; · iexact HR
    isplitl [G6]; · iexact G6
    isplitl [L13]; · iexact L13
    isplitl [HD]; · iexact HD
    isplitl [K6] <;> iassumption
  iintro ⟨C6, HD⟩
  iapply (t11 K _ _ _) $$ [C7 HD T7]
  · isplitr; · iexact HR
    isplitl [C7]; · iexact C7
    isplitl [HD] <;> iassumption
  iintro ⟨G1, Z7, HD⟩
  iapply (t12 K _ _ _) $$ [C11 HD T11]
  · isplitr; · iexact HR
    isplitl [C11]; · iexact C11
    isplitl [HD] <;> iassumption
  iintro ⟨G5, Z11, HD⟩
  iapply (t13 K _ _ _) $$ [C12 HD T12]
  · isplitr; · iexact HR
    isplitl [C12]; · iexact C12
    isplitl [HD] <;> iassumption
  iintro ⟨G3, Z12, HD⟩
  iapply (t14 K _ _ _) $$ [C13 HD T13]
  · isplitr; · iexact HR
    isplitl [C13]; · iexact C13
    isplitl [HD] <;> iassumption
  iintro ⟨G7, Z13, HD⟩
  iapply (t15 K _ _ _) $$ [C0 HD T0]
  · isplitr; · iexact HR
    isplitl [C0]; · iexact C0
    isplitl [HD] <;> iassumption
  iintro ⟨A0, Z0, HD⟩
  iapply (t16 K _ _ _) $$ [C1 HD T1]
  · isplitr; · iexact HR
    isplitl [C1]; · iexact C1
    isplitl [HD] <;> iassumption
  iintro ⟨A1, Z1, HD⟩
  iapply (t17 K _ _ _) $$ [C2 HD T2]
  · isplitr; · iexact HR
    isplitl [C2]; · iexact C2
    isplitl [HD] <;> iassumption
  iintro ⟨A2, Z2, HD⟩
  iapply (t18 K _ _ _) $$ [C3 HD T3]
  · isplitr; · iexact HR
    isplitl [C3]; · iexact C3
    isplitl [HD] <;> iassumption
  iintro ⟨A3, Z3, HD⟩
  iapply (t19 K _ _ _) $$ [C4 HD T4]
  · isplitr; · iexact HR
    isplitl [C4]; · iexact C4
    isplitl [HD] <;> iassumption
  iintro ⟨G4, Z4, HD⟩
  iapply (t20 K _ _ _) $$ [C5 HD T5]
  · isplitr; · iexact HR
    isplitl [C5]; · iexact C5
    isplitl [HD] <;> iassumption
  iintro ⟨G2, Z5, HD⟩
  iapply (t21 K _ _ _) $$ [C6 HD T6]
  · isplitr; · iexact HR
    isplitl [C6]; · iexact C6
    isplitl [HD] <;> iassumption
  iintro ⟨G6, Z6, HD⟩
  iapply (t22 K _ _ _) $$ [C14 HD T14]
  · isplitr; · iexact HR
    isplitl [C14]; · iexact C14
    isplitl [HD] <;> iassumption
  iintro ⟨⟨A4, G0⟩, Z14, HD⟩
  rw [wp_ret]
  imodintro
  iapply (Y.close_up c 7 (by decide))
  isplitl [A0 A1 A2 A3 A4]
  · isplitl [A0]; · iexact A0
    isplitl [A1]; · iexact A1
    isplitl [A2]; · iexact A2
    isplitl [A3]; · iexact A3
    iexact A4
  isplitl [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [Z0 Z1 Z2 Z3 Z4 Z5 Z6 Z7 Z8 Z9 Z10 Z11 Z12 Z13 Z14]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    iexact Z14
  iexact HD

end Gathering

/-- Eight blocks stacked: place `k` is block `k`. -/
def stack {α : Type} {r w : ℕ} (a : Fin 8 → (Blk r w).Idx → α) : (Stk 8 r w).Idx → α := fun i => a (i 0) (under i)

theorem stack_at3 {α : Type} {r w : ℕ} (a : Fin 8 → (Blk r w).Idx → α) (k : Fin 8) (x : (Blk r w).Idx) : stack a (at3 k x) = a k x := congrArg (a k) (under_at3 k x)

/-- The stack of the blocks of a whole matrix is the matrix, reshaped. -/
theorem stack_eq {α : Type} {r w R : ℕ} (a : Fin 8 → (Blk r w).Idx → α) (W : (Blk R w).Idx → α) (hT : Layout.Tiles (Blk r w) (Blk R w) 0 8)
    (ha : ∀ k, a k = Layout.block (Blk r w) (Blk R w) 0 8 k W hT) (h : (Blk R w).ShapeCasts (Stk 8 r w)) : stack a = shapeCast (Stk 8 r w) W h := by
  funext i
  obtain ⟨k, x, rfl⟩ := exists_at3 i
  exact (stack_at3 a k x).trans ((congrFun (ha k) x).trans (stack_of_blocks W hT h k x).symm)

end Cert.Exchange

end
-- ==== Proof.GatherRun.lean ====
/- The gathering of the packed weights: the body of one device, the run of all eight, and the whole array reshaped. -/
module

public import proofs.«01_k».proof.Proof.GatherBody
public import proofs.«01_k».proof.Proof.Gen.GatherIdeal.Skeleton
public import proofs.«01_k».proof.Proof.Gen.GatherIdeal.Launch
public import proofs.«01_k».proof.Proof.Gen.GatherRefIdeal.Run
public import Idealize.ShloMosaic.Lib.Quiescent

@[expose] public section

noncomputable section

namespace Cert.GatherIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Exchange.Gathering Cert.GatherIdeal.Gen

variable {F : FTy → Type} [FloatOps F]

/-- The block of a device. -/
abbrev block (m : (ℓ : Loc nD τ sig) → Buf (Elt F) ℓ) (c : Fin 8) : (Blk 16864 1024).Idx → Elt F .bf16 := m ((Dev.tc c : Thread nD τ).loc main_arg0)

variable (m : (ℓ : Loc nD τ sig) → Buf (Elt F) ℓ)

/-- This exchange. -/
def exch : Gathering τ sig (Elt F) where
  r := 16864
  w := 1024
  e := .bf16
  A := Memref.whole main_arg0
  B := Memref.whole main_v1
  hA := Memref.isWhole_whole _
  hB := Memref.isWhole_whole _
  sem k := .dma k
  inj a b h := by injection h
  a c := m ((c.tc : Thread nD τ).loc main_arg0)
  b c := m ((c.tc : Thread nD τ).loc main_v1)
  G c := stack (block m)
  gathered c k x := stack_at3 (block m) k x
  pos := by decide +kernel
  credit := rfl
  routes c d := by revert c d; decide

theorem off1 : ∀ c : Dev nD, k0_off1 c = ![(across 0 c).val, 0, 0] := by decide +kernel
theorem off2 : ∀ c : Dev nD, k0_off2 c = ![(across 4 c).val, 0, 0] := by decide +kernel
theorem off3 : ∀ c : Dev nD, k0_off3 c = ![(across 2 c).val, 0, 0] := by decide +kernel
theorem off4 : ∀ c : Dev nD, k0_off4 c = ![(across 6 c).val, 0, 0] := by decide +kernel
theorem dev1 : ∀ c : Dev nD, (⟨k0_dev1 c, k0_dev1_lt c⟩ : Dev nD) = across 1 c := by decide +kernel
theorem dev2 : ∀ c : Dev nD, (⟨k0_dev2 c, k0_dev2_lt c⟩ : Dev nD) = across 4 c := by decide +kernel
theorem dev3 : ∀ c : Dev nD, (⟨k0_dev3 c, k0_dev3_lt c⟩ : Dev nD) = across 2 c := by decide +kernel
theorem dev4 : ∀ c : Dev nD, (⟨k0_dev4 c, k0_dev4_lt c⟩ : Dev nD) = across 6 c := by decide +kernel
theorem dev5 : ∀ c : Dev nD, (⟨k0_dev5 c, k0_dev5_lt c⟩ : Dev nD) = across 1 c := by decide +kernel
theorem dev6 : ∀ c : Dev nD, (⟨k0_dev6 c, k0_dev6_lt c⟩ : Dev nD) = across 1 c := by decide +kernel
theorem dev7 : ∀ c : Dev nD, (⟨k0_dev7 c, k0_dev7_lt c⟩ : Dev nD) = across 1 c := by decide +kernel

/-- The body of device `c`: from its block and the places it may write to all eight places gathered. -/
theorem body (𝒱 : Variants) (c : Dev nD) : iprop((exch m).net.start (exch m).stay (exch m).land c ∗ (exch m).net.debt c (exch m).net.owed)
    ⊢ wp frame (wpE (defs₀ (F := F)) 𝒱 (c.tc : Thread nD τ) none) Set.univ
        (cc0_gather_weights (Memref.whole main_arg0) (Memref.isWhole_whole _) (Memref.whole main_v1) (Memref.isWhole_whole _) cc0_scratch0 cc0_scratch1 cc0_scratch2)
        fun _ => iprop((exch m).done c ∗ (bigSep Finset.univ fun k => semVal ((exch m).net.cell c k) 0) ∗ (exch m).net.debt c ∅) := by
  simp only [cc0_gather_weights_eq_skeleton]
  unfold cc0_gather_weights_skel
  simp only [k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact (exch m).through (defs₀ (F := F)) 𝒱 c ⟨_, _, _, _, _, _, _, _, off1 c, rfl, rfl, rfl⟩
    ⟨_, _, _, _, _, _, _, _, _, _, _, off1 c, dev1 c, rfl, rfl, rfl, rfl⟩ ⟨_, _, _, _, _, _, _, _, _, _, _, off1 c, dev2 c, rfl, rfl, rfl, rfl⟩
    ⟨_, _, _, _, _, _, _, _, _, _, _, off1 c, dev3 c, rfl, rfl, rfl, rfl⟩ ⟨_, _, _, _, _, _, _, _, _, _, _, off1 c, dev4 c, rfl, rfl, rfl, rfl⟩
    (fun _ => rfl) ⟨_, _, _, _, _, _, _, _, _, _, _, off2 c, dev5 c, rfl, rfl, rfl, rfl⟩ (fun _ => rfl) ⟨_, _, _, _, _, _, _, _, _, _, _, off3 c, dev6 c, rfl, rfl, rfl, rfl⟩
    (fun _ => rfl) ⟨_, _, _, _, _, _, _, _, _, _, _, off4 c, dev7 c, rfl, rfl, rfl, rfl⟩ (fun _ => rfl) (fun _ => rfl) (fun _ => rfl) (fun _ => rfl)
    (fun _ => rfl) (fun _ => rfl) (fun _ => rfl) (fun _ => rfl) (fun _ => rfl) (fun _ => rfl) (fun _ => rfl) (fun _ => rfl)

/-- What the run of all devices ends with: every stack gathered, every block as it was. -/
theorem run_all (g : Dev nD → PrngReg) : θ_run (defs (F := F)) (onTc (τ := τ) (main (F := F))) ⟨m, fun _ => 0, g⟩
    (fun r => (∀ c : Dev nD, r.2.mem ((c.tc : Thread nD τ).loc main_v1) = stack (block m) ∧ r.2.mem ((c.tc : Thread nD τ).loc main_arg0) = m ((c.tc : Thread nD τ).loc main_arg0))
      ∧ r.2.sem = fun _ => 0) := by
  haveI (e : EltTy) : Nonempty (Elt F e) := inferInstance
  refine (exch m).net.run cfgs cellOf_inj winFacts0.to₀ ?_ defs₀ Variants.none ⟨fun w => w.elim0⟩ N_0 (fun c => scopedRest0_eq c) m g main (fun c => rfl)
    (exch m).stay (exch m).land (exch m).done (fun c => ?_) (fun c t => ?_)
    (fun c s => s.mem ((c.tc : Thread nD τ).loc main_v1) = stack (block m) ∧ s.mem ((c.tc : Thread nD τ).loc main_arg0) = m ((c.tc : Thread nD τ).loc main_arg0)) (fun c s' => ?_) (fun s hs => sem_eq_zero_of_scoped (by decide) hs)
  · exact (by decide : Pipeline.OwnSemFacts cfg0.spec fun k : Fin 15 => (SemLoc.dma k : SemLoc sig))
  · refine BIBase.Entails.trans ?_ ((exch m).cut_up c)
    exact (Entails.of_eq (Pipeline.unscopedBufs_split₀ cfgs 0 (fun w => w.elim0) c _)).trans (sep_elim_right.trans (Entails.of_eq (unscopedRest0_eq c _)))
  · exact body m Variants.none c
  · exact (exch m).done_read c s'

/-- Every run ends with the argument as it was and the counters at zero. -/
theorem quiet (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c).2, h.2⟩) (run_all m g)

/-- The exchange and its reference, from the same array, end with the same stack. -/
theorem agrees (g : Dev nD → PrngReg)
    (m' : (ℓ : Loc Cert.GatherRefIdeal.nD Cert.GatherRefIdeal.τ Cert.GatherRefIdeal.sig) → Buf (Elt F) ℓ) (g' : Dev Cert.GatherRefIdeal.nD → PrngReg)
    (hT : Layout.Tiles ⟨2, ![16864, 1024]⟩ ⟨2, ![134912, 1024]⟩ 0 8)
    (hm : ∀ c : Dev nD, m ((c.tc : Thread nD τ).loc main_arg0) = Layout.block ⟨2, ![16864, 1024]⟩ ⟨2, ![134912, 1024]⟩ 0 8 c
      (m' (((0 : Dev Cert.GatherRefIdeal.nD).tc : Thread Cert.GatherRefIdeal.nD Cert.GatherRefIdeal.τ).loc Cert.GatherRefIdeal.main_arg0)) hT) :
    ∃ (v0 : Buf (Elt F) (((0 : Dev Cert.GatherRefIdeal.nD).tc : Thread Cert.GatherRefIdeal.nD Cert.GatherRefIdeal.τ).loc Cert.GatherRefIdeal.main_v0)),
      θ_run (defs (F := F)) (onTc (τ := τ) (main (F := F))) ⟨m, fun _ => 0, g⟩ (fun r => ∀ c : Dev nD,
          r.2.mem ((c.tc : Thread nD τ).loc main_v1) = v0
          ∧ r.2.mem ((c.tc : Thread nD τ).loc main_arg0) = m ((c.tc : Thread nD τ).loc main_arg0))
      ∧ θ_run (Cert.GatherRefIdeal.defs (F := F)) (onTc (τ := Cert.GatherRefIdeal.τ) (Cert.GatherRefIdeal.main (F := F))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0)
            = m' (((0 : Dev Cert.GatherRefIdeal.nD).tc : Thread Cert.GatherRefIdeal.nD Cert.GatherRefIdeal.τ).loc Cert.GatherRefIdeal.main_arg0)) :=
  ⟨_, (θ_run (defs (F := F)) _ _).mono (fun _ h c => ⟨(h.1 c).1.trans (stack_eq (block m) _ hT hm _), (h.1 c).2⟩) (run_all m g),
    (θ_run (Cert.GatherRefIdeal.defs (F := F)) _ _).mono (fun _ h => h 0) (Cert.GatherRefIdeal.Value.run m' g')⟩

end Cert.GatherIdeal

end
-- ==== Proof.ScatterNet.lean ====
/-
The scattering exchange of eight devices: each device sends `n` of the places of its stack of addends, place `pick k c`
to its `k`-th peer, which takes it onto place `k` of its own stack; the `k`-th peer sends back in the same way. Two
counters for each `k`: departures, then arrivals.
-/
module

public import proofs.«01_k».proof.Proof.Net
public import proofs.«01_k».proof.Proof.Rows
public import Idealize.ShloMosaic.Lib.SparseCore.Stream
public import Idealize.ShloMosaic.Lib.SparseCore.Launch

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Rounds

/-- What the scattering exchange is given: the two stacks, counters, peers and picks, the contents of the sources, and those of
    the destinations after and before. -/
structure Scattering (τ : Topo) (sig : RefSig) (Val : EltTy → Type) where
  n : ℕ
  s : ℕ
  r : ℕ
  w : ℕ
  e : EltTy
  A : Memref sig .tc .hbm (Stk s r w) e
  B : Memref sig .tc .hbm (Stk n r w) e
  hA : A.IsWhole
  hB : B.IsWhole
  sem : Fin (n + n) → SemLoc sig
  inj : Function.Injective sem
  peer : Fin n → Equiv.Perm (Dev 8)
  peer_peer : ∀ k c, peer k (peer k c) = c
  pick : Fin n → Dev 8 → Fin s
  pick_inj : ∀ c k k', pick k c = pick k' c → k = k'
  a : (c : Dev 8) → Buf Val (A.view.loc (c.tc : Thread 8 τ))
  b : (c : Dev 8) → Buf Val (B.view.loc (c.tc : Thread 8 τ))
  G : (c : Dev 8) → Buf Val (B.view.loc (c.tc : Thread 8 τ))
  given : ∀ (c : Dev 8) (k : Fin n) (x : (Blk r w).Idx), B.view.read Val (G c) (at3 k x) = A.view.read Val (a (peer k c)) (at3 (pick k (peer k c)) x)
  pos : 0 < (Blk r w).numel
  routes : ∀ c d : Dev 8, τ.routes (c.tc : Thread 8 τ) (d.tc : Thread 8 τ) = true

namespace Scattering

variable {τ : Topo} {sig : RefSig} {Val : EltTy → Type} (Y : Scattering τ sig Val)

local notation "𝕄" => MT 8 τ sig Unit Val ℕ (UU 8 τ sig) ℕ

/-- The counters of departure and of arrival; the arrivals still to be sent after the first `m`. -/
abbrev go (k : Fin Y.n) : Fin (Y.n + Y.n) := Fin.castAdd Y.n k
abbrev come (k : Fin Y.n) : Fin (Y.n + Y.n) := Fin.natAdd Y.n k
abbrev owe (m : ℕ) : Finset (Fin (Y.n + Y.n)) := Finset.univ.filter fun i => Y.n + m ≤ i.val

theorem owe_mem (k : Fin Y.n) : Y.come k ∈ Y.owe k.val := by
  rw [Finset.mem_filter]; exact ⟨Finset.mem_univ _, le_of_eq (Fin.val_natAdd Y.n k).symm⟩
theorem owe_zero (k : Fin Y.n) : Y.come k ∈ Y.owe 0 := by
  rw [Finset.mem_filter, Fin.val_natAdd]; exact ⟨Finset.mem_univ _, by omega⟩
theorem owe_not (k : Fin Y.n) (m : ℕ) : Y.go k ∉ Y.owe m := by
  rw [Finset.mem_filter, Fin.val_castAdd]; rintro ⟨-, h⟩; have := k.isLt; omega
theorem owe_erase (k : Fin Y.n) : (Y.owe k.val).erase (Y.come k) = Y.owe (k.val + 1) := by
  ext i
  rw [Finset.mem_erase, Finset.mem_filter, Finset.mem_filter, ne_eq, Fin.ext_iff, Fin.val_natAdd]
  constructor
  · rintro ⟨h, -, h'⟩; exact ⟨Finset.mem_univ _, by omega⟩
  · rintro ⟨-, h⟩; exact ⟨by omega, Finset.mem_univ _, by omega⟩
theorem owe_last : Y.owe Y.n = ∅ := by
  ext i
  rw [Finset.mem_filter]
  have := i.isLt
  constructor
  · rintro ⟨-, h⟩; omega
  · intro h; exact absurd h (Finset.notMem_empty _)

/-- A place of the source on its way; a place received; the same place before; the source's other places. -/
def sent (k : Fin Y.n) (c : Dev 8) : sProp 𝕄 := Y.A.view.loc (c.tc : Thread 8 τ) ↦[rowsOf Y.A (Y.pick k c)]{fullShare} Y.a c
def got (k : Fin Y.n) (c : Dev 8) : sProp 𝕄 := Y.B.view.loc (c.tc : Thread 8 τ) ↦[rowsOf Y.B k]{fullShare} Y.G c
def free (k : Fin Y.n) (c : Dev 8) : sProp 𝕄 := Y.B.view.loc (c.tc : Thread 8 τ) ↦[rowsOf Y.B k]{fullShare} Y.b c
def rest (c : Dev 8) : sProp 𝕄 := bigSep (Finset.univ \ Finset.univ.image fun k : Fin Y.n => Y.pick k c)
  fun j => Y.A.view.loc (c.tc : Thread 8 τ) ↦[rowsOf Y.A j]{fullShare} Y.a c

instance sent_storable (k : Fin Y.n) (c : Dev 8) : BI.Storable (upEmb : UEmb _ 𝕄) (Y.sent k c) := by unfold sent; infer_instance
instance got_storable (k : Fin Y.n) (c : Dev 8) : BI.Storable (upEmb : UEmb _ 𝕄) (Y.got k c) := by unfold got; infer_instance

/-- What each counter hands over, whose counter each transfer pays, what each sender may write. -/
def pay (c : Dev 8) (i : Fin (Y.n + Y.n)) : sProp 𝕄 := Fin.addCases (motive := fun _ => sProp 𝕄) (fun k => Y.sent k c) (fun k => Y.got k c) i
def land (c : Dev 8) (i : Fin (Y.n + Y.n)) : sProp 𝕄 := Fin.addCases (motive := fun _ => sProp 𝕄) (fun _ => iprop(emp)) (fun k => Y.free k c) i
def tgt (i : Fin (Y.n + Y.n)) : Equiv.Perm (Dev 8) := Fin.addCases (motive := fun _ => Equiv.Perm (Dev 8)) (fun _ => Equiv.refl _) Y.peer i

theorem pay_go (k : Fin Y.n) (c : Dev 8) : Y.pay c (Y.go k) = Y.sent k c := Fin.addCases_left k
theorem pay_come (k : Fin Y.n) (c : Dev 8) : Y.pay c (Y.come k) = Y.got k c := Fin.addCases_right k
theorem land_go (k : Fin Y.n) (c : Dev 8) : Y.land c (Y.go k) = iprop(emp) := Fin.addCases_left k
theorem land_come (k : Fin Y.n) (c : Dev 8) : Y.land c (Y.come k) = Y.free k c := Fin.addCases_right k
theorem tgt_go (k : Fin Y.n) : Y.tgt (Y.go k) = Equiv.refl _ := Fin.addCases_left k
theorem tgt_come (k : Fin Y.n) : Y.tgt (Y.come k) = Y.peer k := Fin.addCases_right k

theorem pay_storable (c : Dev 8) (i : Fin (Y.n + Y.n)) : BI.Storable (upEmb : UEmb _ 𝕄) (Y.pay c i) := by
  refine Fin.addCases (fun k => ?_) (fun k => ?_) i
  · have h := Y.pay_go k c; unfold go at h; rw [h]; infer_instance
  · have h := Y.pay_come k c; unfold come at h; rw [h]; infer_instance

def net : Net 8 τ sig Val where
  n := Y.n + Y.n
  osem := Y.sem
  inj := Y.inj
  tgt := Y.tgt
  owed := Y.owe 0
  N := sig.dmaCredit .tc (Kind.table .tc .hbm) Y.B.view.buf (Blk Y.r Y.w) Y.e
  N_pos := sig.dmaCredit_pos _ _ _ _ _ Y.pos
  lev := fun _ => 0
  P := Y.pay
  storable := Y.pay_storable

/-- Both halves of the counters. -/
theorem halves (Φ : Fin (Y.n + Y.n) → sProp 𝕄) : bigSep Finset.univ Φ
    = iprop((bigSep Finset.univ fun k => Φ (Y.go k)) ∗ bigSep Finset.univ fun k => Φ (Y.come k)) :=
  (bigSep_univ_equiv finSumFinEquiv Φ).trans (bigSep_univ_sum fun x => Φ (finSumFinEquiv x))

/-- What stays with a device. -/
def stay (c : Dev 8) : sProp 𝕄 := iprop((bigSep Finset.univ fun k => Y.sent k c) ∗ Y.rest c)
def done (c : Dev 8) : sProp 𝕄 :=
  iprop((Y.A.view.loc (c.tc : Thread 8 τ) ↦{fullShare} Y.a c) ∗ (Y.B.view.loc (c.tc : Thread 8 τ) ↦{fullShare} Y.G c))

theorem source (c : Dev 8) : (Y.A.view.loc (c.tc : Thread 8 τ) ↦{fullShare} Y.a c : sProp 𝕄) = Y.stay c := by
  refine (rows_split (c := (c.tc : Thread 8 τ)) Y.A Y.hA fullShare (Y.a c)).trans ?_
  unfold stay rest sent
  refine (SparseCore.bigSep_sdiff_split' (t := Finset.univ.image fun k : Fin Y.n => Y.pick k c) (Finset.subset_univ _)).trans ?_
  rw [SparseCore.bigSep_image_of_injOn fun k _ k' _ h => Y.pick_inj c k k' h]

/-- The two buffers, cut. -/
theorem cut_up (c : Dev 8) : iprop((Y.A.view.loc (c.tc : Thread 8 τ) ↦{fullShare} Y.a c) ∗ (Y.B.view.loc (c.tc : Thread 8 τ) ↦{fullShare} Y.b c))
    ⊢ iprop(Y.stay c ∗ bigSep Finset.univ fun i => Y.land c i : sProp 𝕄) := by
  rw [Y.source, Y.halves, rows_split (c := (c.tc : Thread 8 τ)) Y.B Y.hB fullShare (Y.b c)]
  simp only [land_go, land_come]
  rw [show (bigSep Finset.univ fun _ : Fin Y.n => iprop(emp)) = (iprop(emp) : sProp 𝕄) from bigSep_emp_const _]
  unfold free
  iintro ⟨HA, HB⟩
  isplitl [HA]; · iexact HA
  isplitr; · iempintro
  iexact HB

/-! ### The rights of a device, the steps of its body -/

def tok (i : Fin (Y.n + Y.n)) (c : Dev 8) : sProp 𝕄 := dutyTok ER (Y.net.cell (Y.net.tgt i c) i) 0 ()
def turn (i : Fin (Y.n + Y.n)) (c : Dev 8) : sProp 𝕄 := atPos ER (Y.net.cell c i) 0 ∅ 0
def cr (i : Fin (Y.n + Y.n)) (c : Dev 8) : sProp 𝕄 := cred (tallyAt (Y.net.cell c i) () Y.net.N)
def shut (i : Fin (Y.n + Y.n)) (c : Dev 8) : sProp 𝕄 := semVal (Y.net.cell c i) 0
def debt (c : Dev 8) (m : ℕ) : sProp 𝕄 := Y.net.debt c (Y.owe m)
/-- What a device begins its `k`-th exchange with, and what it ends it with. -/
def task (k : Fin Y.n) (c : Dev 8) : sProp 𝕄 :=
  iprop(Y.sent k c ∗ Y.free k (Y.peer k c) ∗ Y.turn (Y.go k) c ∗ Y.tok (Y.go k) c ∗ Y.turn (Y.come k) c ∗ Y.tok (Y.come k) c ∗ Y.cr (Y.come k) c)
def over (k : Fin Y.n) (c : Dev 8) : sProp 𝕄 := iprop(Y.sent k c ∗ Y.got k c ∗ Y.shut (Y.go k) c ∗ Y.shut (Y.come k) c)

theorem rights_go (k : Fin Y.n) (c : Dev 8) : iprop(Y.land (Y.net.tgt (Y.go k) c) (Y.go k) ∗ Y.net.rights c (Y.go k)) ⊢ iprop(Y.turn (Y.go k) c ∗ Y.tok (Y.go k) c) := by
  rw [show Y.net.rights c (Y.go k) = iprop(Y.turn (Y.go k) c ∗ Y.tok (Y.go k) c ∗ (if Y.go k ∈ Y.owe 0 then Y.cr (Y.go k) c else iprop(emp))) from rfl,
    if_neg (Y.owe_not k 0)]
  iintro ⟨-, H1, H2, -⟩
  isplitl [H1] <;> iassumption

theorem rights_come (k : Fin Y.n) (c : Dev 8) : iprop(Y.land (Y.net.tgt (Y.come k) c) (Y.come k) ∗ Y.net.rights c (Y.come k))
    ⊢ iprop(Y.free k (Y.peer k c) ∗ Y.turn (Y.come k) c ∗ Y.tok (Y.come k) c ∗ Y.cr (Y.come k) c) := by
  rw [show Y.net.rights c (Y.come k) = iprop(Y.turn (Y.come k) c ∗ Y.tok (Y.come k) c ∗ (if Y.come k ∈ Y.owe 0 then Y.cr (Y.come k) c else iprop(emp))) from rfl,
    if_pos (Y.owe_zero k), land_come, show Y.net.tgt (Y.come k) = Y.peer k from Y.tgt_come k]

theorem open_start (c : Dev 8) : Y.net.start Y.stay Y.land c ⊢ iprop(∃ K, Y.net.records K ∗ Y.rest c ∗ bigSep Finset.univ fun k => Y.task k c) := by
  unfold Net.start stay
  iintro ⟨⟨%K, HR⟩, ⟨Hs, Hr⟩, H⟩
  iexists K
  isplitl [HR]; · iexact HR
  isplitl [Hr]; · iexact Hr
  ihave H := (show (bigSep Finset.univ fun i : Fin Y.net.n => iprop(Y.land (Y.net.tgt i c) i ∗ Y.net.rights c i)) ⊢ _ from
    (Entails.of_eq (Y.halves _)).trans (BI.sep_mono (bigSep_mono fun k _ => Y.rights_go k c) (bigSep_mono fun k _ => Y.rights_come k c))) $$ H
  ihave H := (show iprop((bigSep Finset.univ fun k : Fin Y.n => Y.sent k c) ∗ (bigSep Finset.univ fun k : Fin Y.n => iprop(Y.turn (Y.go k) c ∗ Y.tok (Y.go k) c))
      ∗ bigSep Finset.univ fun k : Fin Y.n => iprop(Y.free k (Y.peer k c) ∗ Y.turn (Y.come k) c ∗ Y.tok (Y.come k) c ∗ Y.cr (Y.come k) c))
      ⊢ bigSep Finset.univ fun k => Y.task k c by
    rw [← bigSep_sep', ← bigSep_sep']
    refine bigSep_mono fun k _ => ?_
    unfold task
    show iprop(Y.sent k c ∗ (Y.turn (Y.go k) c ∗ Y.tok (Y.go k) c) ∗ Y.free k (Y.peer k c) ∗ Y.turn (Y.come k) c ∗ Y.tok (Y.come k) c ∗ Y.cr (Y.come k) c) ⊢ _
    iintro ⟨H1, ⟨H2, H3⟩, H4, H5⟩
    isplitl [H1]; · iexact H1
    isplitl [H4]; · iexact H4
    isplitl [H2]; · iexact H2
    isplitl [H3]; · iexact H3
    iexact H5) $$ [Hs H]
  · isplitl [Hs] <;> iassumption
  iexact H

section Steps

variable {Λ : Labels} (defs : Defs 8 τ sig Val Λ) (𝒱 : Variants) (K : Dev 8 × Fin (Y.n + Y.n) → ℕ) (c : Dev 8)

/-- A wait, when all is sent. -/
theorem wait_step (i : Fin (Y.n + Y.n)) (m : ℕ) (hm : m = Y.n) (R : sProp 𝕄) (hR : Y.pay c i = R) {sm : SemLoc sig} (hsm : sm = Y.sem i)
    {w : TpuEff 8 τ sig Val Λ .tc PUnit} {N : ℕ}
    (hw : ∀ Kt : PUnit → sProp 𝕄, wpE defs 𝒱 (c.tc : Thread 8 τ) none Set.univ w Kt = waitSpec (c.tc : Thread 8 τ) Set.univ sm N Kt) (hN : N = Y.net.N)
    {α : Type} {Q : α → sProp 𝕄} {kont : PUnit → Prog (TpuEff 8 τ sig Val Λ .tc) α} :
    iprop(Y.net.records K ∗ Y.cr i c ∗ Y.debt c m ∗ Y.turn i c)
      ⊢ iprop(((R ∗ Y.shut i c ∗ Y.debt c m) -∗ wp frame (wpE defs 𝒱 (c.tc : Thread 8 τ) none) Set.univ (kont ⟨⟩) Q)
          -∗ wp frame (wpE defs 𝒱 (c.tc : Thread 8 τ) none) Set.univ (.op w kont) Q) := by
  subst hR hm
  exact Y.net.wait_shot defs 𝒱 K c i hsm (Y.owe Y.n) (fun k' h => absurd h (by rw [Y.owe_last]; exact Finset.notMem_empty _)) hw hN

variable {off : Fin 3 → ℕ} {inb : ∀ a, off a + (Stk 1 Y.r Y.w).size a ≤ (Stk Y.n Y.r Y.w).size a} {hr} {hq : (Stk 1 Y.r Y.w).Squeezes (Blk Y.r Y.w)}
  {off' : Fin 3 → ℕ} {inb' : ∀ a, off' a + (Stk 1 Y.r Y.w).size a ≤ (Stk Y.s Y.r Y.w).size a} {hr'} {hq' : (Stk 1 Y.r Y.w).Squeezes (Blk Y.r Y.w)}

/-- The `k`-th place sent. -/
theorem send_step (k : Fin Y.n) (m : ℕ) (hm : m = k.val) (h : off = ![k.val, 0, 0]) (h' : off' = ![(Y.pick k c).val, 0, 0]) (d : Dev 8) (hd : d = Y.peer k c)
    {sS sem : SemLoc sig} (hsS : sS = Y.sem (Y.go k)) (hsR : sem = Y.sem (Y.come k)) (hN : (rowAt Y.B off inb hr hq).view.amount sem = Y.net.N)
    {hsc : (rowAt Y.B off inb hr hq).view.ref.isScScratch = false}
    {hsrc : (rowAt Y.A off' inb' hr' hq').view.WordExact} {hdst : (rowAt Y.B off inb hr hq).view.WordExact}
    {hsem : DmaTarget.Typed .hbm sem (.remote (Dev.tc d : Thread 8 τ) (rowAt Y.B off inb hr hq) sS hsc)}
    {α : Type} {Q : α → sProp 𝕄} {kont : PUnit → Prog (TpuEff 8 τ sig Val Λ .tc) α} :
    iprop(Y.net.records K ∗ Y.sent k c ∗ Y.free k (Y.peer k c) ∗ Y.debt c m ∗ Y.tok (Y.go k) c ∗ Y.tok (Y.come k) c)
      ⊢ iprop(((Y.cr (Y.go k) c ∗ Y.debt c (m + 1)) -∗ wp frame (wpE defs 𝒱 (c.tc : Thread 8 τ) none) Set.univ (kont ⟨⟩) Q)
          -∗ wp frame (wpE defs 𝒱 (c.tc : Thread 8 τ) none) Set.univ
            (.op (.enqueueDma (rowAt Y.A off' inb' hr' hq') (.remote (Dev.tc d : Thread 8 τ) (rowAt Y.B off inb hr hq) sS hsc) sem hsrc hdst hsem) kont) Q) := by
  subst hd hm
  have hs := row_pts (Val := Val) (c := (c.tc : Thread 8 τ)) (Ix := Unit) (Name := ℕ) (U := UU 8 τ sig) (Lvl := ℕ) Y.A (Y.pick k c) h' inb' hr' hq' fullShare (Y.a c)
  have hp := row_pts (Val := Val) (c := (Dev.tc (Y.peer k c) : Thread 8 τ)) (Ix := Unit) (Name := ℕ) (U := UU 8 τ sig) (Lvl := ℕ) Y.B k h inb hr hq fullShare (Y.b (Y.peer k c))
  have hl := row_landed (c := (Dev.tc (Y.peer k c) : Thread 8 τ)) (Ix := Unit) (Name := ℕ) (U := UU 8 τ sig) (Lvl := ℕ) Y.B k h inb hr hq fullShare (Y.b (Y.peer k c))
    (Y.G (Y.peer k c)) ((rowAt Y.A off' inb' hr' hq').view.read Val (Y.a c)) (fun x => by rw [Y.given, Y.peer_peer, row_read Y.A (Y.pick k c) h'])
  have key := Y.net.send_shot defs 𝒱 K c (Y.go k) (Y.come k) (Y.peer k c) (by rw [show Y.net.tgt (Y.come k) = Y.peer k from Y.tgt_come k]) (Y.tgt_go k)
    (src := rowAt Y.A off' inb' hr' hq') (dst := rowAt Y.B off inb hr hq) hsS hsR
    (hsc := hsc) (hsrc := hsrc) (hdst := hdst) (hsem := hsem) (q := fullShare) (fs := Y.a c) (fd := Y.b (Y.peer k c)) hN (Y.owe k.val) (Y.owe (k.val + 1)) (Y.owe_mem k) (Y.owe_erase k)
    ((Entails.of_eq hs).trans (Entails.of_eq (Y.pay_go k c).symm)) ((Entails.of_eq hl).trans (Entails.of_eq (Y.pay_come k _).symm)) (Y.routes _ _) (Q := Q) (kont := kont)
  rw [hs, hp] at key
  exact key

end Steps

/-- Every exchange over: what a device leaves with. -/
theorem close_up (c : Dev 8) (m : ℕ) (hm : m = Y.n) : iprop(Y.rest c ∗ (bigSep Finset.univ fun k => Y.over k c) ∗ Y.debt c m)
    ⊢ iprop(Y.done c ∗ (bigSep Finset.univ fun i => semVal (Y.net.cell c i) 0) ∗ Y.net.debt c ∅) := by
  subst hm
  have hz : (bigSep Finset.univ fun i : Fin Y.net.n => (semVal (Y.net.cell c i) 0 : sProp 𝕄)) = _ := Y.halves _
  rw [hz]
  unfold done over debt
  rw [Y.owe_last, Y.source, rows_split (c := (c.tc : Thread 8 τ)) Y.B Y.hB fullShare (Y.G c), bigSep_sep', bigSep_sep', bigSep_sep']
  unfold stay shut got
  iintro ⟨Hr, ⟨H1, H2, H3, H4⟩, HD⟩
  isplitl [Hr H1 H2]
  · isplitl [Hr H1]
    · isplitl [H1] <;> iassumption
    iexact H2
  isplitl [H3 H4]
  · isplitl [H3] <;> iassumption
  iexact HD

/-- What a device leaves with says what its two buffers hold. -/
theorem done_read (c : Dev 8) (s : Phys 8 τ sig Val) : iprop(Y.done c ∗ SI s)
    ⊢ |={Set.univ}=> iprop(⌜s.mem.mem (Y.B.view.loc (c.tc : Thread 8 τ)) = Y.G c ∧ s.mem.mem (Y.A.view.loc (c.tc : Thread 8 τ)) = Y.a c⌝ ∗ (SI s : sProp 𝕄)) := by
  unfold done
  exact both_read _ _ _ _ s

end Scattering

end Cert.Exchange

end
-- ==== Proof.SiblingRun.lean ====
/-
The exchange of the two cores of each chip: what a device's stack holds at the end, the body of one device over the scattering
exchange, and the run of all eight.
-/
module

public import proofs.«01_k».proof.Proof.ScatterNet
public import proofs.«01_k».proof.Proof.GatherNet
public import proofs.«01_k».proof.Proof.Gen.SiblingIdeal.Skeleton
public import proofs.«01_k».proof.Proof.Gen.SiblingIdeal.Launch
public import Idealize.ShloMosaic.Lib.Quiescent

@[expose] public section

noncomputable section

namespace Cert.SiblingIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Exchange.Scattering Cert.SiblingIdeal.Gen

variable {F : FTy → Type} [FloatOps F]

/-- The place that core `c` sends at its `k`-th exchange: of each pair, the other core's. -/
def pick (k : Fin 4) (c : Dev 8) : Fin 8 := ⟨2 * k.val + 1 - c.val % 2, by have := k.isLt; omega⟩

/-- What the stack of device `c` ends with: at place `k` the place that the other core of its chip picks for it. -/
def received (m : (ℓ : Loc nD τ sig) → Buf (Elt F) ℓ) (c : Dev 8) : S4x16864x1024.Idx → Elt F .bf16 := fun i =>
  m ((Dev.tc (across 1 c) : Thread nD τ).loc main_arg0) (at3 (pick (i 0 : Fin 4) (across 1 c)) (under i))

variable (m : (ℓ : Loc nD τ sig) → Buf (Elt F) ℓ)

/-- This exchange: the halves of the stacks, scattered. -/
def exch : Scattering τ sig (Elt F) where
  n := 4
  s := 8
  r := 16864
  w := 1024
  e := .bf16
  A := Memref.whole main_arg0
  B := Memref.whole main_v1
  hA := Memref.isWhole_whole _
  hB := Memref.isWhole_whole _
  sem k := .dma k
  inj a b h := by injection h
  peer _ := across 1
  peer_peer _ c := across_across 1 c
  pick := pick
  pick_inj := by decide +kernel
  a c := m ((c.tc : Thread nD τ).loc main_arg0)
  b c := m ((c.tc : Thread nD τ).loc main_v1)
  G c := received m c
  given c k x := congrArg (fun y => m ((Dev.tc (across 1 c) : Thread nD τ).loc main_arg0) (at3 (pick k (across 1 c)) y)) (under_at3 k x)
  pos := by decide +kernel
  routes c d := by revert c d; decide

theorem off1 : ∀ (c : Dev nD) (k : Fin 4), k0_off1 c (BitVec.ofNat 32 (2 * k.val + 1)) = ![(pick k c).val, 0, 0] := by decide +kernel
theorem dev1 : ∀ c : Dev nD, (⟨k0_dev1 c, k0_dev1_lt c⟩ : Dev nD) = across 1 c := by decide +kernel
theorem dev2 : ∀ c : Dev nD, (⟨k0_dev2 c, k0_dev2_lt c⟩ : Dev nD) = across 1 c := by decide +kernel
theorem dev3 : ∀ c : Dev nD, (⟨k0_dev3 c, k0_dev3_lt c⟩ : Dev nD) = across 1 c := by decide +kernel
theorem dev4 : ∀ c : Dev nD, (⟨k0_dev4 c, k0_dev4_lt c⟩ : Dev nD) = across 1 c := by decide +kernel

theorem all4 (Φ : Fin (exch m).n → sProp (MT 8 τ sig Unit (Elt F) ℕ (UU 8 τ sig) ℕ)) :
    bigSep Finset.univ Φ = iprop(Φ (0 : Fin 4) ∗ Φ (1 : Fin 4) ∗ Φ (2 : Fin 4) ∗ Φ (3 : Fin 4)) :=
  bigSep_univ_eq_bigSepL (I := Fin 4) [0, 1, 2, 3] (by decide) (by decide) Φ

/-- The body of device `c`: from its stack and the places it may write to all its places received. -/
theorem body (𝒱 : Variants) (c : Dev nD) : iprop((exch m).net.start (exch m).stay (exch m).land c ∗ (exch m).net.debt c (exch m).net.owed)
    ⊢ wp frame (wpE (defs₀ (F := F)) 𝒱 (c.tc : Thread nD τ) none) Set.univ
        (cc0_rs_sibling (Memref.whole main_arg0) (Memref.isWhole_whole _) (Memref.whole main_v1) (Memref.isWhole_whole _) cc0_scratch0 cc0_scratch1)
        fun _ => iprop((exch m).done c ∗ (bigSep Finset.univ fun k => semVal ((exch m).net.cell c k) 0) ∗ (exch m).net.debt c ∅) := by
  simp only [cc0_rs_sibling_eq_skeleton]
  unfold cc0_rs_sibling_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  iintro ⟨H, HD⟩
  ihave H := ((exch m).open_start c) $$ H
  icases H with ⟨%K, #HR, HX, H⟩
  ihave H := (Entails.of_eq (all4 m fun k => (exch m).task k c)) $$ H
  unfold task
  icases H with ⟨⟨A0, L0, T0, K0, V0, Q0, C0⟩, ⟨A1, L1, T1, K1, V1, Q1, C1⟩, ⟨A2, L2, T2, K2, V2, Q2, C2⟩, ⟨A3, L3, T3, K3, V3, Q3, C3⟩⟩
  ihave HD := (show (exch m).net.debt c (exch m).net.owed ⊢ (exch m).debt c 0 from BIBase.Entails.rfl) $$ HD
  iapply ((exch m).send_step (defs₀ (F := F)) 𝒱 K c (0 : Fin 4) 0 rfl rfl (show k0_off1 c 1#32 = ![(pick 0 c).val, 0, 0] from off1 c 0) _ (dev1 c) rfl rfl rfl) $$ [A0 L0 HD K0 Q0]
  · isplitr; · iexact HR
    isplitl [A0]; · iexact A0
    isplitl [L0]; · iexact L0
    isplitl [HD]; · iexact HD
    isplitl [K0] <;> iassumption
  iintro ⟨D0, HD⟩
  iapply ((exch m).send_step (defs₀ (F := F)) 𝒱 K c (1 : Fin 4) 1 rfl rfl (show k0_off1 c 3#32 = ![(pick 1 c).val, 0, 0] from off1 c 1) _ (dev2 c) rfl rfl rfl) $$ [A1 L1 HD K1 Q1]
  · isplitr; · iexact HR
    isplitl [A1]; · iexact A1
    isplitl [L1]; · iexact L1
    isplitl [HD]; · iexact HD
    isplitl [K1] <;> iassumption
  iintro ⟨D1, HD⟩
  iapply ((exch m).send_step (defs₀ (F := F)) 𝒱 K c (2 : Fin 4) 2 rfl rfl (show k0_off1 c 5#32 = ![(pick 2 c).val, 0, 0] from off1 c 2) _ (dev3 c) rfl rfl rfl) $$ [A2 L2 HD K2 Q2]
  · isplitr; · iexact HR
    isplitl [A2]; · iexact A2
    isplitl [L2]; · iexact L2
    isplitl [HD]; · iexact HD
    isplitl [K2] <;> iassumption
  iintro ⟨D2, HD⟩
  iapply ((exch m).send_step (defs₀ (F := F)) 𝒱 K c (3 : Fin 4) 3 rfl rfl (show k0_off1 c 7#32 = ![(pick 3 c).val, 0, 0] from off1 c 3) _ (dev4 c) rfl rfl rfl) $$ [A3 L3 HD K3 Q3]
  · isplitr; · iexact HR
    isplitl [A3]; · iexact A3
    isplitl [L3]; · iexact L3
    isplitl [HD]; · iexact HD
    isplitl [K3] <;> iassumption
  iintro ⟨D3, HD⟩
  iapply ((exch m).wait_step (defs₀ (F := F)) 𝒱 K c ((exch m).come (0 : Fin 4)) 4 rfl _ ((exch m).pay_come _ c) rfl (fun _ => rfl) rfl) $$ [C0 HD V0]
  · isplitr; · iexact HR
    isplitl [C0]; · iexact C0
    isplitl [HD] <;> iassumption
  iintro ⟨G0, Y0, HD⟩
  iapply ((exch m).wait_step (defs₀ (F := F)) 𝒱 K c ((exch m).come (1 : Fin 4)) 4 rfl _ ((exch m).pay_come _ c) rfl (fun _ => rfl) rfl) $$ [C1 HD V1]
  · isplitr; · iexact HR
    isplitl [C1]; · iexact C1
    isplitl [HD] <;> iassumption
  iintro ⟨G1, Y1, HD⟩
  iapply ((exch m).wait_step (defs₀ (F := F)) 𝒱 K c ((exch m).come (2 : Fin 4)) 4 rfl _ ((exch m).pay_come _ c) rfl (fun _ => rfl) rfl) $$ [C2 HD V2]
  · isplitr; · iexact HR
    isplitl [C2]; · iexact C2
    isplitl [HD] <;> iassumption
  iintro ⟨G2, Y2, HD⟩
  iapply ((exch m).wait_step (defs₀ (F := F)) 𝒱 K c ((exch m).come (3 : Fin 4)) 4 rfl _ ((exch m).pay_come _ c) rfl (fun _ => rfl) rfl) $$ [C3 HD V3]
  · isplitr; · iexact HR
    isplitl [C3]; · iexact C3
    isplitl [HD] <;> iassumption
  iintro ⟨G3, Y3, HD⟩
  iapply ((exch m).wait_step (defs₀ (F := F)) 𝒱 K c ((exch m).go (0 : Fin 4)) 4 rfl _ ((exch m).pay_go _ c) rfl (fun _ => rfl) rfl) $$ [D0 HD T0]
  · isplitr; · iexact HR
    isplitl [D0]; · iexact D0
    isplitl [HD] <;> iassumption
  iintro ⟨A0, Z0, HD⟩
  iapply ((exch m).wait_step (defs₀ (F := F)) 𝒱 K c ((exch m).go (1 : Fin 4)) 4 rfl _ ((exch m).pay_go _ c) rfl (fun _ => rfl) rfl) $$ [D1 HD T1]
  · isplitr; · iexact HR
    isplitl [D1]; · iexact D1
    isplitl [HD] <;> iassumption
  iintro ⟨A1, Z1, HD⟩
  iapply ((exch m).wait_step (defs₀ (F := F)) 𝒱 K c ((exch m).go (2 : Fin 4)) 4 rfl _ ((exch m).pay_go _ c) rfl (fun _ => rfl) rfl) $$ [D2 HD T2]
  · isplitr; · iexact HR
    isplitl [D2]; · iexact D2
    isplitl [HD] <;> iassumption
  iintro ⟨A2, Z2, HD⟩
  iapply ((exch m).wait_step (defs₀ (F := F)) 𝒱 K c ((exch m).go (3 : Fin 4)) 4 rfl _ ((exch m).pay_go _ c) rfl (fun _ => rfl) rfl) $$ [D3 HD T3]
  · isplitr; · iexact HR
    isplitl [D3]; · iexact D3
    isplitl [HD] <;> iassumption
  iintro ⟨A3, Z3, HD⟩
  rw [wp_ret]
  imodintro
  iapply ((exch m).close_up c 4 rfl)
  isplitl [HX]; · iexact HX
  isplitr [HD]
  · iapply (Entails.of_eq (all4 m fun k => (exch m).over k c).symm)
    unfold over
    isplitl [A0 G0 Z0 Y0]
    · isplitl [A0]; · iexact A0
      isplitl [G0]; · iexact G0
      isplitl [Z0] <;> iassumption
    isplitl [A1 G1 Z1 Y1]
    · isplitl [A1]; · iexact A1
      isplitl [G1]; · iexact G1
      isplitl [Z1] <;> iassumption
    isplitl [A2 G2 Z2 Y2]
    · isplitl [A2]; · iexact A2
      isplitl [G2]; · iexact G2
      isplitl [Z2] <;> iassumption
    isplitl [A3]; · iexact A3
    isplitl [G3]; · iexact G3
    isplitl [Z3] <;> iassumption
  iexact HD

/-- What the run of all devices ends with: every stack received, every stack of addends as it was. -/
theorem run_all (g : Dev nD → PrngReg) : θ_run (defs (F := F)) (onTc (τ := τ) (main (F := F))) ⟨m, fun _ => 0, g⟩
    (fun r => (∀ c : Dev nD, r.2.mem ((c.tc : Thread nD τ).loc main_v1) = received m c ∧ r.2.mem ((c.tc : Thread nD τ).loc main_arg0) = m ((c.tc : Thread nD τ).loc main_arg0))
      ∧ r.2.sem = fun _ => 0) := by
  haveI (e : EltTy) : Nonempty (Elt F e) := inferInstance
  refine (exch m).net.run cfgs cellOf_inj winFacts0.to₀ ?_ defs₀ Variants.none ⟨fun w => w.elim0⟩ N_0 (fun c => scopedRest0_eq c) m g main (fun c => rfl)
    (exch m).stay (exch m).land (exch m).done (fun c => ?_) (fun c t => ?_)
    (fun c s => s.mem ((c.tc : Thread nD τ).loc main_v1) = received m c ∧ s.mem ((c.tc : Thread nD τ).loc main_arg0) = m ((c.tc : Thread nD τ).loc main_arg0)) (fun c s' => ?_) (fun s hs => sem_eq_zero_of_scoped (by decide) hs)
  · exact (by decide : Pipeline.OwnSemFacts cfg0.spec fun k : Fin 8 => (SemLoc.dma k : SemLoc sig))
  · refine BIBase.Entails.trans ?_ ((exch m).cut_up c)
    exact (Entails.of_eq (Pipeline.unscopedBufs_split₀ cfgs 0 (fun w => w.elim0) c _)).trans (sep_elim_right.trans (Entails.of_eq (unscopedRest0_eq c _)))
  · exact body m Variants.none c
  · exact (exch m).done_read c s'

/-- Every run ends with the argument as it was and the counters at zero. -/
theorem quiet (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c).2, h.2⟩) (run_all m g)

end Cert.SiblingIdeal

end
-- ==== Proof.Places.lean ====
/-
Stacks of 16864 × 1024 blocks read place by place: reshapes of a stack that spread the places over several axes and flatten
the block, and the cutting of a stack of places among devices.
-/
module

public import proofs.«01_k».proof.Proof.Rows
public import Idealize.ShloMosaic.Lib.Pipeline.ValueKit.Tiles
public import Idealize.ShloMosaic.Lib.Pointwise.Index

@[expose] public section

noncomputable section

namespace Cert.Exchange

open Idealize.ShloMosaic

variable {α : Type} {n N D : ℕ}

/-- A block's index as one number. -/
def lane (x : (Blk 16864 1024).Idx) : Fin 17268736 :=
  ⟨(x 0).val * 1024 + (x 1).val, by
    have h0 : (x 0).val < 16864 := (x 0).isLt
    have h1 : (x 1).val < 1024 := (x 1).isLt
    omega⟩

theorem at3_position (q : Fin N) (x : (Blk 16864 1024).Idx) :
    ((Stk N 16864 1024).rowMajor (at3 q x)).val = q.val * 17268736 + (lane x).val := by
  rw [Shape.rowMajor_val_three]
  show (q.val * 16864 + (x 0).val) * 1024 + (x 1).val = q.val * 17268736 + ((x 0).val * 1024 + (x 1).val)
  omega

/-- A reshape of a stack, read where place `q` and index `x` of the block go. -/
theorem spread {s : Shape} (W : (Stk N 16864 1024).Idx → α) (h : (Stk N 16864 1024).ShapeCasts s) (j : s.Idx) (q : Fin N) (x : (Blk 16864 1024).Idx)
    (hj : (s.rowMajor j).val = q.val * 17268736 + (lane x).val) : shapeCast s W h j = W (at3 q x) :=
  shapeCast_apply W h _ _ ((at3_position q x).trans hj.symm)

/-- A reshape to a stack, read at place `q` and index `x` of the block. -/
theorem gathered {s : Shape} (V : s.Idx → α) (h : s.ShapeCasts (Stk N 16864 1024)) (j : s.Idx) (q : Fin N) (x : (Blk 16864 1024).Idx)
    (hj : (s.rowMajor j).val = q.val * 17268736 + (lane x).val) : shapeCast (Stk N 16864 1024) V h (at3 q x) = V j :=
  shapeCast_apply V h _ _ (hj.trans (at3_position q x).symm)

/-- Device `c`'s place `k` is place `c · n + k` of the whole stack. -/
theorem block_place {r w : ℕ} (W : (Stk N r w).Idx → α) (hT : Layout.Tiles (Stk n r w) (Stk N r w) 0 D) (c : Fin D) (k : Fin n) (x : (Blk r w).Idx)
    (q : Fin N) (hq : q.val = c.val * n + k.val) : Layout.block (Stk n r w) (Stk N r w) 0 D c W hT (at3 k x) = W (at3 q x) := by
  rw [Layout.block_apply]
  refine congrArg W (funext fun a => Fin.ext ?_)
  match a with
  | ⟨0, _⟩ => exact hq.symm
  | ⟨1, _⟩ => rfl
  | ⟨2, _⟩ => rfl

end Cert.Exchange

end
-- ==== Proof.SiblingValue.lean ====
/-
The exchange of the two cores of each chip against its reference: what a device's stack holds is its block of the reference's
result.
-/
module

public import proofs.«01_k».proof.Proof.SiblingRun
public import proofs.«01_k».proof.Proof.Places
public import proofs.«01_k».proof.Proof.Gen.SiblingRefIdeal.Run

@[expose] public section

noncomputable section

namespace Cert.SiblingIdeal

open Idealize.ShloMosaic Idealize.ShloMosaic.TcCoe Idealize.SL.Sem Cert.Exchange

section Reference

variable {α : Type}

/-- One half of the reference's stack — the places that core `p` holds for core `q` —, read at chip `a`, pair `k`. -/
theorem half (p q : Fin 2) (V : (⟨5, ![4, 2, 4, 2, 17268736]⟩ : Shape).Idx → α)
    (hs : (⟨5, ![4, 2, 4, 2, 17268736]⟩ : Shape).Slices ![0, p.val, 0, q.val, 0] ⟨5, ![4, 1, 4, 1, 17268736]⟩)
    (hc : (⟨5, ![4, 1, 4, 1, 17268736]⟩ : Shape).ShapeCasts ⟨3, ![4, 4, 17268736]⟩)
    (hb : (⟨3, ![4, 4, 17268736]⟩ : Shape).BroadcastsInDim ⟨4, ![4, 1, 4, 17268736]⟩ ![0, 2, 3])
    (a k : Fin 4) (z : Fin 17268736) (i : (⟨4, ![4, 1, 4, 17268736]⟩ : Shape).Idx)
    (h0 : (i 0).val = a.val) (h2 : (i 2).val = k.val) (h3 : (i 3).val = z.val) :
    broadcastInDim ⟨4, ![4, 1, 4, 17268736]⟩ ![0, 2, 3] hb (shapeCast ⟨3, ![4, 4, 17268736]⟩ (extractStridedSlice ⟨5, ![4, 1, 4, 1, 17268736]⟩ ![0, p.val, 0, q.val, 0] V hs) hc) i
      = V (ix5 a p k q z) := by
  refine (broadcastInDim_apply _ hb _ i (ix3 a k z) fun b => ?_).trans ?_
  · match b with
    | ⟨0, _⟩ => exact h0.symm
    | ⟨1, _⟩ => exact h2.symm
    | ⟨2, _⟩ => exact h3.symm
  refine (shapeCast_apply _ hc (ix3 a k z) (ix5 a 0 k 0 z) ?_).trans ?_
  · rw [Shape.rowMajor_val_five, Shape.rowMajor_val_three]
    show (((a.val * 1 + 0) * 4 + k.val) * 1 + 0) * 17268736 + z.val = (a.val * 4 + k.val) * 17268736 + z.val
    omega
  refine extractStridedSlice_apply _ V hs _ _ fun b => ?_
  match b with
  | ⟨0, _⟩ => exact (Nat.zero_add _).symm
  | ⟨1, _⟩ => rfl
  | ⟨2, _⟩ => exact (Nat.zero_add _).symm
  | ⟨3, _⟩ => rfl
  | ⟨4, _⟩ => exact (Nat.zero_add _).symm

/-- The reference's stack at chip `a`, core `b`, pair `k`: the other core's place of that pair for this core. -/
theorem swapped (W : (Stk 64 16864 1024).Idx → α) (hW : (Stk 64 16864 1024).ShapeCasts ⟨5, ![4, 2, 4, 2, 17268736]⟩) (hs₀ hs₁ hc₀ hc₁ hb₀ hb₁)
    (hC : Shape.Concatenates [⟨4, ![4, 1, 4, 17268736]⟩, ⟨4, ![4, 1, 4, 17268736]⟩] ⟨4, ![4, 2, 4, 17268736]⟩ 1)
    (hR : (⟨4, ![4, 2, 4, 17268736]⟩ : Shape).ShapeCasts (Stk 32 16864 1024))
    (a : Fin 4) (b : Fin 2) (k : Fin 4) (x : (Blk 16864 1024).Idx) (q : Fin 32) (hq : q.val = (a.val * 2 + b.val) * 4 + k.val)
    (p : Fin 64) (hp : p.val = ((a.val * 2 + (1 - b.val)) * 4 + k.val) * 2 + b.val) :
    shapeCast (Stk 32 16864 1024) (concatenate ⟨4, ![4, 2, 4, 17268736]⟩ 1
        [⟨⟨4, ![4, 1, 4, 17268736]⟩, broadcastInDim ⟨4, ![4, 1, 4, 17268736]⟩ ![0, 2, 3] hb₀ (shapeCast ⟨3, ![4, 4, 17268736]⟩
            (extractStridedSlice ⟨5, ![4, 1, 4, 1, 17268736]⟩ ![0, 1, 0, 0, 0] (shapeCast ⟨5, ![4, 2, 4, 2, 17268736]⟩ W hW) hs₀) hc₀)⟩,
          ⟨⟨4, ![4, 1, 4, 17268736]⟩, broadcastInDim ⟨4, ![4, 1, 4, 17268736]⟩ ![0, 2, 3] hb₁ (shapeCast ⟨3, ![4, 4, 17268736]⟩
            (extractStridedSlice ⟨5, ![4, 1, 4, 1, 17268736]⟩ ![0, 0, 0, 1, 0] (shapeCast ⟨5, ![4, 2, 4, 2, 17268736]⟩ W hW) hs₁) hc₁)⟩] hC) hR (at3 q x)
      = W (at3 p x) := by
  have hV : ∀ (b' b : Fin 2) (_ : b'.val = 1 - b.val) (_ : p.val = ((a.val * 2 + (1 - b.val)) * 4 + k.val) * 2 + b.val),
      shapeCast ⟨5, ![4, 2, 4, 2, 17268736]⟩ W hW (ix5 a b' k b (lane x)) = W (at3 p x) := fun b' b hb' hp => by
    refine spread W hW _ p x ?_
    rw [Shape.rowMajor_val_five]
    show (((a.val * 2 + b'.val) * 4 + k.val) * 2 + b.val) * 17268736 + (lane x).val = _
    omega
  refine (gathered _ hR (ix4 a b k (lane x)) q x ?_).trans ?_
  · rw [Shape.rowMajor_val_four]
    show ((a.val * 2 + b.val) * 4 + k.val) * 17268736 + (lane x).val = _
    omega
  refine concatenate_unit_eq _ _ _ _ _ rfl ?_
  refine ⟨fun hj hr i hi ho => ?_, fun hj hr i hi ho => ?_, trivial⟩
  · have hb : b.val = 0 := hj
    exact (half 1 0 _ hs₀ hc₀ hb₀ a k (lane x) i (ho 0 (by decide)) (ho 2 (by decide)) (ho 3 (by decide))).trans (hV 1 0 rfl (by rw [hp, hb]; rfl))
  · have hb : b.val = 1 := hj
    exact (half 0 1 _ hs₁ hc₁ hb₁ a k (lane x) i (ho 0 (by decide)) (ho 2 (by decide)) (ho 3 (by decide))).trans (hV 0 1 rfl (by rw [hp, hb]; rfl))

end Reference

variable {F : FTy → Type} [FloatOps F]

/-- Which place of the whole stack device `c` receives at place `k`. -/
theorem received_place : ∀ (c : Dev 8) (k : Fin 4),
    (across 1 c).val * 8 + (pick k (across 1 c)).val = ((c.val / 2 * 2 + (1 - c.val % 2)) * 4 + k.val) * 2 + c.val % 2 := by decide

/-- The exchange and its reference, from the same stack, end with the same places. -/
theorem agrees (m : (ℓ : Loc nD τ sig) → Buf (Elt F) ℓ) (g : Dev nD → PrngReg)
    (m' : (ℓ : Loc Cert.SiblingRefIdeal.nD Cert.SiblingRefIdeal.τ Cert.SiblingRefIdeal.sig) → Buf (Elt F) ℓ) (g' : Dev Cert.SiblingRefIdeal.nD → PrngReg)
    (hT : Layout.Tiles ⟨3, ![8, 16864, 1024]⟩ ⟨3, ![64, 16864, 1024]⟩ 0 8) (hT' : Layout.Tiles ⟨3, ![4, 16864, 1024]⟩ ⟨3, ![32, 16864, 1024]⟩ 0 8)
    (hm : ∀ c : Dev nD, m ((c.tc : Thread nD τ).loc main_arg0) = Layout.block ⟨3, ![8, 16864, 1024]⟩ ⟨3, ![64, 16864, 1024]⟩ 0 8 c
      (m' (((0 : Dev Cert.SiblingRefIdeal.nD).tc : Thread Cert.SiblingRefIdeal.nD Cert.SiblingRefIdeal.τ).loc Cert.SiblingRefIdeal.main_arg0)) hT) :
    ∃ (v0 : Buf (Elt F) (((0 : Dev Cert.SiblingRefIdeal.nD).tc : Thread Cert.SiblingRefIdeal.nD Cert.SiblingRefIdeal.τ).loc Cert.SiblingRefIdeal.main_v8)),
      θ_run (defs (F := F)) (onTc (τ := τ) (main (F := F))) ⟨m, fun _ => 0, g⟩ (fun r => ∀ c : Dev nD,
          r.2.mem ((c.tc : Thread nD τ).loc main_v1) = Layout.block ⟨3, ![4, 16864, 1024]⟩ ⟨3, ![32, 16864, 1024]⟩ 0 8 c v0 hT'
          ∧ r.2.mem ((c.tc : Thread nD τ).loc main_arg0) = m ((c.tc : Thread nD τ).loc main_arg0))
      ∧ θ_run (Cert.SiblingRefIdeal.defs (F := F)) (onTc (τ := Cert.SiblingRefIdeal.τ) (Cert.SiblingRefIdeal.main (F := F))) ⟨m', fun _ => 0, g'⟩ (fun r =>
          r.2.mem (((0 : Dev Cert.SiblingRefIdeal.nD).tc : Thread Cert.SiblingRefIdeal.nD Cert.SiblingRefIdeal.τ).loc Cert.SiblingRefIdeal.main_v8) = v0
          ∧ r.2.mem (((0 : Dev Cert.SiblingRefIdeal.nD).tc : Thread Cert.SiblingRefIdeal.nD Cert.SiblingRefIdeal.τ).loc Cert.SiblingRefIdeal.main_arg0)
            = m' (((0 : Dev Cert.SiblingRefIdeal.nD).tc : Thread Cert.SiblingRefIdeal.nD Cert.SiblingRefIdeal.τ).loc Cert.SiblingRefIdeal.main_arg0)) := by
  refine ⟨_, (θ_run (defs (F := F)) _ _).mono (fun _ h c => ⟨(h.1 c).1.trans ?_, (h.1 c).2⟩) (run_all m g),
    (θ_run (Cert.SiblingRefIdeal.defs (F := F)) _ _).mono (fun _ h => h 0) (Cert.SiblingRefIdeal.Value.run m' g')⟩
  funext i
  obtain ⟨k, x, rfl⟩ := exists_at3 i
  have hc : c.val < 8 := c.isLt
  have hk : k.val < 4 := k.isLt
  have hp := received_place c k
  refine ((congrArg (fun y => m ((Dev.tc (across 1 c) : Thread nD τ).loc main_arg0) (at3 (pick k (across 1 c)) y)) (under_at3 k x)).trans
    ((congrFun (hm (across 1 c)) (at3 (pick k (across 1 c)) x)).trans
      (block_place _ hT (across 1 c) (pick k (across 1 c)) x ⟨((c.val / 2 * 2 + (1 - c.val % 2)) * 4 + k.val) * 2 + c.val % 2, by omega⟩ hp.symm))).trans ?_
  refine ((block_place _ hT' c k x ⟨c.val * 4 + k.val, by omega⟩ rfl).trans
    (swapped _ _ _ _ _ _ _ _ _ _ ⟨c.val / 2, by omega⟩ ⟨c.val % 2, by omega⟩ k x _ ?_ _ rfl)).symm
  show c.val * 4 + k.val = (c.val / 2 * 2 + c.val % 2) * 4 + k.val
  omega

end Cert.SiblingIdeal

end
-- ==== Proof.ChipsRun.lean ====
/-
The exchange of the four chips, core by core: what a device's stack holds at the end, the body of one device over the scattering
exchange, and the run of all eight.
-/
module

public import proofs.«01_k».proof.Proof.ScatterNet
public import proofs.«01_k».proof.Proof.GatherNet
public import proofs.«01_k».proof.Proof.Gen.ChipsIdeal.Skeleton
public import proofs.«01_k».proof.Proof.Gen.ChipsIdeal.Launch
public import Idealize.ShloMosaic.Lib.Quiescent

@[expose] public section

noncomputable section

namespace Cert.ChipsIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Exchange.Scattering Cert.ChipsIdeal.Gen

variable {F : FTy → Type} [FloatOps F]

/-- The numbers across which the three other chips lie. -/
def gap (k : Fin 3) : Fin 8 := ![4, 2, 6] k

/-- The place that a device sends at its `k`-th exchange: that of the chip it sends to. -/
def pick (k : Fin 3) (c : Dev 8) : Fin 4 := ⟨(across (gap k) c).val / 2, by have := (across (gap k) c).isLt; omega⟩

/-- What the stack of device `c` ends with: at place `k` the place that its `k`-th peer picks for it. -/
def received (m : (ℓ : Loc nD τ sig) → Buf (Elt F) ℓ) (c : Dev 8) : S3x16864x1024.Idx → Elt F .bf16 := fun i =>
  m ((Dev.tc (across (gap (i 0 : Fin 3)) c) : Thread nD τ).loc main_arg0) (at3 (pick (i 0 : Fin 3) (across (gap (i 0 : Fin 3)) c)) (under i))

variable (m : (ℓ : Loc nD τ sig) → Buf (Elt F) ℓ)

/-- This exchange: the chips' places, scattered. -/
def exch : Scattering τ sig (Elt F) where
  n := 3
  s := 4
  r := 16864
  w := 1024
  e := .bf16
  A := Memref.whole main_arg0
  B := Memref.whole main_v1
  hA := Memref.isWhole_whole _
  hB := Memref.isWhole_whole _
  sem k := .dma k
  inj a b h := by injection h
  peer k := across (gap k)
  peer_peer k c := across_across (gap k) c
  pick := pick
  pick_inj := by decide +kernel
  a c := m ((c.tc : Thread nD τ).loc main_arg0)
  b c := m ((c.tc : Thread nD τ).loc main_v1)
  G c := received m c
  given c k x := congrArg (fun y => m ((Dev.tc (across (gap k) c) : Thread nD τ).loc main_arg0) (at3 (pick k (across (gap k) c)) y)) (under_at3 k x)
  pos := by decide +kernel
  routes c d := by revert c d; decide

theorem off1 : ∀ c : Dev nD, k0_off1 c = ![(pick 0 c).val, 0, 0] := by decide +kernel
theorem off2 : ∀ c : Dev nD, k0_off2 c = ![(pick 1 c).val, 0, 0] := by decide +kernel
theorem off3 : ∀ c : Dev nD, k0_off3 c = ![(pick 2 c).val, 0, 0] := by decide +kernel
theorem dev1 : ∀ c : Dev nD, (⟨k0_dev1 c, k0_dev1_lt c⟩ : Dev nD) = across (gap 0) c := by decide +kernel
theorem dev2 : ∀ c : Dev nD, (⟨k0_dev2 c, k0_dev2_lt c⟩ : Dev nD) = across (gap 1) c := by decide +kernel
theorem dev3 : ∀ c : Dev nD, (⟨k0_dev3 c, k0_dev3_lt c⟩ : Dev nD) = across (gap 2) c := by decide +kernel

theorem all3 (Φ : Fin (exch m).n → sProp (MT 8 τ sig Unit (Elt F) ℕ (UU 8 τ sig) ℕ)) :
    bigSep Finset.univ Φ = iprop(Φ (0 : Fin 3) ∗ Φ (1 : Fin 3) ∗ Φ (2 : Fin 3)) :=
  bigSep_univ_eq_bigSepL (I := Fin 3) [0, 1, 2] (by decide) (by decide) Φ

/-- The body of device `c`: from its stack and the places it may write to all its places received. -/
theorem body (𝒱 : Variants) (c : Dev nD) : iprop((exch m).net.start (exch m).stay (exch m).land c ∗ (exch m).net.debt c (exch m).net.owed)
    ⊢ wp frame (wpE (defs₀ (F := F)) 𝒱 (c.tc : Thread nD τ) none) Set.univ
        (cc0_rs_chips (Memref.whole main_arg0) (Memref.isWhole_whole _) (Memref.whole main_v1) (Memref.isWhole_whole _) cc0_scratch0 cc0_scratch1)
        fun _ => iprop((exch m).done c ∗ (bigSep Finset.univ fun k => semVal ((exch m).net.cell c k) 0) ∗ (exch m).net.debt c ∅) := by
  simp only [cc0_rs_chips_eq_skeleton]
  unfold cc0_rs_chips_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  iintro ⟨H, HD⟩
  ihave H := ((exch m).open_start c) $$ H
  icases H with ⟨%K, #HR, HX, H⟩
  ihave H := (Entails.of_eq (all3 m fun k => (exch m).task k c)) $$ H
  unfold task
  icases H with ⟨⟨A0, L0, T0, K0, V0, Q0, C0⟩, ⟨A1, L1, T1, K1, V1, Q1, C1⟩, ⟨A2, L2, T2, K2, V2, Q2, C2⟩⟩
  ihave HD := (show (exch m).net.debt c (exch m).net.owed ⊢ (exch m).debt c 0 from BIBase.Entails.rfl) $$ HD
  iapply ((exch m).send_step (defs₀ (F := F)) 𝒱 K c (0 : Fin 3) 0 rfl rfl (off1 c) _ (dev1 c) rfl rfl rfl) $$ [A0 L0 HD K0 Q0]
  · isplitr; · iexact HR
    isplitl [A0]; · iexact A0
    isplitl [L0]; · iexact L0
    isplitl [HD]; · iexact HD
    isplitl [K0] <;> iassumption
  iintro ⟨D0, HD⟩
  iapply ((exch m).send_step (defs₀ (F := F)) 𝒱 K c (1 : Fin 3) 1 rfl rfl (off2 c) _ (dev2 c) rfl rfl rfl) $$ [A1 L1 HD K1 Q1]
  · isplitr; · iexact HR
    isplitl [A1]; · iexact A1
    isplitl [L1]; · iexact L1
    isplitl [HD]; · iexact HD
    isplitl [K1] <;> iassumption
  iintro ⟨D1, HD⟩
  iapply ((exch m).send_step (defs₀ (F := F)) 𝒱 K c (2 : Fin 3) 2 rfl rfl (off3 c) _ (dev3 c) rfl rfl rfl) $$ [A2 L2 HD K2 Q2]
  · isplitr; · iexact HR
    isplitl [A2]; · iexact A2
    isplitl [L2]; · iexact L2
    isplitl [HD]; · iexact HD
    isplitl [K2] <;> iassumption
  iintro ⟨D2, HD⟩
  iapply ((exch m).wait_step (defs₀ (F := F)) 𝒱 K c ((exch m).come (0 : Fin 3)) 3 rfl _ ((exch m).pay_come _ c) rfl (fun _ => rfl) rfl) $$ [C0 HD V0]
  · isplitr; · iexact HR
    isplitl [C0]; · iexact C0
    isplitl [HD] <;> iassumption
  iintro ⟨G0, Y0, HD⟩
  iapply ((exch m).wait_step (defs₀ (F := F)) 𝒱 K c ((exch m).come (1 : Fin 3)) 3 rfl _ ((exch m).pay_come _ c) rfl (fun _ => rfl) rfl) $$ [C1 HD V1]
  · isplitr; · iexact HR
    isplitl [C1]; · iexact C1
    isplitl [HD] <;> iassumption
  iintro ⟨G1, Y1, HD⟩
  iapply ((exch m).wait_step (defs₀ (F := F)) 𝒱 K c ((exch m).come (2 : Fin 3)) 3 rfl _ ((exch m).pay_come _ c) rfl (fun _ => rfl) rfl) $$ [C2 HD V2]
  · isplitr; · iexact HR
    isplitl [C2]; · iexact C2
    isplitl [HD] <;> iassumption
  iintro ⟨G2, Y2, HD⟩
  iapply ((exch m).wait_step (defs₀ (F := F)) 𝒱 K c ((exch m).go (0 : Fin 3)) 3 rfl _ ((exch m).pay_go _ c) rfl (fun _ => rfl) rfl) $$ [D0 HD T0]
  · isplitr; · iexact HR
    isplitl [D0]; · iexact D0
    isplitl [HD] <;> iassumption
  iintro ⟨A0, Z0, HD⟩
  iapply ((exch m).wait_step (defs₀ (F := F)) 𝒱 K c ((exch m).go (1 : Fin 3)) 3 rfl _ ((exch m).pay_go _ c) rfl (fun _ => rfl) rfl) $$ [D1 HD T1]
  · isplitr; · iexact HR
    isplitl [D1]; · iexact D1
    isplitl [HD] <;> iassumption
  iintro ⟨A1, Z1, HD⟩
  iapply ((exch m).wait_step (defs₀ (F := F)) 𝒱 K c ((exch m).go (2 : Fin 3)) 3 rfl _ ((exch m).pay_go _ c) rfl (fun _ => rfl) rfl) $$ [D2 HD T2]
  · isplitr; · iexact HR
    isplitl [D2]; · iexact D2
    isplitl [HD] <;> iassumption
  iintro ⟨A2, Z2, HD⟩
  rw [wp_ret]
  imodintro
  iapply ((exch m).close_up c 3 rfl)
  isplitl [HX]; · iexact HX
  isplitr [HD]
  · iapply (Entails.of_eq (all3 m fun k => (exch m).over k c).symm)
    unfold over
    isplitl [A0 G0 Z0 Y0]
    · isplitl [A0]; · iexact A0
      isplitl [G0]; · iexact G0
      isplitl [Z0] <;> iassumption
    isplitl [A1 G1 Z1 Y1]
    · isplitl [A1]; · iexact A1
      isplitl [G1]; · iexact G1
      isplitl [Z1] <;> iassumption
    isplitl [A2]; · iexact A2
    isplitl [G2]; · iexact G2
    isplitl [Z2] <;> iassumption
  iexact HD

/-- What the run of all devices ends with: every stack received, every stack of addends as it was. -/
theorem run_all (g : Dev nD → PrngReg) : θ_run (defs (F := F)) (onTc (τ := τ) (main (F := F))) ⟨m, fun _ => 0, g⟩
    (fun r => (∀ c : Dev nD, r.2.mem ((c.tc : Thread nD τ).loc main_v1) = received m c ∧ r.2.mem ((c.tc : Thread nD τ).loc main_arg0) = m ((c.tc : Thread nD τ).loc main_arg0))
      ∧ r.2.sem = fun _ => 0) := by
  haveI (e : EltTy) : Nonempty (Elt F e) := inferInstance
  refine (exch m).net.run cfgs cellOf_inj winFacts0.to₀ ?_ defs₀ Variants.none ⟨fun w => w.elim0⟩ N_0 (fun c => scopedRest0_eq c) m g main (fun c => rfl)
    (exch m).stay (exch m).land (exch m).done (fun c => ?_) (fun c t => ?_)
    (fun c s => s.mem ((c.tc : Thread nD τ).loc main_v1) = received m c ∧ s.mem ((c.tc : Thread nD τ).loc main_arg0) = m ((c.tc : Thread nD τ).loc main_arg0)) (fun c s' => ?_) (fun s hs => sem_eq_zero_of_scoped (by decide) hs)
  · exact (by decide : Pipeline.OwnSemFacts cfg0.spec fun k : Fin 6 => (SemLoc.dma k : SemLoc sig))
  · refine BIBase.Entails.trans ?_ ((exch m).cut_up c)
    exact (Entails.of_eq (Pipeline.unscopedBufs_split₀ cfgs 0 (fun w => w.elim0) c _)).trans (sep_elim_right.trans (Entails.of_eq (unscopedRest0_eq c _)))
  · exact body m Variants.none c
  · exact (exch m).done_read c s'

/-- Every run ends with the argument as it was and the counters at zero. -/
theorem quiet (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c).2, h.2⟩) (run_all m g)

end Cert.ChipsIdeal

end
-- ==== Proof.ChipsValue.lean ====
/-
The exchange of the four chips against its reference: what a device's stack holds is its block of the reference's result.
-/
module

public import proofs.«01_k».proof.Proof.ChipsRun
public import proofs.«01_k».proof.Proof.Places
public import proofs.«01_k».proof.Proof.Gen.ChipsRefIdeal.Run

@[expose] public section

noncomputable section

namespace Cert.ChipsIdeal

open Idealize.ShloMosaic Idealize.ShloMosaic.TcCoe Idealize.SL.Sem Cert.Exchange

/-- The three other chips of chip `e`. -/
def other (e : Fin 4) : Fin 3 → Fin 4 := ![![2, 1, 3], ![3, 0, 2], ![0, 3, 1], ![1, 2, 0]] e

section Reference

variable {α : Type}

/-- One place of one chip's stack in the reference — what chip `p` holds for chip `e` —, read at core `b`. -/
theorem cell (p e : Fin 4) (V : (⟨4, ![4, 2, 4, 17268736]⟩ : Shape).Idx → α)
    (hs : (⟨4, ![4, 2, 4, 17268736]⟩ : Shape).Slices ![p.val, 0, e.val, 0] ⟨4, ![1, 2, 1, 17268736]⟩)
    (hc : (⟨4, ![1, 2, 1, 17268736]⟩ : Shape).ShapeCasts ⟨2, ![2, 17268736]⟩)
    (hb : (⟨2, ![2, 17268736]⟩ : Shape).BroadcastsInDim ⟨3, ![2, 1, 17268736]⟩ ![0, 2])
    (b : Fin 2) (z : Fin 17268736) (i : (⟨3, ![2, 1, 17268736]⟩ : Shape).Idx) (h0 : (i 0).val = b.val) (h2 : (i 2).val = z.val) :
    broadcastInDim ⟨3, ![2, 1, 17268736]⟩ ![0, 2] hb (shapeCast ⟨2, ![2, 17268736]⟩ (extractStridedSlice ⟨4, ![1, 2, 1, 17268736]⟩ ![p.val, 0, e.val, 0] V hs) hc) i
      = V (ix4 p b e z) := by
  refine (broadcastInDim_apply _ hb _ i (ix2 b z) fun a => ?_).trans ?_
  · match a with
    | ⟨0, _⟩ => exact h0.symm
    | ⟨1, _⟩ => exact h2.symm
  refine (shapeCast_apply _ hc (ix2 b z) (ix4 0 b 0 z) ?_).trans ?_
  · rw [Shape.rowMajor_val_four, Shape.rowMajor_val_two]
    show ((0 * 2 + b.val) * 1 + 0) * 17268736 + z.val = b.val * 17268736 + z.val
    omega
  refine extractStridedSlice_apply _ V hs _ _ fun a => ?_
  match a with
  | ⟨0, _⟩ => rfl
  | ⟨1, _⟩ => exact (Nat.zero_add _).symm
  | ⟨2, _⟩ => rfl
  | ⟨3, _⟩ => exact (Nat.zero_add _).symm

/-- One chip's stack in the reference, read at core `b`, place `k`: what its `k`-th other chip holds for it. -/
theorem row (e : Fin 4) (V : (⟨4, ![4, 2, 4, 17268736]⟩ : Shape).Idx → α) (hs₀ hs₁ hs₂ hc₀ hc₁ hc₂ hb₀ hb₁ hb₂)
    (hC : Shape.Concatenates [⟨3, ![2, 1, 17268736]⟩, ⟨3, ![2, 1, 17268736]⟩, ⟨3, ![2, 1, 17268736]⟩] ⟨3, ![2, 3, 17268736]⟩ 1)
    (hB : (⟨3, ![2, 3, 17268736]⟩ : Shape).BroadcastsInDim ⟨4, ![1, 2, 3, 17268736]⟩ ![1, 2, 3])
    (b : Fin 2) (k : Fin 3) (z : Fin 17268736) (i : (⟨4, ![1, 2, 3, 17268736]⟩ : Shape).Idx)
    (h1 : (i 1).val = b.val) (h2 : (i 2).val = k.val) (h3 : (i 3).val = z.val) :
    broadcastInDim ⟨4, ![1, 2, 3, 17268736]⟩ ![1, 2, 3] hB (concatenate ⟨3, ![2, 3, 17268736]⟩ 1
        [⟨⟨3, ![2, 1, 17268736]⟩, broadcastInDim ⟨3, ![2, 1, 17268736]⟩ ![0, 2] hb₀ (shapeCast ⟨2, ![2, 17268736]⟩
            (extractStridedSlice ⟨4, ![1, 2, 1, 17268736]⟩ ![(other e 0).val, 0, e.val, 0] V hs₀) hc₀)⟩,
          ⟨⟨3, ![2, 1, 17268736]⟩, broadcastInDim ⟨3, ![2, 1, 17268736]⟩ ![0, 2] hb₁ (shapeCast ⟨2, ![2, 17268736]⟩
            (extractStridedSlice ⟨4, ![1, 2, 1, 17268736]⟩ ![(other e 1).val, 0, e.val, 0] V hs₁) hc₁)⟩,
          ⟨⟨3, ![2, 1, 17268736]⟩, broadcastInDim ⟨3, ![2, 1, 17268736]⟩ ![0, 2] hb₂ (shapeCast ⟨2, ![2, 17268736]⟩
            (extractStridedSlice ⟨4, ![1, 2, 1, 17268736]⟩ ![(other e 2).val, 0, e.val, 0] V hs₂) hc₂)⟩] hC) i
      = V (ix4 (other e k) b e z) := by
  refine (broadcastInDim_apply _ hB _ i (ix3 b k z) fun a => ?_).trans ?_
  · match a with
    | ⟨0, _⟩ => exact h1.symm
    | ⟨1, _⟩ => exact h2.symm
    | ⟨2, _⟩ => exact h3.symm
  have hk : ∀ k' : Fin 3, k.val = k'.val → V (ix4 (other e k') b e z) = V (ix4 (other e k) b e z) := fun k' h => by rw [Fin.ext h]
  refine concatenate_unit_eq _ _ _ _ _ rfl ?_
  refine ⟨fun hj hr i hi ho => ?_, fun hj hr i hi ho => ?_, fun hj hr i hi ho => ?_, trivial⟩
  · exact (cell _ e V hs₀ hc₀ hb₀ b z i (ho 0 (by decide)) (ho 2 (by decide))).trans (hk 0 hj)
  · exact (cell _ e V hs₁ hc₁ hb₁ b z i (ho 0 (by decide)) (ho 2 (by decide))).trans (hk 1 hj)
  · exact (cell _ e V hs₂ hc₂ hb₂ b z i (ho 0 (by decide)) (ho 2 (by decide))).trans (hk 2 hj)

end Reference

variable {F : FTy → Type} [FloatOps F]

/-- The reference's stack at chip `e`, core `b`, place `k`: what the `k`-th other chip holds for chip `e`. -/
theorem swapped (m' : (ℓ : Loc Cert.ChipsRefIdeal.nD Cert.ChipsRefIdeal.τ Cert.ChipsRefIdeal.sig) → Buf (Elt F) ℓ)
    (e : Fin 4) (b : Fin 2) (k : Fin 3) (x : (Blk 16864 1024).Idx) (q : Fin 24) (hq : q.val = (e.val * 2 + b.val) * 3 + k.val)
    (p : Fin 32) (hp : p.val = ((other e k).val * 2 + b.val) * 4 + e.val) :
    Cert.ChipsRefIdeal.Value.res_main_v46 m' 0 (at3 q x)
      = m' (((0 : Dev Cert.ChipsRefIdeal.nD).tc : Thread Cert.ChipsRefIdeal.nD Cert.ChipsRefIdeal.τ).loc Cert.ChipsRefIdeal.main_arg0) (at3 p x) := by
  unfold Cert.ChipsRefIdeal.Value.res_main_v46
  generalize m' (((0 : Dev Cert.ChipsRefIdeal.nD).tc : Thread Cert.ChipsRefIdeal.nD Cert.ChipsRefIdeal.τ).loc Cert.ChipsRefIdeal.main_arg0) = W
  have hV : ∀ e' : Fin 4, e.val = e'.val → shapeCast ⟨4, ![4, 2, 4, 17268736]⟩ W Cert.ChipsRefIdeal.Gen.shapeCasts_S32x16864x1024_S4x2x4x17268736 (ix4 (other e' k) b e' (lane x)) = W (at3 p x) := fun e' he => by
    obtain rfl := Fin.ext he
    refine spread W _ _ p x ?_
    rw [Shape.rowMajor_val_four]
    show (((other e k).val * 2 + b.val) * 4 + e.val) * 17268736 + (lane x).val = _
    omega
  refine (gathered _ _ (ix4 e b k (lane x)) q x ?_).trans ?_
  · rw [Shape.rowMajor_val_four]
    show ((e.val * 2 + b.val) * 3 + k.val) * 17268736 + (lane x).val = _
    omega
  refine concatenate_unit_eq _ _ _ _ _ rfl ?_
  refine ⟨fun hj hr i hi ho => ?_, fun hj hr i hi ho => ?_, fun hj hr i hi ho => ?_, fun hj hr i hi ho => ?_, trivial⟩
  · refine Eq.trans ?_ (hV 0 hj)
    exact row 0 _ _ _ _ _ _ _ _ _ _ Cert.ChipsRefIdeal.Gen.concatenates_S2x1x17268736_S2x1x17268736_S2x1x17268736_S2x3x17268736_d1 Cert.ChipsRefIdeal.Gen.bcast_S2x3x17268736_S1x2x3x17268736_1_2_3 b k (lane x) i (ho 1 (by decide)) (ho 2 (by decide)) (ho 3 (by decide))
  · refine Eq.trans ?_ (hV 1 hj)
    exact row 1 _ _ _ _ _ _ _ _ _ _ Cert.ChipsRefIdeal.Gen.concatenates_S2x1x17268736_S2x1x17268736_S2x1x17268736_S2x3x17268736_d1 Cert.ChipsRefIdeal.Gen.bcast_S2x3x17268736_S1x2x3x17268736_1_2_3 b k (lane x) i (ho 1 (by decide)) (ho 2 (by decide)) (ho 3 (by decide))
  · refine Eq.trans ?_ (hV 2 hj)
    exact row 2 _ _ _ _ _ _ _ _ _ _ Cert.ChipsRefIdeal.Gen.concatenates_S2x1x17268736_S2x1x17268736_S2x1x17268736_S2x3x17268736_d1 Cert.ChipsRefIdeal.Gen.bcast_S2x3x17268736_S1x2x3x17268736_1_2_3 b k (lane x) i (ho 1 (by decide)) (ho 2 (by decide)) (ho 3 (by decide))
  · refine Eq.trans ?_ (hV 3 hj)
    exact row 3 _ _ _ _ _ _ _ _ _ _ Cert.ChipsRefIdeal.Gen.concatenates_S2x1x17268736_S2x1x17268736_S2x1x17268736_S2x3x17268736_d1 Cert.ChipsRefIdeal.Gen.bcast_S2x3x17268736_S1x2x3x17268736_1_2_3 b k (lane x) i (ho 1 (by decide)) (ho 2 (by decide)) (ho 3 (by decide))

/-- Which place of the whole stack device `c` receives at place `k`. -/
theorem received_place : ∀ (c : Dev 8) (k : Fin 3),
    (across (gap k) c).val * 4 + (pick k (across (gap k) c)).val = ((other ⟨c.val / 2, by omega⟩ k).val * 2 + c.val % 2) * 4 + c.val / 2 := by decide

/-- The exchange and its reference, from the same stack, end with the same places. -/
theorem agrees (m : (ℓ : Loc nD τ sig) → Buf (Elt F) ℓ) (g : Dev nD → PrngReg)
    (m' : (ℓ : Loc Cert.ChipsRefIdeal.nD Cert.ChipsRefIdeal.τ Cert.ChipsRefIdeal.sig) → Buf (Elt F) ℓ) (g' : Dev Cert.ChipsRefIdeal.nD → PrngReg)
    (hT : Layout.Tiles ⟨3, ![4, 16864, 1024]⟩ ⟨3, ![32, 16864, 1024]⟩ 0 8) (hT' : Layout.Tiles ⟨3, ![3, 16864, 1024]⟩ ⟨3, ![24, 16864, 1024]⟩ 0 8)
    (hm : ∀ c : Dev nD, m ((c.tc : Thread nD τ).loc main_arg0) = Layout.block ⟨3, ![4, 16864, 1024]⟩ ⟨3, ![32, 16864, 1024]⟩ 0 8 c
      (m' (((0 : Dev Cert.ChipsRefIdeal.nD).tc : Thread Cert.ChipsRefIdeal.nD Cert.ChipsRefIdeal.τ).loc Cert.ChipsRefIdeal.main_arg0)) hT) :
    ∃ (v0 : Buf (Elt F) (((0 : Dev Cert.ChipsRefIdeal.nD).tc : Thread Cert.ChipsRefIdeal.nD Cert.ChipsRefIdeal.τ).loc Cert.ChipsRefIdeal.main_v46)),
      θ_run (defs (F := F)) (onTc (τ := τ) (main (F := F))) ⟨m, fun _ => 0, g⟩ (fun r => ∀ c : Dev nD,
          r.2.mem ((c.tc : Thread nD τ).loc main_v1) = Layout.block ⟨3, ![3, 16864, 1024]⟩ ⟨3, ![24, 16864, 1024]⟩ 0 8 c v0 hT'
          ∧ r.2.mem ((c.tc : Thread nD τ).loc main_arg0) = m ((c.tc : Thread nD τ).loc main_arg0))
      ∧ θ_run (Cert.ChipsRefIdeal.defs (F := F)) (onTc (τ := Cert.ChipsRefIdeal.τ) (Cert.ChipsRefIdeal.main (F := F))) ⟨m', fun _ => 0, g'⟩ (fun r =>
          r.2.mem (((0 : Dev Cert.ChipsRefIdeal.nD).tc : Thread Cert.ChipsRefIdeal.nD Cert.ChipsRefIdeal.τ).loc Cert.ChipsRefIdeal.main_v46) = v0
          ∧ r.2.mem (((0 : Dev Cert.ChipsRefIdeal.nD).tc : Thread Cert.ChipsRefIdeal.nD Cert.ChipsRefIdeal.τ).loc Cert.ChipsRefIdeal.main_arg0)
            = m' (((0 : Dev Cert.ChipsRefIdeal.nD).tc : Thread Cert.ChipsRefIdeal.nD Cert.ChipsRefIdeal.τ).loc Cert.ChipsRefIdeal.main_arg0)) := by
  refine ⟨_, (θ_run (defs (F := F)) _ _).mono (fun _ h c => ⟨(h.1 c).1.trans ?_, (h.1 c).2⟩) (run_all m g),
    (θ_run (Cert.ChipsRefIdeal.defs (F := F)) _ _).mono (fun _ h => h 0) (Cert.ChipsRefIdeal.Value.run m' g')⟩
  funext i
  obtain ⟨k, x, rfl⟩ := exists_at3 i
  have hc : c.val < 8 := c.isLt
  have hk : k.val < 3 := k.isLt
  have hp := received_place c k
  have ho : (other ⟨c.val / 2, by omega⟩ k).val < 4 := (other ⟨c.val / 2, by omega⟩ k).isLt
  refine ((congrArg (fun y => m ((Dev.tc (across (gap k) c) : Thread nD τ).loc main_arg0) (at3 (pick k (across (gap k) c)) y)) (under_at3 k x)).trans
    ((congrFun (hm (across (gap k) c)) (at3 (pick k (across (gap k) c)) x)).trans
      (block_place _ hT (across (gap k) c) (pick k (across (gap k) c)) x ⟨((other ⟨c.val / 2, by omega⟩ k).val * 2 + c.val % 2) * 4 + c.val / 2, by omega⟩ hp.symm))).trans ?_
  refine ((block_place _ hT' c k x ⟨c.val * 3 + k.val, by omega⟩ rfl).trans
    (swapped m' ⟨c.val / 2, by omega⟩ ⟨c.val % 2, by omega⟩ k x _ ?_ _ rfl)).symm
  show c.val * 3 + k.val = (c.val / 2 * 2 + c.val % 2) * 3 + k.val
  omega

end Cert.ChipsIdeal

end
-- ==== Proof.SmallGatherRun.lean ====
/- The gathering of the small gradients: the body of one device, the run of all eight, and the whole array reshaped. -/
module

public import proofs.«01_k».proof.Proof.GatherBody
public import proofs.«01_k».proof.Proof.Gen.SmallGatherIdeal.Skeleton
public import proofs.«01_k».proof.Proof.Gen.SmallGatherIdeal.Launch
public import proofs.«01_k».proof.Proof.Gen.SmallGatherRefIdeal.Run
public import Idealize.ShloMosaic.Lib.Quiescent

@[expose] public section

noncomputable section

namespace Cert.SmallGatherIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Exchange.Gathering Cert.SmallGatherIdeal.Gen

variable {F : FTy → Type} [FloatOps F]

/-- The block of a device. -/
abbrev block (m : (ℓ : Loc nD τ sig) → Buf (Elt F) ℓ) (c : Fin 8) : (Blk 2496 128).Idx → Elt F .f32 := m ((Dev.tc c : Thread nD τ).loc main_arg0)

variable (m : (ℓ : Loc nD τ sig) → Buf (Elt F) ℓ)

/-- This exchange. -/
def exch : Gathering τ sig (Elt F) where
  r := 2496
  w := 128
  e := .f32
  A := Memref.whole main_arg0
  B := Memref.whole main_v1
  hA := Memref.isWhole_whole _
  hB := Memref.isWhole_whole _
  sem k := .dma k
  inj a b h := by injection h
  a c := m ((c.tc : Thread nD τ).loc main_arg0)
  b c := m ((c.tc : Thread nD τ).loc main_v1)
  G c := stack (block m)
  gathered c k x := stack_at3 (block m) k x
  pos := by decide +kernel
  credit := rfl
  routes c d := by revert c d; decide

theorem off1 : ∀ c : Dev nD, k0_off1 c = ![(across 0 c).val, 0, 0] := by decide +kernel
theorem off2 : ∀ c : Dev nD, k0_off2 c = ![(across 4 c).val, 0, 0] := by decide +kernel
theorem off3 : ∀ c : Dev nD, k0_off3 c = ![(across 2 c).val, 0, 0] := by decide +kernel
theorem off4 : ∀ c : Dev nD, k0_off4 c = ![(across 6 c).val, 0, 0] := by decide +kernel
theorem dev1 : ∀ c : Dev nD, (⟨k0_dev1 c, k0_dev1_lt c⟩ : Dev nD) = across 1 c := by decide +kernel
theorem dev2 : ∀ c : Dev nD, (⟨k0_dev2 c, k0_dev2_lt c⟩ : Dev nD) = across 4 c := by decide +kernel
theorem dev3 : ∀ c : Dev nD, (⟨k0_dev3 c, k0_dev3_lt c⟩ : Dev nD) = across 2 c := by decide +kernel
theorem dev4 : ∀ c : Dev nD, (⟨k0_dev4 c, k0_dev4_lt c⟩ : Dev nD) = across 6 c := by decide +kernel
theorem dev5 : ∀ c : Dev nD, (⟨k0_dev5 c, k0_dev5_lt c⟩ : Dev nD) = across 1 c := by decide +kernel
theorem dev6 : ∀ c : Dev nD, (⟨k0_dev6 c, k0_dev6_lt c⟩ : Dev nD) = across 1 c := by decide +kernel
theorem dev7 : ∀ c : Dev nD, (⟨k0_dev7 c, k0_dev7_lt c⟩ : Dev nD) = across 1 c := by decide +kernel

/-- The body of device `c`: from its block and the places it may write to all eight places gathered. -/
theorem body (𝒱 : Variants) (c : Dev nD) : iprop((exch m).net.start (exch m).stay (exch m).land c ∗ (exch m).net.debt c (exch m).net.owed)
    ⊢ wp frame (wpE (defs₀ (F := F)) 𝒱 (c.tc : Thread nD τ) none) Set.univ
        (cc0_gather_small_grads (Memref.whole main_arg0) (Memref.isWhole_whole _) (Memref.whole main_v1) (Memref.isWhole_whole _) cc0_scratch0 cc0_scratch1 cc0_scratch2)
        fun _ => iprop((exch m).done c ∗ (bigSep Finset.univ fun k => semVal ((exch m).net.cell c k) 0) ∗ (exch m).net.debt c ∅) := by
  simp only [cc0_gather_small_grads_eq_skeleton]
  unfold cc0_gather_small_grads_skel
  simp only [k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact (exch m).through (defs₀ (F := F)) 𝒱 c ⟨_, _, _, _, _, _, _, _, off1 c, rfl, rfl, rfl⟩
    ⟨_, _, _, _, _, _, _, _, _, _, _, off1 c, dev1 c, rfl, rfl, rfl, rfl⟩ ⟨_, _, _, _, _, _, _, _, _, _, _, off1 c, dev2 c, rfl, rfl, rfl, rfl⟩
    ⟨_, _, _, _, _, _, _, _, _, _, _, off1 c, dev3 c, rfl, rfl, rfl, rfl⟩ ⟨_, _, _, _, _, _, _, _, _, _, _, off1 c, dev4 c, rfl, rfl, rfl, rfl⟩
    (fun _ => rfl) ⟨_, _, _, _, _, _, _, _, _, _, _, off2 c, dev5 c, rfl, rfl, rfl, rfl⟩ (fun _ => rfl) ⟨_, _, _, _, _, _, _, _, _, _, _, off3 c, dev6 c, rfl, rfl, rfl, rfl⟩
    (fun _ => rfl) ⟨_, _, _, _, _, _, _, _, _, _, _, off4 c, dev7 c, rfl, rfl, rfl, rfl⟩ (fun _ => rfl) (fun _ => rfl) (fun _ => rfl) (fun _ => rfl)
    (fun _ => rfl) (fun _ => rfl) (fun _ => rfl) (fun _ => rfl) (fun _ => rfl) (fun _ => rfl) (fun _ => rfl) (fun _ => rfl)

/-- What the run of all devices ends with: every stack gathered, every block as it was. -/
theorem run_all (g : Dev nD → PrngReg) : θ_run (defs (F := F)) (onTc (τ := τ) (main (F := F))) ⟨m, fun _ => 0, g⟩
    (fun r => (∀ c : Dev nD, r.2.mem ((c.tc : Thread nD τ).loc main_v1) = stack (block m) ∧ r.2.mem ((c.tc : Thread nD τ).loc main_arg0) = m ((c.tc : Thread nD τ).loc main_arg0))
      ∧ r.2.sem = fun _ => 0) := by
  haveI (e : EltTy) : Nonempty (Elt F e) := inferInstance
  refine (exch m).net.run cfgs cellOf_inj winFacts0.to₀ ?_ defs₀ Variants.none ⟨fun w => w.elim0⟩ N_0 (fun c => scopedRest0_eq c) m g main (fun c => rfl)
    (exch m).stay (exch m).land (exch m).done (fun c => ?_) (fun c t => ?_)
    (fun c s => s.mem ((c.tc : Thread nD τ).loc main_v1) = stack (block m) ∧ s.mem ((c.tc : Thread nD τ).loc main_arg0) = m ((c.tc : Thread nD τ).loc main_arg0)) (fun c s' => ?_) (fun s hs => sem_eq_zero_of_scoped (by decide) hs)
  · exact (by decide : Pipeline.OwnSemFacts cfg0.spec fun k : Fin 15 => (SemLoc.dma k : SemLoc sig))
  · refine BIBase.Entails.trans ?_ ((exch m).cut_up c)
    exact (Entails.of_eq (Pipeline.unscopedBufs_split₀ cfgs 0 (fun w => w.elim0) c _)).trans (sep_elim_right.trans (Entails.of_eq (unscopedRest0_eq c _)))
  · exact body m Variants.none c
  · exact (exch m).done_read c s'

/-- Every run ends with the argument as it was and the counters at zero. -/
theorem quiet (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c).2, h.2⟩) (run_all m g)

/-- The exchange and its reference, from the same array, end with the same stack. -/
theorem agrees (g : Dev nD → PrngReg)
    (m' : (ℓ : Loc Cert.SmallGatherRefIdeal.nD Cert.SmallGatherRefIdeal.τ Cert.SmallGatherRefIdeal.sig) → Buf (Elt F) ℓ) (g' : Dev Cert.SmallGatherRefIdeal.nD → PrngReg)
    (hT : Layout.Tiles ⟨2, ![2496, 128]⟩ ⟨2, ![19968, 128]⟩ 0 8)
    (hm : ∀ c : Dev nD, m ((c.tc : Thread nD τ).loc main_arg0) = Layout.block ⟨2, ![2496, 128]⟩ ⟨2, ![19968, 128]⟩ 0 8 c
      (m' (((0 : Dev Cert.SmallGatherRefIdeal.nD).tc : Thread Cert.SmallGatherRefIdeal.nD Cert.SmallGatherRefIdeal.τ).loc Cert.SmallGatherRefIdeal.main_arg0)) hT) :
    ∃ (v0 : Buf (Elt F) (((0 : Dev Cert.SmallGatherRefIdeal.nD).tc : Thread Cert.SmallGatherRefIdeal.nD Cert.SmallGatherRefIdeal.τ).loc Cert.SmallGatherRefIdeal.main_v0)),
      θ_run (defs (F := F)) (onTc (τ := τ) (main (F := F))) ⟨m, fun _ => 0, g⟩ (fun r => ∀ c : Dev nD,
          r.2.mem ((c.tc : Thread nD τ).loc main_v1) = v0
          ∧ r.2.mem ((c.tc : Thread nD τ).loc main_arg0) = m ((c.tc : Thread nD τ).loc main_arg0))
      ∧ θ_run (Cert.SmallGatherRefIdeal.defs (F := F)) (onTc (τ := Cert.SmallGatherRefIdeal.τ) (Cert.SmallGatherRefIdeal.main (F := F))) ⟨m', fun _ => 0, g'⟩ (fun r =>
          r.2.mem (((0 : Dev Cert.SmallGatherRefIdeal.nD).tc : Thread Cert.SmallGatherRefIdeal.nD Cert.SmallGatherRefIdeal.τ).loc Cert.SmallGatherRefIdeal.main_v0) = v0
          ∧ r.2.mem (((0 : Dev Cert.SmallGatherRefIdeal.nD).tc : Thread Cert.SmallGatherRefIdeal.nD Cert.SmallGatherRefIdeal.τ).loc Cert.SmallGatherRefIdeal.main_arg0)
            = m' (((0 : Dev Cert.SmallGatherRefIdeal.nD).tc : Thread Cert.SmallGatherRefIdeal.nD Cert.SmallGatherRefIdeal.τ).loc Cert.SmallGatherRefIdeal.main_arg0)) :=
  ⟨_, (θ_run (defs (F := F)) _ _).mono (fun _ h c => ⟨(h.1 c).1.trans (stack_eq (block m) _ hT hm _), (h.1 c).2⟩) (run_all m g),
    (θ_run (Cert.SmallGatherRefIdeal.defs (F := F)) _ _).mono (fun _ h => h 0) (Cert.SmallGatherRefIdeal.Value.run m' g')⟩

end Cert.SmallGatherIdeal

end
-- ==== Proof.TapsGatherRun.lean ====
/- The gathering of the convolution's taps: the body of one device, the run of all eight, and the whole array reshaped. -/
module

public import proofs.«01_k».proof.Proof.GatherBody
public import proofs.«01_k».proof.Proof.Gen.TapsGatherIdeal.Skeleton
public import proofs.«01_k».proof.Proof.Gen.TapsGatherIdeal.Launch
public import proofs.«01_k».proof.Proof.Gen.TapsGatherRefIdeal.Run
public import Idealize.ShloMosaic.Lib.Quiescent

@[expose] public section

noncomputable section

namespace Cert.TapsGatherIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Exchange Cert.Exchange.Gathering Cert.TapsGatherIdeal.Gen

variable {F : FTy → Type} [FloatOps F]

/-- The block of a device. -/
abbrev block (m : (ℓ : Loc nD τ sig) → Buf (Elt F) ℓ) (c : Fin 8) : (Blk 32 128).Idx → Elt F .f32 := m ((Dev.tc c : Thread nD τ).loc main_arg0)

variable (m : (ℓ : Loc nD τ sig) → Buf (Elt F) ℓ)

/-- This exchange. -/
def exch : Gathering τ sig (Elt F) where
  r := 32
  w := 128
  e := .f32
  A := Memref.whole main_arg0
  B := Memref.whole main_v1
  hA := Memref.isWhole_whole _
  hB := Memref.isWhole_whole _
  sem k := .dma k
  inj a b h := by injection h
  a c := m ((c.tc : Thread nD τ).loc main_arg0)
  b c := m ((c.tc : Thread nD τ).loc main_v1)
  G c := stack (block m)
  gathered c k x := stack_at3 (block m) k x
  pos := by decide +kernel
  credit := rfl
  routes c d := by revert c d; decide

theorem off1 : ∀ c : Dev nD, k0_off1 c = ![(across 0 c).val, 0, 0] := by decide +kernel
theorem off2 : ∀ c : Dev nD, k0_off2 c = ![(across 4 c).val, 0, 0] := by decide +kernel
theorem off3 : ∀ c : Dev nD, k0_off3 c = ![(across 2 c).val, 0, 0] := by decide +kernel
theorem off4 : ∀ c : Dev nD, k0_off4 c = ![(across 6 c).val, 0, 0] := by decide +kernel
theorem dev1 : ∀ c : Dev nD, (⟨k0_dev1 c, k0_dev1_lt c⟩ : Dev nD) = across 1 c := by decide +kernel
theorem dev2 : ∀ c : Dev nD, (⟨k0_dev2 c, k0_dev2_lt c⟩ : Dev nD) = across 4 c := by decide +kernel
theorem dev3 : ∀ c : Dev nD, (⟨k0_dev3 c, k0_dev3_lt c⟩ : Dev nD) = across 2 c := by decide +kernel
theorem dev4 : ∀ c : Dev nD, (⟨k0_dev4 c, k0_dev4_lt c⟩ : Dev nD) = across 6 c := by decide +kernel
theorem dev5 : ∀ c : Dev nD, (⟨k0_dev5 c, k0_dev5_lt c⟩ : Dev nD) = across 1 c := by decide +kernel
theorem dev6 : ∀ c : Dev nD, (⟨k0_dev6 c, k0_dev6_lt c⟩ : Dev nD) = across 1 c := by decide +kernel
theorem dev7 : ∀ c : Dev nD, (⟨k0_dev7 c, k0_dev7_lt c⟩ : Dev nD) = across 1 c := by decide +kernel

/-- The body of device `c`: from its block and the places it may write to all eight places gathered. -/
theorem body (𝒱 : Variants) (c : Dev nD) : iprop((exch m).net.start (exch m).stay (exch m).land c ∗ (exch m).net.debt c (exch m).net.owed)
    ⊢ wp frame (wpE (defs₀ (F := F)) 𝒱 (c.tc : Thread nD τ) none) Set.univ
        (cc0_gather_taps (Memref.whole main_arg0) (Memref.isWhole_whole _) (Memref.whole main_v1) (Memref.isWhole_whole _) cc0_scratch0 cc0_scratch1 cc0_scratch2)
        fun _ => iprop((exch m).done c ∗ (bigSep Finset.univ fun k => semVal ((exch m).net.cell c k) 0) ∗ (exch m).net.debt c ∅) := by
  simp only [cc0_gather_taps_eq_skeleton]
  unfold cc0_gather_taps_skel
  simp only [k0_part10_eq_skeleton]
  unfold k0_part10_skel
  simp only [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  exact (exch m).through (defs₀ (F := F)) 𝒱 c ⟨_, _, _, _, _, _, _, _, off1 c, rfl, rfl, rfl⟩
    ⟨_, _, _, _, _, _, _, _, _, _, _, off1 c, dev1 c, rfl, rfl, rfl, rfl⟩ ⟨_, _, _, _, _, _, _, _, _, _, _, off1 c, dev2 c, rfl, rfl, rfl, rfl⟩
    ⟨_, _, _, _, _, _, _, _, _, _, _, off1 c, dev3 c, rfl, rfl, rfl, rfl⟩ ⟨_, _, _, _, _, _, _, _, _, _, _, off1 c, dev4 c, rfl, rfl, rfl, rfl⟩
    (fun _ => rfl) ⟨_, _, _, _, _, _, _, _, _, _, _, off2 c, dev5 c, rfl, rfl, rfl, rfl⟩ (fun _ => rfl) ⟨_, _, _, _, _, _, _, _, _, _, _, off3 c, dev6 c, rfl, rfl, rfl, rfl⟩
    (fun _ => rfl) ⟨_, _, _, _, _, _, _, _, _, _, _, off4 c, dev7 c, rfl, rfl, rfl, rfl⟩ (fun _ => rfl) (fun _ => rfl) (fun _ => rfl) (fun _ => rfl)
    (fun _ => rfl) (fun _ => rfl) (fun _ => rfl) (fun _ => rfl) (fun _ => rfl) (fun _ => rfl) (fun _ => rfl) (fun _ => rfl)

/-- What the run of all devices ends with: every stack gathered, every block as it was. -/
theorem run_all (g : Dev nD → PrngReg) : θ_run (defs (F := F)) (onTc (τ := τ) (main (F := F))) ⟨m, fun _ => 0, g⟩
    (fun r => (∀ c : Dev nD, r.2.mem ((c.tc : Thread nD τ).loc main_v1) = stack (block m) ∧ r.2.mem ((c.tc : Thread nD τ).loc main_arg0) = m ((c.tc : Thread nD τ).loc main_arg0))
      ∧ r.2.sem = fun _ => 0) := by
  haveI (e : EltTy) : Nonempty (Elt F e) := inferInstance
  refine (exch m).net.run cfgs cellOf_inj winFacts0.to₀ ?_ defs₀ Variants.none ⟨fun w => w.elim0⟩ N_0 (fun c => scopedRest0_eq c) m g main (fun c => rfl)
    (exch m).stay (exch m).land (exch m).done (fun c => ?_) (fun c t => ?_)
    (fun c s => s.mem ((c.tc : Thread nD τ).loc main_v1) = stack (block m) ∧ s.mem ((c.tc : Thread nD τ).loc main_arg0) = m ((c.tc : Thread nD τ).loc main_arg0)) (fun c s' => ?_) (fun s hs => sem_eq_zero_of_scoped (by decide) hs)
  · exact (by decide : Pipeline.OwnSemFacts cfg0.spec fun k : Fin 15 => (SemLoc.dma k : SemLoc sig))
  · refine BIBase.Entails.trans ?_ ((exch m).cut_up c)
    exact (Entails.of_eq (Pipeline.unscopedBufs_split₀ cfgs 0 (fun w => w.elim0) c _)).trans (sep_elim_right.trans (Entails.of_eq (unscopedRest0_eq c _)))
  · exact body m Variants.none c
  · exact (exch m).done_read c s'

/-- Every run ends with the argument as it was and the counters at zero. -/
theorem quiet (g : Dev nD → PrngReg) : θ_run (defs (F := F)) (onTc (τ := τ) (main (F := F))) ⟨m, fun _ => 0, g⟩
    (fun r => (∀ c : Dev nD, r.2.mem ((c.tc : Thread nD τ).loc main_arg0) = m ((c.tc : Thread nD τ).loc main_arg0)) ∧ r.2.sem = fun _ => 0) :=
  (θ_run (defs (F := F)) _ _).mono (fun _ h => ⟨fun c => (h.1 c).2, h.2⟩) (run_all m g)

/-- The exchange and its reference, from the same array, end with the same stack. -/
theorem agrees (g : Dev nD → PrngReg)
    (m' : (ℓ : Loc Cert.TapsGatherRefIdeal.nD Cert.TapsGatherRefIdeal.τ Cert.TapsGatherRefIdeal.sig) → Buf (Elt F) ℓ) (g' : Dev Cert.TapsGatherRefIdeal.nD → PrngReg)
    (hT : Layout.Tiles ⟨2, ![32, 128]⟩ ⟨2, ![256, 128]⟩ 0 8)
    (hm : ∀ c : Dev nD, m ((c.tc : Thread nD τ).loc main_arg0) = Layout.block ⟨2, ![32, 128]⟩ ⟨2, ![256, 128]⟩ 0 8 c
      (m' (((0 : Dev Cert.TapsGatherRefIdeal.nD).tc : Thread Cert.TapsGatherRefIdeal.nD Cert.TapsGatherRefIdeal.τ).loc Cert.TapsGatherRefIdeal.main_arg0)) hT) :
    ∃ (v0 : Buf (Elt F) (((0 : Dev Cert.TapsGatherRefIdeal.nD).tc : Thread Cert.TapsGatherRefIdeal.nD Cert.TapsGatherRefIdeal.τ).loc Cert.TapsGatherRefIdeal.main_v0)),
      θ_run (defs (F := F)) (onTc (τ := τ) (main (F := F))) ⟨m, fun _ => 0, g⟩ (fun r => ∀ c : Dev nD,
          r.2.mem ((c.tc : Thread nD τ).loc main_v1) = v0
          ∧ r.2.mem ((c.tc : Thread nD τ).loc main_arg0) = m ((c.tc : Thread nD τ).loc main_arg0))
      ∧ θ_run (Cert.TapsGatherRefIdeal.defs (F := F)) (onTc (τ := Cert.TapsGatherRefIdeal.τ) (Cert.TapsGatherRefIdeal.main (F := F))) ⟨m', fun _ => 0, g'⟩ (fun r =>
          r.2.mem (((0 : Dev Cert.TapsGatherRefIdeal.nD).tc : Thread Cert.TapsGatherRefIdeal.nD Cert.TapsGatherRefIdeal.τ).loc Cert.TapsGatherRefIdeal.main_v0) = v0
          ∧ r.2.mem (((0 : Dev Cert.TapsGatherRefIdeal.nD).tc : Thread Cert.TapsGatherRefIdeal.nD Cert.TapsGatherRefIdeal.τ).loc Cert.TapsGatherRefIdeal.main_arg0)
            = m' (((0 : Dev Cert.TapsGatherRefIdeal.nD).tc : Thread Cert.TapsGatherRefIdeal.nD Cert.TapsGatherRefIdeal.τ).loc Cert.TapsGatherRefIdeal.main_arg0)) :=
  ⟨_, (θ_run (defs (F := F)) _ _).mono (fun _ h c => ⟨(h.1 c).1.trans (stack_eq (block m) _ hT hm _), (h.1 c).2⟩) (run_all m g),
    (θ_run (Cert.TapsGatherRefIdeal.defs (F := F)) _ _).mono (fun _ h => h 0) (Cert.TapsGatherRefIdeal.Value.run m' g')⟩

end Cert.TapsGatherIdeal

end
-- ==== Proof.SumSmallValue.lean ====
module
public import proofs.«01_k».proof.Defs
public import proofs.«01_k».proof.Proof.Gen.SumSmallIdeal.Value
public import proofs.«01_k».proof.Proof.Gen.SumSmallRefIdeal.Run
public import Idealize.ShloMosaic.Lib.Pointwise

/-!
The sum of the eight devices' parts of the small gradients. The kernel adds the eight parts
one after the other; the reference is a sum over the first axis.
-/

@[expose] public section

namespace Cert.SumSmallIdeal

open Idealize.ShloMosaic Idealize.SL.Sem

set_option maxRecDepth 16384

/-- Adding the eight parts one after the other is the sum over the first axis. -/
theorem added_eq (p : FVec Ideal S8x2496x128 .f32) :
    Value.G1 (F := Ideal) p
      = Host.reduceAdd p (constant Cert.SumSmallRefIdeal.S_ .f32 0x00000000#32)
          Cert.SumSmallRefIdeal.Gen.reducesTo_S8x2496x128_S2496x128_d0
          Cert.SumSmallRefIdeal.Gen.h_S_ := by
  funext j
  pointwise [Value.G1, Gen.k0_pay1]
  rw [Fin.sum_univ_eight]

/-- The kernel and the reference end in the same result. -/
theorem agrees : Cert.algebraic_SumSmallIdeal_SumSmallRefIdeal := fun m g m' g' _ hm =>
  ⟨fun c => _, Value.run m g,
    (θ_run Cert.SumSmallRefIdeal.defs _ _).mono (fun r h c => by
      obtain ⟨h1, h2⟩ := h c
      refine ⟨h1.trans ?_, h2⟩
      rw [hm c]
      exact (added_eq _).symm) (Cert.SumSmallRefIdeal.Value.run m' g')⟩

end Cert.SumSmallIdeal
-- ==== Proof.AdamSmallValue.lean ====
module
public import proofs.«01_k».proof.Defs
public import proofs.«01_k».proof.Proof.Gen.AdamSmallIdeal.Value
public import proofs.«01_k».proof.Proof.Gen.AdamSmallRefIdeal.Run

/-!
The AdamW step of the small weights, packed into one table: the kernel applies at every element what the
reference says of whole arrays.
-/

@[expose] public section

namespace Cert.AdamSmallIdeal

open Idealize.ShloMosaic Idealize.SL.Sem

set_option maxRecDepth 16384

/-- The kernel and the reference end in the same step and the same two moments. -/
theorem agrees : Cert.algebraic_AdamSmallIdeal_AdamSmallRefIdeal := fun m g m' g' _ hm =>
  ⟨fun c => _, fun c => _, fun c => _, Value.run m g,
    (θ_run Cert.AdamSmallRefIdeal.defs _ _).mono (fun r h c => by
      obtain ⟨h1, h2, h3, h4⟩ := h c
      obtain ⟨e0, e1, e2, e3⟩ := hm c
      refine ⟨h1.trans ?_, h2.trans ?_, h3.trans ?_, h4⟩
      · rw [e0, e1, e2, e3]; rfl
      · rw [e1, e2]; rfl
      · rw [e1, e3]; rfl) (Cert.AdamSmallRefIdeal.Value.run m' g')⟩

end Cert.AdamSmallIdeal
-- ==== Proof.AdamTapsValue.lean ====
module
public import proofs.«01_k».proof.Defs
public import proofs.«01_k».proof.Proof.Gen.AdamTapsIdeal.Value
public import proofs.«01_k».proof.Proof.Gen.AdamTapsRefIdeal.Run

/-!
The AdamW step of the taps of the convolution: the kernel applies at every element what the
reference says of whole arrays.
-/

@[expose] public section

namespace Cert.AdamTapsIdeal

open Idealize.ShloMosaic Idealize.SL.Sem

set_option maxRecDepth 16384

/-- The kernel and the reference end in the same step and the same two moments. -/
theorem agrees : Cert.algebraic_AdamTapsIdeal_AdamTapsRefIdeal := fun m g m' g' _ hm =>
  ⟨fun c => _, fun c => _, fun c => _, Value.run m g,
    (θ_run Cert.AdamTapsRefIdeal.defs _ _).mono (fun r h c => by
      obtain ⟨h1, h2, h3, h4⟩ := h c
      obtain ⟨e0, e1, e2, e3⟩ := hm c
      refine ⟨h1.trans ?_, h2.trans ?_, h3.trans ?_, h4⟩
      · rw [e0, e1, e2, e3]; rfl
      · rw [e1, e2]; rfl
      · rw [e1, e3]; rfl) (Cert.AdamTapsRefIdeal.Value.run m' g')⟩

end Cert.AdamTapsIdeal
-- ==== Proof.ChipSumValue.lean ====
module
public import proofs.«01_k».proof.Defs
public import proofs.«01_k».proof.Proof.Gen.ChipSum
public import proofs.«01_k».proof.Proof.Gen.ChipSumIdeal.Frame
public import proofs.«01_k».proof.Proof.Gen.ChipSumRef
public import proofs.«01_k».proof.Proof.Gen.ChipSumRefIdeal.Run
public import Idealize.ShloMosaic.Lib.Pipeline.ValueKit
public import Idealize.ShloMosaic.Lib.Pointwise

/-!
The sum of a core's gradients with what came from the other core of its chip. Of each pair of
gradients the kernel takes the first, block by block, and adds to it the block that came.
-/

@[expose] public section

namespace Cert.ChipSumIdeal

open Idealize.ShloMosaic Idealize.ShloMosaic.TcCoe Idealize.SL.Sem
open Gen

set_option maxRecDepth 16384

variable {F : FTy → Type} [FloatOps F]
variable (m : (ℓ : Loc nD τ sig) → Buf (Elt F) ℓ) (ρ : Dev nD → PrngReg)

/-- The plain program's body table is this one, word for word. -/
theorem same : Cert.ChipSum.defs (F := F) = defs (F := F) := by
  refine congrArg (Pipeline.defs _) (congrArg Defs.onTc (funext fun l => funext fun x => ?_))
  match l, x with
  | 0, (t, s) => rfl

/-- The prefetched word is zero. -/
theorem word (j : S1.Idx) : tbl m 0 j = 0#32 := by
  show (StableHlo.after hostOps0 (fun b => m (0, b)) main_v0) j = 0#32
  after_results
  rfl

/-- So the first window's block is the pair's first. -/
theorem place (i : grid0.Coords) : cc0_transform_0 inb_S1_S1_0 numel1_S1 (tbl m) i = ![2 * (i 0).val, (i 1).val, 0] := by
  have h0 : (i 0).val < 4 := (i 0).isLt
  have h1 : (i 1).val < 62 := (i 1).isLt
  unfold cc0_transform_0
  dsimp only
  rw [show (tbl m).at 0 (Rect.unit (s := S1) ![0] S1.size inb_S1_S1_0) numel1_S1 = 0#32 from word m _]
  refine funext fun a => ?_
  match a with
  | ⟨0, _⟩ =>
    show (2#32 * BitVec.ofNat 32 (i 0).val + 0#32).toNat = _
    simp [BitVec.toNat_mul]
    omega
  | ⟨1, _⟩ => show (BitVec.ofNat 32 (i 1).val).toNat = (i 1).val; simp; omega
  | ⟨2, _⟩ => rfl

/-- The result's block has the same place in the result. -/
theorem place_out (i : grid0.Coords) : cc0_transform_2 i = ![(i 0).val, (i 1).val, 0] := by
  have h0 : (i 0).val < 4 := (i 0).isLt
  have h1 : (i 1).val < 62 := (i 1).isLt
  refine funext fun a => ?_
  match a with
  | ⟨0, _⟩ => show (BitVec.ofNat 32 (i 0).val).toNat = (i 0).val; simp; omega
  | ⟨1, _⟩ => show (BitVec.ofNat 32 (i 1).val).toNat = (i 1).val; simp; omega
  | ⟨2, _⟩ => rfl

/-- Every block that the kernel reads lies in the array. -/
theorem tables : Ok m := fun i => by
  have h0 : (i 0).val < 4 := (i 0).isLt
  have h1 : (i 1).val < 62 := (i 1).isLt
  refine ⟨fun a => ?_, .inr (Affine.block_words_dvd (of_decide_eq_true rfl) (by decide))⟩
  rw [place]
  match a with
  | ⟨0, _⟩ => show (2 * (i 0).val + 1) * 1 ≤ 8; omega
  | ⟨1, _⟩ => show ((i 1).val + 1) * 272 ≤ 16864; omega
  | ⟨2, _⟩ => show (0 + 1) * 1024 ≤ 1024; omega

/-- The first gradient of each pair. -/
abbrev first (g : Vec F S8x16864x1024 .bf16) : Vec F S4x16864x1024 .bf16 := fun j =>
  g fun | 0 => ⟨2 * (j 0).val, by have h : (j 0).val < 4 := (j 0).isLt; show _ < 8; omega⟩ | 1 => ⟨(j 1).val, (j 1).isLt⟩ | 2 => ⟨(j 2).val, (j 2).isLt⟩

/-- What the run leaves: each pair's first added to what came from the other core, in the wide format. -/
abbrev total (g : Vec F S8x16864x1024 .bf16) (t : Vec F S4x16864x1024 .bf16) : Vec F S4x16864x1024 .bf16 :=
  truncf .bf16 (addf (extf .f32 (first g) bitsLt_bf16_f32) (extf .f32 t bitsLt_bf16_f32)) bitsLt_bf16_f32

/-- The blocks together fill the result. -/
theorem covers : ((cfgM m (tables m)).win 2).Covers := of_decide_eq_true (by sl_kernel_rfl)

/-- The body leaves the sum of its two blocks. -/
theorem left (c : Dev nD) (i : grid0.Coords) (a : Memref sig .tc .vmem S1x272x1024 .bf16) (ha : a.IsWhole)
    (b : Memref sig .tc .vmem S1x272x1024 .bf16) (hb : b.IsWhole) (o : Memref sig .tc .vmem S1x272x1024 .bf16) (ho : o.IsWhole)
    (x y : Vec F S1x272x1024 .bf16) (w : TbBuf0 (F := F) c tbM0_0) : out0_A_2 c i a ha b hb o ho x y w = k0_pay1 x y := by
  frame_out
  try rw [ha.read_unread, hb.read_unread]

/-- So the result is the whole sum. -/
theorem final (c : Dev nD) : (dats m (tables m) 0 c).arrAt 2 (cfgM m (tables m)).N
    = total (m ((c : Thread nD τ).loc main_arg0)) (m ((c : Thread nD τ).loc main_arg1)) := by
  refine (dats m (tables m) 0 c).arrAt_eq_of_covers 2 _ (covers m) fun t hf y => ?_
  blk_simp
  rw [after0_2]
  unfold outsAt0
  refine (congrFun (left c _ _ _ _ _ _ _ _ _ _) y).trans ?_
  have e0 : ∀ y : S1x272x1024.Idx, iblk m (tables m) c 0 t y = first (m ((c : Thread nD τ).loc main_arg0)) ((((cfgM m (tables m)).win 2).blk t).view.emb y) := fun y => by
    refine (congrFun (V_main_arg0 m c) _).trans ?_
    refine congrArg (m ((c : Thread nD τ).loc main_arg0)) (funext fun a => Fin.ext ?_)
    have p := place m (grid0.coords t)
    have q := place_out (grid0.coords t)
    have y0 : (y 0).val < 1 := (y 0).isLt
    match a with
    | ⟨0, _⟩ =>
      show cc0_transform_0 inb_S1_S1_0 numel1_S1 (tbl m) (grid0.coords t) 0 * 1 + 1 * (y 0).val = 2 * (cc0_transform_2 (grid0.coords t) 0 * 1 + 1 * (y 0).val)
      rw [p, q]
      show 2 * (grid0.coords t 0).val * 1 + 1 * (y 0).val = 2 * ((grid0.coords t 0).val * 1 + 1 * (y 0).val)
      omega
    | ⟨1, _⟩ =>
      show cc0_transform_0 inb_S1_S1_0 numel1_S1 (tbl m) (grid0.coords t) 1 * 272 + 1 * (y 1).val = cc0_transform_2 (grid0.coords t) 1 * 272 + 1 * (y 1).val
      rw [p, q]; rfl
    | ⟨2, _⟩ =>
      show cc0_transform_0 inb_S1_S1_0 numel1_S1 (tbl m) (grid0.coords t) 2 * 1024 + 1 * (y 2).val = cc0_transform_2 (grid0.coords t) 2 * 1024 + 1 * (y 2).val
      rw [p, q]; rfl
  exact congrArg₂ (fun a b => k0_pay1 (fun _ => a) (fun _ => b) y) (e0 y) (congrFun (V_main_arg1 m c) _)

/-- The kernel's run: the sums, and both arguments as they were. -/
theorem run : θ_run defs (onTc (τ := τ) (main (F := F))) ⟨m, fun _ => 0, ρ⟩ fun r => ∀ c : Dev nD,
    r.2.mem ((c : Thread nD τ).loc main_v1) = total (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h.1 c).1 2).trans (final m c), h.2 c⟩)
    (θ_run_and (run_main m ρ (tables m)) (unchanged m ρ (tables m)))

/-- The reference's two reshapes and slice read the first of each pair. -/
theorem first_eq (g : Vec F S8x16864x1024 .bf16) (h1 h2 h3) :
    shapeCast S4x16864x1024 (extractStridedSlice Cert.ChipSumRefIdeal.S4x1x16864x1024 ![0, 0, 0, 0]
      (shapeCast Cert.ChipSumRefIdeal.S4x2x16864x1024 g h1) h2) h3 = first g := by
  funext j
  have j0 : (j 0).val < 4 := (j 0).isLt
  have j1 : (j 1).val < 16864 := (j 1).isLt
  have j2 : (j 2).val < 1024 := (j 2).isLt
  rw [shapeCast_apply _ h3 j (fun | 0 => ⟨(j 0).val, j0⟩ | 1 => ⟨0, Nat.one_pos⟩ | 2 => ⟨(j 1).val, j1⟩ | 3 => ⟨(j 2).val, j2⟩) ?_,
    extractStridedSlice_apply _ _ h2 _ (fun | 0 => ⟨(j 0).val, j0⟩ | 1 => ⟨0, Nat.two_pos⟩ | 2 => ⟨(j 1).val, j1⟩ | 3 => ⟨(j 2).val, j2⟩) ?_,
    shapeCast_apply g h1 _ (fun | 0 => ⟨2 * (j 0).val, by show _ < 8; omega⟩ | 1 => ⟨(j 1).val, j1⟩ | 2 => ⟨(j 2).val, j2⟩) ?_]
  · rw [Shape.rowMajor_val_three, Shape.rowMajor_val_four]
    show (2 * (j 0).val * 16864 + (j 1).val) * 1024 + (j 2).val = (((j 0).val * 2 + 0) * 16864 + (j 1).val) * 1024 + (j 2).val
    omega
  · intro a
    match a with
    | ⟨0, _⟩ => exact (Nat.zero_add _).symm
    | ⟨1, _⟩ => rfl
    | ⟨2, _⟩ => exact (Nat.zero_add _).symm
    | ⟨3, _⟩ => exact (Nat.zero_add _).symm
  · rw [Shape.rowMajor_val_three, Shape.rowMajor_val_four]
    show (((j 0).val * 1 + 0) * 16864 + (j 1).val) * 1024 + (j 2).val = ((j 0).val * 16864 + (j 1).val) * 1024 + (j 2).val
    omega

/-- The kernel and the reference end in the same sums, at any floats. -/
theorem agrees (m' : (ℓ : Loc Cert.ChipSumRefIdeal.nD Cert.ChipSumRefIdeal.τ Cert.ChipSumRefIdeal.sig) → Buf (Elt F) ℓ)
    (ρ' : Dev Cert.ChipSumRefIdeal.nD → PrngReg)
    (hm : ∀ c : Dev nD, m' ((c : Thread nD τ).loc Cert.ChipSumRefIdeal.main_arg0) = m ((c : Thread nD τ).loc main_arg0)
      ∧ m' ((c : Thread nD τ).loc Cert.ChipSumRefIdeal.main_arg1) = m ((c : Thread nD τ).loc main_arg1)) :
    ∃ v : (c : Dev nD) → Buf (Elt F) ((c : Thread nD τ).loc main_v1),
      θ_run defs (onTc (τ := τ) (main (F := F))) ⟨m, fun _ => 0, ρ⟩ (fun r => ∀ c : Dev nD,
        r.2.mem ((c : Thread nD τ).loc main_v1) = v c
        ∧ r.2.mem ((c : Thread nD τ).loc main_arg0) = m ((c : Thread nD τ).loc main_arg0)
        ∧ r.2.mem ((c : Thread nD τ).loc main_arg1) = m ((c : Thread nD τ).loc main_arg1))
      ∧ θ_run Cert.ChipSumRefIdeal.defs (onTc (τ := Cert.ChipSumRefIdeal.τ) (Cert.ChipSumRefIdeal.main (F := F))) ⟨m', fun _ => 0, ρ'⟩ (fun r =>
        ∀ c : Dev Cert.ChipSumRefIdeal.nD,
        r.2.mem ((c : Thread nD τ).loc Cert.ChipSumRefIdeal.main_v6) = v c
        ∧ r.2.mem ((c : Thread nD τ).loc Cert.ChipSumRefIdeal.main_arg0) = m' ((c : Thread nD τ).loc Cert.ChipSumRefIdeal.main_arg0)
        ∧ r.2.mem ((c : Thread nD τ).loc Cert.ChipSumRefIdeal.main_arg1) = m' ((c : Thread nD τ).loc Cert.ChipSumRefIdeal.main_arg1)) :=
  ⟨_, run m ρ, (θ_run Cert.ChipSumRefIdeal.defs _ _).mono (fun _ h c => by
    obtain ⟨h1, h2⟩ := h c
    obtain ⟨e0, e1⟩ := hm c
    refine ⟨h1.trans ?_, h2⟩
    rw [e0, e1, first_eq]) (Cert.ChipSumRefIdeal.Value.run m' ρ')⟩

/-- The plain program's frame is the same run's. -/
theorem plain : Cert.quiescent_ChipSum := fun m g _ => by
  rw [same]
  exact Gen.frame (F := Bits) m g (tables m)

/-- The plain program ends in the reference's sums bit for bit. -/
theorem exact_bits : Cert.bitexact_ChipSum_ChipSumRef := fun m g m' g' _ hm => by
  rw [same]
  exact agrees (F := Bits) m g m' g' hm

end Cert.ChipSumIdeal
-- ==== Proof.AdamBigValue.lean ====
module
public import proofs.«01_k».proof.Defs
public import proofs.«01_k».proof.Proof.Gen.AdamBig
public import proofs.«01_k».proof.Proof.Gen.AdamBigIdeal.Frame
public import proofs.«01_k».proof.Proof.Gen.AdamBigRefIdeal.Run
public import Idealize.ShloMosaic.Lib.Pipeline.ValueKit
public import Idealize.ShloMosaic.Lib.Pointwise

/-!
The AdamW step of the packed big weights. The kernel walks over the rows in 62 blocks and applies at
each what the reference says of whole arrays; the two differ only in the order in which the four
parts of the gradient are added.
-/

@[expose] public section

namespace Cert.AdamBigIdeal

open Idealize.ShloMosaic Idealize.ShloMosaic.TcCoe Idealize.SL.Sem
open Gen

set_option maxRecDepth 16384

variable {F : FTy → Type} [FloatOps F]
variable (m : (ℓ : Loc nD τ sig) → Buf (Elt F) ℓ) (ρ : Dev nD → PrngReg)

/-- The plain program's body table is this one, word for word. -/
theorem same : Cert.AdamBig.defs (F := F) = defs (F := F) := by
  refine congrArg (Pipeline.defs _) (congrArg Defs.onTc (funext fun l => funext fun x => ?_))
  match l, x with
  | 0, (t, s) => rfl

/-- The prefetched word is zero. -/
theorem word (j : S1.Idx) : tbl m 0 j = 0#32 := by
  show (StableHlo.after hostOps0 (fun b => m (0, b)) main_v2) j = 0#32
  after_results
  rfl

/-- So the first window runs through the stack's first array. -/
theorem place (i : grid0.Coords) : cc0_transform_0 inb_S1_S1_0 numel1_S1 (tbl m) i = ![0, (i 0).val, 0] := by
  have h0 : (i 0).val < 62 := (i 0).isLt
  unfold cc0_transform_0
  dsimp only
  rw [show (tbl m).at 0 (Rect.unit (s := S1) ![0] S1.size inb_S1_S1_0) numel1_S1 = 0#32 from word m _]
  refine funext fun a => ?_
  match a with
  | ⟨0, _⟩ => rfl
  | ⟨1, _⟩ => show (BitVec.ofNat 32 (i 0).val).toNat = (i 0).val; simp; omega
  | ⟨2, _⟩ => rfl

/-- Every block that the kernel reads lies in the array. -/
theorem tables : Ok m := fun i => by
  have h0 : (i 0).val < 62 := (i 0).isLt
  refine ⟨fun a => ?_, .inr (Affine.block_words_dvd (of_decide_eq_true rfl) (by decide))⟩
  rw [place]
  match a with
  | ⟨0, _⟩ => show (0 + 1) * 1 ≤ 4; omega
  | ⟨1, _⟩ => show ((i 0).val + 1) * 272 ≤ 16864; omega
  | ⟨2, _⟩ => show (0 + 1) * 1024 ≤ 1024; omega

/-- Array `k` of a stack. -/
abbrev layer {n : Nat} (x : Vec F ⟨3, ![n, 16864, 1024]⟩ .bf16) (k : Fin n) : Vec F S16864x1024 .bf16 := fun j =>
  x fun | 0 => k | 1 => ⟨(j 0).val, (j 0).isLt⟩ | 2 => ⟨(j 1).val, (j 1).isLt⟩

/-- The gradient: the core's own part, then the three that came in. -/
abbrev grad (p : Vec F S4x16864x1024 .bf16) (t : Vec F S3x16864x1024 .bf16) : Vec F S16864x1024 .f32 :=
  addf (addf (addf (extf .f32 (layer p 0) bitsLt_bf16_f32) (extf .f32 (layer t 0) bitsLt_bf16_f32))
    (extf .f32 (layer t 1) bitsLt_bf16_f32)) (extf .f32 (layer t 2) bitsLt_bf16_f32)

/-- The first moment after the step. -/
abbrev mean (g x : Vec F S16864x1024 .f32) : Vec F S16864x1024 .f32 :=
  addf (mulf (broadcast _ (Scalar.ofBits .f32 0x3F666666#32)) x) (mulf (broadcast _ (Scalar.ofBits .f32 0x3DCCCCCD#32)) g)

/-- The second moment after the step. -/
abbrev square (g v : Vec F S16864x1024 .f32) : Vec F S16864x1024 .f32 :=
  addf (mulf (broadcast _ (Scalar.ofBits .f32 0x3F7FBE77#32)) v) (mulf (broadcast _ (Scalar.ofBits .f32 0x3A83126F#32)) (mulf g g))

/-- The step of a weight `w` whose moments are now `x` and `v`. -/
abbrev step (w x v : Vec F S16864x1024 .f32) : Vec F S16864x1024 .f32 :=
  mulf (broadcast _ (Scalar.ofBits .f32 0xBA83126F#32))
    (addf (divf (divf x (broadcast _ (Scalar.ofBits .f32 0x3F26BD02#32)))
        (addf (sqrt (divf v (broadcast _ (Scalar.ofBits .f32 0x3C231ACC#32)))) (broadcast _ (Scalar.ofBits .f32 0x322BCC77#32))))
      (mulf (broadcast _ (Scalar.ofBits .f32 0x3C23D70A#32)) w))

/-- What the run leaves: the gradient, the step and both moments. -/
abbrev outs (p : Vec F S4x16864x1024 .bf16) (t : Vec F S3x16864x1024 .bf16) (w x v : Vec F S16864x1024 .f32) :
    Vec F S16864x1024 .f32 × Vec F S16864x1024 .f32 × Vec F S16864x1024 .f32 × Vec F S16864x1024 .f32 :=
  (grad p t, step w (mean (grad p t) x) (square (grad p t) v), mean (grad p t) x, square (grad p t) v)

/-- An element of a block of a stack. -/
abbrev inner {n : Nat} (k : Fin n) (y : S272x1024.Idx) : (⟨3, ![n, 272, 1024]⟩ : Shape).Idx :=
  fun | 0 => k | 1 => ⟨(y 0).val, (y 0).isLt⟩ | 2 => ⟨(y 1).val, (y 1).isLt⟩

/-- A block with its first axis dropped. -/
theorem dropped {α : Type} (x : S1x272x1024.Idx → α) (h) : shapeCast S272x1024 x h = fun y => x (inner 0 y) := funext fun y =>
  shapeCast_apply x h y (inner 0 y) (by
    rw [Shape.rowMajor_val_three, Shape.rowMajor_val_two]
    show (0 * 272 + (y 0).val) * 1024 + (y 1).val = (y 0).val * 1024 + (y 1).val
    omega)

/-- One array of a block of a stack, loaded. -/
theorem loaded (x : Vec F S3x272x1024 .bf16) (k : Fin 3) (h) (y : S272x1024.Idx) :
    View.ld x (Rect.unit (s := S3x272x1024) ![k.val, 0, 0] S1x272x1024.size h) (inner 0 y) = x (inner k y) :=
  congrArg x (funext fun a => Fin.ext (match a with
    | ⟨0, _⟩ => by show k.val + 1 * 0 = k.val; omega
    | ⟨1, _⟩ => by show 0 + 1 * (y 0).val = (y 0).val; omega
    | ⟨2, _⟩ => by show 0 + 1 * (y 1).val = (y 1).val; omega))

/-- The gradient of a block, wherever the block lies. -/
theorem grad_block (x0 : Vec F S1x272x1024 .bf16) (x1 : Vec F S3x272x1024 .bf16) (p : Vec F S4x16864x1024 .bf16) (t : Vec F S3x16864x1024 .bf16)
    (e : S272x1024.Idx → S16864x1024.Idx) (h0 : ∀ y, x0 (inner 0 y) = layer p 0 (e y)) (h1 : ∀ k y, x1 (inner k y) = layer t k (e y)) (r0 r1 r2) :
    k0_pay2 x0 (View.ld x1 (Rect.unit (s := S3x272x1024) ![0, 0, 0] S1x272x1024.size r0))
      (View.ld x1 (Rect.unit (s := S3x272x1024) ![1, 0, 0] S1x272x1024.size r1))
      (View.ld x1 (Rect.unit (s := S3x272x1024) ![2, 0, 0] S1x272x1024.size r2))
    = fun y => grad p t (e y) := by
  have u {x y : FVec F S272x1024 .bf16} (h : x = y) : extf .f32 x bitsLt_bf16_f32 = extf .f32 y bitsLt_bf16_f32 := by rw [h]
  have q (k : Fin 3) (r) : shapeCast S272x1024 (View.ld x1 (Rect.unit (s := S3x272x1024) ![k.val, 0, 0] S1x272x1024.size r)) shapeCasts_S1x272x1024_S272x1024
      = fun y => layer t k (e y) := (dropped _ _).trans (funext fun y => (loaded x1 k r y).trans (h1 k y))
  exact congrArg₂ addf (congrArg₂ addf (congrArg₂ addf (u ((dropped _ _).trans (funext h0))) (u (q 0 r0))) (u (q 1 r1))) (u (q 2 r2))

/-- The body leaves a block of each of the four, wherever its blocks lie. -/
theorem left (c : Dev nD) (i : grid0.Coords) (a2 : Memref sig .tc .vmem S1x272x1024 .bf16) (h2 : a2.IsWhole)
    (a3 : Memref sig .tc .vmem S3x272x1024 .bf16) (h3 : a3.IsWhole) (a4 a5 a6 a7 a8 a9 a10 : Memref sig .tc .vmem S272x1024 .f32)
    (h4 : a4.IsWhole) (h5 : a5.IsWhole) (h6 : a6.IsWhole) (h7 : a7.IsWhole) (h8 : a8.IsWhole) (h9 : a9.IsWhole) (h10 : a10.IsWhole)
    (x0 : Vec F S1x272x1024 .bf16) (x1 : Vec F S3x272x1024 .bf16) (b : TbBuf0 (F := F) c tbM0_0)
    (p : Vec F S4x16864x1024 .bf16) (t : Vec F S3x16864x1024 .bf16) (w x v : Vec F S16864x1024 .f32) (e : S272x1024.Idx → S16864x1024.Idx)
    (k0 : ∀ y, x0 (inner 0 y) = layer p 0 (e y)) (k1 : ∀ k y, x1 (inner k y) = layer t k (e y)) :
    out0_A_5 c i a2 h2 a3 h3 a4 h4 a5 h5 a6 h6 a7 h7 a8 h8 a9 h9 a10 h10 x0 x1 (w ∘ e) (x ∘ e) (v ∘ e) b = (outs p t w x v).1 ∘ e
    ∧ out0_A_6 c i a2 h2 a3 h3 a4 h4 a5 h5 a6 h6 a7 h7 a8 h8 a9 h9 a10 h10 x0 x1 (w ∘ e) (x ∘ e) (v ∘ e) b = (outs p t w x v).2.1 ∘ e
    ∧ out0_A_7 c i a2 h2 a3 h3 a4 h4 a5 h5 a6 h6 a7 h7 a8 h8 a9 h9 a10 h10 x0 x1 (w ∘ e) (x ∘ e) (v ∘ e) b = (outs p t w x v).2.2.1 ∘ e
    ∧ out0_A_8 c i a2 h2 a3 h3 a4 h4 a5 h5 a6 h6 a7 h7 a8 h8 a9 h9 a10 h10 x0 x1 (w ∘ e) (x ∘ e) (v ∘ e) b = (outs p t w x v).2.2.2 ∘ e := by
  refine ⟨?_, ?_, ?_, ?_⟩
  · frame_out
    exact grad_block x0 x1 p t e k0 k1 _ _ _
  · frame_out
    unfold k0_pay1 k0_pay4 k0_pay5 k0_pay3
    rw [grad_block x0 x1 p t e k0 k1]
    rfl
  · frame_out
    unfold k0_pay3
    rw [grad_block x0 x1 p t e k0 k1]
    rfl
  · frame_out
    unfold k0_pay4
    rw [grad_block x0 x1 p t e k0 k1]
    rfl

/-- Where a block's element lies in the whole array. -/
abbrev spot (t : Fin (cfgM m (tables m)).N) : S272x1024.Idx → S16864x1024.Idx := (((cfgM m (tables m)).win 5).blk t).view.emb

/-- The first window's block lies in the stack's first array. -/
theorem own (c : Dev nD) (t : Fin (cfgM m (tables m)).N) (y : S272x1024.Idx) :
    (iblk m (tables m) c 0 t : Vec F S1x272x1024 .bf16) (inner 0 y) = layer (m ((c : Thread nD τ).loc main_arg0)) 0 (spot m t y) := by
  refine (congrFun (V_main_arg0 m c) _).trans ?_
  refine congrArg (m ((c : Thread nD τ).loc main_arg0)) (funext fun a => Fin.ext ?_)
  have q := place m (grid0.coords t)
  match a with
  | ⟨0, _⟩ =>
    show cc0_transform_0 inb_S1_S1_0 numel1_S1 (tbl m) (grid0.coords t) 0 * 1 + 1 * 0 = 0
    rw [q]; rfl
  | ⟨1, _⟩ =>
    show cc0_transform_0 inb_S1_S1_0 numel1_S1 (tbl m) (grid0.coords t) 1 * 272 + 1 * (y 0).val = (BitVec.ofNat 32 (grid0.coords t 0).val).toNat * 272 + 1 * (y 0).val
    have h0 : (grid0.coords t 0).val < 62 := (grid0.coords t 0).isLt
    rw [q, BitVec.toNat_ofNat, Nat.mod_eq_of_lt (by omega)]
    rfl
  | ⟨2, _⟩ =>
    show cc0_transform_0 inb_S1_S1_0 numel1_S1 (tbl m) (grid0.coords t) 2 * 1024 + 1 * (y 1).val = 0 * 1024 + 1 * (y 1).val
    rw [q]; rfl

/-- The second window's block lies at the same rows of all three arrays of the other stack. -/
theorem came (c : Dev nD) (t : Fin (cfgM m (tables m)).N) (k : Fin 3) (y : S272x1024.Idx) :
    (iblk m (tables m) c 1 t : Vec F S3x272x1024 .bf16) (inner k y) = layer (m ((c : Thread nD τ).loc main_arg1)) k (spot m t y) := by
  refine (congrFun (V_main_arg1 m c) _).trans ?_
  refine congrArg (m ((c : Thread nD τ).loc main_arg1)) (funext fun a => Fin.ext ?_)
  match a with
  | ⟨0, _⟩ => show 0 * 3 + 1 * k.val = k.val; omega
  | ⟨1, _⟩ => rfl
  | ⟨2, _⟩ => rfl

/-- What the run leaves, of the memory it starts from. -/
abbrev ends (c : Dev nD) := outs (F := F) (m ((c : Thread nD τ).loc main_arg0)) (m ((c : Thread nD τ).loc main_arg1))
  (m ((c : Thread nD τ).loc main_arg2)) (m ((c : Thread nD τ).loc main_arg3)) (m ((c : Thread nD τ).loc main_arg4))

/-- Every grid step leaves its block of each of the four. -/
theorem block (c : Dev nD) (t : Fin (cfgM m (tables m)).N) :
    outsAt0 m (tables m) c t = ((ends m c).1 ∘ spot m t, (ends m c).2.1 ∘ spot m t, (ends m c).2.2.1 ∘ spot m t, (ends m c).2.2.2 ∘ spot m t) := by
  have w : (iblk m (tables m) c 2 t : Vec F S272x1024 .f32) = m ((c : Thread nD τ).loc main_arg2) ∘ spot m t := funext fun y => congrFun (V_main_arg2 m c) _
  have x : (iblk m (tables m) c 3 t : Vec F S272x1024 .f32) = m ((c : Thread nD τ).loc main_arg3) ∘ spot m t := funext fun y => congrFun (V_main_arg3 m c) _
  have v : (iblk m (tables m) c 4 t : Vec F S272x1024 .f32) = m ((c : Thread nD τ).loc main_arg4) ∘ spot m t := funext fun y => congrFun (V_main_arg4 m c) _
  obtain ⟨e5, e6, e7, e8⟩ := left c (grid0.coords t) (ms0_0 m (tables m) t) (hs0_0 m (tables m) t) (ms0_1 m (tables m) t) (hs0_1 m (tables m) t)
    (ms0_2 m (tables m) t) (ms0_3 m (tables m) t) (ms0_4 m (tables m) t) (ms0_5 m (tables m) t) (ms0_6 m (tables m) t) (ms0_7 m (tables m) t) (ms0_8 m (tables m) t)
    (hs0_2 m (tables m) t) (hs0_3 m (tables m) t) (hs0_4 m (tables m) t) (hs0_5 m (tables m) t) (hs0_6 m (tables m) t) (hs0_7 m (tables m) t) (hs0_8 m (tables m) t)
    (iblk m (tables m) c 0 t) (iblk m (tables m) c 1 t) (tbl m 0) _ _
    (m ((c : Thread nD τ).loc main_arg2)) (m ((c : Thread nD τ).loc main_arg3)) (m ((c : Thread nD τ).loc main_arg4)) (spot m t) (own m c t) (came m c t)
  rw [← w, ← x, ← v] at e5 e6 e7 e8
  unfold outsAt0
  exact congrArg₂ Prod.mk e5 (congrArg₂ Prod.mk e6 (congrArg₂ Prod.mk e7 e8))

/-- The blocks together fill the four arrays. -/
theorem final (c : Dev nD) : (dats m (tables m) 0 c).arrAt 5 (cfgM m (tables m)).N = (ends m c).1
    ∧ (dats m (tables m) 0 c).arrAt 6 (cfgM m (tables m)).N = (ends m c).2.1
    ∧ (dats m (tables m) 0 c).arrAt 7 (cfgM m (tables m)).N = (ends m c).2.2.1
    ∧ (dats m (tables m) 0 c).arrAt 8 (cfgM m (tables m)).N = (ends m c).2.2.2 := by
  refine ⟨(dats m (tables m) 0 c).arrAt_eq_of_covers 5 _ (of_decide_eq_true (by sl_kernel_rfl)) fun t hf y => ?_,
    (dats m (tables m) 0 c).arrAt_eq_of_covers 6 _ (of_decide_eq_true (by sl_kernel_rfl)) fun t hf y => ?_,
    (dats m (tables m) 0 c).arrAt_eq_of_covers 7 _ (of_decide_eq_true (by sl_kernel_rfl)) fun t hf y => ?_,
    (dats m (tables m) 0 c).arrAt_eq_of_covers 8 _ (of_decide_eq_true (by sl_kernel_rfl)) fun t hf y => ?_⟩ <;> blk_simp
  · rw [after0_5, block]; rfl
  · rw [after0_6, block]; rfl
  · rw [after0_7, block]; rfl
  · rw [after0_8, block]; rfl

/-- The kernel's run: the gradient, the step, both moments, and every argument as it was. -/
theorem run : θ_run defs (onTc (τ := τ) (main (F := F))) ⟨m, fun _ => 0, ρ⟩ fun r => ∀ c : Dev nD,
    r.2.mem ((c : Thread nD τ).loc main_v3_0) = (ends m c).1
    ∧ r.2.mem ((c : Thread nD τ).loc main_v3_1) = (ends m c).2.1
    ∧ r.2.mem ((c : Thread nD τ).loc main_v3_2) = (ends m c).2.2.1
    ∧ r.2.mem ((c : Thread nD τ).loc main_v3_3) = (ends m c).2.2.2
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c =>
    ⟨((h.1 c).1 5).trans (final m c).1, ((h.1 c).1 6).trans (final m c).2.1, ((h.1 c).1 7).trans (final m c).2.2.1,
      ((h.1 c).1 8).trans (final m c).2.2.2, h.2 c⟩)
    (θ_run_and (run_main m ρ (tables m)) (unchanged m ρ (tables m)))

/-- Over the extended reals the reference's sum of three is the kernel's, added in turn. -/
theorem grad_eq (p : Vec Ideal S4x16864x1024 .bf16) (t : Vec Ideal S3x16864x1024 .bf16) (h1 h2)
    (h3 : S3x16864x1024.ReducesTo [0] S16864x1024) (h4) :
    addf (extf (F := Ideal) .f32 (shapeCast S16864x1024 (extractStridedSlice Cert.AdamBigRefIdeal.S1x16864x1024 ![0, 0, 0] p h1) h2) bitsLt_bf16_f32)
      (Host.reduceAdd (extf (F := Ideal) .f32 t bitsLt_bf16_f32) (constant Cert.AdamBigRefIdeal.S_ .f32 0x00000000#32) h3 h4) = grad p t := by
  funext j
  pointwise [grad]
  simp only [Fin.sum_univ_three]
  have l {n : Nat} (x : Vec Ideal ⟨3, ![n, 16864, 1024]⟩ .bf16) (k : Fin n) : layer x k j = x (ix3 k (j 0) (j 1)) :=
    congrArg x (funext fun a => match a with | ⟨0, _⟩ => rfl | ⟨1, _⟩ => rfl | ⟨2, _⟩ => rfl)
  rw [l, l, l, l, add_assoc, add_assoc, add_assoc]

/-- The kernel and the reference end in the same gradient, the same step and the same two moments. -/
theorem agrees : Cert.algebraic_AdamBigIdeal_AdamBigRefIdeal := fun m g m' g' _ hm =>
  ⟨fun c => _, fun c => _, fun c => _, fun c => _, run m g,
    (θ_run Cert.AdamBigRefIdeal.defs _ _).mono (fun r h c => by
      obtain ⟨h1, h2, h3, h4, h5⟩ := h c
      obtain ⟨e0, e1, e2, e3, e4⟩ := hm c
      refine ⟨h1.trans ?_, h2.trans ?_, h3.trans ?_, h4.trans ?_, h5⟩
      · rw [e0, e1, grad_eq]
      · rw [e0, e1, e2, e3, e4, grad_eq]; rfl
      · rw [e0, e1, e3, grad_eq]; rfl
      · rw [e0, e1, e4, grad_eq]; rfl) (Cert.AdamBigRefIdeal.Value.run m' g')⟩

set_option maxHeartbeats 2000000 in
/-- The plain program's frame is the same run's. -/
theorem plain : Cert.quiescent_AdamBig := fun m g _ => by
  rw [same]
  exact Gen.frame (F := Bits) m g (tables m)

end Cert.AdamBigIdeal
-- ==== Proof.Rms.lean ====
module
public import Idealize.ShloMosaic.Lib.Pipeline.ValueKit

/-!
The RMS norm over rows of 2048 elements and its gradient, element by element, in exact arithmetic. An
element depends on its own row alone, so a block of rows has the whole array's elements.
-/

@[expose] public section

namespace Cert.Rms

open Idealize.ShloMosaic

variable {n k : Nat}

/-- An array of rows. -/
abbrev Rows (n : Nat) := Vec Ideal ⟨2, ![n, 2048]⟩ .f32

/-- The mean of a row's entries. -/
noncomputable def mean (f : Fin 2048 → EReal) : EReal := Ideal.div (∑ l, f l) (Ideal.ofBits .f32 0x45000000#32)

/-- What the norm multiplies row `r` by. -/
noncomputable def scale (x : Rows n) (r : Fin n) : EReal :=
  Ideal.rsqrt (mean (fun l => x (ix2 r l) * x (ix2 r l)) + Ideal.ofBits .f32 0x358637BD#32)

/-- The norm. -/
noncomputable def normed (x : Rows n) (g : Rows 1) (r : Fin n) (l : Fin 2048) : EReal := x (ix2 r l) * scale x r * g (ix2 0 l)

/-- The gradient of the input. -/
noncomputable def back (x : Rows n) (g : Rows 1) (dy : Rows n) (r : Fin n) (l : Fin 2048) : EReal :=
  scale x r * (dy (ix2 r l) * g (ix2 0 l))
    - x (ix2 r l) * (scale x r * scale x r * scale x r) * mean fun k => dy (ix2 r k) * g (ix2 0 k) * x (ix2 r k)

/-- Row `r`'s part of the gradient of the gain. -/
noncomputable def part (x dy : Rows n) (r : Fin n) (l : Fin 2048) : EReal :=
  dy (ix2 r l) * x (ix2 r l) * scale x r

theorem scale_at {x : Rows n} {X : Rows k} {r : Fin n} {R : Fin k} (h : ∀ l, x (ix2 r l) = X (ix2 R l)) : scale x r = scale X R := by
  simp only [scale, h]

theorem normed_at {x : Rows n} {X : Rows k} {r : Fin n} {R : Fin k} (g : Rows 1) (h : ∀ l, x (ix2 r l) = X (ix2 R l)) (l : Fin 2048) :
    normed x g r l = normed X g R l := by
  simp only [normed, scale_at h, h]

theorem back_at {x dy : Rows n} {X DY : Rows k} {r : Fin n} {R : Fin k} (g : Rows 1) (h : ∀ l, x (ix2 r l) = X (ix2 R l))
    (h' : ∀ l, dy (ix2 r l) = DY (ix2 R l)) (l : Fin 2048) : back x g dy r l = back X g DY R l := by
  simp only [back, scale_at h, h, h']

theorem part_at {x dy : Rows n} {X DY : Rows k} {r : Fin n} {R : Fin k} (h : ∀ l, x (ix2 r l) = X (ix2 R l))
    (h' : ∀ l, dy (ix2 r l) = DY (ix2 R l)) (l : Fin 2048) : part x dy r l = part X DY R l := by
  simp only [part, scale_at h, h, h']

/-- A gradient of a gain that is summed in steps: step `t` of 16 adds the parts of its 256 rows, the first step stores. -/
theorem sum_of_steps {N : Nat} (hN : N = 16) (f : (t : Nat) → t < N → (⟨2, ![1, 2048]⟩ : Shape).Idx → EReal) (g : Fin 4096 → Fin 2048 → EReal)
    (h0 : ∀ t : Fin N, t.val % 16 = 0 → ∀ j, f t.val t.isLt j = ∑ r : Fin 256, g ⟨t.val * 256 + r.val, by have := t.isLt; omega⟩ (j 1))
    (hs : ∀ t : Fin N, ¬t.val % 16 = 0 → ∀ j, f t.val t.isLt j = f (t.val - 1) (Nat.lt_of_le_of_lt (Nat.sub_le _ _) t.isLt) j
      + ∑ r : Fin 256, g ⟨t.val * 256 + r.val, by have := t.isLt; omega⟩ (j 1))
    (t : Fin N) (ht : t.val % 16 = 15) (j : (⟨2, ![1, 2048]⟩ : Shape).Idx) : f t.val t.isLt j = ∑ r, g r (j 1) := by
  rw [Pipeline.eq_sum_fin_of_reset_step_apply_last f 16 (fun _ => (0 : EReal)) (fun t j => ∑ r : Fin 256, g ⟨t.val * 256 + r.val, by have := t.isLt; omega⟩ (j 1))
    (fun t h j => by rw [h0 t h, zero_add]) hs (le_of_eq hN) t (by have := t.isLt; omega), zero_add]
  exact Fin.sum_mul_add_congr (fun p r _ => rfl) (by rw [hN])

end Cert.Rms
-- ==== Proof.PreBwdValue.lean ====
module
public import proofs.«01_k».proof.Defs
public import proofs.«01_k».proof.Proof.Rms
public import proofs.«01_k».proof.Proof.Gen.PreBwdIdeal.Value
public import proofs.«01_k».proof.Proof.Gen.PreBwdRefIdeal.Run
public import Idealize.ShloMosaic.Lib.Pipeline.ValueKit

/-!
The gradient of the model's input. The kernel walks over the rows in 16 blocks of 256: each leaves its
rows of the input's gradient and adds its rows' parts to the gradient of the gain.
-/

@[expose] public section

namespace Cert.PreBwdIdeal

open Idealize.ShloMosaic Idealize.ShloMosaic.TcCoe Idealize.SL.Sem
open Gen Cert.Rms

set_option maxRecDepth 16384

/-- The body's gradient of the input. -/
theorem input (x dy res : Vec Ideal S256x2048 .f32) (g : Vec Ideal S1x2048 .f32) (j : S256x2048.Idx) :
    k0_pay3 x g dy res j = res j + back x g dy (j 0) (j 1) := by
  pointwise [k0_pay3, k0_pay2, back, scale, mean]

/-- A block's part of the gradient of the gain. -/
theorem gain (x dy : Vec Ideal S256x2048 .f32) (j : S1x2048.Idx) : k0_pay4 x dy j = ∑ r, part x dy r (j 1) := by
  pointwise [k0_pay4, k0_pay2, part, scale, mean]

variable (m : (ℓ : Loc nD τ sig) → Buf (Elt Ideal) ℓ) (ρ : Dev nD → PrngReg)

/-- Row `r` of block `t`. -/
abbrev row (t : Fin cfg0.N) (r : Fin 256) : Fin 4096 := ⟨t.val * 256 + r.val, by have := t.isLt; have : cfg0.N = 16 := N_0; omega⟩

/-- The point's coordinate is its number. -/
theorem at_point : ∀ t : Fin cfg0.N, (BitVec.ofNat 32 (grid0.coords t 0).val).toNat = t.val := by decide +kernel

/-- Where block `t`'s elements lie in the whole array. -/
theorem spot (t : Fin cfg0.N) (j : S256x2048.Idx) : ((cfg0.win 4).blk t).view.emb j = ix2 (row t (j 0)) (j 1) := by
  refine funext fun a => Fin.ext ?_
  match a with
  | ⟨0, _⟩ =>
    show (BitVec.ofNat 32 (grid0.coords t 0).val).toNat * 256 + 1 * (j 0).val = t.val * 256 + (j 0).val
    rw [at_point, Nat.one_mul]
  | ⟨1, _⟩ => show 0 * 2048 + 1 * (j 1).val = (j 1).val; omega

/-- The blocks that a step reads. -/
theorem reads (c : Dev nD) (t : Fin cfg0.N) (j : S256x2048.Idx) :
    (iblk m c 0 t : Vec Ideal S256x2048 .f32) j = m ((c : Thread nD τ).loc main_arg0) (ix2 (row t (j 0)) (j 1))
    ∧ (iblk m c 1 t : Vec Ideal S256x2048 .f32) j = m ((c : Thread nD τ).loc main_arg1) (ix2 (row t (j 0)) (j 1))
    ∧ (iblk m c 2 t : Vec Ideal S256x2048 .f32) j = m ((c : Thread nD τ).loc main_arg3) (ix2 (row t (j 0)) (j 1)) :=
  ⟨congrArg (m ((c : Thread nD τ).loc main_arg0)) (spot t j), congrArg (m ((c : Thread nD τ).loc main_arg1)) (spot t j),
    congrArg (m ((c : Thread nD τ).loc main_arg3)) (spot t j)⟩

/-- The gain is read whole. -/
theorem gains (c : Dev nD) (t : Fin cfg0.N) : (iblk m c 3 t : Vec Ideal S1x2048 .f32) = m ((c : Thread nD τ).loc main_arg2) :=
  funext fun j => congrArg (m ((c : Thread nD τ).loc main_arg2)) (funext fun a => Fin.ext (match a with
    | ⟨0, _⟩ => by show 0 * 1 + 1 * (j 0).val = (j 0).val; omega
    | ⟨1, _⟩ => by show 0 * 2048 + 1 * (j 1).val = (j 1).val; omega))

/-- The gradient of the input. -/
noncomputable abbrev dx (dy x : Vec Ideal S4096x2048 .f32) (g : Vec Ideal S1x2048 .f32) (res : Vec Ideal S4096x2048 .f32) : Vec Ideal S4096x2048 .f32 :=
  fun j => res j + back x g dy (j 0) (j 1)

/-- The gradient of the gain. -/
noncomputable abbrev dg (dy x : Vec Ideal S4096x2048 .f32) : Vec Ideal S1x2048 .f32 := fun j => ∑ r, part x dy r (j 1)

noncomputable abbrev ends (c : Dev nD) := dx (m ((c : Thread nD τ).loc main_arg0)) (m ((c : Thread nD τ).loc main_arg1))
  (m ((c : Thread nD τ).loc main_arg2)) (m ((c : Thread nD τ).loc main_arg3))

/-- Every step leaves its rows. -/
theorem left (c : Dev nD) (t : Fin cfg0.N) (j : S256x2048.Idx) :
    k0_pay3 (iblk m c 1 t) (iblk m c 3 t) (iblk m c 0 t) (iblk m c 2 t) j = ends m c (ix2 (row t (j 0)) (j 1)) := by
  rw [input, gains, (reads m c t j).2.2]
  exact congrArg (fun v : EReal => (_ : EReal) + v) (back_at _ (fun l => (reads m c t (ix2 (j 0) l)).2.1) (fun l => (reads m c t (ix2 (j 0) l)).1) _)

/-- Every step's part of the gradient of the gain. -/
theorem step (c : Dev nD) (t : Fin cfg0.N) (j : S1x2048.Idx) : k0_pay4 (iblk m c 1 t) (iblk m c 0 t) j
    = ∑ r, part (m ((c : Thread nD τ).loc main_arg1)) (m ((c : Thread nD τ).loc main_arg0)) (row t r) (j 1) := by
  rw [gain]
  exact Finset.sum_congr rfl fun r _ => part_at (fun l => (reads m c t (ix2 r l)).2.1) (fun l => (reads m c t (ix2 r l)).1) _

/-- The blocks' rows fill the array. -/
theorem final4 (c : Dev nD) : (dats m 0 c).arrAt 4 cfg0.N = ends m c :=
  (dats m 0 c).arrAt_eq_of_covers 4 _ (of_decide_eq_true (by sl_kernel_rfl)) fun t hf y => by
    blk_simp
    rw [after0_4]
    by_cases h : t.val % 16 = 0
    · rw [outsAt0_A m c t h (by have := lt_of_lt_of_eq t.isLt N_0; omega)]
      frame_out
      exact (left m c t _).trans (congrArg (ends m c) (spot t _).symm)
    · rw [outsAt0_B m c t h (by omega)]
      frame_out
      exact (left m c t _).trans (congrArg (ends m c) (spot t _).symm)

/-- The steps' parts add up to the whole sum. -/
theorem final5 (c : Dev nD) : (dats m 0 c).arrAt 5 cfg0.N = dg (m ((c : Thread nD τ).loc main_arg0)) (m ((c : Thread nD τ).loc main_arg1)) :=
  (dats m 0 c).arrAt_eq_of_covers 5 _ (of_decide_eq_true (by sl_kernel_rfl)) fun t hf y => by
    have h15 : t.val % 16 = 15 := (flush0_5 t).mp hf
    blk_simp
    rw [after0_5, Pipeline.eq_sum_fin_of_reset_step_apply_last (fun n h => (outsAt0 m c n h).2) 16 (fun _ => (0 : EReal))
      (fun t j => ∑ r, part (m ((c : Thread nD τ).loc main_arg1)) (m ((c : Thread nD τ).loc main_arg0)) (row t r) (j 1))
      (fun t h j => by
        rw [outsAt0_A m c t h (by have := lt_of_lt_of_eq t.isLt N_0; omega)]
        frame_out
        rw [step, zero_add])
      (fun t h j => by
        rw [outsAt0_B m c t h (by omega)]
        frame_out
        pointwise [k0_pay1]
        rw [← step])
      (le_of_eq N_0) t (by show t.val + 1 = cfg0.N; rw [show cfg0.N = 16 from N_0]; have := lt_of_lt_of_eq t.isLt N_0; omega), zero_add]
    rw [show (dg (m ((c : Thread nD τ).loc main_arg0)) (m ((c : Thread nD τ).loc main_arg1)) ((win0_5.blk t).view.emb y) : EReal)
      = ∑ r : Fin 4096, part (m ((c : Thread nD τ).loc main_arg1)) (m ((c : Thread nD τ).loc main_arg0)) r (y 1) from
      Finset.sum_congr rfl fun r _ => congrArg (part _ _ r) (Fin.ext (by show 0 * 2048 + 1 * (y 1).val = (y 1).val; omega))]
    exact Fin.sum_mul_add_congr (fun p r _ => rfl) (by rw [show cfg0.N = 16 from N_0])

/-- The kernel's run: both gradients, and every argument as it was. -/
theorem run : θ_run defs (onTc (τ := τ) (main (F := Ideal))) ⟨m, fun _ => 0, ρ⟩ fun r => ∀ c : Dev nD,
    r.2.mem ((c : Thread nD τ).loc main_v0_0) = ends m c
    ∧ r.2.mem ((c : Thread nD τ).loc main_v0_1) = dg (m ((c : Thread nD τ).loc main_arg0)) (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

/-- The kernel and the reference end in the same two gradients. -/
theorem agrees : Cert.algebraic_PreBwdIdeal_PreBwdRefIdeal := fun m g m' g' _ hm =>
  ⟨fun c => _, fun c => _, run m g,
    (θ_run Cert.PreBwdRefIdeal.defs _ _).mono (fun r h c => by
      obtain ⟨h1, h2, h3⟩ := h c
      obtain ⟨e0, e1, e2, e3⟩ := hm c
      refine ⟨h1.trans ?_, h2.trans ?_, h3⟩
      · rw [e0, e1, e2, e3]
        funext j
        pointwise [ends, dx, back, scale, mean]
      · rw [e0, e1]
        funext j
        pointwise [dg, part, scale, mean]) (Cert.PreBwdRefIdeal.Value.run m' g')⟩

end Cert.PreBwdIdeal
-- ==== Proof.FinalLossValue.lean ====
module
public import proofs.«01_k».proof.Defs
public import proofs.«01_k».proof.Proof.Rms
public import proofs.«01_k».proof.Proof.Gen.FinalLossIdeal.Value
public import proofs.«01_k».proof.Proof.Gen.FinalLossRefIdeal.Run
public import Idealize.ShloMosaic.Lib.Pipeline.ValueKit

/-!
The last layer's output, its loss and the gradients at it. The kernel walks over the rows in 16 blocks
of 256: each leaves its rows' gradients and adds its rows' parts to the gradient of the gain and to the
loss. The kernel halves every block's sum and multiplies by 1/2048, the reference halves the whole sum
and divides by 2048.
-/

@[expose] public section

namespace Cert.FinalLossIdeal

open Idealize.ShloMosaic Idealize.ShloMosaic.TcCoe Idealize.SL.Sem
open Gen Cert.Rms

set_option maxRecDepth 16384

/-! ## The two constants -/

theorem half_val : Ideal.ofBits .f32 0x3F000000#32 = ((1 / 2 : ℝ) : EReal) := by
  simp [Ideal.ofBits, Ideal.ieee, -EReal.coe_mul]; norm_num

/-- Multiplying by 1/2048 divides by 2048. -/
theorem shrink (x : EReal) : x * Ideal.ofBits .f32 0x3A000000#32 = Ideal.div x (Ideal.ofBits .f32 0x45000000#32) := by
  have h : Ideal.ofBits .f32 0x45000000#32 = ((2048 : ℝ) : EReal) := by
    simp [Ideal.ofBits, Ideal.ieee, -EReal.coe_mul]; norm_num
  have h' : Ideal.ofBits .f32 0x3A000000#32 = ((2048⁻¹ : ℝ) : EReal) := by
    simp [Ideal.ofBits, Ideal.ieee, -EReal.coe_mul]; norm_num
  rw [h, h', Ideal.div, if_neg (by norm_num [← EReal.coe_zero]), EReal.coe_inv]

/-- Half of a sum is the sum of the halves, whatever the terms. -/
theorem half_sum {n : Nat} (f : Fin n → EReal) :
    Ideal.ofBits .f32 0x3F000000#32 * ∑ i, f i = ∑ i, Ideal.ofBits .f32 0x3F000000#32 * f i :=
  map_sum (⟨⟨fun a => Ideal.ofBits .f32 0x3F000000#32 * a, mul_zero _⟩, fun a b => by
    show Ideal.ofBits .f32 0x3F000000#32 * (a + b) = _
    rw [half_val]
    exact EReal.left_distrib_of_nonneg_of_ne_top (EReal.coe_nonneg.mpr (by norm_num)) (EReal.coe_ne_top _) a b⟩ : EReal →+ EReal) f Finset.univ

/-! ## The formulas -/

section
variable {n k : Nat}

/-- The output less the target. -/
noncomputable def err (x f : Rows n) (g : Rows 1) (y : Rows n) (r : Fin n) (l : Fin 2048) : EReal :=
  x (ix2 r l) + f (ix2 r l) * scale f r * g (ix2 0 l) - y (ix2 r l)

/-- The gradient at the output. -/
noncomputable def slope (x f : Rows n) (g : Rows 1) (y : Rows n) : Rows n :=
  fun j => Ideal.div (err x f g y (j 0) (j 1)) (Ideal.ofBits .f32 0x45000000#32)

/-- A row's part of the loss. -/
noncomputable def cost (x f : Rows n) (g : Rows 1) (y : Rows n) (r : Fin n) : EReal :=
  Ideal.ofBits .f32 0x3F000000#32 * mean fun l => err x f g y r l * err x f g y r l

theorem err_at {x f y : Rows n} {X E Y : Rows k} {r : Fin n} {R : Fin k} (g : Rows 1) (hx : ∀ l, x (ix2 r l) = X (ix2 R l))
    (hf : ∀ l, f (ix2 r l) = E (ix2 R l)) (hy : ∀ l, y (ix2 r l) = Y (ix2 R l)) (l : Fin 2048) : err x f g y r l = err X E g Y R l := by
  simp only [err, scale_at hf, hx, hf, hy]

end

/-! ## The body at an element -/

variable (x f y : Vec Ideal S256x2048 .f32) (g : Vec Ideal S1x2048 .f32)

/-- The body's output less the target. -/
theorem miss (j : S256x2048.Idx) : k0_pay7 f g x y j = err x f g y (j 0) (j 1) := by
  pointwise [k0_pay7, err, scale, mean]

/-- The body's gradient at the output. -/
theorem tilt : k0_pay9 f g x y = slope x f g y := by
  funext j
  refine Eq.trans ?_ (shrink _)
  rw [← miss]
  pointwise [k0_pay9]

/-- The body's gradient at the sublayer's output. -/
theorem input (d : Vec Ideal S256x2048 .f32) (j : S256x2048.Idx) :
    k0_pay2 f g d (k0_pay10 f) (Scalar.ofBits .f32 0x358637BD#32) j = back f g d (j 0) (j 1) := by
  pointwise [k0_pay2, k0_pay1, k0_pay10, back, scale, mean]

/-- A block's part of the gradient of the gain. -/
theorem gain (d : Vec Ideal S256x2048 .f32) (j : S1x2048.Idx) :
    k0_pay3 f d (k0_pay10 f) (Scalar.ofBits .f32 0x358637BD#32) j = ∑ r, part f d r (j 1) := by
  pointwise [k0_pay3, k0_pay1, k0_pay10, part, scale, mean]

/-- A block's part of the loss, the same in all lanes. -/
theorem price (j : S1x128.Idx) : k0_pay5 (k0_pay8 f g x y) j = ∑ r, cost x f g y r := by
  simp only [cost]
  rw [← half_sum]
  pointwise [k0_pay5, k0_pay8, miss, mean]
  exact Fin.sum_univ_one _

/-! ## The blocks -/

variable (m : (ℓ : Loc nD τ sig) → Buf (Elt Ideal) ℓ) (ρ : Dev nD → PrngReg)

/-- Row `r` of block `t`. -/
abbrev row (t : Fin cfg0.N) (r : Fin 256) : Fin 4096 := ⟨t.val * 256 + r.val, by have := t.isLt; have : cfg0.N = 16 := N_0; omega⟩

/-- The point's coordinate is its number. -/
theorem at_point : ∀ t : Fin cfg0.N, (BitVec.ofNat 32 (grid0.coords t 0).val).toNat = t.val := by decide +kernel

/-- Where block `t`'s elements lie in the whole array. -/
theorem spot (t : Fin cfg0.N) (j : S256x2048.Idx) : ((cfg0.win 4).blk t).view.emb j = ix2 (row t (j 0)) (j 1) := by
  refine funext fun a => Fin.ext ?_
  match a with
  | ⟨0, _⟩ =>
    show (BitVec.ofNat 32 (grid0.coords t 0).val).toNat * 256 + 1 * (j 0).val = t.val * 256 + (j 0).val
    rw [at_point, Nat.one_mul]
  | ⟨1, _⟩ => show 0 * 2048 + 1 * (j 1).val = (j 1).val; omega

/-- The blocks that a step reads. -/
theorem reads (c : Dev nD) (t : Fin cfg0.N) (r : Fin 256) (l : Fin 2048) :
    (iblk m c 0 t : Vec Ideal S256x2048 .f32) (ix2 r l) = m ((c : Thread nD τ).loc main_arg0) (ix2 (row t r) l)
    ∧ (iblk m c 1 t : Vec Ideal S256x2048 .f32) (ix2 r l) = m ((c : Thread nD τ).loc main_arg1) (ix2 (row t r) l)
    ∧ (iblk m c 3 t : Vec Ideal S256x2048 .f32) (ix2 r l) = m ((c : Thread nD τ).loc main_arg3) (ix2 (row t r) l) :=
  ⟨congrArg (m ((c : Thread nD τ).loc main_arg0)) (spot t _), congrArg (m ((c : Thread nD τ).loc main_arg1)) (spot t _),
    congrArg (m ((c : Thread nD τ).loc main_arg3)) (spot t _)⟩

/-- The gain is read whole. -/
theorem gains (c : Dev nD) (t : Fin cfg0.N) : (iblk m c 2 t : Vec Ideal S1x2048 .f32) = m ((c : Thread nD τ).loc main_arg2) :=
  funext fun j => congrArg (m ((c : Thread nD τ).loc main_arg2)) (funext fun a => Fin.ext (match a with
    | ⟨0, _⟩ => by show 0 * 1 + 1 * (j 0).val = (j 0).val; omega
    | ⟨1, _⟩ => by show 0 * 2048 + 1 * (j 1).val = (j 1).val; omega))

/-! ## The results, of the four arguments -/

section
variable (c : Dev nD)

/-- The gradient at the output. -/
noncomputable abbrev dy : Vec Ideal S4096x2048 .f32 := slope (m ((c : Thread nD τ).loc main_arg0)) (m ((c : Thread nD τ).loc main_arg1))
  (m ((c : Thread nD τ).loc main_arg2)) (m ((c : Thread nD τ).loc main_arg3))

/-- The gradient at the sublayer's output, whose rounding to bf16 is nothing here. -/
noncomputable abbrev df : Vec Ideal S4096x2048 .bf16 := fun j =>
  back (m ((c : Thread nD τ).loc main_arg1)) (m ((c : Thread nD τ).loc main_arg2)) (dy m c) (j 0) (j 1)

/-- The gradient of the gain. -/
noncomputable abbrev dg : Vec Ideal S1x2048 .f32 := fun j => ∑ r, part (m ((c : Thread nD τ).loc main_arg1)) (dy m c) r (j 1)

/-- A row's part of the loss. -/
noncomputable abbrev toll (r : Fin 4096) : EReal := cost (m ((c : Thread nD τ).loc main_arg0)) (m ((c : Thread nD τ).loc main_arg1))
  (m ((c : Thread nD τ).loc main_arg2)) (m ((c : Thread nD τ).loc main_arg3)) r

/-- The loss, in all lanes. -/
noncomputable abbrev loss : Vec Ideal S1x128 .f32 := fun _ => ∑ r, toll m c r

end

/-! ## The steps -/

/-- The output less the target, at a step's rows. -/
theorem miss_at (c : Dev nD) (t : Fin cfg0.N) (r : Fin 256) (l : Fin 2048) :
    err (iblk m c 0 t) (iblk m c 1 t) (iblk m c 2 t) (iblk m c 3 t) r l = err (m ((c : Thread nD τ).loc main_arg0))
      (m ((c : Thread nD τ).loc main_arg1)) (m ((c : Thread nD τ).loc main_arg2)) (m ((c : Thread nD τ).loc main_arg3)) (row t r) l := by
  rw [gains]
  exact err_at _ (fun l => (reads m c t r l).1) (fun l => (reads m c t r l).2.1) (fun l => (reads m c t r l).2.2) l

/-- Every step leaves its rows of the gradient at the output. -/
theorem left4 (c : Dev nD) (t : Fin cfg0.N) (r : Fin 256) (l : Fin 2048) :
    k0_pay9 (iblk m c 1 t) (iblk m c 2 t) (iblk m c 0 t) (iblk m c 3 t) (ix2 r l) = dy m c (ix2 (row t r) l) := by
  rw [tilt]
  exact congrArg (Ideal.div · _) (miss_at m c t r l)

/-- Every step leaves its rows of the gradient at the sublayer's output. -/
theorem left5 (c : Dev nD) (t : Fin cfg0.N) (j : S256x2048.Idx) :
    k0_pay2 (iblk m c 1 t) (iblk m c 2 t) (k0_pay9 (iblk m c 1 t) (iblk m c 2 t) (iblk m c 0 t) (iblk m c 3 t)) (k0_pay10 (iblk m c 1 t))
      (Scalar.ofBits .f32 0x358637BD#32) j = df m c (ix2 (row t (j 0)) (j 1)) := by
  rw [input]
  refine (back_at _ (fun l => (reads m c t (j 0) l).2.1) (fun l => left4 m c t (j 0) l) _).trans ?_
  rw [gains]
  rfl

/-- Every step's part of the gradient of the gain. -/
theorem step6 (c : Dev nD) (t : Fin cfg0.N) (j : S1x2048.Idx) :
    k0_pay3 (iblk m c 1 t) (k0_pay9 (iblk m c 1 t) (iblk m c 2 t) (iblk m c 0 t) (iblk m c 3 t)) (k0_pay10 (iblk m c 1 t))
      (Scalar.ofBits .f32 0x358637BD#32) j = ∑ r, part (m ((c : Thread nD τ).loc main_arg1)) (dy m c) (row t r) (j 1) := by
  rw [gain]
  exact Finset.sum_congr rfl fun r _ => part_at (fun l => (reads m c t r l).2.1) (fun l => left4 m c t r l) _

/-- Every step's part of the loss. -/
theorem step7 (c : Dev nD) (t : Fin cfg0.N) (j : S1x128.Idx) :
    k0_pay5 (k0_pay8 (iblk m c 1 t) (iblk m c 2 t) (iblk m c 0 t) (iblk m c 3 t)) j = ∑ r, toll m c (row t r) := by
  rw [price]
  exact Finset.sum_congr rfl fun r _ => by simp only [cost, miss_at]

/-! ## The arrays after the last step -/

theorem final4 (c : Dev nD) : (dats m 0 c).arrAt 4 cfg0.N = dy m c :=
  (dats m 0 c).arrAt_eq_of_covers 4 _ (of_decide_eq_true (by sl_kernel_rfl)) fun t hf y => by
    have := lt_of_lt_of_eq t.isLt N_0
    blk_simp
    rw [after0_4]
    refine Eq.trans ?_ (congrArg (dy m c) (spot t _).symm)
    refine Eq.trans ?_ ((congrArg (k0_pay9 (iblk m c 1 t) (iblk m c 2 t) (iblk m c 0 t) (iblk m c 3 t)) (ix2_eta _)).symm.trans (left4 m c t _ _))
    by_cases h : t.val % 16 = 0
    · rw [outsAt0_A m c t h (by omega) h (by omega)]
      frame_out
    · rw [outsAt0_B m c t h (by omega) h (by omega)]
      frame_out

theorem final5 (c : Dev nD) : (dats m 0 c).arrAt 5 cfg0.N = df m c :=
  (dats m 0 c).arrAt_eq_of_covers 5 _ (of_decide_eq_true (by sl_kernel_rfl)) fun t hf y => by
    have := lt_of_lt_of_eq t.isLt N_0
    blk_simp
    rw [after0_5]
    refine Eq.trans ?_ ((left5 m c t _).trans (congrArg (df m c) (spot t _).symm))
    by_cases h : t.val % 16 = 0
    · rw [outsAt0_A m c t h (by omega) h (by omega)]
      frame_out
    · rw [outsAt0_B m c t h (by omega) h (by omega)]
      frame_out

theorem final6 (c : Dev nD) : (dats m 0 c).arrAt 6 cfg0.N = dg m c :=
  (dats m 0 c).arrAt_eq_of_covers 6 _ (of_decide_eq_true (by sl_kernel_rfl)) fun t hf y => by
    have h15 : t.val % 16 = 15 := (flush0_6 t).mp hf
    blk_simp
    rw [after0_6, Pipeline.eq_sum_fin_of_reset_step_apply_last (fun n h => (outsAt0 m c n h).2.2.1) 16 (fun _ => (0 : EReal))
      (fun t j => ∑ r, part (m ((c : Thread nD τ).loc main_arg1)) (dy m c) (row t r) (j 1))
      (fun t h j => by
        have := lt_of_lt_of_eq t.isLt N_0
        rw [outsAt0_A m c t h (by omega) h (by omega)]
        frame_out
        rw [step6, zero_add])
      (fun t h j => by
        rw [outsAt0_B m c t h (by omega) h (by omega)]
        frame_out
        pointwise [k0_pay4]
        rw [← step6]
        rfl)
      (le_of_eq N_0) t (by show t.val + 1 = cfg0.N; rw [show cfg0.N = 16 from N_0]; have := lt_of_lt_of_eq t.isLt N_0; omega), zero_add]
    rw [show (dg m c ((win0_6.blk t).view.emb y) : EReal) = ∑ r : Fin 4096, part (m ((c : Thread nD τ).loc main_arg1)) (dy m c) r (y 1) from
      Finset.sum_congr rfl fun r _ => congrArg (part _ _ r) (Fin.ext (by show 0 * 2048 + 1 * (y 1).val = (y 1).val; omega))]
    exact Fin.sum_mul_add_congr (fun p r _ => rfl) (by rw [show cfg0.N = 16 from N_0])

theorem final7 (c : Dev nD) : (dats m 0 c).arrAt 7 cfg0.N = loss m c :=
  (dats m 0 c).arrAt_eq_of_covers 7 _ (of_decide_eq_true (by sl_kernel_rfl)) fun t hf y => by
    have h15 : t.val % 16 = 15 := (flush0_7 t).mp hf
    blk_simp
    rw [after0_7, Pipeline.eq_sum_fin_of_reset_step_apply_last (fun n h => (outsAt0 m c n h).2.2.2) 16 (fun _ => (0 : EReal))
      (fun t _ => ∑ r, toll m c (row t r))
      (fun t h j => by
        have := lt_of_lt_of_eq t.isLt N_0
        rw [outsAt0_A m c t h (by omega) h (by omega)]
        frame_out
        rw [step7, zero_add])
      (fun t h j => by
        rw [outsAt0_B m c t h (by omega) h (by omega)]
        frame_out
        pointwise [k0_pay6]
        rw [← step7])
      (le_of_eq N_0) t (by show t.val + 1 = cfg0.N; rw [show cfg0.N = 16 from N_0]; have := lt_of_lt_of_eq t.isLt N_0; omega), zero_add]
    exact Fin.sum_mul_add_congr (fun p r _ => rfl) (by rw [show cfg0.N = 16 from N_0])

/-- The kernel's run: the gradients and the loss, and every argument as it was. -/
theorem run : θ_run defs (onTc (τ := τ) (main (F := Ideal))) ⟨m, fun _ => 0, ρ⟩ fun r => ∀ c : Dev nD,
    r.2.mem ((c : Thread nD τ).loc main_v0_0) = dy m c
    ∧ r.2.mem ((c : Thread nD τ).loc main_v0_1) = df m c
    ∧ r.2.mem ((c : Thread nD τ).loc main_v0_2) = dg m c
    ∧ r.2.mem ((c : Thread nD τ).loc main_v0_3) = loss m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

/-- The kernel and the reference end in the same gradients and the same loss. -/
theorem agrees : Cert.algebraic_FinalLossIdeal_FinalLossRefIdeal := fun m g m' g' _ hm =>
  ⟨fun c => _, fun c => _, fun c => _, fun c => _, run m g,
    (θ_run Cert.FinalLossRefIdeal.defs _ _).mono (fun r h c => by
      obtain ⟨h1, h2, h3, h4, h5⟩ := h c
      obtain ⟨e0, e1, e2, e3⟩ := hm c
      refine ⟨h1.trans ?_, h2.trans ?_, h3.trans ?_, h4.trans ?_, h5⟩
      · rw [e0, e1, e2, e3]
        funext j
        pointwise [dy, slope, err, scale, mean]
      · rw [Cert.FinalLossRefIdeal.Value.res_main_v53, e0, e1, e2, e3]
        funext j
        pointwise [df, dy, slope, err, back, scale, mean]
      · rw [e0, e1, e2, e3]
        funext j
        pointwise [dg, dy, slope, err, part, scale, mean]
      · rw [e0, e1, e2, e3]
        funext j
        refine Eq.trans ?_ (half_sum _)
        pointwise [err, scale, mean]) (Cert.FinalLossRefIdeal.Value.run m' g')⟩

end Cert.FinalLossIdeal
-- ==== Proof.PreNormValue.lean ====
module
public import proofs.«01_k».proof.Defs
public import proofs.«01_k».proof.Proof.Rms
public import proofs.«01_k».proof.Proof.Gen.PreNormIdeal.Value
public import proofs.«01_k».proof.Proof.Gen.PreNormRefIdeal.Run
public import Idealize.ShloMosaic.Lib.Pipeline.ValueKit

/-!
The norm before a mixer, 256 rows at a step.
-/

@[expose] public section

namespace Cert.PreNormIdeal

open Idealize.ShloMosaic Idealize.ShloMosaic.TcCoe Idealize.SL.Sem
open Gen Cert.Rms

set_option maxRecDepth 16384

/-- The body at an element. -/
theorem body (x : Vec Ideal S256x2048 .f32) (g : Vec Ideal S1x2048 .f32) (j : S256x2048.Idx) : k0_pay1 x g j = normed x g (j 0) (j 1) := by
  pointwise [k0_pay1, normed, scale, mean]

/-! ## The blocks -/

variable (m : (ℓ : Loc nD τ sig) → Buf (Elt Ideal) ℓ) (ρ : Dev nD → PrngReg)

/-- Row `r` of block `t`. -/
abbrev row (t : Fin cfg0.N) (r : Fin 256) : Fin 4096 := ⟨t.val * 256 + r.val, by have := t.isLt; have : cfg0.N = 16 := N_0; omega⟩

/-- The point's coordinate is its number. -/
theorem at_point : ∀ t : Fin cfg0.N, (BitVec.ofNat 32 (grid0.coords t 0).val).toNat = t.val := by decide +kernel

/-- Where block `t`'s elements lie in the whole array. -/
theorem spot (t : Fin cfg0.N) (j : S256x2048.Idx) : ((cfg0.win 0).blk t).view.emb j = ix2 (row t (j 0)) (j 1) := by
  refine funext fun a => Fin.ext ?_
  match a with
  | ⟨0, _⟩ =>
    show (BitVec.ofNat 32 (grid0.coords t 0).val).toNat * 256 + 1 * (j 0).val = t.val * 256 + (j 0).val
    rw [at_point, Nat.one_mul]
  | ⟨1, _⟩ => show 0 * 2048 + 1 * (j 1).val = (j 1).val; omega

/-- The rows that a step reads. -/
theorem reads (c : Dev nD) (t : Fin cfg0.N) (r : Fin 256) (l : Fin 2048) :
    (iblk m c 0 t : Vec Ideal S256x2048 .f32) (ix2 r l) = m ((c : Thread nD τ).loc main_arg0) (ix2 (row t r) l) :=
  congrArg (m ((c : Thread nD τ).loc main_arg0)) (spot t _)

/-- The gain is read whole. -/
theorem gains (c : Dev nD) (t : Fin cfg0.N) : (iblk m c 1 t : Vec Ideal S1x2048 .f32) = m ((c : Thread nD τ).loc main_arg1) :=
  funext fun j => congrArg (m ((c : Thread nD τ).loc main_arg1)) (funext fun a => Fin.ext (match a with
    | ⟨0, _⟩ => by show 0 * 1 + 1 * (j 0).val = (j 0).val; omega
    | ⟨1, _⟩ => by show 0 * 2048 + 1 * (j 1).val = (j 1).val; omega))

/-- The norm of the argument, whose rounding to bf16 is nothing here. -/
noncomputable abbrev out (c : Dev nD) : Vec Ideal S4096x2048 .bf16 := fun j =>
  normed (m ((c : Thread nD τ).loc main_arg0)) (m ((c : Thread nD τ).loc main_arg1)) (j 0) (j 1)

theorem final2 (c : Dev nD) : (dats m 0 c).arrAt 2 cfg0.N = out m c :=
  (dats m 0 c).arrAt_eq_of_covers 2 _ (of_decide_eq_true (by sl_kernel_rfl)) fun t hf y => by
    blk_simp
    rw [after0_2]
    refine Eq.trans ?_ (congrArg (out m c) (spot t y).symm)
    frame_out
    rw [body, gains]
    exact normed_at _ (reads m c t _) _

/-- The kernel's run: the norm, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final2 m c), (h c).2⟩) (Value.run_blocks m ρ)

/-- The kernel and the reference end in the same norm. -/
theorem agrees : Cert.algebraic_PreNormIdeal_PreNormRefIdeal := fun m g m' g' _ hm =>
  ⟨fun c => _, run m g,
    (θ_run Cert.PreNormRefIdeal.defs _ _).mono (fun r h c => by
      obtain ⟨h1, h2⟩ := h c
      obtain ⟨e0, e1⟩ := hm c
      refine ⟨h1.trans ?_, h2⟩
      rw [e0, e1]
      funext j
      pointwise [out, normed, scale, mean]) (Cert.PreNormRefIdeal.Value.run m' g')⟩

end Cert.PreNormIdeal
-- ==== Proof.PostPreValue.lean ====
module
public import proofs.«01_k».proof.Defs
public import proofs.«01_k».proof.Proof.Rms
public import proofs.«01_k».proof.Proof.Gen.PostPreIdeal.Value
public import proofs.«01_k».proof.Proof.Gen.PostPreRefIdeal.Run
public import Idealize.ShloMosaic.Lib.Pipeline.ValueKit

/-!
The residual after a mixer, with the norm of what the mixer gives, and the norm before the next, 256 rows at a
step.
-/

@[expose] public section

namespace Cert.PostPreIdeal

open Idealize.ShloMosaic Idealize.ShloMosaic.TcCoe Idealize.SL.Sem
open Gen Cert.Rms

set_option maxRecDepth 16384

/-- The sum of `x` and the norm of `f`. -/
noncomputable def onto {n : Nat} (x f : Rows n) (g : Rows 1) : Rows n := fun j => x j + normed f g (j 0) (j 1)

/-- The body's first result at an element. -/
theorem body (x f : Vec Ideal S256x2048 .f32) (g : Vec Ideal S1x2048 .f32) : k0_pay1 x f g = onto x f g := by
  funext j
  pointwise [k0_pay1, onto, normed, scale, mean]

/-- The body's second result at an element. -/
theorem body' (x f : Vec Ideal S256x2048 .f32) (g g' : Vec Ideal S1x2048 .f32) (j : S256x2048.Idx) :
    k0_pay2 x f g g' j = normed (onto x f g) g' (j 0) (j 1) := by
  rw [← body]
  pointwise [k0_pay2, normed, scale, mean]

/-! ## The blocks -/

variable (m : (ℓ : Loc nD τ sig) → Buf (Elt Ideal) ℓ) (ρ : Dev nD → PrngReg)

/-- Row `r` of block `t`. -/
abbrev row (t : Fin cfg0.N) (r : Fin 256) : Fin 4096 := ⟨t.val * 256 + r.val, by have := t.isLt; have : cfg0.N = 16 := N_0; omega⟩

/-- The point's coordinate is its number. -/
theorem at_point : ∀ t : Fin cfg0.N, (BitVec.ofNat 32 (grid0.coords t 0).val).toNat = t.val := by decide +kernel

/-- Where block `t`'s elements lie in the whole array. -/
theorem spot (t : Fin cfg0.N) (j : S256x2048.Idx) : ((cfg0.win 0).blk t).view.emb j = ix2 (row t (j 0)) (j 1) := by
  refine funext fun a => Fin.ext ?_
  match a with
  | ⟨0, _⟩ =>
    show (BitVec.ofNat 32 (grid0.coords t 0).val).toNat * 256 + 1 * (j 0).val = t.val * 256 + (j 0).val
    rw [at_point, Nat.one_mul]
  | ⟨1, _⟩ => show 0 * 2048 + 1 * (j 1).val = (j 1).val; omega

/-- The rows of the mixer that a step reads. -/
theorem reads (c : Dev nD) (t : Fin cfg0.N) (r : Fin 256) (l : Fin 2048) :
    (iblk m c 1 t : Vec Ideal S256x2048 .f32) (ix2 r l) = m ((c : Thread nD τ).loc main_arg1) (ix2 (row t r) l) :=
  congrArg (m ((c : Thread nD τ).loc main_arg1)) (spot t _)

/-- The first gain is read whole. -/
theorem gains (c : Dev nD) (t : Fin cfg0.N) : (iblk m c 2 t : Vec Ideal S1x2048 .f32) = m ((c : Thread nD τ).loc main_arg2) :=
  funext fun j => congrArg (m ((c : Thread nD τ).loc main_arg2)) (funext fun a => Fin.ext (match a with
    | ⟨0, _⟩ => by show 0 * 1 + 1 * (j 0).val = (j 0).val; omega
    | ⟨1, _⟩ => by show 0 * 2048 + 1 * (j 1).val = (j 1).val; omega))

/-- The second gain is read whole. -/
theorem gains' (c : Dev nD) (t : Fin cfg0.N) : (iblk m c 3 t : Vec Ideal S1x2048 .f32) = m ((c : Thread nD τ).loc main_arg3) :=
  funext fun j => congrArg (m ((c : Thread nD τ).loc main_arg3)) (funext fun a => Fin.ext (match a with
    | ⟨0, _⟩ => by show 0 * 1 + 1 * (j 0).val = (j 0).val; omega
    | ⟨1, _⟩ => by show 0 * 2048 + 1 * (j 1).val = (j 1).val; omega))

/-- The residual. -/
noncomputable abbrev res (c : Dev nD) : Vec Ideal S4096x2048 .f32 := onto (m ((c : Thread nD τ).loc main_arg0)) (m ((c : Thread nD τ).loc main_arg1))
  (m ((c : Thread nD τ).loc main_arg2))

/-- Its norm, whose rounding to bf16 is nothing here. -/
noncomputable abbrev out (c : Dev nD) : Vec Ideal S4096x2048 .bf16 := fun j =>
  normed (res m c) (m ((c : Thread nD τ).loc main_arg3)) (j 0) (j 1)

/-- Every step has its rows of the residual. -/
theorem left (c : Dev nD) (t : Fin cfg0.N) (r : Fin 256) (l : Fin 2048) :
    onto (iblk m c 0 t) (iblk m c 1 t) (iblk m c 2 t) (ix2 r l) = res m c (ix2 (row t r) l) := by
  rw [gains]
  exact congrArg₂ (· + ·) (congrArg (m ((c : Thread nD τ).loc main_arg0)) (spot t _))
    (normed_at _ (reads m c t r) l)

theorem final4 (c : Dev nD) : (dats m 0 c).arrAt 4 cfg0.N = res m c :=
  (dats m 0 c).arrAt_eq_of_covers 4 _ (of_decide_eq_true (by sl_kernel_rfl)) fun t hf y => by
    blk_simp
    rw [after0_4]
    refine Eq.trans ?_ (congrArg (res m c) (spot t y).symm)
    frame_out
    rw [body]
    exact (congrArg (onto (iblk m c 0 t) (iblk m c 1 t) (iblk m c 2 t)) (ix2_eta _)).symm.trans (left m c t _ _)

theorem final5 (c : Dev nD) : (dats m 0 c).arrAt 5 cfg0.N = out m c :=
  (dats m 0 c).arrAt_eq_of_covers 5 _ (of_decide_eq_true (by sl_kernel_rfl)) fun t hf y => by
    blk_simp
    rw [after0_5]
    refine Eq.trans ?_ (congrArg (out m c) (spot t y).symm)
    frame_out
    rw [body', gains']
    exact normed_at _ (fun l => left m c t _ l) _

/-- The kernel's run: the residual and its norm, and the arguments as they were. -/
theorem run : θ_run defs (onTc (τ := τ) (main (F := Ideal))) ⟨m, fun _ => 0, ρ⟩ fun r => ∀ c : Dev nD,
    r.2.mem ((c : Thread nD τ).loc main_v0_0) = res m c
    ∧ r.2.mem ((c : Thread nD τ).loc main_v0_1) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

/-- The kernel and the reference end in the same residual and the same norm. -/
theorem agrees : Cert.algebraic_PostPreIdeal_PostPreRefIdeal := fun m g m' g' _ hm =>
  ⟨fun c => _, fun c => _, run m g,
    (θ_run Cert.PostPreRefIdeal.defs _ _).mono (fun r h c => by
      obtain ⟨h1, h2, h3⟩ := h c
      obtain ⟨e0, e1, e2, e3⟩ := hm c
      refine ⟨h1.trans ?_, h2.trans ?_, h3⟩
      · rw [e0, e1, e2]
        funext j
        pointwise [res, onto, normed, scale, mean]
      · rw [e0, e1, e2, e3]
        funext j
        pointwise [out, res, onto, normed, scale, mean]) (Cert.PostPreRefIdeal.Value.run m' g')⟩

end Cert.PostPreIdeal
-- ==== Proof.Gate.lean ====
module
public import Idealize.ShloMosaic.Lib.Pointwise

/-!
The gate of a branch, in exact arithmetic.
-/

@[expose] public section

namespace Cert.Gate

open Idealize.ShloMosaic

/-- The logistic function. -/
noncomputable def gate (z : EReal) : EReal :=
  Ideal.div (Ideal.ofBits .f32 0x3F800000#32) (Ideal.ofBits .f32 0x3F800000#32 + Ideal.exp (-z))

end Cert.Gate
-- ==== Proof.MergeFwdValue.lean ====
module
public import proofs.«01_k».proof.Defs
public import proofs.«01_k».proof.Proof.Gate
public import proofs.«01_k».proof.Proof.Gen.MergeFwdIdeal.Value
public import proofs.«01_k».proof.Proof.Gen.MergeFwdRefIdeal.Run
public import Idealize.ShloMosaic.Lib.Pipeline.ValueKit
public import Idealize.ShloMosaic.Lib.Pipeline.ReadBack

/-!
The merge of the four branches: each branch times its gate, and the sum of the four. The kernel takes each block
of the result in 4 steps, a branch each, and adds the branches in a buffer that it copies out at the last step.
-/

@[expose] public section

namespace Cert.MergeFwdIdeal

open Idealize.ShloMosaic Idealize.ShloMosaic.TcCoe Idealize.SL.Sem
open Gen Cert.Gate

set_option maxRecDepth 16384

/-! ## The body at an element -/

/-- A branch's element `y` times its gate, with the gate's argument `z`. -/
noncomputable def gated (z y : EReal) : EReal := gate z * y

section
variable (z y : Vec Ideal S512x512 .f32)

theorem one (j : S512x512.Idx) : k0_pay1 z y j = gated (z j) (y j) := by
  rw [gated, gate, ← zero_sub]
  pointwise [k0_pay1]

theorem first (j : S512x512.Idx) : k0_pay2 z y j = gated (z j) (y j) := by
  rw [← one]
  pointwise [k0_pay2]

theorem next (s : Vec Ideal S512x512 .f32) (j : S512x512.Idx) : k0_pay3 z y s j = s j + gated (z j) (y j) := by
  rw [← one]
  pointwise [k0_pay3]

theorem last (s : Vec Ideal S512x512 .f32) (j : S512x512.Idx) : k0_pay4 s j = s j := by
  pointwise [k0_pay4]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 16 ∧ win0_0.index t (1 : Fin 2) = t.val % 4 * 4 + t.val / 4 % 4
    ∧ win0_2.index t (0 : Fin 2) = t.val / 16 ∧ win0_2.index t (1 : Fin 2) = t.val / 4 % 4 :=
  (by decide +kernel : ∀ t : Fin grid0.N, _)

/-- Lane `l` of branch `b`. -/
abbrev lane (b : Fin 4) (l : Fin 2048) : Fin 8192 := ⟨b.val * 2048 + l.val, by omega⟩

/-- The sum of the gated branches, whose rounding to bf16 is nothing here. -/
noncomputable abbrev out (c : Dev nD) : Vec Ideal S4096x2048 .bf16 := fun i => ∑ b : Fin 4,
  gated (m ((c : Thread nD τ).loc main_arg1) (ix2 (i 0) (lane b (i 1)))) (m ((c : Thread nD τ).loc main_arg0) (ix2 (i 0) (lane b (i 1))))

/-- Where step `s` of the run of `t` reads. -/
theorem spot (t : Fin cfg0.N) (s : Fin 4) (h : 4 * (t.val / 4) + s.val < cfg0.N) (j : S512x512.Idx) :
    ((cfg0.win 0).blk ⟨4 * (t.val / 4) + s.val, h⟩).view.emb j
      = ix2 ((((cfg0.win 2).blk t).view.emb j) 0) (lane s ((((cfg0.win 2).blk t).view.emb j) 1)) := by
  obtain ⟨-, -, e2, e3⟩ := at_point t
  obtain ⟨e0, e1, -, -⟩ := at_point ⟨4 * (t.val / 4) + s.val, h⟩
  have hs := s.isLt
  refine funext fun a => Fin.ext ?_
  match a with
  | ⟨0, _⟩ =>
    show win0_0.index ⟨4 * (t.val / 4) + s.val, _⟩ (0 : Fin 2) * 512 + 1 * (j 0).val = win0_2.index t (0 : Fin 2) * 512 + 1 * (j 0).val
    rw [e0, e2]; simp only; omega
  | ⟨1, _⟩ =>
    show win0_0.index ⟨4 * (t.val / 4) + s.val, _⟩ (1 : Fin 2) * 512 + 1 * (j 1).val = s.val * 2048 + (win0_2.index t (1 : Fin 2) * 512 + 1 * (j 1).val)
    rw [e1, e3]; simp only; omega

/-- The buffer holds the sum of the branches. -/
theorem whole (c : Dev nD) (t : Fin cfg0.N) (h : t.val % 4 = 3) (j : S512x512.Idx) :
    ((outsAt0 m c t.val t.isLt).2 j : EReal) = out m c (((cfg0.win 2).blk t).view.emb j) := by
  rw [Pipeline.eq_sum_fin_of_reset_step_apply_of_flush (fun n h => (outsAt0 m c n h).2) 4 (fun _ => (0 : EReal))
      (fun t j => gated ((iblk m c 1 t : Vec Ideal S512x512 .f32) j) ((iblk m c 0 t : Vec Ideal S512x512 .f32) j))
      (fun t h j => by
        rw [outsAt0_A m c t h (by omega) (by omega)]
        frame_out
        rw [first, zero_add])
      (fun t h j => by
        by_cases h3 : t.val % 4 = 3
        · rw [outsAt0_C m c t h (by omega) h3]
          frame_out
          rw [next, read_unread_whole]
        · rw [outsAt0_B m c t h (by omega) h3]
          frame_out
          rw [next, read_unread_whole])
      t h j, zero_add]
  exact Fin.sum_fin_congr fun s => congrArg₂ gated (congrArg (m ((c : Thread nD τ).loc main_arg1)) (spot t s (Pipeline.run_point_lt_of_flush t h s) j))
    (congrArg (m ((c : Thread nD τ).loc main_arg0)) (spot t s (Pipeline.run_point_lt_of_flush t h s) j))

theorem final2 (c : Dev nD) : (dats m 0 c).arrAt 2 cfg0.N = out m c :=
  (dats m 0 c).arrAt_eq_of_covers 2 _ (of_decide_eq_true (by sl_kernel_rfl)) fun t hf y => by
    have h3 : t.val % 4 = 3 := (flush0_2 t).mp hf
    blk_simp
    rw [after0_2]
    refine Eq.trans ?_ (whole m c t h3 y)
    rw [outsAt0_C m c t (by omega) (by omega) h3]
    frame_out
    rw [last]

/-- The kernel's run: the merged branches, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final2 m c), (h c).2⟩) (Value.run_blocks m ρ)

/-- The kernel and the reference end in the same sum. -/
theorem agrees : Cert.algebraic_MergeFwdIdeal_MergeFwdRefIdeal := fun m g m' g' _ hm =>
  ⟨fun c => _, run m g,
    (θ_run Cert.MergeFwdRefIdeal.defs _ _).mono (fun r h c => by
      obtain ⟨h1, h2⟩ := h c
      obtain ⟨e0, e1⟩ := hm c
      refine ⟨h1.trans ?_, h2⟩
      rw [e0, e1]
      funext j
      pointwise [out, gated, gate]) (Cert.MergeFwdRefIdeal.Value.run m' g')⟩

end Cert.MergeFwdIdeal
-- ==== Proof.MergeBwdValue.lean ====
module
public import proofs.«01_k».proof.Defs
public import proofs.«01_k».proof.Proof.Gate
public import proofs.«01_k».proof.Proof.Gen.MergeBwdIdeal.Value
public import proofs.«01_k».proof.Proof.Gen.MergeBwdRefIdeal.Run
public import Idealize.ShloMosaic.Lib.Pipeline.ValueKit

/-!
The gradients of the merge: of each branch and of its gate's argument. The kernel takes the gradient of the sum
four times, a branch each; the reference tiles it.
-/

@[expose] public section

namespace Cert.MergeBwdIdeal

open Idealize.ShloMosaic Idealize.ShloMosaic.TcCoe Idealize.SL.Sem
open Gen Cert.Gate

set_option maxRecDepth 16384

/-- The gradient of a branch, with the gradient `d` and the gate's argument `z`. -/
noncomputable def fall (z d : EReal) : EReal := d * gate z

/-- The gradient of a gate's argument `z`, with the branch's element `y` and the gradient `d`. -/
noncomputable def tilt (z d y : EReal) : EReal := d * y * gate z * (Ideal.ofBits .f32 0x3F800000#32 - gate z)

/-! ## The body at an element -/

section
variable (z d y : Vec Ideal S512x512 .f32) (j : S512x512.Idx)

theorem one : k0_pay1 z j = gate (z j) := by
  rw [gate, ← zero_sub]
  pointwise [k0_pay1]

theorem body : k0_pay2 z d j = fall (z j) (d j) := by
  rw [fall, ← one]
  pointwise [k0_pay2]

theorem body' : k0_pay3 z d y j = tilt (z j) (d j) (y j) := by
  rw [tilt, ← one]
  pointwise [k0_pay3]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 16 ∧ win0_0.index t (1 : Fin 2) = t.val / 4 % 4
    ∧ win0_1.index t (0 : Fin 2) = t.val / 16 ∧ win0_1.index t (1 : Fin 2) = t.val % 4 * 4 + t.val / 4 % 4 :=
  (by decide +kernel : ∀ t : Fin grid0.N, _)

/-- Where the gradient of the sum is read for an element of a branch. -/
abbrev under (i : S4096x8192.Idx) : S4096x2048.Idx := ix2 (i 0) ⟨(i 1).val % 2048, Nat.mod_lt _ (by decide)⟩

/-- Where step `t` reads the gradient of the sum. -/
theorem spot (t : Fin cfg0.N) (j : S512x512.Idx) : ((cfg0.win 0).blk t).view.emb j = under (((cfg0.win 1).blk t).view.emb j) := by
  obtain ⟨e0, e1, e2, e3⟩ := at_point t
  have hj : (j 1).val < 512 := (j 1).isLt
  refine funext fun a => Fin.ext ?_
  match a with
  | ⟨0, _⟩ =>
    show win0_0.index t (0 : Fin 2) * 512 + 1 * (j 0).val = win0_1.index t (0 : Fin 2) * 512 + 1 * (j 0).val
    rw [e0, e2]
  | ⟨1, _⟩ =>
    show win0_0.index t (1 : Fin 2) * 512 + 1 * (j 1).val = (win0_1.index t (1 : Fin 2) * 512 + 1 * (j 1).val) % 2048
    rw [e1, e3]; omega

/-- The gradient of the branches, whose rounding to bf16 is nothing here. -/
noncomputable abbrev dy (c : Dev nD) : Vec Ideal S4096x8192 .bf16 := fun i =>
  fall (m ((c : Thread nD τ).loc main_arg2) i) (m ((c : Thread nD τ).loc main_arg0) (under i))

/-- The gradient of the gates' arguments, whose rounding to bf16 is nothing here. -/
noncomputable abbrev dz (c : Dev nD) : Vec Ideal S4096x8192 .bf16 := fun i =>
  tilt (m ((c : Thread nD τ).loc main_arg2) i) (m ((c : Thread nD τ).loc main_arg0) (under i)) (m ((c : Thread nD τ).loc main_arg1) i)

theorem final3 (c : Dev nD) : (dats m 0 c).arrAt 3 cfg0.N = dy m c :=
  (dats m 0 c).arrAt_eq_of_covers 3 _ (of_decide_eq_true (by sl_kernel_rfl)) fun t hf y => by
    blk_simp
    rw [after0_3]
    frame_out
    rw [body]
    exact congrArg (fall (m ((c : Thread nD τ).loc main_arg2) (((cfg0.win 2).blk t).view.emb y)))
      (congrArg (m ((c : Thread nD τ).loc main_arg0)) (spot t y))

theorem final4 (c : Dev nD) : (dats m 0 c).arrAt 4 cfg0.N = dz m c :=
  (dats m 0 c).arrAt_eq_of_covers 4 _ (of_decide_eq_true (by sl_kernel_rfl)) fun t hf y => by
    blk_simp
    rw [after0_4]
    frame_out
    rw [body']
    exact congrArg (fun d : EReal => tilt (m ((c : Thread nD τ).loc main_arg2) (((cfg0.win 2).blk t).view.emb y)) d
      (m ((c : Thread nD τ).loc main_arg1) (((cfg0.win 1).blk t).view.emb y))) (congrArg (m ((c : Thread nD τ).loc main_arg0)) (spot t y))

/-- The kernel's run: the gradients, and the arguments as they were. -/
theorem run : θ_run defs (onTc (τ := τ) (main (F := Ideal))) ⟨m, fun _ => 0, ρ⟩ fun r => ∀ c : Dev nD,
    r.2.mem ((c : Thread nD τ).loc main_v0_0) = dy m c
    ∧ r.2.mem ((c : Thread nD τ).loc main_v0_1) = dz m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (Value.run_blocks m ρ)

/-- The reference's tile: four copies of the gradient of the sum, side by side. -/
theorem tile (d : S4096x2048.Idx → EReal) (h0 : S4096x2048.ShapeCasts Cert.MergeBwdRefIdeal.S1x4096x1x2048)
    (h1 : Cert.MergeBwdRefIdeal.S1x4096x1x2048.BroadcastsInDim Cert.MergeBwdRefIdeal.S1x4096x4x2048
      (![0, 1, 2, 3] : Fin 4 → Fin Cert.MergeBwdRefIdeal.S1x4096x4x2048.rank))
    (h2 : Cert.MergeBwdRefIdeal.S1x4096x4x2048.ShapeCasts S4096x8192) :
    shapeCast S4096x8192 (broadcastInDim Cert.MergeBwdRefIdeal.S1x4096x4x2048 ![0, 1, 2, 3] h1
      (shapeCast Cert.MergeBwdRefIdeal.S1x4096x1x2048 d h0)) h2 = fun i => d (under i) := by
  funext i
  have hi : (i 1).val < 8192 := (i 1).isLt
  have hm : (i 1).val % 2048 < 2048 := Nat.mod_lt _ (by decide)
  refine (_root_.Idealize.ShloMosaic.shapeCast_apply _ h2 i (ix4 0 (i 0) ⟨(i 1).val / 2048, by omega⟩ ⟨(i 1).val % 2048, hm⟩) ?_).trans
    ((broadcastInDim_apply _ h1 _ _ (ix4 0 (i 0) 0 ⟨(i 1).val % 2048, hm⟩) ?_).trans
      (_root_.Idealize.ShloMosaic.shapeCast_apply _ h0 _ (under i) ?_))
  · refine (Shape.rowMajor_val_four _).trans (Eq.trans ?_ (Shape.rowMajor_val_two _).symm)
    show ((0 * 4096 + (i 0).val) * 4 + (i 1).val / 2048) * 2048 + (i 1).val % 2048 = (i 0).val * 8192 + (i 1).val
    omega
  · intro a
    match a with
    | ⟨0, _⟩ => rfl
    | ⟨1, _⟩ => rfl
    | ⟨2, _⟩ => rfl
    | ⟨3, _⟩ => rfl
  · refine (Shape.rowMajor_val_two _).trans (Eq.trans ?_ (Shape.rowMajor_val_four _).symm)
    show (i 0).val * 2048 + (i 1).val % 2048 = ((0 * 4096 + (i 0).val) * 1 + 0) * 2048 + (i 1).val % 2048
    omega

/-- The kernel and the reference end in the same gradients. -/
theorem agrees : Cert.algebraic_MergeBwdIdeal_MergeBwdRefIdeal := fun m g m' g' _ hm =>
  ⟨fun c => _, fun c => _, run m g,
    (θ_run Cert.MergeBwdRefIdeal.defs _ _).mono (fun r h c => by
      obtain ⟨h1, h2, h3⟩ := h c
      obtain ⟨e0, e1, e2⟩ := hm c
      refine ⟨h1.trans ?_, h2.trans ?_, h3⟩
      · rw [e0, e2]
        clear h1 h2 h3 h
        rw [tile]
        funext j
        pointwise [dy, fall, gate, under]
      · rw [e0, e1, e2]
        clear h1 h2 h3 h
        rw [tile]
        funext j
        pointwise [dz, tilt, gate, under]) (Cert.MergeBwdRefIdeal.Value.run m' g')⟩

end Cert.MergeBwdIdeal
-- ==== Proof.Product.lean ====
module
public import Idealize.ShloMosaic.Lib.Pipeline.ValueKit

/-!
A product of two matrices, and how a buffer comes to hold it that adds up the products of blocks.
-/

@[expose] public section

namespace Cert.Product

open Idealize.ShloMosaic

/-- A matrix of `n` rows. -/
abbrev Mat (n k : Nat) := (⟨2, ![n, k]⟩ : Shape).Idx → EReal

/-- The product of two matrices. -/
noncomputable def prod {n k p : Nat} (a : Mat n k) (b : Mat k p) : Mat n p := fun j => ∑ l : Fin k, a (ix2 (j 0) l) * b (ix2 l (j 1))

/-- The transpose. -/
abbrev turned {n k : Nat} (a : Mat n k) : Mat k n := fun j => a (ix2 (j 1) (j 0))

/-- The four branches' gradients lie beside each other. Row or column `k` of the 2560 belongs to branch `k / 512`, the
last 1024 to the last one. -/
noncomputable def branch (dy : Mat 4096 8192) (k : Nat) : Mat 4096 2048 := fun i =>
  dy (ix2 (i 0) ⟨min (k / 512) 3 * 2048 + (i 1).val, by have : (i 1).val < 2048 := (i 1).isLt; omega⟩)

/-- An element of a product that is taken in runs of `J` steps: step `t % J` of a run takes its part of the contracted
axis, the first step stores and the others add. At a run's end the buffer `f` holds the whole sum. -/
theorem element_of_steps {N J n k p bn bk bp : Nat} [NeZero J] (a : Mat n k) (b : Mat k p) (A : Fin N → Mat bn bk) (B : Fin N → Mat bk bp)
    (f : (t : Nat) → t < N → Mat bn bp)
    (h0 : ∀ t : Fin N, t.val % J = 0 → ∀ j, f t.val t.isLt j = prod (A t) (B t) j)
    (hs : ∀ t : Fin N, ¬t.val % J = 0 → ∀ j,
      f t.val t.isLt j = f (t.val - 1) (Nat.lt_of_le_of_lt (Nat.sub_le _ _) t.isLt) j + prod (A t) (B t) j)
    (hk : k = J * bk) (t : Fin N) (h : t.val % J = J - 1) (j : (⟨2, ![bn, bp]⟩ : Shape).Idx) (i : (⟨2, ![n, p]⟩ : Shape).Idx)
    (hA : ∀ (s : Fin N) (l : Fin bk) (q : Fin k), s.val / J = t.val / J → q.val = s.val % J * bk + l.val → A s (ix2 (j 0) l) = a (ix2 (i 0) q))
    (hB : ∀ (s : Fin N) (l : Fin bk) (q : Fin k), s.val / J = t.val / J → q.val = s.val % J * bk + l.val → B s (ix2 l (j 1)) = b (ix2 q (i 1))) :
    f t.val t.isLt j = prod a b i := by
  rw [Pipeline.eq_sum_fin_of_reset_step_apply_of_flush f J (fun _ => (0 : EReal)) (fun t => prod (A t) (B t))
    (fun t h j => by rw [h0 t h, zero_add]) hs t h j, zero_add]
  refine Fin.sum_mul_add_congr (fun s r hl => ?_) hk
  have hd : (J * (t.val / J) + s.val) / J = t.val / J := by
    rw [Nat.mul_add_div (Nat.pos_of_ne_zero (NeZero.ne J)), Nat.div_eq_of_lt s.isLt, Nat.add_zero]
  have hm : (J * (t.val / J) + s.val) % J = s.val := by rw [Nat.mul_add_mod, Nat.mod_eq_of_lt s.isLt]
  exact congrArg₂ (· * ·)
    (hA ⟨J * (t.val / J) + s.val, Pipeline.run_point_lt_of_flush t h s⟩ r ⟨s.val * bk + r.val, hl⟩ hd (by rw [hm]))
    (hB ⟨J * (t.val / J) + s.val, Pipeline.run_point_lt_of_flush t h s⟩ r ⟨s.val * bk + r.val, hl⟩ hd (by rw [hm]))

/-- The block at row block `u` and column block `v` of a run. -/
theorem prod_of_steps {N J n k p bn bk bp : Nat} [NeZero J] (a : Mat n k) (b : Mat k p) (A : Fin N → Mat bn bk) (B : Fin N → Mat bk bp)
    (f : (t : Nat) → t < N → Mat bn bp)
    (h0 : ∀ t : Fin N, t.val % J = 0 → ∀ j, f t.val t.isLt j = prod (A t) (B t) j)
    (hs : ∀ t : Fin N, ¬t.val % J = 0 → ∀ j,
      f t.val t.isLt j = f (t.val - 1) (Nat.lt_of_le_of_lt (Nat.sub_le _ _) t.isLt) j + prod (A t) (B t) j)
    (u v : Nat → Nat)
    (hA : ∀ (t : Fin N) (r : Fin bn) (l : Fin bk) (i : Fin n) (q : Fin k), i.val = u (t.val / J) * bn + r.val →
      q.val = t.val % J * bk + l.val → A t (ix2 r l) = a (ix2 i q))
    (hB : ∀ (t : Fin N) (l : Fin bk) (r : Fin bp) (q : Fin k) (i : Fin p), q.val = t.val % J * bk + l.val →
      i.val = v (t.val / J) * bp + r.val → B t (ix2 l r) = b (ix2 q i))
    (hk : k = J * bk) (t : Fin N) (h : t.val % J = J - 1) (j : (⟨2, ![bn, bp]⟩ : Shape).Idx) (i : (⟨2, ![n, p]⟩ : Shape).Idx)
    (e0 : (i 0).val = u (t.val / J) * bn + (j 0).val) (e1 : (i 1).val = v (t.val / J) * bp + (j 1).val) :
    f t.val t.isLt j = prod a b i :=
  element_of_steps a b A B f h0 hs hk t h j i (fun s l q hd hq => hA s _ l _ q (by rw [hd]; exact e0) hq)
    (fun s l q hd hq => hB s l _ q _ hq (by rw [hd]; exact e1))

end Cert.Product
-- ==== Proof.MlpUpValue.lean ====
module
public import proofs.«01_k».proof.Defs
public import proofs.«01_k».proof.Proof.Gen.MlpUpIdeal.Value
public import proofs.«01_k».proof.Proof.Gen.MlpUpRefIdeal.Run
public import proofs.«01_k».proof.Proof.Product
public import Idealize.ShloMosaic.Lib.Pipeline.ReadBack

/-!
The first product of the last layer, and the squared positive part of it. The kernel takes each block of the
product in 2 steps, each with 1024 of the 2048 products of every element, and adds the steps' parts in a buffer
that it reads at the last step. The reference is one contraction.
-/

@[expose] public section

namespace Cert.MlpUpIdeal

open Idealize.ShloMosaic Idealize.ShloMosaic.TcCoe Idealize.SL.Sem
open Gen Cert.Product

set_option maxRecDepth 16384

/-- The squared positive part. -/
noncomputable def act (x : EReal) : EReal := max x (Ideal.ofBits .f32 0x00000000#32) * max x (Ideal.ofBits .f32 0x00000000#32)

/-! ## The body at an element -/

section
variable (a b : Vec Ideal S1024x1024 .bf16)

theorem first (j : S1024x1024.Idx) : k0_pay2 a b j = prod a b j := by
  pointwise [k0_pay2, k0_pay1, prod]

theorem next (s : Vec Ideal S1024x1024 .f32) (j : S1024x1024.Idx) :
    k0_pay3 a b s j = s j + prod a b j := by
  pointwise [k0_pay3, k0_pay1, prod]

theorem square (s : Vec Ideal S1024x1024 .f32) (j : S1024x1024.Idx) : k0_pay4 s j = act (s j) := by
  pointwise [k0_pay4, act]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 16 ∧ win0_0.index t (1 : Fin 2) = t.val % 2
    ∧ win0_1.index t (0 : Fin 2) = t.val % 2 ∧ win0_1.index t (1 : Fin 2) = t.val / 2 % 8
    ∧ win0_2.index t (0 : Fin 2) = t.val / 16 ∧ win0_2.index t (1 : Fin 2) = t.val / 2 % 8 :=
  (by decide +kernel : ∀ t : Fin grid0.N, _)

/-- The product of the two arguments. -/
noncomputable abbrev out (c : Dev nD) : Vec Ideal S4096x8192 .f32 :=
  prod (m ((c : Thread nD τ).loc main_arg0) : Vec Ideal S4096x2048 .bf16) (m ((c : Thread nD τ).loc main_arg1) : Vec Ideal S2048x8192 .bf16)

/-- Its squared positive part, whose rounding to bf16 is nothing here. -/
noncomputable abbrev sq (c : Dev nD) : Vec Ideal S4096x8192 .bf16 := fun j => act (out m c j)

/-- The buffer holds the sum of the steps' parts. -/
theorem whole (c : Dev nD) (t : Fin cfg0.N) (h : t.val % 2 = 1) (j : S1024x1024.Idx) :
    ((outsAt0 m c t.val t.isLt).2.2 j : EReal) = out m c (((cfg0.win 2).blk t).view.emb j) := by
  rw [Pipeline.eq_sum_fin_of_reset_step_apply_of_flush (fun n h => (outsAt0 m c n h).2.2) 2 (fun _ => (0 : EReal))
      (fun t => prod (iblk m c 0 t : Vec Ideal S1024x1024 .bf16) (iblk m c 1 t : Vec Ideal S1024x1024 .bf16))
      (fun t h j => by
        rw [outsAt0_A m c t h (by omega) (by omega)]
        frame_out
        rw [first, zero_add])
      (fun t h j => by
        rw [outsAt0_B m c t h (by omega) (by omega)]
        frame_out
        rw [next, read_unread_whole])
      t h j, zero_add]
  refine Fin.sum_mul_add_congr (fun p r hl => ?_)
  obtain ⟨-, -, -, -, e4, e5⟩ := at_point t
  obtain ⟨e0, e1, e2, e3, -, -⟩ := at_point ⟨2 * (t.val / 2) + p.val, Pipeline.run_point_lt_of_flush t h p⟩
  have hp := p.isLt
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ =>
      show win0_0.index ⟨2 * (t.val / 2) + p.val, _⟩ (0 : Fin 2) * 1024 + 1 * (j 0).val = win0_2.index t (0 : Fin 2) * 1024 + 1 * (j 0).val
      rw [e0, e4]; simp only; omega
    | ⟨1, _⟩ =>
      show win0_0.index ⟨2 * (t.val / 2) + p.val, _⟩ (1 : Fin 2) * 1024 + 1 * r.val = p.val * 1024 + r.val
      rw [e1]; simp only; omega
  · match a with
    | ⟨0, _⟩ =>
      show win0_1.index ⟨2 * (t.val / 2) + p.val, _⟩ (0 : Fin 2) * 1024 + 1 * r.val = p.val * 1024 + r.val
      rw [e2]; simp only; omega
    | ⟨1, _⟩ =>
      show win0_1.index ⟨2 * (t.val / 2) + p.val, _⟩ (1 : Fin 2) * 1024 + 1 * (j 1).val = win0_2.index t (1 : Fin 2) * 1024 + 1 * (j 1).val
      rw [e3, e5]; simp only; omega

theorem final2 (c : Dev nD) : (dats m 0 c).arrAt 2 cfg0.N = out m c :=
  (dats m 0 c).arrAt_eq_of_covers 2 _ (of_decide_eq_true (by sl_kernel_rfl)) fun t hf y => by
    have h1 : t.val % 2 = 1 := (flush0_2 t).mp hf
    blk_simp
    rw [after0_2]
    refine Eq.trans ?_ (whole m c t h1 y)
    rw [outsAt0_B m c t (by omega) h1 h1]
    frame_out

theorem final3 (c : Dev nD) : (dats m 0 c).arrAt 3 cfg0.N = sq m c :=
  (dats m 0 c).arrAt_eq_of_covers 3 _ (of_decide_eq_true (by sl_kernel_rfl)) fun t hf y => by
    have h1 : t.val % 2 = 1 := (flush0_3 t).mp hf
    blk_simp
    rw [after0_3]
    refine Eq.trans ?_ (congrArg act (whole m c t h1 y))
    rw [outsAt0_B m c t (by omega) h1 h1]
    frame_out
    rw [square]

/-- The kernel's run: the product and its squared positive part, and the arguments as they were. -/
theorem run : θ_run defs (onTc (τ := τ) (main (F := Ideal))) ⟨m, fun _ => 0, ρ⟩ fun r => ∀ c : Dev nD,
    r.2.mem ((c : Thread nD τ).loc main_v0_0) = out m c
    ∧ r.2.mem ((c : Thread nD τ).loc main_v0_1) = sq m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final2 m c), (h c).2.1.trans (final3 m c), (h c).2.2⟩) (Value.run_blocks m ρ)

/-- The kernel and the reference end in the same product and the same squares. -/
theorem agrees : Cert.algebraic_MlpUpIdeal_MlpUpRefIdeal := fun m g m' g' _ hm =>
  ⟨fun c => _, fun c => _, run m g,
    (θ_run Cert.MlpUpRefIdeal.defs _ _).mono (fun r h c => by
      obtain ⟨h1, h2, h3⟩ := h c
      obtain ⟨e0, e1⟩ := hm c
      refine ⟨h1.trans ?_, h2.trans ?_, h3⟩
      · rw [e0, e1]
        funext j
        pointwise [out, prod]
      · rw [e0, e1]
        funext j
        pointwise [sq, act, out, prod]) (Cert.MlpUpRefIdeal.Value.run m' g')⟩

end Cert.MlpUpIdeal
-- ==== Proof.MlpDownValue.lean ====
module
public import proofs.«01_k».proof.Defs
public import proofs.«01_k».proof.Proof.Gen.MlpDownIdeal.Value
public import proofs.«01_k».proof.Proof.Gen.MlpDownRefIdeal.Run
public import proofs.«01_k».proof.Proof.Product
public import Idealize.ShloMosaic.Lib.Pipeline.ReadBack

/-!
The MLP's second product. The kernel takes each block of the product in 8 steps,
each with 1024 of the 8192 products of every element, and adds the steps' parts in a buffer that it copies out at the
last step. The reference is one contraction.
-/

@[expose] public section

namespace Cert.MlpDownIdeal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod a b j := by
  pointwise [k0_pay2, k0_pay1, prod]

theorem next (s : Vec Ideal S1024x1024 .f32) (j : S1024x1024.Idx) : k0_pay3 a b s j = s j + prod a b j := by
  pointwise [k0_pay3, k0_pay1, prod]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 8 / 2 ∧ win0_0.index t (1 : Fin 2) = t.val % 8
    ∧ win0_1.index t (0 : Fin 2) = t.val % 8 ∧ win0_1.index t (1 : Fin 2) = t.val / 8 % 2
    ∧ win0_2.index t (0 : Fin 2) = t.val / 8 / 2 ∧ win0_2.index t (1 : Fin 2) = t.val / 8 % 2 :=
  (by decide +kernel : ∀ t : Fin grid0.N, _)

/-- The product. -/
noncomputable abbrev out (c : Dev nD) : Vec Ideal S4096x2048 .f32 :=
  prod (m ((c : Thread nD τ).loc main_arg0) : Vec Ideal S4096x8192 .bf16) (m ((c : Thread nD τ).loc main_arg1) : Vec Ideal S8192x2048 .bf16)

/-- What step `t` reads of the first argument. -/
theorem reads0 (c : Dev nD) (t : Fin cfg0.N) (r : Fin 1024) (l : Fin 1024) (i : Fin 4096) (q : Fin 8192)
    (hi : i.val = t.val / 8 / 2 * 1024 + r.val) (hq : q.val = t.val % 8 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 1024) (q : Fin 8192) (i : Fin 2048)
    (hq : q.val = t.val % 8 * 1024 + l.val) (hi : i.val = t.val / 8 % 2 * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3]; omega))

/-- The buffer holds the sum of the steps' parts. -/
theorem whole (c : Dev nD) (t : Fin cfg0.N) (h : t.val % 8 = 7) (j : S1024x1024.Idx) :
    ((outsAt0 m c t.val t.isLt).2 j : EReal) = out m c (((cfg0.win 2).blk t).view.emb j) :=
  have ⟨_, _, _, _, e4, e5⟩ := at_point t
  prod_of_steps (J := 8) _ _ (fun t => (iblk m c 0 t : Vec Ideal S1024x1024 .bf16))
    (fun t => (iblk m c 1 t : Vec Ideal S1024x1024 .bf16)) (fun n h => (outsAt0 m c n h).2)
    (fun t h j => by
      rw [outsAt0_A m c t h (by omega) (by omega)]
      frame_out
      rw [first])
    (fun t h j => by
      by_cases h1 : t.val % 8 = 7
      · rw [outsAt0_C m c t h (by omega) h1]
        frame_out
        rw [next, read_unread_whole]
      · rw [outsAt0_B m c t h (by omega) h1]
        frame_out
        rw [next, read_unread_whole])
    (· / 2) (· % 2) (reads0 m c) (reads1 m c) rfl t h j _
    (by show win0_2.index t (0 : Fin 2) * 1024 + 1 * (j 0).val = t.val / 8 / 2 * 1024 + (j 0).val; rw [e4]; omega)
    (by show win0_2.index t (1 : Fin 2) * 1024 + 1 * (j 1).val = t.val / 8 % 2 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 8 = 7 := (flush0_2 t).mp hf
    blk_simp
    rw [after0_2]
    refine Eq.trans ?_ (whole m c t h1 y)
    rw [outsAt0_C m c t (by omega) (by omega) h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_MlpDownIdeal_MlpDownRefIdeal := fun m g m' g' _ hm =>
  ⟨fun c => _, run m g,
    (θ_run Cert.MlpDownRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod]) (Cert.MlpDownRefIdeal.Value.run m' g')⟩

end Cert.MlpDownIdeal
-- ==== Proof.GateArgsValue.lean ====
module
public import proofs.«01_k».proof.Defs
public import proofs.«01_k».proof.Proof.Gen.GateArgsIdeal.Value
public import proofs.«01_k».proof.Proof.Gen.GateArgsRefIdeal.Run
public import proofs.«01_k».proof.Proof.Product
public import Idealize.ShloMosaic.Lib.Pipeline.ReadBack

/-!
The arguments of the branches' gates. The kernel takes each block of the product in 2 steps,
each with 1024 of the 2048 products of every element, and adds the steps' parts in a buffer that it copies out at the
last step. The reference is one contraction.
-/

@[expose] public section

namespace Cert.GateArgsIdeal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod a b j := by
  pointwise [k0_pay2, k0_pay1, prod]

theorem next (s : Vec Ideal S1024x1024 .f32) (j : S1024x1024.Idx) : k0_pay3 a b s j = s j + prod a b j := by
  pointwise [k0_pay3, k0_pay1, prod]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 2 / 8 ∧ win0_0.index t (1 : Fin 2) = t.val % 2
    ∧ win0_1.index t (0 : Fin 2) = t.val % 2 ∧ win0_1.index t (1 : Fin 2) = t.val / 2 % 8
    ∧ win0_2.index t (0 : Fin 2) = t.val / 2 / 8 ∧ win0_2.index t (1 : Fin 2) = t.val / 2 % 8 :=
  (by decide +kernel : ∀ t : Fin grid0.N, _)

/-- The product. -/
noncomputable abbrev out (c : Dev nD) : Vec Ideal S4096x8192 .f32 :=
  prod (m ((c : Thread nD τ).loc main_arg0) : Vec Ideal S4096x2048 .bf16) (m ((c : Thread nD τ).loc main_arg1) : Vec Ideal S2048x8192 .bf16)

/-- What step `t` reads of the first argument. -/
theorem reads0 (c : Dev nD) (t : Fin cfg0.N) (r : Fin 1024) (l : Fin 1024) (i : Fin 4096) (q : Fin 2048)
    (hi : i.val = t.val / 2 / 8 * 1024 + r.val) (hq : q.val = t.val % 2 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 1024) (q : Fin 2048) (i : Fin 8192)
    (hq : q.val = t.val % 2 * 1024 + l.val) (hi : i.val = t.val / 2 % 8 * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3]; omega))

/-- The buffer holds the sum of the steps' parts. -/
theorem whole (c : Dev nD) (t : Fin cfg0.N) (h : t.val % 2 = 1) (j : S1024x1024.Idx) :
    ((outsAt0 m c t.val t.isLt).2 j : EReal) = out m c (((cfg0.win 2).blk t).view.emb j) :=
  have ⟨_, _, _, _, e4, e5⟩ := at_point t
  prod_of_steps (J := 2) _ _ (fun t => (iblk m c 0 t : Vec Ideal S1024x1024 .bf16))
    (fun t => (iblk m c 1 t : Vec Ideal S1024x1024 .bf16)) (fun n h => (outsAt0 m c n h).2)
    (fun t h j => by
      rw [outsAt0_A m c t h (by omega) (by omega)]
      frame_out
      rw [first])
    (fun t h j => by
      rw [outsAt0_B m c t h (by omega) (by omega)]
      frame_out
      rw [next, read_unread_whole])
    (· / 8) (· % 8) (reads0 m c) (reads1 m c) rfl t h j _
    (by show win0_2.index t (0 : Fin 2) * 1024 + 1 * (j 0).val = t.val / 2 / 8 * 1024 + (j 0).val; rw [e4]; omega)
    (by show win0_2.index t (1 : Fin 2) * 1024 + 1 * (j 1).val = t.val / 2 % 8 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 2 = 1 := (flush0_2 t).mp hf
    blk_simp
    rw [after0_2]
    refine Eq.trans ?_ (whole m c t h1 y)
    rw [outsAt0_B m c t (by omega) h1 h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_GateArgsIdeal_GateArgsRefIdeal := fun m g m' g' _ hm =>
  ⟨fun c => _, run m g,
    (θ_run Cert.GateArgsRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod]) (Cert.GateArgsRefIdeal.Value.run m' g')⟩

end Cert.GateArgsIdeal
-- ==== Proof.MixInValue.lean ====
module
public import proofs.«01_k».proof.Defs
public import proofs.«01_k».proof.Proof.Gen.MixInIdeal.Value
public import proofs.«01_k».proof.Proof.Gen.MixInRefIdeal.Run
public import proofs.«01_k».proof.Proof.Product
public import Idealize.ShloMosaic.Lib.Pipeline.ReadBack

/-!
The input of the mixer's branches. The kernel takes each block of the product in 4 steps,
each with 512 of the 2048 products of every element, and adds the steps' parts in a buffer that it copies out at the
last step. The reference is one contraction.
-/

@[expose] public section

namespace Cert.MixInIdeal

open Idealize.ShloMosaic Idealize.ShloMosaic.TcCoe Idealize.SL.Sem
open Gen Cert.Product

set_option maxRecDepth 16384

/-! ## The body at an element -/

section
variable (a : Vec Ideal S512x512 .bf16) (b : Vec Ideal S512x3712 .bf16)

theorem first (j : S512x3712.Idx) : k0_pay2 a b j = prod a b j := by
  pointwise [k0_pay2, k0_pay1, prod]

theorem next (s : Vec Ideal S512x3712 .f32) (j : S512x3712.Idx) : k0_pay3 a b s j = s j + prod a b j := by
  pointwise [k0_pay3, k0_pay1, prod]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 4 / 1 ∧ win0_0.index t (1 : Fin 2) = t.val % 4
    ∧ win0_1.index t (0 : Fin 2) = t.val % 4 ∧ win0_1.index t (1 : Fin 2) = t.val / 4 % 1
    ∧ win0_2.index t (0 : Fin 2) = t.val / 4 / 1 ∧ win0_2.index t (1 : Fin 2) = t.val / 4 % 1 :=
  (by decide +kernel : ∀ t : Fin grid0.N, _)

/-- The product. -/
noncomputable abbrev out (c : Dev nD) : Vec Ideal S4096x3712 .f32 :=
  prod (m ((c : Thread nD τ).loc main_arg0) : Vec Ideal S4096x2048 .bf16) (m ((c : Thread nD τ).loc main_arg1) : Vec Ideal S2048x3712 .bf16)

/-- What step `t` reads of the first argument. -/
theorem reads0 (c : Dev nD) (t : Fin cfg0.N) (r : Fin 512) (l : Fin 512) (i : Fin 4096) (q : Fin 2048)
    (hi : i.val = t.val / 4 / 1 * 512 + r.val) (hq : q.val = t.val % 4 * 512 + l.val) :
    (iblk m c 0 t : Vec Ideal S512x512 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 512 + 1 * r.val = i.val; rw [e0]; omega
    | ⟨1, _⟩ => by show win0_0.index t (1 : Fin 2) * 512 + 1 * l.val = q.val; rw [e1]; omega))

/-- What step `t` reads of the second argument. -/
theorem reads1 (c : Dev nD) (t : Fin cfg0.N) (l : Fin 512) (r : Fin 3712) (q : Fin 2048) (i : Fin 3712)
    (hq : q.val = t.val % 4 * 512 + l.val) (hi : i.val = t.val / 4 % 1 * 3712 + r.val) :
    (iblk m c 1 t : Vec Ideal S512x3712 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 512 + 1 * l.val = q.val; rw [e2]; omega
    | ⟨1, _⟩ => by show win0_1.index t (1 : Fin 2) * 3712 + 1 * r.val = i.val; rw [e3]; omega))

/-- The buffer holds the sum of the steps' parts. -/
theorem whole (c : Dev nD) (t : Fin cfg0.N) (h : t.val % 4 = 3) (j : S512x3712.Idx) :
    ((outsAt0 m c t.val t.isLt).2 j : EReal) = out m c (((cfg0.win 2).blk t).view.emb j) :=
  have ⟨_, _, _, _, e4, e5⟩ := at_point t
  prod_of_steps (J := 4) _ _ (fun t => (iblk m c 0 t : Vec Ideal S512x512 .bf16))
    (fun t => (iblk m c 1 t : Vec Ideal S512x3712 .bf16)) (fun n h => (outsAt0 m c n h).2)
    (fun t h j => by
      rw [outsAt0_A m c t h (by omega) (by omega)]
      frame_out
      rw [first])
    (fun t h j => by
      by_cases h1 : t.val % 4 = 3
      · rw [outsAt0_C m c t h (by omega) h1]
        frame_out
        rw [next, read_unread_whole]
      · rw [outsAt0_B m c t h (by omega) h1]
        frame_out
        rw [next, read_unread_whole])
    (· / 1) (· % 1) (reads0 m c) (reads1 m c) rfl t h j _
    (by show win0_2.index t (0 : Fin 2) * 512 + 1 * (j 0).val = t.val / 4 / 1 * 512 + (j 0).val; rw [e4]; omega)
    (by show win0_2.index t (1 : Fin 2) * 3712 + 1 * (j 1).val = t.val / 4 % 1 * 3712 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 4 = 3 := (flush0_2 t).mp hf
    blk_simp
    rw [after0_2]
    refine Eq.trans ?_ (whole m c t h1 y)
    rw [outsAt0_C m c t (by omega) (by omega) h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_MixInIdeal_MixInRefIdeal := fun m g m' g' _ hm =>
  ⟨fun c => _, run m g,
    (θ_run Cert.MixInRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod]) (Cert.MixInRefIdeal.Value.run m' g')⟩

end Cert.MixInIdeal
-- ==== Proof.MixOutValue.lean ====
module
public import proofs.«01_k».proof.Defs
public import proofs.«01_k».proof.Proof.Gen.MixOutIdeal.Value
public import proofs.«01_k».proof.Proof.Gen.MixOutRefIdeal.Run
public import proofs.«01_k».proof.Proof.Product
public import Idealize.ShloMosaic.Lib.Pipeline.ReadBack

/-!
The output of the mixer. The kernel takes each block of the product in 2 steps,
each with 1024 of the 2048 products of every element, and adds the steps' parts in a buffer that it copies out at the
last step. The reference is one contraction.
-/

@[expose] public section

namespace Cert.MixOutIdeal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod a b j := by
  pointwise [k0_pay2, k0_pay1, prod]

theorem next (s : Vec Ideal S1024x1024 .f32) (j : S1024x1024.Idx) : k0_pay3 a b s j = s j + prod a b j := by
  pointwise [k0_pay3, k0_pay1, prod]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 2 / 2 ∧ win0_0.index t (1 : Fin 2) = t.val % 2
    ∧ win0_1.index t (0 : Fin 2) = t.val % 2 ∧ win0_1.index t (1 : Fin 2) = t.val / 2 % 2
    ∧ win0_2.index t (0 : Fin 2) = t.val / 2 / 2 ∧ win0_2.index t (1 : Fin 2) = t.val / 2 % 2 :=
  (by decide +kernel : ∀ t : Fin grid0.N, _)

/-- The product. -/
noncomputable abbrev out (c : Dev nD) : Vec Ideal S4096x2048 .f32 :=
  prod (m ((c : Thread nD τ).loc main_arg0) : Vec Ideal S4096x2048 .bf16) (m ((c : Thread nD τ).loc main_arg1) : Vec Ideal S2048x2048 .bf16)

/-- What step `t` reads of the first argument. -/
theorem reads0 (c : Dev nD) (t : Fin cfg0.N) (r : Fin 1024) (l : Fin 1024) (i : Fin 4096) (q : Fin 2048)
    (hi : i.val = t.val / 2 / 2 * 1024 + r.val) (hq : q.val = t.val % 2 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 1024) (q : Fin 2048) (i : Fin 2048)
    (hq : q.val = t.val % 2 * 1024 + l.val) (hi : i.val = t.val / 2 % 2 * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3]; omega))

/-- The buffer holds the sum of the steps' parts. -/
theorem whole (c : Dev nD) (t : Fin cfg0.N) (h : t.val % 2 = 1) (j : S1024x1024.Idx) :
    ((outsAt0 m c t.val t.isLt).2 j : EReal) = out m c (((cfg0.win 2).blk t).view.emb j) :=
  have ⟨_, _, _, _, e4, e5⟩ := at_point t
  prod_of_steps (J := 2) _ _ (fun t => (iblk m c 0 t : Vec Ideal S1024x1024 .bf16))
    (fun t => (iblk m c 1 t : Vec Ideal S1024x1024 .bf16)) (fun n h => (outsAt0 m c n h).2)
    (fun t h j => by
      rw [outsAt0_A m c t h (by omega) (by omega)]
      frame_out
      rw [first])
    (fun t h j => by
      rw [outsAt0_B m c t h (by omega) (by omega)]
      frame_out
      rw [next, read_unread_whole])
    (· / 2) (· % 2) (reads0 m c) (reads1 m c) rfl t h j _
    (by show win0_2.index t (0 : Fin 2) * 1024 + 1 * (j 0).val = t.val / 2 / 2 * 1024 + (j 0).val; rw [e4]; omega)
    (by show win0_2.index t (1 : Fin 2) * 1024 + 1 * (j 1).val = t.val / 2 % 2 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 2 = 1 := (flush0_2 t).mp hf
    blk_simp
    rw [after0_2]
    refine Eq.trans ?_ (whole m c t h1 y)
    rw [outsAt0_B m c t (by omega) h1 h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_MixOutIdeal_MixOutRefIdeal := fun m g m' g' _ hm =>
  ⟨fun c => _, run m g,
    (θ_run Cert.MixOutRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod]) (Cert.MixOutRefIdeal.Value.run m' g')⟩

end Cert.MixOutIdeal
-- ==== Proof.DMergedValue.lean ====
module
public import proofs.«01_k».proof.Defs
public import proofs.«01_k».proof.Proof.Gen.DMergedIdeal.Value
public import proofs.«01_k».proof.Proof.Gen.DMergedRefIdeal.Run
public import proofs.«01_k».proof.Proof.Product
public import Idealize.ShloMosaic.Lib.Pipeline.ReadBack

/-!
The gradient of the merged branches. The kernel takes each block of the product in 2 steps,
each with 1024 of the 2048 products of every element, and adds the steps' parts in a buffer that it copies out at the
last step. The reference is one contraction.
-/

@[expose] public section

namespace Cert.DMergedIdeal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod a (turned b) j := by
  pointwise [k0_pay2, k0_pay1, prod, turned]

theorem next (s : Vec Ideal S1024x1024 .f32) (j : S1024x1024.Idx) : k0_pay3 a b s j = s j + prod a (turned b) j := by
  pointwise [k0_pay3, k0_pay1, prod, turned]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 2 / 2 ∧ win0_0.index t (1 : Fin 2) = t.val % 2
    ∧ win0_1.index t (1 : Fin 2) = t.val % 2 ∧ win0_1.index t (0 : Fin 2) = t.val / 2 % 2
    ∧ win0_2.index t (0 : Fin 2) = t.val / 2 / 2 ∧ win0_2.index t (1 : Fin 2) = t.val / 2 % 2 :=
  (by decide +kernel : ∀ t : Fin grid0.N, _)

/-- The product. -/
noncomputable abbrev out (c : Dev nD) : Vec Ideal S4096x2048 .f32 :=
  prod (m ((c : Thread nD τ).loc main_arg0) : Vec Ideal S4096x2048 .bf16) (turned (m ((c : Thread nD τ).loc main_arg1) : Vec Ideal S2048x2048 .bf16))

/-- What step `t` reads of the first argument. -/
theorem reads0 (c : Dev nD) (t : Fin cfg0.N) (r : Fin 1024) (l : Fin 1024) (i : Fin 4096) (q : Fin 2048)
    (hi : i.val = t.val / 2 / 2 * 1024 + r.val) (hq : q.val = t.val % 2 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 1024) (q : Fin 2048) (i : Fin 2048)
    (hq : q.val = t.val % 2 * 1024 + l.val) (hi : i.val = t.val / 2 % 2 * 1024 + r.val) :
    (iblk m c 1 t : Vec Ideal S1024x1024 .bf16) (ix2 r l) = m ((c : Thread nD τ).loc main_arg1) (ix2 i q) :=
  have ⟨_, _, e2, e3, _, _⟩ := at_point t
  congrArg (m ((c : Thread nD τ).loc main_arg1)) (funext fun a => Fin.ext (match a with
    | ⟨0, _⟩ => by show win0_1.index t (0 : Fin 2) * 1024 + 1 * r.val = i.val; rw [e3]; omega
    | ⟨1, _⟩ => by show win0_1.index t (1 : Fin 2) * 1024 + 1 * l.val = q.val; rw [e2]; omega))

/-- The buffer holds the sum of the steps' parts. -/
theorem whole (c : Dev nD) (t : Fin cfg0.N) (h : t.val % 2 = 1) (j : S1024x1024.Idx) :
    ((outsAt0 m c t.val t.isLt).2 j : EReal) = out m c (((cfg0.win 2).blk t).view.emb j) :=
  have ⟨_, _, _, _, e4, e5⟩ := at_point t
  prod_of_steps (J := 2) _ _ (fun t => (iblk m c 0 t : Vec Ideal S1024x1024 .bf16))
    (fun t => (turned (iblk m c 1 t : Vec Ideal S1024x1024 .bf16))) (fun n h => (outsAt0 m c n h).2)
    (fun t h j => by
      rw [outsAt0_A m c t h (by omega) (by omega)]
      frame_out
      rw [first])
    (fun t h j => by
      rw [outsAt0_B m c t h (by omega) (by omega)]
      frame_out
      rw [next, read_unread_whole])
    (· / 2) (· % 2) (reads0 m c) (reads1 m c) rfl t h j _
    (by show win0_2.index t (0 : Fin 2) * 1024 + 1 * (j 0).val = t.val / 2 / 2 * 1024 + (j 0).val; rw [e4]; omega)
    (by show win0_2.index t (1 : Fin 2) * 1024 + 1 * (j 1).val = t.val / 2 % 2 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 2 = 1 := (flush0_2 t).mp hf
    blk_simp
    rw [after0_2]
    refine Eq.trans ?_ (whole m c t h1 y)
    rw [outsAt0_B m c t (by omega) h1 h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_DMergedIdeal_DMergedRefIdeal := fun m g m' g' _ hm =>
  ⟨fun c => _, run m g,
    (θ_run Cert.DMergedRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.DMergedRefIdeal.Value.run m' g')⟩

end Cert.DMergedIdeal
-- ==== Proof.DwOutValue.lean ====
module
public import proofs.«01_k».proof.Defs
public import proofs.«01_k».proof.Proof.Gen.DwOutIdeal.Value
public import proofs.«01_k».proof.Proof.Gen.DwOutRefIdeal.Run
public import proofs.«01_k».proof.Proof.Product
public import Idealize.ShloMosaic.Lib.Pipeline.ReadBack

/-!
The gradient of the mixer's output weight. The kernel takes each block of the product in 4 steps,
each with 1024 of the 4096 products of every element, and adds the steps' parts in a buffer that it copies out at the
last step. The reference is one contraction.
-/

@[expose] public section

namespace Cert.DwOutIdeal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod (turned a) b j := by
  pointwise [k0_pay2, k0_pay1, prod, turned]

theorem next (s : Vec Ideal S1024x1024 .f32) (j : S1024x1024.Idx) : k0_pay3 a b s j = s j + prod (turned a) b j := by
  pointwise [k0_pay3, k0_pay1, prod, turned]

theorem last (s : Vec Ideal S1024x1024 .f32) (j : S1024x1024.Idx) : k0_pay4 s j = s j := by
  pointwise [k0_pay4]

end

/-! ## The blocks -/

variable (m : (ℓ : Loc nD τ sig) → Buf (Elt Ideal) ℓ) (ρ : Dev nD → PrngReg)

/-- Which blocks step `t` works on. -/
theorem at_point : ∀ t : Fin cfg0.N, win0_0.index t (1 : Fin 2) = t.val / 4 / 2 ∧ win0_0.index t (0 : Fin 2) = t.val % 4
    ∧ win0_1.index t (0 : Fin 2) = t.val % 4 ∧ win0_1.index t (1 : Fin 2) = t.val / 4 % 2
    ∧ win0_2.index t (0 : Fin 2) = t.val / 4 / 2 ∧ win0_2.index t (1 : Fin 2) = t.val / 4 % 2 :=
  (by decide +kernel : ∀ t : Fin grid0.N, _)

/-- The product. -/
noncomputable abbrev out (c : Dev nD) : Vec Ideal S2048x2048 .bf16 :=
  prod (turned (m ((c : Thread nD τ).loc main_arg0) : Vec Ideal S4096x2048 .bf16)) (m ((c : Thread nD τ).loc main_arg1) : Vec Ideal S4096x2048 .bf16)

/-- What step `t` reads of the first argument. -/
theorem reads0 (c : Dev nD) (t : Fin cfg0.N) (r : Fin 1024) (l : Fin 1024) (i : Fin 2048) (q : Fin 4096)
    (hi : i.val = t.val / 4 / 2 * 1024 + r.val) (hq : q.val = t.val % 4 * 1024 + l.val) :
    (iblk m c 0 t : Vec Ideal S1024x1024 .bf16) (ix2 l r) = m ((c : Thread nD τ).loc main_arg0) (ix2 q i) :=
  have ⟨e0, e1, _, _, _, _⟩ := at_point t
  congrArg (m ((c : Thread nD τ).loc main_arg0)) (funext fun a => Fin.ext (match a with
    | ⟨0, _⟩ => by show win0_0.index t (0 : Fin 2) * 1024 + 1 * l.val = q.val; rw [e1]; omega
    | ⟨1, _⟩ => by show win0_0.index t (1 : Fin 2) * 1024 + 1 * r.val = i.val; rw [e0]; omega))

/-- What step `t` reads of the second argument. -/
theorem reads1 (c : Dev nD) (t : Fin cfg0.N) (l : Fin 1024) (r : Fin 1024) (q : Fin 4096) (i : Fin 2048)
    (hq : q.val = t.val % 4 * 1024 + l.val) (hi : i.val = t.val / 4 % 2 * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3]; omega))

/-- The buffer holds the sum of the steps' parts. -/
theorem whole (c : Dev nD) (t : Fin cfg0.N) (h : t.val % 4 = 3) (j : S1024x1024.Idx) :
    ((outsAt0 m c t.val t.isLt).2 j : EReal) = out m c (((cfg0.win 2).blk t).view.emb j) :=
  have ⟨_, _, _, _, e4, e5⟩ := at_point t
  prod_of_steps (J := 4) _ _ (fun t => (turned (iblk m c 0 t : Vec Ideal S1024x1024 .bf16)))
    (fun t => (iblk m c 1 t : Vec Ideal S1024x1024 .bf16)) (fun n h => (outsAt0 m c n h).2)
    (fun t h j => by
      rw [outsAt0_A m c t h (by omega) (by omega)]
      frame_out
      rw [first])
    (fun t h j => by
      by_cases h1 : t.val % 4 = 3
      · rw [outsAt0_C m c t h (by omega) h1]
        frame_out
        rw [next, read_unread_whole]
      · rw [outsAt0_B m c t h (by omega) h1]
        frame_out
        rw [next, read_unread_whole])
    (· / 2) (· % 2) (reads0 m c) (reads1 m c) rfl t h j _
    (by show win0_2.index t (0 : Fin 2) * 1024 + 1 * (j 0).val = t.val / 4 / 2 * 1024 + (j 0).val; rw [e4]; omega)
    (by show win0_2.index t (1 : Fin 2) * 1024 + 1 * (j 1).val = t.val / 4 % 2 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 4 = 3 := (flush0_2 t).mp hf
    blk_simp
    rw [after0_2]
    refine Eq.trans ?_ (whole m c t h1 y)
    rw [outsAt0_C m c t (by omega) (by omega) h1]
    frame_out
    rw [last]

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_DwOutIdeal_DwOutRefIdeal := fun m g m' g' _ hm =>
  ⟨fun c => _, run m g,
    (θ_run Cert.DwOutRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.DwOutRefIdeal.Value.run m' g')⟩

end Cert.DwOutIdeal
-- ==== Proof.DwDownValue.lean ====
module
public import proofs.«01_k».proof.Defs
public import proofs.«01_k».proof.Proof.Gen.DwDownIdeal.Value
public import proofs.«01_k».proof.Proof.Gen.DwDownRefIdeal.Run
public import proofs.«01_k».proof.Proof.Product
public import Idealize.ShloMosaic.Lib.Pipeline.ReadBack

/-!
The gradient of the MLP's second weight. The kernel takes each block of the product in 4 steps,
each with 1024 of the 4096 products of every element, and adds the steps' parts in a buffer that it copies out at the
last step. The reference is one contraction.
-/

@[expose] public section

namespace Cert.DwDownIdeal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod (turned a) b j := by
  pointwise [k0_pay2, k0_pay1, prod, turned]

theorem next (s : Vec Ideal S1024x1024 .f32) (j : S1024x1024.Idx) : k0_pay3 a b s j = s j + prod (turned a) b j := by
  pointwise [k0_pay3, k0_pay1, prod, turned]

theorem last (s : Vec Ideal S1024x1024 .f32) (j : S1024x1024.Idx) : k0_pay4 s j = s j := by
  pointwise [k0_pay4]

end

/-! ## The blocks -/

variable (m : (ℓ : Loc nD τ sig) → Buf (Elt Ideal) ℓ) (ρ : Dev nD → PrngReg)

/-- Which blocks step `t` works on. -/
theorem at_point : ∀ t : Fin cfg0.N, win0_0.index t (1 : Fin 2) = t.val / 4 / 2 ∧ win0_0.index t (0 : Fin 2) = t.val % 4
    ∧ win0_1.index t (0 : Fin 2) = t.val % 4 ∧ win0_1.index t (1 : Fin 2) = t.val / 4 % 2
    ∧ win0_2.index t (0 : Fin 2) = t.val / 4 / 2 ∧ win0_2.index t (1 : Fin 2) = t.val / 4 % 2 :=
  (by decide +kernel : ∀ t : Fin grid0.N, _)

/-- The product. -/
noncomputable abbrev out (c : Dev nD) : Vec Ideal S8192x2048 .bf16 :=
  prod (turned (m ((c : Thread nD τ).loc main_arg0) : Vec Ideal S4096x8192 .bf16)) (m ((c : Thread nD τ).loc main_arg1) : Vec Ideal S4096x2048 .bf16)

/-- What step `t` reads of the first argument. -/
theorem reads0 (c : Dev nD) (t : Fin cfg0.N) (r : Fin 1024) (l : Fin 1024) (i : Fin 8192) (q : Fin 4096)
    (hi : i.val = t.val / 4 / 2 * 1024 + r.val) (hq : q.val = t.val % 4 * 1024 + l.val) :
    (iblk m c 0 t : Vec Ideal S1024x1024 .bf16) (ix2 l r) = m ((c : Thread nD τ).loc main_arg0) (ix2 q i) :=
  have ⟨e0, e1, _, _, _, _⟩ := at_point t
  congrArg (m ((c : Thread nD τ).loc main_arg0)) (funext fun a => Fin.ext (match a with
    | ⟨0, _⟩ => by show win0_0.index t (0 : Fin 2) * 1024 + 1 * l.val = q.val; rw [e1]; omega
    | ⟨1, _⟩ => by show win0_0.index t (1 : Fin 2) * 1024 + 1 * r.val = i.val; rw [e0]; omega))

/-- What step `t` reads of the second argument. -/
theorem reads1 (c : Dev nD) (t : Fin cfg0.N) (l : Fin 1024) (r : Fin 1024) (q : Fin 4096) (i : Fin 2048)
    (hq : q.val = t.val % 4 * 1024 + l.val) (hi : i.val = t.val / 4 % 2 * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3]; omega))

/-- The buffer holds the sum of the steps' parts. -/
theorem whole (c : Dev nD) (t : Fin cfg0.N) (h : t.val % 4 = 3) (j : S1024x1024.Idx) :
    ((outsAt0 m c t.val t.isLt).2 j : EReal) = out m c (((cfg0.win 2).blk t).view.emb j) :=
  have ⟨_, _, _, _, e4, e5⟩ := at_point t
  prod_of_steps (J := 4) _ _ (fun t => (turned (iblk m c 0 t : Vec Ideal S1024x1024 .bf16)))
    (fun t => (iblk m c 1 t : Vec Ideal S1024x1024 .bf16)) (fun n h => (outsAt0 m c n h).2)
    (fun t h j => by
      rw [outsAt0_A m c t h (by omega) (by omega)]
      frame_out
      rw [first])
    (fun t h j => by
      by_cases h1 : t.val % 4 = 3
      · rw [outsAt0_C m c t h (by omega) h1]
        frame_out
        rw [next, read_unread_whole]
      · rw [outsAt0_B m c t h (by omega) h1]
        frame_out
        rw [next, read_unread_whole])
    (· / 2) (· % 2) (reads0 m c) (reads1 m c) rfl t h j _
    (by show win0_2.index t (0 : Fin 2) * 1024 + 1 * (j 0).val = t.val / 4 / 2 * 1024 + (j 0).val; rw [e4]; omega)
    (by show win0_2.index t (1 : Fin 2) * 1024 + 1 * (j 1).val = t.val / 4 % 2 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 4 = 3 := (flush0_2 t).mp hf
    blk_simp
    rw [after0_2]
    refine Eq.trans ?_ (whole m c t h1 y)
    rw [outsAt0_C m c t (by omega) (by omega) h1]
    frame_out
    rw [last]

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_DwDownIdeal_DwDownRefIdeal := fun m g m' g' _ hm =>
  ⟨fun c => _, run m g,
    (θ_run Cert.DwDownRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.DwDownRefIdeal.Value.run m' g')⟩

end Cert.DwDownIdeal
-- ==== Proof.MlpBwdValue.lean ====
module
public import proofs.«01_k».proof.Defs
public import proofs.«01_k».proof.Proof.Gen.MlpBwdIdeal.Value
public import proofs.«01_k».proof.Proof.Gen.MlpBwdRefIdeal.Run
public import proofs.«01_k».proof.Proof.Product
public import Idealize.ShloMosaic.Lib.Pipeline.ReadBack

/-!
The gradient of the MLP's first product. The kernel takes each block of the product in 2 steps,
each with 1024 of the 2048 products of every element, and adds the steps' parts in a buffer that it multiplies with the derivative of the squared positive part at the
last step. The reference is one contraction and the same last step.
-/

@[expose] public section

namespace Cert.MlpBwdIdeal

open Idealize.ShloMosaic Idealize.ShloMosaic.TcCoe Idealize.SL.Sem
open Gen Cert.Product

set_option maxRecDepth 16384

/-- The gradient `s` times the derivative of the squared positive part of `e`. -/
noncomputable def join (s e : EReal) : EReal := s * (Ideal.ofBits .f32 0x40000000#32 * max e (Ideal.ofBits .f32 0x00000000#32))

/-! ## The body at an element -/

section
variable (a : Vec Ideal S1024x1024 .bf16) (b : Vec Ideal S1024x1024 .bf16)

theorem first (j : S1024x1024.Idx) : k0_pay2 a b j = prod a (turned b) j := by
  pointwise [k0_pay2, k0_pay1, prod, turned]

theorem next (s : Vec Ideal S1024x1024 .f32) (j : S1024x1024.Idx) : k0_pay3 a b s j = s j + prod a (turned b) j := by
  pointwise [k0_pay3, k0_pay1, prod, turned]

theorem last (s e : Vec Ideal S1024x1024 .f32) (j : S1024x1024.Idx) : k0_pay4 s e j = join (s j) (e j) := by
  pointwise [k0_pay4, join]
  exact mul_assoc _ _ _

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 2 / 8 ∧ win0_0.index t (1 : Fin 2) = t.val % 2
    ∧ win0_1.index t (1 : Fin 2) = t.val % 2 ∧ win0_1.index t (0 : Fin 2) = t.val / 2 % 8
    ∧ win0_3.index t (0 : Fin 2) = t.val / 2 / 8 ∧ win0_3.index t (1 : Fin 2) = t.val / 2 % 8 :=
  (by decide +kernel : ∀ t : Fin grid0.N, _)

/-- The product of the first two arguments. -/
noncomputable abbrev mul (c : Dev nD) : Vec Ideal S4096x8192 .f32 :=
  prod (m ((c : Thread nD τ).loc main_arg0) : Vec Ideal S4096x2048 .bf16) (turned (m ((c : Thread nD τ).loc main_arg1) : Vec Ideal S8192x2048 .bf16))

/-- The product. -/
noncomputable abbrev out (c : Dev nD) : Vec Ideal S4096x8192 .bf16 := fun i =>
  join (mul m c i) ((m ((c : Thread nD τ).loc main_arg2) : Vec Ideal S4096x8192 .f32) i)

/-- What step `t` reads of the first argument. -/
theorem reads0 (c : Dev nD) (t : Fin cfg0.N) (r : Fin 1024) (l : Fin 1024) (i : Fin 4096) (q : Fin 2048)
    (hi : i.val = t.val / 2 / 8 * 1024 + r.val) (hq : q.val = t.val % 2 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 1024) (q : Fin 2048) (i : Fin 8192)
    (hq : q.val = t.val % 2 * 1024 + l.val) (hi : i.val = t.val / 2 % 8 * 1024 + r.val) :
    (iblk m c 1 t : Vec Ideal S1024x1024 .bf16) (ix2 r l) = m ((c : Thread nD τ).loc main_arg1) (ix2 i q) :=
  have ⟨_, _, e2, e3, _, _⟩ := at_point t
  congrArg (m ((c : Thread nD τ).loc main_arg1)) (funext fun a => Fin.ext (match a with
    | ⟨0, _⟩ => by show win0_1.index t (0 : Fin 2) * 1024 + 1 * r.val = i.val; rw [e3]; omega
    | ⟨1, _⟩ => by show win0_1.index t (1 : Fin 2) * 1024 + 1 * l.val = q.val; rw [e2]; omega))

/-- The buffer holds the sum of the steps' parts. -/
theorem whole (c : Dev nD) (t : Fin cfg0.N) (h : t.val % 2 = 1) (j : S1024x1024.Idx) :
    ((outsAt0 m c t.val t.isLt).2 j : EReal) = mul m c (((cfg0.win 3).blk t).view.emb j) :=
  have ⟨_, _, _, _, e4, e5⟩ := at_point t
  prod_of_steps (J := 2) _ _ (fun t => (iblk m c 0 t : Vec Ideal S1024x1024 .bf16))
    (fun t => (turned (iblk m c 1 t : Vec Ideal S1024x1024 .bf16))) (fun n h => (outsAt0 m c n h).2)
    (fun t h j => by
      rw [outsAt0_A m c t h (by omega) (by omega)]
      frame_out
      rw [first])
    (fun t h j => by
      rw [outsAt0_B m c t h (by omega) (by omega)]
      frame_out
      rw [next, read_unread_whole])
    (· / 8) (· % 8) (reads0 m c) (reads1 m c) rfl t h j _
    (by show win0_3.index t (0 : Fin 2) * 1024 + 1 * (j 0).val = t.val / 2 / 8 * 1024 + (j 0).val; rw [e4]; omega)
    (by show win0_3.index t (1 : Fin 2) * 1024 + 1 * (j 1).val = t.val / 2 % 8 * 1024 + (j 1).val; rw [e5]; omega)

theorem final (c : Dev nD) : (dats m 0 c).arrAt 3 cfg0.N = out m c :=
  (dats m 0 c).arrAt_eq_of_covers 3 _ (of_decide_eq_true (by sl_kernel_rfl)) fun t hf y => by
    have h1 : t.val % 2 = 1 := (flush0_3 t).mp hf
    blk_simp
    rw [after0_3]
    refine Eq.trans ?_ (congrArg (fun v : EReal => join v ((m ((c : Thread nD τ).loc main_arg2) : Vec Ideal S4096x8192 .f32) (((cfg0.win 3).blk t).view.emb y))) (whole m c t h1 y))
    rw [outsAt0_B m c t (by omega) h1 h1]
    frame_out
    rw [last]
    rfl

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final m c), (h c).2⟩) (Value.run_blocks m ρ)

/-- The kernel and the reference end in the same result. -/
theorem agrees : Cert.algebraic_MlpBwdIdeal_MlpBwdRefIdeal := fun m g m' g' _ hm =>
  ⟨fun c => _, run m g,
    (θ_run Cert.MlpBwdRefIdeal.defs _ _).mono (fun r h c => by
      obtain ⟨h1, h2⟩ := h c
      obtain ⟨e0, e1, e2⟩ := hm c
      refine ⟨h1.trans ?_, h2⟩
      rw [e0, e1, e2]
      clear h1 h2 h
      funext j
      pointwise [out, mul, join, prod, turned]) (Cert.MlpBwdRefIdeal.Value.run m' g')⟩

end Cert.MlpBwdIdeal
-- ==== Proof.DwUpValue.lean ====
module
public import proofs.«01_k».proof.Defs
public import proofs.«01_k».proof.Proof.Gen.DwUpIdeal.Value
public import proofs.«01_k».proof.Proof.Gen.DwUpRefIdeal.Run
public import proofs.«01_k».proof.Proof.Product
public import Idealize.ShloMosaic.Lib.Pipeline.ReadBack

/-!
The gradient of the MLP's first weight. The kernel takes each block of the product in 4 steps,
each with 1024 of the 4096 products of every element, and adds the steps' parts in a buffer that it copies out at the
last step. The reference is one contraction.
-/

@[expose] public section

namespace Cert.DwUpIdeal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod (turned a) b j := by
  pointwise [k0_pay2, k0_pay1, prod, turned]

theorem next (s : Vec Ideal S1024x1024 .f32) (j : S1024x1024.Idx) : k0_pay3 a b s j = s j + prod (turned a) b j := by
  pointwise [k0_pay3, k0_pay1, prod, turned]

theorem last (s : Vec Ideal S1024x1024 .f32) (j : S1024x1024.Idx) : k0_pay4 s j = s j := by
  pointwise [k0_pay4]

end

/-! ## The blocks -/

variable (m : (ℓ : Loc nD τ sig) → Buf (Elt Ideal) ℓ) (ρ : Dev nD → PrngReg)

/-- Which blocks step `t` works on. -/
theorem at_point : ∀ t : Fin cfg0.N, win0_0.index t (1 : Fin 2) = t.val / 4 / 8 ∧ win0_0.index t (0 : Fin 2) = t.val % 4
    ∧ win0_1.index t (0 : Fin 2) = t.val % 4 ∧ win0_1.index t (1 : Fin 2) = t.val / 4 % 8
    ∧ win0_2.index t (0 : Fin 2) = t.val / 4 / 8 ∧ win0_2.index t (1 : Fin 2) = t.val / 4 % 8 :=
  (by decide +kernel : ∀ t : Fin grid0.N, _)

/-- The product. -/
noncomputable abbrev out (c : Dev nD) : Vec Ideal S2048x8192 .bf16 :=
  prod (turned (m ((c : Thread nD τ).loc main_arg0) : Vec Ideal S4096x2048 .bf16)) (m ((c : Thread nD τ).loc main_arg1) : Vec Ideal S4096x8192 .bf16)

/-- What step `t` reads of the first argument. -/
theorem reads0 (c : Dev nD) (t : Fin cfg0.N) (r : Fin 1024) (l : Fin 1024) (i : Fin 2048) (q : Fin 4096)
    (hi : i.val = t.val / 4 / 8 * 1024 + r.val) (hq : q.val = t.val % 4 * 1024 + l.val) :
    (iblk m c 0 t : Vec Ideal S1024x1024 .bf16) (ix2 l r) = m ((c : Thread nD τ).loc main_arg0) (ix2 q i) :=
  have ⟨e0, e1, _, _, _, _⟩ := at_point t
  congrArg (m ((c : Thread nD τ).loc main_arg0)) (funext fun a => Fin.ext (match a with
    | ⟨0, _⟩ => by show win0_0.index t (0 : Fin 2) * 1024 + 1 * l.val = q.val; rw [e1]; omega
    | ⟨1, _⟩ => by show win0_0.index t (1 : Fin 2) * 1024 + 1 * r.val = i.val; rw [e0]; omega))

/-- What step `t` reads of the second argument. -/
theorem reads1 (c : Dev nD) (t : Fin cfg0.N) (l : Fin 1024) (r : Fin 1024) (q : Fin 4096) (i : Fin 8192)
    (hq : q.val = t.val % 4 * 1024 + l.val) (hi : i.val = t.val / 4 % 8 * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3]; omega))

/-- The buffer holds the sum of the steps' parts. -/
theorem whole (c : Dev nD) (t : Fin cfg0.N) (h : t.val % 4 = 3) (j : S1024x1024.Idx) :
    ((outsAt0 m c t.val t.isLt).2 j : EReal) = out m c (((cfg0.win 2).blk t).view.emb j) :=
  have ⟨_, _, _, _, e4, e5⟩ := at_point t
  prod_of_steps (J := 4) _ _ (fun t => (turned (iblk m c 0 t : Vec Ideal S1024x1024 .bf16)))
    (fun t => (iblk m c 1 t : Vec Ideal S1024x1024 .bf16)) (fun n h => (outsAt0 m c n h).2)
    (fun t h j => by
      rw [outsAt0_A m c t h (by omega) (by omega)]
      frame_out
      rw [first])
    (fun t h j => by
      by_cases h1 : t.val % 4 = 3
      · rw [outsAt0_C m c t h (by omega) h1]
        frame_out
        rw [next, read_unread_whole]
      · rw [outsAt0_B m c t h (by omega) h1]
        frame_out
        rw [next, read_unread_whole])
    (· / 8) (· % 8) (reads0 m c) (reads1 m c) rfl t h j _
    (by show win0_2.index t (0 : Fin 2) * 1024 + 1 * (j 0).val = t.val / 4 / 8 * 1024 + (j 0).val; rw [e4]; omega)
    (by show win0_2.index t (1 : Fin 2) * 1024 + 1 * (j 1).val = t.val / 4 % 8 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 4 = 3 := (flush0_2 t).mp hf
    blk_simp
    rw [after0_2]
    refine Eq.trans ?_ (whole m c t h1 y)
    rw [outsAt0_C m c t (by omega) (by omega) h1]
    frame_out
    rw [last]

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_DwUpIdeal_DwUpRefIdeal := fun m g m' g' _ hm =>
  ⟨fun c => _, run m g,
    (θ_run Cert.DwUpRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.DwUpRefIdeal.Value.run m' g')⟩

end Cert.DwUpIdeal
-- ==== Proof.Dh2Value.lean ====
module
public import proofs.«01_k».proof.Defs
public import proofs.«01_k».proof.Proof.Gen.Dh2Ideal.Value
public import proofs.«01_k».proof.Proof.Gen.Dh2RefIdeal.Run
public import proofs.«01_k».proof.Proof.Product
public import Idealize.ShloMosaic.Lib.Pipeline.ReadBack

/-!
The gradient of the MLP's input. The kernel takes each block of the product in 8 steps,
each with 1024 of the 8192 products of every element, and adds the steps' parts in a buffer that it copies out at the
last step. The reference is one contraction.
-/

@[expose] public section

namespace Cert.Dh2Ideal

open Idealize.ShloMosaic Idealize.ShloMosaic.TcCoe Idealize.SL.Sem
open Gen Cert.Product

set_option maxRecDepth 16384

/-! ## The body at an element -/

section
variable (a : Vec Ideal S1024x1024 .bf16) (b : Vec Ideal S1024x1024 .bf16)

theorem first (j : S1024x1024.Idx) : k0_pay2 a b j = prod a (turned b) j := by
  pointwise [k0_pay2, k0_pay1, prod, turned]

theorem next (s : Vec Ideal S1024x1024 .f32) (j : S1024x1024.Idx) : k0_pay3 a b s j = s j + prod a (turned b) j := by
  pointwise [k0_pay3, k0_pay1, prod, turned]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 8 / 2 ∧ win0_0.index t (1 : Fin 2) = t.val % 8
    ∧ win0_1.index t (1 : Fin 2) = t.val % 8 ∧ win0_1.index t (0 : Fin 2) = t.val / 8 % 2
    ∧ win0_2.index t (0 : Fin 2) = t.val / 8 / 2 ∧ win0_2.index t (1 : Fin 2) = t.val / 8 % 2 :=
  (by decide +kernel : ∀ t : Fin grid0.N, _)

/-- The product. -/
noncomputable abbrev out (c : Dev nD) : Vec Ideal S4096x2048 .f32 :=
  prod (m ((c : Thread nD τ).loc main_arg0) : Vec Ideal S4096x8192 .bf16) (turned (m ((c : Thread nD τ).loc main_arg1) : Vec Ideal S2048x8192 .bf16))

/-- What step `t` reads of the first argument. -/
theorem reads0 (c : Dev nD) (t : Fin cfg0.N) (r : Fin 1024) (l : Fin 1024) (i : Fin 4096) (q : Fin 8192)
    (hi : i.val = t.val / 8 / 2 * 1024 + r.val) (hq : q.val = t.val % 8 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 1024) (q : Fin 8192) (i : Fin 2048)
    (hq : q.val = t.val % 8 * 1024 + l.val) (hi : i.val = t.val / 8 % 2 * 1024 + r.val) :
    (iblk m c 1 t : Vec Ideal S1024x1024 .bf16) (ix2 r l) = m ((c : Thread nD τ).loc main_arg1) (ix2 i q) :=
  have ⟨_, _, e2, e3, _, _⟩ := at_point t
  congrArg (m ((c : Thread nD τ).loc main_arg1)) (funext fun a => Fin.ext (match a with
    | ⟨0, _⟩ => by show win0_1.index t (0 : Fin 2) * 1024 + 1 * r.val = i.val; rw [e3]; omega
    | ⟨1, _⟩ => by show win0_1.index t (1 : Fin 2) * 1024 + 1 * l.val = q.val; rw [e2]; omega))

/-- The buffer holds the sum of the steps' parts. -/
theorem whole (c : Dev nD) (t : Fin cfg0.N) (h : t.val % 8 = 7) (j : S1024x1024.Idx) :
    ((outsAt0 m c t.val t.isLt).2 j : EReal) = out m c (((cfg0.win 2).blk t).view.emb j) :=
  have ⟨_, _, _, _, e4, e5⟩ := at_point t
  prod_of_steps (J := 8) _ _ (fun t => (iblk m c 0 t : Vec Ideal S1024x1024 .bf16))
    (fun t => (turned (iblk m c 1 t : Vec Ideal S1024x1024 .bf16))) (fun n h => (outsAt0 m c n h).2)
    (fun t h j => by
      rw [outsAt0_A m c t h (by omega) (by omega)]
      frame_out
      rw [first])
    (fun t h j => by
      by_cases h1 : t.val % 8 = 7
      · rw [outsAt0_C m c t h (by omega) h1]
        frame_out
        rw [next, read_unread_whole]
      · rw [outsAt0_B m c t h (by omega) h1]
        frame_out
        rw [next, read_unread_whole])
    (· / 2) (· % 2) (reads0 m c) (reads1 m c) rfl t h j _
    (by show win0_2.index t (0 : Fin 2) * 1024 + 1 * (j 0).val = t.val / 8 / 2 * 1024 + (j 0).val; rw [e4]; omega)
    (by show win0_2.index t (1 : Fin 2) * 1024 + 1 * (j 1).val = t.val / 8 % 2 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 8 = 7 := (flush0_2 t).mp hf
    blk_simp
    rw [after0_2]
    refine Eq.trans ?_ (whole m c t h1 y)
    rw [outsAt0_C m c t (by omega) (by omega) h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_Dh2Ideal_Dh2RefIdeal := fun m g m' g' _ hm =>
  ⟨fun c => _, run m g,
    (θ_run Cert.Dh2RefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.Dh2RefIdeal.Value.run m' g')⟩

end Cert.Dh2Ideal
-- ==== Proof.Dh1GatesValue.lean ====
module
public import proofs.«01_k».proof.Defs
public import proofs.«01_k».proof.Proof.Gen.Dh1GatesIdeal.Value
public import proofs.«01_k».proof.Proof.Gen.Dh1GatesRefIdeal.Run
public import proofs.«01_k».proof.Proof.Product
public import Idealize.ShloMosaic.Lib.Pipeline.ReadBack

/-!
The gates' part of the gradient of the mixer's input, added to the branches' part. The kernel takes each block of the product in 8 steps,
each with 1024 of the 8192 products of every element, and adds the steps' parts in a buffer that it adds to the branches' part at the
last step. The reference is one contraction and the same last step.
-/

@[expose] public section

namespace Cert.Dh1GatesIdeal

open Idealize.ShloMosaic Idealize.ShloMosaic.TcCoe Idealize.SL.Sem
open Gen Cert.Product

set_option maxRecDepth 16384

/-- The sum of the two parts. -/
noncomputable def join (s e : EReal) : EReal := s + e

/-! ## The body at an element -/

section
variable (a : Vec Ideal S1024x1024 .bf16) (b : Vec Ideal S1024x1024 .bf16)

theorem first (j : S1024x1024.Idx) : k0_pay2 a b j = prod a (turned b) j := by
  pointwise [k0_pay2, k0_pay1, prod, turned]

theorem next (s : Vec Ideal S1024x1024 .f32) (j : S1024x1024.Idx) : k0_pay3 a b s j = s j + prod a (turned b) j := by
  pointwise [k0_pay3, k0_pay1, prod, turned]

theorem last (s e : Vec Ideal S1024x1024 .f32) (j : S1024x1024.Idx) : k0_pay4 s e j = join (s j) (e j) := by
  pointwise [k0_pay4, join]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 8 / 2 ∧ win0_0.index t (1 : Fin 2) = t.val % 8
    ∧ win0_1.index t (1 : Fin 2) = t.val % 8 ∧ win0_1.index t (0 : Fin 2) = t.val / 8 % 2
    ∧ win0_3.index t (0 : Fin 2) = t.val / 8 / 2 ∧ win0_3.index t (1 : Fin 2) = t.val / 8 % 2 :=
  (by decide +kernel : ∀ t : Fin grid0.N, _)

/-- The product of the first two arguments. -/
noncomputable abbrev mul (c : Dev nD) : Vec Ideal S4096x2048 .f32 :=
  prod (m ((c : Thread nD τ).loc main_arg0) : Vec Ideal S4096x8192 .bf16) (turned (m ((c : Thread nD τ).loc main_arg1) : Vec Ideal S2048x8192 .bf16))

/-- The product. -/
noncomputable abbrev out (c : Dev nD) : Vec Ideal S4096x2048 .f32 := fun i =>
  join (mul m c i) ((m ((c : Thread nD τ).loc main_arg2) : Vec Ideal S4096x2048 .f32) i)

/-- What step `t` reads of the first argument. -/
theorem reads0 (c : Dev nD) (t : Fin cfg0.N) (r : Fin 1024) (l : Fin 1024) (i : Fin 4096) (q : Fin 8192)
    (hi : i.val = t.val / 8 / 2 * 1024 + r.val) (hq : q.val = t.val % 8 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 1024) (q : Fin 8192) (i : Fin 2048)
    (hq : q.val = t.val % 8 * 1024 + l.val) (hi : i.val = t.val / 8 % 2 * 1024 + r.val) :
    (iblk m c 1 t : Vec Ideal S1024x1024 .bf16) (ix2 r l) = m ((c : Thread nD τ).loc main_arg1) (ix2 i q) :=
  have ⟨_, _, e2, e3, _, _⟩ := at_point t
  congrArg (m ((c : Thread nD τ).loc main_arg1)) (funext fun a => Fin.ext (match a with
    | ⟨0, _⟩ => by show win0_1.index t (0 : Fin 2) * 1024 + 1 * r.val = i.val; rw [e3]; omega
    | ⟨1, _⟩ => by show win0_1.index t (1 : Fin 2) * 1024 + 1 * l.val = q.val; rw [e2]; omega))

/-- The buffer holds the sum of the steps' parts. -/
theorem whole (c : Dev nD) (t : Fin cfg0.N) (h : t.val % 8 = 7) (j : S1024x1024.Idx) :
    ((outsAt0 m c t.val t.isLt).2 j : EReal) = mul m c (((cfg0.win 3).blk t).view.emb j) :=
  have ⟨_, _, _, _, e4, e5⟩ := at_point t
  prod_of_steps (J := 8) _ _ (fun t => (iblk m c 0 t : Vec Ideal S1024x1024 .bf16))
    (fun t => (turned (iblk m c 1 t : Vec Ideal S1024x1024 .bf16))) (fun n h => (outsAt0 m c n h).2)
    (fun t h j => by
      rw [outsAt0_A m c t h (by omega) (by omega)]
      frame_out
      rw [first])
    (fun t h j => by
      by_cases h1 : t.val % 8 = 7
      · rw [outsAt0_C m c t h (by omega) h1]
        frame_out
        rw [next, read_unread_whole]
      · rw [outsAt0_B m c t h (by omega) h1]
        frame_out
        rw [next, read_unread_whole])
    (· / 2) (· % 2) (reads0 m c) (reads1 m c) rfl t h j _
    (by show win0_3.index t (0 : Fin 2) * 1024 + 1 * (j 0).val = t.val / 8 / 2 * 1024 + (j 0).val; rw [e4]; omega)
    (by show win0_3.index t (1 : Fin 2) * 1024 + 1 * (j 1).val = t.val / 8 % 2 * 1024 + (j 1).val; rw [e5]; omega)

theorem final (c : Dev nD) : (dats m 0 c).arrAt 3 cfg0.N = out m c :=
  (dats m 0 c).arrAt_eq_of_covers 3 _ (of_decide_eq_true (by sl_kernel_rfl)) fun t hf y => by
    have h1 : t.val % 8 = 7 := (flush0_3 t).mp hf
    blk_simp
    rw [after0_3]
    refine Eq.trans ?_ (congrArg (fun v : EReal => join v ((m ((c : Thread nD τ).loc main_arg2) : Vec Ideal S4096x2048 .f32) (((cfg0.win 3).blk t).view.emb y))) (whole m c t h1 y))
    rw [outsAt0_C m c t (by omega) (by omega) h1]
    frame_out
    rw [last]
    rfl

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final m c), (h c).2⟩) (Value.run_blocks m ρ)

/-- The kernel and the reference end in the same result. -/
theorem agrees : Cert.algebraic_Dh1GatesIdeal_Dh1GatesRefIdeal := fun m g m' g' _ hm =>
  ⟨fun c => _, run m g,
    (θ_run Cert.Dh1GatesRefIdeal.defs _ _).mono (fun r h c => by
      obtain ⟨h1, h2⟩ := h c
      obtain ⟨e0, e1, e2⟩ := hm c
      refine ⟨h1.trans ?_, h2⟩
      rw [e0, e1, e2]
      clear h1 h2 h
      funext j
      pointwise [out, mul, join, prod, turned]) (Cert.Dh1GatesRefIdeal.Value.run m' g')⟩

end Cert.Dh1GatesIdeal
-- ==== Proof.PreMlpBwdValue.lean ====
module
public import proofs.«01_k».proof.Defs
public import proofs.«01_k».proof.Proof.Rms
public import proofs.«01_k».proof.Proof.Gen.PreMlpBwdIdeal.Value
public import proofs.«01_k».proof.Proof.Gen.PreMlpBwdRefIdeal.Run
public import Idealize.ShloMosaic.Lib.Pipeline.ValueKit

/-!
The gradients at the two norms between mixer and MLP. The kernel walks over the rows in 16 blocks of 256: each
leaves its rows of the gradient of the residual and, through the mixer's last norm, of the mixer's output, and
adds its rows' parts to the gradients of the two gains.
-/

@[expose] public section

namespace Cert.PreMlpBwdIdeal

open Idealize.ShloMosaic Idealize.ShloMosaic.TcCoe Idealize.SL.Sem
open Gen Cert.Rms

set_option maxRecDepth 16384

/-! ## The body at an element -/

section
variable (x dy res : Vec Ideal S256x2048 .f32) (g : Vec Ideal S1x2048 .f32)

theorem input (j : S256x2048.Idx) : k0_pay3 x g dy res j = res j + back x g dy (j 0) (j 1) := by
  pointwise [k0_pay3, k0_pay2, back, scale, mean]

theorem input' (j : S256x2048.Idx) : k0_pay7 dy x g j = back x g dy (j 0) (j 1) := by
  pointwise [k0_pay7, k0_pay6, back, scale, mean]

theorem gain (j : S1x2048.Idx) : k0_pay4 x dy j = ∑ r, part x dy r (j 1) := by
  pointwise [k0_pay4, k0_pay2, part, scale, mean]

theorem gain' (j : S1x2048.Idx) : k0_pay8 dy x j = ∑ r, part x dy r (j 1) := by
  pointwise [k0_pay8, k0_pay6, part, scale, mean]

theorem add (v w : Vec Ideal S1x2048 .f32) (j : S1x2048.Idx) : k0_pay1 v w j = w j + v j := by
  pointwise [k0_pay1]

theorem add' (v w : Vec Ideal S1x2048 .f32) (j : S1x2048.Idx) : k0_pay5 v w j = w j + v j := by
  pointwise [k0_pay5]

end

/-! ## The blocks -/

variable (m : (ℓ : Loc nD τ sig) → Buf (Elt Ideal) ℓ) (ρ : Dev nD → PrngReg)

/-- Row `r` of block `t`. -/
abbrev row (t : Fin cfg0.N) (r : Fin 256) : Fin 4096 := ⟨t.val * 256 + r.val, by have := t.isLt; have : cfg0.N = 16 := N_0; omega⟩

/-- The point's coordinate is its number. -/
theorem at_point : ∀ t : Fin cfg0.N, (BitVec.ofNat 32 (grid0.coords t 0).val).toNat = t.val := by decide +kernel

/-- Where block `t`'s elements lie in the whole array. -/
theorem spot (t : Fin cfg0.N) (j : S256x2048.Idx) : ((cfg0.win 6).blk t).view.emb j = ix2 (row t (j 0)) (j 1) := by
  refine funext fun a => Fin.ext ?_
  match a with
  | ⟨0, _⟩ =>
    show (BitVec.ofNat 32 (grid0.coords t 0).val).toNat * 256 + 1 * (j 0).val = t.val * 256 + (j 0).val
    rw [at_point, Nat.one_mul]
  | ⟨1, _⟩ => show 0 * 2048 + 1 * (j 1).val = (j 1).val; omega

/-- Where a gain's elements lie: it is one block. -/
theorem still (t : Fin cfg0.N) (j : S1x2048.Idx) : ((cfg0.win 8).blk t).view.emb j = j :=
  funext fun a => Fin.ext (match a with
    | ⟨0, _⟩ => by show 0 * 1 + 1 * (j 0).val = (j 0).val; omega
    | ⟨1, _⟩ => by show 0 * 2048 + 1 * (j 1).val = (j 1).val; omega)

/-- The gradient of the residual: what comes along it and what comes through the norm. -/
noncomputable abbrev both (dy x : Vec Ideal S4096x2048 .f32) (g : Vec Ideal S1x2048 .f32) (res : Vec Ideal S4096x2048 .f32) : Vec Ideal S4096x2048 .f32 :=
  fun j => res j + back x g dy (j 0) (j 1)

noncomputable abbrev dx (c : Dev nD) := both (m ((c : Thread nD τ).loc main_arg0)) (m ((c : Thread nD τ).loc main_arg1))
  (m ((c : Thread nD τ).loc main_arg4)) (m ((c : Thread nD τ).loc main_arg2))

/-- The gradient of the mixer's output, whose rounding to bf16 is nothing here. -/
noncomputable abbrev dr (c : Dev nD) : Vec Ideal S4096x2048 .bf16 := fun j =>
  back (m ((c : Thread nD τ).loc main_arg3)) (m ((c : Thread nD τ).loc main_arg5)) (dx m c) (j 0) (j 1)

/-- The gradients of the two gains. -/
noncomputable abbrev dg (c : Dev nD) : Vec Ideal S1x2048 .f32 := fun j =>
  ∑ r, part (m ((c : Thread nD τ).loc main_arg1)) (m ((c : Thread nD τ).loc main_arg0)) r (j 1)

noncomputable abbrev dg' (c : Dev nD) : Vec Ideal S1x2048 .f32 := fun j => ∑ r, part (m ((c : Thread nD τ).loc main_arg3)) (dx m c) r (j 1)

section
variable (c : Dev nD) (t : Fin cfg0.N)

/-- The rows that a step reads. -/
theorem reads (r : Fin 256) (l : Fin 2048) :
    (iblk m c 0 t : Vec Ideal S256x2048 .f32) (ix2 r l) = m ((c : Thread nD τ).loc main_arg0) (ix2 (row t r) l)
    ∧ (iblk m c 1 t : Vec Ideal S256x2048 .f32) (ix2 r l) = m ((c : Thread nD τ).loc main_arg1) (ix2 (row t r) l)
    ∧ (iblk m c 2 t : Vec Ideal S256x2048 .f32) (ix2 r l) = m ((c : Thread nD τ).loc main_arg2) (ix2 (row t r) l)
    ∧ (iblk m c 3 t : Vec Ideal S256x2048 .f32) (ix2 r l) = m ((c : Thread nD τ).loc main_arg3) (ix2 (row t r) l) :=
  ⟨congrArg (m ((c : Thread nD τ).loc main_arg0)) (spot t _), congrArg (m ((c : Thread nD τ).loc main_arg1)) (spot t _),
    congrArg (m ((c : Thread nD τ).loc main_arg2)) (spot t _), congrArg (m ((c : Thread nD τ).loc main_arg3)) (spot t _)⟩

/-- The gains are read whole. -/
theorem gains : (iblk m c 4 t : Vec Ideal S1x2048 .f32) = m ((c : Thread nD τ).loc main_arg4)
    ∧ (iblk m c 5 t : Vec Ideal S1x2048 .f32) = m ((c : Thread nD τ).loc main_arg5) :=
  ⟨funext fun j => congrArg (m ((c : Thread nD τ).loc main_arg4)) (still t j), funext fun j => congrArg (m ((c : Thread nD τ).loc main_arg5)) (still t j)⟩

/-- A step's rows of the gradient of the residual. -/
noncomputable abbrev dxs : Vec Ideal S256x2048 .f32 := k0_pay3 (iblk m c 1 t) (iblk m c 4 t) (iblk m c 0 t) (iblk m c 2 t)

theorem left (r : Fin 256) (l : Fin 2048) : dxs m c t (ix2 r l) = dx m c (ix2 (row t r) l) := by
  rw [dxs, input, (gains m c t).1, (reads m c t r l).2.2.1]
  exact congrArg (fun v : EReal => (_ : EReal) + v) (back_at _ (fun l => (reads m c t r l).2.1) (fun l => (reads m c t r l).1) _)

theorem left' (j : S256x2048.Idx) : k0_pay7 (dxs m c t) (iblk m c 3 t) (iblk m c 5 t) j = dr m c (ix2 (row t (j 0)) (j 1)) := by
  rw [input', (gains m c t).2]
  exact back_at _ (fun l => (reads m c t (j 0) l).2.2.2) (left m c t _) _

/-- A step's parts of the gradients of the gains. -/
theorem step (j : S1x2048.Idx) : k0_pay4 (iblk m c 1 t) (iblk m c 0 t) j
    = ∑ r, part (m ((c : Thread nD τ).loc main_arg1)) (m ((c : Thread nD τ).loc main_arg0)) (row t r) (j 1) := by
  rw [gain]
  exact Finset.sum_congr rfl fun r _ => part_at (fun l => (reads m c t r l).2.1) (fun l => (reads m c t r l).1) _

theorem step' (j : S1x2048.Idx) : k0_pay8 (dxs m c t) (iblk m c 3 t) j
    = ∑ r, part (m ((c : Thread nD τ).loc main_arg3)) (dx m c) (row t r) (j 1) := by
  rw [gain']
  exact Finset.sum_congr rfl fun r _ => part_at (fun l => (reads m c t r l).2.2.2) (left m c t r) _

end

theorem final6 (c : Dev nD) : (dats m 0 c).arrAt 6 cfg0.N = dx m c :=
  (dats m 0 c).arrAt_eq_of_covers 6 _ (of_decide_eq_true (by sl_kernel_rfl)) fun t hf y => by
    have ht := lt_of_lt_of_eq t.isLt N_0
    blk_simp
    rw [after0_6]
    refine Eq.trans ?_ (congrArg (dx m c) (spot t y).symm)
    by_cases h : t.val % 16 = 0
    · rw [outsAt0_A m c t h (by omega) h (by omega)]
      frame_out
      exact (congrArg (dxs m c t) (eq_ix2 y)).trans (left m c t _ _)
    · rw [outsAt0_B m c t h (by omega) h (by omega)]
      frame_out
      exact (congrArg (dxs m c t) (eq_ix2 y)).trans (left m c t _ _)

theorem final7 (c : Dev nD) : (dats m 0 c).arrAt 7 cfg0.N = dr m c :=
  (dats m 0 c).arrAt_eq_of_covers 7 _ (of_decide_eq_true (by sl_kernel_rfl)) fun t hf y => by
    have ht := lt_of_lt_of_eq t.isLt N_0
    blk_simp
    rw [after0_7]
    refine Eq.trans ?_ (congrArg (dr m c) (spot t y).symm)
    by_cases h : t.val % 16 = 0
    · rw [outsAt0_A m c t h (by omega) h (by omega)]
      frame_out
      exact left' m c t _
    · rw [outsAt0_B m c t h (by omega) h (by omega)]
      frame_out
      exact left' m c t _

theorem final8 (c : Dev nD) : (dats m 0 c).arrAt 8 cfg0.N = dg m c :=
  (dats m 0 c).arrAt_eq_of_covers 8 _ (of_decide_eq_true (by sl_kernel_rfl)) fun t hf y => by
    have h15 : t.val % 16 = 15 := (flush0_8 t).mp hf
    blk_simp
    rw [after0_8]
    refine Eq.trans ?_ (congrArg (dg m c) (still t y).symm)
    exact sum_of_steps N_0 (fun n h => (outsAt0 m c n h).2.2.1) _
      (fun t h j => by
        rw [outsAt0_A m c t h (by have := lt_of_lt_of_eq t.isLt N_0; omega) h (by have := lt_of_lt_of_eq t.isLt N_0; omega)]
        frame_out
        exact step m c t j)
      (fun t h j => by
        rw [outsAt0_B m c t h (by omega) h (by omega)]
        frame_out
        rw [add', step])
      t h15 y

theorem final9 (c : Dev nD) : (dats m 0 c).arrAt 9 cfg0.N = dg' m c :=
  (dats m 0 c).arrAt_eq_of_covers 9 _ (of_decide_eq_true (by sl_kernel_rfl)) fun t hf y => by
    have h15 : t.val % 16 = 15 := (flush0_9 t).mp hf
    blk_simp
    rw [after0_9]
    refine Eq.trans ?_ (congrArg (dg' m c) (still t y).symm)
    exact sum_of_steps N_0 (fun n h => (outsAt0 m c n h).2.2.2) _
      (fun t h j => by
        rw [outsAt0_A m c t h (by have := lt_of_lt_of_eq t.isLt N_0; omega) h (by have := lt_of_lt_of_eq t.isLt N_0; omega)]
        frame_out
        exact step' m c t j)
      (fun t h j => by
        rw [outsAt0_B m c t h (by omega) h (by omega)]
        frame_out
        rw [add, step'])
      t h15 y

/-- The kernel's run: the four gradients, and every argument as it was. -/
theorem run : θ_run defs (onTc (τ := τ) (main (F := Ideal))) ⟨m, fun _ => 0, ρ⟩ fun r => ∀ c : Dev nD,
    r.2.mem ((c : Thread nD τ).loc main_v0_0) = dx m c
    ∧ r.2.mem ((c : Thread nD τ).loc main_v0_1) = dr m c
    ∧ r.2.mem ((c : Thread nD τ).loc main_v0_2) = dg m c
    ∧ r.2.mem ((c : Thread nD τ).loc main_v0_3) = dg' m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c),
    (h c).2.2.2.1.trans (final9 m c), (h c).2.2.2.2⟩) (Value.run_blocks m ρ)

/-- The kernel and the reference end in the same four gradients. -/
theorem agrees : Cert.algebraic_PreMlpBwdIdeal_PreMlpBwdRefIdeal := fun m g m' g' _ hm =>
  ⟨dx m, dr m, dg m, dg' m, run m g,
    (θ_run Cert.PreMlpBwdRefIdeal.defs _ _).mono (fun r h c => by
      obtain ⟨h1, h2, h3, h4, h5⟩ := h c
      obtain ⟨e0, e1, e2, e3, e4, e5⟩ := hm c
      refine ⟨h1.trans ?_, h2.trans ?_, h3.trans ?_, h4.trans ?_, h5⟩
      · rw [e0, e1, e2, e4]
        clear h1 h2 h3 h4 h5 h
        funext j
        pointwise [dx, both, back, scale, mean]
      · unfold Cert.PreMlpBwdRefIdeal.Value.res_main_v63
        rw [e0, e1, e2, e3, e4, e5]
        clear h1 h2 h3 h4 h5 h
        funext j
        pointwise [dr, dx, both, back, scale, mean]
      · rw [e0, e1]
        clear h1 h2 h3 h4 h5 h
        funext j
        pointwise [dg, part, scale, mean]
      · rw [e0, e1, e2, e3, e4]
        clear h1 h2 h3 h4 h5 h
        funext j
        pointwise [dg', dx, both, part, back, scale, mean]) (Cert.PreMlpBwdRefIdeal.Value.run m' g')⟩

end Cert.PreMlpBwdIdeal
-- ==== Proof.DwLoraValue.lean ====
module
public import proofs.«01_k».proof.Defs
public import proofs.«01_k».proof.Proof.Gen.DwLoraIdeal.Value
public import proofs.«01_k».proof.Proof.Gen.DwLoraRefIdeal.Run
public import proofs.«01_k».proof.Proof.Product
public import Idealize.ShloMosaic.Lib.Pipeline.ReadBack

/-!
The gradient of the queries' weight. The kernel takes each block of the product in 4 steps,
each with 1024 of the 4096 products of every element, and adds the steps' parts in a buffer that it copies out at the
last step. The reference is one contraction.
-/

@[expose] public section

namespace Cert.DwLoraIdeal

open Idealize.ShloMosaic Idealize.ShloMosaic.TcCoe Idealize.SL.Sem
open Gen Cert.Product

set_option maxRecDepth 16384

/-! ## The body at an element -/

section
variable (a : Vec Ideal S1024x512 .bf16) (b : Vec Ideal S1024x1024 .bf16)

theorem first (j : S512x1024.Idx) : k0_pay2 a b j = prod (turned a) b j := by
  pointwise [k0_pay2, k0_pay1, prod, turned]

theorem next (s : Vec Ideal S512x1024 .f32) (j : S512x1024.Idx) : k0_pay3 a b s j = s j + prod (turned a) b j := by
  pointwise [k0_pay3, k0_pay1, prod, turned]

theorem last (s : Vec Ideal S512x1024 .f32) (j : S512x1024.Idx) : k0_pay4 s j = s j := by
  pointwise [k0_pay4]

end

/-! ## The blocks -/

variable (m : (ℓ : Loc nD τ sig) → Buf (Elt Ideal) ℓ) (ρ : Dev nD → PrngReg)

/-- Which blocks step `t` works on. -/
theorem at_point : ∀ t : Fin cfg0.N, win0_0.index t (1 : Fin 2) = t.val / 4 / 2 ∧ win0_0.index t (0 : Fin 2) = t.val % 4
    ∧ win0_1.index t (0 : Fin 2) = t.val % 4 ∧ win0_1.index t (1 : Fin 2) = t.val / 4 % 2
    ∧ win0_2.index t (0 : Fin 2) = t.val / 4 / 2 ∧ win0_2.index t (1 : Fin 2) = t.val / 4 % 2 :=
  (by decide +kernel : ∀ t : Fin grid0.N, _)

/-- The product. -/
noncomputable abbrev out (c : Dev nD) : Vec Ideal S512x2048 .bf16 :=
  prod (turned (m ((c : Thread nD τ).loc main_arg0) : Vec Ideal S4096x512 .bf16)) (m ((c : Thread nD τ).loc main_arg1) : Vec Ideal S4096x2048 .bf16)

/-- What step `t` reads of the first argument. -/
theorem reads0 (c : Dev nD) (t : Fin cfg0.N) (r : Fin 512) (l : Fin 1024) (i : Fin 512) (q : Fin 4096)
    (hi : i.val = t.val / 4 / 2 * 512 + r.val) (hq : q.val = t.val % 4 * 1024 + l.val) :
    (iblk m c 0 t : Vec Ideal S1024x512 .bf16) (ix2 l r) = m ((c : Thread nD τ).loc main_arg0) (ix2 q i) :=
  have ⟨e0, e1, _, _, _, _⟩ := at_point t
  congrArg (m ((c : Thread nD τ).loc main_arg0)) (funext fun a => Fin.ext (match a with
    | ⟨0, _⟩ => by show win0_0.index t (0 : Fin 2) * 1024 + 1 * l.val = q.val; rw [e1]; omega
    | ⟨1, _⟩ => by show win0_0.index t (1 : Fin 2) * 512 + 1 * r.val = i.val; rw [e0]; omega))

/-- What step `t` reads of the second argument. -/
theorem reads1 (c : Dev nD) (t : Fin cfg0.N) (l : Fin 1024) (r : Fin 1024) (q : Fin 4096) (i : Fin 2048)
    (hq : q.val = t.val % 4 * 1024 + l.val) (hi : i.val = t.val / 4 % 2 * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3]; omega))

/-- The buffer holds the sum of the steps' parts. -/
theorem whole (c : Dev nD) (t : Fin cfg0.N) (h : t.val % 4 = 3) (j : S512x1024.Idx) :
    ((outsAt0 m c t.val t.isLt).2 j : EReal) = out m c (((cfg0.win 2).blk t).view.emb j) :=
  have ⟨_, _, _, _, e4, e5⟩ := at_point t
  prod_of_steps (J := 4) _ _ (fun t => (turned (iblk m c 0 t : Vec Ideal S1024x512 .bf16)))
    (fun t => (iblk m c 1 t : Vec Ideal S1024x1024 .bf16)) (fun n h => (outsAt0 m c n h).2)
    (fun t h j => by
      rw [outsAt0_A m c t h (by omega) (by omega)]
      frame_out
      rw [first])
    (fun t h j => by
      by_cases h1 : t.val % 4 = 3
      · rw [outsAt0_C m c t h (by omega) h1]
        frame_out
        rw [next, read_unread_whole]
      · rw [outsAt0_B m c t h (by omega) h1]
        frame_out
        rw [next, read_unread_whole])
    (· / 2) (· % 2) (reads0 m c) (reads1 m c) rfl t h j _
    (by show win0_2.index t (0 : Fin 2) * 512 + 1 * (j 0).val = t.val / 4 / 2 * 512 + (j 0).val; rw [e4]; omega)
    (by show win0_2.index t (1 : Fin 2) * 1024 + 1 * (j 1).val = t.val / 4 % 2 * 1024 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 4 = 3 := (flush0_2 t).mp hf
    blk_simp
    rw [after0_2]
    refine Eq.trans ?_ (whole m c t h1 y)
    rw [outsAt0_C m c t (by omega) (by omega) h1]
    frame_out
    rw [last]

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_DwLoraIdeal_DwLoraRefIdeal := fun m g m' g' _ hm =>
  ⟨fun c => _, run m g,
    (θ_run Cert.DwLoraRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.DwLoraRefIdeal.Value.run m' g')⟩

end Cert.DwLoraIdeal
-- ==== Proof.DLoraValue.lean ====
module
public import proofs.«01_k».proof.Defs
public import proofs.«01_k».proof.Proof.Gen.DLoraIdeal.Value
public import proofs.«01_k».proof.Proof.Gen.DLoraRefIdeal.Run
public import proofs.«01_k».proof.Proof.Product
public import Idealize.ShloMosaic.Lib.Pipeline.ReadBack

/-!
The gradient of the queries' input. The kernel takes each block of the product in 2 steps,
each with 1024 of the 2048 products of every element, and adds the steps' parts in a buffer that it copies out at the
last step. The reference is one contraction.
-/

@[expose] public section

namespace Cert.DLoraIdeal

open Idealize.ShloMosaic Idealize.ShloMosaic.TcCoe Idealize.SL.Sem
open Gen Cert.Product

set_option maxRecDepth 16384

/-! ## The body at an element -/

section
variable (a : Vec Ideal S1024x1024 .bf16) (b : Vec Ideal S512x1024 .bf16)

theorem first (j : S1024x512.Idx) : k0_pay2 a b j = prod a (turned b) j := by
  pointwise [k0_pay2, k0_pay1, prod, turned]

theorem next (s : Vec Ideal S1024x512 .f32) (j : S1024x512.Idx) : k0_pay3 a b s j = s j + prod a (turned b) j := by
  pointwise [k0_pay3, k0_pay1, prod, turned]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 2 / 1 ∧ win0_0.index t (1 : Fin 2) = t.val % 2
    ∧ win0_1.index t (1 : Fin 2) = t.val % 2 ∧ win0_1.index t (0 : Fin 2) = t.val / 2 % 1
    ∧ win0_2.index t (0 : Fin 2) = t.val / 2 / 1 ∧ win0_2.index t (1 : Fin 2) = t.val / 2 % 1 :=
  (by decide +kernel : ∀ t : Fin grid0.N, _)

/-- The product. -/
noncomputable abbrev out (c : Dev nD) : Vec Ideal S4096x512 .f32 :=
  prod (m ((c : Thread nD τ).loc main_arg0) : Vec Ideal S4096x2048 .bf16) (turned (m ((c : Thread nD τ).loc main_arg1) : Vec Ideal S512x2048 .bf16))

/-- What step `t` reads of the first argument. -/
theorem reads0 (c : Dev nD) (t : Fin cfg0.N) (r : Fin 1024) (l : Fin 1024) (i : Fin 4096) (q : Fin 2048)
    (hi : i.val = t.val / 2 / 1 * 1024 + r.val) (hq : q.val = t.val % 2 * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1]; omega))

/-- What step `t` reads of the second argument. -/
theorem reads1 (c : Dev nD) (t : Fin cfg0.N) (l : Fin 1024) (r : Fin 512) (q : Fin 2048) (i : Fin 512)
    (hq : q.val = t.val % 2 * 1024 + l.val) (hi : i.val = t.val / 2 % 1 * 512 + r.val) :
    (iblk m c 1 t : Vec Ideal S512x1024 .bf16) (ix2 r l) = m ((c : Thread nD τ).loc main_arg1) (ix2 i q) :=
  have ⟨_, _, e2, e3, _, _⟩ := at_point t
  congrArg (m ((c : Thread nD τ).loc main_arg1)) (funext fun a => Fin.ext (match a with
    | ⟨0, _⟩ => by show win0_1.index t (0 : Fin 2) * 512 + 1 * r.val = i.val; rw [e3]; omega
    | ⟨1, _⟩ => by show win0_1.index t (1 : Fin 2) * 1024 + 1 * l.val = q.val; rw [e2]; omega))

/-- The buffer holds the sum of the steps' parts. -/
theorem whole (c : Dev nD) (t : Fin cfg0.N) (h : t.val % 2 = 1) (j : S1024x512.Idx) :
    ((outsAt0 m c t.val t.isLt).2 j : EReal) = out m c (((cfg0.win 2).blk t).view.emb j) :=
  have ⟨_, _, _, _, e4, e5⟩ := at_point t
  prod_of_steps (J := 2) _ _ (fun t => (iblk m c 0 t : Vec Ideal S1024x1024 .bf16))
    (fun t => (turned (iblk m c 1 t : Vec Ideal S512x1024 .bf16))) (fun n h => (outsAt0 m c n h).2)
    (fun t h j => by
      rw [outsAt0_A m c t h (by omega) (by omega)]
      frame_out
      rw [first])
    (fun t h j => by
      rw [outsAt0_B m c t h (by omega) (by omega)]
      frame_out
      rw [next, read_unread_whole])
    (· / 1) (· % 1) (reads0 m c) (reads1 m c) rfl t h j _
    (by show win0_2.index t (0 : Fin 2) * 1024 + 1 * (j 0).val = t.val / 2 / 1 * 1024 + (j 0).val; rw [e4]; omega)
    (by show win0_2.index t (1 : Fin 2) * 512 + 1 * (j 1).val = t.val / 2 % 1 * 512 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 2 = 1 := (flush0_2 t).mp hf
    blk_simp
    rw [after0_2]
    refine Eq.trans ?_ (whole m c t h1 y)
    rw [outsAt0_B m c t (by omega) h1 h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_DLoraIdeal_DLoraRefIdeal := fun m g m' g' _ hm =>
  ⟨fun c => _, run m g,
    (θ_run Cert.DLoraRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.DLoraRefIdeal.Value.run m' g')⟩

end Cert.DLoraIdeal
-- ==== Proof.DwInValue.lean ====
module
public import proofs.«01_k».proof.Defs
public import proofs.«01_k».proof.Proof.Gen.DwInIdeal.Value
public import proofs.«01_k».proof.Proof.Gen.DwInRefIdeal.Run
public import proofs.«01_k».proof.Proof.Product
public import Idealize.ShloMosaic.Lib.Pipeline.ReadBack

/-!
The gradient of the mixer's input weight. The kernel takes each block of the product in 8 steps,
each with 512 of the 4096 products of every element, and adds the steps' parts in a buffer that it copies out at the
last step. The reference is one contraction.
-/

@[expose] public section

namespace Cert.DwInIdeal

open Idealize.ShloMosaic Idealize.ShloMosaic.TcCoe Idealize.SL.Sem
open Gen Cert.Product

set_option maxRecDepth 16384

/-! ## The body at an element -/

section
variable (a : Vec Ideal S512x512 .bf16) (b : Vec Ideal S512x3712 .bf16)

theorem first (j : S512x3712.Idx) : k0_pay2 a b j = prod (turned a) b j := by
  pointwise [k0_pay2, k0_pay1, prod, turned]

theorem next (s : Vec Ideal S512x3712 .f32) (j : S512x3712.Idx) : k0_pay3 a b s j = s j + prod (turned a) b j := by
  pointwise [k0_pay3, k0_pay1, prod, turned]

theorem last (s : Vec Ideal S512x3712 .f32) (j : S512x3712.Idx) : k0_pay4 s j = s j := by
  pointwise [k0_pay4]

end

/-! ## The blocks -/

variable (m : (ℓ : Loc nD τ sig) → Buf (Elt Ideal) ℓ) (ρ : Dev nD → PrngReg)

/-- Which blocks step `t` works on. -/
theorem at_point : ∀ t : Fin cfg0.N, win0_0.index t (1 : Fin 2) = t.val / 8 / 1 ∧ win0_0.index t (0 : Fin 2) = t.val % 8
    ∧ win0_1.index t (0 : Fin 2) = t.val % 8 ∧ win0_1.index t (1 : Fin 2) = t.val / 8 % 1
    ∧ win0_2.index t (0 : Fin 2) = t.val / 8 / 1 ∧ win0_2.index t (1 : Fin 2) = t.val / 8 % 1 :=
  (by decide +kernel : ∀ t : Fin grid0.N, _)

/-- The product. -/
noncomputable abbrev out (c : Dev nD) : Vec Ideal S2048x3712 .bf16 :=
  prod (turned (m ((c : Thread nD τ).loc main_arg0) : Vec Ideal S4096x2048 .bf16)) (m ((c : Thread nD τ).loc main_arg1) : Vec Ideal S4096x3712 .bf16)

/-- What step `t` reads of the first argument. -/
theorem reads0 (c : Dev nD) (t : Fin cfg0.N) (r : Fin 512) (l : Fin 512) (i : Fin 2048) (q : Fin 4096)
    (hi : i.val = t.val / 8 / 1 * 512 + r.val) (hq : q.val = t.val % 8 * 512 + l.val) :
    (iblk m c 0 t : Vec Ideal S512x512 .bf16) (ix2 l r) = m ((c : Thread nD τ).loc main_arg0) (ix2 q i) :=
  have ⟨e0, e1, _, _, _, _⟩ := at_point t
  congrArg (m ((c : Thread nD τ).loc main_arg0)) (funext fun a => Fin.ext (match a with
    | ⟨0, _⟩ => by show win0_0.index t (0 : Fin 2) * 512 + 1 * l.val = q.val; rw [e1]; omega
    | ⟨1, _⟩ => by show win0_0.index t (1 : Fin 2) * 512 + 1 * r.val = i.val; rw [e0]; omega))

/-- What step `t` reads of the second argument. -/
theorem reads1 (c : Dev nD) (t : Fin cfg0.N) (l : Fin 512) (r : Fin 3712) (q : Fin 4096) (i : Fin 3712)
    (hq : q.val = t.val % 8 * 512 + l.val) (hi : i.val = t.val / 8 % 1 * 3712 + r.val) :
    (iblk m c 1 t : Vec Ideal S512x3712 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 512 + 1 * l.val = q.val; rw [e2]; omega
    | ⟨1, _⟩ => by show win0_1.index t (1 : Fin 2) * 3712 + 1 * r.val = i.val; rw [e3]; omega))

/-- The buffer holds the sum of the steps' parts. -/
theorem whole (c : Dev nD) (t : Fin cfg0.N) (h : t.val % 8 = 7) (j : S512x3712.Idx) :
    ((outsAt0 m c t.val t.isLt).2 j : EReal) = out m c (((cfg0.win 2).blk t).view.emb j) :=
  have ⟨_, _, _, _, e4, e5⟩ := at_point t
  prod_of_steps (J := 8) _ _ (fun t => (turned (iblk m c 0 t : Vec Ideal S512x512 .bf16)))
    (fun t => (iblk m c 1 t : Vec Ideal S512x3712 .bf16)) (fun n h => (outsAt0 m c n h).2)
    (fun t h j => by
      rw [outsAt0_A m c t h (by omega) (by omega)]
      frame_out
      rw [first])
    (fun t h j => by
      by_cases h1 : t.val % 8 = 7
      · rw [outsAt0_C m c t h (by omega) h1]
        frame_out
        rw [next, read_unread_whole]
      · rw [outsAt0_B m c t h (by omega) h1]
        frame_out
        rw [next, read_unread_whole])
    (· / 1) (· % 1) (reads0 m c) (reads1 m c) rfl t h j _
    (by show win0_2.index t (0 : Fin 2) * 512 + 1 * (j 0).val = t.val / 8 / 1 * 512 + (j 0).val; rw [e4]; omega)
    (by show win0_2.index t (1 : Fin 2) * 3712 + 1 * (j 1).val = t.val / 8 % 1 * 3712 + (j 1).val; rw [e5]; omega)

theorem final (c : Dev nD) : (dats m 0 c).arrAt 2 cfg0.N = out m c :=
  (dats m 0 c).arrAt_eq_of_covers 2 _ (of_decide_eq_true (by sl_kernel_rfl)) fun t hf y => by
    have h1 : t.val % 8 = 7 := (flush0_2 t).mp hf
    blk_simp
    rw [after0_2]
    refine Eq.trans ?_ (whole m c t h1 y)
    rw [outsAt0_C m c t (by omega) (by omega) h1]
    frame_out
    rw [last]

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_DwInIdeal_DwInRefIdeal := fun m g m' g' _ hm =>
  ⟨fun c => _, run m g,
    (θ_run Cert.DwInRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.DwInRefIdeal.Value.run m' g')⟩

end Cert.DwInIdeal
-- ==== Proof.KvUpValue.lean ====
module
public import proofs.«01_k».proof.Defs
public import proofs.«01_k».proof.Proof.Gen.KvUpIdeal.Value
public import proofs.«01_k».proof.Proof.Gen.KvUpRefIdeal.Run
public import proofs.«01_k».proof.Proof.Product

/-!
The keys and values of all heads. The kernel takes each block of the product at once; the reference is one contraction.
-/

@[expose] public section

namespace Cert.KvUpIdeal

open Idealize.ShloMosaic Idealize.ShloMosaic.TcCoe Idealize.SL.Sem
open Gen Cert.Product

set_option maxRecDepth 16384

theorem block (a : Vec Ideal S1024x512 .bf16) (b : Vec Ideal S512x1024 .bf16) (j : S1024x1024.Idx) : k0_pay1 a b j = prod a b j := by
  pointwise [k0_pay1, prod]

variable (m : (ℓ : Loc nD τ sig) → Buf (Elt Ideal) ℓ) (ρ : Dev nD → PrngReg)

/-- Which blocks step `t` works on. -/
theorem at_point : ∀ t : Fin cfg0.N, win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2 :=
  (by decide +kernel : ∀ t : Fin grid0.N, _)

/-- The product. -/
noncomputable abbrev out (c : Dev nD) : Vec Ideal S4096x2048 .bf16 :=
  prod (m ((c : Thread nD τ).loc main_arg0) : Vec Ideal S4096x512 .bf16) (m ((c : Thread nD τ).loc main_arg1) : Vec Ideal S512x2048 .bf16)

theorem final (c : Dev nD) : (dats m 0 c).arrAt 2 cfg0.N = out m c :=
  (dats m 0 c).arrAt_eq_of_covers 2 _ (of_decide_eq_true (by sl_kernel_rfl)) fun t _ y => by
    obtain ⟨e0, e, e1, e2, e3, e4⟩ := at_point t
    blk_simp
    rw [after0_2]
    show out0_A_2 c _ _ _ _ _ _ _ _ _ _ _ y = _
    frame_out
    rw [block]
    refine Finset.sum_congr rfl fun k _ => congrArg₂ (fun a b : EReal => a * b)
      (congrArg (m ((c : Thread nD τ).loc main_arg0)) (funext fun a => Fin.ext (match a with
        | ⟨0, _⟩ => by show win0_0.index t (0 : Fin 2) * 1024 + 1 * (y 0).val = win0_2.index t (0 : Fin 2) * 1024 + 1 * (y 0).val; rw [e0, e3]
        | ⟨1, _⟩ => by show win0_0.index t (1 : Fin 2) * 512 + 1 * k.val = k.val; rw [e]; omega)))
      (congrArg (m ((c : Thread nD τ).loc main_arg1)) (funext fun a => Fin.ext (match a with
        | ⟨0, _⟩ => by show win0_1.index t (0 : Fin 2) * 512 + 1 * k.val = k.val; rw [e1]; omega
        | ⟨1, _⟩ => by show win0_1.index t (1 : Fin 2) * 1024 + 1 * (y 1).val = win0_2.index t (1 : Fin 2) * 1024 + 1 * (y 1).val; rw [e2, e4])))

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_KvUpIdeal_KvUpRefIdeal := fun m g m' g' _ hm =>
  ⟨fun c => _, run m g,
    (θ_run Cert.KvUpRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod]) (Cert.KvUpRefIdeal.Value.run m' g')⟩

end Cert.KvUpIdeal
-- ==== Proof.Dh1BranchesValue.lean ====
module
public import proofs.«01_k».proof.Defs
public import proofs.«01_k».proof.Proof.Gen.Dh1BranchesIdeal.Value
public import proofs.«01_k».proof.Proof.Gen.Dh1BranchesRefIdeal.Run
public import proofs.«01_k».proof.Proof.Product

/-!
The branches' part of the gradient of the mixer's input. The kernel takes each block of the product at once; the
reference is one contraction.
-/

@[expose] public section

namespace Cert.Dh1BranchesIdeal

open Idealize.ShloMosaic Idealize.ShloMosaic.TcCoe Idealize.SL.Sem
open Gen Cert.Product

set_option maxRecDepth 16384

theorem block (a : Vec Ideal S512x3712 .bf16) (b : Vec Ideal S512x3712 .bf16) (j : S512x512.Idx) : k0_pay1 a b j = prod a (turned b) j := by
  pointwise [k0_pay1, prod, turned]

variable (m : (ℓ : Loc nD τ sig) → Buf (Elt Ideal) ℓ) (ρ : Dev nD → PrngReg)

/-- Which blocks step `t` works on. -/
theorem at_point : ∀ t : Fin cfg0.N, win0_0.index t (0 : Fin 2) = t.val / 4 ∧ win0_0.index t (1 : Fin 2) = 0
    ∧ win0_1.index t (1 : Fin 2) = 0 ∧ win0_1.index t (0 : Fin 2) = t.val % 4
    ∧ win0_2.index t (0 : Fin 2) = t.val / 4 ∧ win0_2.index t (1 : Fin 2) = t.val % 4 :=
  (by decide +kernel : ∀ t : Fin grid0.N, _)

/-- The product. -/
noncomputable abbrev out (c : Dev nD) : Vec Ideal S4096x2048 .f32 :=
  prod (m ((c : Thread nD τ).loc main_arg0) : Vec Ideal S4096x3712 .bf16) (turned (m ((c : Thread nD τ).loc main_arg1) : Vec Ideal S2048x3712 .bf16))

theorem final (c : Dev nD) : (dats m 0 c).arrAt 2 cfg0.N = out m c :=
  (dats m 0 c).arrAt_eq_of_covers 2 _ (of_decide_eq_true (by sl_kernel_rfl)) fun t _ y => by
    obtain ⟨e0, e, e1, e2, e3, e4⟩ := at_point t
    blk_simp
    rw [after0_2]
    show out0_A_2 c _ _ _ _ _ _ _ _ _ _ _ y = _
    frame_out
    rw [block]
    refine Finset.sum_congr rfl fun k _ => congrArg₂ (fun a b : EReal => a * b)
      (congrArg (m ((c : Thread nD τ).loc main_arg0)) (funext fun a => Fin.ext (match a with
        | ⟨0, _⟩ => by show win0_0.index t (0 : Fin 2) * 512 + 1 * (y 0).val = win0_2.index t (0 : Fin 2) * 512 + 1 * (y 0).val; rw [e0, e3]
        | ⟨1, _⟩ => by show win0_0.index t (1 : Fin 2) * 3712 + 1 * k.val = k.val; rw [e]; omega)))
      (congrArg (m ((c : Thread nD τ).loc main_arg1)) (funext fun a => Fin.ext (match a with
        | ⟨0, _⟩ => by show win0_1.index t (0 : Fin 2) * 512 + 1 * (y 1).val = win0_2.index t (1 : Fin 2) * 512 + 1 * (y 1).val; rw [e2, e4]
        | ⟨1, _⟩ => by show win0_1.index t (1 : Fin 2) * 3712 + 1 * k.val = k.val; rw [e1]; omega)))

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_Dh1BranchesIdeal_Dh1BranchesRefIdeal := fun m g m' g' _ hm =>
  ⟨fun c => _, run m g,
    (θ_run Cert.Dh1BranchesRefIdeal.defs _ _).mono (fun r h c => by
      obtain ⟨h1, h2⟩ := h c
      obtain ⟨e0, e1⟩ := hm c
      refine ⟨h1.trans ?_, h2⟩
      rw [e0, e1]
      clear h1 h2 h
      funext j
      pointwise [out, prod, turned]) (Cert.Dh1BranchesRefIdeal.Value.run m' g')⟩

end Cert.Dh1BranchesIdeal
-- ==== Proof.ProjBwdActValue.lean ====
module
public import proofs.«01_k».proof.Defs
public import proofs.«01_k».proof.Proof.Gen.ProjBwdActIdeal.Value
public import proofs.«01_k».proof.Proof.Gen.ProjBwdActRefIdeal.Run
public import proofs.«01_k».proof.Proof.Product
public import Idealize.ShloMosaic.Lib.Pipeline.ReadBack

/-!
The gradient of the branches' outputs: each group of 512 columns is the product of one branch's gradient with the
transpose of its rows of the weight, the last branch having two groups. The kernel takes each block in two steps. The
reference takes the four branches' products and puts them beside each other.
-/

@[expose] public section

namespace Cert.ProjBwdActIdeal

open Idealize.ShloMosaic Idealize.ShloMosaic.TcCoe Idealize.SL.Sem
open Gen Cert.Product

set_option maxRecDepth 16384

/-! ## The body at an element -/

section
variable (a : Vec Ideal S1024x1024 .bf16) (b : Vec Ideal S512x1024 .bf16)

theorem first (j : S1024x512.Idx) : k0_pay2 a b j = prod a (turned b) j := by
  pointwise [k0_pay2, k0_pay1, prod, turned]

theorem next (s : Vec Ideal S1024x512 .f32) (j : S1024x512.Idx) : k0_pay3 a b s j = s j + prod a (turned b) j := by
  pointwise [k0_pay3, k0_pay1, prod, turned]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 2 / 5
    ∧ win0_0.index t (1 : Fin 2) = min (t.val / 2 % 5) 3 * 2 + t.val % 2
    ∧ win0_1.index t (0 : Fin 2) = t.val / 2 % 5 ∧ win0_1.index t (1 : Fin 2) = t.val % 2
    ∧ win0_2.index t (0 : Fin 2) = t.val / 2 / 5 ∧ win0_2.index t (1 : Fin 2) = t.val / 2 % 5 :=
  (by decide +kernel : ∀ t : Fin grid0.N, _)

/-- The gradient. -/
noncomputable abbrev out (c : Dev nD) : Vec Ideal S4096x2560 .f32 := fun i =>
  prod (branch (m ((c : Thread nD τ).loc main_arg0)) (i 1).val) (turned (m ((c : Thread nD τ).loc main_arg1) : Vec Ideal S2560x2048 .bf16)) i

/-- What step `t` reads of the first argument. -/
theorem reads0 (c : Dev nD) (t : Fin cfg0.N) (r : Fin 1024) (l : Fin 1024) (i : Fin 4096) (q : Fin 8192)
    (hi : i.val = t.val / 2 / 5 * 1024 + r.val) (hq : q.val = (min (t.val / 2 % 5) 3 * 2 + t.val % 2) * 1024 + l.val) :
    (iblk m c 0 t : Vec Ideal S1024x1024 .bf16) (ix2 r l) = m ((c : Thread nD τ).loc main_arg0) (ix2 i q) :=
  have ⟨e0, e1, _, _, _, _⟩ := at_point t
  congrArg (m ((c : Thread nD τ).loc main_arg0)) (funext fun a => Fin.ext (match a with
    | ⟨0, _⟩ => by show win0_0.index t (0 : Fin 2) * 1024 + 1 * r.val = i.val; rw [e0]; omega
    | ⟨1, _⟩ => by show win0_0.index t (1 : Fin 2) * 1024 + 1 * l.val = q.val; rw [e1, hq, Nat.one_mul]))

/-- What step `t` reads of the second argument. -/
theorem reads1 (c : Dev nD) (t : Fin cfg0.N) (l : Fin 1024) (r : Fin 512) (q : Fin 2048) (i : Fin 2560)
    (hq : q.val = t.val % 2 * 1024 + l.val) (hi : i.val = t.val / 2 % 5 * 512 + r.val) :
    (iblk m c 1 t : Vec Ideal S512x1024 .bf16) (ix2 r l) = m ((c : Thread nD τ).loc main_arg1) (ix2 i q) :=
  have ⟨_, _, e2, e3, _, _⟩ := at_point t
  congrArg (m ((c : Thread nD τ).loc main_arg1)) (funext fun a => Fin.ext (match a with
    | ⟨0, _⟩ => by show win0_1.index t (0 : Fin 2) * 512 + 1 * r.val = i.val; rw [e2]; omega
    | ⟨1, _⟩ => by show win0_1.index t (1 : Fin 2) * 1024 + 1 * l.val = q.val; rw [e3]; omega))

/-- The buffer holds the sum of the steps' parts. -/
theorem whole (c : Dev nD) (t : Fin cfg0.N) (h : t.val % 2 = 1) (j : S1024x512.Idx) :
    ((outsAt0 m c t.val t.isLt).2 j : EReal) = out m c (((cfg0.win 2).blk t).view.emb j) := by
  obtain ⟨_, _, _, _, e4, e5⟩ := at_point t
  have h0 : (((cfg0.win 2).blk t).view.emb j (0 : Fin 2)).val = t.val / 2 / 5 * 1024 + (j 0).val := by
    show win0_2.index t (0 : Fin 2) * 1024 + 1 * (j 0).val = _; rw [e4]; omega
  have h1 : (((cfg0.win 2).blk t).view.emb j (1 : Fin 2)).val = t.val / 2 % 5 * 512 + (j 1).val := by
    show win0_2.index t (1 : Fin 2) * 512 + 1 * (j 1).val = _; rw [e5]; omega
  have hj : (j 1).val < 512 := (j 1).isLt
  refine element_of_steps (J := 2) _ _ (fun t => (iblk m c 0 t : Vec Ideal S1024x1024 .bf16))
    (fun t => turned (iblk m c 1 t : Vec Ideal S512x1024 .bf16)) (fun n h => (outsAt0 m c n h).2)
    (fun t h j => ?_) (fun t h j => ?_) rfl t h j _
    (fun s l q hd hq => reads0 m c s _ l _ _ (by rw [hd]; exact h0) ?_)
    (fun s l q hd hq => reads1 m c s l _ _ _ hq (by rw [hd]; exact h1))
  · rw [outsAt0_A m c t h (by omega) (by omega)]
    frame_out
    rw [first]
  · rw [outsAt0_B m c t h (by omega) (by omega)]
    frame_out
    rw [next, read_unread_whole]
  · show min ((((cfg0.win 2).blk t).view.emb j (1 : Fin 2)).val / 512) 3 * 2048 + q.val = _
    rw [h1, hd, hq]
    omega

theorem final (c : Dev nD) : (dats m 0 c).arrAt 2 cfg0.N = out m c :=
  (dats m 0 c).arrAt_eq_of_covers 2 _ (of_decide_eq_true (by sl_kernel_rfl)) fun t hf y => by
    have h1 : t.val % 2 = 1 := (flush0_2 t).mp hf
    blk_simp
    rw [after0_2]
    refine Eq.trans ?_ (whole m c t h1 y)
    rw [outsAt0_B m c t (by omega) h1 h1]
    frame_out

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_ProjBwdActIdeal_ProjBwdActRefIdeal := fun m g m' g' _ hm =>
  ⟨fun c => _, run m g,
    (θ_run Cert.ProjBwdActRefIdeal.defs _ _).mono (fun r h c => by
      obtain ⟨h1, h2⟩ := h c
      obtain ⟨e0, e1⟩ := hm c
      refine ⟨h1.trans ?_, h2⟩
      rw [e0, e1]
      clear h1 h2 h
      funext j
      have hj : (j 1).val < 2560 := (j 1).isLt
      pointwise [out, prod, turned, branch]
      split_ifs <;> refine Finset.sum_congr rfl fun q _ => ?_ <;> congr 2 <;> funext a <;>
        match a with
        | ⟨0, _⟩ => exact Fin.ext (by simp; try omega)
        | ⟨1, _⟩ => exact Fin.ext (by simp; try omega)) (Cert.ProjBwdActRefIdeal.Value.run m' g')⟩

end Cert.ProjBwdActIdeal
-- ==== Proof.ProjBwdWValue.lean ====
module
public import proofs.«01_k».proof.Defs
public import proofs.«01_k».proof.Proof.Gen.ProjBwdWIdeal.Value
public import proofs.«01_k».proof.Proof.Gen.ProjBwdWRefIdeal.Run
public import proofs.«01_k».proof.Proof.Product
public import Idealize.ShloMosaic.Lib.Pipeline.ReadBack

/-!
The gradient of the branches' output weight: each group of 512 rows is the product of the transpose of one branch's
columns with the branch's gradient, the last branch having two groups. The kernel takes each block in four steps. The
reference takes the four branches' products and puts them below each other.
-/

@[expose] public section

namespace Cert.ProjBwdWIdeal

open Idealize.ShloMosaic Idealize.ShloMosaic.TcCoe Idealize.SL.Sem
open Gen Cert.Product

set_option maxRecDepth 16384

/-! ## The body at an element -/

section
variable (a : Vec Ideal S1024x512 .bf16) (b : Vec Ideal S1024x1024 .bf16)

theorem first (j : S512x1024.Idx) : k0_pay2 a b j = prod (turned a) b j := by
  pointwise [k0_pay2, k0_pay1, prod, turned]

theorem next (s : Vec Ideal S512x1024 .f32) (j : S512x1024.Idx) : k0_pay3 a b s j = s j + prod (turned a) b j := by
  pointwise [k0_pay3, k0_pay1, prod, turned]

theorem last (s : Vec Ideal S512x1024 .f32) (j : S512x1024.Idx) : k0_pay4 s j = s j := by
  pointwise [k0_pay4]

end

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val % 4 ∧ win0_0.index t (1 : Fin 2) = t.val / 4 / 2
    ∧ win0_1.index t (0 : Fin 2) = t.val % 4 ∧ win0_1.index t (1 : Fin 2) = min (t.val / 4 / 2) 3 * 2 + t.val / 4 % 2
    ∧ win0_2.index t (0 : Fin 2) = t.val / 4 / 2 ∧ win0_2.index t (1 : Fin 2) = t.val / 4 % 2 :=
  (by decide +kernel : ∀ t : Fin grid0.N, _)

/-- The gradient. -/
noncomputable abbrev out (c : Dev nD) : Vec Ideal S2560x2048 .bf16 := fun i =>
  prod (turned (m ((c : Thread nD τ).loc main_arg0) : Vec Ideal S4096x2560 .bf16)) (branch (m ((c : Thread nD τ).loc main_arg1)) (i 0).val) i

/-- What step `t` reads of the first argument. -/
theorem reads0 (c : Dev nD) (t : Fin cfg0.N) (r : Fin 512) (l : Fin 1024) (i : Fin 2560) (q : Fin 4096)
    (hi : i.val = t.val / 4 / 2 * 512 + r.val) (hq : q.val = t.val % 4 * 1024 + l.val) :
    (iblk m c 0 t : Vec Ideal S1024x512 .bf16) (ix2 l r) = m ((c : Thread nD τ).loc main_arg0) (ix2 q i) :=
  have ⟨e0, e1, _, _, _, _⟩ := at_point t
  congrArg (m ((c : Thread nD τ).loc main_arg0)) (funext fun a => Fin.ext (match a with
    | ⟨0, _⟩ => by show win0_0.index t (0 : Fin 2) * 1024 + 1 * l.val = q.val; rw [e0]; omega
    | ⟨1, _⟩ => by show win0_0.index t (1 : Fin 2) * 512 + 1 * r.val = i.val; rw [e1]; omega))

/-- What step `t` reads of the second argument. -/
theorem reads1 (c : Dev nD) (t : Fin cfg0.N) (l : Fin 1024) (r : Fin 1024) (q : Fin 4096) (i : Fin 8192)
    (hq : q.val = t.val % 4 * 1024 + l.val) (hi : i.val = (min (t.val / 4 / 2) 3 * 2 + t.val / 4 % 2) * 1024 + r.val) :
    (iblk m c 1 t : Vec Ideal S1024x1024 .bf16) (ix2 l r) = m ((c : Thread nD τ).loc main_arg1) (ix2 q i) :=
  have ⟨_, _, e2, e3, _, _⟩ := at_point t
  congrArg (m ((c : Thread nD τ).loc main_arg1)) (funext fun a => Fin.ext (match a with
    | ⟨0, _⟩ => by show win0_1.index t (0 : Fin 2) * 1024 + 1 * l.val = q.val; rw [e2]; omega
    | ⟨1, _⟩ => by show win0_1.index t (1 : Fin 2) * 1024 + 1 * r.val = i.val; rw [e3, hi, Nat.one_mul]))

/-- The buffer holds the sum of the steps' parts. -/
theorem whole (c : Dev nD) (t : Fin cfg0.N) (h : t.val % 4 = 3) (j : S512x1024.Idx) :
    ((outsAt0 m c t.val t.isLt).2 j : EReal) = out m c (((cfg0.win 2).blk t).view.emb j) := by
  obtain ⟨_, _, _, _, e4, e5⟩ := at_point t
  have h0 : (((cfg0.win 2).blk t).view.emb j (0 : Fin 2)).val = t.val / 4 / 2 * 512 + (j 0).val := by
    show win0_2.index t (0 : Fin 2) * 512 + 1 * (j 0).val = _; rw [e4]; omega
  have h1 : (((cfg0.win 2).blk t).view.emb j (1 : Fin 2)).val = t.val / 4 % 2 * 1024 + (j 1).val := by
    show win0_2.index t (1 : Fin 2) * 1024 + 1 * (j 1).val = _; rw [e5]; omega
  have hj : (j 0).val < 512 := (j 0).isLt
  refine element_of_steps (J := 4) _ _ (fun t => turned (iblk m c 0 t : Vec Ideal S1024x512 .bf16))
    (fun t => (iblk m c 1 t : Vec Ideal S1024x1024 .bf16)) (fun n h => (outsAt0 m c n h).2)
    (fun t h j => ?_) (fun t h j => ?_) rfl t h j _
    (fun s l q hd hq => reads0 m c s _ l _ _ (by rw [hd]; exact h0) hq)
    (fun s l q hd hq => reads1 m c s l _ _ _ hq ?_)
  · rw [outsAt0_A m c t h (by omega) (by omega)]
    frame_out
    rw [first]
  · by_cases h1 : t.val % 4 = 3
    · rw [outsAt0_C m c t h (by omega) h1]
      frame_out
      rw [next, read_unread_whole]
    · rw [outsAt0_B m c t h (by omega) h1]
      frame_out
      rw [next, read_unread_whole]
  · show min ((((cfg0.win 2).blk t).view.emb j (0 : Fin 2)).val / 512) 3 * 2048 + (((cfg0.win 2).blk t).view.emb j (1 : Fin 2)).val = _
    rw [h0, h1, hd]
    omega

theorem final (c : Dev nD) : (dats m 0 c).arrAt 2 cfg0.N = out m c :=
  (dats m 0 c).arrAt_eq_of_covers 2 _ (of_decide_eq_true (by sl_kernel_rfl)) fun t hf y => by
    have h1 : t.val % 4 = 3 := (flush0_2 t).mp hf
    blk_simp
    rw [after0_2]
    refine Eq.trans ?_ (whole m c t h1 y)
    rw [outsAt0_C m c t (by omega) (by omega) h1]
    frame_out
    rw [last]

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_ProjBwdWIdeal_ProjBwdWRefIdeal := fun m g m' g' _ hm =>
  ⟨fun c => _, run m g,
    (θ_run Cert.ProjBwdWRefIdeal.defs _ _).mono (fun r h c => by
      obtain ⟨h1, h2⟩ := h c
      obtain ⟨e0, e1⟩ := hm c
      refine ⟨h1.trans ?_, h2⟩
      rw [e0, e1]
      clear h1 h2 h
      funext j
      have hj : (j 0).val < 2560 := (j 0).isLt
      pointwise [out, prod, turned, branch]
      split_ifs <;> refine Finset.sum_congr rfl fun q _ => ?_ <;> congr 2 <;> funext a <;>
        match a with
        | ⟨0, _⟩ => exact Fin.ext (by simp; try omega)
        | ⟨1, _⟩ => exact Fin.ext (by simp; try omega)) (Cert.ProjBwdWRefIdeal.Value.run m' g')⟩

end Cert.ProjBwdWIdeal
-- ==== Proof.ProjFwdValue.lean ====
module
public import proofs.«01_k».proof.Defs
public import proofs.«01_k».proof.Proof.Gen.ProjFwdIdeal.Value
public import proofs.«01_k».proof.Proof.Gen.ProjFwdRefIdeal.Run
public import proofs.«01_k».proof.Proof.Product
public import Idealize.ShloMosaic.Lib.Pipeline.ReadBack

/-!
The branches' projections: each branch's columns times its rows of the weight, the four products beside each other. The
first three branches have 512 columns each, which the kernel takes in one step; the last has 1024, which it takes in two.
-/

@[expose] public section

namespace Cert.ProjFwdIdeal

open Idealize.ShloMosaic Idealize.ShloMosaic.TcCoe Idealize.SL.Sem
open Gen Cert.Product

set_option maxRecDepth 16384

/-! ## The body at an element -/

section
variable (a : Vec Ideal S1024x512 .bf16) (b : Vec Ideal S512x1024 .bf16)

theorem first (j : S1024x1024.Idx) : k0_pay2 a b j = prod a b j := by
  pointwise [k0_pay2, k0_pay1, prod]

theorem next (s : Vec Ideal S1024x1024 .f32) (j : S1024x1024.Idx) : k0_pay3 a b s j = s j + prod a b j := by
  pointwise [k0_pay3, k0_pay1, prod]

end

/-! ## The projections -/

section
variable (a : Vec Ideal S4096x2560 .bf16) (w : Vec Ideal S2560x2048 .bf16)

/-- The product that position `k` of the branches' columns adds to element `i`. -/
noncomputable def part (i : S4096x8192.Idx) (k : Fin 2560) : EReal :=
  a (ix2 (i 0) k) * w (ix2 k ⟨(i 1).val % 2048, Nat.mod_lt _ (by decide)⟩)

/-- Element `i`: the sum over its branch's columns. -/
noncomputable def proj : Vec Ideal S4096x8192 .f32 := fun i =>
  if h : (i 1).val < 6144 then ∑ q : Fin 512, part a w i ⟨(i 1).val / 2048 * 512 + q.val, by omega⟩
  else ∑ q : Fin 1024, part a w i ⟨1536 + q.val, by omega⟩

end

/-! ## The blocks -/

variable (m : (ℓ : Loc nD τ sig) → Buf (Elt Ideal) ℓ) (ρ : Dev nD → PrngReg)

/-- Which 512 columns step `t` takes. -/
def columns (t : Nat) : Nat := if t / 2 % 4 < 3 then t / 2 % 4 else 3 + t % 2

/-- Which blocks step `t` works on. -/
theorem at_point : ∀ t : Fin cfg0.N, win0_0.index t (0 : Fin 2) = t.val / 16 ∧ win0_0.index t (1 : Fin 2) = columns t.val
    ∧ win0_1.index t (0 : Fin 2) = columns t.val ∧ win0_1.index t (1 : Fin 2) = t.val / 8 % 2
    ∧ win0_2.index t (0 : Fin 2) = t.val / 16 ∧ win0_2.index t (1 : Fin 2) = t.val / 2 % 4 * 2 + t.val / 8 % 2 :=
  (by decide +kernel : ∀ t : Fin grid0.N, _)

/-- The result. -/
noncomputable abbrev out (c : Dev nD) : Vec Ideal S4096x8192 .f32 :=
  proj (m ((c : Thread nD τ).loc main_arg0)) (m ((c : Thread nD τ).loc main_arg1))

/-- What step `t` adds to its block. -/
theorem step (c : Dev nD) (t : Fin cfg0.N) (j : S1024x1024.Idx) (i : S4096x8192.Idx) (k : Fin 512 → Fin 2560)
    (h0 : (i 0).val = t.val / 16 * 1024 + (j 0).val) (h1 : (i 1).val = (t.val / 2 % 4 * 2 + t.val / 8 % 2) * 1024 + (j 1).val)
    (hk : ∀ l, (k l).val = columns t.val * 512 + l.val) :
    prod (iblk m c 0 t : Vec Ideal S1024x512 .bf16) (iblk m c 1 t : Vec Ideal S512x1024 .bf16) j
      = ∑ l : Fin 512, part (m ((c : Thread nD τ).loc main_arg0)) (m ((c : Thread nD τ).loc main_arg1)) i (k l) := by
  obtain ⟨e0, e1, e2, e3, _, _⟩ := at_point t
  have hj : (j 1).val < 1024 := (j 1).isLt
  refine Finset.sum_congr rfl fun l _ => congrArg₂ (fun a b : EReal => a * b)
    (congrArg (m ((c : Thread nD τ).loc main_arg0)) (funext fun a => Fin.ext (match a with
      | ⟨0, _⟩ => ?_
      | ⟨1, _⟩ => ?_)))
    (congrArg (m ((c : Thread nD τ).loc main_arg1)) (funext fun a => Fin.ext (match a with
      | ⟨0, _⟩ => ?_
      | ⟨1, _⟩ => ?_)))
  · show win0_0.index t (0 : Fin 2) * 1024 + 1 * (j 0).val = (i 0).val; rw [e0]; omega
  · show win0_0.index t (1 : Fin 2) * 512 + 1 * l.val = (k l).val; rw [e1, hk, Nat.one_mul]
  · show win0_1.index t (0 : Fin 2) * 512 + 1 * l.val = (k l).val; rw [e2, hk, Nat.one_mul]
  · show win0_1.index t (1 : Fin 2) * 1024 + 1 * (j 1).val = (i 1).val % 2048; rw [e3]; omega

/-- A block's first step stores. -/
theorem stores (c : Dev nD) (t : Fin cfg0.N) (h : t.val % 2 = 0) (j : S1024x1024.Idx) :
    ((outsAt0 m c t.val t.isLt).2 j : EReal)
      = prod (iblk m c 0 t : Vec Ideal S1024x512 .bf16) (iblk m c 1 t : Vec Ideal S512x1024 .bf16) j := by
  rw [outsAt0_A m c t (by omega) h (by omega) (by omega)]
  frame_out
  rw [first]

/-- The buffer holds the sum of the steps' parts. -/
theorem whole (c : Dev nD) (t : Fin cfg0.N) (h : t.val % 2 = 1) (j : S1024x1024.Idx) :
    ((outsAt0 m c t.val t.isLt).2 j : EReal) = out m c (((cfg0.win 2).blk t).view.emb j) := by
  obtain ⟨_, _, _, _, e4, e5⟩ := at_point t
  have hj : (j 1).val < 1024 := (j 1).isLt
  generalize hi : ((cfg0.win 2).blk t).view.emb j = i
  have h0 : (i (0 : Fin 2)).val = t.val / 16 * 1024 + (j 0).val := by
    rw [← hi]; show win0_2.index t (0 : Fin 2) * 1024 + 1 * (j 0).val = _; rw [e4]; omega
  have h1 : (i (1 : Fin 2)).val = (t.val / 2 % 4 * 2 + t.val / 8 % 2) * 1024 + (j 1).val := by
    rw [← hi]; show win0_2.index t (1 : Fin 2) * 1024 + 1 * (j 1).val = _; rw [e5, Nat.one_mul]
  have ht : t.val - 1 < cfg0.N := Nat.lt_of_le_of_lt (Nat.sub_le _ _) t.isLt
  have hs := stores m c ⟨t.val - 1, ht⟩ (by show (t.val - 1) % 2 = 0; omega) j
  have e2 : (t.val - 1) / 2 = t.val / 2 := by omega
  have e8 : (t.val - 1) / 8 = t.val / 8 := by omega
  have e16 : (t.val - 1) / 16 = t.val / 16 := by omega
  have q0 : (i (0 : Fin 2)).val = (t.val - 1) / 16 * 1024 + (j 0).val := by rw [e16, h0]
  have q1 : (i (1 : Fin 2)).val = ((t.val - 1) / 2 % 4 * 2 + (t.val - 1) / 8 % 2) * 1024 + (j 1).val := by rw [e2, e8, h1]
  by_cases hb : t.val / 2 % 4 = 3
  · rw [outsAt0_C m c t (by omega) (by omega) h h]
    frame_out
    rw [next, read_unread_whole]
    refine (congrArg (fun v : EReal => v + _) hs).trans ?_
    show _ = proj _ _ _
    rw [proj, dif_neg (by omega), Fin.sum_univ_two_halves 512 512 rfl]
    refine congrArg₂ (fun a b : EReal => a + b) (step m c ⟨t.val - 1, ht⟩ j i _ q0 q1 fun l => ?_) (step m c t j i _ h0 h1 fun l => ?_)
    · show 1536 + l.val = columns (t.val - 1) * 512 + l.val
      rw [columns, if_neg (by omega), show (t.val - 1) % 2 = 0 by omega]
    · show 1536 + (512 + l.val) = columns t.val * 512 + l.val
      rw [columns, if_neg (by omega), h]; omega
  · rw [outsAt0_B m c t (by omega) h]
    refine hs.trans ?_
    show _ = proj _ _ _
    rw [proj, dif_pos (by omega)]
    refine step m c ⟨t.val - 1, ht⟩ j i _ q0 q1 fun l => ?_
    show (i 1).val / 2048 * 512 + l.val = columns (t.val - 1) * 512 + l.val
    rw [columns, if_pos (by omega)]; omega

/-- A block's last step copies the buffer out. -/
theorem copied (c : Dev nD) (t : Fin cfg0.N) (h : t.val % 2 = 1) :
    (outsAt0 m c t.val t.isLt).1 = (outsAt0 m c t.val t.isLt).2 := by
  funext j
  by_cases hb : t.val / 2 % 4 = 3
  · rw [outsAt0_C m c t (by omega) (by omega) h h]
    frame_out
  · rw [outsAt0_B m c t (by omega) h]
    frame_out
    rw [read_unread_whole]
    rfl

theorem final (c : Dev nD) : (dats m 0 c).arrAt 2 cfg0.N = out m c :=
  (dats m 0 c).arrAt_eq_of_covers 2 _ (of_decide_eq_true (by sl_kernel_rfl)) fun t hf y => by
    have h1 : t.val % 2 = 1 := (flush0_2 t).mp hf
    blk_simp
    rw [after0_2, copied m c t h1]
    exact whole m c t h1 y

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h c).1.trans (final m c), (h c).2⟩) (Value.run_blocks m ρ)

/-- The kernel and the reference end in the same result. -/
theorem agrees : Cert.algebraic_ProjFwdIdeal_ProjFwdRefIdeal := fun m g m' g' _ hm =>
  ⟨fun c => _, run m g,
    (θ_run Cert.ProjFwdRefIdeal.defs _ _).mono (fun r h c => by
      obtain ⟨h1, h2⟩ := h c
      obtain ⟨e0, e1⟩ := hm c
      refine ⟨h1.trans ?_, h2⟩
      rw [e0, e1]
      clear h1 h2 h
      funext j
      have hj : (j 1).val < 8192 := (j 1).isLt
      pointwise [out, proj, part]
      split_ifs
      all_goals first | (exfalso; omega) | skip
      all_goals
        try first | rw [dif_pos (show (j 1).val < 6144 by omega)] | rw [dif_neg (show ¬(j 1).val < 6144 by omega)]
        refine Finset.sum_congr rfl fun q _ => congrArg₂ (fun a b : EReal => a * b)
          (congrArg (m ((c : Thread nD τ).loc main_arg0)) (congrArg (ix2 (j 0)) (Fin.ext ?_)))
          (congrArg (m ((c : Thread nD τ).loc main_arg1)) (congrArg₂ ix2 (Fin.ext ?_) (Fin.ext ?_)))
        all_goals dsimp only
        all_goals omega) (Cert.ProjFwdRefIdeal.Value.run m' g')⟩

end Cert.ProjFwdIdeal
-- ==== Proof.MlaPrepValue.lean ====
module
public import proofs.«01_k».proof.Defs
public import proofs.«01_k».proof.Proof.Gen.MlaPrepIdeal.Value
public import proofs.«01_k».proof.Proof.Gen.MlaPrepRefIdeal.Run
public import Idealize.ShloMosaic.Lib.Pipeline.ReadBack
public import Idealize.ShloMosaic.Lib.Pipeline.ValueKit

/-!
The norms of the two compressed rows and the rotation of the shared key, 512 rows at a step.
-/

@[expose] public section

namespace Cert.MlaPrepIdeal

open Idealize.ShloMosaic Idealize.ShloMosaic.TcCoe Idealize.SL.Sem
open Gen

set_option maxRecDepth 16384

/-! ## The body at an element -/

/-- The RMS norm of a row. -/
noncomputable def normed (f : Fin 512 → EReal) (g : Vec Ideal S1x512 .f32) (l : Fin 512) : EReal :=
  f l * Ideal.rsqrt (Ideal.div (∑ k, f k * f k) (Ideal.ofBits .f32 0x44000000#32) + Ideal.ofBits .f32 0x358637BD#32) * g (ix2 0 l)

/-- The row with its halves turned: lanes 32 to 63 negated, then lanes 0 to 95. -/
noncomputable def turned (f : Fin 128 → EReal) (l : Fin 128) : EReal :=
  if h : l.val < 32 then -f ⟨32 + l.val, by omega⟩ else f ⟨l.val - 32, by omega⟩

theorem first (x : Vec Ideal S512x512 .f32) (g : Vec Ideal S1x512 .f32) (j : S512x512.Idx) :
    k0_pay2 x g j = normed (fun l => x (ix2 (j 0) l)) g (j 1) := by
  pointwise [k0_pay2, normed]

theorem second (x : Vec Ideal S512x512 .f32) (g : Vec Ideal S1x512 .f32) (j : S512x512.Idx) :
    k0_pay3 x g j = normed (fun l => x (ix2 (j 0) l)) g (j 1) := by
  pointwise [k0_pay3, normed]

/-- An element of the turned key. -/
noncomputable def rotated (f c s : Fin 128 → EReal) (l : Fin 128) : EReal := f l * c l + turned f l * s l

/-- The lane's number modulo 128 and whether it is under 32, as the kernel asks, in words. -/
theorem early : ∀ l : Fin 128,
    let n : BitVec 32 := Scalar.select (Scalar.cmpi .eq 128#32 0#32) 1#32 128#32
    let q : BitVec 32 := IntOp.remsi .vector (BitVec.ofNat 32 l.val) n
    IntOp.cmpi .slt (IntOp.subi (Scalar.select (IntOp.andi (IntOp.xori (IntOp.cmpi .slt q 0#32) (Scalar.cmpi .slt n 0#32))
      (IntOp.cmpi .ne q 0#32)) (IntOp.addi q n) q) 0#32) 32#32 = BitVec.ofBool (decide (l.val < 32)) := by
  decide +kernel

theorem third (x c s : Vec Ideal S512x128 .f32) (j : S512x128.Idx) :
    k0_pay1 x (k0_pay4 x c) s j = rotated (fun l => x (ix2 (j 0) l)) (fun l => c (ix2 (j 0) l)) (fun l => s (ix2 (j 0) l)) (j 1) := by
  have hj : (j 1).val < 128 := (j 1).isLt
  pointwise [k0_pay1, k0_pay4, rotated]
  refine congrArg₂ (fun a b : EReal => a + b) rfl (congrArg₂ (fun a b : EReal => a * b) ?_ rfl)
  refine (congrArg (fun b => Scalar.select b _ _) (early (j 1))).trans ?_
  show _ = if h : (j 1).val < 32 then _ else _
  by_cases h : (j 1).val < 32
  · rw [dif_pos h, decide_eq_true h]
    show (0 : EReal) - _ = _
    rw [zero_sub]
    exact congrArg (fun l => -(x (ix2 (j 0) l) : EReal)) (Fin.ext (by show ((j 1).val + 128 - 96) % 128 = 32 + (j 1).val; omega))
  · rw [dif_neg h, decide_eq_false h]
    exact congrArg (fun l => x (ix2 (j 0) l)) (Fin.ext (by show ((j 1).val + 128 - 32) % 128 = (j 1).val - 32; omega))

/-! ## The blocks -/

variable (m : (ℓ : Loc nD τ sig) → Buf (Elt Ideal) ℓ) (ρ : Dev nD → PrngReg)

/-- Row `r` of block `t`. -/
abbrev row (t : Fin cfg0.N) (r : Fin 512) : Fin 4096 := ⟨t.val * 512 + r.val, by have := t.isLt; have : cfg0.N = 8 := N_0; omega⟩

/-- The point's coordinate is its number. -/
theorem at_point : ∀ t : Fin cfg0.N, (BitVec.ofNat 32 (grid0.coords t 0).val).toNat = t.val := by decide +kernel

/-- So a block's row in the whole array is its number times 512, and its lane as far as the block's columns begin. -/
theorem lies (t : Fin cfg0.N) (r : Nat) : (BitVec.ofNat 32 (grid0.coords t 0).val).toNat * 512 + 1 * r = t.val * 512 + r := by
  rw [at_point, Nat.one_mul]

section
variable (c : Dev nD) (t : Fin cfg0.N)

theorem reads_q (r l : Fin 512) : (X0_0 m c t : Vec Ideal S512x512 .f32) (ix2 r l)
    = m ((c : Thread nD τ).loc main_arg0) (ix2 (row t r) ⟨2560 + l.val, by omega⟩) := by
  unfold X0_0 Pipeline.Window.fill
  rw [dif_pos (moved0_0 t _)]
  exact congrArg (m ((c : Thread nD τ).loc main_arg0)) (funext fun a => Fin.ext (match a with
    | ⟨0, _⟩ => lies t r.val
    | ⟨1, _⟩ => by show 5 * 512 + 1 * l.val = 2560 + l.val; omega))

theorem reads_kv (r l : Fin 512) : (X0_1 m c t : Vec Ideal S512x512 .f32) (ix2 r l)
    = m ((c : Thread nD τ).loc main_arg0) (ix2 (row t r) ⟨3072 + l.val, by omega⟩) := by
  unfold X0_1 Pipeline.Window.fill
  rw [dif_pos (moved0_1 t _)]
  exact congrArg (m ((c : Thread nD τ).loc main_arg0)) (funext fun a => Fin.ext (match a with
    | ⟨0, _⟩ => lies t r.val
    | ⟨1, _⟩ => by show 6 * 512 + 1 * l.val = 3072 + l.val; omega))

theorem reads_k (r : Fin 512) (l : Fin 128) : (iblk m c 2 t : Vec Ideal S512x128 .f32) (ix2 r l)
    = m ((c : Thread nD τ).loc main_arg0) (ix2 (row t r) ⟨3584 + l.val, by omega⟩) :=
  congrArg (m ((c : Thread nD τ).loc main_arg0)) (funext fun a => Fin.ext (match a with
    | ⟨0, _⟩ => lies t r.val
    | ⟨1, _⟩ => by show 28 * 128 + 1 * l.val = 3584 + l.val; omega))

theorem gains_q : (iblk m c 3 t : Vec Ideal S1x512 .f32) = m ((c : Thread nD τ).loc main_arg1) :=
  funext fun j => congrArg (m ((c : Thread nD τ).loc main_arg1)) (funext fun a => Fin.ext (match a with
    | ⟨0, _⟩ => by show 0 * 1 + 1 * (j 0).val = (j 0).val; omega
    | ⟨1, _⟩ => by show 0 * 512 + 1 * (j 1).val = (j 1).val; omega))

theorem gains_kv : (iblk m c 4 t : Vec Ideal S1x512 .f32) = m ((c : Thread nD τ).loc main_arg2) :=
  funext fun j => congrArg (m ((c : Thread nD τ).loc main_arg2)) (funext fun a => Fin.ext (match a with
    | ⟨0, _⟩ => by show 0 * 1 + 1 * (j 0).val = (j 0).val; omega
    | ⟨1, _⟩ => by show 0 * 512 + 1 * (j 1).val = (j 1).val; omega))

theorem reads_cos (r : Fin 512) (l : Fin 128) : (iblk m c 5 t : Vec Ideal S512x128 .f32) (ix2 r l)
    = m ((c : Thread nD τ).loc main_arg3) (ix2 (row t r) l) :=
  congrArg (m ((c : Thread nD τ).loc main_arg3)) (funext fun a => Fin.ext (match a with
    | ⟨0, _⟩ => lies t r.val
    | ⟨1, _⟩ => by show 0 * 128 + 1 * l.val = l.val; omega))

theorem reads_sin (r : Fin 512) (l : Fin 128) : (iblk m c 6 t : Vec Ideal S512x128 .f32) (ix2 r l)
    = m ((c : Thread nD τ).loc main_arg4) (ix2 (row t r) l) :=
  congrArg (m ((c : Thread nD τ).loc main_arg4)) (funext fun a => Fin.ext (match a with
    | ⟨0, _⟩ => lies t r.val
    | ⟨1, _⟩ => by show 0 * 128 + 1 * l.val = l.val; omega))

/-- Where block `t`'s elements lie in the results. -/
theorem spot7 (j : S512x512.Idx) : ((cfg0.win 7).blk t).view.emb j = ix2 (row t (j 0)) (j 1) :=
  funext fun a => Fin.ext (match a with
    | ⟨0, _⟩ => lies t (j 0).val
    | ⟨1, _⟩ => by show 0 * 512 + 1 * (j 1).val = (j 1).val; omega)

theorem spot8 (j : S512x512.Idx) : ((cfg0.win 8).blk t).view.emb j = ix2 (row t (j 0)) (j 1) :=
  funext fun a => Fin.ext (match a with
    | ⟨0, _⟩ => lies t (j 0).val
    | ⟨1, _⟩ => by show 0 * 512 + 1 * (j 1).val = (j 1).val; omega)

theorem spot9 (j : S512x128.Idx) : ((cfg0.win 9).blk t).view.emb j = ix2 (row t (j 0)) (j 1) :=
  funext fun a => Fin.ext (match a with
    | ⟨0, _⟩ => lies t (j 0).val
    | ⟨1, _⟩ => by show 0 * 128 + 1 * (j 1).val = (j 1).val; omega)

end

/-! ## The whole arrays -/

/-- The queries' row after its norm. -/
noncomputable abbrev qn (c : Dev nD) : Vec Ideal S4096x512 .bf16 := fun i =>
  normed (fun l => m ((c : Thread nD τ).loc main_arg0) (ix2 (i 0) ⟨2560 + l.val, by omega⟩)) (m ((c : Thread nD τ).loc main_arg1)) (i 1)

/-- The keys' and values' row after its norm. -/
noncomputable abbrev kvn (c : Dev nD) : Vec Ideal S4096x512 .bf16 := fun i =>
  normed (fun l => m ((c : Thread nD τ).loc main_arg0) (ix2 (i 0) ⟨3072 + l.val, by omega⟩)) (m ((c : Thread nD τ).loc main_arg2)) (i 1)

/-- The shared key, rotated. -/
noncomputable abbrev kr (c : Dev nD) : Vec Ideal S4096x128 .bf16 := fun i =>
  rotated (fun l => m ((c : Thread nD τ).loc main_arg0) (ix2 (i 0) ⟨3584 + l.val, by omega⟩))
    (fun l => m ((c : Thread nD τ).loc main_arg3) (ix2 (i 0) l)) (fun l => m ((c : Thread nD τ).loc main_arg4) (ix2 (i 0) l)) (i 1)

theorem final7 (c : Dev nD) : (dats m 0 c).arrAt 7 cfg0.N = qn m c :=
  (dats m 0 c).arrAt_eq_of_covers 7 _ (of_decide_eq_true (by sl_kernel_rfl)) fun t hf y => by
    blk_simp
    rw [after0_7, outsAt0]
    refine Eq.trans ?_ (congrArg (qn m c) (spot7 t y).symm)
    frame_out
    rw [first, gains_q]
    exact congrArg (fun f => normed f _ _) (funext fun l => reads_q m c t _ l)

theorem final8 (c : Dev nD) : (dats m 0 c).arrAt 8 cfg0.N = kvn m c :=
  (dats m 0 c).arrAt_eq_of_covers 8 _ (of_decide_eq_true (by sl_kernel_rfl)) fun t hf y => by
    blk_simp
    rw [after0_8, outsAt0]
    refine Eq.trans ?_ (congrArg (kvn m c) (spot8 t y).symm)
    frame_out
    rw [second, gains_kv]
    exact congrArg (fun f => normed f _ _) (funext fun l => reads_kv m c t _ l)

theorem final9 (c : Dev nD) : (dats m 0 c).arrAt 9 cfg0.N = kr m c :=
  (dats m 0 c).arrAt_eq_of_covers 9 _ (of_decide_eq_true (by sl_kernel_rfl)) fun t hf y => by
    blk_simp
    rw [after0_9, outsAt0]
    refine Eq.trans ?_ (congrArg (kr m c) (spot9 t y).symm)
    frame_out
    rw [third]
    refine (congrArg (fun f => rotated f _ _ _) (funext fun l => reads_k m c t _ l)).trans ?_
    exact congrArg₂ (fun f g => rotated _ f g _) (funext fun l => reads_cos m c t _ l) (funext fun l => reads_sin m c t _ l)

/-- The kernel's run: the three results, and the arguments as they were. -/
theorem run : θ_run defs (onTc (τ := τ) (main (F := Ideal))) ⟨m, fun _ => 0, ρ⟩ fun r => ∀ c : Dev nD,
    r.2.mem ((c : Thread nD τ).loc main_v0_0) = qn m c
    ∧ r.2.mem ((c : Thread nD τ).loc main_v0_1) = kvn m c
    ∧ r.2.mem ((c : Thread nD τ).loc main_v0_2) = kr m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (final7 m c), (h c).2.1.trans (final8 m c), (h c).2.2.1.trans (final9 m c),
    (h c).2.2.2⟩) (Value.run_blocks m ρ)

/-- The kernel and the reference end in the same results. -/
theorem agrees : Cert.algebraic_MlaPrepIdeal_MlaPrepRefIdeal := fun m g m' g' _ hm =>
  ⟨qn m, kvn m, kr m, run m g,
    (θ_run Cert.MlaPrepRefIdeal.defs _ _).mono (fun r h c => by
      obtain ⟨h1, h2, h3, h4⟩ := h c
      obtain ⟨e0, e1, e2, e3, e4⟩ := hm c
      refine ⟨h1.trans ?_, h2.trans ?_, h3.trans ?_, h4⟩
      · rw [e0, e1]
        clear h1 h2 h3 h4 h
        funext j
        pointwise [qn, normed]
      · rw [e0, e2]
        clear h1 h2 h3 h4 h
        funext j
        pointwise [kvn, normed]
      · rw [e0, e3, e4]
        clear h1 h2 h3 h4 h
        funext j
        have hj : (j 1).val < 128 := (j 1).isLt
        pointwise [kr, rotated, turned]) (Cert.MlaPrepRefIdeal.Value.run m' g')⟩

end Cert.MlaPrepIdeal
-- ==== Proof.SguFwdValue.lean ====
module
public import proofs.«01_k».proof.Defs
public import proofs.«01_k».proof.Proof.Gen.SguFwdIdeal.Value
public import proofs.«01_k».proof.Proof.Gen.SguFwdRefIdeal.Run
public import Idealize.ShloMosaic.Lib.Pipeline.ReadBack
public import Idealize.ShloMosaic.Lib.WordCmp
public import Idealize.ShloMosaic.Lib.Pipeline.ValueKit

/-!
The spatial gating unit.
-/

@[expose] public section

namespace Cert.SguFwdIdeal

open Idealize.ShloMosaic Idealize.ShloMosaic.TcCoe Idealize.SL.Sem
open Gen

set_option maxRecDepth 16384

/-- An element's group of lanes. -/
abbrev group (y : S512x512.Idx) : Fin 4 := ⟨(y 1).val / 128, by have : (y 1).val < 512 := (y 1).isLt; omega⟩
/-- Its position in its chunk of rows. -/
abbrev place (y : S512x512.Idx) : Fin 128 := ⟨(y 0).val % 128, Nat.mod_lt _ (by decide)⟩
/-- Its lane in its group. -/
abbrev lane (y : S512x512.Idx) : Fin 128 := ⟨(y 1).val % 128, Nat.mod_lt _ (by decide)⟩
/-- Row `s` of its chunk. -/
abbrev mate (y : S512x512.Idx) (s : Fin 128) : Fin 512 :=
  ⟨(y 0).val / 128 * 128 + s.val, by have : (y 0).val < 512 := (y 0).isLt; omega⟩

section
variable (u v : Vec Ideal S512x512 .f32) (g b : Vec Ideal S1x512 .f32) (w c : Vec Ideal S4x128x128 .f32)

/-- The product that position `s` of a chunk adds to element `y`. -/
noncomputable def part (y : S512x512.Idx) (s : Fin 128) : EReal :=
  (if s.val ≤ (place y).val then w (ix3 (group y) (place y) s) else Ideal.ofBits .f32 0#32)
    * k0_pay5 (k0_pay3 v) (k0_pay4 v) g b (ix2 (mate y s) (y 1))

/-- Element `y` of a block. -/
noncomputable def gated : Vec Ideal S512x512 .bf16 := fun y =>
  let t : EReal := k0_pay2 u (ix2 (y 0) (y 1))
  let d : EReal := c (ix3 (group y) (place y) (lane y))
  t * ((∑ s, part v g b w y s) + d)

/-- A position's number as a word. -/
theorem word (k : Nat) (h : k < 128) : (BitVec.ofNat 32 k).toInt = k := by
  rw [BitVec.toInt_eq_toNat_of_lt (by rw [BitVec.toNat_ofNat]; omega), BitVec.toNat_ofNat, Nat.mod_eq_of_lt (by omega)]

/-- The comparison of two positions of a chunk, as the words of their numbers. -/
theorem not_after (a b : Fin 128) (x y : EReal) :
    Scalar.select (IntOp.cmpi .sle (BitVec.ofNat 32 a.val) (BitVec.ofNat 32 b.val)) x y = if a.val ≤ b.val then x else y := by
  rw [WordCmp.cmpi_sle_eq, word _ a.isLt, word _ b.isLt]
  by_cases h : a.val ≤ b.val <;> simp [Scalar.select, h]

/-- The reference's weight at two positions, its comparison the other way round. -/
theorem kept (a b : Fin 128) (x : EReal) :
    Scalar.select (Scalar.select (IntOp.cmpi .sge (IntOp.addi (BitVec.ofNat 32 b.val) 0#32) (BitVec.ofNat 32 a.val)) 1#1 0#1) x
      (FloatOps.sitofp (F := Ideal) .f32 0#32 : EReal) = if a.val ≤ b.val then x else 0 := by
  have z : (FloatOps.sitofp (F := Ideal) .f32 0#32 : EReal) = 0 := by simp [FloatOps.sitofp]
  rw [z, IntOp.addi, BitVec.add_zero, WordCmp.cmpi_sge_eq, word _ a.isLt, word _ b.isLt]
  by_cases h : a.val ≤ b.val <;> simp [Scalar.select, h]

/-- One stored square of a block, at row `p` and lane `l` of the block, which is row `r` of its chunk and lane `d` of its
group `k`. -/
theorem square (y : S512x512.Idx) (p l : Fin 512) (k : Fin 4) (r d : Fin 128) (n : Fin 128 → Fin 512) (hp : p.val = (y 0).val)
    (hl : l.val = (y 1).val) (hk : k.val = (y 1).val / 128) (hr : r.val = (y 0).val % 128) (hd : d.val = (y 1).val % 128)
    (hn : ∀ s, (n s).val = (y 0).val / 128 * 128 + s.val) :
    (k0_pay2 u (ix2 p l) : EReal) * ((∑ s : Fin 128,
        Scalar.select (IntOp.cmpi .sle (BitVec.ofNat 32 s.val) (BitVec.ofNat 32 r.val))
          ((w (ix3 k r s) : EReal) * k0_pay5 (k0_pay3 v) (k0_pay4 v) g b (ix2 (n s) l)) 0) + (c (ix3 k r d) : EReal))
      = gated u v g b w c y := by
  obtain rfl : p = y 0 := Fin.ext hp
  obtain rfl : l = y 1 := Fin.ext hl
  obtain rfl : k = group y := Fin.ext hk
  obtain rfl : r = place y := Fin.ext hr
  obtain rfl : d = lane y := Fin.ext hd
  obtain rfl : n = mate y := funext fun s => Fin.ext (hn s)
  pointwise [gated, part]
  refine congrArg (fun q : EReal => _ * (q + _)) (Finset.sum_congr rfl fun s _ => (not_after s (place y) _ _).trans ?_)
  split_ifs
  · rfl
  · exact (zero_mul _).symm

theorem block (q : Dev nD) (i : grid0.Coords) (h0 h1 h2 h3 h4 h5 h6 h7 h8 h9 h10 h11 h12 h13) (y : S512x512.Idx) :
    out0_A_6 q i h0 h1 h2 h3 h4 h5 h6 h7 h8 h9 h10 h11 h12 h13 u v g b w c y = gated u v g b w c y := by
  frame_out
  canon_tiles x h
  all_goals pointwise [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  all_goals
    refine square u v g b w c y _ _ _ _ _ _ ?_ ?_ ?_ ?_ ?_ fun s => ?_
    all_goals dsimp only
    all_goals omega

end

/-! ## An element of the inputs -/

/-- The tanh form of gelu. -/
noncomputable def gelu (x : EReal) : EReal :=
  x * (Ideal.ofBits .f32 0x3F000000#32 * (1
    + Ideal.tanh (Ideal.ofBits .f32 0x3F4C422A#32 * (x + Ideal.ofBits .f32 0x3D372713#32 * (x * x * x)))))

theorem gelu_form (x : EReal) : x * (Ideal.ofBits .f32 0x3F000000#32 * (1
    + Ideal.tanh (Ideal.ofBits .f32 0x3F4C422A#32 * (x + Ideal.ofBits .f32 0x3D372713#32 * (x * x * x))))) = gelu x := rfl

/-- The order in which the kernel multiplies. -/
theorem gelu_steps (x : EReal) : Ideal.ofBits .f32 0x3F000000#32 * x * (1
    + Ideal.tanh (Ideal.ofBits .f32 0x3F4C422A#32 * (x + Ideal.ofBits .f32 0x3D372713#32 * x * x * x))) = gelu x := by
  rw [gelu, mul_assoc (_ * x) x x, mul_assoc _ x (x * x), ← mul_assoc x x x, mul_comm _ x, mul_assoc x]

/-- The mean of a row's entries. -/
noncomputable def mean (f : Fin 512 → EReal) : EReal := Ideal.div (∑ l, f l) (Ideal.ofBits .f32 0x44000000#32)

/-- A row's entries less their mean. -/
noncomputable def centred (f : Fin 512 → EReal) (l : Fin 512) : EReal := gelu (f l) - mean fun k => gelu (f k)

/-- The layer norm of a row, after its gelu. -/
noncomputable def normed (f : Fin 512 → EReal) (g b : Vec Ideal S1x512 .f32) (l : Fin 512) : EReal :=
  centred f l * Ideal.rsqrt (mean (fun k => centred f k * centred f k) + Ideal.ofBits .f32 0x358637BD#32) * g (ix2 0 l) + b (ix2 0 l)

theorem opened (u : Vec Ideal S512x512 .f32) (j : S512x512.Idx) : k0_pay2 u j = gelu (u j) := by
  pointwise [k0_pay2]
  exact gelu_steps _

theorem row_centred (v : Vec Ideal S512x512 .f32) (j : S512x512.Idx) : k0_pay3 v j = centred (fun l => v (ix2 (j 0) l)) (j 1) := by
  pointwise [k0_pay3, centred, mean]
  simp only [gelu_steps]

theorem row_normed (v : Vec Ideal S512x512 .f32) (g b : Vec Ideal S1x512 .f32) (r l : Fin 512) :
    k0_pay5 (k0_pay3 v) (k0_pay4 v) g b (ix2 r l) = normed (fun l => v (ix2 r l)) g b l := by
  pointwise [k0_pay5, k0_pay4, normed, mean, row_centred]

/-! ## The whole arrays -/

section
variable (za : Vec Ideal S4096x3712 .f32) (g b : Vec Ideal S1x512 .f32) (w c : Vec Ideal S4x128x128 .f32)

/-- Element `i` of the result. -/
noncomputable def unit : Vec Ideal S4096x512 .bf16 := fun i =>
  have h0 : (i 0).val < 4096 := (i 0).isLt
  have h1 : (i 1).val < 512 := (i 1).isLt
  let k : Fin 4 := ⟨(i 1).val / 128, by omega⟩
  let r : Fin 128 := ⟨(i 0).val % 128, by omega⟩
  let d : EReal := c (ix3 k r ⟨(i 1).val % 128, by omega⟩)
  gelu (za (ix2 (i 0) ⟨1536 + (i 1).val, by omega⟩)) * ((∑ s : Fin 128,
    (if s.val ≤ r.val then w (ix3 k r s) else Ideal.ofBits .f32 0#32)
      * normed (fun l => za (ix2 ⟨(i 0).val / 128 * 128 + s.val, by omega⟩ ⟨1536 + (512 + l.val), by omega⟩)) g b (i 1)) + d)

end

variable (m : (ℓ : Loc nD τ sig) → Buf (Elt Ideal) ℓ) (ρ : Dev nD → PrngReg)

/-- Row `r` of block `t`. -/
abbrev row (t : Fin cfg0.N) (r : Fin 512) : Fin 4096 := ⟨t.val * 512 + r.val, by have := t.isLt; have : cfg0.N = 8 := N_0; omega⟩

/-- The point's coordinate is its number. -/
theorem at_point : ∀ t : Fin cfg0.N, (BitVec.ofNat 32 (grid0.coords t 0).val).toNat = t.val := by decide +kernel

theorem reads_u (c : Dev nD) (t : Fin cfg0.N) (j : S512x512.Idx) :
    (X0_0 m c t : Vec Ideal S512x512 .f32) j
      = m ((c : Thread nD τ).loc main_arg0) (ix2 (row t (j 0)) ⟨1536 + (j 1).val, by have : (j 1).val < 512 := (j 1).isLt; omega⟩) := by
  unfold X0_0 Pipeline.Window.fill
  rw [dif_pos (moved0_0 t j)]
  refine congrArg (m ((c : Thread nD τ).loc main_arg0)) (funext fun a => Fin.ext ?_)
  match a with
  | ⟨0, _⟩ =>
    show (BitVec.ofNat 32 (grid0.coords t 0).val).toNat * 512 + 1 * (j 0).val = t.val * 512 + (j 0).val
    rw [at_point, Nat.one_mul]
  | ⟨1, _⟩ => show 3 * 512 + 1 * (j 1).val = 1536 + (j 1).val; omega

theorem reads_v (c : Dev nD) (t : Fin cfg0.N) (j : S512x512.Idx) :
    (X0_1 m c t : Vec Ideal S512x512 .f32) j
      = m ((c : Thread nD τ).loc main_arg0) (ix2 (row t (j 0)) ⟨2048 + (j 1).val, by have : (j 1).val < 512 := (j 1).isLt; omega⟩) := by
  unfold X0_1 Pipeline.Window.fill
  rw [dif_pos (moved0_1 t j)]
  refine congrArg (m ((c : Thread nD τ).loc main_arg0)) (funext fun a => Fin.ext ?_)
  match a with
  | ⟨0, _⟩ =>
    show (BitVec.ofNat 32 (grid0.coords t 0).val).toNat * 512 + 1 * (j 0).val = t.val * 512 + (j 0).val
    rw [at_point, Nat.one_mul]
  | ⟨1, _⟩ => show 4 * 512 + 1 * (j 1).val = 2048 + (j 1).val; omega

/-- The other arguments are read whole. -/
theorem gains (c : Dev nD) (t : Fin cfg0.N) : (iblk m c 2 t : Vec Ideal S1x512 .f32) = m ((c : Thread nD τ).loc main_arg1) :=
  funext fun j => congrArg (m ((c : Thread nD τ).loc main_arg1)) (funext fun a => Fin.ext (match a with
    | ⟨0, _⟩ => by show 0 * 1 + 1 * (j 0).val = (j 0).val; omega
    | ⟨1, _⟩ => by show 0 * 512 + 1 * (j 1).val = (j 1).val; omega))

theorem shifts (c : Dev nD) (t : Fin cfg0.N) : (iblk m c 3 t : Vec Ideal S1x512 .f32) = m ((c : Thread nD τ).loc main_arg2) :=
  funext fun j => congrArg (m ((c : Thread nD τ).loc main_arg2)) (funext fun a => Fin.ext (match a with
    | ⟨0, _⟩ => by show 0 * 1 + 1 * (j 0).val = (j 0).val; omega
    | ⟨1, _⟩ => by show 0 * 512 + 1 * (j 1).val = (j 1).val; omega))

theorem weights (c : Dev nD) (t : Fin cfg0.N) : (iblk m c 4 t : Vec Ideal S4x128x128 .f32) = m ((c : Thread nD τ).loc main_arg3) :=
  funext fun j => congrArg (m ((c : Thread nD τ).loc main_arg3)) (funext fun a => Fin.ext (match a with
    | ⟨0, _⟩ => by show 0 * 4 + 1 * (j 0).val = (j 0).val; omega
    | ⟨1, _⟩ => by show 0 * 128 + 1 * (j 1).val = (j 1).val; omega
    | ⟨2, _⟩ => by show 0 * 128 + 1 * (j 2).val = (j 2).val; omega))

theorem biases (c : Dev nD) (t : Fin cfg0.N) : (iblk m c 5 t : Vec Ideal S4x128x128 .f32) = m ((c : Thread nD τ).loc main_arg4) :=
  funext fun j => congrArg (m ((c : Thread nD τ).loc main_arg4)) (funext fun a => Fin.ext (match a with
    | ⟨0, _⟩ => by show 0 * 4 + 1 * (j 0).val = (j 0).val; omega
    | ⟨1, _⟩ => by show 0 * 128 + 1 * (j 1).val = (j 1).val; omega
    | ⟨2, _⟩ => by show 0 * 128 + 1 * (j 2).val = (j 2).val; omega))

/-- Where block `t`'s elements lie in the result. -/
theorem spot (t : Fin cfg0.N) (j : S512x512.Idx) : ((cfg0.win 6).blk t).view.emb j = ix2 (row t (j 0)) (j 1) := by
  refine funext fun a => Fin.ext ?_
  match a with
  | ⟨0, _⟩ =>
    show (BitVec.ofNat 32 (grid0.coords t 0).val).toNat * 512 + 1 * (j 0).val = t.val * 512 + (j 0).val
    rw [at_point, Nat.one_mul]
  | ⟨1, _⟩ => show 0 * 512 + 1 * (j 1).val = (j 1).val; omega

/-- The result. -/
noncomputable abbrev out (c : Dev nD) : Vec Ideal S4096x512 .bf16 :=
  unit (m ((c : Thread nD τ).loc main_arg0)) (m ((c : Thread nD τ).loc main_arg1)) (m ((c : Thread nD τ).loc main_arg2))
    (m ((c : Thread nD τ).loc main_arg3)) (m ((c : Thread nD τ).loc main_arg4))

theorem final (c : Dev nD) : (dats m 0 c).arrAt 6 cfg0.N = out m c :=
  (dats m 0 c).arrAt_eq_of_covers 6 _ (of_decide_eq_true (by sl_kernel_rfl)) fun t hf y => by
    blk_simp
    rw [after0_6]
    refine Eq.trans ?_ (congrArg (out m c) (spot t y).symm)
    refine (block _ _ _ _ _ _ _ _ _ _ _ _ _ _ _ _ _ _ _ _ _ _ y).trans ?_
    rw [gains, shifts, weights, biases]
    have hy : (y 0).val < 512 := (y 0).isLt
    have e : (t.val * 512 + (y 0).val) % 128 = (y 0).val % 128 := by omega
    refine congrArg₂ (fun a b : EReal => a * b) ((opened _ _).trans (congrArg gelu (reads_u m c t _)))
      (congrArg₂ (fun a b : EReal => a + b) (Finset.sum_congr rfl fun s _ => congrArg₂ (fun a b : EReal => a * b) ?_
        ((row_normed _ _ _ _ _).trans (congrArg (fun f => normed f _ _ _) (funext fun l => (reads_v m c t _).trans
          (congrArg (m ((c : Thread nD τ).loc main_arg0)) (congrArg₂ ix2 (Fin.ext ?_) (Fin.ext ?_)))))))
        (congrArg (m ((c : Thread nD τ).loc main_arg4)) (congrArg (fun r => ix3 (group y) r (lane y)) (Fin.ext e.symm))))
    · show (if s.val ≤ (y 0).val % 128 then _ else _) = (if s.val ≤ (t.val * 512 + (y 0).val) % 128 then _ else _)
      rw [e]
      exact congrArg (fun q : EReal => if s.val ≤ (y 0).val % 128 then q else _)
        (congrArg (m ((c : Thread nD τ).loc main_arg3)) (congrArg (fun r => ix3 (group y) r s) (Fin.ext e.symm)))
    · show t.val * 512 + ((y 0).val / 128 * 128 + s.val) = (t.val * 512 + (y 0).val) / 128 * 128 + s.val
      omega
    · show 2048 + l.val = 1536 + (512 + l.val)
      omega

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun _ h c => ⟨(h c).1.trans (final m c), (h c).2⟩) (Value.run_blocks m ρ)

set_option maxHeartbeats 2000000 in
/-- The kernel and the reference end in the same result. -/
theorem agrees : Cert.algebraic_SguFwdIdeal_SguFwdRefIdeal := fun m g m' g' _ hm =>
  ⟨fun c => _, run m g,
    (θ_run Cert.SguFwdRefIdeal.defs _ _).mono (fun r h c => by
      obtain ⟨h1, h2⟩ := h c
      obtain ⟨e0, e1, e2, e3, e4⟩ := hm c
      refine ⟨h1.trans ?_, h2⟩
      unfold Cert.SguFwdRefIdeal.Value.res_main_v51
      rw [e0, e1, e2, e3, e4]
      clear h1 h2 h
      funext j
      have hj : (j 1).val < 512 := (j 1).isLt
      have hr : (j 0).val < 4096 := (j 0).isLt
      pointwise [out, unit, normed, centred, mean, gelu]
      clear hm e0 e1 e2 e3 e4
      simp only [gelu_form]
      refine congrArg (fun q : EReal => _ * (q + _)) (Finset.sum_congr rfl fun s _ => ?_)
      rw [mul_comm]
      exact congrArg (fun q : EReal => q * _) (kept s ⟨(j 0).val % 128, by omega⟩ _)) (Cert.SguFwdRefIdeal.Value.run m' g')⟩

end Cert.SguFwdIdeal
-- ==== Proof.QUpValue.lean ====
module
public import proofs.«01_k».proof.Defs
public import proofs.«01_k».proof.Proof.Gen.QUpIdeal.Value
public import proofs.«01_k».proof.Proof.Gen.QUpRefIdeal.Run
public import proofs.«01_k».proof.Proof.Product

/-!
The queries of all heads, rotated. The kernel takes a head's columns of the product at once, for 1024 rows, and turns
them; the reference is one contraction, its columns then taken by heads.
-/

@[expose] public section

namespace Cert.QUpIdeal

open Idealize.ShloMosaic Idealize.ShloMosaic.TcCoe Idealize.SL.Sem
open Gen Cert.Product

set_option maxRecDepth 16384

/-! ## The body at an element -/

/-- A head's lanes with the halves of the last part turned: before lane 160 the lane 32 after, negated, then the lane
32 before. -/
noncomputable def halves (f : Fin 256 → EReal) (l : Fin 256) : EReal :=
  if h : l.val < 160 then -f ⟨32 + l.val, by omega⟩ else f ⟨128 + (l.val - 160), by omega⟩

/-- An element of a rotated head. -/
noncomputable def rotated (f c s : Fin 256 → EReal) (l : Fin 256) : EReal := f l * c l + halves f l * s l

/-- The lane's number modulo 256 and whether it is under 160, as the kernel asks, in words. -/
theorem early : ∀ l : Fin 256,
    let n : BitVec 32 := Scalar.select (Scalar.cmpi .eq 256#32 0#32) 1#32 256#32
    let q : BitVec 32 := IntOp.remsi .vector (BitVec.ofNat 32 l.val) n
    IntOp.cmpi .slt (IntOp.subi (Scalar.select (IntOp.andi (IntOp.xori (IntOp.cmpi .slt q 0#32) (Scalar.cmpi .slt n 0#32))
      (IntOp.cmpi .ne q 0#32)) (IntOp.addi q n) q) 128#32) 32#32 = BitVec.ofBool (decide (l.val < 160)) := by
  decide +kernel

theorem block (a : Vec Ideal S1024x512 .bf16) (b : Vec Ideal S512x256 .bf16) (c s : Vec Ideal S1024x256 .f32) (j : S1024x256.Idx) :
    k0_pay1 a b c s j = rotated (fun l => prod a b (ix2 (j 0) l)) (fun l => c (ix2 (j 0) l)) (fun l => s (ix2 (j 0) l)) (j 1) := by
  have hj : (j 1).val < 256 := (j 1).isLt
  pointwise [k0_pay1, rotated, prod]
  refine congrArg₂ (fun a b : EReal => a + b) rfl (congrArg₂ (fun a b : EReal => a * b) ?_ rfl)
  refine (congrArg (fun b => Scalar.select b _ _) (early (j 1))).trans ?_
  show _ = if h : (j 1).val < 160 then _ else _
  by_cases h : (j 1).val < 160
  · rw [dif_pos h, decide_eq_true h]
    show (0 : EReal) - _ = _
    rw [zero_sub]
    exact congrArg (fun l => -(prod a b (ix2 (j 0) l) : EReal)) (Fin.ext (by show ((j 1).val + 256 - 224) % 256 = 32 + (j 1).val; omega))
  · rw [dif_neg h, decide_eq_false h]
    exact congrArg (fun l => prod a b (ix2 (j 0) l)) (Fin.ext (by show ((j 1).val + 256 - 32) % 256 = 128 + ((j 1).val - 160); omega))

/-! ## The blocks -/

variable (m : (ℓ : Loc nD τ sig) → Buf (Elt Ideal) ℓ) (ρ : Dev nD → PrngReg)

/-- Which blocks step `t` works on. -/
theorem at_point : ∀ t : Fin cfg0.N, win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = t.val % 8 :=
  (by decide +kernel : ∀ t : Fin grid0.N, _)

/-- Row `r` of step `t`, and lane `l` of its head. -/
abbrev row (t : Fin cfg0.N) (r : Fin 1024) : Fin 4096 :=
  ⟨t.val / 8 * 1024 + r.val, by have := lt_of_lt_of_eq t.isLt N_0; omega⟩

abbrev lane (t : Fin cfg0.N) (l : Fin 256) : Fin 2048 := ⟨t.val % 8 * 256 + l.val, by omega⟩

/-- The product of the first two arguments. -/
noncomputable abbrev mul (c : Dev nD) : Vec Ideal S4096x2048 .f32 :=
  prod (m ((c : Thread nD τ).loc main_arg0) : Vec Ideal S4096x512 .bf16) (m ((c : Thread nD τ).loc main_arg1) : Vec Ideal S512x2048 .bf16)

/-- The queries: lane `l` of head `h` in row `r`. -/
noncomputable abbrev query (c : Dev nD) (r : Fin 4096) (h : Fin 8) (l : Fin 256) : EReal :=
  rotated (fun k => mul m c (ix2 r ⟨h.val * 256 + k.val, by omega⟩)) (fun k => m ((c : Thread nD τ).loc main_arg2) (ix2 r k))
    (fun k => m ((c : Thread nD τ).loc main_arg3) (ix2 r k)) l

noncomputable abbrev out (c : Dev nD) : Vec Ideal S4096x2048 .bf16 := fun i =>
  query m c (i 0) ⟨(i 1).val / 256, by have : (i 1).val < 2048 := (i 1).isLt; omega⟩ ⟨(i 1).val % 256, Nat.mod_lt _ (by decide)⟩

section
variable (c : Dev nD) (t : Fin cfg0.N)

theorem reads (r : Fin 1024) (l : Fin 256) : prod (iblk m c 0 t : Vec Ideal S1024x512 .bf16) (iblk m c 1 t : Vec Ideal S512x256 .bf16) (ix2 r l)
    = mul m c (ix2 (row t r) (lane t l)) := by
  obtain ⟨e0, e, e1, e2, _⟩ := at_point t
  refine Finset.sum_congr rfl fun k _ => congrArg₂ (fun a b : EReal => a * b)
    (congrArg (m ((c : Thread nD τ).loc main_arg0)) (funext fun a => Fin.ext (match a with
      | ⟨0, _⟩ => by show win0_0.index t (0 : Fin 2) * 1024 + 1 * r.val = t.val / 8 * 1024 + r.val; rw [e0]; omega
      | ⟨1, _⟩ => by show win0_0.index t (1 : Fin 2) * 512 + 1 * k.val = k.val; rw [e]; omega)))
    (congrArg (m ((c : Thread nD τ).loc main_arg1)) (funext fun a => Fin.ext (match a with
      | ⟨0, _⟩ => by show win0_1.index t (0 : Fin 2) * 512 + 1 * k.val = k.val; rw [e1]; omega
      | ⟨1, _⟩ => by show win0_1.index t (1 : Fin 2) * 256 + 1 * l.val = t.val % 8 * 256 + l.val; rw [e2]; omega)))

theorem reads_cos (r : Fin 1024) (l : Fin 256) : (iblk m c 2 t : Vec Ideal S1024x256 .f32) (ix2 r l)
    = m ((c : Thread nD τ).loc main_arg2) (ix2 (row t r) l) :=
  have ⟨_, _, _, _, e0, e1, _⟩ := at_point t
  congrArg (m ((c : Thread nD τ).loc main_arg2)) (funext fun a => Fin.ext (match a with
    | ⟨0, _⟩ => by show win0_2.index t (0 : Fin 2) * 1024 + 1 * r.val = t.val / 8 * 1024 + r.val; rw [e0]; omega
    | ⟨1, _⟩ => by show win0_2.index t (1 : Fin 2) * 256 + 1 * l.val = l.val; rw [e1]; omega))

theorem reads_sin (r : Fin 1024) (l : Fin 256) : (iblk m c 3 t : Vec Ideal S1024x256 .f32) (ix2 r l)
    = m ((c : Thread nD τ).loc main_arg3) (ix2 (row t r) l) :=
  have ⟨_, _, _, _, _, _, e0, e1, _⟩ := at_point t
  congrArg (m ((c : Thread nD τ).loc main_arg3)) (funext fun a => Fin.ext (match a with
    | ⟨0, _⟩ => by show win0_3.index t (0 : Fin 2) * 1024 + 1 * r.val = t.val / 8 * 1024 + r.val; rw [e0]; omega
    | ⟨1, _⟩ => by show win0_3.index t (1 : Fin 2) * 256 + 1 * l.val = l.val; rw [e1]; omega))

/-- Where step `t`'s elements lie in the result. -/
theorem spot (j : S1024x256.Idx) : ((cfg0.win 4).blk t).view.emb j = ix2 (row t (j 0)) (lane t (j 1)) :=
  have ⟨_, _, _, _, _, _, _, _, e0, e1⟩ := at_point t
  funext fun a => Fin.ext (match a with
    | ⟨0, _⟩ => by show win0_4.index t (0 : Fin 2) * 1024 + 1 * (j 0).val = t.val / 8 * 1024 + (j 0).val; rw [e0]; omega
    | ⟨1, _⟩ => by show win0_4.index t (1 : Fin 2) * 256 + 1 * (j 1).val = t.val % 8 * 256 + (j 1).val; rw [e1]; omega)

/-- So an element of the result is its head's lane. -/
theorem head (r : Fin 1024) (l : Fin 256) : out m c (ix2 (row t r) (lane t l)) = query m c (row t r) ⟨t.val % 8, Nat.mod_lt _ (by decide)⟩ l :=
  congrArg₂ (query m c (row t r)) (Fin.ext (by show (t.val % 8 * 256 + l.val) / 256 = t.val % 8; omega))
    (Fin.ext (by show (t.val % 8 * 256 + l.val) % 256 = l.val; omega))

end

theorem final (c : Dev nD) : (dats m 0 c).arrAt 4 cfg0.N = out m c :=
  (dats m 0 c).arrAt_eq_of_covers 4 _ (of_decide_eq_true (by sl_kernel_rfl)) fun t _ y => by
    blk_simp
    rw [after0_4]
    refine Eq.trans ?_ (congrArg (out m c) (spot t y).symm)
    show out0_A_4 c _ _ _ _ _ _ _ _ _ _ _ _ _ _ _ _ _ y = _
    frame_out
    rw [block]
    refine Eq.trans ?_ (head m c t (y 0) (y 1)).symm
    refine (congrArg (fun f => rotated f _ _ _) (funext fun l => reads m c t _ l)).trans ?_
    exact congrArg₂ (fun f g => rotated _ f g _) (funext fun l => reads_cos m c t _ l) (funext fun l => reads_sin m c t _ l)

/-- The kernel's run: the result, and the arguments as they were. -/
theorem run : θ_run defs (onTc (τ := τ) (main (F := Ideal))) ⟨m, fun _ => 0, ρ⟩ fun r => ∀ c : Dev nD,
    r.2.mem ((c : Thread nD τ).loc main_v0) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final m c), (h c).2⟩) (Value.run_blocks m ρ)

/-- The kernel and the reference end in the same result. -/
theorem agrees : Cert.algebraic_QUpIdeal_QUpRefIdeal := fun m g m' g' _ hm =>
  ⟨fun c => _, run m g,
    (θ_run Cert.QUpRefIdeal.defs _ _).mono (fun r h c => by
      obtain ⟨h1, h2⟩ := h c
      obtain ⟨e0, e1, e2, e3⟩ := hm c
      refine ⟨h1.trans ?_, h2⟩
      rw [e0, e1, e2, e3]
      clear h1 h2 h
      funext j
      have hj : (j 1).val < 2048 := (j 1).isLt
      pointwise [out, query, mul, rotated, halves, prod]
      exact congrArg₂ (fun a b : EReal => a + b) (congrArg₂ (fun a b : EReal => a * b) (Finset.sum_congr rfl fun k _ =>
        congrArg (fun i => (_ : EReal) * m ((c : Thread nD τ).loc main_arg1) (ix2 k i))
          (Fin.ext (by show (j 1).val = (j 1).val / 256 * 256 + (j 1).val % 256; omega))) rfl) rfl) (Cert.QUpRefIdeal.Value.run m' g')⟩

end Cert.QUpIdeal
-- ==== Proof.Columns.lean ====
module
public import Idealize.ShloMosaic.Lib.Pipeline.ValueKit

/-!
Rows of 512 elements: their mean, and sums over all rows that are taken in steps.
-/

@[expose] public section

namespace Cert.Columns

open Idealize.ShloMosaic

/-- The mean of a row's entries. -/
noncomputable def mean (f : Fin 512 → EReal) : EReal := Ideal.div (∑ l, f l) (Ideal.ofBits .f32 0x44000000#32)

/-- A sum over the rows that is taken in steps: step `t` of 8 adds its 512 rows, the first step stores. -/
theorem sum_of_steps {N : Nat} (hN : N = 8) (f : (t : Nat) → t < N → (⟨2, ![1, 512]⟩ : Shape).Idx → EReal) (g : Fin 4096 → Fin 512 → EReal)
    (h0 : ∀ t : Fin N, t.val % 8 = 0 → ∀ j, f t.val t.isLt j = ∑ r : Fin 512, g ⟨t.val * 512 + r.val, by have := t.isLt; omega⟩ (j 1))
    (hs : ∀ t : Fin N, ¬t.val % 8 = 0 → ∀ j, f t.val t.isLt j = f (t.val - 1) (Nat.lt_of_le_of_lt (Nat.sub_le _ _) t.isLt) j
      + ∑ r : Fin 512, g ⟨t.val * 512 + r.val, by have := t.isLt; omega⟩ (j 1))
    (t : Fin N) (ht : t.val % 8 = 7) (j : (⟨2, ![1, 512]⟩ : Shape).Idx) : f t.val t.isLt j = ∑ r, g r (j 1) := by
  rw [Pipeline.eq_sum_fin_of_reset_step_apply_last f 8 (fun _ => (0 : EReal)) (fun t j => ∑ r : Fin 512, g ⟨t.val * 512 + r.val, by have := t.isLt; omega⟩ (j 1))
    (fun t h j => by rw [h0 t h, zero_add]) hs (le_of_eq hN) t (by have := t.isLt; omega), zero_add]
  exact Fin.sum_mul_add_congr (fun p r _ => rfl) (by rw [hN])

end Cert.Columns
-- ==== Proof.ConvBwdNormValue.lean ====
module
public import proofs.«01_k».proof.Defs
public import proofs.«01_k».proof.Proof.Columns
public import proofs.«01_k».proof.Proof.Gate
public import proofs.«01_k».proof.Proof.Gen.ConvBwdNormIdeal.Value
public import proofs.«01_k».proof.Proof.Gen.ConvBwdNormRefIdeal.Run
public import Idealize.ShloMosaic.Lib.Pipeline.ValueKit

/-!
The gradients at the convolution's layer norm and swish. The kernel walks over the rows in 8 blocks of 512: each
leaves its rows of the gradient of the convolution's output, and adds its rows' parts to the gradients of the bias, the
gain and the norm's bias.
-/

@[expose] public section

namespace Cert.ConvBwdNormIdeal

open Idealize.ShloMosaic Idealize.ShloMosaic.TcCoe Idealize.SL.Sem
open Gen Cert.Columns Cert.Gate

set_option maxRecDepth 16384

/-! ## The body at an element -/

/-- What the norm multiplies a row's entries by, less their mean. -/
noncomputable def scale (f : Fin 512 → EReal) : EReal :=
  Ideal.rsqrt (mean (fun l => (f l - mean f) * (f l - mean f)) + Ideal.ofBits .f32 0x358637BD#32)

/-- A row's entries at mean 0 and variance 1. -/
noncomputable def even (f : Fin 512 → EReal) (l : Fin 512) : EReal := (f l - mean f) * scale f

/-- The gradient `d` of the swish of `e`. -/
noncomputable def swish (d e : EReal) : EReal :=
  d * gate e * (Ideal.ofBits .f32 0x3F800000#32 + e * (Ideal.ofBits .f32 0x3F800000#32 - gate e))

/-- The gradient at the norm's result. -/
noncomputable def under (f d g b : Fin 512 → EReal) (l : Fin 512) : EReal := swish (d l) (even f l * g l + b l)

/-- The gradient at the norm's input, from the one at the result `e` without gain and bias. -/
noncomputable def back (f e : Fin 512 → EReal) (l : Fin 512) : EReal :=
  scale f * (e l - mean e - even f l * mean fun k => e k * even f k)

/-- The gradient at the norm's input. -/
noncomputable def through (f d g b : Fin 512 → EReal) (l : Fin 512) : EReal := back f (fun k => under f d g b k * g k) l

/-- Row `r` of an array. -/
abbrev line {n : Nat} (x : Vec Ideal ⟨2, ![n, 512]⟩ .f32) (r : Fin n) (l : Fin 512) : EReal := x (ix2 r l)

section
variable (d y : Vec Ideal S512x512 .f32) (g b : Vec Ideal S1x512 .f32)

theorem scale_of (j : S512x1.Idx) : k0_pay3 y j = scale (line y (j 0)) := by
  pointwise [k0_pay3, k0_pay2, scale, mean]

theorem even_of (j : S512x512.Idx) : k0_pay4 y j = even (line y (j 0)) (j 1) := by
  pointwise [k0_pay4, k0_pay3, k0_pay2, even, scale, mean, line]

/-- As the kernel takes the logistic function. -/
theorem gate_form (z : EReal) : gate z = Ideal.div (Ideal.ofBits .f32 0x3F800000#32) (Ideal.ofBits .f32 0x3F800000#32 + Ideal.exp (0 - z)) := by
  rw [gate, zero_sub]

theorem under_of (j : S512x512.Idx) : k0_pay5 y g b d j = under (line y (j 0)) (line d (j 0)) (line g 0) (line b 0) (j 1) := by
  pointwise [k0_pay5, even_of, under, swish, gate_form, line]

/-- What a step leaves of the gradient of the convolution's output. -/
noncomputable abbrev rows : Vec Ideal S512x512 .f32 := k0_pay7 (k0_pay3 y) (k0_pay4 y) (k0_pay5 y g b d) (k0_pay6 g)

theorem input (j : S512x512.Idx) : rows d y g b j = through (line y (j 0)) (line d (j 0)) (line g 0) (line b 0) (j 1) := by
  pointwise [rows, k0_pay7, k0_pay6, scale_of, even_of, under_of, through, back, mean]

theorem bias (j : S1x512.Idx) : k0_pay8 (k0_pay3 y) (k0_pay4 y) (k0_pay5 y g b d) (k0_pay6 g) j
    = ∑ r, through (line y r) (line d r) (line g 0) (line b 0) (j 1) := by
  pointwise [k0_pay8]
  exact Finset.sum_congr rfl fun r _ => input d y g b (ix2 r (j 1))

theorem bias' (w : Vec Ideal S1x512 .f32) (j : S1x512.Idx) : k0_pay9 (k0_pay3 y) (k0_pay4 y) (k0_pay5 y g b d) (k0_pay6 g) w j
    = w j + k0_pay8 (k0_pay3 y) (k0_pay4 y) (k0_pay5 y g b d) (k0_pay6 g) j := by
  pointwise [k0_pay9]

theorem gain (j : S1x512.Idx) : k0_pay10 (k0_pay4 y) (k0_pay5 y g b d) j
    = ∑ r, under (line y r) (line d r) (line g 0) (line b 0) (j 1) * even (line y r) (j 1) := by
  pointwise [k0_pay10, even_of, under_of]

theorem gain' (w : Vec Ideal S1x512 .f32) (j : S1x512.Idx) : k0_pay11 (k0_pay4 y) (k0_pay5 y g b d) w j
    = w j + k0_pay10 (k0_pay4 y) (k0_pay5 y g b d) j := by
  pointwise [k0_pay11]

theorem norm_bias (j : S1x512.Idx) : k0_pay12 (k0_pay5 y g b d) j = ∑ r, under (line y r) (line d r) (line g 0) (line b 0) (j 1) := by
  pointwise [k0_pay12, under_of]

theorem norm_bias' (v w : Vec Ideal S1x512 .f32) (j : S1x512.Idx) : k0_pay1 v w j = w j + v j := by
  pointwise [k0_pay1]

end

/-! ## The blocks -/

variable (m : (ℓ : Loc nD τ sig) → Buf (Elt Ideal) ℓ) (ρ : Dev nD → PrngReg)

/-- Row `r` of block `t`. -/
abbrev row (t : Fin cfg0.N) (r : Fin 512) : Fin 4096 := ⟨t.val * 512 + r.val, by have := lt_of_lt_of_eq t.isLt N_0; omega⟩

/-- The point's coordinate is its number. -/
theorem at_point : ∀ t : Fin cfg0.N, (BitVec.ofNat 32 (grid0.coords t 0).val).toNat = t.val := by decide +kernel

/-- So a block's row in the whole array is its number times 512. -/
theorem lies (t : Fin cfg0.N) (r : Nat) : (BitVec.ofNat 32 (grid0.coords t 0).val).toNat * 512 + 1 * r = t.val * 512 + r := by
  rw [at_point, Nat.one_mul]

/-- The rows of the whole arrays, and the gain and the bias. -/
noncomputable abbrev ys (c : Dev nD) (r : Fin 4096) : Fin 512 → EReal := line (m ((c : Thread nD τ).loc main_arg1) : Vec Ideal S4096x512 .f32) r

noncomputable abbrev ds (c : Dev nD) (r : Fin 4096) (l : Fin 512) : EReal :=
  (m ((c : Thread nD τ).loc main_arg0) : Vec Ideal S4096x2560 .f32) (ix2 r ⟨512 + l.val, by omega⟩)

noncomputable abbrev gs (c : Dev nD) : Fin 512 → EReal := line (m ((c : Thread nD τ).loc main_arg2) : Vec Ideal S1x512 .f32) 0

noncomputable abbrev bs (c : Dev nD) : Fin 512 → EReal := line (m ((c : Thread nD τ).loc main_arg3) : Vec Ideal S1x512 .f32) 0

/-- The gradient of the convolution's output. -/
noncomputable abbrev dy (c : Dev nD) : Vec Ideal S4096x512 .f32 := fun j => through (ys m c (j 0)) (ds m c (j 0)) (gs m c) (bs m c) (j 1)

/-- The gradients of the bias, the gain and the norm's bias. -/
noncomputable abbrev db (c : Dev nD) : Vec Ideal S1x512 .f32 := fun j => ∑ r, through (ys m c r) (ds m c r) (gs m c) (bs m c) (j 1)

noncomputable abbrev dg (c : Dev nD) : Vec Ideal S1x512 .f32 := fun j =>
  ∑ r, under (ys m c r) (ds m c r) (gs m c) (bs m c) (j 1) * even (ys m c r) (j 1)

noncomputable abbrev dn (c : Dev nD) : Vec Ideal S1x512 .f32 := fun j => ∑ r, under (ys m c r) (ds m c r) (gs m c) (bs m c) (j 1)

section
variable (c : Dev nD) (t : Fin cfg0.N)

/-- The rows that a step reads, and the gain and the bias, which it reads whole. -/
theorem reads_d (r : Fin 512) : line (iblk m c 0 t : Vec Ideal S512x512 .f32) r = ds m c (row t r) :=
  funext fun l => congrArg (m ((c : Thread nD τ).loc main_arg0)) (funext fun a => Fin.ext (match a with
    | ⟨0, _⟩ => lies t r.val
    | ⟨1, _⟩ => by show 1 * 512 + 1 * l.val = 512 + l.val; omega))

theorem reads_y (r : Fin 512) : line (iblk m c 1 t : Vec Ideal S512x512 .f32) r = ys m c (row t r) :=
  funext fun l => congrArg (m ((c : Thread nD τ).loc main_arg1)) (funext fun a => Fin.ext (match a with
    | ⟨0, _⟩ => lies t r.val
    | ⟨1, _⟩ => by show 0 * 512 + 1 * l.val = l.val; omega))

theorem reads_g : line (iblk m c 2 t : Vec Ideal S1x512 .f32) 0 = gs m c :=
  funext fun l => congrArg (m ((c : Thread nD τ).loc main_arg2)) (funext fun a => Fin.ext (match a with
    | ⟨0, _⟩ => rfl
    | ⟨1, _⟩ => by show 0 * 512 + 1 * l.val = l.val; omega))

theorem reads_b : line (iblk m c 3 t : Vec Ideal S1x512 .f32) 0 = bs m c :=
  funext fun l => congrArg (m ((c : Thread nD τ).loc main_arg3)) (funext fun a => Fin.ext (match a with
    | ⟨0, _⟩ => rfl
    | ⟨1, _⟩ => by show 0 * 512 + 1 * l.val = l.val; omega))

/-- Where block `t`'s elements lie in the whole array. -/
theorem spot (j : S512x512.Idx) : ((cfg0.win 4).blk t).view.emb j = ix2 (row t (j 0)) (j 1) :=
  funext fun a => Fin.ext (match a with
    | ⟨0, _⟩ => lies t (j 0).val
    | ⟨1, _⟩ => by show 0 * 512 + 1 * (j 1).val = (j 1).val; omega)

/-- Where a sum's elements lie: it is one block. -/
theorem still (j : S1x512.Idx) : ((cfg0.win 5).blk t).view.emb j = j :=
  funext fun a => Fin.ext (match a with
    | ⟨0, _⟩ => by show 0 * 1 + 1 * (j 0).val = (j 0).val; omega
    | ⟨1, _⟩ => by show 0 * 512 + 1 * (j 1).val = (j 1).val; omega)

theorem left (r l : Fin 512) : rows (iblk m c 0 t) (iblk m c 1 t) (iblk m c 2 t) (iblk m c 3 t) (ix2 r l) = dy m c (ix2 (row t r) l) := by
  refine (input _ _ _ _ _).trans ?_
  show through (line (iblk m c 1 t) r) (line (iblk m c 0 t) r) (line (iblk m c 2 t) 0) (line (iblk m c 3 t) 0) l = _
  rw [reads_d, reads_y, reads_g, reads_b]
  rfl

/-- A step's parts of the three sums. -/
theorem step_b (j : S1x512.Idx) : k0_pay8 (k0_pay3 (iblk m c 1 t)) (k0_pay4 (iblk m c 1 t))
    (k0_pay5 (iblk m c 1 t) (iblk m c 2 t) (iblk m c 3 t) (iblk m c 0 t)) (k0_pay6 (iblk m c 2 t)) j
    = ∑ r, through (ys m c (row t r)) (ds m c (row t r)) (gs m c) (bs m c) (j 1) := by
  simp only [bias, reads_d, reads_y, reads_g, reads_b]

theorem step_g (j : S1x512.Idx) : k0_pay10 (k0_pay4 (iblk m c 1 t))
    (k0_pay5 (iblk m c 1 t) (iblk m c 2 t) (iblk m c 3 t) (iblk m c 0 t)) j
    = ∑ r, under (ys m c (row t r)) (ds m c (row t r)) (gs m c) (bs m c) (j 1) * even (ys m c (row t r)) (j 1) := by
  simp only [gain, reads_d, reads_y, reads_g, reads_b]

theorem step_n (j : S1x512.Idx) : k0_pay12 (k0_pay5 (iblk m c 1 t) (iblk m c 2 t) (iblk m c 3 t) (iblk m c 0 t)) j
    = ∑ r, under (ys m c (row t r)) (ds m c (row t r)) (gs m c) (bs m c) (j 1) := by
  simp only [norm_bias, reads_d, reads_y, reads_g, reads_b]

end

theorem final4 (c : Dev nD) : (dats m 0 c).arrAt 4 cfg0.N = dy m c :=
  (dats m 0 c).arrAt_eq_of_covers 4 _ (of_decide_eq_true (by sl_kernel_rfl)) fun t hf y => by
    have ht := lt_of_lt_of_eq t.isLt N_0
    blk_simp
    rw [after0_4]
    refine Eq.trans ?_ (congrArg (dy m c) (spot t y).symm)
    by_cases h : t.val % 8 = 0
    · rw [outsAt0_A m c t h (by omega) h (by omega) h (by omega)]
      frame_out
      exact (congrArg (rows (iblk m c 0 t) (iblk m c 1 t) (iblk m c 2 t) (iblk m c 3 t)) (eq_ix2 y)).trans (left m c t _ _)
    · rw [outsAt0_B m c t h (by omega) h (by omega) h (by omega)]
      frame_out
      exact (congrArg (rows (iblk m c 0 t) (iblk m c 1 t) (iblk m c 2 t) (iblk m c 3 t)) (eq_ix2 y)).trans (left m c t _ _)

theorem final5 (c : Dev nD) : (dats m 0 c).arrAt 5 cfg0.N = db m c :=
  (dats m 0 c).arrAt_eq_of_covers 5 _ (of_decide_eq_true (by sl_kernel_rfl)) fun t hf y => by
    have h7 : t.val % 8 = 7 := (flush0_5 t).mp hf
    blk_simp
    rw [after0_5]
    refine Eq.trans ?_ (congrArg (db m c) (still t y).symm)
    exact sum_of_steps N_0 (fun n h => (outsAt0 m c n h).2.1)
      (fun r l => through (ys m c r) (ds m c r) (gs m c) (bs m c) l)
      (fun t h j => by
        have ht := lt_of_lt_of_eq t.isLt N_0
        rw [outsAt0_A m c t h (by omega) h (by omega) h (by omega)]
        frame_out
        exact step_b m c t j)
      (fun t h j => by
        rw [outsAt0_B m c t h (by omega) h (by omega) h (by omega)]
        frame_out
        rw [bias', step_b])
      t h7 y

theorem final6 (c : Dev nD) : (dats m 0 c).arrAt 6 cfg0.N = dg m c :=
  (dats m 0 c).arrAt_eq_of_covers 6 _ (of_decide_eq_true (by sl_kernel_rfl)) fun t hf y => by
    have h7 : t.val % 8 = 7 := (flush0_6 t).mp hf
    blk_simp
    rw [after0_6]
    refine Eq.trans ?_ (congrArg (dg m c) (still t y).symm)
    exact sum_of_steps N_0 (fun n h => (outsAt0 m c n h).2.2.1)
      (fun r l => under (ys m c r) (ds m c r) (gs m c) (bs m c) l * even (ys m c r) l)
      (fun t h j => by
        have ht := lt_of_lt_of_eq t.isLt N_0
        rw [outsAt0_A m c t h (by omega) h (by omega) h (by omega)]
        frame_out
        exact step_g m c t j)
      (fun t h j => by
        rw [outsAt0_B m c t h (by omega) h (by omega) h (by omega)]
        frame_out
        rw [gain', step_g])
      t h7 y

theorem final7 (c : Dev nD) : (dats m 0 c).arrAt 7 cfg0.N = dn m c :=
  (dats m 0 c).arrAt_eq_of_covers 7 _ (of_decide_eq_true (by sl_kernel_rfl)) fun t hf y => by
    have h7 : t.val % 8 = 7 := (flush0_7 t).mp hf
    blk_simp
    rw [after0_7]
    refine Eq.trans ?_ (congrArg (dn m c) (still t y).symm)
    exact sum_of_steps N_0 (fun n h => (outsAt0 m c n h).2.2.2)
      (fun r l => under (ys m c r) (ds m c r) (gs m c) (bs m c) l)
      (fun t h j => by
        have ht := lt_of_lt_of_eq t.isLt N_0
        rw [outsAt0_A m c t h (by omega) h (by omega) h (by omega)]
        frame_out
        exact step_n m c t j)
      (fun t h j => by
        rw [outsAt0_B m c t h (by omega) h (by omega) h (by omega)]
        frame_out
        rw [norm_bias', step_n])
      t h7 y

/-- The kernel's run: the four gradients, and every argument as it was. -/
theorem run : θ_run defs (onTc (τ := τ) (main (F := Ideal))) ⟨m, fun _ => 0, ρ⟩ fun r => ∀ c : Dev nD,
    r.2.mem ((c : Thread nD τ).loc main_v0_0) = dy m c
    ∧ r.2.mem ((c : Thread nD τ).loc main_v0_1) = db m c
    ∧ r.2.mem ((c : Thread nD τ).loc main_v0_2) = dg m c
    ∧ r.2.mem ((c : Thread nD τ).loc main_v0_3) = dn m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c),
    (h c).2.2.2.1.trans (final7 m c), (h c).2.2.2.2⟩) (Value.run_blocks m ρ)

set_option maxHeartbeats 2000000 in
/-- The kernel and the reference end in the same four gradients. -/
theorem agrees : Cert.algebraic_ConvBwdNormIdeal_ConvBwdNormRefIdeal := fun m g m' g' _ hm =>
  ⟨dy m, db m, dg m, dn m, run m g,
    (θ_run Cert.ConvBwdNormRefIdeal.defs _ _).mono (fun r h c => by
      obtain ⟨h1, h2, h3, h4, h5⟩ := h c
      obtain ⟨e0, e1, e2, e3⟩ := hm c
      refine ⟨h1.trans ?_, h2.trans ?_, h3.trans ?_, h4.trans ?_, h5⟩
      · unfold Cert.ConvBwdNormRefIdeal.Value.res_main_v53
        rw [e0, e1, e2, e3]
        clear h1 h2 h3 h4 h5 h
        funext j
        pointwise [dy, ys, ds, gs, bs, line, through, back, under, swish, gate, even, scale, mean]
      · unfold Cert.ConvBwdNormRefIdeal.Value.res_main_v55
        rw [e0, e1, e2, e3]
        clear h1 h2 h3 h4 h5 h
        funext j
        pointwise [db, ys, ds, gs, bs, line, through, back, under, swish, gate, even, scale, mean]
      · unfold Cert.ConvBwdNormRefIdeal.Value.res_main_v58
        rw [e0, e1, e2, e3]
        clear h1 h2 h3 h4 h5 h
        funext j
        pointwise [dg, ys, ds, gs, bs, line, under, swish, gate, even, scale, mean]
      · unfold Cert.ConvBwdNormRefIdeal.Value.res_main_v60
        rw [e0, e1, e2, e3]
        clear h1 h2 h3 h4 h5 h
        funext j
        pointwise [dn, ys, ds, gs, bs, line, under, swish, gate, even, scale, mean]) (Cert.ConvBwdNormRefIdeal.Value.run m' g')⟩

end Cert.ConvBwdNormIdeal
-- ==== Proof.lean ====
module

public import proofs.«01_k».proof.Defs
public import proofs.«01_k».proof.Proof.Gen.Gather
public import proofs.«01_k».proof.Proof.Gen.GatherIdeal
public import proofs.«01_k».proof.Proof.Gen.Sibling
public import proofs.«01_k».proof.Proof.Gen.SiblingIdeal
public import proofs.«01_k».proof.Proof.Gen.Chips
public import proofs.«01_k».proof.Proof.Gen.ChipsIdeal
public import proofs.«01_k».proof.Proof.Gen.SmallGather
public import proofs.«01_k».proof.Proof.Gen.SmallGatherIdeal
public import proofs.«01_k».proof.Proof.Gen.TapsGather
public import proofs.«01_k».proof.Proof.Gen.TapsGatherIdeal
public import proofs.«01_k».proof.Proof.Gen.GatherRefIdeal.Run
public import proofs.«01_k».proof.Proof.Gen.GatherRef
public import proofs.«01_k».proof.Proof.Gen.SiblingRefIdeal.Run
public import proofs.«01_k».proof.Proof.Gen.SiblingRef
public import proofs.«01_k».proof.Proof.Gen.ChipsRefIdeal.Run
public import proofs.«01_k».proof.Proof.Gen.ChipsRef
public import proofs.«01_k».proof.Proof.Gen.SmallGatherRefIdeal.Run
public import proofs.«01_k».proof.Proof.Gen.SmallGatherRef
public import proofs.«01_k».proof.Proof.Gen.TapsGatherRefIdeal.Run
public import proofs.«01_k».proof.Proof.Gen.TapsGatherRef
public import proofs.«01_k».proof.Proof.Gen.SumSmall
public import proofs.«01_k».proof.Proof.Gen.SumSmallIdeal
public import proofs.«01_k».proof.Proof.Gen.AdamSmall
public import proofs.«01_k».proof.Proof.Gen.AdamSmallIdeal
public import proofs.«01_k».proof.Proof.Gen.AdamTaps
public import proofs.«01_k».proof.Proof.Gen.AdamTapsIdeal
public import proofs.«01_k».proof.Proof.Gen.PreBwd
public import proofs.«01_k».proof.Proof.Gen.PreBwdIdeal
public import proofs.«01_k».proof.Proof.Gen.FinalLoss
public import proofs.«01_k».proof.Proof.Gen.FinalLossIdeal
public import proofs.«01_k».proof.Proof.Gen.PreNorm
public import proofs.«01_k».proof.Proof.Gen.PreNormIdeal
public import proofs.«01_k».proof.Proof.Gen.PostPre
public import proofs.«01_k».proof.Proof.Gen.PostPreIdeal
public import proofs.«01_k».proof.Proof.Gen.MergeFwd
public import proofs.«01_k».proof.Proof.Gen.MergeFwdIdeal
public import proofs.«01_k».proof.Proof.Gen.MergeBwd
public import proofs.«01_k».proof.Proof.Gen.MergeBwdIdeal
public import proofs.«01_k».proof.Proof.Gen.MlpUp
public import proofs.«01_k».proof.Proof.Gen.MlpUpIdeal
public import proofs.«01_k».proof.Proof.Gen.MlpDown
public import proofs.«01_k».proof.Proof.Gen.MlpDownIdeal
public import proofs.«01_k».proof.Proof.Gen.GateArgs
public import proofs.«01_k».proof.Proof.Gen.GateArgsIdeal
public import proofs.«01_k».proof.Proof.Gen.MixIn
public import proofs.«01_k».proof.Proof.Gen.MixInIdeal
public import proofs.«01_k».proof.Proof.Gen.MixOut
public import proofs.«01_k».proof.Proof.Gen.MixOutIdeal
public import proofs.«01_k».proof.Proof.Gen.DMerged
public import proofs.«01_k».proof.Proof.Gen.DMergedIdeal
public import proofs.«01_k».proof.Proof.Gen.DwOut
public import proofs.«01_k».proof.Proof.Gen.DwOutIdeal
public import proofs.«01_k».proof.Proof.Gen.DwDown
public import proofs.«01_k».proof.Proof.Gen.DwDownIdeal
public import proofs.«01_k».proof.Proof.Gen.MlpBwd
public import proofs.«01_k».proof.Proof.Gen.MlpBwdIdeal
public import proofs.«01_k».proof.Proof.Gen.DwUp
public import proofs.«01_k».proof.Proof.Gen.DwUpIdeal
public import proofs.«01_k».proof.Proof.Gen.Dh2
public import proofs.«01_k».proof.Proof.Gen.Dh2Ideal
public import proofs.«01_k».proof.Proof.Gen.Dh1Gates
public import proofs.«01_k».proof.Proof.Gen.Dh1GatesIdeal
public import proofs.«01_k».proof.Proof.Gen.PreMlpBwd
public import proofs.«01_k».proof.Proof.Gen.PreMlpBwdIdeal
public import proofs.«01_k».proof.Proof.Gen.DwLora
public import proofs.«01_k».proof.Proof.Gen.DwLoraIdeal
public import proofs.«01_k».proof.Proof.Gen.DLora
public import proofs.«01_k».proof.Proof.Gen.DLoraIdeal
public import proofs.«01_k».proof.Proof.Gen.DwIn
public import proofs.«01_k».proof.Proof.Gen.DwInIdeal
public import proofs.«01_k».proof.Proof.Gen.KvUp
public import proofs.«01_k».proof.Proof.Gen.KvUpIdeal
public import proofs.«01_k».proof.Proof.Gen.Dh1Branches
public import proofs.«01_k».proof.Proof.Gen.Dh1BranchesIdeal
public import proofs.«01_k».proof.Proof.Gen.ProjBwdAct
public import proofs.«01_k».proof.Proof.Gen.ProjBwdActIdeal
public import proofs.«01_k».proof.Proof.Gen.ProjBwdW
public import proofs.«01_k».proof.Proof.Gen.ProjBwdWIdeal
public import proofs.«01_k».proof.Proof.Gen.ProjFwd
public import proofs.«01_k».proof.Proof.Gen.ProjFwdIdeal
public import proofs.«01_k».proof.Proof.Gen.MlaPrep
public import proofs.«01_k».proof.Proof.Gen.MlaPrepIdeal
public import proofs.«01_k».proof.Proof.Gen.SguFwd
public import proofs.«01_k».proof.Proof.Gen.SguFwdIdeal
public import proofs.«01_k».proof.Proof.Gen.QUp
public import proofs.«01_k».proof.Proof.Gen.QUpIdeal
public import proofs.«01_k».proof.Proof.Gen.ConvBwdNorm
public import proofs.«01_k».proof.Proof.Gen.ConvBwdNormIdeal
public import proofs.«01_k».proof.Proof.Gen.SumSmall.Frame
public import proofs.«01_k».proof.Proof.Gen.SumSmallIdeal.Frame
public import proofs.«01_k».proof.Proof.Gen.AdamSmall.Frame
public import proofs.«01_k».proof.Proof.Gen.AdamSmallIdeal.Frame
public import proofs.«01_k».proof.Proof.Gen.AdamTaps.Frame
public import proofs.«01_k».proof.Proof.Gen.AdamTapsIdeal.Frame
public import proofs.«01_k».proof.Proof.Gen.PreBwd.Frame
public import proofs.«01_k».proof.Proof.Gen.PreBwdIdeal.Frame
public import proofs.«01_k».proof.Proof.Gen.FinalLoss.Frame
public import proofs.«01_k».proof.Proof.Gen.FinalLossIdeal.Frame
public import proofs.«01_k».proof.Proof.Gen.PreNorm.Frame
public import proofs.«01_k».proof.Proof.Gen.PreNormIdeal.Frame
public import proofs.«01_k».proof.Proof.Gen.PostPre.Frame
public import proofs.«01_k».proof.Proof.Gen.PostPreIdeal.Frame
public import proofs.«01_k».proof.Proof.Gen.MergeFwd.Frame
public import proofs.«01_k».proof.Proof.Gen.MergeFwdIdeal.Frame
public import proofs.«01_k».proof.Proof.Gen.MergeBwd.Frame
public import proofs.«01_k».proof.Proof.Gen.MergeBwdIdeal.Frame
public import proofs.«01_k».proof.Proof.Gen.MlpUp.Frame
public import proofs.«01_k».proof.Proof.Gen.MlpUpIdeal.Frame
public import proofs.«01_k».proof.Proof.Gen.MlpDown.Frame
public import proofs.«01_k».proof.Proof.Gen.MlpDownIdeal.Frame
public import proofs.«01_k».proof.Proof.Gen.GateArgs.Frame
public import proofs.«01_k».proof.Proof.Gen.GateArgsIdeal.Frame
public import proofs.«01_k».proof.Proof.Gen.MixIn.Frame
public import proofs.«01_k».proof.Proof.Gen.MixInIdeal.Frame
public import proofs.«01_k».proof.Proof.Gen.MixOut.Frame
public import proofs.«01_k».proof.Proof.Gen.MixOutIdeal.Frame
public import proofs.«01_k».proof.Proof.Gen.DMerged.Frame
public import proofs.«01_k».proof.Proof.Gen.DMergedIdeal.Frame
public import proofs.«01_k».proof.Proof.Gen.DwOut.Frame
public import proofs.«01_k».proof.Proof.Gen.DwOutIdeal.Frame
public import proofs.«01_k».proof.Proof.Gen.DwDown.Frame
public import proofs.«01_k».proof.Proof.Gen.DwDownIdeal.Frame
public import proofs.«01_k».proof.Proof.Gen.MlpBwd.Frame
public import proofs.«01_k».proof.Proof.Gen.MlpBwdIdeal.Frame
public import proofs.«01_k».proof.Proof.Gen.DwUp.Frame
public import proofs.«01_k».proof.Proof.Gen.DwUpIdeal.Frame
public import proofs.«01_k».proof.Proof.Gen.Dh2.Frame
public import proofs.«01_k».proof.Proof.Gen.Dh2Ideal.Frame
public import proofs.«01_k».proof.Proof.Gen.Dh1Gates.Frame
public import proofs.«01_k».proof.Proof.Gen.Dh1GatesIdeal.Frame
public import proofs.«01_k».proof.Proof.Gen.PreMlpBwd.Frame
public import proofs.«01_k».proof.Proof.Gen.PreMlpBwdIdeal.Frame
public import proofs.«01_k».proof.Proof.Gen.DwLora.Frame
public import proofs.«01_k».proof.Proof.Gen.DwLoraIdeal.Frame
public import proofs.«01_k».proof.Proof.Gen.DLora.Frame
public import proofs.«01_k».proof.Proof.Gen.DLoraIdeal.Frame
public import proofs.«01_k».proof.Proof.Gen.DwIn.Frame
public import proofs.«01_k».proof.Proof.Gen.DwInIdeal.Frame
public import proofs.«01_k».proof.Proof.Gen.KvUp.Frame
public import proofs.«01_k».proof.Proof.Gen.KvUpIdeal.Frame
public import proofs.«01_k».proof.Proof.Gen.Dh1Branches.Frame
public import proofs.«01_k».proof.Proof.Gen.Dh1BranchesIdeal.Frame
public import proofs.«01_k».proof.Proof.Gen.ProjBwdAct.Frame
public import proofs.«01_k».proof.Proof.Gen.ProjBwdActIdeal.Frame
public import proofs.«01_k».proof.Proof.Gen.ProjBwdW.Frame
public import proofs.«01_k».proof.Proof.Gen.ProjBwdWIdeal.Frame
public import proofs.«01_k».proof.Proof.Gen.ProjFwd.Frame
public import proofs.«01_k».proof.Proof.Gen.ProjFwdIdeal.Frame
public import proofs.«01_k».proof.Proof.Gen.MlaPrep.Frame
public import proofs.«01_k».proof.Proof.Gen.MlaPrepIdeal.Frame
public import proofs.«01_k».proof.Proof.Gen.SguFwd.Frame
public import proofs.«01_k».proof.Proof.Gen.SguFwdIdeal.Frame
public import proofs.«01_k».proof.Proof.Gen.QUp.Frame
public import proofs.«01_k».proof.Proof.Gen.QUpIdeal.Frame
public import proofs.«01_k».proof.Proof.Gen.ConvBwdNorm.Frame
public import proofs.«01_k».proof.Proof.Gen.ConvBwdNormIdeal.Frame
public import proofs.«01_k».proof.Proof.Gen.SumSmallRefIdeal.Run
public import proofs.«01_k».proof.Proof.Gen.AdamSmallRefIdeal.Run
public import proofs.«01_k».proof.Proof.Gen.AdamTapsRefIdeal.Run
public import proofs.«01_k».proof.Proof.Gen.PreBwdRefIdeal.Run
public import proofs.«01_k».proof.Proof.Gen.FinalLossRefIdeal.Run
public import proofs.«01_k».proof.Proof.Gen.PreNormRefIdeal.Run
public import proofs.«01_k».proof.Proof.Gen.PostPreRefIdeal.Run
public import proofs.«01_k».proof.Proof.Gen.MergeFwdRefIdeal.Run
public import proofs.«01_k».proof.Proof.Gen.MergeBwdRefIdeal.Run
public import proofs.«01_k».proof.Proof.Gen.MlpUpRefIdeal.Run
public import proofs.«01_k».proof.Proof.Gen.MlpDownRefIdeal.Run
public import proofs.«01_k».proof.Proof.Gen.GateArgsRefIdeal.Run
public import proofs.«01_k».proof.Proof.Gen.MixInRefIdeal.Run
public import proofs.«01_k».proof.Proof.Gen.MixOutRefIdeal.Run
public import proofs.«01_k».proof.Proof.Gen.DMergedRefIdeal.Run
public import proofs.«01_k».proof.Proof.Gen.DwOutRefIdeal.Run
public import proofs.«01_k».proof.Proof.Gen.DwDownRefIdeal.Run
public import proofs.«01_k».proof.Proof.Gen.MlpBwdRefIdeal.Run
public import proofs.«01_k».proof.Proof.Gen.DwUpRefIdeal.Run
public import proofs.«01_k».proof.Proof.Gen.Dh2RefIdeal.Run
public import proofs.«01_k».proof.Proof.Gen.Dh1GatesRefIdeal.Run
public import proofs.«01_k».proof.Proof.Gen.PreMlpBwdRefIdeal.Run
public import proofs.«01_k».proof.Proof.Gen.DwLoraRefIdeal.Run
public import proofs.«01_k».proof.Proof.Gen.DLoraRefIdeal.Run
public import proofs.«01_k».proof.Proof.Gen.DwInRefIdeal.Run
public import proofs.«01_k».proof.Proof.Gen.KvUpRefIdeal.Run
public import proofs.«01_k».proof.Proof.Gen.Dh1BranchesRefIdeal.Run
public import proofs.«01_k».proof.Proof.Gen.ProjBwdActRefIdeal.Run
public import proofs.«01_k».proof.Proof.Gen.ProjBwdWRefIdeal.Run
public import proofs.«01_k».proof.Proof.Gen.ProjFwdRefIdeal.Run
public import proofs.«01_k».proof.Proof.Gen.MlaPrepRefIdeal.Run
public import proofs.«01_k».proof.Proof.Gen.SguFwdRefIdeal.Run
public import proofs.«01_k».proof.Proof.Gen.QUpRefIdeal.Run
public import proofs.«01_k».proof.Proof.Gen.ConvBwdNormRefIdeal.Run
public import proofs.«01_k».proof.Proof.Gen.ChipSum
public import proofs.«01_k».proof.Proof.Gen.ChipSumIdeal
public import proofs.«01_k».proof.Proof.Gen.ChipSumIdeal.Frame
public import proofs.«01_k».proof.Proof.Gen.ChipSumRefIdeal.Run
public import proofs.«01_k».proof.Proof.Gen.AdamBig
public import proofs.«01_k».proof.Proof.Gen.AdamBigIdeal
public import proofs.«01_k».proof.Proof.Gen.AdamBigIdeal.Frame
public import proofs.«01_k».proof.Proof.Gen.AdamBigRefIdeal.Run
public import proofs.«01_k».proof.Proof.Gen.ChipSumRef
public import proofs.«01_k».proof.Proof.GatherRun
public import proofs.«01_k».proof.Proof.SiblingValue
public import proofs.«01_k».proof.Proof.ChipsValue
public import proofs.«01_k».proof.Proof.SmallGatherRun
public import proofs.«01_k».proof.Proof.TapsGatherRun
public import proofs.«01_k».proof.Proof.SumSmallValue
public import proofs.«01_k».proof.Proof.AdamSmallValue
public import proofs.«01_k».proof.Proof.AdamTapsValue
public import proofs.«01_k».proof.Proof.ChipSumValue
public import proofs.«01_k».proof.Proof.AdamBigValue
public import proofs.«01_k».proof.Proof.PreBwdValue
public import proofs.«01_k».proof.Proof.FinalLossValue
public import proofs.«01_k».proof.Proof.PreNormValue
public import proofs.«01_k».proof.Proof.PostPreValue
public import proofs.«01_k».proof.Proof.MergeFwdValue
public import proofs.«01_k».proof.Proof.MergeBwdValue
public import proofs.«01_k».proof.Proof.MlpUpValue
public import proofs.«01_k».proof.Proof.MlpDownValue
public import proofs.«01_k».proof.Proof.GateArgsValue
public import proofs.«01_k».proof.Proof.MixInValue
public import proofs.«01_k».proof.Proof.MixOutValue
public import proofs.«01_k».proof.Proof.DMergedValue
public import proofs.«01_k».proof.Proof.DwOutValue
public import proofs.«01_k».proof.Proof.DwDownValue
public import proofs.«01_k».proof.Proof.MlpBwdValue
public import proofs.«01_k».proof.Proof.DwUpValue
public import proofs.«01_k».proof.Proof.Dh2Value
public import proofs.«01_k».proof.Proof.Dh1GatesValue
public import proofs.«01_k».proof.Proof.PreMlpBwdValue
public import proofs.«01_k».proof.Proof.DwLoraValue
public import proofs.«01_k».proof.Proof.DLoraValue
public import proofs.«01_k».proof.Proof.DwInValue
public import proofs.«01_k».proof.Proof.KvUpValue
public import proofs.«01_k».proof.Proof.Dh1BranchesValue
public import proofs.«01_k».proof.Proof.ProjBwdActValue
public import proofs.«01_k».proof.Proof.ProjBwdWValue
public import proofs.«01_k».proof.Proof.ProjFwdValue
public import proofs.«01_k».proof.Proof.MlaPrepValue
public import proofs.«01_k».proof.Proof.SguFwdValue
public import proofs.«01_k».proof.Proof.QUpValue
public import proofs.«01_k».proof.Proof.ConvBwdNormValue
public import Idealize.ShloMosaic.Adequacy
public import Idealize.ShloMosaic.Init

@[expose] public section

noncomputable section

namespace Cert.Proof

open Idealize.ShloMosaic Idealize.SL.Sem Cert.Gather

theorem claim : Cert.Claim := ⟨Cert.Gather.Gen.facts, Cert.GatherIdeal.Gen.facts, Cert.GatherRefIdeal.Gen.facts, Cert.GatherRef.Gen.facts, Cert.Sibling.Gen.facts, Cert.SiblingIdeal.Gen.facts, Cert.SiblingRefIdeal.Gen.facts, Cert.SiblingRef.Gen.facts, Cert.Chips.Gen.facts, Cert.ChipsIdeal.Gen.facts, Cert.ChipsRefIdeal.Gen.facts, Cert.ChipsRef.Gen.facts, Cert.SmallGather.Gen.facts, Cert.SmallGatherIdeal.Gen.facts, Cert.SmallGatherRefIdeal.Gen.facts, Cert.SmallGatherRef.Gen.facts, Cert.TapsGather.Gen.facts, Cert.TapsGatherIdeal.Gen.facts, Cert.TapsGatherRefIdeal.Gen.facts, Cert.TapsGatherRef.Gen.facts, Cert.ChipSum.Gen.facts, Cert.ChipSumIdeal.Gen.facts, Cert.ChipSumRefIdeal.Gen.facts, Cert.ChipSumRef.Gen.facts, Cert.AdamBig.Gen.facts, Cert.AdamBigIdeal.Gen.facts, Cert.AdamBigRefIdeal.Gen.facts, Cert.SumSmall.Gen.facts, Cert.SumSmallIdeal.Gen.facts, Cert.SumSmallRefIdeal.Gen.facts, Cert.AdamSmall.Gen.facts, Cert.AdamSmallIdeal.Gen.facts, Cert.AdamSmallRefIdeal.Gen.facts, Cert.AdamTaps.Gen.facts, Cert.AdamTapsIdeal.Gen.facts, Cert.AdamTapsRefIdeal.Gen.facts, Cert.PreBwd.Gen.facts, Cert.PreBwdIdeal.Gen.facts, Cert.PreBwdRefIdeal.Gen.facts, Cert.FinalLoss.Gen.facts, Cert.FinalLossIdeal.Gen.facts, Cert.FinalLossRefIdeal.Gen.facts, Cert.PreNorm.Gen.facts, Cert.PreNormIdeal.Gen.facts, Cert.PreNormRefIdeal.Gen.facts, Cert.PostPre.Gen.facts, Cert.PostPreIdeal.Gen.facts, Cert.PostPreRefIdeal.Gen.facts, Cert.MergeFwd.Gen.facts, Cert.MergeFwdIdeal.Gen.facts, Cert.MergeFwdRefIdeal.Gen.facts, Cert.MergeBwd.Gen.facts, Cert.MergeBwdIdeal.Gen.facts, Cert.MergeBwdRefIdeal.Gen.facts, Cert.MlpUp.Gen.facts, Cert.MlpUpIdeal.Gen.facts, Cert.MlpUpRefIdeal.Gen.facts, Cert.MlpDown.Gen.facts, Cert.MlpDownIdeal.Gen.facts, Cert.MlpDownRefIdeal.Gen.facts, Cert.GateArgs.Gen.facts, Cert.GateArgsIdeal.Gen.facts, Cert.GateArgsRefIdeal.Gen.facts, Cert.MixIn.Gen.facts, Cert.MixInIdeal.Gen.facts, Cert.MixInRefIdeal.Gen.facts, Cert.MixOut.Gen.facts, Cert.MixOutIdeal.Gen.facts, Cert.MixOutRefIdeal.Gen.facts, Cert.DMerged.Gen.facts, Cert.DMergedIdeal.Gen.facts, Cert.DMergedRefIdeal.Gen.facts, Cert.DwOut.Gen.facts, Cert.DwOutIdeal.Gen.facts, Cert.DwOutRefIdeal.Gen.facts, Cert.DwDown.Gen.facts, Cert.DwDownIdeal.Gen.facts, Cert.DwDownRefIdeal.Gen.facts, Cert.MlpBwd.Gen.facts, Cert.MlpBwdIdeal.Gen.facts, Cert.MlpBwdRefIdeal.Gen.facts, Cert.DwUp.Gen.facts, Cert.DwUpIdeal.Gen.facts, Cert.DwUpRefIdeal.Gen.facts, Cert.Dh2.Gen.facts, Cert.Dh2Ideal.Gen.facts, Cert.Dh2RefIdeal.Gen.facts, Cert.Dh1Gates.Gen.facts, Cert.Dh1GatesIdeal.Gen.facts, Cert.Dh1GatesRefIdeal.Gen.facts, Cert.PreMlpBwd.Gen.facts, Cert.PreMlpBwdIdeal.Gen.facts, Cert.PreMlpBwdRefIdeal.Gen.facts, Cert.DwLora.Gen.facts, Cert.DwLoraIdeal.Gen.facts, Cert.DwLoraRefIdeal.Gen.facts, Cert.DLora.Gen.facts, Cert.DLoraIdeal.Gen.facts, Cert.DLoraRefIdeal.Gen.facts, Cert.DwIn.Gen.facts, Cert.DwInIdeal.Gen.facts, Cert.DwInRefIdeal.Gen.facts, Cert.KvUp.Gen.facts, Cert.KvUpIdeal.Gen.facts, Cert.KvUpRefIdeal.Gen.facts, Cert.Dh1Branches.Gen.facts, Cert.Dh1BranchesIdeal.Gen.facts, Cert.Dh1BranchesRefIdeal.Gen.facts, Cert.ProjBwdAct.Gen.facts, Cert.ProjBwdActIdeal.Gen.facts, Cert.ProjBwdActRefIdeal.Gen.facts, Cert.ProjBwdW.Gen.facts, Cert.ProjBwdWIdeal.Gen.facts, Cert.ProjBwdWRefIdeal.Gen.facts, Cert.ProjFwd.Gen.facts, Cert.ProjFwdIdeal.Gen.facts, Cert.ProjFwdRefIdeal.Gen.facts, Cert.MlaPrep.Gen.facts, Cert.MlaPrepIdeal.Gen.facts, Cert.MlaPrepRefIdeal.Gen.facts, Cert.SguFwd.Gen.facts, Cert.SguFwdIdeal.Gen.facts, Cert.SguFwdRefIdeal.Gen.facts, Cert.QUp.Gen.facts, Cert.QUpIdeal.Gen.facts, Cert.QUpRefIdeal.Gen.facts, Cert.ConvBwdNorm.Gen.facts, Cert.ConvBwdNormIdeal.Gen.facts, Cert.ConvBwdNormRefIdeal.Gen.facts,
  fun m g _ => Cert.GatherIdeal.quiet (F := Bits) m g,
  fun m g _ => Cert.GatherIdeal.quiet (F := Ideal) m g,
  fun m g _ => (θ_run Cert.GatherRefIdeal.defs _ _).mono (fun _ h => ⟨fun c => (h c).2, sem_eq_zero_of_no_sems rfl _⟩) (Cert.GatherRefIdeal.Value.run (F := Ideal) m g),
  fun m g _ => (θ_run Cert.GatherRefIdeal.defs _ _).mono (fun _ h => ⟨fun c => (h c).2, sem_eq_zero_of_no_sems rfl _⟩) (Cert.GatherRefIdeal.Value.run (F := Bits) m g),
  fun m g _ => Cert.SiblingIdeal.quiet (F := Bits) m g,
  fun m g _ => Cert.SiblingIdeal.quiet (F := Ideal) m g,
  fun m g _ => (θ_run Cert.SiblingRefIdeal.defs _ _).mono (fun _ h => ⟨fun c => (h c).2, sem_eq_zero_of_no_sems rfl _⟩) (Cert.SiblingRefIdeal.Value.run (F := Ideal) m g),
  fun m g _ => (θ_run Cert.SiblingRefIdeal.defs _ _).mono (fun _ h => ⟨fun c => (h c).2, sem_eq_zero_of_no_sems rfl _⟩) (Cert.SiblingRefIdeal.Value.run (F := Bits) m g),
  fun m g _ => Cert.ChipsIdeal.quiet (F := Bits) m g,
  fun m g _ => Cert.ChipsIdeal.quiet (F := Ideal) m g,
  fun m g _ => (θ_run Cert.ChipsRefIdeal.defs _ _).mono (fun _ h => ⟨fun c => (h c).2, sem_eq_zero_of_no_sems rfl _⟩) (Cert.ChipsRefIdeal.Value.run (F := Ideal) m g),
  fun m g _ => (θ_run Cert.ChipsRefIdeal.defs _ _).mono (fun _ h => ⟨fun c => (h c).2, sem_eq_zero_of_no_sems rfl _⟩) (Cert.ChipsRefIdeal.Value.run (F := Bits) m g),
  fun m g _ => Cert.SmallGatherIdeal.quiet (F := Bits) m g,
  fun m g _ => Cert.SmallGatherIdeal.quiet (F := Ideal) m g,
  fun m g _ => (θ_run Cert.SmallGatherRefIdeal.defs _ _).mono (fun _ h => ⟨fun c => (h c).2, sem_eq_zero_of_no_sems rfl _⟩) (Cert.SmallGatherRefIdeal.Value.run (F := Ideal) m g),
  fun m g _ => (θ_run Cert.SmallGatherRefIdeal.defs _ _).mono (fun _ h => ⟨fun c => (h c).2, sem_eq_zero_of_no_sems rfl _⟩) (Cert.SmallGatherRefIdeal.Value.run (F := Bits) m g),
  fun m g _ => Cert.TapsGatherIdeal.quiet (F := Bits) m g,
  fun m g _ => Cert.TapsGatherIdeal.quiet (F := Ideal) m g,
  fun m g _ => (θ_run Cert.TapsGatherRefIdeal.defs _ _).mono (fun _ h => ⟨fun c => (h c).2, sem_eq_zero_of_no_sems rfl _⟩) (Cert.TapsGatherRefIdeal.Value.run (F := Ideal) m g),
  fun m g _ => (θ_run Cert.TapsGatherRefIdeal.defs _ _).mono (fun _ h => ⟨fun c => (h c).2, sem_eq_zero_of_no_sems rfl _⟩) (Cert.TapsGatherRefIdeal.Value.run (F := Bits) m g),
  Cert.ChipSumIdeal.plain,
  fun m g _ => Cert.ChipSumIdeal.Gen.frame (F := Ideal) m g (Cert.ChipSumIdeal.tables m),
  fun m g _ => (θ_run Cert.ChipSumRefIdeal.defs _ _).mono (fun _ h => ⟨fun c => (h c).2, sem_eq_zero_of_no_sems rfl _⟩) (Cert.ChipSumRefIdeal.Value.run (F := Ideal) m g),
  fun m g _ => (θ_run Cert.ChipSumRefIdeal.defs _ _).mono (fun _ h => ⟨fun c => (h c).2, sem_eq_zero_of_no_sems rfl _⟩) (Cert.ChipSumRefIdeal.Value.run (F := Bits) m g),
  Cert.AdamBigIdeal.plain,
  fun m g _ => Cert.AdamBigIdeal.Gen.frame (F := Ideal) m g (Cert.AdamBigIdeal.tables m),
  fun m g _ => (θ_run Cert.AdamBigRefIdeal.defs _ _).mono (fun _ h => ⟨fun c => (h c).2.2.2.2, sem_eq_zero_of_no_sems rfl _⟩) (Cert.AdamBigRefIdeal.Value.run (F := Ideal) m g),
  fun m g _ => Cert.SumSmall.Gen.frame m g,
  fun m g _ => Cert.SumSmallIdeal.Gen.frame m g,
  fun m g _ => (θ_run Cert.SumSmallRefIdeal.defs _ _).mono (fun _ h => ⟨fun c => (h c).2, sem_eq_zero_of_no_sems rfl _⟩) (Cert.SumSmallRefIdeal.Value.run (F := Ideal) m g),
  fun m g _ => Cert.AdamSmall.Gen.frame m g,
  fun m g _ => Cert.AdamSmallIdeal.Gen.frame m g,
  fun m g _ => (θ_run Cert.AdamSmallRefIdeal.defs _ _).mono (fun _ h => ⟨fun c => (h c).2.2.2, sem_eq_zero_of_no_sems rfl _⟩) (Cert.AdamSmallRefIdeal.Value.run (F := Ideal) m g),
  fun m g _ => Cert.AdamTaps.Gen.frame m g,
  fun m g _ => Cert.AdamTapsIdeal.Gen.frame m g,
  fun m g _ => (θ_run Cert.AdamTapsRefIdeal.defs _ _).mono (fun _ h => ⟨fun c => (h c).2.2.2, sem_eq_zero_of_no_sems rfl _⟩) (Cert.AdamTapsRefIdeal.Value.run (F := Ideal) m g),
  fun m g _ => Cert.PreBwd.Gen.frame m g,
  fun m g _ => Cert.PreBwdIdeal.Gen.frame m g,
  fun m g _ => (θ_run Cert.PreBwdRefIdeal.defs _ _).mono (fun _ h => ⟨fun c => (h c).2.2, sem_eq_zero_of_no_sems rfl _⟩) (Cert.PreBwdRefIdeal.Value.run (F := Ideal) m g),
  fun m g _ => Cert.FinalLoss.Gen.frame m g,
  fun m g _ => Cert.FinalLossIdeal.Gen.frame m g,
  fun m g _ => (θ_run Cert.FinalLossRefIdeal.defs _ _).mono (fun _ h => ⟨fun c => (h c).2.2.2.2, sem_eq_zero_of_no_sems rfl _⟩) (Cert.FinalLossRefIdeal.Value.run (F := Ideal) m g),
  fun m g _ => Cert.PreNorm.Gen.frame m g,
  fun m g _ => Cert.PreNormIdeal.Gen.frame m g,
  fun m g _ => (θ_run Cert.PreNormRefIdeal.defs _ _).mono (fun _ h => ⟨fun c => (h c).2, sem_eq_zero_of_no_sems rfl _⟩) (Cert.PreNormRefIdeal.Value.run (F := Ideal) m g),
  fun m g _ => Cert.PostPre.Gen.frame m g,
  fun m g _ => Cert.PostPreIdeal.Gen.frame m g,
  fun m g _ => (θ_run Cert.PostPreRefIdeal.defs _ _).mono (fun _ h => ⟨fun c => (h c).2.2, sem_eq_zero_of_no_sems rfl _⟩) (Cert.PostPreRefIdeal.Value.run (F := Ideal) m g),
  fun m g _ => Cert.MergeFwd.Gen.frame m g,
  fun m g _ => Cert.MergeFwdIdeal.Gen.frame m g,
  fun m g _ => (θ_run Cert.MergeFwdRefIdeal.defs _ _).mono (fun _ h => ⟨fun c => (h c).2, sem_eq_zero_of_no_sems rfl _⟩) (Cert.MergeFwdRefIdeal.Value.run (F := Ideal) m g),
  fun m g _ => Cert.MergeBwd.Gen.frame m g,
  fun m g _ => Cert.MergeBwdIdeal.Gen.frame m g,
  fun m g _ => (θ_run Cert.MergeBwdRefIdeal.defs _ _).mono (fun _ h => ⟨fun c => (h c).2.2, sem_eq_zero_of_no_sems rfl _⟩) (Cert.MergeBwdRefIdeal.Value.run (F := Ideal) m g),
  fun m g _ => Cert.MlpUp.Gen.frame m g,
  fun m g _ => Cert.MlpUpIdeal.Gen.frame m g,
  fun m g _ => (θ_run Cert.MlpUpRefIdeal.defs _ _).mono (fun _ h => ⟨fun c => (h c).2.2, sem_eq_zero_of_no_sems rfl _⟩) (Cert.MlpUpRefIdeal.Value.run (F := Ideal) m g),
  fun m g _ => Cert.MlpDown.Gen.frame m g,
  fun m g _ => Cert.MlpDownIdeal.Gen.frame m g,
  fun m g _ => (θ_run Cert.MlpDownRefIdeal.defs _ _).mono (fun _ h => ⟨fun c => (h c).2, sem_eq_zero_of_no_sems rfl _⟩) (Cert.MlpDownRefIdeal.Value.run (F := Ideal) m g),
  fun m g _ => Cert.GateArgs.Gen.frame m g,
  fun m g _ => Cert.GateArgsIdeal.Gen.frame m g,
  fun m g _ => (θ_run Cert.GateArgsRefIdeal.defs _ _).mono (fun _ h => ⟨fun c => (h c).2, sem_eq_zero_of_no_sems rfl _⟩) (Cert.GateArgsRefIdeal.Value.run (F := Ideal) m g),
  fun m g _ => Cert.MixIn.Gen.frame m g,
  fun m g _ => Cert.MixInIdeal.Gen.frame m g,
  fun m g _ => (θ_run Cert.MixInRefIdeal.defs _ _).mono (fun _ h => ⟨fun c => (h c).2, sem_eq_zero_of_no_sems rfl _⟩) (Cert.MixInRefIdeal.Value.run (F := Ideal) m g),
  fun m g _ => Cert.MixOut.Gen.frame m g,
  fun m g _ => Cert.MixOutIdeal.Gen.frame m g,
  fun m g _ => (θ_run Cert.MixOutRefIdeal.defs _ _).mono (fun _ h => ⟨fun c => (h c).2, sem_eq_zero_of_no_sems rfl _⟩) (Cert.MixOutRefIdeal.Value.run (F := Ideal) m g),
  fun m g _ => Cert.DMerged.Gen.frame m g,
  fun m g _ => Cert.DMergedIdeal.Gen.frame m g,
  fun m g _ => (θ_run Cert.DMergedRefIdeal.defs _ _).mono (fun _ h => ⟨fun c => (h c).2, sem_eq_zero_of_no_sems rfl _⟩) (Cert.DMergedRefIdeal.Value.run (F := Ideal) m g),
  fun m g _ => Cert.DwOut.Gen.frame m g,
  fun m g _ => Cert.DwOutIdeal.Gen.frame m g,
  fun m g _ => (θ_run Cert.DwOutRefIdeal.defs _ _).mono (fun _ h => ⟨fun c => (h c).2, sem_eq_zero_of_no_sems rfl _⟩) (Cert.DwOutRefIdeal.Value.run (F := Ideal) m g),
  fun m g _ => Cert.DwDown.Gen.frame m g,
  fun m g _ => Cert.DwDownIdeal.Gen.frame m g,
  fun m g _ => (θ_run Cert.DwDownRefIdeal.defs _ _).mono (fun _ h => ⟨fun c => (h c).2, sem_eq_zero_of_no_sems rfl _⟩) (Cert.DwDownRefIdeal.Value.run (F := Ideal) m g),
  fun m g _ => Cert.MlpBwd.Gen.frame m g,
  fun m g _ => Cert.MlpBwdIdeal.Gen.frame m g,
  fun m g _ => (θ_run Cert.MlpBwdRefIdeal.defs _ _).mono (fun _ h => ⟨fun c => (h c).2, sem_eq_zero_of_no_sems rfl _⟩) (Cert.MlpBwdRefIdeal.Value.run (F := Ideal) m g),
  fun m g _ => Cert.DwUp.Gen.frame m g,
  fun m g _ => Cert.DwUpIdeal.Gen.frame m g,
  fun m g _ => (θ_run Cert.DwUpRefIdeal.defs _ _).mono (fun _ h => ⟨fun c => (h c).2, sem_eq_zero_of_no_sems rfl _⟩) (Cert.DwUpRefIdeal.Value.run (F := Ideal) m g),
  fun m g _ => Cert.Dh2.Gen.frame m g,
  fun m g _ => Cert.Dh2Ideal.Gen.frame m g,
  fun m g _ => (θ_run Cert.Dh2RefIdeal.defs _ _).mono (fun _ h => ⟨fun c => (h c).2, sem_eq_zero_of_no_sems rfl _⟩) (Cert.Dh2RefIdeal.Value.run (F := Ideal) m g),
  fun m g _ => Cert.Dh1Gates.Gen.frame m g,
  fun m g _ => Cert.Dh1GatesIdeal.Gen.frame m g,
  fun m g _ => (θ_run Cert.Dh1GatesRefIdeal.defs _ _).mono (fun _ h => ⟨fun c => (h c).2, sem_eq_zero_of_no_sems rfl _⟩) (Cert.Dh1GatesRefIdeal.Value.run (F := Ideal) m g),
  fun m g _ => Cert.PreMlpBwd.Gen.frame m g,
  fun m g _ => Cert.PreMlpBwdIdeal.Gen.frame m g,
  fun m g _ => (θ_run Cert.PreMlpBwdRefIdeal.defs _ _).mono (fun _ h => ⟨fun c => (h c).2.2.2.2, sem_eq_zero_of_no_sems rfl _⟩) (Cert.PreMlpBwdRefIdeal.Value.run (F := Ideal) m g),
  fun m g _ => Cert.DwLora.Gen.frame m g,
  fun m g _ => Cert.DwLoraIdeal.Gen.frame m g,
  fun m g _ => (θ_run Cert.DwLoraRefIdeal.defs _ _).mono (fun _ h => ⟨fun c => (h c).2, sem_eq_zero_of_no_sems rfl _⟩) (Cert.DwLoraRefIdeal.Value.run (F := Ideal) m g),
  fun m g _ => Cert.DLora.Gen.frame m g,
  fun m g _ => Cert.DLoraIdeal.Gen.frame m g,
  fun m g _ => (θ_run Cert.DLoraRefIdeal.defs _ _).mono (fun _ h => ⟨fun c => (h c).2, sem_eq_zero_of_no_sems rfl _⟩) (Cert.DLoraRefIdeal.Value.run (F := Ideal) m g),
  fun m g _ => Cert.DwIn.Gen.frame m g,
  fun m g _ => Cert.DwInIdeal.Gen.frame m g,
  fun m g _ => (θ_run Cert.DwInRefIdeal.defs _ _).mono (fun _ h => ⟨fun c => (h c).2, sem_eq_zero_of_no_sems rfl _⟩) (Cert.DwInRefIdeal.Value.run (F := Ideal) m g),
  fun m g _ => Cert.KvUp.Gen.frame m g,
  fun m g _ => Cert.KvUpIdeal.Gen.frame m g,
  fun m g _ => (θ_run Cert.KvUpRefIdeal.defs _ _).mono (fun _ h => ⟨fun c => (h c).2, sem_eq_zero_of_no_sems rfl _⟩) (Cert.KvUpRefIdeal.Value.run (F := Ideal) m g),
  fun m g _ => Cert.Dh1Branches.Gen.frame m g,
  fun m g _ => Cert.Dh1BranchesIdeal.Gen.frame m g,
  fun m g _ => (θ_run Cert.Dh1BranchesRefIdeal.defs _ _).mono (fun _ h => ⟨fun c => (h c).2, sem_eq_zero_of_no_sems rfl _⟩) (Cert.Dh1BranchesRefIdeal.Value.run (F := Ideal) m g),
  fun m g _ => Cert.ProjBwdAct.Gen.frame m g,
  fun m g _ => Cert.ProjBwdActIdeal.Gen.frame m g,
  fun m g _ => (θ_run Cert.ProjBwdActRefIdeal.defs _ _).mono (fun _ h => ⟨fun c => (h c).2, sem_eq_zero_of_no_sems rfl _⟩) (Cert.ProjBwdActRefIdeal.Value.run (F := Ideal) m g),
  fun m g _ => Cert.ProjBwdW.Gen.frame m g,
  fun m g _ => Cert.ProjBwdWIdeal.Gen.frame m g,
  fun m g _ => (θ_run Cert.ProjBwdWRefIdeal.defs _ _).mono (fun _ h => ⟨fun c => (h c).2, sem_eq_zero_of_no_sems rfl _⟩) (Cert.ProjBwdWRefIdeal.Value.run (F := Ideal) m g),
  fun m g _ => Cert.ProjFwd.Gen.frame m g,
  fun m g _ => Cert.ProjFwdIdeal.Gen.frame m g,
  fun m g _ => (θ_run Cert.ProjFwdRefIdeal.defs _ _).mono (fun _ h => ⟨fun c => (h c).2, sem_eq_zero_of_no_sems rfl _⟩) (Cert.ProjFwdRefIdeal.Value.run (F := Ideal) m g),
  fun m g _ => Cert.MlaPrep.Gen.frame m g,
  fun m g _ => Cert.MlaPrepIdeal.Gen.frame m g,
  fun m g _ => (θ_run Cert.MlaPrepRefIdeal.defs _ _).mono (fun _ h => ⟨fun c => (h c).2.2.2, sem_eq_zero_of_no_sems rfl _⟩) (Cert.MlaPrepRefIdeal.Value.run (F := Ideal) m g),
  fun m g _ => Cert.SguFwd.Gen.frame m g,
  fun m g _ => Cert.SguFwdIdeal.Gen.frame m g,
  fun m g _ => (θ_run Cert.SguFwdRefIdeal.defs _ _).mono (fun _ h => ⟨fun c => (h c).2, sem_eq_zero_of_no_sems rfl _⟩) (Cert.SguFwdRefIdeal.Value.run (F := Ideal) m g),
  fun m g _ => Cert.QUp.Gen.frame m g,
  fun m g _ => Cert.QUpIdeal.Gen.frame m g,
  fun m g _ => (θ_run Cert.QUpRefIdeal.defs _ _).mono (fun _ h => ⟨fun c => (h c).2, sem_eq_zero_of_no_sems rfl _⟩) (Cert.QUpRefIdeal.Value.run (F := Ideal) m g),
  fun m g _ => Cert.ConvBwdNorm.Gen.frame m g,
  fun m g _ => Cert.ConvBwdNormIdeal.Gen.frame m g,
  fun m g _ => (θ_run Cert.ConvBwdNormRefIdeal.defs _ _).mono (fun _ h => ⟨fun c => (h c).2.2.2.2, sem_eq_zero_of_no_sems rfl _⟩) (Cert.ConvBwdNormRefIdeal.Value.run (F := Ideal) m g),
  trivial,
  fun m g m' g' _ hm => Cert.GatherIdeal.agrees (F := Ideal) m g m' g' _ hm,
  fun m g m' g' _ hm => Cert.GatherIdeal.agrees (F := Bits) m g m' g' _ hm,
  trivial,
  fun m g m' g' _ hm => Cert.SiblingIdeal.agrees (F := Ideal) m g m' g' _ _ hm,
  fun m g m' g' _ hm => Cert.SiblingIdeal.agrees (F := Bits) m g m' g' _ _ hm,
  trivial,
  fun m g m' g' _ hm => Cert.ChipsIdeal.agrees (F := Ideal) m g m' g' _ _ hm,
  fun m g m' g' _ hm => Cert.ChipsIdeal.agrees (F := Bits) m g m' g' _ _ hm,
  trivial,
  fun m g m' g' _ hm => Cert.SmallGatherIdeal.agrees (F := Ideal) m g m' g' _ hm,
  fun m g m' g' _ hm => Cert.SmallGatherIdeal.agrees (F := Bits) m g m' g' _ hm,
  trivial,
  fun m g m' g' _ hm => Cert.TapsGatherIdeal.agrees (F := Ideal) m g m' g' _ hm,
  fun m g m' g' _ hm => Cert.TapsGatherIdeal.agrees (F := Bits) m g m' g' _ hm,
  trivial,
  fun m g m' g' _ hm => Cert.ChipSumIdeal.agrees (F := Ideal) m g m' g' hm,
  Cert.ChipSumIdeal.exact_bits,
  trivial,
  Cert.AdamBigIdeal.agrees,
  trivial,
  Cert.SumSmallIdeal.agrees,
  trivial,
  Cert.AdamSmallIdeal.agrees,
  trivial,
  Cert.AdamTapsIdeal.agrees,
  trivial,
  Cert.PreBwdIdeal.agrees,
  trivial,
  Cert.FinalLossIdeal.agrees,
  trivial,
  Cert.PreNormIdeal.agrees,
  trivial,
  Cert.PostPreIdeal.agrees,
  trivial,
  Cert.MergeFwdIdeal.agrees,
  trivial,
  Cert.MergeBwdIdeal.agrees,
  trivial,
  Cert.MlpUpIdeal.agrees,
  trivial,
  Cert.MlpDownIdeal.agrees,
  trivial,
  Cert.GateArgsIdeal.agrees,
  trivial,
  Cert.MixInIdeal.agrees,
  trivial,
  Cert.MixOutIdeal.agrees,
  trivial,
  Cert.DMergedIdeal.agrees,
  trivial,
  Cert.DwOutIdeal.agrees,
  trivial,
  Cert.DwDownIdeal.agrees,
  trivial,
  Cert.MlpBwdIdeal.agrees,
  trivial,
  Cert.DwUpIdeal.agrees,
  trivial,
  Cert.Dh2Ideal.agrees,
  trivial,
  Cert.Dh1GatesIdeal.agrees,
  trivial,
  Cert.PreMlpBwdIdeal.agrees,
  trivial,
  Cert.DwLoraIdeal.agrees,
  trivial,
  Cert.DLoraIdeal.agrees,
  trivial,
  Cert.DwInIdeal.agrees,
  trivial,
  Cert.KvUpIdeal.agrees,
  trivial,
  Cert.Dh1BranchesIdeal.agrees,
  trivial,
  Cert.ProjBwdActIdeal.agrees,
  trivial,
  Cert.ProjBwdWIdeal.agrees,
  trivial,
  Cert.ProjFwdIdeal.agrees,
  trivial,
  Cert.MlaPrepIdeal.agrees,
  trivial,
  Cert.SguFwdIdeal.agrees,
  trivial,
  Cert.QUpIdeal.agrees,
  trivial,
  Cert.ConvBwdNormIdeal.agrees⟩

end Cert.Proof

end
